-- ==== Defs.lean ====
def Pre_Up [hPre_experts_named : Cert.Pre_experts_named.Facts] (m : (ℓ : Loc Cert.Up.nD Cert.Up.τ Cert.Up.sig) → Buf (Elt Bits) ℓ) : Prop :=
  ∀ c : Dev Cert.Up.nD,
    (Cert.Pre_experts_named.fn (F := Bits) (m ((c.tc : Thread Cert.Up.nD Cert.Up.τ).loc Cert.Up.main_arg0)) (m ((c.tc : Thread Cert.Up.nD Cert.Up.τ).loc Cert.Up.main_arg1)) (m ((c.tc : Thread Cert.Up.nD Cert.Up.τ).loc Cert.Up.main_arg2)) (m ((c.tc : Thread Cert.Up.nD Cert.Up.τ).loc Cert.Up.main_arg3)) (m ((c.tc : Thread Cert.Up.nD Cert.Up.τ).loc Cert.Up.main_arg4))) = (fun _ => 1#1)

def Pre_UpIdeal [hPre_experts_named : Cert.Pre_experts_named.Facts] (m : (ℓ : Loc Cert.UpIdeal.nD Cert.UpIdeal.τ Cert.UpIdeal.sig) → Buf (Elt Ideal) ℓ) : Prop :=
  ∀ c : Dev Cert.UpIdeal.nD,
    (Cert.Pre_experts_named.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3)) (m ((c.tc : Thread Cert.UpIdeal.nD Cert.UpIdeal.τ).loc Cert.UpIdeal.main_arg4))) = (fun _ => 1#1)

def Pre_UpRefIdeal [hPre_experts_named : Cert.Pre_experts_named.Facts] (m : (ℓ : Loc Cert.UpRefIdeal.nD Cert.UpRefIdeal.τ Cert.UpRefIdeal.sig) → Buf (Elt Ideal) ℓ) : Prop :=
  ∀ c : Dev Cert.UpRefIdeal.nD,
    (Cert.Pre_experts_named.fn (F := Ideal) (m ((c.tc : Thread Cert.UpRefIdeal.nD Cert.UpRefIdeal.τ).loc Cert.UpRefIdeal.main_arg0)) (m ((c.tc : Thread Cert.UpRefIdeal.nD Cert.UpRefIdeal.τ).loc Cert.UpRefIdeal.main_arg1)) (m ((c.tc : Thread Cert.UpRefIdeal.nD Cert.UpRefIdeal.τ).loc Cert.UpRefIdeal.main_arg2)) (m ((c.tc : Thread Cert.UpRefIdeal.nD Cert.UpRefIdeal.τ).loc Cert.UpRefIdeal.main_arg3)) (m ((c.tc : Thread Cert.UpRefIdeal.nD Cert.UpRefIdeal.τ).loc Cert.UpRefIdeal.main_arg4))) = (fun _ => 1#1)

def Pre_Down [hPre_experts_named_down : Cert.Pre_experts_named_down.Facts] (m : (ℓ : Loc Cert.Down.nD Cert.Down.τ Cert.Down.sig) → Buf (Elt Bits) ℓ) : Prop :=
  ∀ c : Dev Cert.Down.nD,
    (Cert.Pre_experts_named_down.fn (F := Bits) (m ((c.tc : Thread Cert.Down.nD Cert.Down.τ).loc Cert.Down.main_arg0)) (m ((c.tc : Thread Cert.Down.nD Cert.Down.τ).loc Cert.Down.main_arg1)) (m ((c.tc : Thread Cert.Down.nD Cert.Down.τ).loc Cert.Down.main_arg2)) (m ((c.tc : Thread Cert.Down.nD Cert.Down.τ).loc Cert.Down.main_arg3)) (m ((c.tc : Thread Cert.Down.nD Cert.Down.τ).loc Cert.Down.main_arg4))) = (fun _ => 1#1)

def Pre_DownIdeal [hPre_experts_named_down : Cert.Pre_experts_named_down.Facts] (m : (ℓ : Loc Cert.DownIdeal.nD Cert.DownIdeal.τ Cert.DownIdeal.sig) → Buf (Elt Ideal) ℓ) : Prop :=
  ∀ c : Dev Cert.DownIdeal.nD,
    (Cert.Pre_experts_named_down.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)) (m ((c.tc : Thread Cert.DownIdeal.nD Cert.DownIdeal.τ).loc Cert.DownIdeal.main_arg4))) = (fun _ => 1#1)

def Pre_DownRefIdeal [hPre_experts_named_down : Cert.Pre_experts_named_down.Facts] (m : (ℓ : Loc Cert.DownRefIdeal.nD Cert.DownRefIdeal.τ Cert.DownRefIdeal.sig) → Buf (Elt Ideal) ℓ) : Prop :=
  ∀ c : Dev Cert.DownRefIdeal.nD,
    (Cert.Pre_experts_named_down.fn (F := Ideal) (m ((c.tc : Thread Cert.DownRefIdeal.nD Cert.DownRefIdeal.τ).loc Cert.DownRefIdeal.main_arg0)) (m ((c.tc : Thread Cert.DownRefIdeal.nD Cert.DownRefIdeal.τ).loc Cert.DownRefIdeal.main_arg1)) (m ((c.tc : Thread Cert.DownRefIdeal.nD Cert.DownRefIdeal.τ).loc Cert.DownRefIdeal.main_arg2)) (m ((c.tc : Thread Cert.DownRefIdeal.nD Cert.DownRefIdeal.τ).loc Cert.DownRefIdeal.main_arg3)) (m ((c.tc : Thread Cert.DownRefIdeal.nD Cert.DownRefIdeal.τ).loc Cert.DownRefIdeal.main_arg4))) = (fun _ => 1#1)

def Pre_EvenP (m : (ℓ : Loc Cert.EvenP.nD Cert.EvenP.τ Cert.EvenP.sig) → Buf (Elt Bits) ℓ) : Prop :=
  True

def Pre_EvenPIdeal (m : (ℓ : Loc Cert.EvenPIdeal.nD Cert.EvenPIdeal.τ Cert.EvenPIdeal.sig) → Buf (Elt Ideal) ℓ) : Prop :=
  True

def Pre_EvenPRefIdeal (m : (ℓ : Loc Cert.EvenPRefIdeal.nD Cert.EvenPRefIdeal.τ Cert.EvenPRefIdeal.sig) → Buf (Elt Ideal) ℓ) : Prop :=
  True

def Pre_EvenS (m : (ℓ : Loc Cert.EvenS.nD Cert.EvenS.τ Cert.EvenS.sig) → Buf (Elt Bits) ℓ) : Prop :=
  True

def Pre_EvenSIdeal (m : (ℓ : Loc Cert.EvenSIdeal.nD Cert.EvenSIdeal.τ Cert.EvenSIdeal.sig) → Buf (Elt Ideal) ℓ) : Prop :=
  True

def Pre_EvenSRefIdeal (m : (ℓ : Loc Cert.EvenSRefIdeal.nD Cert.EvenSRefIdeal.τ Cert.EvenSRefIdeal.sig) → Buf (Elt Ideal) ℓ) : Prop :=
  True

def Pre_OddIn (m : (ℓ : Loc Cert.OddIn.nD Cert.OddIn.τ Cert.OddIn.sig) → Buf (Elt Bits) ℓ) : Prop :=
  True

def Pre_OddInIdeal (m : (ℓ : Loc Cert.OddInIdeal.nD Cert.OddInIdeal.τ Cert.OddInIdeal.sig) → Buf (Elt Ideal) ℓ) : Prop :=
  True

def Pre_OddInRefIdeal (m : (ℓ : Loc Cert.OddInRefIdeal.nD Cert.OddInRefIdeal.τ Cert.OddInRefIdeal.sig) → Buf (Elt Ideal) ℓ) : Prop :=
  True

def Pre_Rope (m : (ℓ : Loc Cert.Rope.nD Cert.Rope.τ Cert.Rope.sig) → Buf (Elt Bits) ℓ) : Prop :=
  True

def Pre_RopeIdeal (m : (ℓ : Loc Cert.RopeIdeal.nD Cert.RopeIdeal.τ Cert.RopeIdeal.sig) → Buf (Elt Ideal) ℓ) : Prop :=
  True

def Pre_RopeRefIdeal (m : (ℓ : Loc Cert.RopeRefIdeal.nD Cert.RopeRefIdeal.τ Cert.RopeRefIdeal.sig) → Buf (Elt Ideal) ℓ) : Prop :=
  True

def Pre_Scan (m : (ℓ : Loc Cert.Scan.nD Cert.Scan.τ Cert.Scan.sig) → Buf (Elt Bits) ℓ) : Prop :=
  True

def Pre_ScanIdeal (m : (ℓ : Loc Cert.ScanIdeal.nD Cert.ScanIdeal.τ Cert.ScanIdeal.sig) → Buf (Elt Ideal) ℓ) : Prop :=
  True

def Pre_ScanRefIdeal (m : (ℓ : Loc Cert.ScanRefIdeal.nD Cert.ScanRefIdeal.τ Cert.ScanRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def quiescent_Up [hUp : Cert.Up.Facts] [hPre_experts_named : Cert.Pre_experts_named.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3)
      ∧ r.2.mem ((c.tc : Thread Cert.Up.nD Cert.Up.τ).loc Cert.Up.main_arg4) = m ((c.tc : Thread Cert.Up.nD Cert.Up.τ).loc Cert.Up.main_arg4))
      ∧ r.2.sem = fun _ => 0)

def quiescent_UpIdeal [hUpIdeal : Cert.UpIdeal.Facts] [hPre_experts_named : Cert.Pre_experts_named.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
      ∧ r.2.mem ((c.tc : Thread Cert.UpIdeal.nD Cert.UpIdeal.τ).loc Cert.UpIdeal.main_arg4) = m ((c.tc : Thread Cert.UpIdeal.nD Cert.UpIdeal.τ).loc Cert.UpIdeal.main_arg4))
      ∧ r.2.sem = fun _ => 0)

def quiescent_UpRefIdeal [hUpRefIdeal : Cert.UpRefIdeal.Facts] [hPre_experts_named : Cert.Pre_experts_named.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3)
      ∧ r.2.mem ((c.tc : Thread Cert.UpRefIdeal.nD Cert.UpRefIdeal.τ).loc Cert.UpRefIdeal.main_arg4) = m ((c.tc : Thread Cert.UpRefIdeal.nD Cert.UpRefIdeal.τ).loc Cert.UpRefIdeal.main_arg4))
      ∧ r.2.sem = fun _ => 0)

def quiescent_Down [hDown : Cert.Down.Facts] [hPre_experts_named_down : Cert.Pre_experts_named_down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4))
      ∧ r.2.sem = fun _ => 0)

def quiescent_DownIdeal [hDownIdeal : Cert.DownIdeal.Facts] [hPre_experts_named_down : Cert.Pre_experts_named_down.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ r.2.sem = fun _ => 0)

def quiescent_DownRefIdeal [hDownRefIdeal : Cert.DownRefIdeal.Facts] [hPre_experts_named_down : Cert.Pre_experts_named_down.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4))
      ∧ r.2.sem = fun _ => 0)

def quiescent_EvenP [hEvenP : Cert.EvenP.Facts] : Prop :=
  ∀ (m : (ℓ : Loc Cert.EvenP.nD Cert.EvenP.τ Cert.EvenP.sig) → Buf (Elt Bits) ℓ) (g : Dev Cert.EvenP.nD → PrngReg), Pre_EvenP m →
    θ_run (Cert.EvenP.defs (F := Bits)) (onTc (τ := Cert.EvenP.τ) (Cert.EvenP.main (F := Bits))) ⟨m, fun _ => 0, g⟩ (fun r => (∀ c : Dev Cert.EvenP.nD,
      r.2.mem ((c.tc : Thread Cert.EvenP.nD Cert.EvenP.τ).loc Cert.EvenP.main_arg0) = m ((c.tc : Thread Cert.EvenP.nD Cert.EvenP.τ).loc Cert.EvenP.main_arg0)
      ∧ r.2.mem ((c.tc : Thread Cert.EvenP.nD Cert.EvenP.τ).loc Cert.EvenP.main_arg1) = m ((c.tc : Thread Cert.EvenP.nD Cert.EvenP.τ).loc Cert.EvenP.main_arg1))
      ∧ r.2.sem = fun _ => 0)

def quiescent_EvenPIdeal [hEvenPIdeal : Cert.EvenPIdeal.Facts] : Prop :=
  ∀ (m : (ℓ : Loc Cert.EvenPIdeal.nD Cert.EvenPIdeal.τ Cert.EvenPIdeal.sig) → Buf (Elt Ideal) ℓ) (g : Dev Cert.EvenPIdeal.nD → PrngReg), Pre_EvenPIdeal m →
    θ_run (Cert.EvenPIdeal.defs (F := Ideal)) (onTc (τ := Cert.EvenPIdeal.τ) (Cert.EvenPIdeal.main (F := Ideal))) ⟨m, fun _ => 0, g⟩ (fun r => (∀ c : Dev Cert.EvenPIdeal.nD,
      r.2.mem ((c.tc : Thread Cert.EvenPIdeal.nD Cert.EvenPIdeal.τ).loc Cert.EvenPIdeal.main_arg0) = m ((c.tc : Thread Cert.EvenPIdeal.nD Cert.EvenPIdeal.τ).loc Cert.EvenPIdeal.main_arg0)
      ∧ r.2.mem ((c.tc : Thread Cert.EvenPIdeal.nD Cert.EvenPIdeal.τ).loc Cert.EvenPIdeal.main_arg1) = m ((c.tc : Thread Cert.EvenPIdeal.nD Cert.EvenPIdeal.τ).loc Cert.EvenPIdeal.main_arg1))
      ∧ r.2.sem = fun _ => 0)

def quiescent_EvenPRefIdeal [hEvenPRefIdeal : Cert.EvenPRefIdeal.Facts] : Prop :=
  ∀ (m : (ℓ : Loc Cert.EvenPRefIdeal.nD Cert.EvenPRefIdeal.τ Cert.EvenPRefIdeal.sig) → Buf (Elt Ideal) ℓ) (g : Dev Cert.EvenPRefIdeal.nD → PrngReg), Pre_EvenPRefIdeal m →
    θ_run (Cert.EvenPRefIdeal.defs (F := Ideal)) (onTc (τ := Cert.EvenPRefIdeal.τ) (Cert.EvenPRefIdeal.main (F := Ideal))) ⟨m, fun _ => 0, g⟩ (fun r => (∀ c : Dev Cert.EvenPRefIdeal.nD,
      r.2.mem ((c.tc : Thread Cert.EvenPRefIdeal.nD Cert.EvenPRefIdeal.τ).loc Cert.EvenPRefIdeal.main_arg0) = m ((c.tc : Thread Cert.EvenPRefIdeal.nD Cert.EvenPRefIdeal.τ).loc Cert.EvenPRefIdeal.main_arg0)
      ∧ r.2.mem ((c.tc : Thread Cert.EvenPRefIdeal.nD Cert.EvenPRefIdeal.τ).loc Cert.EvenPRefIdeal.main_arg1) = m ((c.tc : Thread Cert.EvenPRefIdeal.nD Cert.EvenPRefIdeal.τ).loc Cert.EvenPRefIdeal.main_arg1))
      ∧ r.2.sem = fun _ => 0)

def quiescent_EvenS [hEvenS : Cert.EvenS.Facts] : Prop :=
  ∀ (m : (ℓ : Loc Cert.EvenS.nD Cert.EvenS.τ Cert.EvenS.sig) → Buf (Elt Bits) ℓ) (g : Dev Cert.EvenS.nD → PrngReg), Pre_EvenS m →
    θ_run (Cert.EvenS.defs (F := Bits)) (onTc (τ := Cert.EvenS.τ) (Cert.EvenS.main (F := Bits))) ⟨m, fun _ => 0, g⟩ (fun r => (∀ c : Dev Cert.EvenS.nD,
      r.2.mem ((c.tc : Thread Cert.EvenS.nD Cert.EvenS.τ).loc Cert.EvenS.main_arg0) = m ((c.tc : Thread Cert.EvenS.nD Cert.EvenS.τ).loc Cert.EvenS.main_arg0)
      ∧ r.2.mem ((c.tc : Thread Cert.EvenS.nD Cert.EvenS.τ).loc Cert.EvenS.main_arg1) = m ((c.tc : Thread Cert.EvenS.nD Cert.EvenS.τ).loc Cert.EvenS.main_arg1))
      ∧ r.2.sem = fun _ => 0)

def quiescent_EvenSIdeal [hEvenSIdeal : Cert.EvenSIdeal.Facts] : Prop :=
  ∀ (m : (ℓ : Loc Cert.EvenSIdeal.nD Cert.EvenSIdeal.τ Cert.EvenSIdeal.sig) → Buf (Elt Ideal) ℓ) (g : Dev Cert.EvenSIdeal.nD → PrngReg), Pre_EvenSIdeal m →
    θ_run (Cert.EvenSIdeal.defs (F := Ideal)) (onTc (τ := Cert.EvenSIdeal.τ) (Cert.EvenSIdeal.main (F := Ideal))) ⟨m, fun _ => 0, g⟩ (fun r => (∀ c : Dev Cert.EvenSIdeal.nD,
      r.2.mem ((c.tc : Thread Cert.EvenSIdeal.nD Cert.EvenSIdeal.τ).loc Cert.EvenSIdeal.main_arg0) = m ((c.tc : Thread Cert.EvenSIdeal.nD Cert.EvenSIdeal.τ).loc Cert.EvenSIdeal.main_arg0)
      ∧ r.2.mem ((c.tc : Thread Cert.EvenSIdeal.nD Cert.EvenSIdeal.τ).loc Cert.EvenSIdeal.main_arg1) = m ((c.tc : Thread Cert.EvenSIdeal.nD Cert.EvenSIdeal.τ).loc Cert.EvenSIdeal.main_arg1))
      ∧ r.2.sem = fun _ => 0)

def quiescent_EvenSRefIdeal [hEvenSRefIdeal : Cert.EvenSRefIdeal.Facts] : Prop :=
  ∀ (m : (ℓ : Loc Cert.EvenSRefIdeal.nD Cert.EvenSRefIdeal.τ Cert.EvenSRefIdeal.sig) → Buf (Elt Ideal) ℓ) (g : Dev Cert.EvenSRefIdeal.nD → PrngReg), Pre_EvenSRefIdeal m →
    θ_run (Cert.EvenSRefIdeal.defs (F := Ideal)) (onTc (τ := Cert.EvenSRefIdeal.τ) (Cert.EvenSRefIdeal.main (F := Ideal))) ⟨m, fun _ => 0, g⟩ (fun r => (∀ c : Dev Cert.EvenSRefIdeal.nD,
      r.2.mem ((c.tc : Thread Cert.EvenSRefIdeal.nD Cert.EvenSRefIdeal.τ).loc Cert.EvenSRefIdeal.main_arg0) = m ((c.tc : Thread Cert.EvenSRefIdeal.nD Cert.EvenSRefIdeal.τ).loc Cert.EvenSRefIdeal.main_arg0)
      ∧ r.2.mem ((c.tc : Thread Cert.EvenSRefIdeal.nD Cert.EvenSRefIdeal.τ).loc Cert.EvenSRefIdeal.main_arg1) = m ((c.tc : Thread Cert.EvenSRefIdeal.nD Cert.EvenSRefIdeal.τ).loc Cert.EvenSRefIdeal.main_arg1))
      ∧ r.2.sem = fun _ => 0)

def quiescent_OddIn [hOddIn : Cert.OddIn.Facts] : Prop :=
  ∀ (m : (ℓ : Loc Cert.OddIn.nD Cert.OddIn.τ Cert.OddIn.sig) → Buf (Elt Bits) ℓ) (g : Dev Cert.OddIn.nD → PrngReg), Pre_OddIn m →
    θ_run (Cert.OddIn.defs (F := Bits)) (onTc (τ := Cert.OddIn.τ) (Cert.OddIn.main (F := Bits))) ⟨m, fun _ => 0, g⟩ (fun r => (∀ c : Dev Cert.OddIn.nD,
      r.2.mem ((c.tc : Thread Cert.OddIn.nD Cert.OddIn.τ).loc Cert.OddIn.main_arg0) = m ((c.tc : Thread Cert.OddIn.nD Cert.OddIn.τ).loc Cert.OddIn.main_arg0)
      ∧ r.2.mem ((c.tc : Thread Cert.OddIn.nD Cert.OddIn.τ).loc Cert.OddIn.main_arg1) = m ((c.tc : Thread Cert.OddIn.nD Cert.OddIn.τ).loc Cert.OddIn.main_arg1))
      ∧ r.2.sem = fun _ => 0)

def quiescent_OddInIdeal [hOddInIdeal : Cert.OddInIdeal.Facts] : Prop :=
  ∀ (m : (ℓ : Loc Cert.OddInIdeal.nD Cert.OddInIdeal.τ Cert.OddInIdeal.sig) → Buf (Elt Ideal) ℓ) (g : Dev Cert.OddInIdeal.nD → PrngReg), Pre_OddInIdeal m →
    θ_run (Cert.OddInIdeal.defs (F := Ideal)) (onTc (τ := Cert.OddInIdeal.τ) (Cert.OddInIdeal.main (F := Ideal))) ⟨m, fun _ => 0, g⟩ (fun r => (∀ c : Dev Cert.OddInIdeal.nD,
      r.2.mem ((c.tc : Thread Cert.OddInIdeal.nD Cert.OddInIdeal.τ).loc Cert.OddInIdeal.main_arg0) = m ((c.tc : Thread Cert.OddInIdeal.nD Cert.OddInIdeal.τ).loc Cert.OddInIdeal.main_arg0)
      ∧ r.2.mem ((c.tc : Thread Cert.OddInIdeal.nD Cert.OddInIdeal.τ).loc Cert.OddInIdeal.main_arg1) = m ((c.tc : Thread Cert.OddInIdeal.nD Cert.OddInIdeal.τ).loc Cert.OddInIdeal.main_arg1))
      ∧ r.2.sem = fun _ => 0)

def quiescent_OddInRefIdeal [hOddInRefIdeal : Cert.OddInRefIdeal.Facts] : Prop :=
  ∀ (m : (ℓ : Loc Cert.OddInRefIdeal.nD Cert.OddInRefIdeal.τ Cert.OddInRefIdeal.sig) → Buf (Elt Ideal) ℓ) (g : Dev Cert.OddInRefIdeal.nD → PrngReg), Pre_OddInRefIdeal m →
    θ_run (Cert.OddInRefIdeal.defs (F := Ideal)) (onTc (τ := Cert.OddInRefIdeal.τ) (Cert.OddInRefIdeal.main (F := Ideal))) ⟨m, fun _ => 0, g⟩ (fun r => (∀ c : Dev Cert.OddInRefIdeal.nD,
      r.2.mem ((c.tc : Thread Cert.OddInRefIdeal.nD Cert.OddInRefIdeal.τ).loc Cert.OddInRefIdeal.main_arg0) = m ((c.tc : Thread Cert.OddInRefIdeal.nD Cert.OddInRefIdeal.τ).loc Cert.OddInRefIdeal.main_arg0)
      ∧ r.2.mem ((c.tc : Thread Cert.OddInRefIdeal.nD Cert.OddInRefIdeal.τ).loc Cert.OddInRefIdeal.main_arg1) = m ((c.tc : Thread Cert.OddInRefIdeal.nD Cert.OddInRefIdeal.τ).loc Cert.OddInRefIdeal.main_arg1))
      ∧ r.2.sem = fun _ => 0)

def quiescent_Rope [hRope : Cert.Rope.Facts] : Prop :=
  ∀ (m : (ℓ : Loc Cert.Rope.nD Cert.Rope.τ Cert.Rope.sig) → Buf (Elt Bits) ℓ) (g : Dev Cert.Rope.nD → PrngReg), Pre_Rope m →
    θ_run (Cert.Rope.defs (F := Bits)) (onTc (τ := Cert.Rope.τ) (Cert.Rope.main (F := Bits))) ⟨m, fun _ => 0, g⟩ (fun r => (∀ c : Dev Cert.Rope.nD,
      r.2.mem ((c.tc : Thread Cert.Rope.nD Cert.Rope.τ).loc Cert.Rope.main_arg0) = m ((c.tc : Thread Cert.Rope.nD Cert.Rope.τ).loc Cert.Rope.main_arg0))
      ∧ r.2.sem = fun _ => 0)

def quiescent_RopeIdeal [hRopeIdeal : Cert.RopeIdeal.Facts] : Prop :=
  ∀ (m : (ℓ : Loc Cert.RopeIdeal.nD Cert.RopeIdeal.τ Cert.RopeIdeal.sig) → Buf (Elt Ideal) ℓ) (g : Dev Cert.RopeIdeal.nD → PrngReg), Pre_RopeIdeal m →
    θ_run (Cert.RopeIdeal.defs (F := Ideal)) (onTc (τ := Cert.RopeIdeal.τ) (Cert.RopeIdeal.main (F := Ideal))) ⟨m, fun _ => 0, g⟩ (fun r => (∀ c : Dev Cert.RopeIdeal.nD,
      r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0))
      ∧ r.2.sem = fun _ => 0)

def quiescent_RopeRefIdeal [hRopeRefIdeal : Cert.RopeRefIdeal.Facts] : Prop :=
  ∀ (m : (ℓ : Loc Cert.RopeRefIdeal.nD Cert.RopeRefIdeal.τ Cert.RopeRefIdeal.sig) → Buf (Elt Ideal) ℓ) (g : Dev Cert.RopeRefIdeal.nD → PrngReg), Pre_RopeRefIdeal m →
    θ_run (Cert.RopeRefIdeal.defs (F := Ideal)) (onTc (τ := Cert.RopeRefIdeal.τ) (Cert.RopeRefIdeal.main (F := Ideal))) ⟨m, fun _ => 0, g⟩ (fun r => (∀ c : Dev Cert.RopeRefIdeal.nD,
      r.2.mem ((c.tc : Thread Cert.RopeRefIdeal.nD Cert.RopeRefIdeal.τ).loc Cert.RopeRefIdeal.main_arg0) = m ((c.tc : Thread Cert.RopeRefIdeal.nD Cert.RopeRefIdeal.τ).loc Cert.RopeRefIdeal.main_arg0))
      ∧ r.2.sem = fun _ => 0)

def quiescent_Scan [hScan : Cert.Scan.Facts] : Prop :=
  ∀ (m : (ℓ : Loc Cert.Scan.nD Cert.Scan.τ Cert.Scan.sig) → Buf (Elt Bits) ℓ) (g : Dev Cert.Scan.nD → PrngReg), Pre_Scan m →
    θ_run (Cert.Scan.defs (F := Bits)) (onTc (τ := Cert.Scan.τ) (Cert.Scan.main (F := Bits))) ⟨m, fun _ => 0, g⟩ (fun r => (∀ c : Dev Cert.Scan.nD,
      r.2.mem ((c.tc : Thread Cert.Scan.nD Cert.Scan.τ).loc Cert.Scan.main_arg0) = m ((c.tc : Thread Cert.Scan.nD Cert.Scan.τ).loc Cert.Scan.main_arg0)
      ∧ r.2.mem ((c.tc : Thread Cert.Scan.nD Cert.Scan.τ).loc Cert.Scan.main_arg1) = m ((c.tc : Thread Cert.Scan.nD Cert.Scan.τ).loc Cert.Scan.main_arg1)
      ∧ r.2.mem ((c.tc : Thread Cert.Scan.nD Cert.Scan.τ).loc Cert.Scan.main_arg2) = m ((c.tc : Thread Cert.Scan.nD Cert.Scan.τ).loc Cert.Scan.main_arg2)
      ∧ r.2.mem ((c.tc : Thread Cert.Scan.nD Cert.Scan.τ).loc Cert.Scan.main_arg3) = m ((c.tc : Thread Cert.Scan.nD Cert.Scan.τ).loc Cert.Scan.main_arg3)
      ∧ r.2.mem ((c.tc : Thread Cert.Scan.nD Cert.Scan.τ).loc Cert.Scan.main_arg4) = m ((c.tc : Thread Cert.Scan.nD Cert.Scan.τ).loc Cert.Scan.main_arg4)
      ∧ r.2.mem ((c.tc : Thread Cert.Scan.nD Cert.Scan.τ).loc Cert.Scan.main_arg5) = m ((c.tc : Thread Cert.Scan.nD Cert.Scan.τ).loc Cert.Scan.main_arg5)
      ∧ r.2.mem ((c.tc : Thread Cert.Scan.nD Cert.Scan.τ).loc Cert.Scan.main_arg6) = m ((c.tc : Thread Cert.Scan.nD Cert.Scan.τ).loc Cert.Scan.main_arg6)
      ∧ r.2.mem ((c.tc : Thread Cert.Scan.nD Cert.Scan.τ).loc Cert.Scan.main_arg7) = m ((c.tc : Thread Cert.Scan.nD Cert.Scan.τ).loc Cert.Scan.main_arg7)
      ∧ r.2.mem ((c.tc : Thread Cert.Scan.nD Cert.Scan.τ).loc Cert.Scan.main_arg8) = m ((c.tc : Thread Cert.Scan.nD Cert.Scan.τ).loc Cert.Scan.main_arg8))
      ∧ r.2.sem = fun _ => 0)

def quiescent_ScanIdeal [hScanIdeal : Cert.ScanIdeal.Facts] : Prop :=
  ∀ (m : (ℓ : Loc Cert.ScanIdeal.nD Cert.ScanIdeal.τ Cert.ScanIdeal.sig) → Buf (Elt Ideal) ℓ) (g : Dev Cert.ScanIdeal.nD → PrngReg), Pre_ScanIdeal m →
    θ_run (Cert.ScanIdeal.defs (F := Ideal)) (onTc (τ := Cert.ScanIdeal.τ) (Cert.ScanIdeal.main (F := Ideal))) ⟨m, fun _ => 0, g⟩ (fun r => (∀ c : Dev Cert.ScanIdeal.nD,
      r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
      ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1)
      ∧ r.2.mem ((c.tc : Thread Cert.ScanIdeal.nD Cert.ScanIdeal.τ).loc Cert.ScanIdeal.main_arg2) = m ((c.tc : Thread Cert.ScanIdeal.nD Cert.ScanIdeal.τ).loc Cert.ScanIdeal.main_arg2)
      ∧ r.2.mem ((c.tc : Thread Cert.ScanIdeal.nD Cert.ScanIdeal.τ).loc Cert.ScanIdeal.main_arg3) = m ((c.tc : Thread Cert.ScanIdeal.nD Cert.ScanIdeal.τ).loc Cert.ScanIdeal.main_arg3)
      ∧ r.2.mem ((c.tc : Thread Cert.ScanIdeal.nD Cert.ScanIdeal.τ).loc Cert.ScanIdeal.main_arg4) = m ((c.tc : Thread Cert.ScanIdeal.nD Cert.ScanIdeal.τ).loc Cert.ScanIdeal.main_arg4)
      ∧ r.2.mem ((c.tc : Thread Cert.ScanIdeal.nD Cert.ScanIdeal.τ).loc Cert.ScanIdeal.main_arg5) = m ((c.tc : Thread Cert.ScanIdeal.nD Cert.ScanIdeal.τ).loc Cert.ScanIdeal.main_arg5)
      ∧ r.2.mem ((c.tc : Thread Cert.ScanIdeal.nD Cert.ScanIdeal.τ).loc Cert.ScanIdeal.main_arg6) = m ((c.tc : Thread Cert.ScanIdeal.nD Cert.ScanIdeal.τ).loc Cert.ScanIdeal.main_arg6)
      ∧ r.2.mem ((c.tc : Thread Cert.ScanIdeal.nD Cert.ScanIdeal.τ).loc Cert.ScanIdeal.main_arg7) = m ((c.tc : Thread Cert.ScanIdeal.nD Cert.ScanIdeal.τ).loc Cert.ScanIdeal.main_arg7)
      ∧ r.2.mem ((c.tc : Thread Cert.ScanIdeal.nD Cert.ScanIdeal.τ).loc Cert.ScanIdeal.main_arg8) = m ((c.tc : Thread Cert.ScanIdeal.nD Cert.ScanIdeal.τ).loc Cert.ScanIdeal.main_arg8))
      ∧ r.2.sem = fun _ => 0)

def quiescent_ScanRefIdeal [hScanRefIdeal : Cert.ScanRefIdeal.Facts] : Prop :=
  ∀ (m : (ℓ : Loc Cert.ScanRefIdeal.nD Cert.ScanRefIdeal.τ Cert.ScanRefIdeal.sig) → Buf (Elt Ideal) ℓ) (g : Dev Cert.ScanRefIdeal.nD → PrngReg), Pre_ScanRefIdeal m →
    θ_run (Cert.ScanRefIdeal.defs (F := Ideal)) (onTc (τ := Cert.ScanRefIdeal.τ) (Cert.ScanRefIdeal.main (F := Ideal))) ⟨m, fun _ => 0, g⟩ (fun r => (∀ c : Dev Cert.ScanRefIdeal.nD,
      r.2.mem ((c.tc : Thread Cert.ScanRefIdeal.nD Cert.ScanRefIdeal.τ).loc Cert.ScanRefIdeal.main_arg0) = m ((c.tc : Thread Cert.ScanRefIdeal.nD Cert.ScanRefIdeal.τ).loc Cert.ScanRefIdeal.main_arg0)
      ∧ r.2.mem ((c.tc : Thread Cert.ScanRefIdeal.nD Cert.ScanRefIdeal.τ).loc Cert.ScanRefIdeal.main_arg1) = m ((c.tc : Thread Cert.ScanRefIdeal.nD Cert.ScanRefIdeal.τ).loc Cert.ScanRefIdeal.main_arg1)
      ∧ r.2.mem ((c.tc : Thread Cert.ScanRefIdeal.nD Cert.ScanRefIdeal.τ).loc Cert.ScanRefIdeal.main_arg2) = m ((c.tc : Thread Cert.ScanRefIdeal.nD Cert.ScanRefIdeal.τ).loc Cert.ScanRefIdeal.main_arg2)
      ∧ r.2.mem ((c.tc : Thread Cert.ScanRefIdeal.nD Cert.ScanRefIdeal.τ).loc Cert.ScanRefIdeal.main_arg3) = m ((c.tc : Thread Cert.ScanRefIdeal.nD Cert.ScanRefIdeal.τ).loc Cert.ScanRefIdeal.main_arg3)
      ∧ r.2.mem ((c.tc : Thread Cert.ScanRefIdeal.nD Cert.ScanRefIdeal.τ).loc Cert.ScanRefIdeal.main_arg4) = m ((c.tc : Thread Cert.ScanRefIdeal.nD Cert.ScanRefIdeal.τ).loc Cert.ScanRefIdeal.main_arg4)
      ∧ r.2.mem ((c.tc : Thread Cert.ScanRefIdeal.nD Cert.ScanRefIdeal.τ).loc Cert.ScanRefIdeal.main_arg5) = m ((c.tc : Thread Cert.ScanRefIdeal.nD Cert.ScanRefIdeal.τ).loc Cert.ScanRefIdeal.main_arg5)
      ∧ r.2.mem ((c.tc : Thread Cert.ScanRefIdeal.nD Cert.ScanRefIdeal.τ).loc Cert.ScanRefIdeal.main_arg6) = m ((c.tc : Thread Cert.ScanRefIdeal.nD Cert.ScanRefIdeal.τ).loc Cert.ScanRefIdeal.main_arg6)
      ∧ r.2.mem ((c.tc : Thread Cert.ScanRefIdeal.nD Cert.ScanRefIdeal.τ).loc Cert.ScanRefIdeal.main_arg7) = m ((c.tc : Thread Cert.ScanRefIdeal.nD Cert.ScanRefIdeal.τ).loc Cert.ScanRefIdeal.main_arg7)
      ∧ r.2.mem ((c.tc : Thread Cert.ScanRefIdeal.nD Cert.ScanRefIdeal.τ).loc Cert.ScanRefIdeal.main_arg8) = m ((c.tc : Thread Cert.ScanRefIdeal.nD Cert.ScanRefIdeal.τ).loc Cert.ScanRefIdeal.main_arg8))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2))
      ∧ r.2.sem = fun _ => 0)

def preserves_Up_UpIdeal : Prop :=
  True

def algebraic_UpIdeal_UpRefIdeal [hUpIdeal : Cert.UpIdeal.Facts] [hUpRefIdeal : Cert.UpRefIdeal.Facts] [hPre_experts_named : Cert.Pre_experts_named.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)
      ∧ m' ((c.tc : Thread Cert.UpRefIdeal.nD Cert.UpRefIdeal.τ).loc Cert.UpRefIdeal.main_arg3) = m ((c.tc : Thread Cert.UpIdeal.nD Cert.UpIdeal.τ).loc Cert.UpIdeal.main_arg3)
      ∧ m' ((c.tc : Thread Cert.UpRefIdeal.nD Cert.UpRefIdeal.τ).loc Cert.UpRefIdeal.main_arg4) = m ((c.tc : Thread Cert.UpIdeal.nD Cert.UpIdeal.τ).loc Cert.UpIdeal.main_arg4)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
          ∧ r.2.mem ((c.tc : Thread Cert.UpIdeal.nD Cert.UpIdeal.τ).loc Cert.UpIdeal.main_arg4) = m ((c.tc : Thread Cert.UpIdeal.nD Cert.UpIdeal.τ).loc Cert.UpIdeal.main_arg4))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v31) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2)
          ∧ r.2.mem ((c.tc : Thread Cert.UpRefIdeal.nD Cert.UpRefIdeal.τ).loc Cert.UpRefIdeal.main_arg3) = m' ((c.tc : Thread Cert.UpRefIdeal.nD Cert.UpRefIdeal.τ).loc Cert.UpRefIdeal.main_arg3)
          ∧ r.2.mem ((c.tc : Thread Cert.UpRefIdeal.nD Cert.UpRefIdeal.τ).loc Cert.UpRefIdeal.main_arg4) = m' ((c.tc : Thread Cert.UpRefIdeal.nD Cert.UpRefIdeal.τ).loc Cert.UpRefIdeal.main_arg4))

def preserves_Down_DownIdeal : Prop :=
  True

def algebraic_DownIdeal_DownRefIdeal [hDownIdeal : Cert.DownIdeal.Facts] [hDownRefIdeal : Cert.DownRefIdeal.Facts] [hPre_experts_named_down : Cert.Pre_experts_named_down.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v27) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4))

def preserves_EvenP_EvenPIdeal : Prop :=
  True

def algebraic_EvenPIdeal_EvenPRefIdeal [hEvenPIdeal : Cert.EvenPIdeal.Facts] [hEvenPRefIdeal : Cert.EvenPRefIdeal.Facts] : Prop :=
  ∀ (m : (ℓ : Loc Cert.EvenPIdeal.nD Cert.EvenPIdeal.τ Cert.EvenPIdeal.sig) → Buf (Elt Ideal) ℓ) (g : Dev Cert.EvenPIdeal.nD → PrngReg)
    (m' : (ℓ : Loc Cert.EvenPRefIdeal.nD Cert.EvenPRefIdeal.τ Cert.EvenPRefIdeal.sig) → Buf (Elt Ideal) ℓ) (g' : Dev Cert.EvenPRefIdeal.nD → PrngReg), Pre_EvenPIdeal m →
    (∀ c : Dev Cert.EvenPIdeal.nD,
      m' ((c.tc : Thread Cert.EvenPRefIdeal.nD Cert.EvenPRefIdeal.τ).loc Cert.EvenPRefIdeal.main_arg0) = m ((c.tc : Thread Cert.EvenPIdeal.nD Cert.EvenPIdeal.τ).loc Cert.EvenPIdeal.main_arg0)
      ∧ m' ((c.tc : Thread Cert.EvenPRefIdeal.nD Cert.EvenPRefIdeal.τ).loc Cert.EvenPRefIdeal.main_arg1) = m ((c.tc : Thread Cert.EvenPIdeal.nD Cert.EvenPIdeal.τ).loc Cert.EvenPIdeal.main_arg1)) →
    ∃ (v0 : (c : Dev Cert.EvenPIdeal.nD) → Buf (Elt Ideal) ((c.tc : Thread Cert.EvenPIdeal.nD Cert.EvenPIdeal.τ).loc Cert.EvenPIdeal.main_v4)) (v1 : (c : Dev Cert.EvenPIdeal.nD) → Buf (Elt Ideal) ((c.tc : Thread Cert.EvenPIdeal.nD Cert.EvenPIdeal.τ).loc Cert.EvenPIdeal.main_v6)) (v2 : (c : Dev Cert.EvenPIdeal.nD) → Buf (Elt Ideal) ((c.tc : Thread Cert.EvenPIdeal.nD Cert.EvenPIdeal.τ).loc Cert.EvenPIdeal.main_v8)) (v3 : (c : Dev Cert.EvenPIdeal.nD) → Buf (Elt Ideal) ((c.tc : Thread Cert.EvenPIdeal.nD Cert.EvenPIdeal.τ).loc Cert.EvenPIdeal.main_v11)) (v4 : (c : Dev Cert.EvenPIdeal.nD) → Buf (Elt Ideal) ((c.tc : Thread Cert.EvenPIdeal.nD Cert.EvenPIdeal.τ).loc Cert.EvenPIdeal.main_v14)),
      θ_run (Cert.EvenPIdeal.defs (F := Ideal)) (onTc (τ := Cert.EvenPIdeal.τ) (Cert.EvenPIdeal.main (F := Ideal))) ⟨m, fun _ => 0, g⟩ (fun r => ∀ c : Dev Cert.EvenPIdeal.nD,
          r.2.mem ((c.tc : Thread Cert.EvenPIdeal.nD Cert.EvenPIdeal.τ).loc Cert.EvenPIdeal.main_v4) = v0 c
          ∧ r.2.mem ((c.tc : Thread Cert.EvenPIdeal.nD Cert.EvenPIdeal.τ).loc Cert.EvenPIdeal.main_v6) = v1 c
          ∧ r.2.mem ((c.tc : Thread Cert.EvenPIdeal.nD Cert.EvenPIdeal.τ).loc Cert.EvenPIdeal.main_v8) = v2 c
          ∧ r.2.mem ((c.tc : Thread Cert.EvenPIdeal.nD Cert.EvenPIdeal.τ).loc Cert.EvenPIdeal.main_v11) = v3 c
          ∧ r.2.mem ((c.tc : Thread Cert.EvenPIdeal.nD Cert.EvenPIdeal.τ).loc Cert.EvenPIdeal.main_v14) = v4 c
          ∧ r.2.mem ((c.tc : Thread Cert.EvenPIdeal.nD Cert.EvenPIdeal.τ).loc Cert.EvenPIdeal.main_arg0) = m ((c.tc : Thread Cert.EvenPIdeal.nD Cert.EvenPIdeal.τ).loc Cert.EvenPIdeal.main_arg0)
          ∧ r.2.mem ((c.tc : Thread Cert.EvenPIdeal.nD Cert.EvenPIdeal.τ).loc Cert.EvenPIdeal.main_arg1) = m ((c.tc : Thread Cert.EvenPIdeal.nD Cert.EvenPIdeal.τ).loc Cert.EvenPIdeal.main_arg1))
      ∧ θ_run (Cert.EvenPRefIdeal.defs (F := Ideal)) (onTc (τ := Cert.EvenPRefIdeal.τ) (Cert.EvenPRefIdeal.main (F := Ideal))) ⟨m', fun _ => 0, g'⟩ (fun r => ∀ c : Dev Cert.EvenPRefIdeal.nD,
          r.2.mem ((c.tc : Thread Cert.EvenPRefIdeal.nD Cert.EvenPRefIdeal.τ).loc Cert.EvenPRefIdeal.main_v0) = v0 c
          ∧ r.2.mem ((c.tc : Thread Cert.EvenPRefIdeal.nD Cert.EvenPRefIdeal.τ).loc Cert.EvenPRefIdeal.main_v7) = v1 c
          ∧ r.2.mem ((c.tc : Thread Cert.EvenPRefIdeal.nD Cert.EvenPRefIdeal.τ).loc Cert.EvenPRefIdeal.main_v8) = v2 c
          ∧ r.2.mem ((c.tc : Thread Cert.EvenPRefIdeal.nD Cert.EvenPRefIdeal.τ).loc Cert.EvenPRefIdeal.main_v11) = v3 c
          ∧ r.2.mem ((c.tc : Thread Cert.EvenPRefIdeal.nD Cert.EvenPRefIdeal.τ).loc Cert.EvenPRefIdeal.main_v12) = v4 c
          ∧ r.2.mem ((c.tc : Thread Cert.EvenPRefIdeal.nD Cert.EvenPRefIdeal.τ).loc Cert.EvenPRefIdeal.main_arg0) = m' ((c.tc : Thread Cert.EvenPRefIdeal.nD Cert.EvenPRefIdeal.τ).loc Cert.EvenPRefIdeal.main_arg0)
          ∧ r.2.mem ((c.tc : Thread Cert.EvenPRefIdeal.nD Cert.EvenPRefIdeal.τ).loc Cert.EvenPRefIdeal.main_arg1) = m' ((c.tc : Thread Cert.EvenPRefIdeal.nD Cert.EvenPRefIdeal.τ).loc Cert.EvenPRefIdeal.main_arg1))

def preserves_EvenS_EvenSIdeal : Prop :=
  True

def algebraic_EvenSIdeal_EvenSRefIdeal [hEvenSIdeal : Cert.EvenSIdeal.Facts] [hEvenSRefIdeal : Cert.EvenSRefIdeal.Facts] : Prop :=
  ∀ (m : (ℓ : Loc Cert.EvenSIdeal.nD Cert.EvenSIdeal.τ Cert.EvenSIdeal.sig) → Buf (Elt Ideal) ℓ) (g : Dev Cert.EvenSIdeal.nD → PrngReg)
    (m' : (ℓ : Loc Cert.EvenSRefIdeal.nD Cert.EvenSRefIdeal.τ Cert.EvenSRefIdeal.sig) → Buf (Elt Ideal) ℓ) (g' : Dev Cert.EvenSRefIdeal.nD → PrngReg), Pre_EvenSIdeal m →
    (∀ c : Dev Cert.EvenSIdeal.nD,
      m' ((c.tc : Thread Cert.EvenSRefIdeal.nD Cert.EvenSRefIdeal.τ).loc Cert.EvenSRefIdeal.main_arg0) = m ((c.tc : Thread Cert.EvenSIdeal.nD Cert.EvenSIdeal.τ).loc Cert.EvenSIdeal.main_arg0)
      ∧ m' ((c.tc : Thread Cert.EvenSRefIdeal.nD Cert.EvenSRefIdeal.τ).loc Cert.EvenSRefIdeal.main_arg1) = m ((c.tc : Thread Cert.EvenSIdeal.nD Cert.EvenSIdeal.τ).loc Cert.EvenSIdeal.main_arg1)) →
    ∃ (v0 : (c : Dev Cert.EvenSIdeal.nD) → Buf (Elt Ideal) ((c.tc : Thread Cert.EvenSIdeal.nD Cert.EvenSIdeal.τ).loc Cert.EvenSIdeal.main_v4)) (v1 : (c : Dev Cert.EvenSIdeal.nD) → Buf (Elt Ideal) ((c.tc : Thread Cert.EvenSIdeal.nD Cert.EvenSIdeal.τ).loc Cert.EvenSIdeal.main_v6)) (v2 : (c : Dev Cert.EvenSIdeal.nD) → Buf (Elt Ideal) ((c.tc : Thread Cert.EvenSIdeal.nD Cert.EvenSIdeal.τ).loc Cert.EvenSIdeal.main_v8)) (v3 : (c : Dev Cert.EvenSIdeal.nD) → Buf (Elt Ideal) ((c.tc : Thread Cert.EvenSIdeal.nD Cert.EvenSIdeal.τ).loc Cert.EvenSIdeal.main_v10)) (v4 : (c : Dev Cert.EvenSIdeal.nD) → Buf (Elt Ideal) ((c.tc : Thread Cert.EvenSIdeal.nD Cert.EvenSIdeal.τ).loc Cert.EvenSIdeal.main_v12)),
      θ_run (Cert.EvenSIdeal.defs (F := Ideal)) (onTc (τ := Cert.EvenSIdeal.τ) (Cert.EvenSIdeal.main (F := Ideal))) ⟨m, fun _ => 0, g⟩ (fun r => ∀ c : Dev Cert.EvenSIdeal.nD,
          r.2.mem ((c.tc : Thread Cert.EvenSIdeal.nD Cert.EvenSIdeal.τ).loc Cert.EvenSIdeal.main_v4) = v0 c
          ∧ r.2.mem ((c.tc : Thread Cert.EvenSIdeal.nD Cert.EvenSIdeal.τ).loc Cert.EvenSIdeal.main_v6) = v1 c
          ∧ r.2.mem ((c.tc : Thread Cert.EvenSIdeal.nD Cert.EvenSIdeal.τ).loc Cert.EvenSIdeal.main_v8) = v2 c
          ∧ r.2.mem ((c.tc : Thread Cert.EvenSIdeal.nD Cert.EvenSIdeal.τ).loc Cert.EvenSIdeal.main_v10) = v3 c
          ∧ r.2.mem ((c.tc : Thread Cert.EvenSIdeal.nD Cert.EvenSIdeal.τ).loc Cert.EvenSIdeal.main_v12) = v4 c
          ∧ r.2.mem ((c.tc : Thread Cert.EvenSIdeal.nD Cert.EvenSIdeal.τ).loc Cert.EvenSIdeal.main_arg0) = m ((c.tc : Thread Cert.EvenSIdeal.nD Cert.EvenSIdeal.τ).loc Cert.EvenSIdeal.main_arg0)
          ∧ r.2.mem ((c.tc : Thread Cert.EvenSIdeal.nD Cert.EvenSIdeal.τ).loc Cert.EvenSIdeal.main_arg1) = m ((c.tc : Thread Cert.EvenSIdeal.nD Cert.EvenSIdeal.τ).loc Cert.EvenSIdeal.main_arg1))
      ∧ θ_run (Cert.EvenSRefIdeal.defs (F := Ideal)) (onTc (τ := Cert.EvenSRefIdeal.τ) (Cert.EvenSRefIdeal.main (F := Ideal))) ⟨m', fun _ => 0, g'⟩ (fun r => ∀ c : Dev Cert.EvenSRefIdeal.nD,
          r.2.mem ((c.tc : Thread Cert.EvenSRefIdeal.nD Cert.EvenSRefIdeal.τ).loc Cert.EvenSRefIdeal.main_v0) = v0 c
          ∧ r.2.mem ((c.tc : Thread Cert.EvenSRefIdeal.nD Cert.EvenSRefIdeal.τ).loc Cert.EvenSRefIdeal.main_v7) = v1 c
          ∧ r.2.mem ((c.tc : Thread Cert.EvenSRefIdeal.nD Cert.EvenSRefIdeal.τ).loc Cert.EvenSRefIdeal.main_v8) = v2 c
          ∧ r.2.mem ((c.tc : Thread Cert.EvenSRefIdeal.nD Cert.EvenSRefIdeal.τ).loc Cert.EvenSRefIdeal.main_v9) = v3 c
          ∧ r.2.mem ((c.tc : Thread Cert.EvenSRefIdeal.nD Cert.EvenSRefIdeal.τ).loc Cert.EvenSRefIdeal.main_v10) = v4 c
          ∧ r.2.mem ((c.tc : Thread Cert.EvenSRefIdeal.nD Cert.EvenSRefIdeal.τ).loc Cert.EvenSRefIdeal.main_arg0) = m' ((c.tc : Thread Cert.EvenSRefIdeal.nD Cert.EvenSRefIdeal.τ).loc Cert.EvenSRefIdeal.main_arg0)
          ∧ r.2.mem ((c.tc : Thread Cert.EvenSRefIdeal.nD Cert.EvenSRefIdeal.τ).loc Cert.EvenSRefIdeal.main_arg1) = m' ((c.tc : Thread Cert.EvenSRefIdeal.nD Cert.EvenSRefIdeal.τ).loc Cert.EvenSRefIdeal.main_arg1))

def preserves_OddIn_OddInIdeal : Prop :=
  True

def algebraic_OddInIdeal_OddInRefIdeal [hOddInIdeal : Cert.OddInIdeal.Facts] [hOddInRefIdeal : Cert.OddInRefIdeal.Facts] : Prop :=
  ∀ (m : (ℓ : Loc Cert.OddInIdeal.nD Cert.OddInIdeal.τ Cert.OddInIdeal.sig) → Buf (Elt Ideal) ℓ) (g : Dev Cert.OddInIdeal.nD → PrngReg)
    (m' : (ℓ : Loc Cert.OddInRefIdeal.nD Cert.OddInRefIdeal.τ Cert.OddInRefIdeal.sig) → Buf (Elt Ideal) ℓ) (g' : Dev Cert.OddInRefIdeal.nD → PrngReg), Pre_OddInIdeal m →
    (∀ c : Dev Cert.OddInIdeal.nD,
      m' ((c.tc : Thread Cert.OddInRefIdeal.nD Cert.OddInRefIdeal.τ).loc Cert.OddInRefIdeal.main_arg0) = m ((c.tc : Thread Cert.OddInIdeal.nD Cert.OddInIdeal.τ).loc Cert.OddInIdeal.main_arg0)
      ∧ m' ((c.tc : Thread Cert.OddInRefIdeal.nD Cert.OddInRefIdeal.τ).loc Cert.OddInRefIdeal.main_arg1) = m ((c.tc : Thread Cert.OddInIdeal.nD Cert.OddInIdeal.τ).loc Cert.OddInIdeal.main_arg1)) →
    ∃ (v0 : (c : Dev Cert.OddInIdeal.nD) → Buf (Elt Ideal) ((c.tc : Thread Cert.OddInIdeal.nD Cert.OddInIdeal.τ).loc Cert.OddInIdeal.main_v27)) (v1 : (c : Dev Cert.OddInIdeal.nD) → Buf (Elt Ideal) ((c.tc : Thread Cert.OddInIdeal.nD Cert.OddInIdeal.τ).loc Cert.OddInIdeal.main_v28)) (v2 : (c : Dev Cert.OddInIdeal.nD) → Buf (Elt Ideal) ((c.tc : Thread Cert.OddInIdeal.nD Cert.OddInIdeal.τ).loc Cert.OddInIdeal.main_v29)) (v3 : (c : Dev Cert.OddInIdeal.nD) → Buf (Elt Ideal) ((c.tc : Thread Cert.OddInIdeal.nD Cert.OddInIdeal.τ).loc Cert.OddInIdeal.main_v30)) (v4 : (c : Dev Cert.OddInIdeal.nD) → Buf (Elt Ideal) ((c.tc : Thread Cert.OddInIdeal.nD Cert.OddInIdeal.τ).loc Cert.OddInIdeal.main_v31)) (v5 : (c : Dev Cert.OddInIdeal.nD) → Buf (Elt Ideal) ((c.tc : Thread Cert.OddInIdeal.nD Cert.OddInIdeal.τ).loc Cert.OddInIdeal.main_v32)) (v6 : (c : Dev Cert.OddInIdeal.nD) → Buf (Elt Ideal) ((c.tc : Thread Cert.OddInIdeal.nD Cert.OddInIdeal.τ).loc Cert.OddInIdeal.main_v33)) (v7 : (c : Dev Cert.OddInIdeal.nD) → Buf (Elt Ideal) ((c.tc : Thread Cert.OddInIdeal.nD Cert.OddInIdeal.τ).loc Cert.OddInIdeal.main_v34)) (v8 : (c : Dev Cert.OddInIdeal.nD) → Buf (Elt Ideal) ((c.tc : Thread Cert.OddInIdeal.nD Cert.OddInIdeal.τ).loc Cert.OddInIdeal.main_v35)) (v9 : (c : Dev Cert.OddInIdeal.nD) → Buf (Elt Ideal) ((c.tc : Thread Cert.OddInIdeal.nD Cert.OddInIdeal.τ).loc Cert.OddInIdeal.main_v36)) (v10 : (c : Dev Cert.OddInIdeal.nD) → Buf (Elt Ideal) ((c.tc : Thread Cert.OddInIdeal.nD Cert.OddInIdeal.τ).loc Cert.OddInIdeal.main_v38)) (v11 : (c : Dev Cert.OddInIdeal.nD) → Buf (Elt Ideal) ((c.tc : Thread Cert.OddInIdeal.nD Cert.OddInIdeal.τ).loc Cert.OddInIdeal.main_v40)) (v12 : (c : Dev Cert.OddInIdeal.nD) → Buf (Elt Ideal) ((c.tc : Thread Cert.OddInIdeal.nD Cert.OddInIdeal.τ).loc Cert.OddInIdeal.main_v42)) (v13 : (c : Dev Cert.OddInIdeal.nD) → Buf (Elt Ideal) ((c.tc : Thread Cert.OddInIdeal.nD Cert.OddInIdeal.τ).loc Cert.OddInIdeal.main_v43)),
      θ_run (Cert.OddInIdeal.defs (F := Ideal)) (onTc (τ := Cert.OddInIdeal.τ) (Cert.OddInIdeal.main (F := Ideal))) ⟨m, fun _ => 0, g⟩ (fun r => ∀ c : Dev Cert.OddInIdeal.nD,
          r.2.mem ((c.tc : Thread Cert.OddInIdeal.nD Cert.OddInIdeal.τ).loc Cert.OddInIdeal.main_v27) = v0 c
          ∧ r.2.mem ((c.tc : Thread Cert.OddInIdeal.nD Cert.OddInIdeal.τ).loc Cert.OddInIdeal.main_v28) = v1 c
          ∧ r.2.mem ((c.tc : Thread Cert.OddInIdeal.nD Cert.OddInIdeal.τ).loc Cert.OddInIdeal.main_v29) = v2 c
          ∧ r.2.mem ((c.tc : Thread Cert.OddInIdeal.nD Cert.OddInIdeal.τ).loc Cert.OddInIdeal.main_v30) = v3 c
          ∧ r.2.mem ((c.tc : Thread Cert.OddInIdeal.nD Cert.OddInIdeal.τ).loc Cert.OddInIdeal.main_v31) = v4 c
          ∧ r.2.mem ((c.tc : Thread Cert.OddInIdeal.nD Cert.OddInIdeal.τ).loc Cert.OddInIdeal.main_v32) = v5 c
          ∧ r.2.mem ((c.tc : Thread Cert.OddInIdeal.nD Cert.OddInIdeal.τ).loc Cert.OddInIdeal.main_v33) = v6 c
          ∧ r.2.mem ((c.tc : Thread Cert.OddInIdeal.nD Cert.OddInIdeal.τ).loc Cert.OddInIdeal.main_v34) = v7 c
          ∧ r.2.mem ((c.tc : Thread Cert.OddInIdeal.nD Cert.OddInIdeal.τ).loc Cert.OddInIdeal.main_v35) = v8 c
          ∧ r.2.mem ((c.tc : Thread Cert.OddInIdeal.nD Cert.OddInIdeal.τ).loc Cert.OddInIdeal.main_v36) = v9 c
          ∧ r.2.mem ((c.tc : Thread Cert.OddInIdeal.nD Cert.OddInIdeal.τ).loc Cert.OddInIdeal.main_v38) = v10 c
          ∧ r.2.mem ((c.tc : Thread Cert.OddInIdeal.nD Cert.OddInIdeal.τ).loc Cert.OddInIdeal.main_v40) = v11 c
          ∧ r.2.mem ((c.tc : Thread Cert.OddInIdeal.nD Cert.OddInIdeal.τ).loc Cert.OddInIdeal.main_v42) = v12 c
          ∧ r.2.mem ((c.tc : Thread Cert.OddInIdeal.nD Cert.OddInIdeal.τ).loc Cert.OddInIdeal.main_v43) = v13 c
          ∧ r.2.mem ((c.tc : Thread Cert.OddInIdeal.nD Cert.OddInIdeal.τ).loc Cert.OddInIdeal.main_arg0) = m ((c.tc : Thread Cert.OddInIdeal.nD Cert.OddInIdeal.τ).loc Cert.OddInIdeal.main_arg0)
          ∧ r.2.mem ((c.tc : Thread Cert.OddInIdeal.nD Cert.OddInIdeal.τ).loc Cert.OddInIdeal.main_arg1) = m ((c.tc : Thread Cert.OddInIdeal.nD Cert.OddInIdeal.τ).loc Cert.OddInIdeal.main_arg1))
      ∧ θ_run (Cert.OddInRefIdeal.defs (F := Ideal)) (onTc (τ := Cert.OddInRefIdeal.τ) (Cert.OddInRefIdeal.main (F := Ideal))) ⟨m', fun _ => 0, g'⟩ (fun r => ∀ c : Dev Cert.OddInRefIdeal.nD,
          r.2.mem ((c.tc : Thread Cert.OddInRefIdeal.nD Cert.OddInRefIdeal.τ).loc Cert.OddInRefIdeal.main_v1) = v0 c
          ∧ r.2.mem ((c.tc : Thread Cert.OddInRefIdeal.nD Cert.OddInRefIdeal.τ).loc Cert.OddInRefIdeal.main_v2) = v1 c
          ∧ r.2.mem ((c.tc : Thread Cert.OddInRefIdeal.nD Cert.OddInRefIdeal.τ).loc Cert.OddInRefIdeal.main_v3) = v2 c
          ∧ r.2.mem ((c.tc : Thread Cert.OddInRefIdeal.nD Cert.OddInRefIdeal.τ).loc Cert.OddInRefIdeal.main_v4) = v3 c
          ∧ r.2.mem ((c.tc : Thread Cert.OddInRefIdeal.nD Cert.OddInRefIdeal.τ).loc Cert.OddInRefIdeal.main_v5) = v4 c
          ∧ r.2.mem ((c.tc : Thread Cert.OddInRefIdeal.nD Cert.OddInRefIdeal.τ).loc Cert.OddInRefIdeal.main_v6) = v5 c
          ∧ r.2.mem ((c.tc : Thread Cert.OddInRefIdeal.nD Cert.OddInRefIdeal.τ).loc Cert.OddInRefIdeal.main_v7) = v6 c
          ∧ r.2.mem ((c.tc : Thread Cert.OddInRefIdeal.nD Cert.OddInRefIdeal.τ).loc Cert.OddInRefIdeal.main_v8) = v7 c
          ∧ r.2.mem ((c.tc : Thread Cert.OddInRefIdeal.nD Cert.OddInRefIdeal.τ).loc Cert.OddInRefIdeal.main_v9) = v8 c
          ∧ r.2.mem ((c.tc : Thread Cert.OddInRefIdeal.nD Cert.OddInRefIdeal.τ).loc Cert.OddInRefIdeal.main_v10) = v9 c
          ∧ r.2.mem ((c.tc : Thread Cert.OddInRefIdeal.nD Cert.OddInRefIdeal.τ).loc Cert.OddInRefIdeal.main_v12) = v10 c
          ∧ r.2.mem ((c.tc : Thread Cert.OddInRefIdeal.nD Cert.OddInRefIdeal.τ).loc Cert.OddInRefIdeal.main_v14) = v11 c
          ∧ r.2.mem ((c.tc : Thread Cert.OddInRefIdeal.nD Cert.OddInRefIdeal.τ).loc Cert.OddInRefIdeal.main_v16) = v12 c
          ∧ r.2.mem ((c.tc : Thread Cert.OddInRefIdeal.nD Cert.OddInRefIdeal.τ).loc Cert.OddInRefIdeal.main_v19) = v13 c
          ∧ r.2.mem ((c.tc : Thread Cert.OddInRefIdeal.nD Cert.OddInRefIdeal.τ).loc Cert.OddInRefIdeal.main_arg0) = m' ((c.tc : Thread Cert.OddInRefIdeal.nD Cert.OddInRefIdeal.τ).loc Cert.OddInRefIdeal.main_arg0)
          ∧ r.2.mem ((c.tc : Thread Cert.OddInRefIdeal.nD Cert.OddInRefIdeal.τ).loc Cert.OddInRefIdeal.main_arg1) = m' ((c.tc : Thread Cert.OddInRefIdeal.nD Cert.OddInRefIdeal.τ).loc Cert.OddInRefIdeal.main_arg1))

def preserves_Rope_RopeIdeal : Prop :=
  True

def algebraic_RopeIdeal_RopeRefIdeal [hRopeIdeal : Cert.RopeIdeal.Facts] [hRopeRefIdeal : Cert.RopeRefIdeal.Facts] : Prop :=
  ∀ (m : (ℓ : Loc Cert.RopeIdeal.nD Cert.RopeIdeal.τ Cert.RopeIdeal.sig) → Buf (Elt Ideal) ℓ) (g : Dev Cert.RopeIdeal.nD → PrngReg)
    (m' : (ℓ : Loc Cert.RopeRefIdeal.nD Cert.RopeRefIdeal.τ Cert.RopeRefIdeal.sig) → Buf (Elt Ideal) ℓ) (g' : Dev Cert.RopeRefIdeal.nD → PrngReg), Pre_RopeIdeal m →
    (∀ c : Dev Cert.RopeIdeal.nD,
      m' ((c.tc : Thread Cert.RopeRefIdeal.nD Cert.RopeRefIdeal.τ).loc Cert.RopeRefIdeal.main_arg0) = m ((c.tc : Thread Cert.RopeIdeal.nD Cert.RopeIdeal.τ).loc Cert.RopeIdeal.main_arg0)) →
    ∃ (v0 : (c : Dev Cert.RopeIdeal.nD) → Buf (Elt Ideal) ((c.tc : Thread Cert.RopeIdeal.nD Cert.RopeIdeal.τ).loc Cert.RopeIdeal.main_v56)) (v1 : (c : Dev Cert.RopeIdeal.nD) → Buf (Elt Ideal) ((c.tc : Thread Cert.RopeIdeal.nD Cert.RopeIdeal.τ).loc Cert.RopeIdeal.main_v58)) (v2 : (c : Dev Cert.RopeIdeal.nD) → Buf (Elt Ideal) ((c.tc : Thread Cert.RopeIdeal.nD Cert.RopeIdeal.τ).loc Cert.RopeIdeal.main_v60)) (v3 : (c : Dev Cert.RopeIdeal.nD) → Buf (Elt Ideal) ((c.tc : Thread Cert.RopeIdeal.nD Cert.RopeIdeal.τ).loc Cert.RopeIdeal.main_v62)),
      θ_run (Cert.RopeIdeal.defs (F := Ideal)) (onTc (τ := Cert.RopeIdeal.τ) (Cert.RopeIdeal.main (F := Ideal))) ⟨m, fun _ => 0, g⟩ (fun r => ∀ c : Dev Cert.RopeIdeal.nD,
          r.2.mem ((c.tc : Thread Cert.RopeIdeal.nD Cert.RopeIdeal.τ).loc Cert.RopeIdeal.main_v56) = v0 c
          ∧ r.2.mem ((c.tc : Thread Cert.RopeIdeal.nD Cert.RopeIdeal.τ).loc Cert.RopeIdeal.main_v58) = v1 c
          ∧ r.2.mem ((c.tc : Thread Cert.RopeIdeal.nD Cert.RopeIdeal.τ).loc Cert.RopeIdeal.main_v60) = v2 c
          ∧ r.2.mem ((c.tc : Thread Cert.RopeIdeal.nD Cert.RopeIdeal.τ).loc Cert.RopeIdeal.main_v62) = v3 c
          ∧ r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0))
      ∧ θ_run (Cert.RopeRefIdeal.defs (F := Ideal)) (onTc (τ := Cert.RopeRefIdeal.τ) (Cert.RopeRefIdeal.main (F := Ideal))) ⟨m', fun _ => 0, g'⟩ (fun r => ∀ c : Dev Cert.RopeRefIdeal.nD,
          r.2.mem ((c.tc : Thread Cert.RopeRefIdeal.nD Cert.RopeRefIdeal.τ).loc Cert.RopeRefIdeal.main_v36) = v0 c
          ∧ r.2.mem ((c.tc : Thread Cert.RopeRefIdeal.nD Cert.RopeRefIdeal.τ).loc Cert.RopeRefIdeal.main_v65) = v1 c
          ∧ r.2.mem ((c.tc : Thread Cert.RopeRefIdeal.nD Cert.RopeRefIdeal.τ).loc Cert.RopeRefIdeal.main_v96) = v2 c
          ∧ r.2.mem ((c.tc : Thread Cert.RopeRefIdeal.nD Cert.RopeRefIdeal.τ).loc Cert.RopeRefIdeal.main_v129) = v3 c
          ∧ r.2.mem ((c.tc : Thread Cert.RopeRefIdeal.nD Cert.RopeRefIdeal.τ).loc Cert.RopeRefIdeal.main_arg0) = m' ((c.tc : Thread Cert.RopeRefIdeal.nD Cert.RopeRefIdeal.τ).loc Cert.RopeRefIdeal.main_arg0))

def preserves_Scan_ScanIdeal : Prop :=
  True

def algebraic_ScanIdeal_ScanRefIdeal [hScanIdeal : Cert.ScanIdeal.Facts] [hScanRefIdeal : Cert.ScanRefIdeal.Facts] : Prop :=
  ∀ (m : (ℓ : Loc Cert.ScanIdeal.nD Cert.ScanIdeal.τ Cert.ScanIdeal.sig) → Buf (Elt Ideal) ℓ) (g : Dev Cert.ScanIdeal.nD → PrngReg)
    (m' : (ℓ : Loc Cert.ScanRefIdeal.nD Cert.ScanRefIdeal.τ Cert.ScanRefIdeal.sig) → Buf (Elt Ideal) ℓ) (g' : Dev Cert.ScanRefIdeal.nD → PrngReg), Pre_ScanIdeal m →
    (∀ c : Dev Cert.ScanIdeal.nD,
      m' ((c.tc : Thread Cert.ScanRefIdeal.nD Cert.ScanRefIdeal.τ).loc Cert.ScanRefIdeal.main_arg0) = m ((c.tc : Thread Cert.ScanIdeal.nD Cert.ScanIdeal.τ).loc Cert.ScanIdeal.main_arg0)
      ∧ m' ((c.tc : Thread Cert.ScanRefIdeal.nD Cert.ScanRefIdeal.τ).loc Cert.ScanRefIdeal.main_arg1) = m ((c.tc : Thread Cert.ScanIdeal.nD Cert.ScanIdeal.τ).loc Cert.ScanIdeal.main_arg1)
      ∧ m' ((c.tc : Thread Cert.ScanRefIdeal.nD Cert.ScanRefIdeal.τ).loc Cert.ScanRefIdeal.main_arg2) = m ((c.tc : Thread Cert.ScanIdeal.nD Cert.ScanIdeal.τ).loc Cert.ScanIdeal.main_arg2)
      ∧ m' ((c.tc : Thread Cert.ScanRefIdeal.nD Cert.ScanRefIdeal.τ).loc Cert.ScanRefIdeal.main_arg3) = m ((c.tc : Thread Cert.ScanIdeal.nD Cert.ScanIdeal.τ).loc Cert.ScanIdeal.main_arg3)
      ∧ m' ((c.tc : Thread Cert.ScanRefIdeal.nD Cert.ScanRefIdeal.τ).loc Cert.ScanRefIdeal.main_arg4) = m ((c.tc : Thread Cert.ScanIdeal.nD Cert.ScanIdeal.τ).loc Cert.ScanIdeal.main_arg4)
      ∧ m' ((c.tc : Thread Cert.ScanRefIdeal.nD Cert.ScanRefIdeal.τ).loc Cert.ScanRefIdeal.main_arg5) = m ((c.tc : Thread Cert.ScanIdeal.nD Cert.ScanIdeal.τ).loc Cert.ScanIdeal.main_arg5)
      ∧ m' ((c.tc : Thread Cert.ScanRefIdeal.nD Cert.ScanRefIdeal.τ).loc Cert.ScanRefIdeal.main_arg6) = m ((c.tc : Thread Cert.ScanIdeal.nD Cert.ScanIdeal.τ).loc Cert.ScanIdeal.main_arg6)
      ∧ m' ((c.tc : Thread Cert.ScanRefIdeal.nD Cert.ScanRefIdeal.τ).loc Cert.ScanRefIdeal.main_arg7) = m ((c.tc : Thread Cert.ScanIdeal.nD Cert.ScanIdeal.τ).loc Cert.ScanIdeal.main_arg7)
      ∧ m' ((c.tc : Thread Cert.ScanRefIdeal.nD Cert.ScanRefIdeal.τ).loc Cert.ScanRefIdeal.main_arg8) = m ((c.tc : Thread Cert.ScanIdeal.nD Cert.ScanIdeal.τ).loc Cert.ScanIdeal.main_arg8)) →
    ∃ (v0 : (c : Dev Cert.ScanIdeal.nD) → Buf (Elt Ideal) ((c.tc : Thread Cert.ScanIdeal.nD Cert.ScanIdeal.τ).loc Cert.ScanIdeal.main_v1_0)) (v1 : (c : Dev Cert.ScanIdeal.nD) → Buf (Elt Ideal) ((c.tc : Thread Cert.ScanIdeal.nD Cert.ScanIdeal.τ).loc Cert.ScanIdeal.main_v1_1)),
      θ_run (Cert.ScanIdeal.defs (F := Ideal)) (onTc (τ := Cert.ScanIdeal.τ) (Cert.ScanIdeal.main (F := Ideal))) ⟨m, fun _ => 0, g⟩ (fun r => ∀ c : Dev Cert.ScanIdeal.nD,
          r.2.mem ((c.tc : Thread Cert.ScanIdeal.nD Cert.ScanIdeal.τ).loc Cert.ScanIdeal.main_v1_0) = v0 c
          ∧ r.2.mem ((c.tc : Thread Cert.ScanIdeal.nD Cert.ScanIdeal.τ).loc Cert.ScanIdeal.main_v1_1) = v1 c
          ∧ r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
          ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1)
          ∧ r.2.mem ((c.tc : Thread Cert.ScanIdeal.nD Cert.ScanIdeal.τ).loc Cert.ScanIdeal.main_arg2) = m ((c.tc : Thread Cert.ScanIdeal.nD Cert.ScanIdeal.τ).loc Cert.ScanIdeal.main_arg2)
          ∧ r.2.mem ((c.tc : Thread Cert.ScanIdeal.nD Cert.ScanIdeal.τ).loc Cert.ScanIdeal.main_arg3) = m ((c.tc : Thread Cert.ScanIdeal.nD Cert.ScanIdeal.τ).loc Cert.ScanIdeal.main_arg3)
          ∧ r.2.mem ((c.tc : Thread Cert.ScanIdeal.nD Cert.ScanIdeal.τ).loc Cert.ScanIdeal.main_arg4) = m ((c.tc : Thread Cert.ScanIdeal.nD Cert.ScanIdeal.τ).loc Cert.ScanIdeal.main_arg4)
          ∧ r.2.mem ((c.tc : Thread Cert.ScanIdeal.nD Cert.ScanIdeal.τ).loc Cert.ScanIdeal.main_arg5) = m ((c.tc : Thread Cert.ScanIdeal.nD Cert.ScanIdeal.τ).loc Cert.ScanIdeal.main_arg5)
          ∧ r.2.mem ((c.tc : Thread Cert.ScanIdeal.nD Cert.ScanIdeal.τ).loc Cert.ScanIdeal.main_arg6) = m ((c.tc : Thread Cert.ScanIdeal.nD Cert.ScanIdeal.τ).loc Cert.ScanIdeal.main_arg6)
          ∧ r.2.mem ((c.tc : Thread Cert.ScanIdeal.nD Cert.ScanIdeal.τ).loc Cert.ScanIdeal.main_arg7) = m ((c.tc : Thread Cert.ScanIdeal.nD Cert.ScanIdeal.τ).loc Cert.ScanIdeal.main_arg7)
          ∧ r.2.mem ((c.tc : Thread Cert.ScanIdeal.nD Cert.ScanIdeal.τ).loc Cert.ScanIdeal.main_arg8) = m ((c.tc : Thread Cert.ScanIdeal.nD Cert.ScanIdeal.τ).loc Cert.ScanIdeal.main_arg8))
      ∧ θ_run (Cert.ScanRefIdeal.defs (F := Ideal)) (onTc (τ := Cert.ScanRefIdeal.τ) (Cert.ScanRefIdeal.main (F := Ideal))) ⟨m', fun _ => 0, g'⟩ (fun r => ∀ c : Dev Cert.ScanRefIdeal.nD,
          r.2.mem ((c.tc : Thread Cert.ScanRefIdeal.nD Cert.ScanRefIdeal.τ).loc Cert.ScanRefIdeal.main_v44) = v0 c
          ∧ r.2.mem ((c.tc : Thread Cert.ScanRefIdeal.nD Cert.ScanRefIdeal.τ).loc Cert.ScanRefIdeal.main_v16) = v1 c
          ∧ r.2.mem ((c.tc : Thread Cert.ScanRefIdeal.nD Cert.ScanRefIdeal.τ).loc Cert.ScanRefIdeal.main_arg0) = m' ((c.tc : Thread Cert.ScanRefIdeal.nD Cert.ScanRefIdeal.τ).loc Cert.ScanRefIdeal.main_arg0)
          ∧ r.2.mem ((c.tc : Thread Cert.ScanRefIdeal.nD Cert.ScanRefIdeal.τ).loc Cert.ScanRefIdeal.main_arg1) = m' ((c.tc : Thread Cert.ScanRefIdeal.nD Cert.ScanRefIdeal.τ).loc Cert.ScanRefIdeal.main_arg1)
          ∧ r.2.mem ((c.tc : Thread Cert.ScanRefIdeal.nD Cert.ScanRefIdeal.τ).loc Cert.ScanRefIdeal.main_arg2) = m' ((c.tc : Thread Cert.ScanRefIdeal.nD Cert.ScanRefIdeal.τ).loc Cert.ScanRefIdeal.main_arg2)
          ∧ r.2.mem ((c.tc : Thread Cert.ScanRefIdeal.nD Cert.ScanRefIdeal.τ).loc Cert.ScanRefIdeal.main_arg3) = m' ((c.tc : Thread Cert.ScanRefIdeal.nD Cert.ScanRefIdeal.τ).loc Cert.ScanRefIdeal.main_arg3)
          ∧ r.2.mem ((c.tc : Thread Cert.ScanRefIdeal.nD Cert.ScanRefIdeal.τ).loc Cert.ScanRefIdeal.main_arg4) = m' ((c.tc : Thread Cert.ScanRefIdeal.nD Cert.ScanRefIdeal.τ).loc Cert.ScanRefIdeal.main_arg4)
          ∧ r.2.mem ((c.tc : Thread Cert.ScanRefIdeal.nD Cert.ScanRefIdeal.τ).loc Cert.ScanRefIdeal.main_arg5) = m' ((c.tc : Thread Cert.ScanRefIdeal.nD Cert.ScanRefIdeal.τ).loc Cert.ScanRefIdeal.main_arg5)
          ∧ r.2.mem ((c.tc : Thread Cert.ScanRefIdeal.nD Cert.ScanRefIdeal.τ).loc Cert.ScanRefIdeal.main_arg6) = m' ((c.tc : Thread Cert.ScanRefIdeal.nD Cert.ScanRefIdeal.τ).loc Cert.ScanRefIdeal.main_arg6)
          ∧ r.2.mem ((c.tc : Thread Cert.ScanRefIdeal.nD Cert.ScanRefIdeal.τ).loc Cert.ScanRefIdeal.main_arg7) = m' ((c.tc : Thread Cert.ScanRefIdeal.nD Cert.ScanRefIdeal.τ).loc Cert.ScanRefIdeal.main_arg7)
          ∧ r.2.mem ((c.tc : Thread Cert.ScanRefIdeal.nD Cert.ScanRefIdeal.τ).loc Cert.ScanRefIdeal.main_arg8) = m' ((c.tc : Thread Cert.ScanRefIdeal.nD Cert.ScanRefIdeal.τ).loc Cert.ScanRefIdeal.main_arg8))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)) →
    ∃ (v0 : (c : Dev Cert.MixIdeal.nD) → Buf (Elt Ideal) ((c.tc : Thread Cert.MixIdeal.nD Cert.MixIdeal.τ).loc Cert.MixIdeal.main_v1)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v1) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v2) = v0 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2))

def Claim : Prop :=
  ∃ (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hEvenP : Cert.EvenP.Facts) (hEvenPIdeal : Cert.EvenPIdeal.Facts) (hEvenPRefIdeal : Cert.EvenPRefIdeal.Facts) (hEvenS : Cert.EvenS.Facts) (hEvenSIdeal : Cert.EvenSIdeal.Facts) (hEvenSRefIdeal : Cert.EvenSRefIdeal.Facts) (hOddIn : Cert.OddIn.Facts) (hOddInIdeal : Cert.OddInIdeal.Facts) (hOddInRefIdeal : Cert.OddInRefIdeal.Facts) (hRope : Cert.Rope.Facts) (hRopeIdeal : Cert.RopeIdeal.Facts) (hRopeRefIdeal : Cert.RopeRefIdeal.Facts) (hScan : Cert.Scan.Facts) (hScanIdeal : Cert.ScanIdeal.Facts) (hScanRefIdeal : Cert.ScanRefIdeal.Facts) (hMix : Cert.Mix.Facts) (hMixIdeal : Cert.MixIdeal.Facts) (hMixRefIdeal : Cert.MixRefIdeal.Facts) (hPre_experts_named : Cert.Pre_experts_named.Facts) (hPre_experts_named_down : Cert.Pre_experts_named_down.Facts),
    quiescent_Up (hUp := hUp) (hPre_experts_named := hPre_experts_named)
    ∧ quiescent_UpIdeal (hUpIdeal := hUpIdeal) (hPre_experts_named := hPre_experts_named)
    ∧ quiescent_UpRefIdeal (hUpRefIdeal := hUpRefIdeal) (hPre_experts_named := hPre_experts_named)
    ∧ quiescent_Down (hDown := hDown) (hPre_experts_named_down := hPre_experts_named_down)
    ∧ quiescent_DownIdeal (hDownIdeal := hDownIdeal) (hPre_experts_named_down := hPre_experts_named_down)
    ∧ quiescent_DownRefIdeal (hDownRefIdeal := hDownRefIdeal) (hPre_experts_named_down := hPre_experts_named_down)
    ∧ quiescent_EvenP (hEvenP := hEvenP)
    ∧ quiescent_EvenPIdeal (hEvenPIdeal := hEvenPIdeal)
    ∧ quiescent_EvenPRefIdeal (hEvenPRefIdeal := hEvenPRefIdeal)
    ∧ quiescent_EvenS (hEvenS := hEvenS)
    ∧ quiescent_EvenSIdeal (hEvenSIdeal := hEvenSIdeal)
    ∧ quiescent_EvenSRefIdeal (hEvenSRefIdeal := hEvenSRefIdeal)
    ∧ quiescent_OddIn (hOddIn := hOddIn)
    ∧ quiescent_OddInIdeal (hOddInIdeal := hOddInIdeal)
    ∧ quiescent_OddInRefIdeal (hOddInRefIdeal := hOddInRefIdeal)
    ∧ quiescent_Rope (hRope := hRope)
    ∧ quiescent_RopeIdeal (hRopeIdeal := hRopeIdeal)
    ∧ quiescent_RopeRefIdeal (hRopeRefIdeal := hRopeRefIdeal)
    ∧ quiescent_Scan (hScan := hScan)
    ∧ quiescent_ScanIdeal (hScanIdeal := hScanIdeal)
    ∧ quiescent_ScanRefIdeal (hScanRefIdeal := hScanRefIdeal)
    ∧ quiescent_Mix (hMix := hMix)
    ∧ quiescent_MixIdeal (hMixIdeal := hMixIdeal)
    ∧ quiescent_MixRefIdeal (hMixRefIdeal := hMixRefIdeal)
    ∧ preserves_Up_UpIdeal
    ∧ algebraic_UpIdeal_UpRefIdeal (hUpIdeal := hUpIdeal) (hUpRefIdeal := hUpRefIdeal) (hPre_experts_named := hPre_experts_named)
    ∧ preserves_Down_DownIdeal
    ∧ algebraic_DownIdeal_DownRefIdeal (hDownIdeal := hDownIdeal) (hDownRefIdeal := hDownRefIdeal) (hPre_experts_named_down := hPre_experts_named_down)
    ∧ preserves_EvenP_EvenPIdeal
    ∧ algebraic_EvenPIdeal_EvenPRefIdeal (hEvenPIdeal := hEvenPIdeal) (hEvenPRefIdeal := hEvenPRefIdeal)
    ∧ preserves_EvenS_EvenSIdeal
    ∧ algebraic_EvenSIdeal_EvenSRefIdeal (hEvenSIdeal := hEvenSIdeal) (hEvenSRefIdeal := hEvenSRefIdeal)
    ∧ preserves_OddIn_OddInIdeal
    ∧ algebraic_OddInIdeal_OddInRefIdeal (hOddInIdeal := hOddInIdeal) (hOddInRefIdeal := hOddInRefIdeal)
    ∧ preserves_Rope_RopeIdeal
    ∧ algebraic_RopeIdeal_RopeRefIdeal (hRopeIdeal := hRopeIdeal) (hRopeRefIdeal := hRopeRefIdeal)
    ∧ preserves_Scan_ScanIdeal
    ∧ algebraic_ScanIdeal_ScanRefIdeal (hScanIdeal := hScanIdeal) (hScanRefIdeal := hScanRefIdeal)
    ∧ preserves_Mix_MixIdeal
    ∧ algebraic_MixIdeal_MixRefIdeal (hMixIdeal := hMixIdeal) (hMixRefIdeal := hMixRefIdeal)
-- ==== Pre_experts_named.lean ====
abbrev S50 : Shape := ⟨1, ![50]⟩
abbrev S1 : Shape := ⟨1, ![1]⟩
abbrev S25600x4096 : Shape := ⟨2, ![25600, 4096]⟩
abbrev S2x16x4096x1024 : Shape := ⟨4, ![2, 16, 4096, 1024]⟩
abbrev S_ : Shape := ⟨0, ![]⟩

class Facts : Prop where
  bcast_S_S50 : S_.BroadcastsInDim S50 (![] : Fin 0 → Fin S50.rank)

variable [Facts]

def fn {F : FTy → Type} [FloatOps F] (main_arg0 : IVec S50 32) (main_arg1 : IVec S1 32) (main_arg2 : FVec F S25600x4096 .bf16) (main_arg3 : FVec F S2x16x4096x1024 .f32) (main_arg4 : FVec F S2x16x4096x1024 .f32) : IVec S50 1 :=
  let main_c : IVec S_ 32 := constantI S_ 32 0#32
  let main_v0 : IVec S50 32 := broadcastInDim S50 ![] bcast_S_S50 main_c
  let main_v1 : IVec S50 1 := cmpi .sge main_arg0 main_v0
  let main_c_0 : IVec S_ 32 := constantI S_ 32 16#32
  let main_v2 : IVec S50 32 := broadcastInDim S50 ![] bcast_S_S50 main_c_0
  let main_v3 : IVec S50 1 := cmpi .slt main_arg0 main_v2
  let main_v4 : IVec S50 1 := andi main_v1 main_v3
  main_v4
-- ==== Pre_experts_named_down.lean ====
abbrev S50 : Shape := ⟨1, ![50]⟩
abbrev S1 : Shape := ⟨1, ![1]⟩
abbrev S25600x1024 : Shape := ⟨2, ![25600, 1024]⟩
abbrev S2x16x1024x4096 : Shape := ⟨4, ![2, 16, 1024, 4096]⟩
abbrev S25600x1 : Shape := ⟨2, ![25600, 1]⟩
abbrev S_ : Shape := ⟨0, ![]⟩

class Facts : Prop where
  bcast_S_S50 : S_.BroadcastsInDim S50 (![] : Fin 0 → Fin S50.rank)

variable [Facts]

def fn {F : FTy → Type} [FloatOps F] (main_arg0 : IVec S50 32) (main_arg1 : IVec S1 32) (main_arg2 : FVec F S25600x1024 .bf16) (main_arg3 : FVec F S2x16x1024x4096 .f32) (main_arg4 : FVec F S25600x1 .f32) : IVec S50 1 :=
  let main_c : IVec S_ 32 := constantI S_ 32 0#32
  let main_v0 : IVec S50 32 := broadcastInDim S50 ![] bcast_S_S50 main_c
  let main_v1 : IVec S50 1 := cmpi .sge main_arg0 main_v0
  let main_c_0 : IVec S_ 32 := constantI S_ 32 16#32
  let main_v2 : IVec S50 32 := broadcastInDim S50 ![] bcast_S_S50 main_c_0
  let main_v3 : IVec S50 1 := cmpi .slt main_arg0 main_v2
  let main_v4 : IVec S50 1 := andi main_v1 main_v3
  main_v4
-- ==== Up.lean ====
abbrev S50 : Shape := ⟨1, ![50]⟩
abbrev S1 : Shape := ⟨1, ![1]⟩
abbrev S25600x4096 : Shape := ⟨2, ![25600, 4096]⟩
abbrev S2x16x4096x1024 : Shape := ⟨4, ![2, 16, 4096, 1024]⟩
abbrev S25600x1024 : Shape := ⟨2, ![25600, 1024]⟩
abbrev S512x4096 : Shape := ⟨2, ![512, 4096]⟩
abbrev S1x1x4096x512 : Shape := ⟨4, ![1, 1, 4096, 512]⟩
abbrev S512x512 : Shape := ⟨2, ![512, 512]⟩
abbrev S4096x512 : Shape := ⟨2, ![4096, 512]⟩
abbrev S1x1x256x512 : Shape := ⟨4, ![1, 1, 256, 512]⟩
abbrev S256x512 : Shape := ⟨2, ![256, 512]⟩

abbrev nBuf : Space → Nat
  | .hbm => 4
  | .vmem => 10
  | .smem => 2
  | _ => 0

abbrev bufTy : (tb : Table) → Fin (tcTables nBuf tb) → BufTy
  | .hbm, ⟨0, _⟩ => ⟨S25600x4096, .bf16⟩
  | .hbm, ⟨1, _⟩ => ⟨S2x16x4096x1024, .f32⟩
  | .hbm, ⟨2, _⟩ => ⟨S2x16x4096x1024, .f32⟩
  | .hbm, ⟨3, _⟩ => ⟨S25600x1024, .bf16⟩
  | .local _ .vmem, ⟨0, _⟩ => ⟨S512x4096, .bf16⟩
  | .local _ .vmem, ⟨1, _⟩ => ⟨S512x4096, .bf16⟩
  | .local _ .vmem, ⟨2, _⟩ => ⟨S1x1x4096x512, .f32⟩
  | .local _ .vmem, ⟨3, _⟩ => ⟨S1x1x4096x512, .f32⟩
  | .local _ .vmem, ⟨4, _⟩ => ⟨S1x1x4096x512, .f32⟩
  | .local _ .vmem, ⟨5, _⟩ => ⟨S1x1x4096x512, .f32⟩
  | .local _ .vmem, ⟨6, _⟩ => ⟨S512x512, .bf16⟩
  | .local _ .vmem, ⟨7, _⟩ => ⟨S512x512, .bf16⟩
  | .local _ .vmem, ⟨8, _⟩ => ⟨S4096x512, .bf16⟩
  | .local _ .vmem, ⟨9, _⟩ => ⟨S4096x512, .bf16⟩
  | .local _ .smem, ⟨0, _⟩ => ⟨S50, .i32⟩
  | .local _ .smem, ⟨1, _⟩ => ⟨S1, .i32⟩
  | _, _ => ⟨S25600x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 50], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v3 : BitVec 32 := Scalar.subi arg1 c1_i32
  let c0_i32_0 : BitVec 32 := 0#32
  let v4 : BitVec 32 := Scalar.maxsi v3 c0_i32_0
  let v5 : Index := Scalar.indexCast v4
  ![v5.toNat]
@[reducible] def k0_t1_loop : Scf.Loop 32 :=
  let c0_i32_5 : BitVec 32 := 0#32
  let c16_i32 : BitVec 32 := 16#32
  let v19 : BitVec 32 := Scalar.addi c0_i32_5 c16_i32
  let c1_i32_6 : BitVec 32 := 1#32
  ⟨c0_i32_5, v19, c1_i32_6⟩
def k0_mult1 (k0_t1 : Fin k0_t1_loop.trips) : BitVec 32 :=
  let c0_i32_5 : BitVec 32 := 0#32
  let c1_i32_6 : BitVec 32 := 1#32
  let arg10 : BitVec 32 := Scf.iv c0_i32_5 c1_i32_6 k0_t1
  let c256_i32 : BitVec 32 := 256#32
  let v21 : BitVec 32 := Scalar.muli arg10 c256_i32
  v21
def k0_off3 (k0_t1 : Fin k0_t1_loop.trips) : Fin 4 → Nat :=
  let c0_12 : Index := 0#32
  let c0_13 : Index := 0#32
  let c0_i32_5 : BitVec 32 := 0#32
  let c1_i32_6 : BitVec 32 := 1#32
  let arg10 : BitVec 32 := Scf.iv c0_i32_5 c1_i32_6 k0_t1
  let c256_i32 : BitVec 32 := 256#32
  let v21 : BitVec 32 := Scalar.muli arg10 c256_i32
  let v22 : BitVec 32 := v21
  let v23 : Index := Scalar.indexCast v22
  let c0_14 : Index := 0#32
  ![0, 0, v23.toNat, 0]
def k0_off4 (k0_t1 : Fin k0_t1_loop.trips) : Fin 2 → Nat :=
  let c0_i32_15 : BitVec 32 := 0#32
  let c0_i32_5 : BitVec 32 := 0#32
  let c1_i32_6 : BitVec 32 := 1#32
  let arg10 : BitVec 32 := Scf.iv c0_i32_5 c1_i32_6 k0_t1
  let c256_i32 : BitVec 32 := 256#32
  let v21 : BitVec 32 := Scalar.muli arg10 c256_i32
  let v22 : BitVec 32 := v21
  let v27 : BitVec 32 := Scalar.addi c0_i32_15 v22
  let v28 : Index := Scalar.indexCast v27
  let c0_16 : Index := 0#32
  ![v28.toNat, 0]
@[reducible] def k0_t2_loop : Scf.Loop 32 :=
  let c0_i32_8 : BitVec 32 := 0#32
  let c16_i32_9 : BitVec 32 := 16#32
  let v20 : BitVec 32 := Scalar.addi c0_i32_8 c16_i32_9
  let c1_i32_10 : BitVec 32 := 1#32
  ⟨c0_i32_8, v20, c1_i32_10⟩
def k0_mult2 (k0_t2 : Fin k0_t2_loop.trips) : BitVec 32 :=
  let c0_i32_8 : BitVec 32 := 0#32
  let c1_i32_10 : BitVec 32 := 1#32
  let arg10 : BitVec 32 := Scf.iv c0_i32_8 c1_i32_10 k0_t2
  let c256_i32 : BitVec 32 := 256#32
  let v21 : BitVec 32 := Scalar.muli arg10 c256_i32
  v21
def k0_off5 (k0_t2 : Fin k0_t2_loop.trips) : Fin 4 → Nat :=
  let c0_12 : Index := 0#32
  let c0_13 : Index := 0#32
  let c0_i32_8 : BitVec 32 := 0#32
  let c1_i32_10 : BitVec 32 := 1#32
  let arg10 : BitVec 32 := Scf.iv c0_i32_8 c1_i32_10 k0_t2
  let c256_i32 : BitVec 32 := 256#32
  let v21 : BitVec 32 := Scalar.muli arg10 c256_i32
  let v22 : BitVec 32 := v21
  let v23 : Index := Scalar.indexCast v22
  let c0_14 : Index := 0#32
  ![0, 0, v23.toNat, 0]
def k0_off6 (k0_t2 : Fin k0_t2_loop.trips) : Fin 2 → Nat :=
  let c0_i32_15 : BitVec 32 := 0#32
  let c0_i32_8 : BitVec 32 := 0#32
  let c1_i32_10 : BitVec 32 := 1#32
  let arg10 : BitVec 32 := Scf.iv c0_i32_8 c1_i32_10 k0_t2
  let c256_i32 : BitVec 32 := 256#32
  let v21 : BitVec 32 := Scalar.muli arg10 c256_i32
  let v22 : BitVec 32 := v21
  let v27 : BitVec 32 := Scalar.addi c0_i32_15 v22
  let v28 : Index := Scalar.indexCast v27
  let c0_16 : Index := 0#32
  ![v28.toNat, 0]
def k0_cond2 (i : grid0.Coords) (v11 : BitVec 32) : BitVec 1 :=
  let arg1 : BitVec 32 := BitVec.ofNat 32 (i 1).val
  let v12 : BitVec 1 := Scalar.cmpi .slt arg1 v11
  let v13 : BitVec 32 := Scalar.extui v12
  let c0_i32_2 : BitVec 32 := 0#32
  let v14 : BitVec 1 := Scalar.cmpi .ne v13 c0_i32_2
  v14

def k0_cond3 (i : grid0.Coords) (v15 : BitVec 32) : BitVec 1 :=
  let arg1 : BitVec 32 := BitVec.ofNat 32 (i 1).val
  let v16 : BitVec 1 := Scalar.cmpi .sge arg1 v15
  let v17 : BitVec 32 := Scalar.extui v16
  let c0_i32_4 : BitVec 32 := 0#32
  let v18 : BitVec 1 := Scalar.cmpi .ne v17 c0_i32_4
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S50.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S50) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg0.toNat]

def cc0_transform_2 (k0_off1_inb : ∀ i : grid0.Coords, ∀ a, (k0_off1 i) a + S1.size a ≤ S50.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S50) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== UpRefIdeal.lean ====
abbrev S50 : Shape := ⟨1, ![50]⟩
abbrev S1 : Shape := ⟨1, ![1]⟩
abbrev S25600x4096 : Shape := ⟨2, ![25600, 4096]⟩
abbrev S2x16x4096x1024 : Shape := ⟨4, ![2, 16, 4096, 1024]⟩
abbrev S1x16x4096x1024 : Shape := ⟨4, ![1, 16, 4096, 1024]⟩
abbrev S16x4096x1024 : Shape := ⟨3, ![16, 4096, 1024]⟩
abbrev S25600x16x1024 : Shape := ⟨3, ![25600, 16, 1024]⟩
abbrev S_ : Shape := ⟨0, ![]⟩
abbrev S50x1 : Shape := ⟨2, ![50, 1]⟩
abbrev S50x512 : Shape := ⟨2, ![50, 512]⟩
abbrev S25600 : Shape := ⟨1, ![25600]⟩
abbrev S25600x1 : Shape := ⟨2, ![25600, 1]⟩
abbrev S16 : Shape := ⟨1, ![16]⟩
abbrev S1x16 : Shape := ⟨2, ![1, 16]⟩
abbrev S25600x16 : Shape := ⟨2, ![25600, 16]⟩
abbrev S25600x16x1 : Shape := ⟨3, ![25600, 16, 1]⟩
abbrev S25600x1024 : Shape := ⟨2, ![25600, 1024]⟩

abbrev nBuf : Space → Nat
  | .hbm => 50
  | .vmem => 0
  | .smem => 0
  | _ => 0

abbrev bufTy : (tb : Table) → Fin (tcTables nBuf tb) → BufTy
  | .hbm, ⟨0, _⟩ => ⟨S50, .i32⟩
  | .hbm, ⟨1, _⟩ => ⟨S1, .i32⟩
  | .hbm, ⟨2, _⟩ => ⟨S25600x4096, .bf16⟩
  | .hbm, ⟨3, _⟩ => ⟨S2x16x4096x1024, .f32⟩
  | .hbm, ⟨4, _⟩ => ⟨S2x16x4096x1024, .f32⟩
  | .hbm, ⟨5, _⟩ => ⟨S25600x4096, .f32⟩
  | .hbm, ⟨6, _⟩ => ⟨S1x16x4096x1024, .f32⟩
  | .hbm, ⟨7, _⟩ => ⟨S16x4096x1024, .f32⟩
  | .hbm, ⟨8, _⟩ => ⟨S25600x16x1024, .f32⟩
  | .hbm, ⟨9, _⟩ => ⟨S25600x16x1024, .f32⟩
  | .hbm, ⟨10, _⟩ => ⟨S25600x16x1024, .f32⟩
  | .hbm, ⟨11, _⟩ => ⟨S_, .f32⟩
  | .hbm, ⟨12, _⟩ => ⟨S25600x16x1024, .f32⟩
  | .hbm, ⟨13, _⟩ => ⟨S25600x16x1024, .f32⟩
  | .hbm, ⟨14, _⟩ => ⟨S_, .f32⟩
  | .hbm, ⟨15, _⟩ => ⟨S25600x16x1024, .f32⟩
  | .hbm, ⟨16, _⟩ => ⟨S25600x16x1024, .f32⟩
  | .hbm, ⟨17, _⟩ => ⟨S25600x16x1024, .f32⟩
  | .hbm, ⟨18, _⟩ => ⟨S1x16x4096x1024, .f32⟩
  | .hbm, ⟨19, _⟩ => ⟨S16x4096x1024, .f32⟩
  | .hbm, ⟨20, _⟩ => ⟨S25600x16x1024, .f32⟩
  | .hbm, ⟨21, _⟩ => ⟨S25600x16x1024, .f32⟩
  | .hbm, ⟨22, _⟩ => ⟨S50x1, .i32⟩
  | .hbm, ⟨23, _⟩ => ⟨S50x512, .i32⟩
  | .hbm, ⟨24, _⟩ => ⟨S25600, .i32⟩
  | .hbm, ⟨25, _⟩ => ⟨S50, .i32⟩
  | .hbm, ⟨26, _⟩ => ⟨S50x1, .i32⟩
  | .hbm, ⟨27, _⟩ => ⟨S50x512, .i32⟩
  | .hbm, ⟨28, _⟩ => ⟨S25600, .i32⟩
  | .hbm, ⟨29, _⟩ => ⟨S25600x1, .i32⟩
  | .hbm, ⟨30, _⟩ => ⟨S16, .i32⟩
  | .hbm, ⟨31, _⟩ => ⟨S1x16, .i32⟩
  | .hbm, ⟨32, _⟩ => ⟨S25600x16, .i32⟩
  | .hbm, ⟨33, _⟩ => ⟨S25600x16, .i32⟩
  | .hbm, ⟨34, _⟩ => ⟨S25600x16, .i1⟩
  | .hbm, ⟨35, _⟩ => ⟨S_, .i32⟩
  | .hbm, ⟨36, _⟩ => ⟨S25600, .i32⟩
  | .hbm, ⟨37, _⟩ => ⟨S25600, .i1⟩
  | .hbm, ⟨38, _⟩ => ⟨S25600x1, .i1⟩
  | .hbm, ⟨39, _⟩ => ⟨S25600x16, .i1⟩
  | .hbm, ⟨40, _⟩ => ⟨S25600x16, .i1⟩
  | .hbm, ⟨41, _⟩ => ⟨S25600x16x1, .i1⟩
  | .hbm, ⟨42, _⟩ => ⟨S_, .f32⟩
  | .hbm, ⟨43, _⟩ => ⟨S_, .f32⟩
  | .hbm, ⟨44, _⟩ => ⟨S25600x16x1024, .i1⟩
  | .hbm, ⟨45, _⟩ => ⟨S25600x16x1024, .f32⟩
  | .hbm, ⟨46, _⟩ => ⟨S25600x16x1024, .f32⟩
  | .hbm, ⟨47, _⟩ => ⟨S_, .f32⟩
  | .hbm, ⟨48, _⟩ => ⟨S25600x1024, .f32⟩
  | .hbm, ⟨49, _⟩ => ⟨S25600x1024, .bf16⟩
  | _, _ => ⟨S50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_v29 : Ref sig .tc := ⟨.hbm, 46, rfl⟩
abbrev main_cst_0 : Ref sig .tc := ⟨.hbm, 47, rfl⟩
abbrev main_v30 : Ref sig .tc := ⟨.hbm, 48, rfl⟩
abbrev main_v31 : Ref sig .tc := ⟨.hbm, 49, rfl⟩

abbrev nD : Nat := 1
abbrev τ : Topo := Topo.v7x

variable {F : FTy → Type} [FloatOps F]
-- ==== Down.lean ====
abbrev S50 : Shape := ⟨1, ![50]⟩
abbrev S1 : Shape := ⟨1, ![1]⟩
abbrev S25600x1024 : Shape := ⟨2, ![25600, 1024]⟩
abbrev S2x16x1024x4096 : Shape := ⟨4, ![2, 16, 1024, 4096]⟩
abbrev S25600x1 : Shape := ⟨2, ![25600, 1]⟩
abbrev S25600x4096 : Shape := ⟨2, ![25600, 4096]⟩
abbrev S512x1024 : Shape := ⟨2, ![512, 1024]⟩
abbrev S1x1x1024x1024 : Shape := ⟨4, ![1, 1, 1024, 1024]⟩
abbrev S512x1 : Shape := ⟨2, ![512, 1]⟩
abbrev S1024x1024 : Shape := ⟨2, ![1024, 1024]⟩
abbrev S1x1x256x1024 : Shape := ⟨4, ![1, 1, 256, 1024]⟩
abbrev S256x1024 : Shape := ⟨2, ![256, 1024]⟩

abbrev nBuf : Space → Nat
  | .hbm => 4
  | .vmem => 9
  | .smem => 2
  | _ => 0

abbrev bufTy : (tb : Table) → Fin (tcTables nBuf tb) → BufTy
  | .hbm, ⟨0, _⟩ => ⟨S25600x1024, .bf16⟩
  | .hbm, ⟨1, _⟩ => ⟨S2x16x1024x4096, .f32⟩
  | .hbm, ⟨2, _⟩ => ⟨S25600x1, .f32⟩
  | .hbm, ⟨3, _⟩ => ⟨S25600x4096, .f32⟩
  | .local _ .vmem, ⟨0, _⟩ => ⟨S512x1024, .bf16⟩
  | .local _ .vmem, ⟨1, _⟩ => ⟨S512x1024, .bf16⟩
  | .local _ .vmem, ⟨2, _⟩ => ⟨S1x1x1024x1024, .f32⟩
  | .local _ .vmem, ⟨3, _⟩ => ⟨S1x1x1024x1024, .f32⟩
  | .local _ .vmem, ⟨4, _⟩ => ⟨S512x1, .f32⟩
  | .local _ .vmem, ⟨5, _⟩ => ⟨S512x1, .f32⟩
  | .local _ .vmem, ⟨6, _⟩ => ⟨S512x1024, .f32⟩
  | .local _ .vmem, ⟨7, _⟩ => ⟨S512x1024, .f32⟩
  | .local _ .vmem, ⟨8, _⟩ => ⟨S1024x1024, .bf16⟩
  | .local _ .smem, ⟨0, _⟩ => ⟨S50, .i32⟩
  | .local _ .smem, ⟨1, _⟩ => ⟨S1, .i32⟩
  | _, _ => ⟨S25600x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 50], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v3 : BitVec 32 := Scalar.subi arg1 c1_i32
  let c0_i32_0 : BitVec 32 := 0#32
  let v4 : BitVec 32 := Scalar.maxsi v3 c0_i32_0
  let v5 : Index := Scalar.indexCast v4
  ![v5.toNat]
@[reducible] def k0_t1_loop : Scf.Loop 32 :=
  let c0_i32_5 : BitVec 32 := 0#32
  let c4_i32 : BitVec 32 := 4#32
  let v19 : BitVec 32 := Scalar.addi c0_i32_5 c4_i32
  let c1_i32_6 : BitVec 32 := 1#32
  ⟨c0_i32_5, v19, c1_i32_6⟩
def k0_mult1 (k0_t1 : Fin k0_t1_loop.trips) : BitVec 32 :=
  let c0_i32_5 : BitVec 32 := 0#32
  let c1_i32_6 : BitVec 32 := 1#32
  let arg9 : BitVec 32 := Scf.iv c0_i32_5 c1_i32_6 k0_t1
  let c256_i32 : BitVec 32 := 256#32
  let v20 : BitVec 32 := Scalar.muli arg9 c256_i32
  v20
def k0_off3 (k0_t1 : Fin k0_t1_loop.trips) : Fin 4 → Nat :=
  let c0_8 : Index := 0#32
  let c0_9 : Index := 0#32
  let c0_i32_5 : BitVec 32 := 0#32
  let c1_i32_6 : BitVec 32 := 1#32
  let arg9 : BitVec 32 := Scf.iv c0_i32_5 c1_i32_6 k0_t1
  let c256_i32 : BitVec 32 := 256#32
  let v20 : BitVec 32 := Scalar.muli arg9 c256_i32
  let v21 : BitVec 32 := v20
  let v22 : Index := Scalar.indexCast v21
  let c0_10 : Index := 0#32
  ![0, 0, v22.toNat, 0]
def k0_off4 (k0_t1 : Fin k0_t1_loop.trips) : Fin 2 → Nat :=
  let c0_i32_11 : BitVec 32 := 0#32
  let c0_i32_5 : BitVec 32 := 0#32
  let c1_i32_6 : BitVec 32 := 1#32
  let arg9 : BitVec 32 := Scf.iv c0_i32_5 c1_i32_6 k0_t1
  let c256_i32 : BitVec 32 := 256#32
  let v20 : BitVec 32 := Scalar.muli arg9 c256_i32
  let v21 : BitVec 32 := v20
  let v26 : BitVec 32 := Scalar.addi c0_i32_11 v21
  let v27 : Index := Scalar.indexCast v26
  let c0_12 : Index := 0#32
  ![v27.toNat, 0]
def k0_cond2 (i : grid0.Coords) (v11 : BitVec 32) : BitVec 1 :=
  let arg1 : BitVec 32 := BitVec.ofNat 32 (i 1).val
  let v12 : BitVec 1 := Scalar.cmpi .slt arg1 v11
  let v13 : BitVec 32 := Scalar.extui v12
  let c0_i32_2 : BitVec 32 := 0#32
  let v14 : BitVec 1 := Scalar.cmpi .ne v13 c0_i32_2
  v14

def k0_cond3 (i : grid0.Coords) (v15 : BitVec 32) : BitVec 1 :=
  let arg1 : BitVec 32 := BitVec.ofNat 32 (i 1).val
  let v16 : BitVec 1 := Scalar.cmpi .sge arg1 v15
  let v17 : BitVec 32 := Scalar.extui v16
  let c0_i32_4 : BitVec 32 := 0#32
  let v18 : BitVec 1 := Scalar.cmpi .ne v17 c0_i32_4
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S50.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S50) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DownRefIdeal.lean ====
abbrev S50 : Shape := ⟨1, ![50]⟩
abbrev S1 : Shape := ⟨1, ![1]⟩
abbrev S25600x1024 : Shape := ⟨2, ![25600, 1024]⟩
abbrev S2x16x1024x4096 : Shape := ⟨4, ![2, 16, 1024, 4096]⟩
abbrev S25600x1 : Shape := ⟨2, ![25600, 1]⟩
abbrev S50x1 : Shape := ⟨2, ![50, 1]⟩
abbrev S50x512 : Shape := ⟨2, ![50, 512]⟩
abbrev S25600 : Shape := ⟨1, ![25600]⟩
abbrev S16 : Shape := ⟨1, ![16]⟩
abbrev S1x16 : Shape := ⟨2, ![1, 16]⟩
abbrev S25600x16 : Shape := ⟨2, ![25600, 16]⟩
abbrev S_ : Shape := ⟨0, ![]⟩
abbrev S1x16x1024x4096 : Shape := ⟨4, ![1, 16, 1024, 4096]⟩
abbrev S16x1024x4096 : Shape := ⟨3, ![16, 1024, 4096]⟩
abbrev S25600x16x4096 : Shape := ⟨3, ![25600, 16, 4096]⟩
abbrev S25600x16x1 : Shape := ⟨3, ![25600, 16, 1]⟩
abbrev S25600x4096 : Shape := ⟨2, ![25600, 4096]⟩

abbrev nBuf : Space → Nat
  | .hbm => 38
  | .vmem => 0
  | .smem => 0
  | _ => 0

abbrev bufTy : (tb : Table) → Fin (tcTables nBuf tb) → BufTy
  | .hbm, ⟨0, _⟩ => ⟨S50, .i32⟩
  | .hbm, ⟨1, _⟩ => ⟨S1, .i32⟩
  | .hbm, ⟨2, _⟩ => ⟨S25600x1024, .bf16⟩
  | .hbm, ⟨3, _⟩ => ⟨S2x16x1024x4096, .f32⟩
  | .hbm, ⟨4, _⟩ => ⟨S25600x1, .f32⟩
  | .hbm, ⟨5, _⟩ => ⟨S50x1, .i32⟩
  | .hbm, ⟨6, _⟩ => ⟨S50x512, .i32⟩
  | .hbm, ⟨7, _⟩ => ⟨S25600, .i32⟩
  | .hbm, ⟨8, _⟩ => ⟨S50, .i32⟩
  | .hbm, ⟨9, _⟩ => ⟨S50x1, .i32⟩
  | .hbm, ⟨10, _⟩ => ⟨S50x512, .i32⟩
  | .hbm, ⟨11, _⟩ => ⟨S25600, .i32⟩
  | .hbm, ⟨12, _⟩ => ⟨S25600x1, .i32⟩
  | .hbm, ⟨13, _⟩ => ⟨S16, .i32⟩
  | .hbm, ⟨14, _⟩ => ⟨S1x16, .i32⟩
  | .hbm, ⟨15, _⟩ => ⟨S25600x16, .i32⟩
  | .hbm, ⟨16, _⟩ => ⟨S25600x16, .i32⟩
  | .hbm, ⟨17, _⟩ => ⟨S25600x16, .i1⟩
  | .hbm, ⟨18, _⟩ => ⟨S_, .i32⟩
  | .hbm, ⟨19, _⟩ => ⟨S25600, .i32⟩
  | .hbm, ⟨20, _⟩ => ⟨S25600, .i1⟩
  | .hbm, ⟨21, _⟩ => ⟨S25600x1, .i1⟩
  | .hbm, ⟨22, _⟩ => ⟨S25600x16, .i1⟩
  | .hbm, ⟨23, _⟩ => ⟨S25600x16, .i1⟩
  | .hbm, ⟨24, _⟩ => ⟨S_, .f32⟩
  | .hbm, ⟨25, _⟩ => ⟨S_, .f32⟩
  | .hbm, ⟨26, _⟩ => ⟨S25600x16, .f32⟩
  | .hbm, ⟨27, _⟩ => ⟨S25600x16, .f32⟩
  | .hbm, ⟨28, _⟩ => ⟨S25600x16, .f32⟩
  | .hbm, ⟨29, _⟩ => ⟨S25600x1024, .f32⟩
  | .hbm, ⟨30, _⟩ => ⟨S1x16x1024x4096, .f32⟩
  | .hbm, ⟨31, _⟩ => ⟨S16x1024x4096, .f32⟩
  | .hbm, ⟨32, _⟩ => ⟨S25600x16x4096, .f32⟩
  | .hbm, ⟨33, _⟩ => ⟨S25600x16x1, .f32⟩
  | .hbm, ⟨34, _⟩ => ⟨S25600x16x4096, .f32⟩
  | .hbm, ⟨35, _⟩ => ⟨S25600x16x4096, .f32⟩
  | .hbm, ⟨36, _⟩ => ⟨S_, .f32⟩
  | .hbm, ⟨37, _⟩ => ⟨S25600x4096, .f32⟩
  | _, _ => ⟨S50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_0 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== EvenP.lean ====
abbrev S1x8192x4096 : Shape := ⟨3, ![1, 8192, 4096]⟩
abbrev S4096x12288 : Shape := ⟨2, ![4096, 12288]⟩
abbrev S8192x4096 : Shape := ⟨2, ![8192, 4096]⟩
abbrev S8192x12288 : Shape := ⟨2, ![8192, 12288]⟩
abbrev S512x4096 : Shape := ⟨2, ![512, 4096]⟩
abbrev S4096x1024 : Shape := ⟨2, ![4096, 1024]⟩
abbrev S512x1024 : Shape := ⟨2, ![512, 1024]⟩
abbrev S1x8192x12288 : Shape := ⟨3, ![1, 8192, 12288]⟩
abbrev S1x8192x2048 : Shape := ⟨3, ![1, 8192, 2048]⟩
abbrev S1x8192x16x128 : Shape := ⟨4, ![1, 8192, 16, 128]⟩
abbrev S1x512x2048 : Shape := ⟨3, ![1, 512, 2048]⟩
abbrev S1x512x16x128 : Shape := ⟨4, ![1, 512, 16, 128]⟩

abbrev nBuf : Space → Nat
  | .hbm => 17
  | .vmem => 6
  | .smem => 0
  | _ => 0

abbrev bufTy : (tb : Table) → Fin (tcTables nBuf tb) → BufTy
  | .hbm, ⟨0, _⟩ => ⟨S1x8192x4096, .f32⟩
  | .hbm, ⟨1, _⟩ => ⟨S4096x12288, .f32⟩
  | .hbm, ⟨2, _⟩ => ⟨S8192x4096, .f32⟩
  | .hbm, ⟨3, _⟩ => ⟨S8192x4096, .bf16⟩
  | .hbm, ⟨4, _⟩ => ⟨S4096x12288, .bf16⟩
  | .hbm, ⟨5, _⟩ => ⟨S8192x12288, .f32⟩
  | .hbm, ⟨6, _⟩ => ⟨S1x8192x12288, .f32⟩
  | .hbm, ⟨7, _⟩ => ⟨S1x8192x2048, .f32⟩
  | .hbm, ⟨8, _⟩ => ⟨S1x8192x16x128, .f32⟩
  | .hbm, ⟨9, _⟩ => ⟨S1x8192x2048, .f32⟩
  | .hbm, ⟨10, _⟩ => ⟨S1x8192x16x128, .f32⟩
  | .hbm, ⟨11, _⟩ => ⟨S1x8192x2048, .f32⟩
  | .hbm, ⟨12, _⟩ => ⟨S1x512x2048, .f32⟩
  | .hbm, ⟨13, _⟩ => ⟨S1x512x16x128, .f32⟩
  | .hbm, ⟨14, _⟩ => ⟨S1x8192x2048, .f32⟩
  | .hbm, ⟨15, _⟩ => ⟨S1x512x2048, .f32⟩
  | .hbm, ⟨16, _⟩ => ⟨S1x512x16x128, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .f32⟩
  | .local _ .vmem, ⟨5, _⟩ => ⟨S512x1024, .f32⟩
  | _, _ => ⟨S1x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![12, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== EvenPRefIdeal.lean ====
abbrev S1x8192x4096 : Shape := ⟨3, ![1, 8192, 4096]⟩
abbrev S4096x12288 : Shape := ⟨2, ![4096, 12288]⟩
abbrev S1x8192x12288 : Shape := ⟨3, ![1, 8192, 12288]⟩
abbrev S1x8192x2048 : Shape := ⟨3, ![1, 8192, 2048]⟩
abbrev S1x8192x16x128 : Shape := ⟨4, ![1, 8192, 16, 128]⟩
abbrev S1x512x16x128 : Shape := ⟨4, ![1, 512, 16, 128]⟩

abbrev nBuf : Space → Nat
  | .hbm => 15
  | .vmem => 0
  | .smem => 0
  | _ => 0

abbrev bufTy : (tb : Table) → Fin (tcTables nBuf tb) → BufTy
  | .hbm, ⟨0, _⟩ => ⟨S1x8192x4096, .f32⟩
  | .hbm, ⟨1, _⟩ => ⟨S4096x12288, .f32⟩
  | .hbm, ⟨2, _⟩ => ⟨S1x8192x12288, .f32⟩
  | .hbm, ⟨3, _⟩ => ⟨S1x8192x2048, .f32⟩
  | .hbm, ⟨4, _⟩ => ⟨S1x8192x2048, .f32⟩
  | .hbm, ⟨5, _⟩ => ⟨S1x8192x2048, .f32⟩
  | .hbm, ⟨6, _⟩ => ⟨S1x8192x2048, .f32⟩
  | .hbm, ⟨7, _⟩ => ⟨S1x8192x2048, .f32⟩
  | .hbm, ⟨8, _⟩ => ⟨S1x8192x2048, .f32⟩
  | .hbm, ⟨9, _⟩ => ⟨S1x8192x16x128, .f32⟩
  | .hbm, ⟨10, _⟩ => ⟨S1x8192x16x128, .f32⟩
  | .hbm, ⟨11, _⟩ => ⟨S1x8192x16x128, .f32⟩
  | .hbm, ⟨12, _⟩ => ⟨S1x8192x16x128, .f32⟩
  | .hbm, ⟨13, _⟩ => ⟨S1x512x16x128, .f32⟩
  | .hbm, ⟨14, _⟩ => ⟨S1x512x16x128, .f32⟩
  | _, _ => ⟨S1x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩

abbrev nD : Nat := 1
abbrev τ : Topo := Topo.v7x

variable {F : FTy → Type} [FloatOps F]
-- ==== EvenS.lean ====
abbrev S16x32x4096 : Shape := ⟨3, ![16, 32, 4096]⟩
abbrev S4096x12288 : Shape := ⟨2, ![4096, 12288]⟩
abbrev S512x4096 : Shape := ⟨2, ![512, 4096]⟩
abbrev S512x12288 : Shape := ⟨2, ![512, 12288]⟩
abbrev S4096x1024 : Shape := ⟨2, ![4096, 1024]⟩
abbrev S512x1024 : Shape := ⟨2, ![512, 1024]⟩
abbrev S16x32x12288 : Shape := ⟨3, ![16, 32, 12288]⟩
abbrev S16x32x2048 : Shape := ⟨3, ![16, 32, 2048]⟩
abbrev S16x32x16x128 : Shape := ⟨4, ![16, 32, 16, 128]⟩

abbrev nBuf : Space → Nat
  | .hbm => 15
  | .vmem => 5
  | .smem => 0
  | _ => 0

abbrev bufTy : (tb : Table) → Fin (tcTables nBuf tb) → BufTy
  | .hbm, ⟨0, _⟩ => ⟨S16x32x4096, .f32⟩
  | .hbm, ⟨1, _⟩ => ⟨S4096x12288, .f32⟩
  | .hbm, ⟨2, _⟩ => ⟨S512x4096, .f32⟩
  | .hbm, ⟨3, _⟩ => ⟨S512x4096, .bf16⟩
  | .hbm, ⟨4, _⟩ => ⟨S4096x12288, .bf16⟩
  | .hbm, ⟨5, _⟩ => ⟨S512x12288, .f32⟩
  | .hbm, ⟨6, _⟩ => ⟨S16x32x12288, .f32⟩
  | .hbm, ⟨7, _⟩ => ⟨S16x32x2048, .f32⟩
  | .hbm, ⟨8, _⟩ => ⟨S16x32x16x128, .f32⟩
  | .hbm, ⟨9, _⟩ => ⟨S16x32x2048, .f32⟩
  | .hbm, ⟨10, _⟩ => ⟨S16x32x16x128, .f32⟩
  | .hbm, ⟨11, _⟩ => ⟨S16x32x2048, .f32⟩
  | .hbm, ⟨12, _⟩ => ⟨S16x32x16x128, .f32⟩
  | .hbm, ⟨13, _⟩ => ⟨S16x32x2048, .f32⟩
  | .hbm, ⟨14, _⟩ => ⟨S16x32x16x128, .f32⟩
  | .local _ .vmem, ⟨0, _⟩ => ⟨S512x4096, .bf16⟩
  | .local _ .vmem, ⟨1, _⟩ => ⟨S4096x1024, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | _, _ => ⟨S16x32x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![12, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S512x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== EvenSRefIdeal.lean ====
abbrev S16x32x4096 : Shape := ⟨3, ![16, 32, 4096]⟩
abbrev S4096x12288 : Shape := ⟨2, ![4096, 12288]⟩
abbrev S16x32x12288 : Shape := ⟨3, ![16, 32, 12288]⟩
abbrev S16x32x2048 : Shape := ⟨3, ![16, 32, 2048]⟩
abbrev S16x32x16x128 : Shape := ⟨4, ![16, 32, 16, 128]⟩

abbrev nBuf : Space → Nat
  | .hbm => 13
  | .vmem => 0
  | .smem => 0
  | _ => 0

abbrev bufTy : (tb : Table) → Fin (tcTables nBuf tb) → BufTy
  | .hbm, ⟨0, _⟩ => ⟨S16x32x4096, .f32⟩
  | .hbm, ⟨1, _⟩ => ⟨S4096x12288, .f32⟩
  | .hbm, ⟨2, _⟩ => ⟨S16x32x12288, .f32⟩
  | .hbm, ⟨3, _⟩ => ⟨S16x32x2048, .f32⟩
  | .hbm, ⟨4, _⟩ => ⟨S16x32x2048, .f32⟩
  | .hbm, ⟨5, _⟩ => ⟨S16x32x2048, .f32⟩
  | .hbm, ⟨6, _⟩ => ⟨S16x32x2048, .f32⟩
  | .hbm, ⟨7, _⟩ => ⟨S16x32x2048, .f32⟩
  | .hbm, ⟨8, _⟩ => ⟨S16x32x2048, .f32⟩
  | .hbm, ⟨9, _⟩ => ⟨S16x32x16x128, .f32⟩
  | .hbm, ⟨10, _⟩ => ⟨S16x32x16x128, .f32⟩
  | .hbm, ⟨11, _⟩ => ⟨S16x32x16x128, .f32⟩
  | .hbm, ⟨12, _⟩ => ⟨S16x32x16x128, .f32⟩
  | _, _ => ⟨S16x32x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩

abbrev nD : Nat := 1
abbrev τ : Topo := Topo.v7x

variable {F : FTy → Type} [FloatOps F]
-- ==== OddIn.lean ====
abbrev S8704x4096 : Shape := ⟨2, ![8704, 4096]⟩
abbrev S4096x12400 : Shape := ⟨2, ![4096, 12400]⟩
abbrev S4096x2048 : Shape := ⟨2, ![4096, 2048]⟩
abbrev S_ : Shape := ⟨0, ![]⟩
abbrev S4096x512 : Shape := ⟨2, ![4096, 512]⟩
abbrev S4096x1024 : Shape := ⟨2, ![4096, 1024]⟩
abbrev S4096x6144 : Shape := ⟨2, ![4096, 6144]⟩
abbrev S4096x64 : Shape := ⟨2, ![4096, 64]⟩
abbrev S4096x128 : Shape := ⟨2, ![4096, 128]⟩
abbrev S4096x16 : Shape := ⟨2, ![4096, 16]⟩
abbrev S4096x12800 : Shape := ⟨2, ![4096, 12800]⟩
abbrev S8704x12800 : Shape := ⟨2, ![8704, 12800]⟩
abbrev S512x4096 : Shape := ⟨2, ![512, 4096]⟩
abbrev S4096x1280 : Shape := ⟨2, ![4096, 1280]⟩
abbrev S512x1280 : Shape := ⟨2, ![512, 1280]⟩
abbrev S512x12800 : Shape := ⟨2, ![512, 12800]⟩
abbrev S512x6144 : Shape := ⟨2, ![512, 6144]⟩
abbrev S16x32x6144 : Shape := ⟨3, ![16, 32, 6144]⟩
abbrev S8704x2048 : Shape := ⟨2, ![8704, 2048]⟩
abbrev S8704x512 : Shape := ⟨2, ![8704, 512]⟩
abbrev S8704x1024 : Shape := ⟨2, ![8704, 1024]⟩
abbrev S8704x64 : Shape := ⟨2, ![8704, 64]⟩
abbrev S8704x16 : Shape := ⟨2, ![8704, 16]⟩
abbrev S8704x6144 : Shape := ⟨2, ![8704, 6144]⟩
abbrev S8192x512 : Shape := ⟨2, ![8192, 512]⟩
abbrev S1x8192x4x128 : Shape := ⟨4, ![1, 8192, 4, 128]⟩
abbrev S512x512 : Shape := ⟨2, ![512, 512]⟩
abbrev S16x32x4x128 : Shape := ⟨4, ![16, 32, 4, 128]⟩
abbrev S3x6144 : Shape := ⟨2, ![3, 6144]⟩
abbrev S1x3x6144 : Shape := ⟨3, ![1, 3, 6144]⟩
abbrev S16x3x6144 : Shape := ⟨3, ![16, 3, 6144]⟩

abbrev nBuf : Space → Nat
  | .hbm => 66
  | .vmem => 6
  | .smem => 0
  | _ => 0

abbrev bufTy : (tb : Table) → Fin (tcTables nBuf tb) → BufTy
  | .hbm, ⟨0, _⟩ => ⟨S8704x4096, .f32⟩
  | .hbm, ⟨1, _⟩ => ⟨S4096x12400, .f32⟩
  | .hbm, ⟨2, _⟩ => ⟨S4096x2048, .f32⟩
  | .hbm, ⟨3, _⟩ => ⟨S_, .i32⟩
  | .hbm, ⟨4, _⟩ => ⟨S_, .f32⟩
  | .hbm, ⟨5, _⟩ => ⟨S4096x2048, .f32⟩
  | .hbm, ⟨6, _⟩ => ⟨S4096x2048, .f32⟩
  | .hbm, ⟨7, _⟩ => ⟨S_, .i32⟩
  | .hbm, ⟨8, _⟩ => ⟨S_, .f32⟩
  | .hbm, ⟨9, _⟩ => ⟨S4096x2048, .f32⟩
  | .hbm, ⟨10, _⟩ => ⟨S4096x512, .f32⟩
  | .hbm, ⟨11, _⟩ => ⟨S_, .i32⟩
  | .hbm, ⟨12, _⟩ => ⟨S_, .f32⟩
  | .hbm, ⟨13, _⟩ => ⟨S4096x512, .f32⟩
  | .hbm, ⟨14, _⟩ => ⟨S4096x512, .f32⟩
  | .hbm, ⟨15, _⟩ => ⟨S_, .i32⟩
  | .hbm, ⟨16, _⟩ => ⟨S_, .f32⟩
  | .hbm, ⟨17, _⟩ => ⟨S4096x512, .f32⟩
  | .hbm, ⟨18, _⟩ => ⟨S4096x1024, .f32⟩
  | .hbm, ⟨19, _⟩ => ⟨S_, .i32⟩
  | .hbm, ⟨20, _⟩ => ⟨S_, .f32⟩
  | .hbm, ⟨21, _⟩ => ⟨S4096x1024, .f32⟩
  | .hbm, ⟨22, _⟩ => ⟨S4096x6144, .f32⟩
  | .hbm, ⟨23, _⟩ => ⟨S_, .i32⟩
  | .hbm, ⟨24, _⟩ => ⟨S_, .f32⟩
  | .hbm, ⟨25, _⟩ => ⟨S4096x6144, .f32⟩
  | .hbm, ⟨26, _⟩ => ⟨S4096x64, .f32⟩
  | .hbm, ⟨27, _⟩ => ⟨S_, .i32⟩
  | .hbm, ⟨28, _⟩ => ⟨S_, .f32⟩
  | .hbm, ⟨29, _⟩ => ⟨S4096x128, .f32⟩
  | .hbm, ⟨30, _⟩ => ⟨S4096x16, .f32⟩
  | .hbm, ⟨31, _⟩ => ⟨S_, .i32⟩
  | .hbm, ⟨32, _⟩ => ⟨S_, .f32⟩
  | .hbm, ⟨33, _⟩ => ⟨S4096x128, .f32⟩
  | .hbm, ⟨34, _⟩ => ⟨S4096x16, .f32⟩
  | .hbm, ⟨35, _⟩ => ⟨S_, .i32⟩
  | .hbm, ⟨36, _⟩ => ⟨S_, .f32⟩
  | .hbm, ⟨37, _⟩ => ⟨S4096x128, .f32⟩
  | .hbm, ⟨38, _⟩ => ⟨S4096x16, .f32⟩
  | .hbm, ⟨39, _⟩ => ⟨S_, .i32⟩
  | .hbm, ⟨40, _⟩ => ⟨S_, .f32⟩
  | .hbm, ⟨41, _⟩ => ⟨S4096x128, .f32⟩
  | .hbm, ⟨42, _⟩ => ⟨S4096x12800, .f32⟩
  | .hbm, ⟨43, _⟩ => ⟨S4096x12800, .bf16⟩
  | .hbm, ⟨44, _⟩ => ⟨S8704x4096, .bf16⟩
  | .hbm, ⟨45, _⟩ => ⟨S8704x12800, .f32⟩
  | .hbm, ⟨46, _⟩ => ⟨S512x12800, .f32⟩
  | .hbm, ⟨47, _⟩ => ⟨S512x6144, .f32⟩
  | .hbm, ⟨48, _⟩ => ⟨S16x32x6144, .f32⟩
  | .hbm, ⟨49, _⟩ => ⟨S8704x2048, .f32⟩
  | .hbm, ⟨50, _⟩ => ⟨S8704x512, .f32⟩
  | .hbm, ⟨51, _⟩ => ⟨S8704x512, .f32⟩
  | .hbm, ⟨52, _⟩ => ⟨S8704x1024, .f32⟩
  | .hbm, ⟨53, _⟩ => ⟨S8704x64, .f32⟩
  | .hbm, ⟨54, _⟩ => ⟨S8704x16, .f32⟩
  | .hbm, ⟨55, _⟩ => ⟨S8704x6144, .f32⟩
  | .hbm, ⟨56, _⟩ => ⟨S8704x16, .f32⟩
  | .hbm, ⟨57, _⟩ => ⟨S8704x16, .f32⟩
  | .hbm, ⟨58, _⟩ => ⟨S8704x2048, .f32⟩
  | .hbm, ⟨59, _⟩ => ⟨S8192x512, .f32⟩
  | .hbm, ⟨60, _⟩ => ⟨S1x8192x4x128, .f32⟩
  | .hbm, ⟨61, _⟩ => ⟨S512x512, .f32⟩
  | .hbm, ⟨62, _⟩ => ⟨S16x32x4x128, .f32⟩
  | .hbm, ⟨63, _⟩ => ⟨S3x6144, .f32⟩
  | .hbm, ⟨64, _⟩ => ⟨S1x3x6144, .f32⟩
  | .hbm, ⟨65, _⟩ => ⟨S16x3x6144, .f32⟩
  | .local _ .vmem, ⟨0, _⟩ => ⟨S512x4096, .bf16⟩
  | .local _ .vmem, ⟨1, _⟩ => ⟨S512x4096, .bf16⟩
  | .local _ .vmem, ⟨2, _⟩ => ⟨S4096x1280, .bf16⟩
  | .local _ .vmem, ⟨3, _⟩ => ⟨S4096x1280, .bf16⟩
  | .local _ .vmem, ⟨4, _⟩ => ⟨S512x1280, .f32⟩
  | .local _ .vmem, ⟨5, _⟩ => ⟨S512x1280, .f32⟩
  | _, _ => ⟨S8704x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_call1_v0 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_call2_v0 : Ref sig .tc := ⟨.hbm, 12, rfl⟩
abbrev main_v5 : Ref sig .tc := ⟨.hbm, 13, rfl⟩
abbrev main_v6 : Ref sig .tc := ⟨.hbm, 14, rfl⟩
abbrev main_c_2 : Ref sig .tc := ⟨.hbm, 15, rfl⟩
abbrev main_call3_v0 : Ref sig .tc := ⟨.hbm, 16, rfl⟩
abbrev main_v7 : Ref sig .tc := ⟨.hbm, 17, rfl⟩
abbrev main_v8 : Ref sig .tc := ⟨.hbm, 18, rfl⟩
abbrev main_c_3 : Ref sig .tc := ⟨.hbm, 19, rfl⟩
abbrev main_call4_v0 : Ref sig .tc := ⟨.hbm, 20, rfl⟩
abbrev main_v9 : Ref sig .tc := ⟨.hbm, 21, rfl⟩
abbrev main_v10 : Ref sig .tc := ⟨.hbm, 22, rfl⟩
abbrev main_c_4 : Ref sig .tc := ⟨.hbm, 23, rfl⟩
abbrev main_call5_v0 : Ref sig .tc := ⟨.hbm, 24, rfl⟩
abbrev main_v11 : Ref sig .tc := ⟨.hbm, 25, rfl⟩
abbrev main_v12 : Ref sig .tc := ⟨.hbm, 26, rfl⟩
abbrev main_c_5 : Ref sig .tc := ⟨.hbm, 27, rfl⟩
abbrev main_call6_v0 : Ref sig .tc := ⟨.hbm, 28, rfl⟩
abbrev main_v13 : Ref sig .tc := ⟨.hbm, 29, rfl⟩
abbrev main_v14 : Ref sig .tc := ⟨.hbm, 30, rfl⟩
abbrev main_c_6 : Ref sig .tc := ⟨.hbm, 31, rfl⟩
abbrev main_call7_v0 : Ref sig .tc := ⟨.hbm, 32, rfl⟩
abbrev main_v15 : Ref sig .tc := ⟨.hbm, 33, rfl⟩
abbrev main_v16 : Ref sig .tc := ⟨.hbm, 34, rfl⟩
abbrev main_c_7 : Ref sig .tc := ⟨.hbm, 35, rfl⟩
abbrev main_call8_v0 : Ref sig .tc := ⟨.hbm, 36, rfl⟩
abbrev main_v17 : Ref sig .tc := ⟨.hbm, 37, rfl⟩
abbrev main_v18 : Ref sig .tc := ⟨.hbm, 38, rfl⟩
abbrev main_c_8 : Ref sig .tc := ⟨.hbm, 39, rfl⟩
abbrev main_call9_v0 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![10, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OddInRefIdeal.lean ====
abbrev S8704x4096 : Shape := ⟨2, ![8704, 4096]⟩
abbrev S4096x12400 : Shape := ⟨2, ![4096, 12400]⟩
abbrev S8704x12400 : Shape := ⟨2, ![8704, 12400]⟩
abbrev S8704x2048 : Shape := ⟨2, ![8704, 2048]⟩
abbrev S8704x512 : Shape := ⟨2, ![8704, 512]⟩
abbrev S8704x1024 : Shape := ⟨2, ![8704, 1024]⟩
abbrev S8704x64 : Shape := ⟨2, ![8704, 64]⟩
abbrev S8704x16 : Shape := ⟨2, ![8704, 16]⟩
abbrev S8704x6144 : Shape := ⟨2, ![8704, 6144]⟩
abbrev S8192x512 : Shape := ⟨2, ![8192, 512]⟩
abbrev S1x8192x4x128 : Shape := ⟨4, ![1, 8192, 4, 128]⟩
abbrev S512x512 : Shape := ⟨2, ![512, 512]⟩
abbrev S16x32x4x128 : Shape := ⟨4, ![16, 32, 4, 128]⟩
abbrev S3x6144 : Shape := ⟨2, ![3, 6144]⟩
abbrev S1x3x6144 : Shape := ⟨3, ![1, 3, 6144]⟩
abbrev S512x6144 : Shape := ⟨2, ![512, 6144]⟩
abbrev S16x32x6144 : Shape := ⟨3, ![16, 32, 6144]⟩
abbrev S16x3x6144 : Shape := ⟨3, ![16, 3, 6144]⟩

abbrev nBuf : Space → Nat
  | .hbm => 22
  | .vmem => 0
  | .smem => 0
  | _ => 0

abbrev bufTy : (tb : Table) → Fin (tcTables nBuf tb) → BufTy
  | .hbm, ⟨0, _⟩ => ⟨S8704x4096, .f32⟩
  | .hbm, ⟨1, _⟩ => ⟨S4096x12400, .f32⟩
  | .hbm, ⟨2, _⟩ => ⟨S8704x12400, .f32⟩
  | .hbm, ⟨3, _⟩ => ⟨S8704x2048, .f32⟩
  | .hbm, ⟨4, _⟩ => ⟨S8704x512, .f32⟩
  | .hbm, ⟨5, _⟩ => ⟨S8704x512, .f32⟩
  | .hbm, ⟨6, _⟩ => ⟨S8704x1024, .f32⟩
  | .hbm, ⟨7, _⟩ => ⟨S8704x64, .f32⟩
  | .hbm, ⟨8, _⟩ => ⟨S8704x16, .f32⟩
  | .hbm, ⟨9, _⟩ => ⟨S8704x6144, .f32⟩
  | .hbm, ⟨10, _⟩ => ⟨S8704x16, .f32⟩
  | .hbm, ⟨11, _⟩ => ⟨S8704x16, .f32⟩
  | .hbm, ⟨12, _⟩ => ⟨S8704x2048, .f32⟩
  | .hbm, ⟨13, _⟩ => ⟨S8192x512, .f32⟩
  | .hbm, ⟨14, _⟩ => ⟨S1x8192x4x128, .f32⟩
  | .hbm, ⟨15, _⟩ => ⟨S512x512, .f32⟩
  | .hbm, ⟨16, _⟩ => ⟨S16x32x4x128, .f32⟩
  | .hbm, ⟨17, _⟩ => ⟨S3x6144, .f32⟩
  | .hbm, ⟨18, _⟩ => ⟨S1x3x6144, .f32⟩
  | .hbm, ⟨19, _⟩ => ⟨S512x6144, .f32⟩
  | .hbm, ⟨20, _⟩ => ⟨S16x32x6144, .f32⟩
  | .hbm, ⟨21, _⟩ => ⟨S16x3x6144, .f32⟩
  | _, _ => ⟨S8704x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩

abbrev nD : Nat := 1
abbrev τ : Topo := Topo.v7x

variable {F : FTy → Type} [FloatOps F]
-- ==== Rope.lean ====
abbrev S8704x12800 : Shape := ⟨2, ![8704, 12800]⟩
abbrev S8192 : Shape := ⟨1, ![8192]⟩
abbrev S32 : Shape := ⟨1, ![32]⟩
abbrev S_ : Shape := ⟨0, ![]⟩
abbrev S1x32 : Shape := ⟨2, ![1, 32]⟩
abbrev S16x32 : Shape := ⟨2, ![16, 32]⟩
abbrev S512 : Shape := ⟨1, ![512]⟩
abbrev S8704 : Shape := ⟨1, ![8704]⟩
abbrev S64 : Shape := ⟨1, ![64]⟩
abbrev S8704x1 : Shape := ⟨2, ![8704, 1]⟩
abbrev S1x64 : Shape := ⟨2, ![1, 64]⟩
abbrev S8704x64 : Shape := ⟨2, ![8704, 64]⟩
abbrev S8704x128 : Shape := ⟨2, ![8704, 128]⟩
abbrev S1x8704x1x128 : Shape := ⟨4, ![1, 8704, 1, 128]⟩
abbrev S8704x32 : Shape := ⟨2, ![8704, 32]⟩
abbrev S1x8704x1x64 : Shape := ⟨4, ![1, 8704, 1, 64]⟩
abbrev S1x8704x2x64 : Shape := ⟨4, ![1, 8704, 2, 64]⟩
abbrev S8704x2048 : Shape := ⟨2, ![8704, 2048]⟩
abbrev S8704x512 : Shape := ⟨2, ![8704, 512]⟩
abbrev S16x8704x64 : Shape := ⟨3, ![16, 8704, 64]⟩
abbrev S256x2048 : Shape := ⟨2, ![256, 2048]⟩
abbrev S256x512 : Shape := ⟨2, ![256, 512]⟩
abbrev S256x1024 : Shape := ⟨2, ![256, 1024]⟩
abbrev S256x128 : Shape := ⟨2, ![256, 128]⟩
abbrev S16x256x64 : Shape := ⟨3, ![16, 256, 64]⟩
abbrev S256x64 : Shape := ⟨2, ![256, 64]⟩
abbrev S1x256x64 : Shape := ⟨3, ![1, 256, 64]⟩
abbrev S8192x512 : Shape := ⟨2, ![8192, 512]⟩
abbrev S1x8192x4x128 : Shape := ⟨4, ![1, 8192, 4, 128]⟩
abbrev S8192x64 : Shape := ⟨2, ![8192, 64]⟩
abbrev S1x8192x64 : Shape := ⟨3, ![1, 8192, 64]⟩
abbrev S512x512 : Shape := ⟨2, ![512, 512]⟩
abbrev S16x32x4x128 : Shape := ⟨4, ![16, 32, 4, 128]⟩
abbrev S512x64 : Shape := ⟨2, ![512, 64]⟩
abbrev S16x32x64 : Shape := ⟨3, ![16, 32, 64]⟩

abbrev nBuf : Space → Nat
  | .hbm => 76
  | .vmem => 36
  | .smem => 0
  | _ => 0

abbrev bufTy : (tb : Table) → Fin (tcTables nBuf tb) → BufTy
  | .hbm, ⟨0, _⟩ => ⟨S8704x12800, .f32⟩
  | .hbm, ⟨1, _⟩ => ⟨S8192, .i32⟩
  | .hbm, ⟨2, _⟩ => ⟨S32, .i32⟩
  | .hbm, ⟨3, _⟩ => ⟨S_, .i32⟩
  | .hbm, ⟨4, _⟩ => ⟨S32, .i32⟩
  | .hbm, ⟨5, _⟩ => ⟨S32, .i32⟩
  | .hbm, ⟨6, _⟩ => ⟨S1x32, .i32⟩
  | .hbm, ⟨7, _⟩ => ⟨S16x32, .i32⟩
  | .hbm, ⟨8, _⟩ => ⟨S512, .i32⟩
  | .hbm, ⟨9, _⟩ => ⟨S8704, .i32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S8704, .f32⟩
  | .hbm, ⟨19, _⟩ => ⟨S8704x1, .f32⟩
  | .hbm, ⟨20, _⟩ => ⟨S1x64, .f32⟩
  | .hbm, ⟨21, _⟩ => ⟨S8704x64, .f32⟩
  | .hbm, ⟨22, _⟩ => ⟨S8704x64, .f32⟩
  | .hbm, ⟨23, _⟩ => ⟨S8704x64, .f32⟩
  | .hbm, ⟨24, _⟩ => ⟨S8704x64, .f32⟩
  | .hbm, ⟨25, _⟩ => ⟨S8704x64, .f32⟩
  | .hbm, ⟨26, _⟩ => ⟨S8704x128, .f32⟩
  | .hbm, ⟨27, _⟩ => ⟨S1x8704x1x128, .f32⟩
  | .hbm, ⟨28, _⟩ => ⟨S1x8704x1x128, .f32⟩
  | .hbm, ⟨29, _⟩ => ⟨S8704x128, .f32⟩
  | .hbm, ⟨30, _⟩ => ⟨S8704x64, .f32⟩
  | .hbm, ⟨31, _⟩ => ⟨S8704x128, .f32⟩
  | .hbm, ⟨32, _⟩ => ⟨S1x8704x1x128, .f32⟩
  | .hbm, ⟨33, _⟩ => ⟨S1x8704x1x128, .f32⟩
  | .hbm, ⟨34, _⟩ => ⟨S8704x128, .f32⟩
  | .hbm, ⟨35, _⟩ => ⟨S32, .f32⟩
  | .hbm, ⟨36, _⟩ => ⟨S32, .f32⟩
  | .hbm, ⟨37, _⟩ => ⟨S_, .f32⟩
  | .hbm, ⟨38, _⟩ => ⟨S32, .f32⟩
  | .hbm, ⟨39, _⟩ => ⟨S32, .f32⟩
  | .hbm, ⟨40, _⟩ => ⟨S_, .f32⟩
  | .hbm, ⟨41, _⟩ => ⟨S32, .f32⟩
  | .hbm, ⟨42, _⟩ => ⟨S32, .f32⟩
  | .hbm, ⟨43, _⟩ => ⟨S8704, .f32⟩
  | .hbm, ⟨44, _⟩ => ⟨S8704x1, .f32⟩
  | .hbm, ⟨45, _⟩ => ⟨S1x32, .f32⟩
  | .hbm, ⟨46, _⟩ => ⟨S8704x32, .f32⟩
  | .hbm, ⟨47, _⟩ => ⟨S8704x32, .f32⟩
  | .hbm, ⟨48, _⟩ => ⟨S8704x32, .f32⟩
  | .hbm, ⟨49, _⟩ => ⟨S8704x32, .f32⟩
  | .hbm, ⟨50, _⟩ => ⟨S8704x32, .f32⟩
  | .hbm, ⟨51, _⟩ => ⟨S8704x64, .f32⟩
  | .hbm, ⟨52, _⟩ => ⟨S1x8704x1x64, .f32⟩
  | .hbm, ⟨53, _⟩ => ⟨S1x8704x2x64, .f32⟩
  | .hbm, ⟨54, _⟩ => ⟨S8704x128, .f32⟩
  | .hbm, ⟨55, _⟩ => ⟨S8704x32, .f32⟩
  | .hbm, ⟨56, _⟩ => ⟨S8704x64, .f32⟩
  | .hbm, ⟨57, _⟩ => ⟨S1x8704x1x64, .f32⟩
  | .hbm, ⟨58, _⟩ => ⟨S1x8704x2x64, .f32⟩
  | .hbm, ⟨59, _⟩ => ⟨S8704x128, .f32⟩
  | .hbm, ⟨60, _⟩ => ⟨S8704x2048, .bf16⟩
  | .hbm, ⟨61, _⟩ => ⟨S8704x512, .f32⟩
  | .hbm, ⟨62, _⟩ => ⟨S8704x512, .bf16⟩
  | .hbm, ⟨63, _⟩ => ⟨S8704x512, .bf16⟩
  | .hbm, ⟨64, _⟩ => ⟨S16x8704x64, .bf16⟩
  | .hbm, ⟨65, _⟩ => ⟨S8704x128, .f32⟩
  | .hbm, ⟨66, _⟩ => ⟨S8704x128, .bf16⟩
  | .hbm, ⟨67, _⟩ => ⟨S8704x128, .f32⟩
  | .hbm, ⟨68, _⟩ => ⟨S8192x512, .f32⟩
  | .hbm, ⟨69, _⟩ => ⟨S1x8192x4x128, .f32⟩
  | .hbm, ⟨70, _⟩ => ⟨S8192x64, .f32⟩
  | .hbm, ⟨71, _⟩ => ⟨S1x8192x64, .f32⟩
  | .hbm, ⟨72, _⟩ => ⟨S512x512, .f32⟩
  | .hbm, ⟨73, _⟩ => ⟨S16x32x4x128, .f32⟩
  | .hbm, ⟨74, _⟩ => ⟨S512x64, .f32⟩
  | .hbm, ⟨75, _⟩ => ⟨S16x32x64, .f32⟩
  | .local _ .vmem, ⟨0, _⟩ => ⟨S256x2048, .f32⟩
  | .local _ .vmem, ⟨1, _⟩ => ⟨S256x2048, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x1024, .f32⟩
  | .local _ .vmem, ⟨7, _⟩ => ⟨S256x1024, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S256x128, .f32⟩
  | .local _ .vmem, ⟨17, _⟩ => ⟨S256x128, .f32⟩
  | .local _ .vmem, ⟨18, _⟩ => ⟨S256x128, .f32⟩
  | .local _ .vmem, ⟨19, _⟩ => ⟨S256x128, .f32⟩
  | .local _ .vmem, ⟨20, _⟩ => ⟨S256x2048, .bf16⟩
  | .local _ .vmem, ⟨21, _⟩ => ⟨S256x2048, .bf16⟩
  | .local _ .vmem, ⟨22, _⟩ => ⟨S256x512, .f32⟩
  | .local _ .vmem, ⟨23, _⟩ => ⟨S256x512, .f32⟩
  | .local _ .vmem, ⟨24, _⟩ => ⟨S256x512, .bf16⟩
  | .local _ .vmem, ⟨25, _⟩ => ⟨S256x512, .bf16⟩
  | .local _ .vmem, ⟨26, _⟩ => ⟨S256x512, .bf16⟩
  | .local _ .vmem, ⟨27, _⟩ => ⟨S256x512, .bf16⟩
  | .local _ .vmem, ⟨28, _⟩ => ⟨S16x256x64, .bf16⟩
  | .local _ .vmem, ⟨29, _⟩ => ⟨S16x256x64, .bf16⟩
  | .local _ .vmem, ⟨30, _⟩ => ⟨S256x128, .f32⟩
  | .local _ .vmem, ⟨31, _⟩ => ⟨S256x128, .f32⟩
  | .local _ .vmem, ⟨32, _⟩ => ⟨S256x128, .bf16⟩
  | .local _ .vmem, ⟨33, _⟩ => ⟨S256x128, .bf16⟩
  | .local _ .vmem, ⟨34, _⟩ => ⟨S256x128, .f32⟩
  | .local _ .vmem, ⟨35, _⟩ => ⟨S256x128, .f32⟩
  | _, _ => ⟨S8704x12800, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_cst_1 : Ref sig .tc := ⟨.hbm, 37, rfl⟩
abbrev main_v33 : Ref sig .tc := ⟨.hbm, 38, rfl⟩
abbrev main_v34 : Ref sig .tc := ⟨.hbm, 39, rfl⟩
abbrev main_cst_2 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54_0 : Ref sig .tc := ⟨.hbm, 60, rfl⟩
abbrev main_v54_1 : Ref sig .tc := ⟨.hbm, 61, rfl⟩
abbrev main_v54_2 : Ref sig .tc := ⟨.hbm, 62, rfl⟩
abbrev main_v54_3 : Ref sig .tc := ⟨.hbm, 63, rfl⟩
abbrev main_v54_4 : Ref sig .tc := ⟨.hbm, 64, rfl⟩
abbrev main_v54_5 : Ref sig .tc := ⟨.hbm, 65, rfl⟩
abbrev main_v54_6 : Ref sig .tc := ⟨.hbm, 66, rfl⟩
abbrev main_v54_7 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_2 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_3 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_4 (i : grid0.Coords) : Fin 2 → Nat :=
  let arg0 : BitVec 32 := BitVec.ofNat 32 (i 0).val
  let c96_i32 : BitVec 32 := 96#32
  let c0_i32 : BitVec 32 := 0#32
  ![arg0.toNat, c96_i32.toNat]

def cc0_transform_5 (i : grid0.Coords) : Fin 2 → Nat :=
  let arg0 : BitVec 32 := BitVec.ofNat 32 (i 0).val
  let c97_i32 : BitVec 32 := 97#32
  let c0_i32 : BitVec 32 := 0#32
  ![arg0.toNat, c97_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S16x256x64 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== RopeRefIdeal.lean ====
abbrev S8704x12800 : Shape := ⟨2, ![8704, 12800]⟩
abbrev S8704x512 : Shape := ⟨2, ![8704, 512]⟩
abbrev S8704x64 : Shape := ⟨2, ![8704, 64]⟩
abbrev S8192 : Shape := ⟨1, ![8192]⟩
abbrev S32 : Shape := ⟨1, ![32]⟩
abbrev S_ : Shape := ⟨0, ![]⟩
abbrev S8192x512 : Shape := ⟨2, ![8192, 512]⟩
abbrev S1x8192x4x128 : Shape := ⟨4, ![1, 8192, 4, 128]⟩
abbrev S64 : Shape := ⟨1, ![64]⟩
abbrev S8192x1 : Shape := ⟨2, ![8192, 1]⟩
abbrev S1x64 : Shape := ⟨2, ![1, 64]⟩
abbrev S8192x64 : Shape := ⟨2, ![8192, 64]⟩
abbrev S1x8192x1x64 : Shape := ⟨4, ![1, 8192, 1, 64]⟩
abbrev S1x8192x4x64 : Shape := ⟨4, ![1, 8192, 4, 64]⟩
abbrev S1x8192x64 : Shape := ⟨3, ![1, 8192, 64]⟩
abbrev S1x32 : Shape := ⟨2, ![1, 32]⟩
abbrev S8192x32 : Shape := ⟨2, ![8192, 32]⟩
abbrev S1x8192x1x32 : Shape := ⟨4, ![1, 8192, 1, 32]⟩
abbrev S512x512 : Shape := ⟨2, ![512, 512]⟩
abbrev S16x32x4x128 : Shape := ⟨4, ![16, 32, 4, 128]⟩
abbrev S32x1 : Shape := ⟨2, ![32, 1]⟩
abbrev S32x64 : Shape := ⟨2, ![32, 64]⟩
abbrev S1x32x1x64 : Shape := ⟨4, ![1, 32, 1, 64]⟩
abbrev S16x32x4x64 : Shape := ⟨4, ![16, 32, 4, 64]⟩
abbrev S512x64 : Shape := ⟨2, ![512, 64]⟩
abbrev S16x32x64 : Shape := ⟨3, ![16, 32, 64]⟩
abbrev S16x32x1x64 : Shape := ⟨4, ![16, 32, 1, 64]⟩
abbrev S32x32 : Shape := ⟨2, ![32, 32]⟩
abbrev S1x32x1x32 : Shape := ⟨4, ![1, 32, 1, 32]⟩
abbrev S16x32x1x32 : Shape := ⟨4, ![16, 32, 1, 32]⟩

abbrev nBuf : Space → Nat
  | .hbm => 140
  | .vmem => 0
  | .smem => 0
  | _ => 0

abbrev hbmTy0_0 (i : Nat) : BufTy := match i % 128 with
  | 0 => ⟨S8704x12800, .f32⟩
  | 1 => ⟨S8704x512, .f32⟩
  | 2 => ⟨S8704x64, .f32⟩
  | 3 => ⟨S8192, .i32⟩
  | 4 => ⟨S32, .i32⟩
  | 5 => ⟨S_, .i32⟩
  | 6 => ⟨S32, .i32⟩
  | 7 => ⟨S32, .i32⟩
  | 8 => ⟨S8192x512, .f32⟩
  | 9 => ⟨S1x8192x4x128, .f32⟩
  | 10 => ⟨S64, .f32⟩
  | 11 => ⟨S64, .f32⟩
  | 12 => ⟨S_, .f32⟩
  | 13 => ⟨S64, .f32⟩
  | 14 => ⟨S64, .f32⟩
  | 15 => ⟨S_, .f32⟩
  | 16 => ⟨S64, .f32⟩
  | 17 => ⟨S64, .f32⟩
  | 18 => ⟨S8192, .f32⟩
  | 19 => ⟨S8192x1, .f32⟩
  | 20 => ⟨S1x64, .f32⟩
  | 21 => ⟨S8192x64, .f32⟩
  | 22 => ⟨S8192x64, .f32⟩
  | 23 => ⟨S8192x64, .f32⟩
  | 24 => ⟨S8192x64, .f32⟩
  | 25 => ⟨S1x8192x1x64, .f32⟩
  | 26 => ⟨S8192x64, .f32⟩
  | 27 => ⟨S1x8192x1x64, .f32⟩
  | 28 => ⟨S1x8192x4x64, .f32⟩
  | 29 => ⟨S1x8192x4x64, .f32⟩
  | 30 => ⟨S1x8192x4x64, .f32⟩
  | 31 => ⟨S1x8192x4x64, .f32⟩
  | 32 => ⟨S1x8192x4x64, .f32⟩
  | 33 => ⟨S1x8192x4x64, .f32⟩
  | 34 => ⟨S1x8192x4x64, .f32⟩
  | 35 => ⟨S1x8192x4x64, .f32⟩
  | 36 => ⟨S1x8192x4x64, .f32⟩
  | 37 => ⟨S1x8192x4x64, .f32⟩
  | 38 => ⟨S1x8192x4x64, .f32⟩
  | 39 => ⟨S1x8192x4x64, .f32⟩
  | 40 => ⟨S1x8192x4x128, .f32⟩
  | 41 => ⟨S8192x64, .f32⟩
  | 42 => ⟨S1x8192x64, .f32⟩
  | 43 => ⟨S1x8192x1x64, .f32⟩
  | 44 => ⟨S32, .f32⟩
  | 45 => ⟨S32, .f32⟩
  | 46 => ⟨S_, .f32⟩
  | 47 => ⟨S32, .f32⟩
  | 48 => ⟨S32, .f32⟩
  | 49 => ⟨S_, .f32⟩
  | 50 => ⟨S32, .f32⟩
  | 51 => ⟨S32, .f32⟩
  | 52 => ⟨S8192, .f32⟩
  | 53 => ⟨S8192x1, .f32⟩
  | 54 => ⟨S1x32, .f32⟩
  | 55 => ⟨S8192x32, .f32⟩
  | 56 => ⟨S8192x32, .f32⟩
  | 57 => ⟨S8192x32, .f32⟩
  | 58 => ⟨S8192x32, .f32⟩
  | 59 => ⟨S1x8192x1x32, .f32⟩
  | 60 => ⟨S8192x32, .f32⟩
  | 61 => ⟨S1x8192x1x32, .f32⟩
  | 62 => ⟨S1x8192x1x32, .f32⟩
  | 63 => ⟨S1x8192x1x32, .f32⟩
  | 64 => ⟨S1x8192x1x32, .f32⟩
  | 65 => ⟨S1x8192x1x32, .f32⟩
  | 66 => ⟨S1x8192x1x32, .f32⟩
  | 67 => ⟨S1x8192x1x32, .f32⟩
  | 68 => ⟨S1x8192x1x32, .f32⟩
  | 69 => ⟨S1x8192x1x32, .f32⟩
  | 70 => ⟨S1x8192x1x64, .f32⟩
  | 71 => ⟨S1x8192x64, .f32⟩
  | 72 => ⟨S512x512, .f32⟩
  | 73 => ⟨S16x32x4x128, .f32⟩
  | 74 => ⟨S64, .f32⟩
  | 75 => ⟨S64, .f32⟩
  | 76 => ⟨S_, .f32⟩
  | 77 => ⟨S64, .f32⟩
  | 78 => ⟨S64, .f32⟩
  | 79 => ⟨S_, .f32⟩
  | 80 => ⟨S64, .f32⟩
  | 81 => ⟨S64, .f32⟩
  | 82 => ⟨S32, .f32⟩
  | 83 => ⟨S32x1, .f32⟩
  | 84 => ⟨S1x64, .f32⟩
  | 85 => ⟨S32x64, .f32⟩
  | 86 => ⟨S32x64, .f32⟩
  | 87 => ⟨S32x64, .f32⟩
  | 88 => ⟨S32x64, .f32⟩
  | 89 => ⟨S1x32x1x64, .f32⟩
  | 90 => ⟨S32x64, .f32⟩
  | 91 => ⟨S1x32x1x64, .f32⟩
  | 92 => ⟨S16x32x4x64, .f32⟩
  | 93 => ⟨S16x32x4x64, .f32⟩
  | 94 => ⟨S16x32x4x64, .f32⟩
  | 95 => ⟨S16x32x4x64, .f32⟩
  | 96 => ⟨S16x32x4x64, .f32⟩
  | 97 => ⟨S16x32x4x64, .f32⟩
  | 98 => ⟨S16x32x4x64, .f32⟩
  | 99 => ⟨S16x32x4x64, .f32⟩
  | 100 => ⟨S16x32x4x64, .f32⟩
  | 101 => ⟨S16x32x4x64, .f32⟩
  | 102 => ⟨S16x32x4x64, .f32⟩
  | 103 => ⟨S16x32x4x64, .f32⟩
  | 104 => ⟨S16x32x4x128, .f32⟩
  | 105 => ⟨S512x64, .f32⟩
  | 106 => ⟨S16x32x64, .f32⟩
  | 107 => ⟨S16x32x1x64, .f32⟩
  | 108 => ⟨S32, .f32⟩
  | 109 => ⟨S32, .f32⟩
  | 110 => ⟨S_, .f32⟩
  | 111 => ⟨S32, .f32⟩
  | 112 => ⟨S32, .f32⟩
  | 113 => ⟨S_, .f32⟩
  | 114 => ⟨S32, .f32⟩
  | 115 => ⟨S32, .f32⟩
  | 116 => ⟨S32, .f32⟩
  | 117 => ⟨S32x1, .f32⟩
  | 118 => ⟨S1x32, .f32⟩
  | 119 => ⟨S32x32, .f32⟩
  | 120 => ⟨S32x32, .f32⟩
  | 121 => ⟨S32x32, .f32⟩
  | 122 => ⟨S32x32, .f32⟩
  | 123 => ⟨S1x32x1x32, .f32⟩
  | 124 => ⟨S32x32, .f32⟩
  | 125 => ⟨S1x32x1x32, .f32⟩
  | 126 => ⟨S16x32x1x32, .f32⟩
  | 127 => ⟨S16x32x1x32, .f32⟩
  | _ => ⟨S8704x12800, .f32⟩

abbrev hbmTy0_1 (i : Nat) : BufTy := match i % 128 with
  | 0 => ⟨S16x32x1x32, .f32⟩
  | 1 => ⟨S16x32x1x32, .f32⟩
  | 2 => ⟨S16x32x1x32, .f32⟩
  | 3 => ⟨S16x32x1x32, .f32⟩
  | 4 => ⟨S16x32x1x32, .f32⟩
  | 5 => ⟨S16x32x1x32, .f32⟩
  | 6 => ⟨S16x32x1x32, .f32⟩
  | 7 => ⟨S16x32x1x32, .f32⟩
  | 8 => ⟨S16x32x1x32, .f32⟩
  | 9 => ⟨S16x32x1x32, .f32⟩
  | 10 => ⟨S16x32x1x64, .f32⟩
  | 11 => ⟨S16x32x64, .f32⟩
  | _ => ⟨S8704x12800, .f32⟩

abbrev hbmTy (i : Nat) : BufTy := match i / 128 with
  | 0 => hbmTy0_0 i
  | 1 => hbmTy0_1 i
  | _ => ⟨S8704x12800, .f32⟩

abbrev bufTy : (tb : Table) → Fin (tcTables nBuf tb) → BufTy
  | .hbm, ⟨i, _⟩ => hbmTy i
  | _, _ => ⟨S8704x12800, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_c : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_cst_1 : Ref sig .tc := ⟨.hbm, 46, rfl⟩
abbrev main_v42 : Ref sig .tc := ⟨.hbm, 47, rfl⟩
abbrev main_v43 : Ref sig .tc := ⟨.hbm, 48, rfl⟩
abbrev main_cst_2 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_cst_3 : Ref sig .tc := ⟨.hbm, 76, rfl⟩
abbrev main_v70 : Ref sig .tc := ⟨.hbm, 77, rfl⟩
abbrev main_v71 : Ref sig .tc := ⟨.hbm, 78, rfl⟩
abbrev main_cst_4 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩
abbrev main_v92 : Ref sig .tc := ⟨.hbm, 100, rfl⟩
abbrev main_v93 : Ref sig .tc := ⟨.hbm, 101, rfl⟩
abbrev main_v94 : Ref sig .tc := ⟨.hbm, 102, rfl⟩
abbrev main_v95 : Ref sig .tc := ⟨.hbm, 103, rfl⟩
abbrev main_v96 : Ref sig .tc := ⟨.hbm, 104, rfl⟩
abbrev main_v97 : Ref sig .tc := ⟨.hbm, 105, rfl⟩
abbrev main_v98 : Ref sig .tc := ⟨.hbm, 106, rfl⟩
abbrev main_v99 : Ref sig .tc := ⟨.hbm, 107, rfl⟩
abbrev main_v100 : Ref sig .tc := ⟨.hbm, 108, rfl⟩
abbrev main_v101 : Ref sig .tc := ⟨.hbm, 109, rfl⟩
abbrev main_cst_5 : Ref sig .tc := ⟨.hbm, 110, rfl⟩
abbrev main_v102 : Ref sig .tc := ⟨.hbm, 111, rfl⟩
abbrev main_v103 : Ref sig .tc := ⟨.hbm, 112, rfl⟩
abbrev main_cst_6 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩

abbrev nD : Nat := 1
abbrev τ : Topo := Topo.v7x

variable {F : FTy → Type} [FloatOps F]
-- ==== Scan.lean ====
abbrev S16x16x128x128 : Shape := ⟨4, ![16, 16, 128, 128]⟩
abbrev S512x2048 : Shape := ⟨2, ![512, 2048]⟩
abbrev S16x16x32x32 : Shape := ⟨4, ![16, 16, 32, 32]⟩
abbrev S16x1x128 : Shape := ⟨3, ![16, 1, 128]⟩
abbrev S512x12800 : Shape := ⟨2, ![512, 12800]⟩
abbrev S128 : Shape := ⟨1, ![128]⟩
abbrev S1x128 : Shape := ⟨2, ![1, 128]⟩
abbrev S1x16x128x128 : Shape := ⟨4, ![1, 16, 128, 128]⟩
abbrev S32x2048 : Shape := ⟨2, ![32, 2048]⟩
abbrev S1x16x32x32 : Shape := ⟨4, ![1, 16, 32, 32]⟩
abbrev S1x1x128 : Shape := ⟨3, ![1, 1, 128]⟩
abbrev S16x128x128 : Shape := ⟨3, ![16, 128, 128]⟩
abbrev S1x128x128 : Shape := ⟨3, ![1, 128, 128]⟩
abbrev S128x128 : Shape := ⟨2, ![128, 128]⟩
abbrev S32x128 : Shape := ⟨2, ![32, 128]⟩
abbrev S1x1x32x32 : Shape := ⟨4, ![1, 1, 32, 32]⟩
abbrev S32x32 : Shape := ⟨2, ![32, 32]⟩
abbrev S1x1 : Shape := ⟨2, ![1, 1]⟩
abbrev S32 : Shape := ⟨1, ![32]⟩
abbrev S32x1 : Shape := ⟨2, ![32, 1]⟩

abbrev nBuf : Space → Nat
  | .hbm => 12
  | .vmem => 22
  | .smem => 0
  | _ => 0

abbrev bufTy : (tb : Table) → Fin (tcTables nBuf tb) → BufTy
  | .hbm, ⟨0, _⟩ => ⟨S16x16x128x128, .f32⟩
  | .hbm, ⟨1, _⟩ => ⟨S512x2048, .f32⟩
  | .hbm, ⟨2, _⟩ => ⟨S512x2048, .bf16⟩
  | .hbm, ⟨3, _⟩ => ⟨S512x2048, .bf16⟩
  | .hbm, ⟨4, _⟩ => ⟨S512x2048, .bf16⟩
  | .hbm, ⟨5, _⟩ => ⟨S16x16x32x32, .bf16⟩
  | .hbm, ⟨6, _⟩ => ⟨S16x1x128, .f32⟩
  | .hbm, ⟨7, _⟩ => ⟨S512x12800, .f32⟩
  | .hbm, ⟨8, _⟩ => ⟨S128, .f32⟩
  | .hbm, ⟨9, _⟩ => ⟨S1x128, .f32⟩
  | .hbm, ⟨10, _⟩ => ⟨S512x2048, .bf16⟩
  | .hbm, ⟨11, _⟩ => ⟨S16x16x128x128, .f32⟩
  | .local _ .vmem, ⟨0, _⟩ => ⟨S1x16x128x128, .f32⟩
  | .local _ .vmem, ⟨1, _⟩ => ⟨S1x16x128x128, .f32⟩
  | .local _ .vmem, ⟨2, _⟩ => ⟨S32x2048, .f32⟩
  | .local _ .vmem, ⟨3, _⟩ => ⟨S32x2048, .f32⟩
  | .local _ .vmem, ⟨4, _⟩ => ⟨S32x2048, .bf16⟩
  | .local _ .vmem, ⟨5, _⟩ => ⟨S32x2048, .bf16⟩
  | .local _ .vmem, ⟨6, _⟩ => ⟨S32x2048, .bf16⟩
  | .local _ .vmem, ⟨7, _⟩ => ⟨S32x2048, .bf16⟩
  | .local _ .vmem, ⟨8, _⟩ => ⟨S32x2048, .bf16⟩
  | .local _ .vmem, ⟨9, _⟩ => ⟨S32x2048, .bf16⟩
  | .local _ .vmem, ⟨10, _⟩ => ⟨S1x16x32x32, .bf16⟩
  | .local _ .vmem, ⟨11, _⟩ => ⟨S1x16x32x32, .bf16⟩
  | .local _ .vmem, ⟨12, _⟩ => ⟨S1x1x128, .f32⟩
  | .local _ .vmem, ⟨13, _⟩ => ⟨S1x1x128, .f32⟩
  | .local _ .vmem, ⟨14, _⟩ => ⟨S32x2048, .f32⟩
  | .local _ .vmem, ⟨15, _⟩ => ⟨S32x2048, .f32⟩
  | .local _ .vmem, ⟨16, _⟩ => ⟨S1x128, .f32⟩
  | .local _ .vmem, ⟨17, _⟩ => ⟨S32x2048, .bf16⟩
  | .local _ .vmem, ⟨18, _⟩ => ⟨S32x2048, .bf16⟩
  | .local _ .vmem, ⟨19, _⟩ => ⟨S1x16x128x128, .f32⟩
  | .local _ .vmem, ⟨20, _⟩ => ⟨S1x16x128x128, .f32⟩
  | .local _ .vmem, ⟨21, _⟩ => ⟨S16x128x128, .f32⟩
  | _, _ => ⟨S16x16x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1_0 : Ref sig .tc := ⟨.hbm, 10, rfl⟩
abbrev main_v1_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![16, 1], ![false, false]⟩

def k0_cond2 (i : grid0.Coords) : BitVec 1 :=
  let arg1 : BitVec 32 := BitVec.ofNat 32 (i 1).val
  let c0_i32_486 : BitVec 32 := 0#32
  let v759 : BitVec 1 := Scalar.cmpi .eq arg1 c0_i32_486
  let v760 : BitVec 32 := Scalar.extui v759
  let c0_i32_487 : BitVec 32 := 0#32
  let v761 : BitVec 1 := Scalar.cmpi .ne v760 c0_i32_487
  v761

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c1_i32_0 : BitVec 32 := 1#32
  let c0_i32 : BitVec 32 := 0#32
  ![v1.toNat, c1_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x16x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S32x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S32x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x32x32 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S32x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S32x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x16x128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== ScanRefIdeal.lean ====
abbrev S16x16x128x128 : Shape := ⟨4, ![16, 16, 128, 128]⟩
abbrev S512x2048 : Shape := ⟨2, ![512, 2048]⟩
abbrev S16x16x32x32 : Shape := ⟨4, ![16, 16, 32, 32]⟩
abbrev S16x1x128 : Shape := ⟨3, ![16, 1, 128]⟩
abbrev S512x12800 : Shape := ⟨2, ![512, 12800]⟩
abbrev S128 : Shape := ⟨1, ![128]⟩
abbrev S16x32x16x128 : Shape := ⟨4, ![16, 32, 16, 128]⟩
abbrev S16x16x32x128 : Shape := ⟨4, ![16, 16, 32, 128]⟩
abbrev S16x1x16 : Shape := ⟨3, ![16, 1, 16]⟩
abbrev S16x16 : Shape := ⟨2, ![16, 16]⟩
abbrev S16x16x1x1 : Shape := ⟨4, ![16, 16, 1, 1]⟩
abbrev S_ : Shape := ⟨0, ![]⟩
abbrev S16x32x16 : Shape := ⟨3, ![16, 32, 16]⟩
abbrev S16x32x16x1 : Shape := ⟨4, ![16, 32, 16, 1]⟩
abbrev S1x1x1x128 : Shape := ⟨4, ![1, 1, 1, 128]⟩
abbrev S16x32x2048 : Shape := ⟨3, ![16, 32, 2048]⟩

abbrev nBuf : Space → Nat
  | .hbm => 65
  | .vmem => 0
  | .smem => 0
  | _ => 0

abbrev bufTy : (tb : Table) → Fin (tcTables nBuf tb) → BufTy
  | .hbm, ⟨0, _⟩ => ⟨S16x16x128x128, .f32⟩
  | .hbm, ⟨1, _⟩ => ⟨S512x2048, .f32⟩
  | .hbm, ⟨2, _⟩ => ⟨S512x2048, .bf16⟩
  | .hbm, ⟨3, _⟩ => ⟨S512x2048, .bf16⟩
  | .hbm, ⟨4, _⟩ => ⟨S512x2048, .bf16⟩
  | .hbm, ⟨5, _⟩ => ⟨S16x16x32x32, .bf16⟩
  | .hbm, ⟨6, _⟩ => ⟨S16x1x128, .f32⟩
  | .hbm, ⟨7, _⟩ => ⟨S512x12800, .f32⟩
  | .hbm, ⟨8, _⟩ => ⟨S128, .f32⟩
  | .hbm, ⟨9, _⟩ => ⟨S16x32x16x128, .f32⟩
  | .hbm, ⟨10, _⟩ => ⟨S16x16x32x128, .f32⟩
  | .hbm, ⟨11, _⟩ => ⟨S512x2048, .f32⟩
  | .hbm, ⟨12, _⟩ => ⟨S16x32x16x128, .f32⟩
  | .hbm, ⟨13, _⟩ => ⟨S16x16x32x128, .f32⟩
  | .hbm, ⟨14, _⟩ => ⟨S16x16x32x128, .f32⟩
  | .hbm, ⟨15, _⟩ => ⟨S16x16x32x128, .f32⟩
  | .hbm, ⟨16, _⟩ => ⟨S16x1x16, .f32⟩
  | .hbm, ⟨17, _⟩ => ⟨S16x16, .f32⟩
  | .hbm, ⟨18, _⟩ => ⟨S16x16x1x1, .f32⟩
  | .hbm, ⟨19, _⟩ => ⟨S16x16x128x128, .f32⟩
  | .hbm, ⟨20, _⟩ => ⟨S16x16x128x128, .f32⟩
  | .hbm, ⟨21, _⟩ => ⟨S512x2048, .f32⟩
  | .hbm, ⟨22, _⟩ => ⟨S16x32x16x128, .f32⟩
  | .hbm, ⟨23, _⟩ => ⟨S16x16x32x128, .f32⟩
  | .hbm, ⟨24, _⟩ => ⟨S16x16x128x128, .f32⟩
  | .hbm, ⟨25, _⟩ => ⟨S16x16x128x128, .f32⟩
  | .hbm, ⟨26, _⟩ => ⟨S512x2048, .f32⟩
  | .hbm, ⟨27, _⟩ => ⟨S16x32x16x128, .f32⟩
  | .hbm, ⟨28, _⟩ => ⟨S16x16x32x128, .f32⟩
  | .hbm, ⟨29, _⟩ => ⟨S16x16x32x128, .f32⟩
  | .hbm, ⟨30, _⟩ => ⟨S16x16x32x32, .f32⟩
  | .hbm, ⟨31, _⟩ => ⟨S16x16x32x128, .f32⟩
  | .hbm, ⟨32, _⟩ => ⟨S16x16x32x128, .f32⟩
  | .hbm, ⟨33, _⟩ => ⟨S16x32x16x128, .f32⟩
  | .hbm, ⟨34, _⟩ => ⟨S16x32x16x128, .f32⟩
  | .hbm, ⟨35, _⟩ => ⟨S_, .f32⟩
  | .hbm, ⟨36, _⟩ => ⟨S16x32x16, .f32⟩
  | .hbm, ⟨37, _⟩ => ⟨S16x32x16x1, .f32⟩
  | .hbm, ⟨38, _⟩ => ⟨S_, .f32⟩
  | .hbm, ⟨39, _⟩ => ⟨S16x32x16x1, .f32⟩
  | .hbm, ⟨40, _⟩ => ⟨S16x32x16x1, .f32⟩
  | .hbm, ⟨41, _⟩ => ⟨S_, .f32⟩
  | .hbm, ⟨42, _⟩ => ⟨S16x32x16x1, .f32⟩
  | .hbm, ⟨43, _⟩ => ⟨S16x32x16x1, .f32⟩
  | .hbm, ⟨44, _⟩ => ⟨S16x32x16x1, .f32⟩
  | .hbm, ⟨45, _⟩ => ⟨S16x32x16x128, .f32⟩
  | .hbm, ⟨46, _⟩ => ⟨S16x32x16x128, .f32⟩
  | .hbm, ⟨47, _⟩ => ⟨S1x1x1x128, .f32⟩
  | .hbm, ⟨48, _⟩ => ⟨S16x32x16x128, .f32⟩
  | .hbm, ⟨49, _⟩ => ⟨S16x32x16x128, .f32⟩
  | .hbm, ⟨50, _⟩ => ⟨S16x32x2048, .f32⟩
  | .hbm, ⟨51, _⟩ => ⟨S512x2048, .f32⟩
  | .hbm, ⟨52, _⟩ => ⟨S16x32x2048, .f32⟩
  | .hbm, ⟨53, _⟩ => ⟨S16x32x2048, .f32⟩
  | .hbm, ⟨54, _⟩ => ⟨S16x32x2048, .f32⟩
  | .hbm, ⟨55, _⟩ => ⟨S_, .f32⟩
  | .hbm, ⟨56, _⟩ => ⟨S16x32x2048, .f32⟩
  | .hbm, ⟨57, _⟩ => ⟨S16x32x2048, .f32⟩
  | .hbm, ⟨58, _⟩ => ⟨S_, .f32⟩
  | .hbm, ⟨59, _⟩ => ⟨S16x32x2048, .f32⟩
  | .hbm, ⟨60, _⟩ => ⟨S16x32x2048, .f32⟩
  | .hbm, ⟨61, _⟩ => ⟨S16x32x2048, .f32⟩
  | .hbm, ⟨62, _⟩ => ⟨S16x32x2048, .f32⟩
  | .hbm, ⟨63, _⟩ => ⟨S512x2048, .f32⟩
  | .hbm, ⟨64, _⟩ => ⟨S512x2048, .bf16⟩
  | _, _ => ⟨S16x16x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst : Ref sig .tc := ⟨.hbm, 35, rfl⟩
abbrev main_v26 : Ref sig .tc := ⟨.hbm, 36, rfl⟩
abbrev main_v27 : Ref sig .tc := ⟨.hbm, 37, rfl⟩
abbrev main_cst_0 : Ref sig .tc := ⟨.hbm, 38, rfl⟩
abbrev main_v28 : Ref sig .tc := ⟨.hbm, 39, rfl⟩
abbrev main_v29 : Ref sig .tc := ⟨.hbm, 40, rfl⟩
abbrev main_cst_1 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_call0_v0 : Ref sig .tc := ⟨.hbm, 53, rfl⟩
abbrev main_call0_v1 : Ref sig .tc := ⟨.hbm, 54, rfl⟩
abbrev main_call0_cst : Ref sig .tc := ⟨.hbm, 55, rfl⟩
abbrev main_call0_v2 : Ref sig .tc := ⟨.hbm, 56, rfl⟩
abbrev main_call0_v3 : Ref sig .tc := ⟨.hbm, 57, rfl⟩
abbrev main_call0_cst_0 : Ref sig .tc := ⟨.hbm, 58, rfl⟩
abbrev main_call0_v4 : Ref sig .tc := ⟨.hbm, 59, rfl⟩
abbrev main_call0_v5 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩

abbrev nD : Nat := 1
abbrev τ : Topo := Topo.v7x

variable {F : FTy → Type} [FloatOps F]
-- ==== Mix.lean ====
abbrev S8704x2048 : Shape := ⟨2, ![8704, 2048]⟩
abbrev S4096x4096 : Shape := ⟨2, ![4096, 4096]⟩
abbrev S8704x4096 : Shape := ⟨2, ![8704, 4096]⟩
abbrev S512x2048 : Shape := ⟨2, ![512, 2048]⟩
abbrev S4096x1024 : Shape := ⟨2, ![4096, 1024]⟩
abbrev S512x1024 : Shape := ⟨2, ![512, 1024]⟩
abbrev S2048x1024 : Shape := ⟨2, ![2048, 1024]⟩

abbrev nBuf : Space → Nat
  | .hbm => 5
  | .vmem => 8
  | .smem => 0
  | _ => 0

abbrev bufTy : (tb : Table) → Fin (tcTables nBuf tb) → BufTy
  | .hbm, ⟨0, _⟩ => ⟨S8704x2048, .bf16⟩
  | .hbm, ⟨1, _⟩ => ⟨S8704x2048, .bf16⟩
  | .hbm, ⟨2, _⟩ => ⟨S4096x4096, .f32⟩
  | .hbm, ⟨3, _⟩ => ⟨S4096x4096, .bf16⟩
  | .hbm, ⟨4, _⟩ => ⟨S8704x4096, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S4096x1024, .bf16⟩
  | .local _ .vmem, ⟨5, _⟩ => ⟨S4096x1024, .bf16⟩
  | .local _ .vmem, ⟨6, _⟩ => ⟨S512x1024, .f32⟩
  | .local _ .vmem, ⟨7, _⟩ => ⟨S512x1024, .f32⟩
  | _, _ => ⟨S8704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MixRefIdeal.lean ====
abbrev S8704x2048 : Shape := ⟨2, ![8704, 2048]⟩
abbrev S4096x4096 : Shape := ⟨2, ![4096, 4096]⟩
abbrev S8704x4096 : Shape := ⟨2, ![8704, 4096]⟩

abbrev nBuf : Space → Nat
  | .hbm => 6
  | .vmem => 0
  | .smem => 0
  | _ => 0

abbrev bufTy : (tb : Table) → Fin (tcTables nBuf tb) → BufTy
  | .hbm, ⟨0, _⟩ => ⟨S8704x2048, .bf16⟩
  | .hbm, ⟨1, _⟩ => ⟨S8704x2048, .bf16⟩
  | .hbm, ⟨2, _⟩ => ⟨S4096x4096, .f32⟩
  | .hbm, ⟨3, _⟩ => ⟨S8704x4096, .bf16⟩
  | .hbm, ⟨4, _⟩ => ⟨S8704x4096, .f32⟩
  | .hbm, ⟨5, _⟩ => ⟨S8704x4096, .f32⟩
  | _, _ => ⟨S8704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.UpRuns.lean ====
/- What the body of the first expert product leaves at a grid point, on each of its four ways through the two
   tests (the weight block is new there or the one before; the row tile is in use or not), for any tables: the
   kept weights are the two current blocks rounded, the output block is the activated product or zero. -/
module

public import proofs.«01_k».proof.Proof.Gen.Up.Flash.Runs
public import proofs.«01_k».proof.Proof.Gen.Up.Launch
public import Idealize.ShloMosaic.Lib.Writes
public import Idealize.ShloMosaic.Lib.Ring
public import Idealize.ShloMosaic.Lib.ValueIdx
public import Idealize.ShloMosaic.Lib.Pipeline.Value

@[expose] public section

set_option maxRecDepth 16384

noncomputable section

namespace Cert.Up.Moe

open Cert.Up Cert.Up.Gen
open Idealize.ShloMosaic
open Idealize.ShloMosaic.TcCoe Idealize.ShloMosaic.Tactic
open Idealize.SL Idealize.SL.RA Idealize.SL.BI
open Idealize.SL.Sem
open Idealize.ShloMosaic.ValueIdx

/-- The weight block as the kernel keeps it: a plane of it, rounded to half precision. -/
def castW (x1 : S1x1x4096x512.Idx → Elt Bits .f32) : S4096x512.Idx → Elt Bits .bf16 :=
  fun y => FloatOps.truncf (F := Bits) .bf16 bitsLt_bf16_f32 (x1 (ix4 (0 : Fin 1) (0 : Fin 1) (y 0) (y 1)))

/-- One strip of the kept weights, entry by entry. -/
theorem strip_apply (v : Vec Bits S1x1x256x512 .f32) (y : S256x512.Idx) :
    k0_pay1 v y = FloatOps.truncf (F := Bits) .bf16 bitsLt_bf16_f32 (v (ix4 (0 : Fin 1) (0 : Fin 1) (y 0) (y 1))) := by
  unfold k0_pay1
  rw [shapeCast_self]
  show FloatOps.truncf (F := Bits) .bf16 _ (shapeCast S256x512 v _ y) = _
  rw [shapeCast_apply v _ y (ix4 (0 : Fin 1) (0 : Fin 1) (y 0) (y 1))]
  rw [Shape.rowMajor_val_two, Shape.rowMajor_val_four]
  simp [ix4]

theorem strip2_apply (v : Vec Bits S1x1x256x512 .f32) (y : S256x512.Idx) :
    k0_pay2 v y = FloatOps.truncf (F := Bits) .bf16 bitsLt_bf16_f32 (v (ix4 (0 : Fin 1) (0 : Fin 1) (y 0) (y 1))) :=
  strip_apply v y

/-- A strip read off the weight block at row `o` is rows `o …` of the kept weights. -/
theorem strip_piece (a5 : Memref sig .tc .vmem S1x1x4096x512 .f32) (x1 : S1x1x4096x512.Idx → Elt Bits .f32)
    (o : ℕ) (h4 : ∀ a, (![0, 0, o, 0] : Fin 4 → ℕ) a + S1x1x256x512.size a ≤ S1x1x4096x512.size a)
    (h2 : ∀ a, (![o, 0] : Fin 2 → ℕ) a + S256x512.size a ≤ S4096x512.size a) (x : S256x512.Idx) :
    k0_pay1 (View.readAt (Elt Bits) a5.view (Rect.unit (s := S1x1x4096x512) ![0, 0, o, 0] S1x1x256x512.size h4).toLoadRect (a5.view.rep x1)) x
      = castW x1 ((Rect.unit (s := S4096x512) ![o, 0] S256x512.size h2).emb x) := by
  rw [strip_apply, View.readAt_rep]
  unfold castW
  refine congrArg (fun z => FloatOps.truncf (F := Bits) .bf16 bitsLt_bf16_f32 (x1 z)) ?_
  funext a
  refine Fin.ext ?_
  match a with
  | ⟨0, _⟩ => rfl
  | ⟨1, _⟩ => rfl
  | ⟨2, _⟩ => rfl
  | ⟨3, _⟩ => rfl

theorem strips (a5 : Memref sig .tc .vmem S1x1x4096x512 .f32) (x1 : S1x1x4096x512.Idx → Elt Bits .f32) :
    ∀ p ∈ kernelRun0_A.sl.HS0_16 a5 x1, ∀ x : p.1.shape.Idx, p.2 x = castW x1 (p.1.emb x) := by
  intro p hp x
  unfold kernelRun0_A.sl.HS0_16 at hp
  simp only [List.mem_cons, List.not_mem_nil, or_false] at hp
  rcases hp with rfl | rfl | rfl | rfl | rfl | rfl | rfl | rfl | rfl | rfl | rfl | rfl | rfl | rfl | rfl | rfl <;> exact strip_piece a5 x1 _ _ (by decide) x

set_option maxHeartbeats 4000000 in
theorem strips_cover (a5 : Memref sig .tc .vmem S1x1x4096x512 .f32) (x1 : S1x1x4096x512.Idx → Elt Bits .f32) (y : S4096x512.Idx) :
    ∃ p ∈ kernelRun0_A.sl.HS0_16 a5 x1, y ∈ p.1.set :=
  View.cover_of_tiledL (kernelRun0_A.sl.HS0_16 a5 x1) S256x512.size (by sl_kernel_rfl) y

/-- The kept weights after all strips are stored, over anything. -/
theorem kept (a5 : Memref sig .tc .vmem S1x1x4096x512 .f32) (x1 : S1x1x4096x512.Idx → Elt Bits .f32)
    (f : BufTy.Contents (Elt Bits) (View.whole cc0_scratch0).ty) :
    (View.whole cc0_scratch0).writes (Elt Bits) f (kernelRun0_A.sl.HS0_16 a5 x1) = castW x1 := by
  have h := funext fun y => View.read_writes_apply_of_pieces (View.whole cc0_scratch0) f (castW x1) _ (strips a5 x1) y (strips_cover a5 x1 y)
  rwa [View.read_whole] at h

theorem strips2 (a5 : Memref sig .tc .vmem S1x1x4096x512 .f32) (x1 : S1x1x4096x512.Idx → Elt Bits .f32) :
    ∀ p ∈ kernelRun0_A.sl.HS1_16 a5 x1, ∀ x : p.1.shape.Idx, p.2 x = castW x1 (p.1.emb x) := by
  intro p hp x
  unfold kernelRun0_A.sl.HS1_16 at hp
  simp only [List.mem_cons, List.not_mem_nil, or_false] at hp
  rcases hp with rfl | rfl | rfl | rfl | rfl | rfl | rfl | rfl | rfl | rfl | rfl | rfl | rfl | rfl | rfl | rfl <;> exact strip_piece a5 x1 _ _ (by decide) x

set_option maxHeartbeats 4000000 in
theorem strips2_cover (a5 : Memref sig .tc .vmem S1x1x4096x512 .f32) (x1 : S1x1x4096x512.Idx → Elt Bits .f32) (y : S4096x512.Idx) :
    ∃ p ∈ kernelRun0_A.sl.HS1_16 a5 x1, y ∈ p.1.set :=
  View.cover_of_tiledL (kernelRun0_A.sl.HS1_16 a5 x1) S256x512.size (by sl_kernel_rfl) y

/-- The kept weights of the second scratch after all strips are stored, over anything. -/
theorem kept2 (a5 : Memref sig .tc .vmem S1x1x4096x512 .f32) (x1 : S1x1x4096x512.Idx → Elt Bits .f32)
    (f : BufTy.Contents (Elt Bits) (View.whole cc0_scratch1).ty) :
    (View.whole cc0_scratch1).writes (Elt Bits) f (kernelRun0_A.sl.HS1_16 a5 x1) = castW x1 := by
  have h := funext fun y => View.read_writes_apply_of_pieces (View.whole cc0_scratch1) f (castW x1) _ (strips2 a5 x1) y (strips2_cover a5 x1 y)
  rwa [View.read_whole] at h

/-- The output block: the activated product where the tile is in use, zero elsewhere. -/
def outF (act : Prop) [Decidable act] (x0 : S512x4096.Idx → Elt Bits .bf16) (w u : S4096x512.Idx → Elt Bits .bf16) :
    S512x512.Idx → Elt Bits .bf16 :=
  if act then k0_pay3 x0 w u else k0_pay4 (F := Bits)

/-- A block read or stored whole keeps its indices. -/
theorem whole_idx {n0 n1 : ℕ} (h : ∀ a, (![0, 0] : Fin 2 → ℕ) a + (⟨2, ![n0, n1]⟩ : Shape).size a ≤ (⟨2, ![n0, n1]⟩ : Shape).size a)
    (y : (⟨2, ![n0, n1]⟩ : Shape).Idx) : (Rect.unit (s := ⟨2, ![n0, n1]⟩) ![0, 0] (⟨2, ![n0, n1]⟩ : Shape).size h).toLoadRect.idx y = y := by
  funext a
  refine Fin.ext ?_
  match a with
  | ⟨0, _⟩ => show 0 + 1 * (y 0).val = (y 0).val; omega
  | ⟨1, _⟩ => show 0 + 1 * (y 1).val = (y 1).val; omega

/-- One store of the whole block leaves the value stored. -/
theorem read_one {sp : Space} (v : View sig .tc sp S512x512 .bf16) (f : BufTy.Contents (Elt Bits) v.ty)
    (h : ∀ a, (![0, 0] : Fin 2 → ℕ) a + S512x512.size a ≤ S512x512.size a) (X : S512x512.Idx → Elt Bits .bf16) :
    View.read (Elt Bits) v (v.writes (Elt Bits) f [⟨Rect.unit (s := S512x512) ![0, 0] S512x512.size h, X⟩]) = X := by
  funext y
  refine View.read_writes_apply_of_pieces v f X _ ?_ y ?_
  · intro p hp x
    obtain rfl := List.mem_singleton.1 hp
    exact congrArg X (whole_idx h x).symm
  · refine ⟨_, List.mem_singleton.2 rfl, ?_⟩
    have := (Rect.unit (s := S512x512) ![0, 0] S512x512.size h).toLoadRect.idx_mem y
    rwa [whole_idx h y] at this

theorem readAt_rep_whole {n0 n1 : ℕ} {e : EltTy} (a : Memref sig .tc .vmem ⟨2, ![n0, n1]⟩ e)
    (h : ∀ a, (![0, 0] : Fin 2 → ℕ) a + (⟨2, ![n0, n1]⟩ : Shape).size a ≤ (⟨2, ![n0, n1]⟩ : Shape).size a)
    (x : (⟨2, ![n0, n1]⟩ : Shape).Idx → Elt Bits e) :
    View.readAt (Elt Bits) a.view (Rect.unit (s := ⟨2, ![n0, n1]⟩) ![0, 0] (⟨2, ![n0, n1]⟩ : Shape).size h).toLoadRect (a.view.rep x) = x := by
  rw [View.readAt_rep]
  exact funext fun y => congrArg x (whole_idx h y)

/-- The kept weights read back whole. -/
theorem readAt_kept (h : ∀ a, (![0, 0] : Fin 2 → ℕ) a + S4096x512.size a ≤ S4096x512.size a)
    (f : BufTy.Contents (Elt Bits) (View.whole cc0_scratch0).ty) :
    View.readAt (Elt Bits) scM0_0.view (Rect.unit (s := S4096x512) ![0, 0] S4096x512.size h).toLoadRect f = f :=
  funext fun y => congrArg f (whole_idx h y)

/-- The kept weights read back in the point that stored them. -/
theorem readCov_kept (a5 : Memref sig .tc .vmem S1x1x4096x512 .f32) (x1 : S1x1x4096x512.Idx → Elt Bits .f32)
    (h : ∀ a, (![0, 0] : Fin 2 → ℕ) a + S4096x512.size a ≤ S4096x512.size a) :
    scM0_0.view.readCov (kernelRun0_A.sl.HS0_16 a5 x1) (Rect.unit (s := S4096x512) ![0, 0] S4096x512.size h).toLoadRect = castW x1 := by
  unfold View.readCov
  have e := kept a5 x1 (View.whole cc0_scratch0).junk
  have r := readAt_kept h (castW x1)
  rw [← e] at r
  exact r.trans e

/-- The second kept weights read back whole. -/
theorem readAt_kept2 (h : ∀ a, (![0, 0] : Fin 2 → ℕ) a + S4096x512.size a ≤ S4096x512.size a)
    (f : BufTy.Contents (Elt Bits) (View.whole cc0_scratch1).ty) :
    View.readAt (Elt Bits) scM0_1.view (Rect.unit (s := S4096x512) ![0, 0] S4096x512.size h).toLoadRect f = f :=
  funext fun y => congrArg f (whole_idx h y)

/-- The second kept weights read back in the point that stored them. -/
theorem readCov_kept2 (a5 : Memref sig .tc .vmem S1x1x4096x512 .f32) (x1 : S1x1x4096x512.Idx → Elt Bits .f32)
    (h : ∀ a, (![0, 0] : Fin 2 → ℕ) a + S4096x512.size a ≤ S4096x512.size a) :
    scM0_1.view.readCov (kernelRun0_A.sl.HS1_16 a5 x1) (Rect.unit (s := S4096x512) ![0, 0] S4096x512.size h).toLoadRect = castW x1 := by
  unfold View.readCov
  have e := kept2 a5 x1 (View.whole cc0_scratch1).junk
  have r := readAt_kept2 h (castW x1)
  rw [← e] at r
  exact r.trans e

/-! ## The two tests -/

/-- The word of the table the tests read at a point, and the one before it. -/
abbrev rd1 (i : grid0.Coords) (T0 : S50.Idx → BitVec 32) : BitVec 32 :=
  View.readAt (Elt Bits) (tbM0_0).view (Rect.unit (s := S50) (k0_off1 i) S1.size (k0_off1_inb i)).toLoadRect T0 (Shape.Idx.first (numel1_S1.symm ▸ Nat.one_pos))
abbrev rd2 (i : grid0.Coords) (T0 : S50.Idx → BitVec 32) : BitVec 32 :=
  View.readAt (Elt Bits) (tbM0_0).view (Rect.unit (s := S50) (k0_off2 i) S1.size (k0_off2_inb i)).toLoadRect T0 (Shape.Idx.first (numel1_S1.symm ▸ Nat.one_pos))
abbrev rdN (T1 : S1.Idx → BitVec 32) : BitVec 32 :=
  View.readAt (Elt Bits) (tbM0_1).view (Rect.unit (s := S1) ![0] S1.size inb_S1_S1_0).toLoadRect T1 (Shape.Idx.first (numel1_S1.symm ▸ Nat.one_pos))
/-- The weight block is new at this point, as the body tests it. -/
abbrev isNew (i : grid0.Coords) (T0 : S50.Idx → BitVec 32) : Prop :=
  Scalar.cmpi .ne (Scalar.extui (Scalar.ori (Scalar.cmpi .eq (BitVec.ofNat 32 (i 1).val) 0#32) (Scalar.cmpi .ne (rd1 i T0) (rd2 i T0)))) 0#32 = 1#1
/-- The row tile is in use, as the body tests it. -/
abbrev inUse (i : grid0.Coords) (T1 : S1.Idx → BitVec 32) : Prop := k0_cond2 i (rdN T1) = 1#1
abbrev notUsed (i : grid0.Coords) (T1 : S1.Idx → BitVec 32) : Prop := k0_cond3 i (rdN T1) = 1#1

theorem ne_zero_of_bit (b : BitVec 1) : (Scalar.cmpi .ne (Scalar.extui b : BitVec 32) 0#32 = 1#1) ↔ b = 1#1 := by
  revert b; decide

theorem bit_or (a b : BitVec 1) : Scalar.ori a b = 1#1 ↔ a = 1#1 ∨ b = 1#1 := by
  revert a b; decide

theorem notUsed_iff (i : grid0.Coords) (T1 : S1.Idx → BitVec 32) : notUsed i T1 ↔ ¬ inUse i T1 := by
  unfold notUsed inUse k0_cond2 k0_cond3
  dsimp only
  rw [ne_zero_of_bit, ne_zero_of_bit]
  unfold Scalar.cmpi IntOp.cmpi
  generalize BitVec.ofNat 32 (i 1).val = a
  generalize rdN T1 = b
  dsimp only
  have h : b.sle a = !a.slt b := by
    rw [BitVec.sle, BitVec.slt, ← decide_not, decide_eq_decide, not_lt]
  rw [h]
  cases a.slt b <;> decide

theorem inUse_iff (i : grid0.Coords) (T1 : S1.Idx → BitVec 32) :
    inUse i T1 ↔ ((i 1).val : ℤ) < (T1 (ix1 (0 : Fin 1))).toInt := by
  unfold inUse k0_cond2
  dsimp only
  rw [ne_zero_of_bit]
  unfold Scalar.cmpi IntOp.cmpi
  have hr : rdN T1 = T1 (ix1 (0 : Fin 1)) := congrArg T1 (by funext a; match a with | ⟨0, _⟩ => rfl)
  have hi : (i 1).val < 50 := (i 1).isLt
  have hv : (BitVec.ofNat 32 (i 1).val).toInt = ((i 1).val : ℤ) := by
    rw [BitVec.toInt_eq_toNat_cond, BitVec.toNat_ofNat]; split <;> omega
  rw [hr]
  dsimp only
  rw [← hv, ← BitVec.slt_iff_toInt_lt]
  cases BitVec.slt (BitVec.ofNat 32 (i 1).val) (T1 (ix1 (0 : Fin 1))) <;> decide

theorem isNew_iff (i : grid0.Coords) (T0 : S50.Idx → BitVec 32) :
    isNew i T0 ↔ ((i 1).val = 0 ∨ rd1 i T0 ≠ rd2 i T0) := by
  unfold isNew
  rw [ne_zero_of_bit, bit_or]
  unfold Scalar.cmpi IntOp.cmpi
  have hi : (i 1).val < 50 := (i 1).isLt
  have hz : (BitVec.ofNat 32 (i 1).val == 0#32) = decide ((i 1).val = 0) := by
    rw [Bool.eq_iff_iff, beq_iff_eq, decide_eq_true_eq, ← BitVec.toNat_inj, BitVec.toNat_ofNat]
    show _ = 0 ↔ _
    omega
  dsimp only
  rw [hz]
  generalize rd1 i T0 = a
  generalize rd2 i T0 = b
  have hb : (a != b) = decide (a ≠ b) := by
    rw [Bool.eq_iff_iff, bne_iff_ne, decide_eq_true_eq]
  rw [hb]
  by_cases h1 : (i 1).val = 0 <;> by_cases h2 : a = b <;> simp [h1, h2]

theorem rd1_eq (i : grid0.Coords) (T0 : S50.Idx → BitVec 32) : rd1 i T0 = T0 (ix1 ⟨(i 1).val, (i 1).isLt⟩) := by
  refine congrArg T0 ?_
  funext a
  refine Fin.ext ?_
  have hi : (i 1).val < 50 := (i 1).isLt
  match a with
  | ⟨0, _⟩ =>
    show (Scalar.indexCast (BitVec.ofNat 32 (i 1).val)).toNat + 1 * 0 = (i 1).val
    show (BitVec.ofNat 32 (i 1).val).toNat + 1 * 0 = (i 1).val
    rw [BitVec.toNat_ofNat]; omega

theorem rd2_eq (i : grid0.Coords) (T0 : S50.Idx → BitVec 32) (h : (i 1).val ≠ 0) :
    rd2 i T0 = T0 (ix1 ⟨(i 1).val - 1, lt_of_le_of_lt (Nat.sub_le _ _) (i 1).isLt⟩) := by
  refine congrArg T0 ?_
  funext a
  refine Fin.ext ?_
  match a with
  | ⟨0, _⟩ =>
    show (Scalar.maxsi (Scalar.subi (BitVec.ofNat 32 (i 1).val) 1#32) 0#32).toNat + 1 * 0 = (i 1).val - 1
    have hi : (i 1).val < 50 := (i 1).isLt
    revert h
    generalize (i 1).val = n at hi ⊢
    revert n
    decide

/-! ## The four ways through the body -/

section
variable (c : Dev nD) (i : grid0.Coords) (a4 : Memref sig .tc .vmem S512x4096 .bf16) (h4 : a4.IsWhole)
  (a5 : Memref sig .tc .vmem S1x1x4096x512 .f32) (h5 : a5.IsWhole) (a6 : Memref sig .tc .vmem S1x1x4096x512 .f32) (h6 : a6.IsWhole)
  (a7 : Memref sig .tc .vmem S512x512 .bf16) (h7 : a7.IsWhole) (T0 : S50.Idx → Elt Bits .i32) (T1 : S1.Idx → Elt Bits .i32)
  (x0 : S512x4096.Idx → Elt Bits .bf16) (x1 : S1x1x4096x512.Idx → Elt Bits .f32) (x2 : S1x1x4096x512.Idx → Elt Bits .f32)

theorem kept_A (hc0 : isNew i T0) (hu : inUse i T1) (hn : ¬ notUsed i T1) :
    (kernelRun0_A c i a4 h4 a5 h5 a6 h6 a7 h7 T0 T1 x0 x1 x2 hc0 hu hn).2.1 = castW x1 := by
  unfold kernelRun0_A; dsimp only
  exact kept a5 x1 _

theorem kept2_A (hc0 : isNew i T0) (hu : inUse i T1) (hn : ¬ notUsed i T1) :
    (kernelRun0_A c i a4 h4 a5 h5 a6 h6 a7 h7 T0 T1 x0 x1 x2 hc0 hu hn).2.2.1 = castW x2 := by
  unfold kernelRun0_A; dsimp only
  exact kept2 a6 x2 _

theorem out_A (hc0 : isNew i T0) (hu : inUse i T1) (hn : ¬ notUsed i T1) (f : BufTy.Contents (Elt Bits) a7.view.ty) :
    View.read (Elt Bits) a7.view (a7.view.writes (Elt Bits) f (kernelRun0_A c i a4 h4 a5 h5 a6 h6 a7 h7 T0 T1 x0 x1 x2 hc0 hu hn).1)
      = outF (inUse i T1) x0 (castW x1) (castW x2) := by
  unfold kernelRun0_A; dsimp only
  unfold kernelRun0_A.sl.HO3_1 kernelRun0_A.sl.v20 kernelRun0_A.sl.v22
  rw [read_one, outF, if_pos hu, readAt_rep_whole]
  rw [readCov_kept, readCov_kept2]

theorem kept_D (hc0 : isNew i T0) (hu : ¬ inUse i T1) (hn : notUsed i T1) :
    (kernelRun0_D c i a4 h4 a5 h5 a6 h6 a7 h7 T0 T1 x0 x1 x2 hc0 hu hn).2.1 = castW x1 := by
  unfold kernelRun0_D; dsimp only
  exact kept a5 x1 _

theorem kept2_D (hc0 : isNew i T0) (hu : ¬ inUse i T1) (hn : notUsed i T1) :
    (kernelRun0_D c i a4 h4 a5 h5 a6 h6 a7 h7 T0 T1 x0 x1 x2 hc0 hu hn).2.2.1 = castW x2 := by
  unfold kernelRun0_D; dsimp only
  exact kept2 a6 x2 _

theorem out_D (hc0 : isNew i T0) (hu : ¬ inUse i T1) (hn : notUsed i T1) (f : BufTy.Contents (Elt Bits) a7.view.ty) :
    View.read (Elt Bits) a7.view (a7.view.writes (Elt Bits) f (kernelRun0_D c i a4 h4 a5 h5 a6 h6 a7 h7 T0 T1 x0 x1 x2 hc0 hu hn).1)
      = outF (inUse i T1) x0 (castW x1) (castW x2) := by
  unfold kernelRun0_D; dsimp only
  unfold kernelRun0_D.sl.HO3_1
  rw [read_one, outF, if_neg hu]

theorem kept_B (w u : S4096x512.Idx → Elt Bits .bf16) (hc0 : ¬ isNew i T0) (hu : inUse i T1) (hn : ¬ notUsed i T1) :
    (kernelRun0_B c i a4 h4 a5 h5 a6 h6 a7 h7 T0 T1 x0 x1 x2 w u hc0 hu hn).2.1 = w := by
  unfold kernelRun0_B; rfl

theorem kept2_B (w u : S4096x512.Idx → Elt Bits .bf16) (hc0 : ¬ isNew i T0) (hu : inUse i T1) (hn : ¬ notUsed i T1) :
    (kernelRun0_B c i a4 h4 a5 h5 a6 h6 a7 h7 T0 T1 x0 x1 x2 w u hc0 hu hn).2.2.1 = u := by
  unfold kernelRun0_B; rfl

theorem out_B (w u : S4096x512.Idx → Elt Bits .bf16) (hc0 : ¬ isNew i T0) (hu : inUse i T1) (hn : ¬ notUsed i T1) (f : BufTy.Contents (Elt Bits) a7.view.ty) :
    View.read (Elt Bits) a7.view (a7.view.writes (Elt Bits) f (kernelRun0_B c i a4 h4 a5 h5 a6 h6 a7 h7 T0 T1 x0 x1 x2 w u hc0 hu hn).1)
      = outF (inUse i T1) x0 w u := by
  unfold kernelRun0_B; dsimp only
  unfold kernelRun0_B.sl.HO3_1
  rw [read_one, outF, if_pos hu, readAt_rep_whole]
  have e1 := readAt_kept inb_S4096x512_S4096x512_0_0 w
  have e2 := readAt_kept2 inb_S4096x512_S4096x512_0_0 u
  exact congr (congrArg (k0_pay3 x0) e1) e2

theorem kept_C (w u : S4096x512.Idx → Elt Bits .bf16) (hc0 : ¬ isNew i T0) (hu : ¬ inUse i T1) (hn : notUsed i T1) :
    (kernelRun0_C c i a4 h4 a5 h5 a6 h6 a7 h7 T0 T1 x0 x1 x2 w u hc0 hu hn).2.1 = w := by
  unfold kernelRun0_C; rfl

theorem kept2_C (w u : S4096x512.Idx → Elt Bits .bf16) (hc0 : ¬ isNew i T0) (hu : ¬ inUse i T1) (hn : notUsed i T1) :
    (kernelRun0_C c i a4 h4 a5 h5 a6 h6 a7 h7 T0 T1 x0 x1 x2 w u hc0 hu hn).2.2.1 = u := by
  unfold kernelRun0_C; rfl

theorem out_C (w u : S4096x512.Idx → Elt Bits .bf16) (hc0 : ¬ isNew i T0) (hu : ¬ inUse i T1) (hn : notUsed i T1) (f : BufTy.Contents (Elt Bits) a7.view.ty) :
    View.read (Elt Bits) a7.view (a7.view.writes (Elt Bits) f (kernelRun0_C c i a4 h4 a5 h5 a6 h6 a7 h7 T0 T1 x0 x1 x2 w u hc0 hu hn).1)
      = outF (inUse i T1) x0 w u := by
  unfold kernelRun0_C; dsimp only
  unfold kernelRun0_C.sl.HO3_1
  rw [read_one, outF, if_neg hu]

end

end Cert.Up.Moe

end
-- ==== Proof.UpDat.lean ====
/- The pipeline of the first expert product at any expert table with entries below sixteen: its blocks, what is
   kept and what is stored at every point. -/
module

public import proofs.«01_k».proof.Proof.UpRuns
public import Idealize.ShloMosaic.Lib.Pipeline.Quiescent
public import Idealize.ShloMosaic.Lib.Claim
public import Idealize.ShloMosaic.Lib.Pipeline.Kit
public import Idealize.ShloMosaic.Lib.Pipeline.FrameBody
public import Idealize.ShloMosaic.Lib.Exec
public import Idealize.ShloMosaic.Lib.Tactic
public import Idealize.ShloMosaic.PureOps.Ideal
public import Idealize.ShloMosaic.Adequacy
public import Idealize.ShloMosaic.Init

@[expose] public section

set_option maxRecDepth 16384

noncomputable section

namespace Cert.Up.Moe

open Cert.Up Cert.Up.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Rounds
open Idealize.ShloMosaic.Pipeline (Dat Cfg Window BodyObligation BodyObligationLoose cellOf)

local notation "𝕄" => MT nD τ sig Unit (Elt Bits) ℕ (UR sig nD τ) ℕ

/-- The resource algebra of the proof: the pipeline's own, embedded whole. -/
abbrev EP : Emb (UR sig nD τ) 𝕄 := emb₁

/-- The two tables the call is given: an expert for each row tile, and how many tiles are in use. -/
structure Tabs where
  e : S50.Idx → BitVec 32
  n : S1.Idx → BitVec 32
  lt : ∀ j, (e j).toNat < 16

variable (T : Tabs)
variable (m : (ℓ : Loc nD τ sig) → Buf (Elt Bits) ℓ) (ρ : Dev nD → PrngReg)

/-- The tables as the pipeline takes them. -/
def pf : pre0.Contents (Elt Bits) := fun | ⟨0, _⟩ => T.e | ⟨1, _⟩ => T.n | ⟨_ + 2, h⟩ => absurd h (by simp)

/-- The weight block of a point: expert and column tile. -/
theorem block1 (i : grid0.Coords) :
    cc0_transform_1 k0_off1_inb numel1_S1 (pf T) i = ![0, (T.e (ix1 ⟨(i 1).val, (i 1).isLt⟩)).toNat, 0, (i 0).val] := by
  have h0 : (i 0).val < 2 := (i 0).isLt
  have h := rd1_eq i T.e
  show ![0, (rd1 i T.e).toNat, 0, (BitVec.ofNat 32 (i 0).val).toNat] = _
  rw [h, BitVec.toNat_ofNat, Nat.mod_eq_of_lt (by omega)]

theorem block2 (i : grid0.Coords) :
    cc0_transform_2 k0_off1_inb numel1_S1 (pf T) i = ![0, (T.e (ix1 ⟨(i 1).val, (i 1).isLt⟩)).toNat, 0, (i 0).val] := block1 T i

theorem ok_pf : ok0 (F := Bits) (pf T) := by
  suffices hs : ∀ (i : grid0.Coords) a, ((![0, (T.e (ix1 ⟨(i 1).val, (i 1).isLt⟩)).toNat, 0, (i 0).val] : Fin 4 → ℕ) a + 1) * S1x1x4096x512.size a ≤ S2x16x4096x1024.size a by
    exact ⟨fun i => ⟨by rw [block1]; exact hs i, .inl rfl⟩, fun i => ⟨by rw [block2]; exact hs i, .inl rfl⟩⟩
  intro i
  have h0 : (i 0).val < 2 := (i 0).isLt
  have h1 := T.lt (ix1 ⟨(i 1).val, (i 1).isLt⟩)
  intro a
  match a with
  | ⟨0, _⟩ => show (0 + 1) * 1 ≤ 2; omega
  | ⟨1, _⟩ => show ((T.e (ix1 ⟨(i 1).val, (i 1).isLt⟩)).toNat + 1) * 1 ≤ 16; omega
  | ⟨2, _⟩ => show (0 + 1) * 4096 ≤ 4096; omega
  | ⟨3, _⟩ => show ((i 0).val + 1) * 512 ≤ 1024; omega

/-- The pipeline at these tables. -/
def adm : (pcfg0 (F := Bits)).Adm := ⟨pf T, ok_pf T⟩
abbrev cfgA : Pipeline.Cfg sig Λ₀ := cfg0 (F := Bits) (adm T)
abbrev pcs : Fin 1 → Pipeline.Cfg sig Λ₀ := Pipeline.pin (pcfgs (F := Bits)) fun _ => adm T

abbrev crd (t : Fin (cfgA T).N) : (cfgA T).grid.Coords := (cfgA T).grid.coords t

abbrev ms0 (t : Fin (cfgA T).N) : Memref sig .tc .vmem S512x4096 .bf16 := spec0_0.stage ((cfgA T).slots t (0 : Fin 4))
abbrev hs0 (t : Fin (cfgA T).N) : (ms0 T t).IsWhole := hstage0_0 (((cfgA T).slots t (0 : Fin 4)).cast nbuf0_0)
abbrev ms1 (t : Fin (cfgA T).N) : Memref sig .tc .vmem S1x1x4096x512 .f32 := spec0_1.stage ((cfgA T).slots t (1 : Fin 4))
abbrev hs1 (t : Fin (cfgA T).N) : (ms1 T t).IsWhole := hstage0_1 (((cfgA T).slots t (1 : Fin 4)).cast nbuf0_1)
abbrev ms2 (t : Fin (cfgA T).N) : Memref sig .tc .vmem S1x1x4096x512 .f32 := spec0_2.stage ((cfgA T).slots t (2 : Fin 4))
abbrev hs2 (t : Fin (cfgA T).N) : (ms2 T t).IsWhole := hstage0_2 (((cfgA T).slots t (2 : Fin 4)).cast nbuf0_2)
abbrev ms3 (t : Fin (cfgA T).N) : Memref sig .tc .vmem S512x512 .bf16 := spec0_3.stage ((cfgA T).slots t (3 : Fin 4))
abbrev hs3 (t : Fin (cfgA T).N) : (ms3 T t).IsWhole := hstage0_3 (((cfgA T).slots t (3 : Fin 4)).cast nbuf0_3)

/-- A window's block at a point, read off its array at launch. -/
def iblk (c : Dev nD) (w : Fin (cfgA T).W) (t : Fin (cfgA T).N) : (((cfgA T).win w).xblock (crd T t)).Idx → Elt Bits ((cfgA T).win w).elt :=
  (((cfgA T).win w).blk t).view.read (Elt Bits) ((s₀ m ρ).mem (((cfgA T).win w).arr.view.loc (c : Thread nD τ)))

/-- The kept weights of a point. -/
def keptAt (c : Dev nD) (t : Fin (cfgA T).N) : S4096x512.Idx → Elt Bits .bf16 := castW (iblk T m ρ c (1 : Fin 4) t)
def keptAt2 (c : Dev nD) (t : Fin (cfgA T).N) : S4096x512.Idx → Elt Bits .bf16 := castW (iblk T m ρ c (2 : Fin 4) t)

/-- The output block of a point. -/
def outAt (c : Dev nD) (t : Fin (cfgA T).N) : S512x512.Idx → Elt Bits .bf16 :=
  outF (inUse (crd T t) T.n) (iblk T m ρ c (0 : Fin 4) t) (keptAt T m ρ c t) (keptAt2 T m ρ c t)

/-! ## The weight block at a point that does not renew it -/

theorem crd_val0 (t : Fin (cfgA T).N) : ((crd T t) 0).val = t.val / 50 % 2 := Pipeline.Grid.coords_val t 0 rfl rfl
theorem crd_val1 (t : Fin (cfgA T).N) : ((crd T t) 1).val = t.val / 1 % 50 := Pipeline.Grid.coords_val t 1 rfl rfl

/-- The weight block of a point, entry by entry. -/
theorem iblk1_apply (c : Dev nD) (t : Fin (cfgA T).N) (y : S1x1x4096x512.Idx) :
    iblk T m ρ c (1 : Fin 4) t y = m ((c : Thread nD τ).loc main_arg3)
      (ix4 (0 : Fin 2) (⟨(T.e (ix1 ⟨((crd T t) 1).val, ((crd T t) 1).isLt⟩)).toNat, T.lt _⟩ : Fin 16) (y 2)
        (⟨((crd T t) 0).val * 512 + (y 3).val, by have h : ((crd T t) 0).val < 2 := ((crd T t) 0).isLt; have h3 : (y 3).val < 512 := (y 3).isLt; omega⟩ : Fin 1024)) := by
  show m ((c : Thread nD τ).loc main_arg3) ((((cfgA T).win (1 : Fin 4)).rect t).emb y) = _
  refine congrArg _ ?_
  funext a
  refine Fin.ext ?_
  rw [Pipeline.Window.rect_emb_val ((cfgA T).win (1 : Fin 4)) t y a (hk := rfl)]
  have hb : ((cfgA T).win (1 : Fin 4)).index t a = (![0, (T.e (ix1 ⟨((crd T t) 1).val, ((crd T t) 1).isLt⟩)).toNat, 0, ((crd T t) 0).val] : Fin 4 → ℕ) a :=
    congrFun (block1 T (crd T t)) a
  rw [hb]
  match a with
  | ⟨0, _⟩ => have h : (y 0).val < 1 := (y 0).isLt; show 0 * 1 + (y 0).val = 0; omega
  | ⟨1, _⟩ => have h : (y 1).val < 1 := (y 1).isLt; show (T.e _).toNat * 1 + (y 1).val = (T.e _).toNat; omega
  | ⟨2, _⟩ => show 0 * 4096 + (y 2).val = (y 2).val; omega
  | ⟨3, _⟩ => rfl

/-- The second weight block of a point, entry by entry. -/
theorem iblk2_apply (c : Dev nD) (t : Fin (cfgA T).N) (y : S1x1x4096x512.Idx) :
    iblk T m ρ c (2 : Fin 4) t y = m ((c : Thread nD τ).loc main_arg4)
      (ix4 (0 : Fin 2) (⟨(T.e (ix1 ⟨((crd T t) 1).val, ((crd T t) 1).isLt⟩)).toNat, T.lt _⟩ : Fin 16) (y 2)
        (⟨((crd T t) 0).val * 512 + (y 3).val, by have h : ((crd T t) 0).val < 2 := ((crd T t) 0).isLt; have h3 : (y 3).val < 512 := (y 3).isLt; omega⟩ : Fin 1024)) := by
  show m ((c : Thread nD τ).loc main_arg4) ((((cfgA T).win (2 : Fin 4)).rect t).emb y) = _
  refine congrArg _ ?_
  funext a
  refine Fin.ext ?_
  rw [Pipeline.Window.rect_emb_val ((cfgA T).win (2 : Fin 4)) t y a (hk := rfl)]
  have hb : ((cfgA T).win (2 : Fin 4)).index t a = (![0, (T.e (ix1 ⟨((crd T t) 1).val, ((crd T t) 1).isLt⟩)).toNat, 0, ((crd T t) 0).val] : Fin 4 → ℕ) a :=
    congrFun (block2 T (crd T t)) a
  rw [hb]
  match a with
  | ⟨0, _⟩ => have h : (y 0).val < 1 := (y 0).isLt; show 0 * 1 + (y 0).val = 0; omega
  | ⟨1, _⟩ => have h : (y 1).val < 1 := (y 1).isLt; show (T.e _).toNat * 1 + (y 1).val = (T.e _).toNat; omega
  | ⟨2, _⟩ => show 0 * 4096 + (y 2).val = (y 2).val; omega
  | ⟨3, _⟩ => rfl

/-- Unless the tile is the first or its expert differs from the tile's before, the weight block is the one before. -/
theorem same_block (c : Dev nD) (t : Fin (cfgA T).N) (ht : t.val ≠ 0) (h : ¬ isNew (crd T t) T.e) :
    keptAt T m ρ c t = keptAt T m ρ c ⟨t.val - 1, lt_of_le_of_lt (Nat.sub_le _ _) t.isLt⟩ := by
  rw [isNew_iff] at h
  obtain ⟨h1, h2⟩ := not_or.1 h
  have h2 := not_not.1 h2
  rw [rd1_eq, rd2_eq _ _ h1] at h2
  have e0 := crd_val0 T t
  have e1 := crd_val1 T t
  have f0 := crd_val0 T ⟨t.val - 1, lt_of_le_of_lt (Nat.sub_le _ _) t.isLt⟩
  have f1 := crd_val1 T ⟨t.val - 1, lt_of_le_of_lt (Nat.sub_le _ _) t.isLt⟩
  dsimp only at f0 f1
  funext y
  unfold keptAt castW
  rw [iblk1_apply, iblk1_apply]
  refine congrArg _ (congrArg _ ?_)
  have g1 : (⟨((crd T t) 1).val - 1, lt_of_le_of_lt (Nat.sub_le _ _) ((crd T t) 1).isLt⟩ : Fin 50)
      = ⟨((crd T ⟨t.val - 1, lt_of_le_of_lt (Nat.sub_le _ _) t.isLt⟩) 1).val, ((crd T ⟨t.val - 1, lt_of_le_of_lt (Nat.sub_le _ _) t.isLt⟩) 1).isLt⟩ :=
    Fin.ext (by dsimp only; omega)
  have g0 : ((crd T ⟨t.val - 1, lt_of_le_of_lt (Nat.sub_le _ _) t.isLt⟩) 0).val = ((crd T t) 0).val := by omega
  rw [g1] at h2
  funext a
  refine Fin.ext ?_
  match a with
  | ⟨0, _⟩ => rfl
  | ⟨1, _⟩ => exact congrArg BitVec.toNat h2
  | ⟨2, _⟩ => rfl
  | ⟨3, _⟩ => exact congrArg (fun n => n * 512 + (y 1).val) g0.symm

/-- Unless the tile is the first or its expert differs from the tile's before, the second weight block is the one before. -/
theorem same_block2 (c : Dev nD) (t : Fin (cfgA T).N) (ht : t.val ≠ 0) (h : ¬ isNew (crd T t) T.e) :
    keptAt2 T m ρ c t = keptAt2 T m ρ c ⟨t.val - 1, lt_of_le_of_lt (Nat.sub_le _ _) t.isLt⟩ := by
  rw [isNew_iff] at h
  obtain ⟨h1, h2⟩ := not_or.1 h
  have h2 := not_not.1 h2
  rw [rd1_eq, rd2_eq _ _ h1] at h2
  have e0 := crd_val0 T t
  have e1 := crd_val1 T t
  have f0 := crd_val0 T ⟨t.val - 1, lt_of_le_of_lt (Nat.sub_le _ _) t.isLt⟩
  have f1 := crd_val1 T ⟨t.val - 1, lt_of_le_of_lt (Nat.sub_le _ _) t.isLt⟩
  dsimp only at f0 f1
  funext y
  unfold keptAt2 castW
  rw [iblk2_apply, iblk2_apply]
  refine congrArg _ (congrArg _ ?_)
  have g1 : (⟨((crd T t) 1).val - 1, lt_of_le_of_lt (Nat.sub_le _ _) ((crd T t) 1).isLt⟩ : Fin 50)
      = ⟨((crd T ⟨t.val - 1, lt_of_le_of_lt (Nat.sub_le _ _) t.isLt⟩) 1).val, ((crd T ⟨t.val - 1, lt_of_le_of_lt (Nat.sub_le _ _) t.isLt⟩) 1).isLt⟩ :=
    Fin.ext (by dsimp only; omega)
  have g0 : ((crd T ⟨t.val - 1, lt_of_le_of_lt (Nat.sub_le _ _) t.isLt⟩) 0).val = ((crd T t) 0).val := by omega
  rw [g1] at h2
  funext a
  refine Fin.ext ?_
  match a with
  | ⟨0, _⟩ => rfl
  | ⟨1, _⟩ => exact congrArg BitVec.toNat h2
  | ⟨2, _⟩ => rfl
  | ⟨3, _⟩ => exact congrArg (fun n => n * 512 + (y 1).val) g0.symm

/-! ## The pipeline's proof data -/

/-- Kept weights as the point before point `n` left them (anything before the first). -/
def Was (c : Dev nD) (n : ℕ) (a : S4096x512.Idx → Elt Bits .bf16) : Prop :=
  ∀ (h0 : n ≠ 0) (h : n - 1 < (cfgA T).N), a = keptAt T m ρ c ⟨n - 1, h⟩

theorem was_succ (c : Dev nD) (t : Fin (cfgA T).N) {a : S4096x512.Idx → Elt Bits .bf16} (h : a = keptAt T m ρ c t) :
    Was T m ρ c t.succ.val a := fun _ _ => h

theorem was_same (c : Dev nD) (t : Fin (cfgA T).N) (hn : ¬ isNew (crd T t) T.e) {a : S4096x512.Idx → Elt Bits .bf16}
    (h : Was T m ρ c t.castSucc.val a) : a = keptAt T m ρ c t := by
  have ht : t.val ≠ 0 := by
    intro h0
    have e1 : ((crd T t) 1).val = 0 := by rw [crd_val1, h0]
    exact hn ((isNew_iff (crd T t) T.e).2 (Or.inl e1))
  have e2 : a = keptAt T m ρ c ⟨t.val - 1, lt_of_le_of_lt (Nat.sub_le _ _) t.isLt⟩ := by
    rw [Fin.val_castSucc] at h
    exact h ht (lt_of_le_of_lt (Nat.sub_le _ _) t.isLt)
  rw [e2]
  exact (same_block T m ρ c t ht hn).symm

/-- Second kept weights as the point before point `n` left them (anything before the first). -/
def Was2 (c : Dev nD) (n : ℕ) (a : S4096x512.Idx → Elt Bits .bf16) : Prop :=
  ∀ (h0 : n ≠ 0) (h : n - 1 < (cfgA T).N), a = keptAt2 T m ρ c ⟨n - 1, h⟩

theorem was2_succ (c : Dev nD) (t : Fin (cfgA T).N) {a : S4096x512.Idx → Elt Bits .bf16} (h : a = keptAt2 T m ρ c t) :
    Was2 T m ρ c t.succ.val a := fun _ _ => h

theorem was2_same (c : Dev nD) (t : Fin (cfgA T).N) (hn : ¬ isNew (crd T t) T.e) {a : S4096x512.Idx → Elt Bits .bf16}
    (h : Was2 T m ρ c t.castSucc.val a) : a = keptAt2 T m ρ c t := by
  have ht : t.val ≠ 0 := by
    intro h0
    have e1 : ((crd T t) 1).val = 0 := by rw [crd_val1, h0]
    exact hn ((isNew_iff (crd T t) T.e).2 (Or.inl e1))
  have e2 : a = keptAt2 T m ρ c ⟨t.val - 1, lt_of_le_of_lt (Nat.sub_le _ _) t.isLt⟩ := by
    rw [Fin.val_castSucc] at h
    exact h ht (lt_of_le_of_lt (Nat.sub_le _ _) t.isLt)
  rw [e2]
  exact (same_block2 T m ρ c t ht hn).symm

/-- Before a point: the kept weights are the last point's, and the body holds its halves of the tables. -/
def Phi (c : Dev nD) (t : Fin ((cfgA T).N + 1)) : sProp 𝕄 :=
  iprop((∃ a, ⌜Was T m ρ c t.val a⌝ ∗ (scM0_0.view.loc (c : Thread nD τ) ↦{fullShare} a))
    ∗ (∃ a, ⌜Was2 T m ρ c t.val a⌝ ∗ (scM0_1.view.loc (c : Thread nD τ) ↦{fullShare} a))
    ∗ (tbM0_0.view.loc (c : Thread nD τ) ↦{fullShare.right} T.e) ∗ (tbM0_1.view.loc (c : Thread nD τ) ↦{fullShare.right} T.n))

/-- The proof data of the one pipeline on a core. -/
def dats (_ : Fin 1) (c : Dev nD) : Dat τ (Elt Bits) Unit ℕ (UR sig nD τ) ℕ (cfgA T) c where
  A w := (s₀ m ρ).mem (((cfgA T).win w).arr.view.loc (c : Thread nD τ))
  after w t := match w with
    | ⟨0, _⟩ => iblk T m ρ c (0 : Fin 4) t
    | ⟨1, _⟩ => iblk T m ρ c (1 : Fin 4) t
    | ⟨2, _⟩ => iblk T m ρ c (2 : Fin 4) t
    | ⟨3, _⟩ => outAt T m ρ c t
  Φ t := Phi T m ρ c t
  q _ := fullShare
  owed _ := 0

theorem after0 (c : Dev nD) (t : Fin (cfgA T).N) : (dats T m ρ 0 c).after (0 : Fin 4) t = iblk T m ρ c (0 : Fin 4) t := rfl
theorem after1 (c : Dev nD) (t : Fin (cfgA T).N) : (dats T m ρ 0 c).after (1 : Fin 4) t = iblk T m ρ c (1 : Fin 4) t := rfl
theorem after2 (c : Dev nD) (t : Fin (cfgA T).N) : (dats T m ρ 0 c).after (2 : Fin 4) t = iblk T m ρ c (2 : Fin 4) t := rfl
theorem after3 (c : Dev nD) (t : Fin (cfgA T).N) : (dats T m ρ 0 c).after (3 : Fin 4) t = outAt T m ρ c t := rfl

/-- Each input's staging buffer holds its block when the body runs. -/
theorem before0 (c : Dev nD) (t : Fin (cfgA T).N) (d) : (dats T m ρ 0 c).before (0 : Fin 4) t d = iblk T m ρ c (0 : Fin 4) t :=
  ((dats T m ρ 0 c).before_in_eq_fetched (0 : Fin 4) rfl (fun _ => rfl) (fun _ _ _ => rfl) (fun t => by rw [after0]; unfold Dat.blockOf iblk; rfl) t d).trans
    (by unfold Dat.fetched Dat.blockOf iblk; rfl)
theorem before1 (c : Dev nD) (t : Fin (cfgA T).N) (d) : (dats T m ρ 0 c).before (1 : Fin 4) t d = iblk T m ρ c (1 : Fin 4) t :=
  ((dats T m ρ 0 c).before_in_eq_fetched (1 : Fin 4) rfl (fun _ => rfl) (fun _ _ _ => rfl) (fun t => by rw [after1]; unfold Dat.blockOf iblk; rfl) t d).trans
    (by unfold Dat.fetched Dat.blockOf iblk; rfl)
theorem before2 (c : Dev nD) (t : Fin (cfgA T).N) (d) : (dats T m ρ 0 c).before (2 : Fin 4) t d = iblk T m ρ c (2 : Fin 4) t :=
  ((dats T m ρ 0 c).before_in_eq_fetched (2 : Fin 4) rfl (fun _ => rfl) (fun _ _ _ => rfl) (fun t => by rw [after2]; unfold Dat.blockOf iblk; rfl) t d).trans
    (by unfold Dat.fetched Dat.blockOf iblk; rfl)

/-- The output is stored at every point. -/
theorem idle_out (i : grid0.Coords) : idle0 (F := Bits) (pf T) (3 : Fin 4) i = false := by
  have hw : (pf T).atD 1 ![0] = rdN T.n := by
    unfold Pipeline.Prefetch.Contents.atD
    split
    · exact congrArg T.n (by funext a; match a with | ⟨0, _⟩ => rfl)
    · next hn => exact (hn fun a => match a with | ⟨0, _⟩ => Nat.le_refl 1).elim
  show (!(k0_cond2 i ((pf T).atD 1 ![0]) == 1#1) && !(k0_cond3 i ((pf T).atD 1 ![0]) == 1#1)) = false
  rw [hw]
  have h := notUsed_iff i T.n
  by_cases hu : inUse i T.n
  · rw [show (k0_cond2 i (rdN T.n) == 1#1) = true from beq_iff_eq.2 hu]; rfl
  · rw [show (k0_cond3 i (rdN T.n) == 1#1) = true from beq_iff_eq.2 (h.2 hu), Bool.not_true, Bool.and_false]

theorem never_idle (t : Fin (cfgA T).N) : (cfgA T).idle (3 : Fin 4) (crd T t) = false := idle_out T (crd T t)

end Cert.Up.Moe

end
-- ==== Proof.UpLaunch.lean ====
/- The launch of the first expert product: every run ends, the arguments unchanged, the counters at zero, the result
   array as the pipeline assembles it. -/
module

public import proofs.«01_k».proof.Proof.UpBody
public import Idealize.ShloMosaic.Lib.Pipeline.Quiescent
public import Idealize.ShloMosaic.Lib.Claim
public import Idealize.ShloMosaic.Lib.Pipeline.Kit
public import Idealize.ShloMosaic.Lib.Pipeline.FrameBody
public import Idealize.ShloMosaic.Lib.Exec
public import Idealize.ShloMosaic.Lib.Tactic
public import Idealize.ShloMosaic.PureOps.Ideal
public import Idealize.ShloMosaic.Adequacy
public import Idealize.ShloMosaic.Init

@[expose] public section

set_option maxRecDepth 16384

noncomputable section

namespace Cert.Up.Moe

open Cert.Up Cert.Up.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Rounds
open Idealize.ShloMosaic.Pipeline (Dat Cfg Window BodyObligation BodyObligationLoose cellOf)

local notation "𝕄" => MT nD τ sig Unit (Elt Bits) ℕ (UR sig nD τ) ℕ

variable (T : Tabs)
variable (m : (ℓ : Loc nD τ sig) → Buf (Elt Bits) ℓ) (ρ : Dev nD → PrngReg)

/-! ## The launch -/

/-- The pipeline's launch element. -/
def u₀ : UR sig nD τ :=
  initOf (Pipeline.cells (pcs T) ((launch0 (F := Bits)).cellOf_inj fun _ => adm T))
    (Pipeline.launchToks (pcs T) ((launch0 (F := Bits)).cellOf_inj fun _ => adm T))

theorem share_eq (c : Dev nD) (w : Fin (cfgA T).W) : (dats T m ρ 0 c).share w = fullShare := by unfold Dat.share; split <;> rfl

theorem prefHeld_eq (c : Dev nD) (q : Fin 2 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

theorem phi0_intro (c : Dev nD) :
    iprop(BI.emp ∗ Pipeline.prefHeld pre0 c (fun _ => fullShare.right) (adm T).1 ∗ Pipeline.scopedRest spec0 c) ⊢ (dats T m ρ 0 c).Φ 0 := by
  rw [prefHeld_eq, scopedRest0_eq, show (dats T m ρ 0 c).Φ 0 = Phi T m ρ c 0 from rfl]
  unfold Phi
  iintro ⟨-, ⟨HT0, HT1⟩, ⟨%a0, HS0⟩, ⟨%a1, HS1⟩⟩
  isplitl [HS0]
  · iexists a0; isplitr; swap
    · iexact HS0
    · ipureintro; exact fun h => absurd rfl h
  isplitl [HS1]
  · iexists a1; isplitr; swap
    · iexact HS1
    · ipureintro; exact fun h => absurd rfl h
  isplitl [HT0]
  · iexact HT0
  iexact HT1

theorem phiN_exit (c : Dev nD) : (dats T m ρ 0 c).Φ (Fin.last (cfgA T).N) ⊢ iprop(BI.emp ∗ Pipeline.scopedRest spec0 c) := by
  rw [scopedRest0_eq, show (dats T m ρ 0 c).Φ (Fin.last (cfgA T).N) = Phi T m ρ c (Fin.last _) from rfl]
  unfold Phi
  iintro ⟨⟨%a0, -, HS0⟩, ⟨%a1, -, HS1⟩, -, -⟩
  isplitr; · iempintro
  isplitl [HS0]
  · iexists a0; iexact HS0
  iexists a1; iexact HS1

/-- The final memory: every array as the pipeline assembles it, every table as it was. -/
def QC : PUnit × MemSt nD τ sig (Elt Bits) → Prop := fun r =>
  ∀ c : Dev nD, (∀ w : Fin (cfgA T).W, r.2.mem (((cfgA T).win w).arr.view.loc (c : Thread nD τ)) = (dats T m ρ 0 c).arrAt w (cfgA T).N)
    ∧ ∀ j, r.2.mem ((c : Thread nD τ).loc (pre0.ref j)) = (adm T).1 j

/-- The launch memory holds these tables. -/
def Holds : Prop :=
  (∀ c : Dev nD, m ((c : Thread nD τ).loc main_arg0) = T.e) ∧ (∀ c : Dev nD, m ((c : Thread nD τ).loc main_arg1) = T.n)

theorem V_pre (hp : Holds T m) (c : Dev nD) (j : Fin 2) : m ((c : Thread nD τ).loc (pre0.ref j)) = (adm T).1 j := by
  fin_cases j
  · exact hp.1 c
  · exact hp.2 c

set_option backward.isDefEq.respectTransparency.types false in
set_option maxHeartbeats 4000000 in
/-- Every run from a memory holding these tables ends with the arrays as assembled and the counters at zero. -/
theorem run_quiescent (hp : Holds T m) : θ_run (defs (F := Bits)) (onTc (τ := τ) (main (F := Bits))) (s₀ m ρ) (fun r => QC T m ρ r ∧ r.2.sem = fun _ => 0) :=
  Pipeline.θ_run_region_noSem_pf_quiescent pcfgs (fun _ => adm T) (dats T m ρ) () ((launch0 (F := Bits)).cellOf_inj fun _ => adm T) (0 : Fin 1)
    (launch0 (F := Bits)).win.to₀ (launch0 (F := Bits)).pre EP defs₀ Variants.none m ρ main
    (hbody := fun c => (body_obligation T m ρ c).loose) (hne := (launch0 (F := Bits)).block_pos)
    (harr := (launch0 (F := Bits)).arr_whole) (hstage := (launch0 (F := Bits)).stage_whole) (howed := fun _ _ => rfl)
    (u₀ := u₀ T) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs T) (dats T m ρ) 0 (launch0 (F := Bits)).win.arr_inj c (launch0 (F := Bits)).arr_whole
      (share_eq T m ρ c) _ _ fun _ => rfl)
    (hpf := V_pre T m hp)
    (X := fun _ => iprop(emp)) (Y := fun _ => iprop(emp)) (Z := fun _ => iprop(emp))
    (hX := fun c => by rw [unscopedRestP0_eq]; iintro -; isplitr <;> iempintro)
    (hin := phi0_intro T m ρ)
    (hout := phiN_exit T m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The arguments end unchanged. -/
theorem QC_args (hp : Holds T m) (r : PUnit × MemSt nD τ sig (Elt Bits)) (h : QC T m ρ r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).2 0).trans (hp.1 c).symm, ((h c).2 1).trans (hp.2 c).symm, ((h c).1 (0 : Fin 4)).trans ((dats T m ρ 0 c).arrAt_in (0 : Fin 4) rfl _), ((h c).1 (1 : Fin 4)).trans ((dats T m ρ 0 c).arrAt_in (1 : Fin 4) rfl _), ((h c).1 (2 : Fin 4)).trans ((dats T m ρ 0 c).arrAt_in (2 : Fin 4) rfl _)⟩

/-- The frame: every run ends, nothing faults, the arguments unchanged, the counters at zero. -/
theorem frame (hp : Holds T m) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => QC_args T m ρ hp r h.1 c, h.2⟩) (run_quiescent T m ρ hp)

end Cert.Up.Moe

end
-- ==== Proof.DownRuns.lean ====
/- What the body of the second expert product leaves at a grid point, on each of its four ways through the two
   tests (the weight block is new there or the one before; the row tile is in use or not), for any tables: the
   kept weights are the current block rounded, the output block is the product or zero. -/
module

public import proofs.«01_k».proof.Proof.Gen.Down.Flash.Runs
public import proofs.«01_k».proof.Proof.Gen.Down.Launch
public import Idealize.ShloMosaic.Lib.Writes
public import Idealize.ShloMosaic.Lib.Ring
public import Idealize.ShloMosaic.Lib.ValueIdx
public import Idealize.ShloMosaic.Lib.Pipeline.Value

@[expose] public section

set_option maxRecDepth 16384

noncomputable section

namespace Cert.Down.Moe

open Cert.Down Cert.Down.Gen
open Idealize.ShloMosaic
open Idealize.ShloMosaic.TcCoe Idealize.ShloMosaic.Tactic
open Idealize.SL Idealize.SL.RA Idealize.SL.BI
open Idealize.SL.Sem
open Idealize.ShloMosaic.ValueIdx

/-- The weight block as the kernel keeps it: a plane of it, rounded to half precision. -/
def castW (x1 : S1x1x1024x1024.Idx → Elt Bits .f32) : S1024x1024.Idx → Elt Bits .bf16 :=
  fun y => FloatOps.truncf (F := Bits) .bf16 bitsLt_bf16_f32 (x1 (ix4 (0 : Fin 1) (0 : Fin 1) (y 0) (y 1)))

/-- One strip of the kept weights, entry by entry. -/
theorem strip_apply (v : Vec Bits S1x1x256x1024 .f32) (y : S256x1024.Idx) :
    k0_pay1 v y = FloatOps.truncf (F := Bits) .bf16 bitsLt_bf16_f32 (v (ix4 (0 : Fin 1) (0 : Fin 1) (y 0) (y 1))) := by
  unfold k0_pay1
  rw [shapeCast_self]
  show FloatOps.truncf (F := Bits) .bf16 _ (shapeCast S256x1024 v _ y) = _
  rw [shapeCast_apply v _ y (ix4 (0 : Fin 1) (0 : Fin 1) (y 0) (y 1))]
  rw [Shape.rowMajor_val_two, Shape.rowMajor_val_four]
  simp [ix4]

/-- A strip read off the weight block at row `o` is rows `o …` of the kept weights. -/
theorem strip_piece (a5 : Memref sig .tc .vmem S1x1x1024x1024 .f32) (x1 : S1x1x1024x1024.Idx → Elt Bits .f32)
    (o : ℕ) (h4 : ∀ a, (![0, 0, o, 0] : Fin 4 → ℕ) a + S1x1x256x1024.size a ≤ S1x1x1024x1024.size a)
    (h2 : ∀ a, (![o, 0] : Fin 2 → ℕ) a + S256x1024.size a ≤ S1024x1024.size a) (x : S256x1024.Idx) :
    k0_pay1 (View.readAt (Elt Bits) a5.view (Rect.unit (s := S1x1x1024x1024) ![0, 0, o, 0] S1x1x256x1024.size h4).toLoadRect (a5.view.rep x1)) x
      = castW x1 ((Rect.unit (s := S1024x1024) ![o, 0] S256x1024.size h2).emb x) := by
  rw [strip_apply, View.readAt_rep]
  unfold castW
  refine congrArg (fun z => FloatOps.truncf (F := Bits) .bf16 bitsLt_bf16_f32 (x1 z)) ?_
  funext a
  refine Fin.ext ?_
  match a with
  | ⟨0, _⟩ => rfl
  | ⟨1, _⟩ => rfl
  | ⟨2, _⟩ => rfl
  | ⟨3, _⟩ => rfl

theorem strips (a5 : Memref sig .tc .vmem S1x1x1024x1024 .f32) (x1 : S1x1x1024x1024.Idx → Elt Bits .f32) :
    ∀ p ∈ kernelRun0_A.sl.HS0_4 a5 x1, ∀ x : p.1.shape.Idx, p.2 x = castW x1 (p.1.emb x) := by
  intro p hp x
  unfold kernelRun0_A.sl.HS0_4 at hp
  simp only [List.mem_cons, List.not_mem_nil, or_false] at hp
  rcases hp with rfl | rfl | rfl | rfl <;> exact strip_piece a5 x1 _ _ (by decide) x

set_option maxHeartbeats 4000000 in
theorem strips_cover (a5 : Memref sig .tc .vmem S1x1x1024x1024 .f32) (x1 : S1x1x1024x1024.Idx → Elt Bits .f32) (y : S1024x1024.Idx) :
    ∃ p ∈ kernelRun0_A.sl.HS0_4 a5 x1, y ∈ p.1.set :=
  View.cover_of_tiledL (kernelRun0_A.sl.HS0_4 a5 x1) S256x1024.size (by sl_kernel_rfl) y

/-- The kept weights after all strips are stored, over anything. -/
theorem kept (a5 : Memref sig .tc .vmem S1x1x1024x1024 .f32) (x1 : S1x1x1024x1024.Idx → Elt Bits .f32)
    (f : BufTy.Contents (Elt Bits) (View.whole cc0_scratch0).ty) :
    (View.whole cc0_scratch0).writes (Elt Bits) f (kernelRun0_A.sl.HS0_4 a5 x1) = castW x1 := by
  have h := funext fun y => View.read_writes_apply_of_pieces (View.whole cc0_scratch0) f (castW x1) _ (strips a5 x1) y (strips_cover a5 x1 y)
  rwa [View.read_whole] at h

/-- The output block: the gated product where the tile is in use, zero elsewhere. -/
def outF (act : Prop) [Decidable act] (x0 : S512x1024.Idx → Elt Bits .bf16) (w : S1024x1024.Idx → Elt Bits .bf16)
    (x2 : S512x1.Idx → Elt Bits .f32) : S512x1024.Idx → Elt Bits .f32 :=
  if act then k0_pay2 x2 x0 w else k0_pay3 (F := Bits)

/-- A block read or stored whole keeps its indices. -/
theorem whole_idx {n0 n1 : ℕ} (h : ∀ a, (![0, 0] : Fin 2 → ℕ) a + (⟨2, ![n0, n1]⟩ : Shape).size a ≤ (⟨2, ![n0, n1]⟩ : Shape).size a)
    (y : (⟨2, ![n0, n1]⟩ : Shape).Idx) : (Rect.unit (s := ⟨2, ![n0, n1]⟩) ![0, 0] (⟨2, ![n0, n1]⟩ : Shape).size h).toLoadRect.idx y = y := by
  funext a
  refine Fin.ext ?_
  match a with
  | ⟨0, _⟩ => show 0 + 1 * (y 0).val = (y 0).val; omega
  | ⟨1, _⟩ => show 0 + 1 * (y 1).val = (y 1).val; omega

/-- One store of the whole block leaves the value stored. -/
theorem read_one {sp : Space} (v : View sig .tc sp S512x1024 .f32) (f : BufTy.Contents (Elt Bits) v.ty)
    (h : ∀ a, (![0, 0] : Fin 2 → ℕ) a + S512x1024.size a ≤ S512x1024.size a) (X : S512x1024.Idx → Elt Bits .f32) :
    View.read (Elt Bits) v (v.writes (Elt Bits) f [⟨Rect.unit (s := S512x1024) ![0, 0] S512x1024.size h, X⟩]) = X := by
  funext y
  refine View.read_writes_apply_of_pieces v f X _ ?_ y ?_
  · intro p hp x
    obtain rfl := List.mem_singleton.1 hp
    exact congrArg X (whole_idx h x).symm
  · refine ⟨_, List.mem_singleton.2 rfl, ?_⟩
    have := (Rect.unit (s := S512x1024) ![0, 0] S512x1024.size h).toLoadRect.idx_mem y
    rwa [whole_idx h y] at this

theorem readAt_rep_whole {n0 n1 : ℕ} {e : EltTy} (a : Memref sig .tc .vmem ⟨2, ![n0, n1]⟩ e)
    (h : ∀ a, (![0, 0] : Fin 2 → ℕ) a + (⟨2, ![n0, n1]⟩ : Shape).size a ≤ (⟨2, ![n0, n1]⟩ : Shape).size a)
    (x : (⟨2, ![n0, n1]⟩ : Shape).Idx → Elt Bits e) :
    View.readAt (Elt Bits) a.view (Rect.unit (s := ⟨2, ![n0, n1]⟩) ![0, 0] (⟨2, ![n0, n1]⟩ : Shape).size h).toLoadRect (a.view.rep x) = x := by
  rw [View.readAt_rep]
  exact funext fun y => congrArg x (whole_idx h y)

/-- The kept weights read back whole. -/
theorem readAt_kept (h : ∀ a, (![0, 0] : Fin 2 → ℕ) a + S1024x1024.size a ≤ S1024x1024.size a)
    (f : BufTy.Contents (Elt Bits) (View.whole cc0_scratch0).ty) :
    View.readAt (Elt Bits) scM0_0.view (Rect.unit (s := S1024x1024) ![0, 0] S1024x1024.size h).toLoadRect f = f :=
  funext fun y => congrArg f (whole_idx h y)

/-- The kept weights read back in the point that stored them. -/
theorem readCov_kept (a5 : Memref sig .tc .vmem S1x1x1024x1024 .f32) (x1 : S1x1x1024x1024.Idx → Elt Bits .f32)
    (h : ∀ a, (![0, 0] : Fin 2 → ℕ) a + S1024x1024.size a ≤ S1024x1024.size a) :
    scM0_0.view.readCov (kernelRun0_A.sl.HS0_4 a5 x1) (Rect.unit (s := S1024x1024) ![0, 0] S1024x1024.size h).toLoadRect = castW x1 := by
  unfold View.readCov
  have e := kept a5 x1 (View.whole cc0_scratch0).junk
  have r := readAt_kept h (castW x1)
  rw [← e] at r
  exact r.trans e

/-! ## The two tests -/

/-- The word of the table the tests read at a point, and the one before it. -/
abbrev rd1 (i : grid0.Coords) (T0 : S50.Idx → BitVec 32) : BitVec 32 :=
  View.readAt (Elt Bits) (tbM0_0).view (Rect.unit (s := S50) (k0_off1 i) S1.size (k0_off1_inb i)).toLoadRect T0 (Shape.Idx.first (numel1_S1.symm ▸ Nat.one_pos))
abbrev rd2 (i : grid0.Coords) (T0 : S50.Idx → BitVec 32) : BitVec 32 :=
  View.readAt (Elt Bits) (tbM0_0).view (Rect.unit (s := S50) (k0_off2 i) S1.size (k0_off2_inb i)).toLoadRect T0 (Shape.Idx.first (numel1_S1.symm ▸ Nat.one_pos))
abbrev rdN (T1 : S1.Idx → BitVec 32) : BitVec 32 :=
  View.readAt (Elt Bits) (tbM0_1).view (Rect.unit (s := S1) ![0] S1.size inb_S1_S1_0).toLoadRect T1 (Shape.Idx.first (numel1_S1.symm ▸ Nat.one_pos))
/-- The weight block is new at this point, as the body tests it. -/
abbrev isNew (i : grid0.Coords) (T0 : S50.Idx → BitVec 32) : Prop :=
  Scalar.cmpi .ne (Scalar.extui (Scalar.ori (Scalar.cmpi .eq (BitVec.ofNat 32 (i 1).val) 0#32) (Scalar.cmpi .ne (rd1 i T0) (rd2 i T0)))) 0#32 = 1#1
/-- The row tile is in use, as the body tests it. -/
abbrev inUse (i : grid0.Coords) (T1 : S1.Idx → BitVec 32) : Prop := k0_cond2 i (rdN T1) = 1#1
abbrev notUsed (i : grid0.Coords) (T1 : S1.Idx → BitVec 32) : Prop := k0_cond3 i (rdN T1) = 1#1

theorem ne_zero_of_bit (b : BitVec 1) : (Scalar.cmpi .ne (Scalar.extui b : BitVec 32) 0#32 = 1#1) ↔ b = 1#1 := by
  revert b; decide

theorem bit_or (a b : BitVec 1) : Scalar.ori a b = 1#1 ↔ a = 1#1 ∨ b = 1#1 := by
  revert a b; decide

theorem notUsed_iff (i : grid0.Coords) (T1 : S1.Idx → BitVec 32) : notUsed i T1 ↔ ¬ inUse i T1 := by
  unfold notUsed inUse k0_cond2 k0_cond3
  dsimp only
  rw [ne_zero_of_bit, ne_zero_of_bit]
  unfold Scalar.cmpi IntOp.cmpi
  generalize BitVec.ofNat 32 (i 1).val = a
  generalize rdN T1 = b
  dsimp only
  have h : b.sle a = !a.slt b := by
    rw [BitVec.sle, BitVec.slt, ← decide_not, decide_eq_decide, not_lt]
  rw [h]
  cases a.slt b <;> decide

theorem inUse_iff (i : grid0.Coords) (T1 : S1.Idx → BitVec 32) :
    inUse i T1 ↔ ((i 1).val : ℤ) < (T1 (ix1 (0 : Fin 1))).toInt := by
  unfold inUse k0_cond2
  dsimp only
  rw [ne_zero_of_bit]
  unfold Scalar.cmpi IntOp.cmpi
  have hr : rdN T1 = T1 (ix1 (0 : Fin 1)) := congrArg T1 (by funext a; match a with | ⟨0, _⟩ => rfl)
  have hi : (i 1).val < 50 := (i 1).isLt
  have hv : (BitVec.ofNat 32 (i 1).val).toInt = ((i 1).val : ℤ) := by
    rw [BitVec.toInt_eq_toNat_cond, BitVec.toNat_ofNat]; split <;> omega
  rw [hr]
  dsimp only
  rw [← hv, ← BitVec.slt_iff_toInt_lt]
  cases BitVec.slt (BitVec.ofNat 32 (i 1).val) (T1 (ix1 (0 : Fin 1))) <;> decide

theorem isNew_iff (i : grid0.Coords) (T0 : S50.Idx → BitVec 32) :
    isNew i T0 ↔ ((i 1).val = 0 ∨ rd1 i T0 ≠ rd2 i T0) := by
  unfold isNew
  rw [ne_zero_of_bit, bit_or]
  unfold Scalar.cmpi IntOp.cmpi
  have hi : (i 1).val < 50 := (i 1).isLt
  have hz : (BitVec.ofNat 32 (i 1).val == 0#32) = decide ((i 1).val = 0) := by
    rw [Bool.eq_iff_iff, beq_iff_eq, decide_eq_true_eq, ← BitVec.toNat_inj, BitVec.toNat_ofNat]
    show _ = 0 ↔ _
    omega
  dsimp only
  rw [hz]
  generalize rd1 i T0 = a
  generalize rd2 i T0 = b
  have hb : (a != b) = decide (a ≠ b) := by
    rw [Bool.eq_iff_iff, bne_iff_ne, decide_eq_true_eq]
  rw [hb]
  by_cases h1 : (i 1).val = 0 <;> by_cases h2 : a = b <;> simp [h1, h2]

theorem rd1_eq (i : grid0.Coords) (T0 : S50.Idx → BitVec 32) : rd1 i T0 = T0 (ix1 ⟨(i 1).val, (i 1).isLt⟩) := by
  refine congrArg T0 ?_
  funext a
  refine Fin.ext ?_
  have hi : (i 1).val < 50 := (i 1).isLt
  match a with
  | ⟨0, _⟩ =>
    show (Scalar.indexCast (BitVec.ofNat 32 (i 1).val)).toNat + 1 * 0 = (i 1).val
    show (BitVec.ofNat 32 (i 1).val).toNat + 1 * 0 = (i 1).val
    rw [BitVec.toNat_ofNat]; omega

theorem rd2_eq (i : grid0.Coords) (T0 : S50.Idx → BitVec 32) (h : (i 1).val ≠ 0) :
    rd2 i T0 = T0 (ix1 ⟨(i 1).val - 1, lt_of_le_of_lt (Nat.sub_le _ _) (i 1).isLt⟩) := by
  refine congrArg T0 ?_
  funext a
  refine Fin.ext ?_
  match a with
  | ⟨0, _⟩ =>
    show (Scalar.maxsi (Scalar.subi (BitVec.ofNat 32 (i 1).val) 1#32) 0#32).toNat + 1 * 0 = (i 1).val - 1
    have hi : (i 1).val < 50 := (i 1).isLt
    revert h
    generalize (i 1).val = n at hi ⊢
    revert n
    decide

/-! ## The four ways through the body -/

section
variable (c : Dev nD) (i : grid0.Coords) (a4 : Memref sig .tc .vmem S512x1024 .bf16) (h4 : a4.IsWhole)
  (a5 : Memref sig .tc .vmem S1x1x1024x1024 .f32) (h5 : a5.IsWhole) (a6 : Memref sig .tc .vmem S512x1 .f32) (h6 : a6.IsWhole)
  (a7 : Memref sig .tc .vmem S512x1024 .f32) (h7 : a7.IsWhole) (T0 : S50.Idx → Elt Bits .i32) (T1 : S1.Idx → Elt Bits .i32)
  (x0 : S512x1024.Idx → Elt Bits .bf16) (x1 : S1x1x1024x1024.Idx → Elt Bits .f32) (x2 : S512x1.Idx → Elt Bits .f32)

theorem kept_A (hc0 : isNew i T0) (hu : inUse i T1) (hn : ¬ notUsed i T1) :
    (kernelRun0_A c i a4 h4 a5 h5 a6 h6 a7 h7 T0 T1 x0 x1 x2 hc0 hu hn).2.1 = castW x1 := by
  unfold kernelRun0_A; dsimp only
  exact kept a5 x1 _

theorem out_A (hc0 : isNew i T0) (hu : inUse i T1) (hn : ¬ notUsed i T1) (f : BufTy.Contents (Elt Bits) a7.view.ty) :
    View.read (Elt Bits) a7.view (a7.view.writes (Elt Bits) f (kernelRun0_A c i a4 h4 a5 h5 a6 h6 a7 h7 T0 T1 x0 x1 x2 hc0 hu hn).1)
      = outF (inUse i T1) x0 (castW x1) x2 := by
  unfold kernelRun0_A; dsimp only
  unfold kernelRun0_A.sl.HO3_1 kernelRun0_A.sl.v21
  rw [read_one, outF, if_pos hu, readAt_rep_whole, readAt_rep_whole]
  rw [readCov_kept]

theorem kept_D (hc0 : isNew i T0) (hu : ¬ inUse i T1) (hn : notUsed i T1) :
    (kernelRun0_D c i a4 h4 a5 h5 a6 h6 a7 h7 T0 T1 x0 x1 x2 hc0 hu hn).2.1 = castW x1 := by
  unfold kernelRun0_D; dsimp only
  exact kept a5 x1 _

theorem out_D (hc0 : isNew i T0) (hu : ¬ inUse i T1) (hn : notUsed i T1) (f : BufTy.Contents (Elt Bits) a7.view.ty) :
    View.read (Elt Bits) a7.view (a7.view.writes (Elt Bits) f (kernelRun0_D c i a4 h4 a5 h5 a6 h6 a7 h7 T0 T1 x0 x1 x2 hc0 hu hn).1)
      = outF (inUse i T1) x0 (castW x1) x2 := by
  unfold kernelRun0_D; dsimp only
  unfold kernelRun0_D.sl.HO3_1
  rw [read_one, outF, if_neg hu]

theorem kept_B (w : S1024x1024.Idx → Elt Bits .bf16) (hc0 : ¬ isNew i T0) (hu : inUse i T1) (hn : ¬ notUsed i T1) :
    (kernelRun0_B c i a4 h4 a5 h5 a6 h6 a7 h7 T0 T1 x0 x1 x2 w hc0 hu hn).2.1 = w := by
  unfold kernelRun0_B; rfl

theorem out_B (w : S1024x1024.Idx → Elt Bits .bf16) (hc0 : ¬ isNew i T0) (hu : inUse i T1) (hn : ¬ notUsed i T1)
    (f : BufTy.Contents (Elt Bits) a7.view.ty) :
    View.read (Elt Bits) a7.view (a7.view.writes (Elt Bits) f (kernelRun0_B c i a4 h4 a5 h5 a6 h6 a7 h7 T0 T1 x0 x1 x2 w hc0 hu hn).1)
      = outF (inUse i T1) x0 w x2 := by
  unfold kernelRun0_B; dsimp only
  unfold kernelRun0_B.sl.HO3_1
  rw [read_one, outF, if_pos hu, readAt_rep_whole, readAt_rep_whole]
  congr 1
  exact readAt_kept _ _

theorem kept_C (w : S1024x1024.Idx → Elt Bits .bf16) (hc0 : ¬ isNew i T0) (hu : ¬ inUse i T1) (hn : notUsed i T1) :
    (kernelRun0_C c i a4 h4 a5 h5 a6 h6 a7 h7 T0 T1 x0 x1 x2 w hc0 hu hn).2.1 = w := by
  unfold kernelRun0_C; rfl

theorem out_C (w : S1024x1024.Idx → Elt Bits .bf16) (hc0 : ¬ isNew i T0) (hu : ¬ inUse i T1) (hn : notUsed i T1)
    (f : BufTy.Contents (Elt Bits) a7.view.ty) :
    View.read (Elt Bits) a7.view (a7.view.writes (Elt Bits) f (kernelRun0_C c i a4 h4 a5 h5 a6 h6 a7 h7 T0 T1 x0 x1 x2 w hc0 hu hn).1)
      = outF (inUse i T1) x0 w x2 := by
  unfold kernelRun0_C; dsimp only
  unfold kernelRun0_C.sl.HO3_1
  rw [read_one, outF, if_neg hu]

end

end Cert.Down.Moe

end
-- ==== Proof.DownDat.lean ====
/- The pipeline of the second expert product at any expert table with entries below sixteen: its blocks, what is
   kept and what is stored at every point. -/
module

public import proofs.«01_k».proof.Proof.DownRuns
public import Idealize.ShloMosaic.Lib.Pipeline.Quiescent
public import Idealize.ShloMosaic.Lib.Claim
public import Idealize.ShloMosaic.Lib.Pipeline.Kit
public import Idealize.ShloMosaic.Lib.Pipeline.FrameBody
public import Idealize.ShloMosaic.Lib.Exec
public import Idealize.ShloMosaic.Lib.Tactic
public import Idealize.ShloMosaic.PureOps.Ideal
public import Idealize.ShloMosaic.Adequacy
public import Idealize.ShloMosaic.Init

@[expose] public section

set_option maxRecDepth 16384

noncomputable section

namespace Cert.Down.Moe

open Cert.Down Cert.Down.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Rounds
open Idealize.ShloMosaic.Pipeline (Dat Cfg Window BodyObligation BodyObligationLoose cellOf)

local notation "𝕄" => MT nD τ sig Unit (Elt Bits) ℕ (UR sig nD τ) ℕ

/-- The resource algebra of the proof: the pipeline's own, embedded whole. -/
abbrev EP : Emb (UR sig nD τ) 𝕄 := emb₁

/-- The two tables the call is given: an expert for each row tile, and how many tiles are in use. -/
structure Tabs where
  e : S50.Idx → BitVec 32
  n : S1.Idx → BitVec 32
  lt : ∀ j, (e j).toNat < 16

variable (T : Tabs)
variable (m : (ℓ : Loc nD τ sig) → Buf (Elt Bits) ℓ) (ρ : Dev nD → PrngReg)

/-- The tables as the pipeline takes them. -/
def pf : pre0.Contents (Elt Bits) := fun | ⟨0, _⟩ => T.e | ⟨1, _⟩ => T.n | ⟨_ + 2, h⟩ => absurd h (by simp)

/-- The weight block of a point: expert and column tile. -/
theorem block1 (i : grid0.Coords) :
    cc0_transform_1 k0_off1_inb numel1_S1 (pf T) i = ![0, (T.e (ix1 ⟨(i 1).val, (i 1).isLt⟩)).toNat, 0, (i 0).val] := by
  have h0 : (i 0).val < 4 := (i 0).isLt
  have h := rd1_eq i T.e
  show ![0, (rd1 i T.e).toNat, 0, (BitVec.ofNat 32 (i 0).val).toNat] = _
  rw [h, BitVec.toNat_ofNat, Nat.mod_eq_of_lt (by omega)]

theorem ok_pf : ok0 (F := Bits) (pf T) := by
  intro i
  refine ⟨?_, .inl rfl⟩
  rw [block1]
  have h0 : (i 0).val < 4 := (i 0).isLt
  have h1 := T.lt (ix1 ⟨(i 1).val, (i 1).isLt⟩)
  intro a
  match a with
  | ⟨0, _⟩ => show (0 + 1) * 1 ≤ 2; omega
  | ⟨1, _⟩ => show ((T.e (ix1 ⟨(i 1).val, (i 1).isLt⟩)).toNat + 1) * 1 ≤ 16; omega
  | ⟨2, _⟩ => show (0 + 1) * 1024 ≤ 1024; omega
  | ⟨3, _⟩ => show ((i 0).val + 1) * 1024 ≤ 4096; omega

/-- The pipeline at these tables. -/
def adm : (pcfg0 (F := Bits)).Adm := ⟨pf T, ok_pf T⟩
abbrev cfgA : Pipeline.Cfg sig Λ₀ := cfg0 (F := Bits) (adm T)
abbrev pcs : Fin 1 → Pipeline.Cfg sig Λ₀ := Pipeline.pin (pcfgs (F := Bits)) fun _ => adm T

abbrev crd (t : Fin (cfgA T).N) : (cfgA T).grid.Coords := (cfgA T).grid.coords t

abbrev ms0 (t : Fin (cfgA T).N) : Memref sig .tc .vmem S512x1024 .bf16 := spec0_0.stage ((cfgA T).slots t (0 : Fin 4))
abbrev hs0 (t : Fin (cfgA T).N) : (ms0 T t).IsWhole := hstage0_0 (((cfgA T).slots t (0 : Fin 4)).cast nbuf0_0)
abbrev ms1 (t : Fin (cfgA T).N) : Memref sig .tc .vmem S1x1x1024x1024 .f32 := spec0_1.stage ((cfgA T).slots t (1 : Fin 4))
abbrev hs1 (t : Fin (cfgA T).N) : (ms1 T t).IsWhole := hstage0_1 (((cfgA T).slots t (1 : Fin 4)).cast nbuf0_1)
abbrev ms2 (t : Fin (cfgA T).N) : Memref sig .tc .vmem S512x1 .f32 := spec0_2.stage ((cfgA T).slots t (2 : Fin 4))
abbrev hs2 (t : Fin (cfgA T).N) : (ms2 T t).IsWhole := hstage0_2 (((cfgA T).slots t (2 : Fin 4)).cast nbuf0_2)
abbrev ms3 (t : Fin (cfgA T).N) : Memref sig .tc .vmem S512x1024 .f32 := spec0_3.stage ((cfgA T).slots t (3 : Fin 4))
abbrev hs3 (t : Fin (cfgA T).N) : (ms3 T t).IsWhole := hstage0_3 (((cfgA T).slots t (3 : Fin 4)).cast nbuf0_3)

/-- A window's block at a point, read off its array at launch. -/
def iblk (c : Dev nD) (w : Fin (cfgA T).W) (t : Fin (cfgA T).N) : (((cfgA T).win w).xblock (crd T t)).Idx → Elt Bits ((cfgA T).win w).elt :=
  (((cfgA T).win w).blk t).view.read (Elt Bits) ((s₀ m ρ).mem (((cfgA T).win w).arr.view.loc (c : Thread nD τ)))

/-- The kept weights of a point. -/
def keptAt (c : Dev nD) (t : Fin (cfgA T).N) : S1024x1024.Idx → Elt Bits .bf16 := castW (iblk T m ρ c (1 : Fin 4) t)

/-- The output block of a point. -/
def outAt (c : Dev nD) (t : Fin (cfgA T).N) : S512x1024.Idx → Elt Bits .f32 :=
  outF (inUse (crd T t) T.n) (iblk T m ρ c (0 : Fin 4) t) (keptAt T m ρ c t) (iblk T m ρ c (2 : Fin 4) t)

/-! ## The weight block at a point that does not renew it -/

theorem crd_val0 (t : Fin (cfgA T).N) : ((crd T t) 0).val = t.val / 50 % 4 := Pipeline.Grid.coords_val t 0 rfl rfl
theorem crd_val1 (t : Fin (cfgA T).N) : ((crd T t) 1).val = t.val / 1 % 50 := Pipeline.Grid.coords_val t 1 rfl rfl

/-- The weight block of a point, entry by entry. -/
theorem iblk1_apply (c : Dev nD) (t : Fin (cfgA T).N) (y : S1x1x1024x1024.Idx) :
    iblk T m ρ c (1 : Fin 4) t y = m ((c : Thread nD τ).loc main_arg3)
      (ix4 (0 : Fin 2) (⟨(T.e (ix1 ⟨((crd T t) 1).val, ((crd T t) 1).isLt⟩)).toNat, T.lt _⟩ : Fin 16) (y 2)
        (⟨((crd T t) 0).val * 1024 + (y 3).val, by have h : ((crd T t) 0).val < 4 := ((crd T t) 0).isLt; have h3 : (y 3).val < 1024 := (y 3).isLt; omega⟩ : Fin 4096)) := by
  show m ((c : Thread nD τ).loc main_arg3) ((((cfgA T).win (1 : Fin 4)).rect t).emb y) = _
  refine congrArg _ ?_
  funext a
  refine Fin.ext ?_
  rw [Pipeline.Window.rect_emb_val ((cfgA T).win (1 : Fin 4)) t y a (hk := rfl)]
  have hb : ((cfgA T).win (1 : Fin 4)).index t a = (![0, (T.e (ix1 ⟨((crd T t) 1).val, ((crd T t) 1).isLt⟩)).toNat, 0, ((crd T t) 0).val] : Fin 4 → ℕ) a :=
    congrFun (block1 T (crd T t)) a
  rw [hb]
  match a with
  | ⟨0, _⟩ => have h : (y 0).val < 1 := (y 0).isLt; show 0 * 1 + (y 0).val = 0; omega
  | ⟨1, _⟩ => have h : (y 1).val < 1 := (y 1).isLt; show (T.e _).toNat * 1 + (y 1).val = (T.e _).toNat; omega
  | ⟨2, _⟩ => show 0 * 1024 + (y 2).val = (y 2).val; omega
  | ⟨3, _⟩ => rfl

/-- Unless the tile is the first or its expert differs from the tile's before, the weight block is the one before. -/
theorem same_block (c : Dev nD) (t : Fin (cfgA T).N) (ht : t.val ≠ 0) (h : ¬ isNew (crd T t) T.e) :
    keptAt T m ρ c t = keptAt T m ρ c ⟨t.val - 1, lt_of_le_of_lt (Nat.sub_le _ _) t.isLt⟩ := by
  rw [isNew_iff] at h
  obtain ⟨h1, h2⟩ := not_or.1 h
  have h2 := not_not.1 h2
  rw [rd1_eq, rd2_eq _ _ h1] at h2
  have e0 := crd_val0 T t
  have e1 := crd_val1 T t
  have f0 := crd_val0 T ⟨t.val - 1, lt_of_le_of_lt (Nat.sub_le _ _) t.isLt⟩
  have f1 := crd_val1 T ⟨t.val - 1, lt_of_le_of_lt (Nat.sub_le _ _) t.isLt⟩
  dsimp only at f0 f1
  funext y
  unfold keptAt castW
  rw [iblk1_apply, iblk1_apply]
  refine congrArg _ (congrArg _ ?_)
  have g1 : (⟨((crd T t) 1).val - 1, lt_of_le_of_lt (Nat.sub_le _ _) ((crd T t) 1).isLt⟩ : Fin 50)
      = ⟨((crd T ⟨t.val - 1, lt_of_le_of_lt (Nat.sub_le _ _) t.isLt⟩) 1).val, ((crd T ⟨t.val - 1, lt_of_le_of_lt (Nat.sub_le _ _) t.isLt⟩) 1).isLt⟩ :=
    Fin.ext (by dsimp only; omega)
  have g0 : ((crd T ⟨t.val - 1, lt_of_le_of_lt (Nat.sub_le _ _) t.isLt⟩) 0).val = ((crd T t) 0).val := by omega
  rw [g1] at h2
  funext a
  refine Fin.ext ?_
  match a with
  | ⟨0, _⟩ => rfl
  | ⟨1, _⟩ => exact congrArg BitVec.toNat h2
  | ⟨2, _⟩ => rfl
  | ⟨3, _⟩ => exact congrArg (fun n => n * 1024 + (y 1).val) g0.symm

/-! ## The pipeline's proof data -/

/-- Kept weights as the point before point `n` left them (anything before the first). -/
def Was (c : Dev nD) (n : ℕ) (a : S1024x1024.Idx → Elt Bits .bf16) : Prop :=
  ∀ (h0 : n ≠ 0) (h : n - 1 < (cfgA T).N), a = keptAt T m ρ c ⟨n - 1, h⟩

theorem was_succ (c : Dev nD) (t : Fin (cfgA T).N) {a : S1024x1024.Idx → Elt Bits .bf16} (h : a = keptAt T m ρ c t) :
    Was T m ρ c t.succ.val a := fun _ _ => h

theorem was_same (c : Dev nD) (t : Fin (cfgA T).N) (hn : ¬ isNew (crd T t) T.e) {a : S1024x1024.Idx → Elt Bits .bf16}
    (h : Was T m ρ c t.castSucc.val a) : a = keptAt T m ρ c t := by
  have ht : t.val ≠ 0 := by
    intro h0
    have e1 : ((crd T t) 1).val = 0 := by rw [crd_val1, h0]
    exact hn ((isNew_iff (crd T t) T.e).2 (Or.inl e1))
  have e2 : a = keptAt T m ρ c ⟨t.val - 1, lt_of_le_of_lt (Nat.sub_le _ _) t.isLt⟩ := by
    rw [Fin.val_castSucc] at h
    exact h ht (lt_of_le_of_lt (Nat.sub_le _ _) t.isLt)
  rw [e2]
  exact (same_block T m ρ c t ht hn).symm

/-- Before a point: the kept weights are the last point's, and the body holds its halves of the tables. -/
def Phi (c : Dev nD) (t : Fin ((cfgA T).N + 1)) : sProp 𝕄 :=
  iprop((∃ a, ⌜Was T m ρ c t.val a⌝ ∗ (scM0_0.view.loc (c : Thread nD τ) ↦{fullShare} a))
    ∗ (tbM0_0.view.loc (c : Thread nD τ) ↦{fullShare.right} T.e) ∗ (tbM0_1.view.loc (c : Thread nD τ) ↦{fullShare.right} T.n))

/-- The proof data of the one pipeline on a core. -/
def dats (_ : Fin 1) (c : Dev nD) : Dat τ (Elt Bits) Unit ℕ (UR sig nD τ) ℕ (cfgA T) c where
  A w := (s₀ m ρ).mem (((cfgA T).win w).arr.view.loc (c : Thread nD τ))
  after w t := match w with
    | ⟨0, _⟩ => iblk T m ρ c (0 : Fin 4) t
    | ⟨1, _⟩ => iblk T m ρ c (1 : Fin 4) t
    | ⟨2, _⟩ => iblk T m ρ c (2 : Fin 4) t
    | ⟨3, _⟩ => outAt T m ρ c t
  Φ t := Phi T m ρ c t
  q _ := fullShare
  owed _ := 0

theorem after0 (c : Dev nD) (t : Fin (cfgA T).N) : (dats T m ρ 0 c).after (0 : Fin 4) t = iblk T m ρ c (0 : Fin 4) t := rfl
theorem after1 (c : Dev nD) (t : Fin (cfgA T).N) : (dats T m ρ 0 c).after (1 : Fin 4) t = iblk T m ρ c (1 : Fin 4) t := rfl
theorem after2 (c : Dev nD) (t : Fin (cfgA T).N) : (dats T m ρ 0 c).after (2 : Fin 4) t = iblk T m ρ c (2 : Fin 4) t := rfl
theorem after3 (c : Dev nD) (t : Fin (cfgA T).N) : (dats T m ρ 0 c).after (3 : Fin 4) t = outAt T m ρ c t := rfl

/-- Each input's staging buffer holds its block when the body runs. -/
theorem before0 (c : Dev nD) (t : Fin (cfgA T).N) (d) : (dats T m ρ 0 c).before (0 : Fin 4) t d = iblk T m ρ c (0 : Fin 4) t :=
  ((dats T m ρ 0 c).before_in_eq_fetched (0 : Fin 4) rfl (fun _ => rfl) (fun _ _ _ => rfl) (fun t => by rw [after0]; unfold Dat.blockOf iblk; rfl) t d).trans
    (by unfold Dat.fetched Dat.blockOf iblk; rfl)
theorem before1 (c : Dev nD) (t : Fin (cfgA T).N) (d) : (dats T m ρ 0 c).before (1 : Fin 4) t d = iblk T m ρ c (1 : Fin 4) t :=
  ((dats T m ρ 0 c).before_in_eq_fetched (1 : Fin 4) rfl (fun _ => rfl) (fun _ _ _ => rfl) (fun t => by rw [after1]; unfold Dat.blockOf iblk; rfl) t d).trans
    (by unfold Dat.fetched Dat.blockOf iblk; rfl)
theorem before2 (c : Dev nD) (t : Fin (cfgA T).N) (d) : (dats T m ρ 0 c).before (2 : Fin 4) t d = iblk T m ρ c (2 : Fin 4) t :=
  ((dats T m ρ 0 c).before_in_eq_fetched (2 : Fin 4) rfl (fun _ => rfl) (fun _ _ _ => rfl) (fun t => by rw [after2]; unfold Dat.blockOf iblk; rfl) t d).trans
    (by unfold Dat.fetched Dat.blockOf iblk; rfl)

/-- The output is stored at every point. -/
theorem idle_out (i : grid0.Coords) : idle0 (F := Bits) (pf T) (3 : Fin 4) i = false := by
  have hw : (pf T).atD 1 ![0] = rdN T.n := by
    unfold Pipeline.Prefetch.Contents.atD
    split
    · exact congrArg T.n (by funext a; match a with | ⟨0, _⟩ => rfl)
    · next hn => exact (hn fun a => match a with | ⟨0, _⟩ => Nat.le_refl 1).elim
  show (!(k0_cond2 i ((pf T).atD 1 ![0]) == 1#1) && !(k0_cond3 i ((pf T).atD 1 ![0]) == 1#1)) = false
  rw [hw]
  have h := notUsed_iff i T.n
  by_cases hu : inUse i T.n
  · rw [show (k0_cond2 i (rdN T.n) == 1#1) = true from beq_iff_eq.2 hu]; rfl
  · rw [show (k0_cond3 i (rdN T.n) == 1#1) = true from beq_iff_eq.2 (h.2 hu), Bool.not_true, Bool.and_false]

theorem never_idle (t : Fin (cfgA T).N) : (cfgA T).idle (3 : Fin 4) (crd T t) = false := idle_out T (crd T t)

end Cert.Down.Moe

end
-- ==== Proof.DownLaunch.lean ====
/- The launch of the second expert product: every run ends, the arguments unchanged, the counters at zero, the result
   array as the pipeline assembles it. -/
module

public import proofs.«01_k».proof.Proof.DownBody
public import Idealize.ShloMosaic.Lib.Pipeline.Quiescent
public import Idealize.ShloMosaic.Lib.Claim
public import Idealize.ShloMosaic.Lib.Pipeline.Kit
public import Idealize.ShloMosaic.Lib.Pipeline.FrameBody
public import Idealize.ShloMosaic.Lib.Exec
public import Idealize.ShloMosaic.Lib.Tactic
public import Idealize.ShloMosaic.PureOps.Ideal
public import Idealize.ShloMosaic.Adequacy
public import Idealize.ShloMosaic.Init

@[expose] public section

set_option maxRecDepth 16384

noncomputable section

namespace Cert.Down.Moe

open Cert.Down Cert.Down.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Rounds
open Idealize.ShloMosaic.Pipeline (Dat Cfg Window BodyObligation BodyObligationLoose cellOf)

local notation "𝕄" => MT nD τ sig Unit (Elt Bits) ℕ (UR sig nD τ) ℕ

variable (T : Tabs)
variable (m : (ℓ : Loc nD τ sig) → Buf (Elt Bits) ℓ) (ρ : Dev nD → PrngReg)

/-! ## The launch -/

/-- The pipeline's launch element. -/
def u₀ : UR sig nD τ :=
  initOf (Pipeline.cells (pcs T) ((launch0 (F := Bits)).cellOf_inj fun _ => adm T))
    (Pipeline.launchToks (pcs T) ((launch0 (F := Bits)).cellOf_inj fun _ => adm T))

theorem share_eq (c : Dev nD) (w : Fin (cfgA T).W) : (dats T m ρ 0 c).share w = fullShare := by unfold Dat.share; split <;> rfl

theorem prefHeld_eq (c : Dev nD) (q : Fin 2 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

theorem phi0_intro (c : Dev nD) :
    iprop(BI.emp ∗ Pipeline.prefHeld pre0 c (fun _ => fullShare.right) (adm T).1 ∗ Pipeline.scopedRest spec0 c) ⊢ (dats T m ρ 0 c).Φ 0 := by
  rw [prefHeld_eq, scopedRest0_eq, show (dats T m ρ 0 c).Φ 0 = Phi T m ρ c 0 from rfl]
  unfold Phi
  iintro ⟨-, ⟨HT0, HT1⟩, ⟨%a0, HS0⟩⟩
  isplitl [HS0]
  · iexists a0; isplitr; swap
    · iexact HS0
    · ipureintro; exact fun h => absurd rfl h
  isplitl [HT0]
  · iexact HT0
  iexact HT1

theorem phiN_exit (c : Dev nD) : (dats T m ρ 0 c).Φ (Fin.last (cfgA T).N) ⊢ iprop(BI.emp ∗ Pipeline.scopedRest spec0 c) := by
  rw [scopedRest0_eq, show (dats T m ρ 0 c).Φ (Fin.last (cfgA T).N) = Phi T m ρ c (Fin.last _) from rfl]
  unfold Phi
  iintro ⟨⟨%a0, -, HS0⟩, -, -⟩
  isplitr; · iempintro
  iexists a0; iexact HS0

/-- The final memory: every array as the pipeline assembles it, every table as it was. -/
def QC : PUnit × MemSt nD τ sig (Elt Bits) → Prop := fun r =>
  ∀ c : Dev nD, (∀ w : Fin (cfgA T).W, r.2.mem (((cfgA T).win w).arr.view.loc (c : Thread nD τ)) = (dats T m ρ 0 c).arrAt w (cfgA T).N)
    ∧ ∀ j, r.2.mem ((c : Thread nD τ).loc (pre0.ref j)) = (adm T).1 j

/-- The launch memory holds these tables. -/
def Holds : Prop :=
  (∀ c : Dev nD, m ((c : Thread nD τ).loc main_arg0) = T.e) ∧ (∀ c : Dev nD, m ((c : Thread nD τ).loc main_arg1) = T.n)

theorem V_pre (hp : Holds T m) (c : Dev nD) (j : Fin 2) : m ((c : Thread nD τ).loc (pre0.ref j)) = (adm T).1 j := by
  fin_cases j
  · exact hp.1 c
  · exact hp.2 c

set_option backward.isDefEq.respectTransparency.types false in
set_option maxHeartbeats 4000000 in
/-- Every run from a memory holding these tables ends with the arrays as assembled and the counters at zero. -/
theorem run_quiescent (hp : Holds T m) : θ_run (defs (F := Bits)) (onTc (τ := τ) (main (F := Bits))) (s₀ m ρ) (fun r => QC T m ρ r ∧ r.2.sem = fun _ => 0) :=
  Pipeline.θ_run_region_noSem_pf_quiescent pcfgs (fun _ => adm T) (dats T m ρ) () ((launch0 (F := Bits)).cellOf_inj fun _ => adm T) (0 : Fin 1)
    (launch0 (F := Bits)).win.to₀ (launch0 (F := Bits)).pre EP defs₀ Variants.none m ρ main
    (hbody := fun c => (body_obligation T m ρ c).loose) (hne := (launch0 (F := Bits)).block_pos)
    (harr := (launch0 (F := Bits)).arr_whole) (hstage := (launch0 (F := Bits)).stage_whole) (howed := fun _ _ => rfl)
    (u₀ := u₀ T) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs T) (dats T m ρ) 0 (launch0 (F := Bits)).win.arr_inj c (launch0 (F := Bits)).arr_whole
      (share_eq T m ρ c) _ _ fun _ => rfl)
    (hpf := V_pre T m hp)
    (X := fun _ => iprop(emp)) (Y := fun _ => iprop(emp)) (Z := fun _ => iprop(emp))
    (hX := fun c => by rw [unscopedRestP0_eq]; iintro -; isplitr <;> iempintro)
    (hin := phi0_intro T m ρ)
    (hout := phiN_exit T m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The arguments end unchanged. -/
theorem QC_args (hp : Holds T m) (r : PUnit × MemSt nD τ sig (Elt Bits)) (h : QC T m ρ r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).2 0).trans (hp.1 c).symm, ((h c).2 1).trans (hp.2 c).symm, ((h c).1 (0 : Fin 4)).trans ((dats T m ρ 0 c).arrAt_in (0 : Fin 4) rfl _), ((h c).1 (1 : Fin 4)).trans ((dats T m ρ 0 c).arrAt_in (1 : Fin 4) rfl _), ((h c).1 (2 : Fin 4)).trans ((dats T m ρ 0 c).arrAt_in (2 : Fin 4) rfl _)⟩

/-- The frame: every run ends, nothing faults, the arguments unchanged, the counters at zero. -/
theorem frame (hp : Holds T m) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => QC_args T m ρ hp r h.1 c, h.2⟩) (run_quiescent T m ρ hp)

end Cert.Down.Moe

end
-- ==== Proof.UpIdealRuns.lean ====
/- What the body of the first expert product leaves at a grid point, on each of its four ways through the two
   tests (the weight block is new there or the one before; the row tile is in use or not), for any tables: the
   kept weights are the two current blocks rounded, the output block is the activated product or zero. -/
module

public import proofs.«01_k».proof.Proof.Gen.UpIdeal.Flash.Runs
public import proofs.«01_k».proof.Proof.Gen.UpIdeal.Launch
public import Idealize.ShloMosaic.Lib.Writes
public import Idealize.ShloMosaic.Lib.Ring
public import Idealize.ShloMosaic.Lib.ValueIdx
public import Idealize.ShloMosaic.Lib.Pipeline.Value

@[expose] public section

set_option maxRecDepth 16384

noncomputable section

namespace Cert.UpIdeal.Moe

open Cert.UpIdeal Cert.UpIdeal.Gen
open Idealize.ShloMosaic
open Idealize.ShloMosaic.TcCoe Idealize.ShloMosaic.Tactic
open Idealize.SL Idealize.SL.RA Idealize.SL.BI
open Idealize.SL.Sem
open Idealize.ShloMosaic.ValueIdx

/-- The weight block as the kernel keeps it: a plane of it, rounded to half precision. -/
def castW (x1 : S1x1x4096x512.Idx → Elt Ideal .f32) : S4096x512.Idx → Elt Ideal .bf16 :=
  fun y => FloatOps.truncf (F := Ideal) .bf16 bitsLt_bf16_f32 (x1 (ix4 (0 : Fin 1) (0 : Fin 1) (y 0) (y 1)))

/-- One strip of the kept weights, entry by entry. -/
theorem strip_apply (v : Vec Ideal S1x1x256x512 .f32) (y : S256x512.Idx) :
    k0_pay1 v y = FloatOps.truncf (F := Ideal) .bf16 bitsLt_bf16_f32 (v (ix4 (0 : Fin 1) (0 : Fin 1) (y 0) (y 1))) := by
  unfold k0_pay1
  rw [shapeCast_self]
  show FloatOps.truncf (F := Ideal) .bf16 _ (shapeCast S256x512 v _ y) = _
  rw [shapeCast_apply v _ y (ix4 (0 : Fin 1) (0 : Fin 1) (y 0) (y 1))]
  rw [Shape.rowMajor_val_two, Shape.rowMajor_val_four]
  simp [ix4]

theorem strip2_apply (v : Vec Ideal S1x1x256x512 .f32) (y : S256x512.Idx) :
    k0_pay2 v y = FloatOps.truncf (F := Ideal) .bf16 bitsLt_bf16_f32 (v (ix4 (0 : Fin 1) (0 : Fin 1) (y 0) (y 1))) :=
  strip_apply v y

/-- A strip read off the weight block at row `o` is rows `o …` of the kept weights. -/
theorem strip_piece (a5 : Memref sig .tc .vmem S1x1x4096x512 .f32) (x1 : S1x1x4096x512.Idx → Elt Ideal .f32)
    (o : ℕ) (h4 : ∀ a, (![0, 0, o, 0] : Fin 4 → ℕ) a + S1x1x256x512.size a ≤ S1x1x4096x512.size a)
    (h2 : ∀ a, (![o, 0] : Fin 2 → ℕ) a + S256x512.size a ≤ S4096x512.size a) (x : S256x512.Idx) :
    k0_pay1 (View.readAt (Elt Ideal) a5.view (Rect.unit (s := S1x1x4096x512) ![0, 0, o, 0] S1x1x256x512.size h4).toLoadRect (a5.view.rep x1)) x
      = castW x1 ((Rect.unit (s := S4096x512) ![o, 0] S256x512.size h2).emb x) := by
  rw [strip_apply, View.readAt_rep]
  unfold castW
  refine congrArg (fun z => FloatOps.truncf (F := Ideal) .bf16 bitsLt_bf16_f32 (x1 z)) ?_
  funext a
  refine Fin.ext ?_
  match a with
  | ⟨0, _⟩ => rfl
  | ⟨1, _⟩ => rfl
  | ⟨2, _⟩ => rfl
  | ⟨3, _⟩ => rfl

theorem strips (a5 : Memref sig .tc .vmem S1x1x4096x512 .f32) (x1 : S1x1x4096x512.Idx → Elt Ideal .f32) :
    ∀ p ∈ kernelRun0_A.sl.HS0_16 a5 x1, ∀ x : p.1.shape.Idx, p.2 x = castW x1 (p.1.emb x) := by
  intro p hp x
  unfold kernelRun0_A.sl.HS0_16 at hp
  simp only [List.mem_cons, List.not_mem_nil, or_false] at hp
  rcases hp with rfl | rfl | rfl | rfl | rfl | rfl | rfl | rfl | rfl | rfl | rfl | rfl | rfl | rfl | rfl | rfl <;> exact strip_piece a5 x1 _ _ (by decide) x

set_option maxHeartbeats 4000000 in
theorem strips_cover (a5 : Memref sig .tc .vmem S1x1x4096x512 .f32) (x1 : S1x1x4096x512.Idx → Elt Ideal .f32) (y : S4096x512.Idx) :
    ∃ p ∈ kernelRun0_A.sl.HS0_16 a5 x1, y ∈ p.1.set :=
  View.cover_of_tiledL (kernelRun0_A.sl.HS0_16 a5 x1) S256x512.size (by sl_kernel_rfl) y

/-- The kept weights after all strips are stored, over anything. -/
theorem kept (a5 : Memref sig .tc .vmem S1x1x4096x512 .f32) (x1 : S1x1x4096x512.Idx → Elt Ideal .f32)
    (f : BufTy.Contents (Elt Ideal) (View.whole cc0_scratch0).ty) :
    (View.whole cc0_scratch0).writes (Elt Ideal) f (kernelRun0_A.sl.HS0_16 a5 x1) = castW x1 := by
  have h := funext fun y => View.read_writes_apply_of_pieces (View.whole cc0_scratch0) f (castW x1) _ (strips a5 x1) y (strips_cover a5 x1 y)
  rwa [View.read_whole] at h

theorem strips2 (a5 : Memref sig .tc .vmem S1x1x4096x512 .f32) (x1 : S1x1x4096x512.Idx → Elt Ideal .f32) :
    ∀ p ∈ kernelRun0_A.sl.HS1_16 a5 x1, ∀ x : p.1.shape.Idx, p.2 x = castW x1 (p.1.emb x) := by
  intro p hp x
  unfold kernelRun0_A.sl.HS1_16 at hp
  simp only [List.mem_cons, List.not_mem_nil, or_false] at hp
  rcases hp with rfl | rfl | rfl | rfl | rfl | rfl | rfl | rfl | rfl | rfl | rfl | rfl | rfl | rfl | rfl | rfl <;> exact strip_piece a5 x1 _ _ (by decide) x

set_option maxHeartbeats 4000000 in
theorem strips2_cover (a5 : Memref sig .tc .vmem S1x1x4096x512 .f32) (x1 : S1x1x4096x512.Idx → Elt Ideal .f32) (y : S4096x512.Idx) :
    ∃ p ∈ kernelRun0_A.sl.HS1_16 a5 x1, y ∈ p.1.set :=
  View.cover_of_tiledL (kernelRun0_A.sl.HS1_16 a5 x1) S256x512.size (by sl_kernel_rfl) y

/-- The kept weights of the second scratch after all strips are stored, over anything. -/
theorem kept2 (a5 : Memref sig .tc .vmem S1x1x4096x512 .f32) (x1 : S1x1x4096x512.Idx → Elt Ideal .f32)
    (f : BufTy.Contents (Elt Ideal) (View.whole cc0_scratch1).ty) :
    (View.whole cc0_scratch1).writes (Elt Ideal) f (kernelRun0_A.sl.HS1_16 a5 x1) = castW x1 := by
  have h := funext fun y => View.read_writes_apply_of_pieces (View.whole cc0_scratch1) f (castW x1) _ (strips2 a5 x1) y (strips2_cover a5 x1 y)
  rwa [View.read_whole] at h

/-- The output block: the activated product where the tile is in use, zero elsewhere. -/
def outF (act : Prop) [Decidable act] (x0 : S512x4096.Idx → Elt Ideal .bf16) (w u : S4096x512.Idx → Elt Ideal .bf16) :
    S512x512.Idx → Elt Ideal .bf16 :=
  if act then k0_pay3 x0 w u else k0_pay4 (F := Ideal)

/-- A block read or stored whole keeps its indices. -/
theorem whole_idx {n0 n1 : ℕ} (h : ∀ a, (![0, 0] : Fin 2 → ℕ) a + (⟨2, ![n0, n1]⟩ : Shape).size a ≤ (⟨2, ![n0, n1]⟩ : Shape).size a)
    (y : (⟨2, ![n0, n1]⟩ : Shape).Idx) : (Rect.unit (s := ⟨2, ![n0, n1]⟩) ![0, 0] (⟨2, ![n0, n1]⟩ : Shape).size h).toLoadRect.idx y = y := by
  funext a
  refine Fin.ext ?_
  match a with
  | ⟨0, _⟩ => show 0 + 1 * (y 0).val = (y 0).val; omega
  | ⟨1, _⟩ => show 0 + 1 * (y 1).val = (y 1).val; omega

/-- One store of the whole block leaves the value stored. -/
theorem read_one {sp : Space} (v : View sig .tc sp S512x512 .bf16) (f : BufTy.Contents (Elt Ideal) v.ty)
    (h : ∀ a, (![0, 0] : Fin 2 → ℕ) a + S512x512.size a ≤ S512x512.size a) (X : S512x512.Idx → Elt Ideal .bf16) :
    View.read (Elt Ideal) v (v.writes (Elt Ideal) f [⟨Rect.unit (s := S512x512) ![0, 0] S512x512.size h, X⟩]) = X := by
  funext y
  refine View.read_writes_apply_of_pieces v f X _ ?_ y ?_
  · intro p hp x
    obtain rfl := List.mem_singleton.1 hp
    exact congrArg X (whole_idx h x).symm
  · refine ⟨_, List.mem_singleton.2 rfl, ?_⟩
    have := (Rect.unit (s := S512x512) ![0, 0] S512x512.size h).toLoadRect.idx_mem y
    rwa [whole_idx h y] at this

theorem readAt_rep_whole {n0 n1 : ℕ} {e : EltTy} (a : Memref sig .tc .vmem ⟨2, ![n0, n1]⟩ e)
    (h : ∀ a, (![0, 0] : Fin 2 → ℕ) a + (⟨2, ![n0, n1]⟩ : Shape).size a ≤ (⟨2, ![n0, n1]⟩ : Shape).size a)
    (x : (⟨2, ![n0, n1]⟩ : Shape).Idx → Elt Ideal e) :
    View.readAt (Elt Ideal) a.view (Rect.unit (s := ⟨2, ![n0, n1]⟩) ![0, 0] (⟨2, ![n0, n1]⟩ : Shape).size h).toLoadRect (a.view.rep x) = x := by
  rw [View.readAt_rep]
  exact funext fun y => congrArg x (whole_idx h y)

/-- The kept weights read back whole. -/
theorem readAt_kept (h : ∀ a, (![0, 0] : Fin 2 → ℕ) a + S4096x512.size a ≤ S4096x512.size a)
    (f : BufTy.Contents (Elt Ideal) (View.whole cc0_scratch0).ty) :
    View.readAt (Elt Ideal) scM0_0.view (Rect.unit (s := S4096x512) ![0, 0] S4096x512.size h).toLoadRect f = f :=
  funext fun y => congrArg f (whole_idx h y)

/-- The kept weights read back in the point that stored them. -/
theorem readCov_kept (a5 : Memref sig .tc .vmem S1x1x4096x512 .f32) (x1 : S1x1x4096x512.Idx → Elt Ideal .f32)
    (h : ∀ a, (![0, 0] : Fin 2 → ℕ) a + S4096x512.size a ≤ S4096x512.size a) :
    scM0_0.view.readCov (kernelRun0_A.sl.HS0_16 a5 x1) (Rect.unit (s := S4096x512) ![0, 0] S4096x512.size h).toLoadRect = castW x1 := by
  unfold View.readCov
  have e := kept a5 x1 (View.whole cc0_scratch0).junk
  have r := readAt_kept h (castW x1)
  rw [← e] at r
  exact r.trans e

/-- The second kept weights read back whole. -/
theorem readAt_kept2 (h : ∀ a, (![0, 0] : Fin 2 → ℕ) a + S4096x512.size a ≤ S4096x512.size a)
    (f : BufTy.Contents (Elt Ideal) (View.whole cc0_scratch1).ty) :
    View.readAt (Elt Ideal) scM0_1.view (Rect.unit (s := S4096x512) ![0, 0] S4096x512.size h).toLoadRect f = f :=
  funext fun y => congrArg f (whole_idx h y)

/-- The second kept weights read back in the point that stored them. -/
theorem readCov_kept2 (a5 : Memref sig .tc .vmem S1x1x4096x512 .f32) (x1 : S1x1x4096x512.Idx → Elt Ideal .f32)
    (h : ∀ a, (![0, 0] : Fin 2 → ℕ) a + S4096x512.size a ≤ S4096x512.size a) :
    scM0_1.view.readCov (kernelRun0_A.sl.HS1_16 a5 x1) (Rect.unit (s := S4096x512) ![0, 0] S4096x512.size h).toLoadRect = castW x1 := by
  unfold View.readCov
  have e := kept2 a5 x1 (View.whole cc0_scratch1).junk
  have r := readAt_kept2 h (castW x1)
  rw [← e] at r
  exact r.trans e

/-! ## The two tests -/

/-- The word of the table the tests read at a point, and the one before it. -/
abbrev rd1 (i : grid0.Coords) (T0 : S50.Idx → BitVec 32) : BitVec 32 :=
  View.readAt (Elt Ideal) (tbM0_0).view (Rect.unit (s := S50) (k0_off1 i) S1.size (k0_off1_inb i)).toLoadRect T0 (Shape.Idx.first (numel1_S1.symm ▸ Nat.one_pos))
abbrev rd2 (i : grid0.Coords) (T0 : S50.Idx → BitVec 32) : BitVec 32 :=
  View.readAt (Elt Ideal) (tbM0_0).view (Rect.unit (s := S50) (k0_off2 i) S1.size (k0_off2_inb i)).toLoadRect T0 (Shape.Idx.first (numel1_S1.symm ▸ Nat.one_pos))
abbrev rdN (T1 : S1.Idx → BitVec 32) : BitVec 32 :=
  View.readAt (Elt Ideal) (tbM0_1).view (Rect.unit (s := S1) ![0] S1.size inb_S1_S1_0).toLoadRect T1 (Shape.Idx.first (numel1_S1.symm ▸ Nat.one_pos))
/-- The weight block is new at this point, as the body tests it. -/
abbrev isNew (i : grid0.Coords) (T0 : S50.Idx → BitVec 32) : Prop :=
  Scalar.cmpi .ne (Scalar.extui (Scalar.ori (Scalar.cmpi .eq (BitVec.ofNat 32 (i 1).val) 0#32) (Scalar.cmpi .ne (rd1 i T0) (rd2 i T0)))) 0#32 = 1#1
/-- The row tile is in use, as the body tests it. -/
abbrev inUse (i : grid0.Coords) (T1 : S1.Idx → BitVec 32) : Prop := k0_cond2 i (rdN T1) = 1#1
abbrev notUsed (i : grid0.Coords) (T1 : S1.Idx → BitVec 32) : Prop := k0_cond3 i (rdN T1) = 1#1

theorem ne_zero_of_bit (b : BitVec 1) : (Scalar.cmpi .ne (Scalar.extui b : BitVec 32) 0#32 = 1#1) ↔ b = 1#1 := by
  revert b; decide

theorem bit_or (a b : BitVec 1) : Scalar.ori a b = 1#1 ↔ a = 1#1 ∨ b = 1#1 := by
  revert a b; decide

theorem notUsed_iff (i : grid0.Coords) (T1 : S1.Idx → BitVec 32) : notUsed i T1 ↔ ¬ inUse i T1 := by
  unfold notUsed inUse k0_cond2 k0_cond3
  dsimp only
  rw [ne_zero_of_bit, ne_zero_of_bit]
  unfold Scalar.cmpi IntOp.cmpi
  generalize BitVec.ofNat 32 (i 1).val = a
  generalize rdN T1 = b
  dsimp only
  have h : b.sle a = !a.slt b := by
    rw [BitVec.sle, BitVec.slt, ← decide_not, decide_eq_decide, not_lt]
  rw [h]
  cases a.slt b <;> decide

theorem inUse_iff (i : grid0.Coords) (T1 : S1.Idx → BitVec 32) :
    inUse i T1 ↔ ((i 1).val : ℤ) < (T1 (ix1 (0 : Fin 1))).toInt := by
  unfold inUse k0_cond2
  dsimp only
  rw [ne_zero_of_bit]
  unfold Scalar.cmpi IntOp.cmpi
  have hr : rdN T1 = T1 (ix1 (0 : Fin 1)) := congrArg T1 (by funext a; match a with | ⟨0, _⟩ => rfl)
  have hi : (i 1).val < 50 := (i 1).isLt
  have hv : (BitVec.ofNat 32 (i 1).val).toInt = ((i 1).val : ℤ) := by
    rw [BitVec.toInt_eq_toNat_cond, BitVec.toNat_ofNat]; split <;> omega
  rw [hr]
  dsimp only
  rw [← hv, ← BitVec.slt_iff_toInt_lt]
  cases BitVec.slt (BitVec.ofNat 32 (i 1).val) (T1 (ix1 (0 : Fin 1))) <;> decide

theorem isNew_iff (i : grid0.Coords) (T0 : S50.Idx → BitVec 32) :
    isNew i T0 ↔ ((i 1).val = 0 ∨ rd1 i T0 ≠ rd2 i T0) := by
  unfold isNew
  rw [ne_zero_of_bit, bit_or]
  unfold Scalar.cmpi IntOp.cmpi
  have hi : (i 1).val < 50 := (i 1).isLt
  have hz : (BitVec.ofNat 32 (i 1).val == 0#32) = decide ((i 1).val = 0) := by
    rw [Bool.eq_iff_iff, beq_iff_eq, decide_eq_true_eq, ← BitVec.toNat_inj, BitVec.toNat_ofNat]
    show _ = 0 ↔ _
    omega
  dsimp only
  rw [hz]
  generalize rd1 i T0 = a
  generalize rd2 i T0 = b
  have hb : (a != b) = decide (a ≠ b) := by
    rw [Bool.eq_iff_iff, bne_iff_ne, decide_eq_true_eq]
  rw [hb]
  by_cases h1 : (i 1).val = 0 <;> by_cases h2 : a = b <;> simp [h1, h2]

theorem rd1_eq (i : grid0.Coords) (T0 : S50.Idx → BitVec 32) : rd1 i T0 = T0 (ix1 ⟨(i 1).val, (i 1).isLt⟩) := by
  refine congrArg T0 ?_
  funext a
  refine Fin.ext ?_
  have hi : (i 1).val < 50 := (i 1).isLt
  match a with
  | ⟨0, _⟩ =>
    show (Scalar.indexCast (BitVec.ofNat 32 (i 1).val)).toNat + 1 * 0 = (i 1).val
    show (BitVec.ofNat 32 (i 1).val).toNat + 1 * 0 = (i 1).val
    rw [BitVec.toNat_ofNat]; omega

theorem rd2_eq (i : grid0.Coords) (T0 : S50.Idx → BitVec 32) (h : (i 1).val ≠ 0) :
    rd2 i T0 = T0 (ix1 ⟨(i 1).val - 1, lt_of_le_of_lt (Nat.sub_le _ _) (i 1).isLt⟩) := by
  refine congrArg T0 ?_
  funext a
  refine Fin.ext ?_
  match a with
  | ⟨0, _⟩ =>
    show (Scalar.maxsi (Scalar.subi (BitVec.ofNat 32 (i 1).val) 1#32) 0#32).toNat + 1 * 0 = (i 1).val - 1
    have hi : (i 1).val < 50 := (i 1).isLt
    revert h
    generalize (i 1).val = n at hi ⊢
    revert n
    decide

/-! ## The four ways through the body -/

section
variable (c : Dev nD) (i : grid0.Coords) (a4 : Memref sig .tc .vmem S512x4096 .bf16) (h4 : a4.IsWhole)
  (a5 : Memref sig .tc .vmem S1x1x4096x512 .f32) (h5 : a5.IsWhole) (a6 : Memref sig .tc .vmem S1x1x4096x512 .f32) (h6 : a6.IsWhole)
  (a7 : Memref sig .tc .vmem S512x512 .bf16) (h7 : a7.IsWhole) (T0 : S50.Idx → Elt Ideal .i32) (T1 : S1.Idx → Elt Ideal .i32)
  (x0 : S512x4096.Idx → Elt Ideal .bf16) (x1 : S1x1x4096x512.Idx → Elt Ideal .f32) (x2 : S1x1x4096x512.Idx → Elt Ideal .f32)

theorem kept_A (hc0 : isNew i T0) (hu : inUse i T1) (hn : ¬ notUsed i T1) :
    (kernelRun0_A c i a4 h4 a5 h5 a6 h6 a7 h7 T0 T1 x0 x1 x2 hc0 hu hn).2.1 = castW x1 := by
  unfold kernelRun0_A; dsimp only
  exact kept a5 x1 _

theorem kept2_A (hc0 : isNew i T0) (hu : inUse i T1) (hn : ¬ notUsed i T1) :
    (kernelRun0_A c i a4 h4 a5 h5 a6 h6 a7 h7 T0 T1 x0 x1 x2 hc0 hu hn).2.2.1 = castW x2 := by
  unfold kernelRun0_A; dsimp only
  exact kept2 a6 x2 _

theorem out_A (hc0 : isNew i T0) (hu : inUse i T1) (hn : ¬ notUsed i T1) (f : BufTy.Contents (Elt Ideal) a7.view.ty) :
    View.read (Elt Ideal) a7.view (a7.view.writes (Elt Ideal) f (kernelRun0_A c i a4 h4 a5 h5 a6 h6 a7 h7 T0 T1 x0 x1 x2 hc0 hu hn).1)
      = outF (inUse i T1) x0 (castW x1) (castW x2) := by
  unfold kernelRun0_A; dsimp only
  unfold kernelRun0_A.sl.HO3_1 kernelRun0_A.sl.v20 kernelRun0_A.sl.v22
  rw [read_one, outF, if_pos hu, readAt_rep_whole]
  rw [readCov_kept, readCov_kept2]

theorem kept_D (hc0 : isNew i T0) (hu : ¬ inUse i T1) (hn : notUsed i T1) :
    (kernelRun0_D c i a4 h4 a5 h5 a6 h6 a7 h7 T0 T1 x0 x1 x2 hc0 hu hn).2.1 = castW x1 := by
  unfold kernelRun0_D; dsimp only
  exact kept a5 x1 _

theorem kept2_D (hc0 : isNew i T0) (hu : ¬ inUse i T1) (hn : notUsed i T1) :
    (kernelRun0_D c i a4 h4 a5 h5 a6 h6 a7 h7 T0 T1 x0 x1 x2 hc0 hu hn).2.2.1 = castW x2 := by
  unfold kernelRun0_D; dsimp only
  exact kept2 a6 x2 _

theorem out_D (hc0 : isNew i T0) (hu : ¬ inUse i T1) (hn : notUsed i T1) (f : BufTy.Contents (Elt Ideal) a7.view.ty) :
    View.read (Elt Ideal) a7.view (a7.view.writes (Elt Ideal) f (kernelRun0_D c i a4 h4 a5 h5 a6 h6 a7 h7 T0 T1 x0 x1 x2 hc0 hu hn).1)
      = outF (inUse i T1) x0 (castW x1) (castW x2) := by
  unfold kernelRun0_D; dsimp only
  unfold kernelRun0_D.sl.HO3_1
  rw [read_one, outF, if_neg hu]

theorem kept_B (w u : S4096x512.Idx → Elt Ideal .bf16) (hc0 : ¬ isNew i T0) (hu : inUse i T1) (hn : ¬ notUsed i T1) :
    (kernelRun0_B c i a4 h4 a5 h5 a6 h6 a7 h7 T0 T1 x0 x1 x2 w u hc0 hu hn).2.1 = w := by
  unfold kernelRun0_B; rfl

theorem kept2_B (w u : S4096x512.Idx → Elt Ideal .bf16) (hc0 : ¬ isNew i T0) (hu : inUse i T1) (hn : ¬ notUsed i T1) :
    (kernelRun0_B c i a4 h4 a5 h5 a6 h6 a7 h7 T0 T1 x0 x1 x2 w u hc0 hu hn).2.2.1 = u := by
  unfold kernelRun0_B; rfl

theorem out_B (w u : S4096x512.Idx → Elt Ideal .bf16) (hc0 : ¬ isNew i T0) (hu : inUse i T1) (hn : ¬ notUsed i T1) (f : BufTy.Contents (Elt Ideal) a7.view.ty) :
    View.read (Elt Ideal) a7.view (a7.view.writes (Elt Ideal) f (kernelRun0_B c i a4 h4 a5 h5 a6 h6 a7 h7 T0 T1 x0 x1 x2 w u hc0 hu hn).1)
      = outF (inUse i T1) x0 w u := by
  unfold kernelRun0_B; dsimp only
  unfold kernelRun0_B.sl.HO3_1
  rw [read_one, outF, if_pos hu, readAt_rep_whole]
  have e1 := readAt_kept inb_S4096x512_S4096x512_0_0 w
  have e2 := readAt_kept2 inb_S4096x512_S4096x512_0_0 u
  exact congr (congrArg (k0_pay3 x0) e1) e2

theorem kept_C (w u : S4096x512.Idx → Elt Ideal .bf16) (hc0 : ¬ isNew i T0) (hu : ¬ inUse i T1) (hn : notUsed i T1) :
    (kernelRun0_C c i a4 h4 a5 h5 a6 h6 a7 h7 T0 T1 x0 x1 x2 w u hc0 hu hn).2.1 = w := by
  unfold kernelRun0_C; rfl

theorem kept2_C (w u : S4096x512.Idx → Elt Ideal .bf16) (hc0 : ¬ isNew i T0) (hu : ¬ inUse i T1) (hn : notUsed i T1) :
    (kernelRun0_C c i a4 h4 a5 h5 a6 h6 a7 h7 T0 T1 x0 x1 x2 w u hc0 hu hn).2.2.1 = u := by
  unfold kernelRun0_C; rfl

theorem out_C (w u : S4096x512.Idx → Elt Ideal .bf16) (hc0 : ¬ isNew i T0) (hu : ¬ inUse i T1) (hn : notUsed i T1) (f : BufTy.Contents (Elt Ideal) a7.view.ty) :
    View.read (Elt Ideal) a7.view (a7.view.writes (Elt Ideal) f (kernelRun0_C c i a4 h4 a5 h5 a6 h6 a7 h7 T0 T1 x0 x1 x2 w u hc0 hu hn).1)
      = outF (inUse i T1) x0 w u := by
  unfold kernelRun0_C; dsimp only
  unfold kernelRun0_C.sl.HO3_1
  rw [read_one, outF, if_neg hu]

end

end Cert.UpIdeal.Moe

end
-- ==== Proof.UpIdealDat.lean ====
/- The pipeline of the first expert product at any expert table with entries below sixteen: its blocks, what is
   kept and what is stored at every point. -/
module

public import proofs.«01_k».proof.Proof.UpIdealRuns
public import Idealize.ShloMosaic.Lib.Pipeline.Quiescent
public import Idealize.ShloMosaic.Lib.Claim
public import Idealize.ShloMosaic.Lib.Pipeline.Kit
public import Idealize.ShloMosaic.Lib.Pipeline.FrameBody
public import Idealize.ShloMosaic.Lib.Exec
public import Idealize.ShloMosaic.Lib.Tactic
public import Idealize.ShloMosaic.PureOps.Ideal
public import Idealize.ShloMosaic.Adequacy
public import Idealize.ShloMosaic.Init

@[expose] public section

set_option maxRecDepth 16384

noncomputable section

namespace Cert.UpIdeal.Moe

open Cert.UpIdeal Cert.UpIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Rounds
open Idealize.ShloMosaic.Pipeline (Dat Cfg Window BodyObligation BodyObligationLoose cellOf)

local notation "𝕄" => MT nD τ sig Unit (Elt Ideal) ℕ (UR sig nD τ) ℕ

/-- The resource algebra of the proof: the pipeline's own, embedded whole. -/
abbrev EP : Emb (UR sig nD τ) 𝕄 := emb₁

/-- The two tables the call is given: an expert for each row tile, and how many tiles are in use. -/
structure Tabs where
  e : S50.Idx → BitVec 32
  n : S1.Idx → BitVec 32
  lt : ∀ j, (e j).toNat < 16

variable (T : Tabs)
variable (m : (ℓ : Loc nD τ sig) → Buf (Elt Ideal) ℓ) (ρ : Dev nD → PrngReg)

/-- The tables as the pipeline takes them. -/
def pf : pre0.Contents (Elt Ideal) := fun | ⟨0, _⟩ => T.e | ⟨1, _⟩ => T.n | ⟨_ + 2, h⟩ => absurd h (by simp)

/-- The weight block of a point: expert and column tile. -/
theorem block1 (i : grid0.Coords) :
    cc0_transform_1 k0_off1_inb numel1_S1 (pf T) i = ![0, (T.e (ix1 ⟨(i 1).val, (i 1).isLt⟩)).toNat, 0, (i 0).val] := by
  have h0 : (i 0).val < 2 := (i 0).isLt
  have h := rd1_eq i T.e
  show ![0, (rd1 i T.e).toNat, 0, (BitVec.ofNat 32 (i 0).val).toNat] = _
  rw [h, BitVec.toNat_ofNat, Nat.mod_eq_of_lt (by omega)]

theorem block2 (i : grid0.Coords) :
    cc0_transform_2 k0_off1_inb numel1_S1 (pf T) i = ![0, (T.e (ix1 ⟨(i 1).val, (i 1).isLt⟩)).toNat, 0, (i 0).val] := block1 T i

theorem ok_pf : ok0 (F := Ideal) (pf T) := by
  suffices hs : ∀ (i : grid0.Coords) a, ((![0, (T.e (ix1 ⟨(i 1).val, (i 1).isLt⟩)).toNat, 0, (i 0).val] : Fin 4 → ℕ) a + 1) * S1x1x4096x512.size a ≤ S2x16x4096x1024.size a by
    exact ⟨fun i => ⟨by rw [block1]; exact hs i, .inl rfl⟩, fun i => ⟨by rw [block2]; exact hs i, .inl rfl⟩⟩
  intro i
  have h0 : (i 0).val < 2 := (i 0).isLt
  have h1 := T.lt (ix1 ⟨(i 1).val, (i 1).isLt⟩)
  intro a
  match a with
  | ⟨0, _⟩ => show (0 + 1) * 1 ≤ 2; omega
  | ⟨1, _⟩ => show ((T.e (ix1 ⟨(i 1).val, (i 1).isLt⟩)).toNat + 1) * 1 ≤ 16; omega
  | ⟨2, _⟩ => show (0 + 1) * 4096 ≤ 4096; omega
  | ⟨3, _⟩ => show ((i 0).val + 1) * 512 ≤ 1024; omega

/-- The pipeline at these tables. -/
def adm : (pcfg0 (F := Ideal)).Adm := ⟨pf T, ok_pf T⟩
abbrev cfgA : Pipeline.Cfg sig Λ₀ := cfg0 (F := Ideal) (adm T)
abbrev pcs : Fin 1 → Pipeline.Cfg sig Λ₀ := Pipeline.pin (pcfgs (F := Ideal)) fun _ => adm T

abbrev crd (t : Fin (cfgA T).N) : (cfgA T).grid.Coords := (cfgA T).grid.coords t

abbrev ms0 (t : Fin (cfgA T).N) : Memref sig .tc .vmem S512x4096 .bf16 := spec0_0.stage ((cfgA T).slots t (0 : Fin 4))
abbrev hs0 (t : Fin (cfgA T).N) : (ms0 T t).IsWhole := hstage0_0 (((cfgA T).slots t (0 : Fin 4)).cast nbuf0_0)
abbrev ms1 (t : Fin (cfgA T).N) : Memref sig .tc .vmem S1x1x4096x512 .f32 := spec0_1.stage ((cfgA T).slots t (1 : Fin 4))
abbrev hs1 (t : Fin (cfgA T).N) : (ms1 T t).IsWhole := hstage0_1 (((cfgA T).slots t (1 : Fin 4)).cast nbuf0_1)
abbrev ms2 (t : Fin (cfgA T).N) : Memref sig .tc .vmem S1x1x4096x512 .f32 := spec0_2.stage ((cfgA T).slots t (2 : Fin 4))
abbrev hs2 (t : Fin (cfgA T).N) : (ms2 T t).IsWhole := hstage0_2 (((cfgA T).slots t (2 : Fin 4)).cast nbuf0_2)
abbrev ms3 (t : Fin (cfgA T).N) : Memref sig .tc .vmem S512x512 .bf16 := spec0_3.stage ((cfgA T).slots t (3 : Fin 4))
abbrev hs3 (t : Fin (cfgA T).N) : (ms3 T t).IsWhole := hstage0_3 (((cfgA T).slots t (3 : Fin 4)).cast nbuf0_3)

/-- A window's block at a point, read off its array at launch. -/
def iblk (c : Dev nD) (w : Fin (cfgA T).W) (t : Fin (cfgA T).N) : (((cfgA T).win w).xblock (crd T t)).Idx → Elt Ideal ((cfgA T).win w).elt :=
  (((cfgA T).win w).blk t).view.read (Elt Ideal) ((s₀ m ρ).mem (((cfgA T).win w).arr.view.loc (c : Thread nD τ)))

/-- The kept weights of a point. -/
def keptAt (c : Dev nD) (t : Fin (cfgA T).N) : S4096x512.Idx → Elt Ideal .bf16 := castW (iblk T m ρ c (1 : Fin 4) t)
def keptAt2 (c : Dev nD) (t : Fin (cfgA T).N) : S4096x512.Idx → Elt Ideal .bf16 := castW (iblk T m ρ c (2 : Fin 4) t)

/-- The output block of a point. -/
def outAt (c : Dev nD) (t : Fin (cfgA T).N) : S512x512.Idx → Elt Ideal .bf16 :=
  outF (inUse (crd T t) T.n) (iblk T m ρ c (0 : Fin 4) t) (keptAt T m ρ c t) (keptAt2 T m ρ c t)

/-! ## The weight block at a point that does not renew it -/

theorem crd_val0 (t : Fin (cfgA T).N) : ((crd T t) 0).val = t.val / 50 % 2 := Pipeline.Grid.coords_val t 0 rfl rfl
theorem crd_val1 (t : Fin (cfgA T).N) : ((crd T t) 1).val = t.val / 1 % 50 := Pipeline.Grid.coords_val t 1 rfl rfl

/-- The weight block of a point, entry by entry. -/
theorem iblk1_apply (c : Dev nD) (t : Fin (cfgA T).N) (y : S1x1x4096x512.Idx) :
    iblk T m ρ c (1 : Fin 4) t y = m ((c : Thread nD τ).loc main_arg3)
      (ix4 (0 : Fin 2) (⟨(T.e (ix1 ⟨((crd T t) 1).val, ((crd T t) 1).isLt⟩)).toNat, T.lt _⟩ : Fin 16) (y 2)
        (⟨((crd T t) 0).val * 512 + (y 3).val, by have h : ((crd T t) 0).val < 2 := ((crd T t) 0).isLt; have h3 : (y 3).val < 512 := (y 3).isLt; omega⟩ : Fin 1024)) := by
  show m ((c : Thread nD τ).loc main_arg3) ((((cfgA T).win (1 : Fin 4)).rect t).emb y) = _
  refine congrArg _ ?_
  funext a
  refine Fin.ext ?_
  rw [Pipeline.Window.rect_emb_val ((cfgA T).win (1 : Fin 4)) t y a (hk := rfl)]
  have hb : ((cfgA T).win (1 : Fin 4)).index t a = (![0, (T.e (ix1 ⟨((crd T t) 1).val, ((crd T t) 1).isLt⟩)).toNat, 0, ((crd T t) 0).val] : Fin 4 → ℕ) a :=
    congrFun (block1 T (crd T t)) a
  rw [hb]
  match a with
  | ⟨0, _⟩ => have h : (y 0).val < 1 := (y 0).isLt; show 0 * 1 + (y 0).val = 0; omega
  | ⟨1, _⟩ => have h : (y 1).val < 1 := (y 1).isLt; show (T.e _).toNat * 1 + (y 1).val = (T.e _).toNat; omega
  | ⟨2, _⟩ => show 0 * 4096 + (y 2).val = (y 2).val; omega
  | ⟨3, _⟩ => rfl

/-- The second weight block of a point, entry by entry. -/
theorem iblk2_apply (c : Dev nD) (t : Fin (cfgA T).N) (y : S1x1x4096x512.Idx) :
    iblk T m ρ c (2 : Fin 4) t y = m ((c : Thread nD τ).loc main_arg4)
      (ix4 (0 : Fin 2) (⟨(T.e (ix1 ⟨((crd T t) 1).val, ((crd T t) 1).isLt⟩)).toNat, T.lt _⟩ : Fin 16) (y 2)
        (⟨((crd T t) 0).val * 512 + (y 3).val, by have h : ((crd T t) 0).val < 2 := ((crd T t) 0).isLt; have h3 : (y 3).val < 512 := (y 3).isLt; omega⟩ : Fin 1024)) := by
  show m ((c : Thread nD τ).loc main_arg4) ((((cfgA T).win (2 : Fin 4)).rect t).emb y) = _
  refine congrArg _ ?_
  funext a
  refine Fin.ext ?_
  rw [Pipeline.Window.rect_emb_val ((cfgA T).win (2 : Fin 4)) t y a (hk := rfl)]
  have hb : ((cfgA T).win (2 : Fin 4)).index t a = (![0, (T.e (ix1 ⟨((crd T t) 1).val, ((crd T t) 1).isLt⟩)).toNat, 0, ((crd T t) 0).val] : Fin 4 → ℕ) a :=
    congrFun (block2 T (crd T t)) a
  rw [hb]
  match a with
  | ⟨0, _⟩ => have h : (y 0).val < 1 := (y 0).isLt; show 0 * 1 + (y 0).val = 0; omega
  | ⟨1, _⟩ => have h : (y 1).val < 1 := (y 1).isLt; show (T.e _).toNat * 1 + (y 1).val = (T.e _).toNat; omega
  | ⟨2, _⟩ => show 0 * 4096 + (y 2).val = (y 2).val; omega
  | ⟨3, _⟩ => rfl

/-- Unless the tile is the first or its expert differs from the tile's before, the weight block is the one before. -/
theorem same_block (c : Dev nD) (t : Fin (cfgA T).N) (ht : t.val ≠ 0) (h : ¬ isNew (crd T t) T.e) :
    keptAt T m ρ c t = keptAt T m ρ c ⟨t.val - 1, lt_of_le_of_lt (Nat.sub_le _ _) t.isLt⟩ := by
  rw [isNew_iff] at h
  obtain ⟨h1, h2⟩ := not_or.1 h
  have h2 := not_not.1 h2
  rw [rd1_eq, rd2_eq _ _ h1] at h2
  have e0 := crd_val0 T t
  have e1 := crd_val1 T t
  have f0 := crd_val0 T ⟨t.val - 1, lt_of_le_of_lt (Nat.sub_le _ _) t.isLt⟩
  have f1 := crd_val1 T ⟨t.val - 1, lt_of_le_of_lt (Nat.sub_le _ _) t.isLt⟩
  dsimp only at f0 f1
  funext y
  unfold keptAt castW
  rw [iblk1_apply, iblk1_apply]
  refine congrArg _ (congrArg _ ?_)
  have g1 : (⟨((crd T t) 1).val - 1, lt_of_le_of_lt (Nat.sub_le _ _) ((crd T t) 1).isLt⟩ : Fin 50)
      = ⟨((crd T ⟨t.val - 1, lt_of_le_of_lt (Nat.sub_le _ _) t.isLt⟩) 1).val, ((crd T ⟨t.val - 1, lt_of_le_of_lt (Nat.sub_le _ _) t.isLt⟩) 1).isLt⟩ :=
    Fin.ext (by dsimp only; omega)
  have g0 : ((crd T ⟨t.val - 1, lt_of_le_of_lt (Nat.sub_le _ _) t.isLt⟩) 0).val = ((crd T t) 0).val := by omega
  rw [g1] at h2
  funext a
  refine Fin.ext ?_
  match a with
  | ⟨0, _⟩ => rfl
  | ⟨1, _⟩ => exact congrArg BitVec.toNat h2
  | ⟨2, _⟩ => rfl
  | ⟨3, _⟩ => exact congrArg (fun n => n * 512 + (y 1).val) g0.symm

/-- Unless the tile is the first or its expert differs from the tile's before, the second weight block is the one before. -/
theorem same_block2 (c : Dev nD) (t : Fin (cfgA T).N) (ht : t.val ≠ 0) (h : ¬ isNew (crd T t) T.e) :
    keptAt2 T m ρ c t = keptAt2 T m ρ c ⟨t.val - 1, lt_of_le_of_lt (Nat.sub_le _ _) t.isLt⟩ := by
  rw [isNew_iff] at h
  obtain ⟨h1, h2⟩ := not_or.1 h
  have h2 := not_not.1 h2
  rw [rd1_eq, rd2_eq _ _ h1] at h2
  have e0 := crd_val0 T t
  have e1 := crd_val1 T t
  have f0 := crd_val0 T ⟨t.val - 1, lt_of_le_of_lt (Nat.sub_le _ _) t.isLt⟩
  have f1 := crd_val1 T ⟨t.val - 1, lt_of_le_of_lt (Nat.sub_le _ _) t.isLt⟩
  dsimp only at f0 f1
  funext y
  unfold keptAt2 castW
  rw [iblk2_apply, iblk2_apply]
  refine congrArg _ (congrArg _ ?_)
  have g1 : (⟨((crd T t) 1).val - 1, lt_of_le_of_lt (Nat.sub_le _ _) ((crd T t) 1).isLt⟩ : Fin 50)
      = ⟨((crd T ⟨t.val - 1, lt_of_le_of_lt (Nat.sub_le _ _) t.isLt⟩) 1).val, ((crd T ⟨t.val - 1, lt_of_le_of_lt (Nat.sub_le _ _) t.isLt⟩) 1).isLt⟩ :=
    Fin.ext (by dsimp only; omega)
  have g0 : ((crd T ⟨t.val - 1, lt_of_le_of_lt (Nat.sub_le _ _) t.isLt⟩) 0).val = ((crd T t) 0).val := by omega
  rw [g1] at h2
  funext a
  refine Fin.ext ?_
  match a with
  | ⟨0, _⟩ => rfl
  | ⟨1, _⟩ => exact congrArg BitVec.toNat h2
  | ⟨2, _⟩ => rfl
  | ⟨3, _⟩ => exact congrArg (fun n => n * 512 + (y 1).val) g0.symm

/-! ## The pipeline's proof data -/

/-- Kept weights as the point before point `n` left them (anything before the first). -/
def Was (c : Dev nD) (n : ℕ) (a : S4096x512.Idx → Elt Ideal .bf16) : Prop :=
  ∀ (h0 : n ≠ 0) (h : n - 1 < (cfgA T).N), a = keptAt T m ρ c ⟨n - 1, h⟩

theorem was_succ (c : Dev nD) (t : Fin (cfgA T).N) {a : S4096x512.Idx → Elt Ideal .bf16} (h : a = keptAt T m ρ c t) :
    Was T m ρ c t.succ.val a := fun _ _ => h

theorem was_same (c : Dev nD) (t : Fin (cfgA T).N) (hn : ¬ isNew (crd T t) T.e) {a : S4096x512.Idx → Elt Ideal .bf16}
    (h : Was T m ρ c t.castSucc.val a) : a = keptAt T m ρ c t := by
  have ht : t.val ≠ 0 := by
    intro h0
    have e1 : ((crd T t) 1).val = 0 := by rw [crd_val1, h0]
    exact hn ((isNew_iff (crd T t) T.e).2 (Or.inl e1))
  have e2 : a = keptAt T m ρ c ⟨t.val - 1, lt_of_le_of_lt (Nat.sub_le _ _) t.isLt⟩ := by
    rw [Fin.val_castSucc] at h
    exact h ht (lt_of_le_of_lt (Nat.sub_le _ _) t.isLt)
  rw [e2]
  exact (same_block T m ρ c t ht hn).symm

/-- Second kept weights as the point before point `n` left them (anything before the first). -/
def Was2 (c : Dev nD) (n : ℕ) (a : S4096x512.Idx → Elt Ideal .bf16) : Prop :=
  ∀ (h0 : n ≠ 0) (h : n - 1 < (cfgA T).N), a = keptAt2 T m ρ c ⟨n - 1, h⟩

theorem was2_succ (c : Dev nD) (t : Fin (cfgA T).N) {a : S4096x512.Idx → Elt Ideal .bf16} (h : a = keptAt2 T m ρ c t) :
    Was2 T m ρ c t.succ.val a := fun _ _ => h

theorem was2_same (c : Dev nD) (t : Fin (cfgA T).N) (hn : ¬ isNew (crd T t) T.e) {a : S4096x512.Idx → Elt Ideal .bf16}
    (h : Was2 T m ρ c t.castSucc.val a) : a = keptAt2 T m ρ c t := by
  have ht : t.val ≠ 0 := by
    intro h0
    have e1 : ((crd T t) 1).val = 0 := by rw [crd_val1, h0]
    exact hn ((isNew_iff (crd T t) T.e).2 (Or.inl e1))
  have e2 : a = keptAt2 T m ρ c ⟨t.val - 1, lt_of_le_of_lt (Nat.sub_le _ _) t.isLt⟩ := by
    rw [Fin.val_castSucc] at h
    exact h ht (lt_of_le_of_lt (Nat.sub_le _ _) t.isLt)
  rw [e2]
  exact (same_block2 T m ρ c t ht hn).symm

/-- Before a point: the kept weights are the last point's, and the body holds its halves of the tables. -/
def Phi (c : Dev nD) (t : Fin ((cfgA T).N + 1)) : sProp 𝕄 :=
  iprop((∃ a, ⌜Was T m ρ c t.val a⌝ ∗ (scM0_0.view.loc (c : Thread nD τ) ↦{fullShare} a))
    ∗ (∃ a, ⌜Was2 T m ρ c t.val a⌝ ∗ (scM0_1.view.loc (c : Thread nD τ) ↦{fullShare} a))
    ∗ (tbM0_0.view.loc (c : Thread nD τ) ↦{fullShare.right} T.e) ∗ (tbM0_1.view.loc (c : Thread nD τ) ↦{fullShare.right} T.n))

/-- The proof data of the one pipeline on a core. -/
def dats (_ : Fin 1) (c : Dev nD) : Dat τ (Elt Ideal) Unit ℕ (UR sig nD τ) ℕ (cfgA T) c where
  A w := (s₀ m ρ).mem (((cfgA T).win w).arr.view.loc (c : Thread nD τ))
  after w t := match w with
    | ⟨0, _⟩ => iblk T m ρ c (0 : Fin 4) t
    | ⟨1, _⟩ => iblk T m ρ c (1 : Fin 4) t
    | ⟨2, _⟩ => iblk T m ρ c (2 : Fin 4) t
    | ⟨3, _⟩ => outAt T m ρ c t
  Φ t := Phi T m ρ c t
  q _ := fullShare
  owed _ := 0

theorem after0 (c : Dev nD) (t : Fin (cfgA T).N) : (dats T m ρ 0 c).after (0 : Fin 4) t = iblk T m ρ c (0 : Fin 4) t := rfl
theorem after1 (c : Dev nD) (t : Fin (cfgA T).N) : (dats T m ρ 0 c).after (1 : Fin 4) t = iblk T m ρ c (1 : Fin 4) t := rfl
theorem after2 (c : Dev nD) (t : Fin (cfgA T).N) : (dats T m ρ 0 c).after (2 : Fin 4) t = iblk T m ρ c (2 : Fin 4) t := rfl
theorem after3 (c : Dev nD) (t : Fin (cfgA T).N) : (dats T m ρ 0 c).after (3 : Fin 4) t = outAt T m ρ c t := rfl

/-- Each input's staging buffer holds its block when the body runs. -/
theorem before0 (c : Dev nD) (t : Fin (cfgA T).N) (d) : (dats T m ρ 0 c).before (0 : Fin 4) t d = iblk T m ρ c (0 : Fin 4) t :=
  ((dats T m ρ 0 c).before_in_eq_fetched (0 : Fin 4) rfl (fun _ => rfl) (fun _ _ _ => rfl) (fun t => by rw [after0]; unfold Dat.blockOf iblk; rfl) t d).trans
    (by unfold Dat.fetched Dat.blockOf iblk; rfl)
theorem before1 (c : Dev nD) (t : Fin (cfgA T).N) (d) : (dats T m ρ 0 c).before (1 : Fin 4) t d = iblk T m ρ c (1 : Fin 4) t :=
  ((dats T m ρ 0 c).before_in_eq_fetched (1 : Fin 4) rfl (fun _ => rfl) (fun _ _ _ => rfl) (fun t => by rw [after1]; unfold Dat.blockOf iblk; rfl) t d).trans
    (by unfold Dat.fetched Dat.blockOf iblk; rfl)
theorem before2 (c : Dev nD) (t : Fin (cfgA T).N) (d) : (dats T m ρ 0 c).before (2 : Fin 4) t d = iblk T m ρ c (2 : Fin 4) t :=
  ((dats T m ρ 0 c).before_in_eq_fetched (2 : Fin 4) rfl (fun _ => rfl) (fun _ _ _ => rfl) (fun t => by rw [after2]; unfold Dat.blockOf iblk; rfl) t d).trans
    (by unfold Dat.fetched Dat.blockOf iblk; rfl)

/-- The output is stored at every point. -/
theorem idle_out (i : grid0.Coords) : idle0 (F := Ideal) (pf T) (3 : Fin 4) i = false := by
  have hw : (pf T).atD 1 ![0] = rdN T.n := by
    unfold Pipeline.Prefetch.Contents.atD
    split
    · exact congrArg T.n (by funext a; match a with | ⟨0, _⟩ => rfl)
    · next hn => exact (hn fun a => match a with | ⟨0, _⟩ => Nat.le_refl 1).elim
  show (!(k0_cond2 i ((pf T).atD 1 ![0]) == 1#1) && !(k0_cond3 i ((pf T).atD 1 ![0]) == 1#1)) = false
  rw [hw]
  have h := notUsed_iff i T.n
  by_cases hu : inUse i T.n
  · rw [show (k0_cond2 i (rdN T.n) == 1#1) = true from beq_iff_eq.2 hu]; rfl
  · rw [show (k0_cond3 i (rdN T.n) == 1#1) = true from beq_iff_eq.2 (h.2 hu), Bool.not_true, Bool.and_false]

theorem never_idle (t : Fin (cfgA T).N) : (cfgA T).idle (3 : Fin 4) (crd T t) = false := idle_out T (crd T t)

end Cert.UpIdeal.Moe

end
-- ==== Proof.UpIdealBody.lean ====
/- The body of the first expert product at every grid point: the kept weights are the current blocks rounded and the
   output block is the activated product, zero on an unused tile. -/
module

public import proofs.«01_k».proof.Proof.UpIdealDat
public import Idealize.ShloMosaic.Lib.Pipeline.Quiescent
public import Idealize.ShloMosaic.Lib.Claim
public import Idealize.ShloMosaic.Lib.Pipeline.Kit
public import Idealize.ShloMosaic.Lib.Pipeline.FrameBody
public import Idealize.ShloMosaic.Lib.Exec
public import Idealize.ShloMosaic.Lib.Tactic
public import Idealize.ShloMosaic.PureOps.Ideal
public import Idealize.ShloMosaic.Adequacy
public import Idealize.ShloMosaic.Init

@[expose] public section

set_option maxRecDepth 16384

noncomputable section

namespace Cert.UpIdeal.Moe

open Cert.UpIdeal Cert.UpIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Rounds
open Idealize.ShloMosaic.Pipeline (Dat Cfg Window BodyObligation BodyObligationLoose cellOf)

local notation "𝕄" => MT nD τ sig Unit (Elt Ideal) ℕ (UR sig nD τ) ℕ

variable (T : Tabs)
variable (m : (ℓ : Loc nD τ sig) → Buf (Elt Ideal) ℓ) (ρ : Dev nD → PrngReg)

/-- The body at a point, as the pipeline calls it. -/
abbrev bodyAt (t : Fin (cfgA T).N) : Prog (TpuEff nD τ sig (Elt Ideal) Λ₀ .tc) PUnit :=
  cc0_moe_up (crd T t) (Memref.whole main_arg0) (Memref.isWhole_whole _) (Memref.whole main_arg1) (Memref.isWhole_whole _) (ms0 T t) (hs0 T t) (ms1 T t) (hs1 T t) (ms2 T t) (hs2 T t) (ms3 T t) (hs3 T t) (Memref.whole cc0_scratch0) (Memref.isWhole_whole _) (Memref.whole cc0_scratch1) (Memref.isWhole_whole _)

set_option maxHeartbeats 4000000 in
/-- The body at a point, from its blocks and the invariant to the next. -/
theorem sound_body (c : Dev nD) (t : Fin (cfgA T).N) :
    iprop((dats T m ρ 0 c).Φ t.castSucc ∗ (dats T m ρ 0 c).owesAt () t.castSucc
        ∗ (∃ d, owns (c : Thread nD τ) (ms0 T t) fullShare ((dats T m ρ 0 c).before (0 : Fin 4) t d))
        ∗ (∃ d, owns (c : Thread nD τ) (ms1 T t) fullShare ((dats T m ρ 0 c).before (1 : Fin 4) t d))
        ∗ (∃ d, owns (c : Thread nD τ) (ms2 T t) fullShare ((dats T m ρ 0 c).before (2 : Fin 4) t d))
        ∗ (∃ d, owns (c : Thread nD τ) (ms3 T t) fullShare ((dats T m ρ 0 c).before (3 : Fin 4) t d)))
      ⊢ wp frame (wpE (defs₀ (F := Ideal)) Variants.none c none) Set.univ (bodyAt T t) fun _ =>
          iprop((dats T m ρ 0 c).Φ t.succ ∗ (dats T m ρ 0 c).owesAt () t.succ
            ∗ bigSep Finset.univ fun w : Fin (cfgA T).W =>
                match (cfgA T).idle w ((cfgA T).grid.coords t) with
                | true =>
                  match ((cfgA T).win w).flush t with
                  | false => iprop(∃ d, owns (c : Thread nD τ) (((cfgA T).win w).stage ((cfgA T).slots t w)) fullShare ((dats T m ρ 0 c).before w t d))
                  | true => owns (c : Thread nD τ) (((cfgA T).win w).stage ((cfgA T).slots t w)) fullShare ((dats T m ρ 0 c).after w t)
                | false => owns (c : Thread nD τ) (((cfgA T).win w).stage ((cfgA T).slots t w)) fullShare ((dats T m ρ 0 c).after w t)) := by
  rw [bigSep_W0]
  have i3 := never_idle T t
  rewrite [i3]
  simp only [before0, before1, before2, after0, after1, after2, after3]
  rewrite [show (dats T m ρ 0 c).Φ t.succ = Phi T m ρ c t.succ from rfl, show (dats T m ρ 0 c).Φ t.castSucc = Phi T m ρ c t.castSucc from rfl,
    show (dats T m ρ 0 c).owesAt () t.succ = (dats T m ρ 0 c).owesAt () t.castSucc from rfl]
  unfold Phi
  iintro ⟨⟨⟨%a0, %ha0, HS0⟩, ⟨%a1, %ha1, HS1⟩, HT0, HT1⟩, Ho, ⟨%d0, H0⟩, ⟨%d1, H1⟩, ⟨%d2, H2⟩, ⟨%d3, H3⟩⟩
  by_cases q0 : isNew (crd T t) T.e
  · by_cases q1 : inUse (crd T t) T.n
    · have q2 : ¬ notUsed (crd T t) T.n := fun h => (notUsed_iff _ _).1 h q1
      iapply ((kernelRun0_A c (crd T t) (ms0 T t) (hs0 T t) (ms1 T t) (hs1 T t) (ms2 T t) (hs2 T t) (ms3 T t) (hs3 T t) T.e T.n (iblk T m ρ c (0 : Fin 4) t) (iblk T m ρ c (1 : Fin 4) t) (iblk T m ρ c (2 : Fin 4) t) q0 q1 q2).2.2.2 a0 a1 _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [H3]; · iexists _; iexact H3
      isplitl [HS0]; · iexact HS0
      isplitl [HS1]; · iexact HS1
      iintro ⟨H0, H1, H2, HT0, HT1, ⟨%e3, H3⟩, HS0, HS1⟩
      isplitl [HS0 HS1 HT0 HT1]
      · isplitl [HS0]
        · iexists _; isplitr; swap
          · iexact HS0
          · ipureintro; exact was_succ T m ρ c t (kept_A c (crd T t) (ms0 T t) (hs0 T t) (ms1 T t) (hs1 T t) (ms2 T t) (hs2 T t) (ms3 T t) (hs3 T t) T.e T.n (iblk T m ρ c (0 : Fin 4) t) (iblk T m ρ c (1 : Fin 4) t) (iblk T m ρ c (2 : Fin 4) t) q0 q1 q2)
        isplitl [HS1]
        · iexists _; isplitr; swap
          · iexact HS1
          · ipureintro; exact was2_succ T m ρ c t (kept2_A c (crd T t) (ms0 T t) (hs0 T t) (ms1 T t) (hs1 T t) (ms2 T t) (hs2 T t) (ms3 T t) (hs3 T t) T.e T.n (iblk T m ρ c (0 : Fin 4) t) (iblk T m ρ c (1 : Fin 4) t) (iblk T m ρ c (2 : Fin 4) t) q0 q1 q2)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      unfold owns; iexists _; isplitr; swap
      · iexact H3
      · ipureintro; exact out_A c (crd T t) (ms0 T t) (hs0 T t) (ms1 T t) (hs1 T t) (ms2 T t) (hs2 T t) (ms3 T t) (hs3 T t) T.e T.n (iblk T m ρ c (0 : Fin 4) t) (iblk T m ρ c (1 : Fin 4) t) (iblk T m ρ c (2 : Fin 4) t) q0 q1 q2 _
    · have q2 : notUsed (crd T t) T.n := (notUsed_iff _ _).2 q1
      iapply ((kernelRun0_D c (crd T t) (ms0 T t) (hs0 T t) (ms1 T t) (hs1 T t) (ms2 T t) (hs2 T t) (ms3 T t) (hs3 T t) T.e T.n (iblk T m ρ c (0 : Fin 4) t) (iblk T m ρ c (1 : Fin 4) t) (iblk T m ρ c (2 : Fin 4) t) q0 q1 q2).2.2.2 a0 a1 _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [H3]; · iexists _; iexact H3
      isplitl [HS0]; · iexact HS0
      isplitl [HS1]; · iexact HS1
      iintro ⟨H0, H1, H2, HT0, HT1, ⟨%e3, H3⟩, HS0, HS1⟩
      isplitl [HS0 HS1 HT0 HT1]
      · isplitl [HS0]
        · iexists _; isplitr; swap
          · iexact HS0
          · ipureintro; exact was_succ T m ρ c t (kept_D c (crd T t) (ms0 T t) (hs0 T t) (ms1 T t) (hs1 T t) (ms2 T t) (hs2 T t) (ms3 T t) (hs3 T t) T.e T.n (iblk T m ρ c (0 : Fin 4) t) (iblk T m ρ c (1 : Fin 4) t) (iblk T m ρ c (2 : Fin 4) t) q0 q1 q2)
        isplitl [HS1]
        · iexists _; isplitr; swap
          · iexact HS1
          · ipureintro; exact was2_succ T m ρ c t (kept2_D c (crd T t) (ms0 T t) (hs0 T t) (ms1 T t) (hs1 T t) (ms2 T t) (hs2 T t) (ms3 T t) (hs3 T t) T.e T.n (iblk T m ρ c (0 : Fin 4) t) (iblk T m ρ c (1 : Fin 4) t) (iblk T m ρ c (2 : Fin 4) t) q0 q1 q2)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      unfold owns; iexists _; isplitr; swap
      · iexact H3
      · ipureintro; exact out_D c (crd T t) (ms0 T t) (hs0 T t) (ms1 T t) (hs1 T t) (ms2 T t) (hs2 T t) (ms3 T t) (hs3 T t) T.e T.n (iblk T m ρ c (0 : Fin 4) t) (iblk T m ρ c (1 : Fin 4) t) (iblk T m ρ c (2 : Fin 4) t) q0 q1 q2 _
  · obtain rfl := was_same T m ρ c t q0 ha0
    obtain rfl := was2_same T m ρ c t q0 ha1
    by_cases q1 : inUse (crd T t) T.n
    · have q2 : ¬ notUsed (crd T t) T.n := fun h => (notUsed_iff _ _).1 h q1
      iapply ((kernelRun0_B c (crd T t) (ms0 T t) (hs0 T t) (ms1 T t) (hs1 T t) (ms2 T t) (hs2 T t) (ms3 T t) (hs3 T t) T.e T.n (iblk T m ρ c (0 : Fin 4) t) (iblk T m ρ c (1 : Fin 4) t) (iblk T m ρ c (2 : Fin 4) t) (keptAt T m ρ c t) (keptAt2 T m ρ c t) q0 q1 q2).2.2.2 _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [H3]; · iexists _; iexact H3
      isplitl [HS0]; · iexact HS0
      isplitl [HS1]; · iexact HS1
      iintro ⟨H0, H1, H2, HT0, HT1, ⟨%e3, H3⟩, HS0, HS1⟩
      isplitl [HS0 HS1 HT0 HT1]
      · isplitl [HS0]
        · iexists _; isplitr; swap
          · iexact HS0
          · ipureintro; exact was_succ T m ρ c t (kept_B c (crd T t) (ms0 T t) (hs0 T t) (ms1 T t) (hs1 T t) (ms2 T t) (hs2 T t) (ms3 T t) (hs3 T t) T.e T.n (iblk T m ρ c (0 : Fin 4) t) (iblk T m ρ c (1 : Fin 4) t) (iblk T m ρ c (2 : Fin 4) t) (keptAt T m ρ c t) (keptAt2 T m ρ c t) q0 q1 q2)
        isplitl [HS1]
        · iexists _; isplitr; swap
          · iexact HS1
          · ipureintro; exact was2_succ T m ρ c t (kept2_B c (crd T t) (ms0 T t) (hs0 T t) (ms1 T t) (hs1 T t) (ms2 T t) (hs2 T t) (ms3 T t) (hs3 T t) T.e T.n (iblk T m ρ c (0 : Fin 4) t) (iblk T m ρ c (1 : Fin 4) t) (iblk T m ρ c (2 : Fin 4) t) (keptAt T m ρ c t) (keptAt2 T m ρ c t) q0 q1 q2)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      unfold owns; iexists _; isplitr; swap
      · iexact H3
      · ipureintro; exact out_B c (crd T t) (ms0 T t) (hs0 T t) (ms1 T t) (hs1 T t) (ms2 T t) (hs2 T t) (ms3 T t) (hs3 T t) T.e T.n (iblk T m ρ c (0 : Fin 4) t) (iblk T m ρ c (1 : Fin 4) t) (iblk T m ρ c (2 : Fin 4) t) (keptAt T m ρ c t) (keptAt2 T m ρ c t) q0 q1 q2 _
    · have q2 : notUsed (crd T t) T.n := (notUsed_iff _ _).2 q1
      iapply ((kernelRun0_C c (crd T t) (ms0 T t) (hs0 T t) (ms1 T t) (hs1 T t) (ms2 T t) (hs2 T t) (ms3 T t) (hs3 T t) T.e T.n (iblk T m ρ c (0 : Fin 4) t) (iblk T m ρ c (1 : Fin 4) t) (iblk T m ρ c (2 : Fin 4) t) (keptAt T m ρ c t) (keptAt2 T m ρ c t) q0 q1 q2).2.2.2 _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [H3]; · iexists _; iexact H3
      isplitl [HS0]; · iexact HS0
      isplitl [HS1]; · iexact HS1
      iintro ⟨H0, H1, H2, HT0, HT1, ⟨%e3, H3⟩, HS0, HS1⟩
      isplitl [HS0 HS1 HT0 HT1]
      · isplitl [HS0]
        · iexists _; isplitr; swap
          · iexact HS0
          · ipureintro; exact was_succ T m ρ c t (kept_C c (crd T t) (ms0 T t) (hs0 T t) (ms1 T t) (hs1 T t) (ms2 T t) (hs2 T t) (ms3 T t) (hs3 T t) T.e T.n (iblk T m ρ c (0 : Fin 4) t) (iblk T m ρ c (1 : Fin 4) t) (iblk T m ρ c (2 : Fin 4) t) (keptAt T m ρ c t) (keptAt2 T m ρ c t) q0 q1 q2)
        isplitl [HS1]
        · iexists _; isplitr; swap
          · iexact HS1
          · ipureintro; exact was2_succ T m ρ c t (kept2_C c (crd T t) (ms0 T t) (hs0 T t) (ms1 T t) (hs1 T t) (ms2 T t) (hs2 T t) (ms3 T t) (hs3 T t) T.e T.n (iblk T m ρ c (0 : Fin 4) t) (iblk T m ρ c (1 : Fin 4) t) (iblk T m ρ c (2 : Fin 4) t) (keptAt T m ρ c t) (keptAt2 T m ρ c t) q0 q1 q2)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      unfold owns; iexists _; isplitr; swap
      · iexact H3
      · ipureintro; exact out_C c (crd T t) (ms0 T t) (hs0 T t) (ms1 T t) (hs1 T t) (ms2 T t) (hs2 T t) (ms3 T t) (hs3 T t) T.e T.n (iblk T m ρ c (0 : Fin 4) t) (iblk T m ρ c (1 : Fin 4) t) (iblk T m ρ c (2 : Fin 4) t) (keptAt T m ρ c t) (keptAt2 T m ρ c t) q0 q1 q2 _

theorem body_obligation (c : Dev nD) : BodyObligation (dats T m ρ 0 c) (defs₀ (F := Ideal)) Variants.none () Set.univ := fun t => by
  rw [bigSep_W0]
  exact sound_body T m ρ c t

end Cert.UpIdeal.Moe

end
-- ==== Proof.UpIdealLaunch.lean ====
/- The launch of the first expert product: every run ends, the arguments unchanged, the counters at zero, the result
   array as the pipeline assembles it. -/
module

public import proofs.«01_k».proof.Proof.UpIdealBody
public import Idealize.ShloMosaic.Lib.Pipeline.Quiescent
public import Idealize.ShloMosaic.Lib.Claim
public import Idealize.ShloMosaic.Lib.Pipeline.Kit
public import Idealize.ShloMosaic.Lib.Pipeline.FrameBody
public import Idealize.ShloMosaic.Lib.Exec
public import Idealize.ShloMosaic.Lib.Tactic
public import Idealize.ShloMosaic.PureOps.Ideal
public import Idealize.ShloMosaic.Adequacy
public import Idealize.ShloMosaic.Init

@[expose] public section

set_option maxRecDepth 16384

noncomputable section

namespace Cert.UpIdeal.Moe

open Cert.UpIdeal Cert.UpIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Rounds
open Idealize.ShloMosaic.Pipeline (Dat Cfg Window BodyObligation BodyObligationLoose cellOf)

local notation "𝕄" => MT nD τ sig Unit (Elt Ideal) ℕ (UR sig nD τ) ℕ

variable (T : Tabs)
variable (m : (ℓ : Loc nD τ sig) → Buf (Elt Ideal) ℓ) (ρ : Dev nD → PrngReg)

/-! ## The launch -/

/-- The pipeline's launch element. -/
def u₀ : UR sig nD τ :=
  initOf (Pipeline.cells (pcs T) ((launch0 (F := Ideal)).cellOf_inj fun _ => adm T))
    (Pipeline.launchToks (pcs T) ((launch0 (F := Ideal)).cellOf_inj fun _ => adm T))

theorem share_eq (c : Dev nD) (w : Fin (cfgA T).W) : (dats T m ρ 0 c).share w = fullShare := by unfold Dat.share; split <;> rfl

theorem prefHeld_eq (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

theorem phi0_intro (c : Dev nD) :
    iprop(BI.emp ∗ Pipeline.prefHeld pre0 c (fun _ => fullShare.right) (adm T).1 ∗ Pipeline.scopedRest spec0 c) ⊢ (dats T m ρ 0 c).Φ 0 := by
  rw [prefHeld_eq, scopedRest0_eq, show (dats T m ρ 0 c).Φ 0 = Phi T m ρ c 0 from rfl]
  unfold Phi
  iintro ⟨-, ⟨HT0, HT1⟩, ⟨%a0, HS0⟩, ⟨%a1, HS1⟩⟩
  isplitl [HS0]
  · iexists a0; isplitr; swap
    · iexact HS0
    · ipureintro; exact fun h => absurd rfl h
  isplitl [HS1]
  · iexists a1; isplitr; swap
    · iexact HS1
    · ipureintro; exact fun h => absurd rfl h
  isplitl [HT0]
  · iexact HT0
  iexact HT1

theorem phiN_exit (c : Dev nD) : (dats T m ρ 0 c).Φ (Fin.last (cfgA T).N) ⊢ iprop(BI.emp ∗ Pipeline.scopedRest spec0 c) := by
  rw [scopedRest0_eq, show (dats T m ρ 0 c).Φ (Fin.last (cfgA T).N) = Phi T m ρ c (Fin.last _) from rfl]
  unfold Phi
  iintro ⟨⟨%a0, -, HS0⟩, ⟨%a1, -, HS1⟩, -, -⟩
  isplitr; · iempintro
  isplitl [HS0]
  · iexists a0; iexact HS0
  iexists a1; iexact HS1

/-- The final memory: every array as the pipeline assembles it, every table as it was. -/
def QC : PUnit × MemSt nD τ sig (Elt Ideal) → Prop := fun r =>
  ∀ c : Dev nD, (∀ w : Fin (cfgA T).W, r.2.mem (((cfgA T).win w).arr.view.loc (c : Thread nD τ)) = (dats T m ρ 0 c).arrAt w (cfgA T).N)
    ∧ ∀ j, r.2.mem ((c : Thread nD τ).loc (pre0.ref j)) = (adm T).1 j

/-- The launch memory holds these tables. -/
def Holds : Prop :=
  (∀ c : Dev nD, m ((c : Thread nD τ).loc main_arg0) = T.e) ∧ (∀ c : Dev nD, m ((c : Thread nD τ).loc main_arg1) = T.n)

theorem V_pre (hp : Holds T m) (c : Dev nD) (j : Fin 2) : m ((c : Thread nD τ).loc (pre0.ref j)) = (adm T).1 j := by
  fin_cases j
  · exact hp.1 c
  · exact hp.2 c

set_option backward.isDefEq.respectTransparency.types false in
set_option maxHeartbeats 4000000 in
/-- Every run from a memory holding these tables ends with the arrays as assembled and the counters at zero. -/
theorem run_quiescent (hp : Holds T m) : θ_run (defs (F := Ideal)) (onTc (τ := τ) (main (F := Ideal))) (s₀ m ρ) (fun r => QC T m ρ r ∧ r.2.sem = fun _ => 0) :=
  Pipeline.θ_run_region_noSem_pf_quiescent pcfgs (fun _ => adm T) (dats T m ρ) () ((launch0 (F := Ideal)).cellOf_inj fun _ => adm T) (0 : Fin 1)
    (launch0 (F := Ideal)).win.to₀ (launch0 (F := Ideal)).pre EP defs₀ Variants.none m ρ main
    (hbody := fun c => (body_obligation T m ρ c).loose) (hne := (launch0 (F := Ideal)).block_pos)
    (harr := (launch0 (F := Ideal)).arr_whole) (hstage := (launch0 (F := Ideal)).stage_whole) (howed := fun _ _ => rfl)
    (u₀ := u₀ T) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs T) (dats T m ρ) 0 (launch0 (F := Ideal)).win.arr_inj c (launch0 (F := Ideal)).arr_whole
      (share_eq T m ρ c) _ _ fun _ => rfl)
    (hpf := V_pre T m hp)
    (X := fun _ => iprop(emp)) (Y := fun _ => iprop(emp)) (Z := fun _ => iprop(emp))
    (hX := fun c => by rw [unscopedRestP0_eq]; iintro -; isplitr <;> iempintro)
    (hin := phi0_intro T m ρ)
    (hout := phiN_exit T m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The arguments end unchanged. -/
theorem QC_args (hp : Holds T m) (r : PUnit × MemSt nD τ sig (Elt Ideal)) (h : QC T m ρ r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).2 0).trans (hp.1 c).symm, ((h c).2 1).trans (hp.2 c).symm, ((h c).1 (0 : Fin 4)).trans ((dats T m ρ 0 c).arrAt_in (0 : Fin 4) rfl _), ((h c).1 (1 : Fin 4)).trans ((dats T m ρ 0 c).arrAt_in (1 : Fin 4) rfl _), ((h c).1 (2 : Fin 4)).trans ((dats T m ρ 0 c).arrAt_in (2 : Fin 4) rfl _)⟩

/-- The frame: every run ends, nothing faults, the arguments unchanged, the counters at zero. -/
theorem frame (hp : Holds T m) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => QC_args T m ρ hp r h.1 c, h.2⟩) (run_quiescent T m ρ hp)

end Cert.UpIdeal.Moe

end
-- ==== Proof.UpIdealValue.lean ====
/- The result of the first expert product, entry by entry: on a row tile in use the activation of the row's product
   with the expert's gate weights times its product with the expert's up weights, zero elsewhere. -/
module

public import proofs.«01_k».proof.Proof.UpIdealLaunch
public import Idealize.ShloMosaic.Lib.MatmulPlain
public import Idealize.ShloMosaic.PureOps.Ideal.Laws
public import Idealize.ShloMosaic.Lib.IdealHost
public import Idealize.ShloMosaic.Lib.Pipeline.ValueKit.Basic

@[expose] public section

set_option maxRecDepth 16384

noncomputable section

namespace Cert.UpIdeal.Moe

open Cert.UpIdeal Cert.UpIdeal.Gen
open Idealize.ShloMosaic
open Idealize.ShloMosaic.TcCoe
open Idealize.SL.Sem
open Idealize.ShloMosaic.ValueIdx
open Idealize.ShloMosaic.Pipeline (Dat Cfg Window)

variable (T : Tabs)
variable (m : (ℓ : Loc nD τ sig) → Buf (Elt Ideal) ℓ) (ρ : Dev nD → PrngReg)

/-- The activation of one entry times another: `a / (1 + exp (−a)) * u`. -/
def act (a u : EReal) : EReal :=
  a * Ideal.div (Ideal.ofBits .f32 0x3F800000#32) (Ideal.ofBits .f32 0x3F800000#32 + Ideal.exp (-a)) * u

/-- The product of a block with kept weights, entry by entry. -/
theorem dot_apply (x0 : Vec Ideal S512x4096 .bf16) (w : Vec Ideal S4096x512 .bf16) (r q : Fin 512) :
    matmul (φ₁ := .bf16) (φ₂ := .bf16) dot_S512x4096_S4096x512_S512x512_1_0_0_1_n_n none x0 w (constant (F := Ideal) S512x512 .f32 0x00000000#32) (ix2 r q)
      = (∑ k : Fin 4096, x0 (ix2 r k) * w (ix2 k q) : EReal) := by
  have hd : dot_S512x4096_S4096x512_S512x512_1_0_0_1_n_n = DotDims.plain 512 4096 512 := rfl
  rw [hd]
  refine (Ideal.matmul_plain_apply none x0 w _ r q).trans ?_
  show (Ideal.ofBits .f32 0x00000000#32 : EReal) + _ = _
  rw [Ideal.ofBits_zero_f32, zero_add]

/-- The activated product of a block, entry by entry. -/
theorem pay3_apply (x0 : Vec Ideal S512x4096 .bf16) (w u : Vec Ideal S4096x512 .bf16) (r q : Fin 512) :
    k0_pay3 x0 w u (ix2 r q) = act (∑ k : Fin 4096, x0 (ix2 r k) * w (ix2 k q)) (∑ k : Fin 4096, x0 (ix2 r k) * u (ix2 k q)) := by
  have hw := dot_apply x0 w r q
  have hu := dot_apply x0 u r q
  unfold k0_pay3
  revert hw hu
  generalize matmul (φ₁ := .bf16) (φ₂ := .bf16) dot_S512x4096_S4096x512_S512x512_1_0_0_1_n_n none x0 w (constant (F := Ideal) S512x512 .f32 0x00000000#32) = A
  generalize matmul (φ₁ := .bf16) (φ₂ := .bf16) dot_S512x4096_S4096x512_S512x512_1_0_0_1_n_n none x0 u (constant (F := Ideal) S512x512 .f32 0x00000000#32) = B
  intro hw hu
  rw [← hw, ← hu]
  unfold act
  show (A (ix2 r q) * Ideal.div _ (_ + Ideal.exp (Ideal.ofBits .f32 0x00000000#32 - A (ix2 r q))) * B (ix2 r q) : EReal) = _
  rw [Ideal.ofBits_zero_f32, zero_sub]
  rfl

theorem pay4_apply (r q : Fin 512) : k0_pay4 (F := Ideal) (ix2 r q) = (0 : EReal) := by
  show (Ideal.ofBits .bf16 0x0000#16 : EReal) = _
  exact Ideal.ofBits_zero_bf16

/-- The row tile of a row. -/
abbrev tileOf (r : Fin 25600) : S50.Idx := ix1 (⟨r.val / 512, by omega⟩ : Fin 50)

/-- A row's product with a column of its tile's expert. -/
def prod (x : S25600x4096.Idx → EReal) (w : S2x16x4096x1024.Idx → EReal) (r : Fin 25600) (q : Fin 1024) : EReal :=
  ∑ k : Fin 4096, x (ix2 r k) * w (ix4 (0 : Fin 2) (⟨(T.e (tileOf r)).toNat, T.lt _⟩ : Fin 16) k q)

/-- The result the mathematics states: the activated product with the row's expert, zero on rows of unused tiles. -/
def G (x : S25600x4096.Idx → EReal) (wg wu : S2x16x4096x1024.Idx → EReal) (r : Fin 25600) (q : Fin 1024) : EReal :=
  if ((r.val / 512 : ℕ) : ℤ) < (T.n (ix1 (0 : Fin 1))).toInt then act (prod T x wg r q) (prod T x wu r q) else 0

/-- The rows and columns a point's output block sits at. -/
def rowAt (t : Fin (cfgA T).N) (r : Fin 512) : Fin 25600 :=
  ⟨((crd T t) 1).val * 512 + r.val, by have h : ((crd T t) 1).val < 50 := ((crd T t) 1).isLt; omega⟩
def colAt (t : Fin (cfgA T).N) (q : Fin 512) : Fin 1024 :=
  ⟨((crd T t) 0).val * 512 + q.val, by have h : ((crd T t) 0).val < 2 := ((crd T t) 0).isLt; omega⟩

theorem block0 (i : grid0.Coords) : cc0_transform_0 i = ![(i 1).val, 0] := by
  have h1 : (i 1).val < 50 := (i 1).isLt
  show ![(BitVec.ofNat 32 (i 1).val).toNat, 0] = _
  rw [BitVec.toNat_ofNat, Nat.mod_eq_of_lt (by omega)]

theorem block3 (i : grid0.Coords) : cc0_transform_3 i = ![(i 1).val, (i 0).val] := by
  have h1 : (i 1).val < 50 := (i 1).isLt
  have h0 : (i 0).val < 2 := (i 0).isLt
  show ![(BitVec.ofNat 32 (i 1).val).toNat, (BitVec.ofNat 32 (i 0).val).toNat] = _
  rw [BitVec.toNat_ofNat, BitVec.toNat_ofNat, Nat.mod_eq_of_lt (by omega), Nat.mod_eq_of_lt (by omega)]

theorem iblk0_apply (c : Dev nD) (t : Fin (cfgA T).N) (r : Fin 512) (k : Fin 4096) :
    iblk T m ρ c (0 : Fin 4) t (ix2 r k) = m ((c : Thread nD τ).loc main_arg2) (ix2 (rowAt T t r) k) := by
  show m ((c : Thread nD τ).loc main_arg2) ((((cfgA T).win (0 : Fin 4)).rect t).emb (ix2 r k)) = _
  refine congrArg _ ?_
  funext a
  refine Fin.ext ?_
  rw [Pipeline.Window.rect_emb_val ((cfgA T).win (0 : Fin 4)) t (ix2 r k) a (hk := rfl)]
  have hb : ((cfgA T).win (0 : Fin 4)).index t a = (![((crd T t) 1).val, 0] : Fin 2 → ℕ) a := congrFun (block0 (crd T t)) a
  rw [hb]
  match a with
  | ⟨0, _⟩ => rfl
  | ⟨1, _⟩ => show 0 * 4096 + k.val = k.val; omega

theorem kept_apply (c : Dev nD) (t : Fin (cfgA T).N) (k : Fin 4096) (q : Fin 512) :
    keptAt T m ρ c t (ix2 k q) = m ((c : Thread nD τ).loc main_arg3)
      (ix4 (0 : Fin 2) (⟨(T.e (ix1 ⟨((crd T t) 1).val, ((crd T t) 1).isLt⟩)).toNat, T.lt _⟩ : Fin 16) k (colAt T t q)) := by
  unfold keptAt castW
  exact iblk1_apply T m ρ c t _

theorem kept2_apply (c : Dev nD) (t : Fin (cfgA T).N) (k : Fin 4096) (q : Fin 512) :
    keptAt2 T m ρ c t (ix2 k q) = m ((c : Thread nD τ).loc main_arg4)
      (ix4 (0 : Fin 2) (⟨(T.e (ix1 ⟨((crd T t) 1).val, ((crd T t) 1).isLt⟩)).toNat, T.lt _⟩ : Fin 16) k (colAt T t q)) := by
  unfold keptAt2 castW
  exact iblk2_apply T m ρ c t _

/-- A point's output block, entry by entry. -/
theorem outAt_apply (c : Dev nD) (t : Fin (cfgA T).N) (r : Fin 512) (q : Fin 512) :
    outAt T m ρ c t (ix2 r q) = G T (m ((c : Thread nD τ).loc main_arg2)) (m ((c : Thread nD τ).loc main_arg3))
      (m ((c : Thread nD τ).loc main_arg4)) (rowAt T t r) (colAt T t q) := by
  have hd : (rowAt T t r).val / 512 = ((crd T t) 1).val := by unfold rowAt; dsimp only; omega
  have ht : tileOf (rowAt T t r) = ix1 ⟨((crd T t) 1).val, ((crd T t) 1).isLt⟩ := congrArg ix1 (Fin.ext hd)
  unfold outAt outF G prod
  rw [hd]
  simp only [ht]
  by_cases hu : inUse (crd T t) T.n
  · rw [if_pos hu, if_pos ((inUse_iff (crd T t) T.n).1 hu), pay3_apply]
    refine congr (congrArg act (Finset.sum_congr rfl fun k _ => ?_)) (Finset.sum_congr rfl fun k _ => ?_)
    · rw [iblk0_apply, kept_apply]; rfl
    · rw [iblk0_apply, kept2_apply]; rfl
  · rw [if_neg hu, if_neg (fun h => hu ((inUse_iff (crd T t) T.n).2 h)), pay4_apply]

/-- The result array. -/
def result (c : Dev nD) : Buf (Elt Ideal) ((c : Thread nD τ).loc main_v0) := fun i =>
  G T (m ((c : Thread nD τ).loc main_arg2)) (m ((c : Thread nD τ).loc main_arg3)) (m ((c : Thread nD τ).loc main_arg4)) (i 0) (i 1)

theorem emb3 (t : Fin (cfgA T).N) (y : S512x512.Idx) :
    (((cfgA T).win (3 : Fin 4)).rect t).emb y = ix2 (rowAt T t (y 0)) (colAt T t (y 1)) := by
  funext a
  refine Fin.ext ?_
  rw [Pipeline.Window.rect_emb_val ((cfgA T).win (3 : Fin 4)) t y a (hk := rfl)]
  have hb : ((cfgA T).win (3 : Fin 4)).index t a = (![((crd T t) 1).val, ((crd T t) 0).val] : Fin 2 → ℕ) a := congrFun (block3 (crd T t)) a
  rw [hb]
  match a with
  | ⟨0, _⟩ => rfl
  | ⟨1, _⟩ => rfl

theorem flushed_eq (c : Dev nD) (t : Fin (cfgA T).N) :
    (dats T m ρ 0 c).flushed (3 : Fin 4) t = (((cfgA T).win (3 : Fin 4)).blk t).view.read (Elt Ideal) (result T m c) := by
  funext y
  show outAt T m ρ c t y = result T m c ((((cfgA T).win (3 : Fin 4)).rect t).emb y)
  rw [emb3]
  conv_lhs => rw [eq_ix2 y]
  exact outAt_apply T m ρ c t (y 0) (y 1)

theorem points : (cfgA T).N = 100 := rfl

theorem index3 (t : Fin (cfgA T).N) : ((cfgA T).win (3 : Fin 4)).index t = ![((crd T t) 1).val, ((crd T t) 0).val] := block3 (crd T t)

/-- Every point writes its own block back. -/
theorem flush3 (t : Fin (cfgA T).N) : ((cfgA T).win (3 : Fin 4)).flush t = true := by
  have hn := points T
  have ht := t.isLt
  rw [Pipeline.Window.flush, Bool.and_eq_true]
  refine ⟨rfl, ?_⟩
  rw [Bool.or_eq_true, decide_eq_true_eq, decide_eq_true_eq]
  by_cases hl : t.val + 1 = (cfgA T).N
  · exact Or.inl hl
  · have hlt : t.val + 1 < (cfgA T).N := Nat.lt_of_le_of_ne ht hl
    refine Or.inr ⟨hlt, fun h => ?_⟩
    rw [index3, index3] at h
    have h1 := congrFun h (0 : Fin 2)
    have h1 : ((crd T ⟨t.val + 1, hlt⟩) 1).val = ((crd T t) 1).val := h1
    rw [crd_val1, crd_val1] at h1
    dsimp only at h1
    omega

/-- The point whose block holds an entry of the result. -/
def pointOf (i : S25600x1024.Idx) : Fin (cfgA T).N :=
  ⟨(i 1).val / 512 * 50 + (i 0).val / 512, by
    rw [points]; have h0 : (i 0).val < 25600 := (i 0).isLt; have h1 : (i 1).val < 1024 := (i 1).isLt; omega⟩

theorem covered (i : S25600x1024.Idx) : i ∈ (((cfgA T).win (3 : Fin 4)).blk (pointOf T i)).view.set := by
  have h0 : (i 0).val < 25600 := (i 0).isLt
  have h1 : (i 1).val < 1024 := (i 1).isLt
  have e0 : ((crd T (pointOf T i)) 0).val = (i 1).val / 512 := by
    rw [crd_val0]; unfold pointOf; dsimp only; omega
  have e1 : ((crd T (pointOf T i)) 1).val = (i 0).val / 512 := by
    rw [crd_val1]; unfold pointOf; dsimp only; omega
  have hy : (((cfgA T).win (3 : Fin 4)).rect (pointOf T i)).emb
      (ix2 (⟨(i 0).val % 512, by omega⟩ : Fin 512) (⟨(i 1).val % 512, by omega⟩ : Fin 512)) = i := by
    rw [emb3]
    funext a
    refine Fin.ext ?_
    match a with
    | ⟨0, _⟩ => show ((crd T (pointOf T i)) 1).val * 512 + (i 0).val % 512 = (i 0).val; omega
    | ⟨1, _⟩ => show ((crd T (pointOf T i)) 0).val * 512 + (i 1).val % 512 = (i 1).val; omega
  exact Finset.mem_map.2 ⟨_, Finset.mem_univ _, hy⟩

/-- The pipeline leaves the result array at the stated values. -/
theorem final (c : Dev nD) : (dats T m ρ 0 c).arrAt (3 : Fin 4) (cfgA T).N = result T m c :=
  (dats T m ρ 0 c).arrAt_eq_of_cover (3 : Fin 4) (result T m c) (fun t _ => flushed_eq T m ρ c t)
    fun i => ⟨pointOf T i, flush3 T (pointOf T i), covered T i⟩

/-- Every run from a memory holding the tables ends with the result array at the stated values, the arguments unchanged. -/
theorem value (hp : Holds T m) :
    θ_run (defs (F := Ideal)) (onTc (τ := τ) (main (F := Ideal))) ⟨m, fun _ => 0, ρ⟩ (fun r => ∀ c : Dev nD,
      r.2.mem ((c.tc : Thread nD τ).loc main_v0) = result T m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨((h.1 c).1 (3 : Fin 4)).trans (final T m ρ c), QC_args T m ρ hp r h.1 c⟩) (run_quiescent T m ρ hp)

end Cert.UpIdeal.Moe

end
-- ==== Proof.UpRef.lean ====
/- The reference of the first expert product, entry by entry: the sum over the experts keeps the one a row belongs to. -/
module

public import proofs.«01_k».proof.Proof.Gen.UpRefIdeal.Run
public import proofs.«01_k».proof.Proof.Gen.UpRefIdeal.Read
public import proofs.«01_k».proof.Proof.UpIdealValue
public import Idealize.ShloMosaic.Lib.IdealHost

@[expose] public section

set_option maxRecDepth 16384

noncomputable section

namespace Cert.UpRefIdeal.Moe

open Cert.UpRefIdeal Cert.UpRefIdeal.Gen Cert.UpRefIdeal.Read
open Idealize.ShloMosaic
open Idealize.ShloMosaic.TcCoe
open Idealize.SL.Sem
open Idealize.ShloMosaic.ValueIdx
open Cert.UpIdeal.Moe (Tabs G act tileOf)

/-- A comparison for equality with a small number. -/
theorem eq_bit (a : BitVec 32) (e : Fin 16) : IntOp.cmpi .eq a (BitVec.ofNat 32 e.val) = 1#1 ↔ a.toNat = e.val := by
  have he := e.isLt
  unfold IntOp.cmpi
  dsimp only
  have h : (a == BitVec.ofNat 32 e.val) = decide (a.toNat = e.val) := by
    rw [Bool.eq_iff_iff, beq_iff_eq, decide_eq_true_eq, ← BitVec.toNat_inj, BitVec.toNat_ofNat, Nat.mod_eq_of_lt (by omega)]
  rw [h]
  by_cases q : a.toNat = e.val <;> simp [q]

/-- A signed comparison of a small number. -/
theorem lt_bit (t : ℕ) (ht : t < 50) (n : BitVec 32) : IntOp.cmpi .slt (BitVec.ofNat 32 t) n = 1#1 ↔ (t : ℤ) < n.toInt := by
  unfold IntOp.cmpi
  dsimp only
  have hv : (BitVec.ofNat 32 t).toInt = (t : ℤ) := by
    rw [BitVec.toInt_eq_toNat_cond, BitVec.toNat_ofNat]; split <;> omega
  rw [← hv, ← BitVec.slt_iff_toInt_lt]
  cases BitVec.slt (BitVec.ofNat 32 t) n <;> decide

theorem and_bit (a b : BitVec 1) : IntOp.andi a b = 1#1 ↔ a = 1#1 ∧ b = 1#1 := by
  revert a b; decide

/-- The count read as a scalar. -/
theorem count_apply (x1 : S1.Idx → BitVec 32) (j : S_.Idx) : shapeCast S_ x1 shapeCasts_S1_S_ j = x1 (ix1 (0 : Fin 1)) := by
  refine shapeCast_apply x1 shapeCasts_S1_S_ j (ix1 (0 : Fin 1)) ?_
  have h1 := (S1.rowMajor (ix1 (0 : Fin 1))).isLt
  have h2 := (S_.rowMajor j).isLt
  have n1 : S1.numel = 1 := by decide
  have n2 : S_.numel = 1 := by decide
  omega

/-- Whether a row belongs to an expert: its tile is in use and has that expert. -/
theorem mine (x0 : S50.Idx → BitVec 32) (x1 : S1.Idx → BitVec 32) (r : Fin 25600) (e : Fin 16) :
    val_main_v27 (F := Ideal) x0 x1 (ix2 r e) = 1#1
      ↔ (x0 (tileOf r)).toNat = e.val ∧ ((r.val / 512 : ℕ) : ℤ) < (x1 (ix1 (0 : Fin 1))).toInt := by
  have hr := r.isLt
  rw [val_main_v27_apply, and_bit]
  have h1 : val_main_v21 (F := Ideal) x0 (ix2 r e) = IntOp.cmpi .eq (x0 (tileOf r)) (BitVec.ofNat 32 e.val) := by
    rw [val_main_v21_apply, val_main_v19_apply, val_main_v16_apply, val_main_v11_apply, val_main_v10_apply, val_main_v9_apply, val_main_v20_apply, val_main_v18_apply, val_main_v17_apply]
    refine congr (congrArg (IntOp.cmpi .eq) (congrArg x0 ?_)) rfl
    funext a
    match a with
    | ⟨0, _⟩ => rfl
  have h2 : val_main_v26 (F := Ideal) x1 (ix2 r e) = IntOp.cmpi .slt (BitVec.ofNat 32 (r.val / 512)) (x1 (ix1 (0 : Fin 1))) := by
    rw [val_main_v26_apply, val_main_v25_apply, val_main_v24_apply, val_main_v15_apply, val_main_v14_apply, val_main_v13_apply, val_main_v12_apply, val_main_v23_apply]
    unfold val_main_v22
    rw [count_apply]
  rw [h1, h2, eq_bit, lt_bit _ (by omega)]

/-- The product of a row with an expert's column. -/
theorem prod_apply (x2 : S25600x4096.Idx → EReal) (x3 : S2x16x4096x1024.Idx → EReal) (r : Fin 25600) (e : Fin 16) (q : Fin 1024) (j : S25600x16x1024.Idx)
    (h0 : (j 0).val = r.val) (h1 : (j 1).val = e.val) (h2 : (j 2).val = q.val) :
    val_main_v3 (F := Ideal) x2 x3 j = (∑ k : Fin 4096, x2 (ix2 r k) * x3 (ix4 (0 : Fin 2) e k q) : EReal) := by
  rw [val_main_v3_apply]
  refine Finset.sum_congr rfl fun k _ => ?_
  rw [val_main_v0_apply, val_main_v2_apply, val_main_v1_apply]
  refine congrArg₂ (fun a b : EReal => a * b) ?_ ?_
  · show x2 _ = x2 _
    refine congrArg x2 ?_
    funext a
    refine Fin.ext ?_
    match a with
    | ⟨0, _⟩ => exact h0
    | ⟨1, _⟩ => rfl
  · refine congrArg x3 ?_
    have he := e.isLt
    have hk := k.isLt
    have hq := q.isLt
    funext a
    refine Fin.ext ?_
    match a with
    | ⟨0, _⟩ => rfl
    | ⟨1, _⟩ => show (((j 1).val * 4096 + k.val) * 1024 + (j 2).val) / 4194304 % 16 = e.val; omega
    | ⟨2, _⟩ => show (((j 1).val * 4096 + k.val) * 1024 + (j 2).val) / 1024 % 4096 = k.val; omega
    | ⟨3, _⟩ => show (((j 1).val * 4096 + k.val) * 1024 + (j 2).val) % 1024 = q.val; omega

/-- The product of a row with a column of an expert's second weights. -/
theorem prod2_apply (x2 : S25600x4096.Idx → EReal) (x4 : S2x16x4096x1024.Idx → EReal) (r : Fin 25600) (e : Fin 16) (q : Fin 1024) (j : S25600x16x1024.Idx)
    (h0 : (j 0).val = r.val) (h1 : (j 1).val = e.val) (h2 : (j 2).val = q.val) :
    val_main_v7 (F := Ideal) x2 x4 j = (∑ k : Fin 4096, x2 (ix2 r k) * x4 (ix4 (0 : Fin 2) e k q) : EReal) := by
  rw [val_main_v7_apply]
  refine Finset.sum_congr rfl fun k _ => ?_
  rw [val_main_v0_apply, val_main_v6_apply, val_main_v5_apply]
  refine congrArg₂ (fun a b : EReal => a * b) ?_ ?_
  · show x2 _ = x2 _
    refine congrArg x2 ?_
    funext a
    refine Fin.ext ?_
    match a with
    | ⟨0, _⟩ => exact h0
    | ⟨1, _⟩ => rfl
  · refine congrArg x4 ?_
    have he := e.isLt
    have hk := k.isLt
    have hq := q.isLt
    funext a
    refine Fin.ext ?_
    match a with
    | ⟨0, _⟩ => rfl
    | ⟨1, _⟩ => show (((j 1).val * 4096 + k.val) * 1024 + (j 2).val) / 4194304 % 16 = e.val; omega
    | ⟨2, _⟩ => show (((j 1).val * 4096 + k.val) * 1024 + (j 2).val) / 1024 % 4096 = k.val; omega
    | ⟨3, _⟩ => show (((j 1).val * 4096 + k.val) * 1024 + (j 2).val) % 1024 = q.val; omega

/-- The activated product of a row and an expert. -/
theorem act_apply (x2 : S25600x4096.Idx → EReal) (x3 x4 : S2x16x4096x1024.Idx → EReal) (r : Fin 25600) (e : Fin 16) (q : Fin 1024) (j : S25600x16x1024.Idx)
    (h0 : (j 0).val = r.val) (h1 : (j 1).val = e.val) (h2 : (j 2).val = q.val) :
    val_main_v8 (F := Ideal) x2 x3 x4 j = act (∑ k : Fin 4096, x2 (ix2 r k) * x3 (ix4 (0 : Fin 2) e k q)) (∑ k : Fin 4096, x2 (ix2 r k) * x4 (ix4 (0 : Fin 2) e k q)) := by
  rw [val_main_v8_apply, val_main_v4_apply, val_main_call0_v5_apply, val_main_call0_v4_apply, val_main_call0_v3_apply, val_main_call0_v2_apply,
    val_main_call0_v1_apply, val_main_call0_v0_apply, val_main_call0_cst_apply, val_main_call0_cst_0_apply,
    prod_apply x2 x3 r e q j h0 h1 h2, prod2_apply x2 x4 r e q j h0 h1 h2]
  rfl

/-- What a row and an expert add to the result. -/
theorem term_apply (x0 : S50.Idx → BitVec 32) (x1 : S1.Idx → BitVec 32) (x2 : S25600x4096.Idx → EReal) (x3 x4 : S2x16x4096x1024.Idx → EReal)
    (r : Fin 25600) (e : Fin 16) (q : Fin 1024) (j : S25600x16x1024.Idx) (h0 : (j 0).val = r.val) (h1 : (j 1).val = e.val) (h2 : (j 2).val = q.val) :
    val_main_v29 (F := Ideal) x0 x1 x2 x3 x4 j
      = (if (x0 (tileOf r)).toNat = e.val ∧ ((r.val / 512 : ℕ) : ℤ) < (x1 (ix1 (0 : Fin 1))).toInt then
          act (∑ k : Fin 4096, x2 (ix2 r k) * x3 (ix4 (0 : Fin 2) e k q)) (∑ k : Fin 4096, x2 (ix2 r k) * x4 (ix4 (0 : Fin 2) e k q)) else 0 : EReal) := by
  rw [val_main_v29_apply, val_main_call1_v1_apply, val_main_v28_apply, val_main_call1_v2_apply, val_main_call1_v0_apply, val_main_cst_apply,
    act_apply x2 x3 x4 r e q j h0 h1 h2]
  have hj : idx_main_v28 (idx_main_call1_v1 j) = ix2 r e := by
    funext a
    refine Fin.ext ?_
    match a with
    | ⟨0, _⟩ => exact h0
    | ⟨1, _⟩ => exact h1
  rw [hj]
  have hm := mine x0 x1 r e
  unfold Scalar.select
  by_cases p : val_main_v27 (F := Ideal) x0 x1 (ix2 r e) = 1#1
  · exact (if_pos p).trans (if_pos (hm.1 p)).symm
  · refine (if_neg p).trans ?_
    rw [if_neg fun h => p (hm.2 h)]
    exact Ideal.ofBits_zero_f32

/-- The reference's result at any tables is what the kernel's is shown to be. -/
theorem result (T : Tabs) (x2 : S25600x4096.Idx → EReal) (x3 x4 : S2x16x4096x1024.Idx → EReal) (r : Fin 25600) (q : Fin 1024) :
    val_main_v31 (F := Ideal) T.e T.n x2 x3 x4 (ix2 r q) = G T x2 x3 x4 r q := by
  rw [val_main_v31_apply]
  show val_main_v30 (F := Ideal) T.e T.n x2 x3 x4 (ix2 r q) = _
  rw [val_main_v30_apply]
  have hz : (val_main_cst_0 (F := Ideal) (Shape.Idx.first h_S_) : EReal) = 0 := Ideal.ofBits_zero_f32
  rw [hz, zero_add]
  rw [Finset.sum_congr rfl fun e _ => term_apply T.e T.n x2 x3 x4 r e q (idx_main_v30 (ix2 r q) e) rfl rfl rfl]
  unfold G Cert.UpIdeal.Moe.prod
  by_cases hu : ((r.val / 512 : ℕ) : ℤ) < (T.n (ix1 (0 : Fin 1))).toInt
  · rw [if_pos hu, Finset.sum_eq_single (⟨(T.e (tileOf r)).toNat, T.lt _⟩ : Fin 16)]
    · rw [if_pos ⟨rfl, hu⟩]
    · intro e _ hne
      rw [if_neg fun h => hne (Fin.ext h.1.symm)]
    · exact fun h => absurd (Finset.mem_univ _) h
  · rw [if_neg hu]
    refine Finset.sum_eq_zero fun e _ => ?_
    rw [if_neg fun h => hu h.2]

/-- Every run of the reference ends with the result at the stated values, the arguments unchanged. -/
theorem value (T : Tabs) (m : (ℓ : Loc nD τ sig) → Buf (Elt Ideal) ℓ) (ρ : Dev nD → PrngReg)
    (h0 : ∀ c : Dev nD, m ((c.tc : Thread nD τ).loc main_arg0) = T.e) (h1 : ∀ c : Dev nD, m ((c.tc : Thread nD τ).loc main_arg1) = T.n) :
    θ_run (defs (F := Ideal)) (onTc (τ := τ) (main (F := Ideal))) ⟨m, fun _ => 0, ρ⟩ (fun r => ∀ c : Dev nD,
      (r.2.mem ((c.tc : Thread nD τ).loc main_v31) : S25600x1024.Idx → EReal)
        = (fun i => G T (m ((c.tc : Thread nD τ).loc main_arg2)) (m ((c.tc : Thread nD τ).loc main_arg3)) (m ((c.tc : Thread nD τ).loc main_arg4)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨by
    refine (h c).1.trans ?_
    refine (val_main_v31_eq (F := Ideal) _ _ _ _ _).trans ?_
    rw [h0 c, h1 c]
    funext i
    conv_lhs => rw [eq_ix2 i]
    exact result T _ _ _ (i 0) (i 1), (h c).2⟩) (Cert.UpRefIdeal.Value.run (F := Ideal) m ρ)

/-- The frame of the reference: it ends, the arguments unchanged, the counters at zero. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => (h c).2, sem_eq_zero_of_no_sems (by decide) r.2⟩) (Cert.UpRefIdeal.Value.run (F := Ideal) m ρ)

end Cert.UpRefIdeal.Moe

end
-- ==== Proof.DownIdealRuns.lean ====
/- What the body of the second expert product leaves at a grid point, on each of its four ways through the two
   tests (the weight block is new there or the one before; the row tile is in use or not), for any tables: the
   kept weights are the current block rounded, the output block is the product or zero. -/
module

public import proofs.«01_k».proof.Proof.Gen.DownIdeal.Flash.Runs
public import proofs.«01_k».proof.Proof.Gen.DownIdeal.Launch
public import Idealize.ShloMosaic.Lib.Writes
public import Idealize.ShloMosaic.Lib.Ring
public import Idealize.ShloMosaic.Lib.ValueIdx
public import Idealize.ShloMosaic.Lib.Pipeline.Value

@[expose] public section

set_option maxRecDepth 16384

noncomputable section

namespace Cert.DownIdeal.Moe

open Cert.DownIdeal Cert.DownIdeal.Gen
open Idealize.ShloMosaic
open Idealize.ShloMosaic.TcCoe Idealize.ShloMosaic.Tactic
open Idealize.SL Idealize.SL.RA Idealize.SL.BI
open Idealize.SL.Sem
open Idealize.ShloMosaic.ValueIdx

/-- The weight block as the kernel keeps it: a plane of it, rounded to half precision. -/
def castW (x1 : S1x1x1024x1024.Idx → Elt Ideal .f32) : S1024x1024.Idx → Elt Ideal .bf16 :=
  fun y => FloatOps.truncf (F := Ideal) .bf16 bitsLt_bf16_f32 (x1 (ix4 (0 : Fin 1) (0 : Fin 1) (y 0) (y 1)))

/-- One strip of the kept weights, entry by entry. -/
theorem strip_apply (v : Vec Ideal S1x1x256x1024 .f32) (y : S256x1024.Idx) :
    k0_pay1 v y = FloatOps.truncf (F := Ideal) .bf16 bitsLt_bf16_f32 (v (ix4 (0 : Fin 1) (0 : Fin 1) (y 0) (y 1))) := by
  unfold k0_pay1
  rw [shapeCast_self]
  show FloatOps.truncf (F := Ideal) .bf16 _ (shapeCast S256x1024 v _ y) = _
  rw [shapeCast_apply v _ y (ix4 (0 : Fin 1) (0 : Fin 1) (y 0) (y 1))]
  rw [Shape.rowMajor_val_two, Shape.rowMajor_val_four]
  simp [ix4]

/-- A strip read off the weight block at row `o` is rows `o …` of the kept weights. -/
theorem strip_piece (a5 : Memref sig .tc .vmem S1x1x1024x1024 .f32) (x1 : S1x1x1024x1024.Idx → Elt Ideal .f32)
    (o : ℕ) (h4 : ∀ a, (![0, 0, o, 0] : Fin 4 → ℕ) a + S1x1x256x1024.size a ≤ S1x1x1024x1024.size a)
    (h2 : ∀ a, (![o, 0] : Fin 2 → ℕ) a + S256x1024.size a ≤ S1024x1024.size a) (x : S256x1024.Idx) :
    k0_pay1 (View.readAt (Elt Ideal) a5.view (Rect.unit (s := S1x1x1024x1024) ![0, 0, o, 0] S1x1x256x1024.size h4).toLoadRect (a5.view.rep x1)) x
      = castW x1 ((Rect.unit (s := S1024x1024) ![o, 0] S256x1024.size h2).emb x) := by
  rw [strip_apply, View.readAt_rep]
  unfold castW
  refine congrArg (fun z => FloatOps.truncf (F := Ideal) .bf16 bitsLt_bf16_f32 (x1 z)) ?_
  funext a
  refine Fin.ext ?_
  match a with
  | ⟨0, _⟩ => rfl
  | ⟨1, _⟩ => rfl
  | ⟨2, _⟩ => rfl
  | ⟨3, _⟩ => rfl

theorem strips (a5 : Memref sig .tc .vmem S1x1x1024x1024 .f32) (x1 : S1x1x1024x1024.Idx → Elt Ideal .f32) :
    ∀ p ∈ kernelRun0_A.sl.HS0_4 a5 x1, ∀ x : p.1.shape.Idx, p.2 x = castW x1 (p.1.emb x) := by
  intro p hp x
  unfold kernelRun0_A.sl.HS0_4 at hp
  simp only [List.mem_cons, List.not_mem_nil, or_false] at hp
  rcases hp with rfl | rfl | rfl | rfl <;> exact strip_piece a5 x1 _ _ (by decide) x

set_option maxHeartbeats 4000000 in
theorem strips_cover (a5 : Memref sig .tc .vmem S1x1x1024x1024 .f32) (x1 : S1x1x1024x1024.Idx → Elt Ideal .f32) (y : S1024x1024.Idx) :
    ∃ p ∈ kernelRun0_A.sl.HS0_4 a5 x1, y ∈ p.1.set :=
  View.cover_of_tiledL (kernelRun0_A.sl.HS0_4 a5 x1) S256x1024.size (by sl_kernel_rfl) y

/-- The kept weights after all strips are stored, over anything. -/
theorem kept (a5 : Memref sig .tc .vmem S1x1x1024x1024 .f32) (x1 : S1x1x1024x1024.Idx → Elt Ideal .f32)
    (f : BufTy.Contents (Elt Ideal) (View.whole cc0_scratch0).ty) :
    (View.whole cc0_scratch0).writes (Elt Ideal) f (kernelRun0_A.sl.HS0_4 a5 x1) = castW x1 := by
  have h := funext fun y => View.read_writes_apply_of_pieces (View.whole cc0_scratch0) f (castW x1) _ (strips a5 x1) y (strips_cover a5 x1 y)
  rwa [View.read_whole] at h

/-- The output block: the gated product where the tile is in use, zero elsewhere. -/
def outF (act : Prop) [Decidable act] (x0 : S512x1024.Idx → Elt Ideal .bf16) (w : S1024x1024.Idx → Elt Ideal .bf16)
    (x2 : S512x1.Idx → Elt Ideal .f32) : S512x1024.Idx → Elt Ideal .f32 :=
  if act then k0_pay2 x2 x0 w else k0_pay3 (F := Ideal)

/-- A block read or stored whole keeps its indices. -/
theorem whole_idx {n0 n1 : ℕ} (h : ∀ a, (![0, 0] : Fin 2 → ℕ) a + (⟨2, ![n0, n1]⟩ : Shape).size a ≤ (⟨2, ![n0, n1]⟩ : Shape).size a)
    (y : (⟨2, ![n0, n1]⟩ : Shape).Idx) : (Rect.unit (s := ⟨2, ![n0, n1]⟩) ![0, 0] (⟨2, ![n0, n1]⟩ : Shape).size h).toLoadRect.idx y = y := by
  funext a
  refine Fin.ext ?_
  match a with
  | ⟨0, _⟩ => show 0 + 1 * (y 0).val = (y 0).val; omega
  | ⟨1, _⟩ => show 0 + 1 * (y 1).val = (y 1).val; omega

/-- One store of the whole block leaves the value stored. -/
theorem read_one {sp : Space} (v : View sig .tc sp S512x1024 .f32) (f : BufTy.Contents (Elt Ideal) v.ty)
    (h : ∀ a, (![0, 0] : Fin 2 → ℕ) a + S512x1024.size a ≤ S512x1024.size a) (X : S512x1024.Idx → Elt Ideal .f32) :
    View.read (Elt Ideal) v (v.writes (Elt Ideal) f [⟨Rect.unit (s := S512x1024) ![0, 0] S512x1024.size h, X⟩]) = X := by
  funext y
  refine View.read_writes_apply_of_pieces v f X _ ?_ y ?_
  · intro p hp x
    obtain rfl := List.mem_singleton.1 hp
    exact congrArg X (whole_idx h x).symm
  · refine ⟨_, List.mem_singleton.2 rfl, ?_⟩
    have := (Rect.unit (s := S512x1024) ![0, 0] S512x1024.size h).toLoadRect.idx_mem y
    rwa [whole_idx h y] at this

theorem readAt_rep_whole {n0 n1 : ℕ} {e : EltTy} (a : Memref sig .tc .vmem ⟨2, ![n0, n1]⟩ e)
    (h : ∀ a, (![0, 0] : Fin 2 → ℕ) a + (⟨2, ![n0, n1]⟩ : Shape).size a ≤ (⟨2, ![n0, n1]⟩ : Shape).size a)
    (x : (⟨2, ![n0, n1]⟩ : Shape).Idx → Elt Ideal e) :
    View.readAt (Elt Ideal) a.view (Rect.unit (s := ⟨2, ![n0, n1]⟩) ![0, 0] (⟨2, ![n0, n1]⟩ : Shape).size h).toLoadRect (a.view.rep x) = x := by
  rw [View.readAt_rep]
  exact funext fun y => congrArg x (whole_idx h y)

/-- The kept weights read back whole. -/
theorem readAt_kept (h : ∀ a, (![0, 0] : Fin 2 → ℕ) a + S1024x1024.size a ≤ S1024x1024.size a)
    (f : BufTy.Contents (Elt Ideal) (View.whole cc0_scratch0).ty) :
    View.readAt (Elt Ideal) scM0_0.view (Rect.unit (s := S1024x1024) ![0, 0] S1024x1024.size h).toLoadRect f = f :=
  funext fun y => congrArg f (whole_idx h y)

/-- The kept weights read back in the point that stored them. -/
theorem readCov_kept (a5 : Memref sig .tc .vmem S1x1x1024x1024 .f32) (x1 : S1x1x1024x1024.Idx → Elt Ideal .f32)
    (h : ∀ a, (![0, 0] : Fin 2 → ℕ) a + S1024x1024.size a ≤ S1024x1024.size a) :
    scM0_0.view.readCov (kernelRun0_A.sl.HS0_4 a5 x1) (Rect.unit (s := S1024x1024) ![0, 0] S1024x1024.size h).toLoadRect = castW x1 := by
  unfold View.readCov
  have e := kept a5 x1 (View.whole cc0_scratch0).junk
  have r := readAt_kept h (castW x1)
  rw [← e] at r
  exact r.trans e

/-! ## The two tests -/

/-- The word of the table the tests read at a point, and the one before it. -/
abbrev rd1 (i : grid0.Coords) (T0 : S50.Idx → BitVec 32) : BitVec 32 :=
  View.readAt (Elt Ideal) (tbM0_0).view (Rect.unit (s := S50) (k0_off1 i) S1.size (k0_off1_inb i)).toLoadRect T0 (Shape.Idx.first (numel1_S1.symm ▸ Nat.one_pos))
abbrev rd2 (i : grid0.Coords) (T0 : S50.Idx → BitVec 32) : BitVec 32 :=
  View.readAt (Elt Ideal) (tbM0_0).view (Rect.unit (s := S50) (k0_off2 i) S1.size (k0_off2_inb i)).toLoadRect T0 (Shape.Idx.first (numel1_S1.symm ▸ Nat.one_pos))
abbrev rdN (T1 : S1.Idx → BitVec 32) : BitVec 32 :=
  View.readAt (Elt Ideal) (tbM0_1).view (Rect.unit (s := S1) ![0] S1.size inb_S1_S1_0).toLoadRect T1 (Shape.Idx.first (numel1_S1.symm ▸ Nat.one_pos))
/-- The weight block is new at this point, as the body tests it. -/
abbrev isNew (i : grid0.Coords) (T0 : S50.Idx → BitVec 32) : Prop :=
  Scalar.cmpi .ne (Scalar.extui (Scalar.ori (Scalar.cmpi .eq (BitVec.ofNat 32 (i 1).val) 0#32) (Scalar.cmpi .ne (rd1 i T0) (rd2 i T0)))) 0#32 = 1#1
/-- The row tile is in use, as the body tests it. -/
abbrev inUse (i : grid0.Coords) (T1 : S1.Idx → BitVec 32) : Prop := k0_cond2 i (rdN T1) = 1#1
abbrev notUsed (i : grid0.Coords) (T1 : S1.Idx → BitVec 32) : Prop := k0_cond3 i (rdN T1) = 1#1

theorem ne_zero_of_bit (b : BitVec 1) : (Scalar.cmpi .ne (Scalar.extui b : BitVec 32) 0#32 = 1#1) ↔ b = 1#1 := by
  revert b; decide

theorem bit_or (a b : BitVec 1) : Scalar.ori a b = 1#1 ↔ a = 1#1 ∨ b = 1#1 := by
  revert a b; decide

theorem notUsed_iff (i : grid0.Coords) (T1 : S1.Idx → BitVec 32) : notUsed i T1 ↔ ¬ inUse i T1 := by
  unfold notUsed inUse k0_cond2 k0_cond3
  dsimp only
  rw [ne_zero_of_bit, ne_zero_of_bit]
  unfold Scalar.cmpi IntOp.cmpi
  generalize BitVec.ofNat 32 (i 1).val = a
  generalize rdN T1 = b
  dsimp only
  have h : b.sle a = !a.slt b := by
    rw [BitVec.sle, BitVec.slt, ← decide_not, decide_eq_decide, not_lt]
  rw [h]
  cases a.slt b <;> decide

theorem inUse_iff (i : grid0.Coords) (T1 : S1.Idx → BitVec 32) :
    inUse i T1 ↔ ((i 1).val : ℤ) < (T1 (ix1 (0 : Fin 1))).toInt := by
  unfold inUse k0_cond2
  dsimp only
  rw [ne_zero_of_bit]
  unfold Scalar.cmpi IntOp.cmpi
  have hr : rdN T1 = T1 (ix1 (0 : Fin 1)) := congrArg T1 (by funext a; match a with | ⟨0, _⟩ => rfl)
  have hi : (i 1).val < 50 := (i 1).isLt
  have hv : (BitVec.ofNat 32 (i 1).val).toInt = ((i 1).val : ℤ) := by
    rw [BitVec.toInt_eq_toNat_cond, BitVec.toNat_ofNat]; split <;> omega
  rw [hr]
  dsimp only
  rw [← hv, ← BitVec.slt_iff_toInt_lt]
  cases BitVec.slt (BitVec.ofNat 32 (i 1).val) (T1 (ix1 (0 : Fin 1))) <;> decide

theorem isNew_iff (i : grid0.Coords) (T0 : S50.Idx → BitVec 32) :
    isNew i T0 ↔ ((i 1).val = 0 ∨ rd1 i T0 ≠ rd2 i T0) := by
  unfold isNew
  rw [ne_zero_of_bit, bit_or]
  unfold Scalar.cmpi IntOp.cmpi
  have hi : (i 1).val < 50 := (i 1).isLt
  have hz : (BitVec.ofNat 32 (i 1).val == 0#32) = decide ((i 1).val = 0) := by
    rw [Bool.eq_iff_iff, beq_iff_eq, decide_eq_true_eq, ← BitVec.toNat_inj, BitVec.toNat_ofNat]
    show _ = 0 ↔ _
    omega
  dsimp only
  rw [hz]
  generalize rd1 i T0 = a
  generalize rd2 i T0 = b
  have hb : (a != b) = decide (a ≠ b) := by
    rw [Bool.eq_iff_iff, bne_iff_ne, decide_eq_true_eq]
  rw [hb]
  by_cases h1 : (i 1).val = 0 <;> by_cases h2 : a = b <;> simp [h1, h2]

theorem rd1_eq (i : grid0.Coords) (T0 : S50.Idx → BitVec 32) : rd1 i T0 = T0 (ix1 ⟨(i 1).val, (i 1).isLt⟩) := by
  refine congrArg T0 ?_
  funext a
  refine Fin.ext ?_
  have hi : (i 1).val < 50 := (i 1).isLt
  match a with
  | ⟨0, _⟩ =>
    show (Scalar.indexCast (BitVec.ofNat 32 (i 1).val)).toNat + 1 * 0 = (i 1).val
    show (BitVec.ofNat 32 (i 1).val).toNat + 1 * 0 = (i 1).val
    rw [BitVec.toNat_ofNat]; omega

theorem rd2_eq (i : grid0.Coords) (T0 : S50.Idx → BitVec 32) (h : (i 1).val ≠ 0) :
    rd2 i T0 = T0 (ix1 ⟨(i 1).val - 1, lt_of_le_of_lt (Nat.sub_le _ _) (i 1).isLt⟩) := by
  refine congrArg T0 ?_
  funext a
  refine Fin.ext ?_
  match a with
  | ⟨0, _⟩ =>
    show (Scalar.maxsi (Scalar.subi (BitVec.ofNat 32 (i 1).val) 1#32) 0#32).toNat + 1 * 0 = (i 1).val - 1
    have hi : (i 1).val < 50 := (i 1).isLt
    revert h
    generalize (i 1).val = n at hi ⊢
    revert n
    decide

/-! ## The four ways through the body -/

section
variable (c : Dev nD) (i : grid0.Coords) (a4 : Memref sig .tc .vmem S512x1024 .bf16) (h4 : a4.IsWhole)
  (a5 : Memref sig .tc .vmem S1x1x1024x1024 .f32) (h5 : a5.IsWhole) (a6 : Memref sig .tc .vmem S512x1 .f32) (h6 : a6.IsWhole)
  (a7 : Memref sig .tc .vmem S512x1024 .f32) (h7 : a7.IsWhole) (T0 : S50.Idx → Elt Ideal .i32) (T1 : S1.Idx → Elt Ideal .i32)
  (x0 : S512x1024.Idx → Elt Ideal .bf16) (x1 : S1x1x1024x1024.Idx → Elt Ideal .f32) (x2 : S512x1.Idx → Elt Ideal .f32)

theorem kept_A (hc0 : isNew i T0) (hu : inUse i T1) (hn : ¬ notUsed i T1) :
    (kernelRun0_A c i a4 h4 a5 h5 a6 h6 a7 h7 T0 T1 x0 x1 x2 hc0 hu hn).2.1 = castW x1 := by
  unfold kernelRun0_A; dsimp only
  exact kept a5 x1 _

theorem out_A (hc0 : isNew i T0) (hu : inUse i T1) (hn : ¬ notUsed i T1) (f : BufTy.Contents (Elt Ideal) a7.view.ty) :
    View.read (Elt Ideal) a7.view (a7.view.writes (Elt Ideal) f (kernelRun0_A c i a4 h4 a5 h5 a6 h6 a7 h7 T0 T1 x0 x1 x2 hc0 hu hn).1)
      = outF (inUse i T1) x0 (castW x1) x2 := by
  unfold kernelRun0_A; dsimp only
  unfold kernelRun0_A.sl.HO3_1 kernelRun0_A.sl.v21
  rw [read_one, outF, if_pos hu, readAt_rep_whole, readAt_rep_whole]
  rw [readCov_kept]

theorem kept_D (hc0 : isNew i T0) (hu : ¬ inUse i T1) (hn : notUsed i T1) :
    (kernelRun0_D c i a4 h4 a5 h5 a6 h6 a7 h7 T0 T1 x0 x1 x2 hc0 hu hn).2.1 = castW x1 := by
  unfold kernelRun0_D; dsimp only
  exact kept a5 x1 _

theorem out_D (hc0 : isNew i T0) (hu : ¬ inUse i T1) (hn : notUsed i T1) (f : BufTy.Contents (Elt Ideal) a7.view.ty) :
    View.read (Elt Ideal) a7.view (a7.view.writes (Elt Ideal) f (kernelRun0_D c i a4 h4 a5 h5 a6 h6 a7 h7 T0 T1 x0 x1 x2 hc0 hu hn).1)
      = outF (inUse i T1) x0 (castW x1) x2 := by
  unfold kernelRun0_D; dsimp only
  unfold kernelRun0_D.sl.HO3_1
  rw [read_one, outF, if_neg hu]

theorem kept_B (w : S1024x1024.Idx → Elt Ideal .bf16) (hc0 : ¬ isNew i T0) (hu : inUse i T1) (hn : ¬ notUsed i T1) :
    (kernelRun0_B c i a4 h4 a5 h5 a6 h6 a7 h7 T0 T1 x0 x1 x2 w hc0 hu hn).2.1 = w := by
  unfold kernelRun0_B; rfl

theorem out_B (w : S1024x1024.Idx → Elt Ideal .bf16) (hc0 : ¬ isNew i T0) (hu : inUse i T1) (hn : ¬ notUsed i T1)
    (f : BufTy.Contents (Elt Ideal) a7.view.ty) :
    View.read (Elt Ideal) a7.view (a7.view.writes (Elt Ideal) f (kernelRun0_B c i a4 h4 a5 h5 a6 h6 a7 h7 T0 T1 x0 x1 x2 w hc0 hu hn).1)
      = outF (inUse i T1) x0 w x2 := by
  unfold kernelRun0_B; dsimp only
  unfold kernelRun0_B.sl.HO3_1
  rw [read_one, outF, if_pos hu, readAt_rep_whole, readAt_rep_whole]
  congr 1
  exact readAt_kept _ _

theorem kept_C (w : S1024x1024.Idx → Elt Ideal .bf16) (hc0 : ¬ isNew i T0) (hu : ¬ inUse i T1) (hn : notUsed i T1) :
    (kernelRun0_C c i a4 h4 a5 h5 a6 h6 a7 h7 T0 T1 x0 x1 x2 w hc0 hu hn).2.1 = w := by
  unfold kernelRun0_C; rfl

theorem out_C (w : S1024x1024.Idx → Elt Ideal .bf16) (hc0 : ¬ isNew i T0) (hu : ¬ inUse i T1) (hn : notUsed i T1)
    (f : BufTy.Contents (Elt Ideal) a7.view.ty) :
    View.read (Elt Ideal) a7.view (a7.view.writes (Elt Ideal) f (kernelRun0_C c i a4 h4 a5 h5 a6 h6 a7 h7 T0 T1 x0 x1 x2 w hc0 hu hn).1)
      = outF (inUse i T1) x0 w x2 := by
  unfold kernelRun0_C; dsimp only
  unfold kernelRun0_C.sl.HO3_1
  rw [read_one, outF, if_neg hu]

end

end Cert.DownIdeal.Moe

end
-- ==== Proof.DownIdealDat.lean ====
/- The pipeline of the second expert product at any expert table with entries below sixteen: its blocks, what is
   kept and what is stored at every point. -/
module

public import proofs.«01_k».proof.Proof.DownIdealRuns
public import Idealize.ShloMosaic.Lib.Pipeline.Quiescent
public import Idealize.ShloMosaic.Lib.Claim
public import Idealize.ShloMosaic.Lib.Pipeline.Kit
public import Idealize.ShloMosaic.Lib.Pipeline.FrameBody
public import Idealize.ShloMosaic.Lib.Exec
public import Idealize.ShloMosaic.Lib.Tactic
public import Idealize.ShloMosaic.PureOps.Ideal
public import Idealize.ShloMosaic.Adequacy
public import Idealize.ShloMosaic.Init

@[expose] public section

set_option maxRecDepth 16384

noncomputable section

namespace Cert.DownIdeal.Moe

open Cert.DownIdeal Cert.DownIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Rounds
open Idealize.ShloMosaic.Pipeline (Dat Cfg Window BodyObligation BodyObligationLoose cellOf)

local notation "𝕄" => MT nD τ sig Unit (Elt Ideal) ℕ (UR sig nD τ) ℕ

/-- The resource algebra of the proof: the pipeline's own, embedded whole. -/
abbrev EP : Emb (UR sig nD τ) 𝕄 := emb₁

/-- The two tables the call is given: an expert for each row tile, and how many tiles are in use. -/
structure Tabs where
  e : S50.Idx → BitVec 32
  n : S1.Idx → BitVec 32
  lt : ∀ j, (e j).toNat < 16

variable (T : Tabs)
variable (m : (ℓ : Loc nD τ sig) → Buf (Elt Ideal) ℓ) (ρ : Dev nD → PrngReg)

/-- The tables as the pipeline takes them. -/
def pf : pre0.Contents (Elt Ideal) := fun | ⟨0, _⟩ => T.e | ⟨1, _⟩ => T.n | ⟨_ + 2, h⟩ => absurd h (by simp)

/-- The weight block of a point: expert and column tile. -/
theorem block1 (i : grid0.Coords) :
    cc0_transform_1 k0_off1_inb numel1_S1 (pf T) i = ![0, (T.e (ix1 ⟨(i 1).val, (i 1).isLt⟩)).toNat, 0, (i 0).val] := by
  have h0 : (i 0).val < 4 := (i 0).isLt
  have h := rd1_eq i T.e
  show ![0, (rd1 i T.e).toNat, 0, (BitVec.ofNat 32 (i 0).val).toNat] = _
  rw [h, BitVec.toNat_ofNat, Nat.mod_eq_of_lt (by omega)]

theorem ok_pf : ok0 (F := Ideal) (pf T) := by
  intro i
  refine ⟨?_, .inl rfl⟩
  rw [block1]
  have h0 : (i 0).val < 4 := (i 0).isLt
  have h1 := T.lt (ix1 ⟨(i 1).val, (i 1).isLt⟩)
  intro a
  match a with
  | ⟨0, _⟩ => show (0 + 1) * 1 ≤ 2; omega
  | ⟨1, _⟩ => show ((T.e (ix1 ⟨(i 1).val, (i 1).isLt⟩)).toNat + 1) * 1 ≤ 16; omega
  | ⟨2, _⟩ => show (0 + 1) * 1024 ≤ 1024; omega
  | ⟨3, _⟩ => show ((i 0).val + 1) * 1024 ≤ 4096; omega

/-- The pipeline at these tables. -/
def adm : (pcfg0 (F := Ideal)).Adm := ⟨pf T, ok_pf T⟩
abbrev cfgA : Pipeline.Cfg sig Λ₀ := cfg0 (F := Ideal) (adm T)
abbrev pcs : Fin 1 → Pipeline.Cfg sig Λ₀ := Pipeline.pin (pcfgs (F := Ideal)) fun _ => adm T

abbrev crd (t : Fin (cfgA T).N) : (cfgA T).grid.Coords := (cfgA T).grid.coords t

abbrev ms0 (t : Fin (cfgA T).N) : Memref sig .tc .vmem S512x1024 .bf16 := spec0_0.stage ((cfgA T).slots t (0 : Fin 4))
abbrev hs0 (t : Fin (cfgA T).N) : (ms0 T t).IsWhole := hstage0_0 (((cfgA T).slots t (0 : Fin 4)).cast nbuf0_0)
abbrev ms1 (t : Fin (cfgA T).N) : Memref sig .tc .vmem S1x1x1024x1024 .f32 := spec0_1.stage ((cfgA T).slots t (1 : Fin 4))
abbrev hs1 (t : Fin (cfgA T).N) : (ms1 T t).IsWhole := hstage0_1 (((cfgA T).slots t (1 : Fin 4)).cast nbuf0_1)
abbrev ms2 (t : Fin (cfgA T).N) : Memref sig .tc .vmem S512x1 .f32 := spec0_2.stage ((cfgA T).slots t (2 : Fin 4))
abbrev hs2 (t : Fin (cfgA T).N) : (ms2 T t).IsWhole := hstage0_2 (((cfgA T).slots t (2 : Fin 4)).cast nbuf0_2)
abbrev ms3 (t : Fin (cfgA T).N) : Memref sig .tc .vmem S512x1024 .f32 := spec0_3.stage ((cfgA T).slots t (3 : Fin 4))
abbrev hs3 (t : Fin (cfgA T).N) : (ms3 T t).IsWhole := hstage0_3 (((cfgA T).slots t (3 : Fin 4)).cast nbuf0_3)

/-- A window's block at a point, read off its array at launch. -/
def iblk (c : Dev nD) (w : Fin (cfgA T).W) (t : Fin (cfgA T).N) : (((cfgA T).win w).xblock (crd T t)).Idx → Elt Ideal ((cfgA T).win w).elt :=
  (((cfgA T).win w).blk t).view.read (Elt Ideal) ((s₀ m ρ).mem (((cfgA T).win w).arr.view.loc (c : Thread nD τ)))

/-- The kept weights of a point. -/
def keptAt (c : Dev nD) (t : Fin (cfgA T).N) : S1024x1024.Idx → Elt Ideal .bf16 := castW (iblk T m ρ c (1 : Fin 4) t)

/-- The output block of a point. -/
def outAt (c : Dev nD) (t : Fin (cfgA T).N) : S512x1024.Idx → Elt Ideal .f32 :=
  outF (inUse (crd T t) T.n) (iblk T m ρ c (0 : Fin 4) t) (keptAt T m ρ c t) (iblk T m ρ c (2 : Fin 4) t)

/-! ## The weight block at a point that does not renew it -/

theorem crd_val0 (t : Fin (cfgA T).N) : ((crd T t) 0).val = t.val / 50 % 4 := Pipeline.Grid.coords_val t 0 rfl rfl
theorem crd_val1 (t : Fin (cfgA T).N) : ((crd T t) 1).val = t.val / 1 % 50 := Pipeline.Grid.coords_val t 1 rfl rfl

/-- The weight block of a point, entry by entry. -/
theorem iblk1_apply (c : Dev nD) (t : Fin (cfgA T).N) (y : S1x1x1024x1024.Idx) :
    iblk T m ρ c (1 : Fin 4) t y = m ((c : Thread nD τ).loc main_arg3)
      (ix4 (0 : Fin 2) (⟨(T.e (ix1 ⟨((crd T t) 1).val, ((crd T t) 1).isLt⟩)).toNat, T.lt _⟩ : Fin 16) (y 2)
        (⟨((crd T t) 0).val * 1024 + (y 3).val, by have h : ((crd T t) 0).val < 4 := ((crd T t) 0).isLt; have h3 : (y 3).val < 1024 := (y 3).isLt; omega⟩ : Fin 4096)) := by
  show m ((c : Thread nD τ).loc main_arg3) ((((cfgA T).win (1 : Fin 4)).rect t).emb y) = _
  refine congrArg _ ?_
  funext a
  refine Fin.ext ?_
  rw [Pipeline.Window.rect_emb_val ((cfgA T).win (1 : Fin 4)) t y a (hk := rfl)]
  have hb : ((cfgA T).win (1 : Fin 4)).index t a = (![0, (T.e (ix1 ⟨((crd T t) 1).val, ((crd T t) 1).isLt⟩)).toNat, 0, ((crd T t) 0).val] : Fin 4 → ℕ) a :=
    congrFun (block1 T (crd T t)) a
  rw [hb]
  match a with
  | ⟨0, _⟩ => have h : (y 0).val < 1 := (y 0).isLt; show 0 * 1 + (y 0).val = 0; omega
  | ⟨1, _⟩ => have h : (y 1).val < 1 := (y 1).isLt; show (T.e _).toNat * 1 + (y 1).val = (T.e _).toNat; omega
  | ⟨2, _⟩ => show 0 * 1024 + (y 2).val = (y 2).val; omega
  | ⟨3, _⟩ => rfl

/-- Unless the tile is the first or its expert differs from the tile's before, the weight block is the one before. -/
theorem same_block (c : Dev nD) (t : Fin (cfgA T).N) (ht : t.val ≠ 0) (h : ¬ isNew (crd T t) T.e) :
    keptAt T m ρ c t = keptAt T m ρ c ⟨t.val - 1, lt_of_le_of_lt (Nat.sub_le _ _) t.isLt⟩ := by
  rw [isNew_iff] at h
  obtain ⟨h1, h2⟩ := not_or.1 h
  have h2 := not_not.1 h2
  rw [rd1_eq, rd2_eq _ _ h1] at h2
  have e0 := crd_val0 T t
  have e1 := crd_val1 T t
  have f0 := crd_val0 T ⟨t.val - 1, lt_of_le_of_lt (Nat.sub_le _ _) t.isLt⟩
  have f1 := crd_val1 T ⟨t.val - 1, lt_of_le_of_lt (Nat.sub_le _ _) t.isLt⟩
  dsimp only at f0 f1
  funext y
  unfold keptAt castW
  rw [iblk1_apply, iblk1_apply]
  refine congrArg _ (congrArg _ ?_)
  have g1 : (⟨((crd T t) 1).val - 1, lt_of_le_of_lt (Nat.sub_le _ _) ((crd T t) 1).isLt⟩ : Fin 50)
      = ⟨((crd T ⟨t.val - 1, lt_of_le_of_lt (Nat.sub_le _ _) t.isLt⟩) 1).val, ((crd T ⟨t.val - 1, lt_of_le_of_lt (Nat.sub_le _ _) t.isLt⟩) 1).isLt⟩ :=
    Fin.ext (by dsimp only; omega)
  have g0 : ((crd T ⟨t.val - 1, lt_of_le_of_lt (Nat.sub_le _ _) t.isLt⟩) 0).val = ((crd T t) 0).val := by omega
  rw [g1] at h2
  funext a
  refine Fin.ext ?_
  match a with
  | ⟨0, _⟩ => rfl
  | ⟨1, _⟩ => exact congrArg BitVec.toNat h2
  | ⟨2, _⟩ => rfl
  | ⟨3, _⟩ => exact congrArg (fun n => n * 1024 + (y 1).val) g0.symm

/-! ## The pipeline's proof data -/

/-- Kept weights as the point before point `n` left them (anything before the first). -/
def Was (c : Dev nD) (n : ℕ) (a : S1024x1024.Idx → Elt Ideal .bf16) : Prop :=
  ∀ (h0 : n ≠ 0) (h : n - 1 < (cfgA T).N), a = keptAt T m ρ c ⟨n - 1, h⟩

theorem was_succ (c : Dev nD) (t : Fin (cfgA T).N) {a : S1024x1024.Idx → Elt Ideal .bf16} (h : a = keptAt T m ρ c t) :
    Was T m ρ c t.succ.val a := fun _ _ => h

theorem was_same (c : Dev nD) (t : Fin (cfgA T).N) (hn : ¬ isNew (crd T t) T.e) {a : S1024x1024.Idx → Elt Ideal .bf16}
    (h : Was T m ρ c t.castSucc.val a) : a = keptAt T m ρ c t := by
  have ht : t.val ≠ 0 := by
    intro h0
    have e1 : ((crd T t) 1).val = 0 := by rw [crd_val1, h0]
    exact hn ((isNew_iff (crd T t) T.e).2 (Or.inl e1))
  have e2 : a = keptAt T m ρ c ⟨t.val - 1, lt_of_le_of_lt (Nat.sub_le _ _) t.isLt⟩ := by
    rw [Fin.val_castSucc] at h
    exact h ht (lt_of_le_of_lt (Nat.sub_le _ _) t.isLt)
  rw [e2]
  exact (same_block T m ρ c t ht hn).symm

/-- Before a point: the kept weights are the last point's, and the body holds its halves of the tables. -/
def Phi (c : Dev nD) (t : Fin ((cfgA T).N + 1)) : sProp 𝕄 :=
  iprop((∃ a, ⌜Was T m ρ c t.val a⌝ ∗ (scM0_0.view.loc (c : Thread nD τ) ↦{fullShare} a))
    ∗ (tbM0_0.view.loc (c : Thread nD τ) ↦{fullShare.right} T.e) ∗ (tbM0_1.view.loc (c : Thread nD τ) ↦{fullShare.right} T.n))

/-- The proof data of the one pipeline on a core. -/
def dats (_ : Fin 1) (c : Dev nD) : Dat τ (Elt Ideal) Unit ℕ (UR sig nD τ) ℕ (cfgA T) c where
  A w := (s₀ m ρ).mem (((cfgA T).win w).arr.view.loc (c : Thread nD τ))
  after w t := match w with
    | ⟨0, _⟩ => iblk T m ρ c (0 : Fin 4) t
    | ⟨1, _⟩ => iblk T m ρ c (1 : Fin 4) t
    | ⟨2, _⟩ => iblk T m ρ c (2 : Fin 4) t
    | ⟨3, _⟩ => outAt T m ρ c t
  Φ t := Phi T m ρ c t
  q _ := fullShare
  owed _ := 0

theorem after0 (c : Dev nD) (t : Fin (cfgA T).N) : (dats T m ρ 0 c).after (0 : Fin 4) t = iblk T m ρ c (0 : Fin 4) t := rfl
theorem after1 (c : Dev nD) (t : Fin (cfgA T).N) : (dats T m ρ 0 c).after (1 : Fin 4) t = iblk T m ρ c (1 : Fin 4) t := rfl
theorem after2 (c : Dev nD) (t : Fin (cfgA T).N) : (dats T m ρ 0 c).after (2 : Fin 4) t = iblk T m ρ c (2 : Fin 4) t := rfl
theorem after3 (c : Dev nD) (t : Fin (cfgA T).N) : (dats T m ρ 0 c).after (3 : Fin 4) t = outAt T m ρ c t := rfl

/-- Each input's staging buffer holds its block when the body runs. -/
theorem before0 (c : Dev nD) (t : Fin (cfgA T).N) (d) : (dats T m ρ 0 c).before (0 : Fin 4) t d = iblk T m ρ c (0 : Fin 4) t :=
  ((dats T m ρ 0 c).before_in_eq_fetched (0 : Fin 4) rfl (fun _ => rfl) (fun _ _ _ => rfl) (fun t => by rw [after0]; unfold Dat.blockOf iblk; rfl) t d).trans
    (by unfold Dat.fetched Dat.blockOf iblk; rfl)
theorem before1 (c : Dev nD) (t : Fin (cfgA T).N) (d) : (dats T m ρ 0 c).before (1 : Fin 4) t d = iblk T m ρ c (1 : Fin 4) t :=
  ((dats T m ρ 0 c).before_in_eq_fetched (1 : Fin 4) rfl (fun _ => rfl) (fun _ _ _ => rfl) (fun t => by rw [after1]; unfold Dat.blockOf iblk; rfl) t d).trans
    (by unfold Dat.fetched Dat.blockOf iblk; rfl)
theorem before2 (c : Dev nD) (t : Fin (cfgA T).N) (d) : (dats T m ρ 0 c).before (2 : Fin 4) t d = iblk T m ρ c (2 : Fin 4) t :=
  ((dats T m ρ 0 c).before_in_eq_fetched (2 : Fin 4) rfl (fun _ => rfl) (fun _ _ _ => rfl) (fun t => by rw [after2]; unfold Dat.blockOf iblk; rfl) t d).trans
    (by unfold Dat.fetched Dat.blockOf iblk; rfl)

/-- The output is stored at every point. -/
theorem idle_out (i : grid0.Coords) : idle0 (F := Ideal) (pf T) (3 : Fin 4) i = false := by
  have hw : (pf T).atD 1 ![0] = rdN T.n := by
    unfold Pipeline.Prefetch.Contents.atD
    split
    · exact congrArg T.n (by funext a; match a with | ⟨0, _⟩ => rfl)
    · next hn => exact (hn fun a => match a with | ⟨0, _⟩ => Nat.le_refl 1).elim
  show (!(k0_cond2 i ((pf T).atD 1 ![0]) == 1#1) && !(k0_cond3 i ((pf T).atD 1 ![0]) == 1#1)) = false
  rw [hw]
  have h := notUsed_iff i T.n
  by_cases hu : inUse i T.n
  · rw [show (k0_cond2 i (rdN T.n) == 1#1) = true from beq_iff_eq.2 hu]; rfl
  · rw [show (k0_cond3 i (rdN T.n) == 1#1) = true from beq_iff_eq.2 (h.2 hu), Bool.not_true, Bool.and_false]

theorem never_idle (t : Fin (cfgA T).N) : (cfgA T).idle (3 : Fin 4) (crd T t) = false := idle_out T (crd T t)

end Cert.DownIdeal.Moe

end
-- ==== Proof.DownIdealBody.lean ====
/- The body of the second expert product at every grid point: the kept weights are the current block rounded and the
   output block is the gated product, zero on an unused tile. -/
module

public import proofs.«01_k».proof.Proof.DownIdealDat
public import Idealize.ShloMosaic.Lib.Pipeline.Quiescent
public import Idealize.ShloMosaic.Lib.Claim
public import Idealize.ShloMosaic.Lib.Pipeline.Kit
public import Idealize.ShloMosaic.Lib.Pipeline.FrameBody
public import Idealize.ShloMosaic.Lib.Exec
public import Idealize.ShloMosaic.Lib.Tactic
public import Idealize.ShloMosaic.PureOps.Ideal
public import Idealize.ShloMosaic.Adequacy
public import Idealize.ShloMosaic.Init

@[expose] public section

set_option maxRecDepth 16384

noncomputable section

namespace Cert.DownIdeal.Moe

open Cert.DownIdeal Cert.DownIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Rounds
open Idealize.ShloMosaic.Pipeline (Dat Cfg Window BodyObligation BodyObligationLoose cellOf)

local notation "𝕄" => MT nD τ sig Unit (Elt Ideal) ℕ (UR sig nD τ) ℕ

variable (T : Tabs)
variable (m : (ℓ : Loc nD τ sig) → Buf (Elt Ideal) ℓ) (ρ : Dev nD → PrngReg)

/-- The body at a point, as the pipeline calls it. -/
abbrev bodyAt (t : Fin (cfgA T).N) : Prog (TpuEff nD τ sig (Elt Ideal) Λ₀ .tc) PUnit :=
  cc0_moe_down (crd T t) (Memref.whole main_arg0) (Memref.isWhole_whole _) (Memref.whole main_arg1) (Memref.isWhole_whole _) (ms0 T t) (hs0 T t) (ms1 T t) (hs1 T t) (ms2 T t) (hs2 T t) (ms3 T t) (hs3 T t) (Memref.whole cc0_scratch0) (Memref.isWhole_whole _)

set_option maxHeartbeats 4000000 in
/-- The body at a point, from its blocks and the invariant to the next. -/
theorem sound_body (c : Dev nD) (t : Fin (cfgA T).N) :
    iprop((dats T m ρ 0 c).Φ t.castSucc ∗ (dats T m ρ 0 c).owesAt () t.castSucc
        ∗ (∃ d, owns (c : Thread nD τ) (ms0 T t) fullShare ((dats T m ρ 0 c).before (0 : Fin 4) t d))
        ∗ (∃ d, owns (c : Thread nD τ) (ms1 T t) fullShare ((dats T m ρ 0 c).before (1 : Fin 4) t d))
        ∗ (∃ d, owns (c : Thread nD τ) (ms2 T t) fullShare ((dats T m ρ 0 c).before (2 : Fin 4) t d))
        ∗ (∃ d, owns (c : Thread nD τ) (ms3 T t) fullShare ((dats T m ρ 0 c).before (3 : Fin 4) t d)))
      ⊢ wp frame (wpE (defs₀ (F := Ideal)) Variants.none c none) Set.univ (bodyAt T t) fun _ =>
          iprop((dats T m ρ 0 c).Φ t.succ ∗ (dats T m ρ 0 c).owesAt () t.succ
            ∗ bigSep Finset.univ fun w : Fin (cfgA T).W =>
                match (cfgA T).idle w ((cfgA T).grid.coords t) with
                | true =>
                  match ((cfgA T).win w).flush t with
                  | false => iprop(∃ d, owns (c : Thread nD τ) (((cfgA T).win w).stage ((cfgA T).slots t w)) fullShare ((dats T m ρ 0 c).before w t d))
                  | true => owns (c : Thread nD τ) (((cfgA T).win w).stage ((cfgA T).slots t w)) fullShare ((dats T m ρ 0 c).after w t)
                | false => owns (c : Thread nD τ) (((cfgA T).win w).stage ((cfgA T).slots t w)) fullShare ((dats T m ρ 0 c).after w t)) := by
  rw [bigSep_W0]
  have i3 := never_idle T t
  rewrite [i3]
  simp only [before0, before1, before2, after0, after1, after2, after3]
  rewrite [show (dats T m ρ 0 c).Φ t.succ = Phi T m ρ c t.succ from rfl, show (dats T m ρ 0 c).Φ t.castSucc = Phi T m ρ c t.castSucc from rfl,
    show (dats T m ρ 0 c).owesAt () t.succ = (dats T m ρ 0 c).owesAt () t.castSucc from rfl]
  unfold Phi
  iintro ⟨⟨⟨%a0, %ha0, HS0⟩, HT0, HT1⟩, Ho, ⟨%d0, H0⟩, ⟨%d1, H1⟩, ⟨%d2, H2⟩, ⟨%d3, H3⟩⟩
  by_cases q0 : isNew (crd T t) T.e
  · by_cases q1 : inUse (crd T t) T.n
    · have q2 : ¬ notUsed (crd T t) T.n := fun h => (notUsed_iff _ _).1 h q1
      iapply ((kernelRun0_A c (crd T t) (ms0 T t) (hs0 T t) (ms1 T t) (hs1 T t) (ms2 T t) (hs2 T t) (ms3 T t) (hs3 T t) T.e T.n (iblk T m ρ c (0 : Fin 4) t) (iblk T m ρ c (1 : Fin 4) t) (iblk T m ρ c (2 : Fin 4) t) q0 q1 q2).2.2 a0 _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [H3]; · iexists _; iexact H3
      isplitl [HS0]; · iexact HS0
      iintro ⟨H0, H1, H2, HT0, HT1, ⟨%e3, H3⟩, HS0⟩
      isplitl [HS0 HT0 HT1]
      · isplitl [HS0]
        · iexists _; isplitr; swap
          · iexact HS0
          · ipureintro; exact was_succ T m ρ c t (kept_A c (crd T t) (ms0 T t) (hs0 T t) (ms1 T t) (hs1 T t) (ms2 T t) (hs2 T t) (ms3 T t) (hs3 T t) T.e T.n (iblk T m ρ c (0 : Fin 4) t) (iblk T m ρ c (1 : Fin 4) t) (iblk T m ρ c (2 : Fin 4) t) q0 q1 q2)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      unfold owns; iexists _; isplitr; swap
      · iexact H3
      · ipureintro; exact out_A c (crd T t) (ms0 T t) (hs0 T t) (ms1 T t) (hs1 T t) (ms2 T t) (hs2 T t) (ms3 T t) (hs3 T t) T.e T.n (iblk T m ρ c (0 : Fin 4) t) (iblk T m ρ c (1 : Fin 4) t) (iblk T m ρ c (2 : Fin 4) t) q0 q1 q2 _
    · have q2 : notUsed (crd T t) T.n := (notUsed_iff _ _).2 q1
      iapply ((kernelRun0_D c (crd T t) (ms0 T t) (hs0 T t) (ms1 T t) (hs1 T t) (ms2 T t) (hs2 T t) (ms3 T t) (hs3 T t) T.e T.n (iblk T m ρ c (0 : Fin 4) t) (iblk T m ρ c (1 : Fin 4) t) (iblk T m ρ c (2 : Fin 4) t) q0 q1 q2).2.2 a0 _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [H3]; · iexists _; iexact H3
      isplitl [HS0]; · iexact HS0
      iintro ⟨H0, H1, H2, HT0, HT1, ⟨%e3, H3⟩, HS0⟩
      isplitl [HS0 HT0 HT1]
      · isplitl [HS0]
        · iexists _; isplitr; swap
          · iexact HS0
          · ipureintro; exact was_succ T m ρ c t (kept_D c (crd T t) (ms0 T t) (hs0 T t) (ms1 T t) (hs1 T t) (ms2 T t) (hs2 T t) (ms3 T t) (hs3 T t) T.e T.n (iblk T m ρ c (0 : Fin 4) t) (iblk T m ρ c (1 : Fin 4) t) (iblk T m ρ c (2 : Fin 4) t) q0 q1 q2)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      unfold owns; iexists _; isplitr; swap
      · iexact H3
      · ipureintro; exact out_D c (crd T t) (ms0 T t) (hs0 T t) (ms1 T t) (hs1 T t) (ms2 T t) (hs2 T t) (ms3 T t) (hs3 T t) T.e T.n (iblk T m ρ c (0 : Fin 4) t) (iblk T m ρ c (1 : Fin 4) t) (iblk T m ρ c (2 : Fin 4) t) q0 q1 q2 _
  · obtain rfl := was_same T m ρ c t q0 ha0
    by_cases q1 : inUse (crd T t) T.n
    · have q2 : ¬ notUsed (crd T t) T.n := fun h => (notUsed_iff _ _).1 h q1
      iapply ((kernelRun0_B c (crd T t) (ms0 T t) (hs0 T t) (ms1 T t) (hs1 T t) (ms2 T t) (hs2 T t) (ms3 T t) (hs3 T t) T.e T.n (iblk T m ρ c (0 : Fin 4) t) (iblk T m ρ c (1 : Fin 4) t) (iblk T m ρ c (2 : Fin 4) t) (keptAt T m ρ c t) q0 q1 q2).2.2 _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [H3]; · iexists _; iexact H3
      isplitl [HS0]; · iexact HS0
      iintro ⟨H0, H1, H2, HT0, HT1, ⟨%e3, H3⟩, HS0⟩
      isplitl [HS0 HT0 HT1]
      · isplitl [HS0]
        · iexists _; isplitr; swap
          · iexact HS0
          · ipureintro; exact was_succ T m ρ c t (kept_B c (crd T t) (ms0 T t) (hs0 T t) (ms1 T t) (hs1 T t) (ms2 T t) (hs2 T t) (ms3 T t) (hs3 T t) T.e T.n (iblk T m ρ c (0 : Fin 4) t) (iblk T m ρ c (1 : Fin 4) t) (iblk T m ρ c (2 : Fin 4) t) (keptAt T m ρ c t) q0 q1 q2)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      unfold owns; iexists _; isplitr; swap
      · iexact H3
      · ipureintro; exact out_B c (crd T t) (ms0 T t) (hs0 T t) (ms1 T t) (hs1 T t) (ms2 T t) (hs2 T t) (ms3 T t) (hs3 T t) T.e T.n (iblk T m ρ c (0 : Fin 4) t) (iblk T m ρ c (1 : Fin 4) t) (iblk T m ρ c (2 : Fin 4) t) (keptAt T m ρ c t) q0 q1 q2 _
    · have q2 : notUsed (crd T t) T.n := (notUsed_iff _ _).2 q1
      iapply ((kernelRun0_C c (crd T t) (ms0 T t) (hs0 T t) (ms1 T t) (hs1 T t) (ms2 T t) (hs2 T t) (ms3 T t) (hs3 T t) T.e T.n (iblk T m ρ c (0 : Fin 4) t) (iblk T m ρ c (1 : Fin 4) t) (iblk T m ρ c (2 : Fin 4) t) (keptAt T m ρ c t) q0 q1 q2).2.2 _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [H3]; · iexists _; iexact H3
      isplitl [HS0]; · iexact HS0
      iintro ⟨H0, H1, H2, HT0, HT1, ⟨%e3, H3⟩, HS0⟩
      isplitl [HS0 HT0 HT1]
      · isplitl [HS0]
        · iexists _; isplitr; swap
          · iexact HS0
          · ipureintro; exact was_succ T m ρ c t (kept_C c (crd T t) (ms0 T t) (hs0 T t) (ms1 T t) (hs1 T t) (ms2 T t) (hs2 T t) (ms3 T t) (hs3 T t) T.e T.n (iblk T m ρ c (0 : Fin 4) t) (iblk T m ρ c (1 : Fin 4) t) (iblk T m ρ c (2 : Fin 4) t) (keptAt T m ρ c t) q0 q1 q2)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      unfold owns; iexists _; isplitr; swap
      · iexact H3
      · ipureintro; exact out_C c (crd T t) (ms0 T t) (hs0 T t) (ms1 T t) (hs1 T t) (ms2 T t) (hs2 T t) (ms3 T t) (hs3 T t) T.e T.n (iblk T m ρ c (0 : Fin 4) t) (iblk T m ρ c (1 : Fin 4) t) (iblk T m ρ c (2 : Fin 4) t) (keptAt T m ρ c t) q0 q1 q2 _

theorem body_obligation (c : Dev nD) : BodyObligation (dats T m ρ 0 c) (defs₀ (F := Ideal)) Variants.none () Set.univ := fun t => by
  rw [bigSep_W0]
  exact sound_body T m ρ c t

end Cert.DownIdeal.Moe

end
-- ==== Proof.DownIdealLaunch.lean ====
/- The launch of the second expert product: every run ends, the arguments unchanged, the counters at zero, the result
   array as the pipeline assembles it. -/
module

public import proofs.«01_k».proof.Proof.DownIdealBody
public import Idealize.ShloMosaic.Lib.Pipeline.Quiescent
public import Idealize.ShloMosaic.Lib.Claim
public import Idealize.ShloMosaic.Lib.Pipeline.Kit
public import Idealize.ShloMosaic.Lib.Pipeline.FrameBody
public import Idealize.ShloMosaic.Lib.Exec
public import Idealize.ShloMosaic.Lib.Tactic
public import Idealize.ShloMosaic.PureOps.Ideal
public import Idealize.ShloMosaic.Adequacy
public import Idealize.ShloMosaic.Init

@[expose] public section

set_option maxRecDepth 16384

noncomputable section

namespace Cert.DownIdeal.Moe

open Cert.DownIdeal Cert.DownIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Rounds
open Idealize.ShloMosaic.Pipeline (Dat Cfg Window BodyObligation BodyObligationLoose cellOf)

local notation "𝕄" => MT nD τ sig Unit (Elt Ideal) ℕ (UR sig nD τ) ℕ

variable (T : Tabs)
variable (m : (ℓ : Loc nD τ sig) → Buf (Elt Ideal) ℓ) (ρ : Dev nD → PrngReg)

/-! ## The launch -/

/-- The pipeline's launch element. -/
def u₀ : UR sig nD τ :=
  initOf (Pipeline.cells (pcs T) ((launch0 (F := Ideal)).cellOf_inj fun _ => adm T))
    (Pipeline.launchToks (pcs T) ((launch0 (F := Ideal)).cellOf_inj fun _ => adm T))

theorem share_eq (c : Dev nD) (w : Fin (cfgA T).W) : (dats T m ρ 0 c).share w = fullShare := by unfold Dat.share; split <;> rfl

theorem prefHeld_eq (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

theorem phi0_intro (c : Dev nD) :
    iprop(BI.emp ∗ Pipeline.prefHeld pre0 c (fun _ => fullShare.right) (adm T).1 ∗ Pipeline.scopedRest spec0 c) ⊢ (dats T m ρ 0 c).Φ 0 := by
  rw [prefHeld_eq, scopedRest0_eq, show (dats T m ρ 0 c).Φ 0 = Phi T m ρ c 0 from rfl]
  unfold Phi
  iintro ⟨-, ⟨HT0, HT1⟩, ⟨%a0, HS0⟩⟩
  isplitl [HS0]
  · iexists a0; isplitr; swap
    · iexact HS0
    · ipureintro; exact fun h => absurd rfl h
  isplitl [HT0]
  · iexact HT0
  iexact HT1

theorem phiN_exit (c : Dev nD) : (dats T m ρ 0 c).Φ (Fin.last (cfgA T).N) ⊢ iprop(BI.emp ∗ Pipeline.scopedRest spec0 c) := by
  rw [scopedRest0_eq, show (dats T m ρ 0 c).Φ (Fin.last (cfgA T).N) = Phi T m ρ c (Fin.last _) from rfl]
  unfold Phi
  iintro ⟨⟨%a0, -, HS0⟩, -, -⟩
  isplitr; · iempintro
  iexists a0; iexact HS0

/-- The final memory: every array as the pipeline assembles it, every table as it was. -/
def QC : PUnit × MemSt nD τ sig (Elt Ideal) → Prop := fun r =>
  ∀ c : Dev nD, (∀ w : Fin (cfgA T).W, r.2.mem (((cfgA T).win w).arr.view.loc (c : Thread nD τ)) = (dats T m ρ 0 c).arrAt w (cfgA T).N)
    ∧ ∀ j, r.2.mem ((c : Thread nD τ).loc (pre0.ref j)) = (adm T).1 j

/-- The launch memory holds these tables. -/
def Holds : Prop :=
  (∀ c : Dev nD, m ((c : Thread nD τ).loc main_arg0) = T.e) ∧ (∀ c : Dev nD, m ((c : Thread nD τ).loc main_arg1) = T.n)

theorem V_pre (hp : Holds T m) (c : Dev nD) (j : Fin 2) : m ((c : Thread nD τ).loc (pre0.ref j)) = (adm T).1 j := by
  fin_cases j
  · exact hp.1 c
  · exact hp.2 c

set_option backward.isDefEq.respectTransparency.types false in
set_option maxHeartbeats 4000000 in
/-- Every run from a memory holding these tables ends with the arrays as assembled and the counters at zero. -/
theorem run_quiescent (hp : Holds T m) : θ_run (defs (F := Ideal)) (onTc (τ := τ) (main (F := Ideal))) (s₀ m ρ) (fun r => QC T m ρ r ∧ r.2.sem = fun _ => 0) :=
  Pipeline.θ_run_region_noSem_pf_quiescent pcfgs (fun _ => adm T) (dats T m ρ) () ((launch0 (F := Ideal)).cellOf_inj fun _ => adm T) (0 : Fin 1)
    (launch0 (F := Ideal)).win.to₀ (launch0 (F := Ideal)).pre EP defs₀ Variants.none m ρ main
    (hbody := fun c => (body_obligation T m ρ c).loose) (hne := (launch0 (F := Ideal)).block_pos)
    (harr := (launch0 (F := Ideal)).arr_whole) (hstage := (launch0 (F := Ideal)).stage_whole) (howed := fun _ _ => rfl)
    (u₀ := u₀ T) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs T) (dats T m ρ) 0 (launch0 (F := Ideal)).win.arr_inj c (launch0 (F := Ideal)).arr_whole
      (share_eq T m ρ c) _ _ fun _ => rfl)
    (hpf := V_pre T m hp)
    (X := fun _ => iprop(emp)) (Y := fun _ => iprop(emp)) (Z := fun _ => iprop(emp))
    (hX := fun c => by rw [unscopedRestP0_eq]; iintro -; isplitr <;> iempintro)
    (hin := phi0_intro T m ρ)
    (hout := phiN_exit T m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The arguments end unchanged. -/
theorem QC_args (hp : Holds T m) (r : PUnit × MemSt nD τ sig (Elt Ideal)) (h : QC T m ρ r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).2 0).trans (hp.1 c).symm, ((h c).2 1).trans (hp.2 c).symm, ((h c).1 (0 : Fin 4)).trans ((dats T m ρ 0 c).arrAt_in (0 : Fin 4) rfl _), ((h c).1 (1 : Fin 4)).trans ((dats T m ρ 0 c).arrAt_in (1 : Fin 4) rfl _), ((h c).1 (2 : Fin 4)).trans ((dats T m ρ 0 c).arrAt_in (2 : Fin 4) rfl _)⟩

/-- The frame: every run ends, nothing faults, the arguments unchanged, the counters at zero. -/
theorem frame (hp : Holds T m) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => QC_args T m ρ hp r h.1 c, h.2⟩) (run_quiescent T m ρ hp)

end Cert.DownIdeal.Moe

end
-- ==== Proof.DownIdealValue.lean ====
/- The result of the second expert product, entry by entry: on a row tile in use the row's gate times the row's product
   with its tile's expert, zero elsewhere. -/
module

public import proofs.«01_k».proof.Proof.DownIdealLaunch
public import Idealize.ShloMosaic.Lib.MatmulPlain
public import Idealize.ShloMosaic.PureOps.Ideal.Laws
public import Idealize.ShloMosaic.Lib.Pipeline.ValueKit.Basic

@[expose] public section

set_option maxRecDepth 16384

noncomputable section

namespace Cert.DownIdeal.Moe

open Cert.DownIdeal Cert.DownIdeal.Gen
open Idealize.ShloMosaic
open Idealize.ShloMosaic.TcCoe
open Idealize.SL.Sem
open Idealize.ShloMosaic.ValueIdx
open Idealize.ShloMosaic.Pipeline (Dat Cfg Window)

variable (T : Tabs)
variable (m : (ℓ : Loc nD τ sig) → Buf (Elt Ideal) ℓ) (ρ : Dev nD → PrngReg)

/-- The gated product of a block, entry by entry. -/
theorem pay2_apply (x2 : Vec Ideal S512x1 .f32) (x0 : Vec Ideal S512x1024 .bf16) (w : Vec Ideal S1024x1024 .bf16) (r : Fin 512) (q : Fin 1024) :
    k0_pay2 x2 x0 w (ix2 r q) = (x2 (ix2 r (0 : Fin 1)) * ∑ k : Fin 1024, x0 (ix2 r k) * w (ix2 k q) : EReal) := by
  unfold k0_pay2
  have hb : broadcastTo S512x1024 x2 broadcasts_S512x1_S512x1024 (ix2 r q) = x2 (ix2 r (0 : Fin 1)) :=
    broadcastTo_apply x2 broadcasts_S512x1_S512x1024 (ix2 r q) (ix2 r (0 : Fin 1)) (fun a => match a with
      | ⟨0, _⟩ => rfl
      | ⟨1, _⟩ => rfl)
  have hd : dot_S512x1024_S1024x1024_S512x1024_1_0_0_1_n_n = DotDims.plain 512 1024 1024 := rfl
  have hm : matmul (φ₁ := .bf16) (φ₂ := .bf16) dot_S512x1024_S1024x1024_S512x1024_1_0_0_1_n_n none x0 w (constant (F := Ideal) S512x1024 .f32 0x00000000#32) (ix2 r q)
      = (∑ k : Fin 1024, x0 (ix2 r k) * w (ix2 k q) : EReal) := by
    rw [hd]
    refine (Ideal.matmul_plain_apply none x0 w _ r q).trans ?_
    show (Ideal.ofBits .f32 0x00000000#32 : EReal) + _ = _
    rw [Ideal.ofBits_zero_f32, zero_add]
  show (broadcastTo S512x1024 x2 broadcasts_S512x1_S512x1024 (ix2 r q) * _ : EReal) = _
  rw [hb]
  exact congrArg _ hm

theorem pay3_apply (r : Fin 512) (q : Fin 1024) : k0_pay3 (F := Ideal) (ix2 r q) = (0 : EReal) := by
  show (Ideal.ofBits .f32 0x00000000#32 : EReal) = _
  rw [Ideal.ofBits_zero_f32]

/-- The row tile of a row. -/
abbrev tileOf (r : Fin 25600) : S50.Idx := ix1 (⟨r.val / 512, by omega⟩ : Fin 50)

/-- The result the mathematics states: the gated product with the row's expert, zero on rows of unused tiles. -/
def G (h : S25600x1024.Idx → EReal) (w : S2x16x1024x4096.Idx → EReal) (g : S25600x1.Idx → EReal) (r : Fin 25600) (q : Fin 4096) : EReal :=
  if ((r.val / 512 : ℕ) : ℤ) < (T.n (ix1 (0 : Fin 1))).toInt then
    g (ix2 r (0 : Fin 1)) * ∑ k : Fin 1024, h (ix2 r k) * w (ix4 (0 : Fin 2) (⟨(T.e (tileOf r)).toNat, T.lt _⟩ : Fin 16) k q)
  else 0

/-- The rows and columns a point's output block sits at. -/
def rowAt (t : Fin (cfgA T).N) (r : Fin 512) : Fin 25600 :=
  ⟨((crd T t) 1).val * 512 + r.val, by have h : ((crd T t) 1).val < 50 := ((crd T t) 1).isLt; omega⟩
def colAt (t : Fin (cfgA T).N) (q : Fin 1024) : Fin 4096 :=
  ⟨((crd T t) 0).val * 1024 + q.val, by have h : ((crd T t) 0).val < 4 := ((crd T t) 0).isLt; omega⟩

theorem block0 (i : grid0.Coords) : cc0_transform_0 i = ![(i 1).val, 0] := by
  have h1 : (i 1).val < 50 := (i 1).isLt
  show ![(BitVec.ofNat 32 (i 1).val).toNat, 0] = _
  rw [BitVec.toNat_ofNat, Nat.mod_eq_of_lt (by omega)]

theorem block2 (i : grid0.Coords) : cc0_transform_2 i = ![(i 1).val, 0] := by
  have h1 : (i 1).val < 50 := (i 1).isLt
  show ![(BitVec.ofNat 32 (i 1).val).toNat, 0] = _
  rw [BitVec.toNat_ofNat, Nat.mod_eq_of_lt (by omega)]

theorem block3 (i : grid0.Coords) : cc0_transform_3 i = ![(i 1).val, (i 0).val] := by
  have h1 : (i 1).val < 50 := (i 1).isLt
  have h0 : (i 0).val < 4 := (i 0).isLt
  show ![(BitVec.ofNat 32 (i 1).val).toNat, (BitVec.ofNat 32 (i 0).val).toNat] = _
  rw [BitVec.toNat_ofNat, BitVec.toNat_ofNat, Nat.mod_eq_of_lt (by omega), Nat.mod_eq_of_lt (by omega)]

theorem iblk0_apply (c : Dev nD) (t : Fin (cfgA T).N) (r : Fin 512) (k : Fin 1024) :
    iblk T m ρ c (0 : Fin 4) t (ix2 r k) = m ((c : Thread nD τ).loc main_arg2) (ix2 (rowAt T t r) k) := by
  show m ((c : Thread nD τ).loc main_arg2) ((((cfgA T).win (0 : Fin 4)).rect t).emb (ix2 r k)) = _
  refine congrArg _ ?_
  funext a
  refine Fin.ext ?_
  rw [Pipeline.Window.rect_emb_val ((cfgA T).win (0 : Fin 4)) t (ix2 r k) a (hk := rfl)]
  have hb : ((cfgA T).win (0 : Fin 4)).index t a = (![((crd T t) 1).val, 0] : Fin 2 → ℕ) a := congrFun (block0 (crd T t)) a
  rw [hb]
  match a with
  | ⟨0, _⟩ => rfl
  | ⟨1, _⟩ => show 0 * 1024 + k.val = k.val; omega

theorem iblk2_apply (c : Dev nD) (t : Fin (cfgA T).N) (r : Fin 512) :
    iblk T m ρ c (2 : Fin 4) t (ix2 r (0 : Fin 1)) = m ((c : Thread nD τ).loc main_arg4) (ix2 (rowAt T t r) (0 : Fin 1)) := by
  show m ((c : Thread nD τ).loc main_arg4) ((((cfgA T).win (2 : Fin 4)).rect t).emb (ix2 r (0 : Fin 1))) = _
  refine congrArg _ ?_
  funext a
  refine Fin.ext ?_
  rw [Pipeline.Window.rect_emb_val ((cfgA T).win (2 : Fin 4)) t (ix2 r (0 : Fin 1)) a (hk := rfl)]
  have hb : ((cfgA T).win (2 : Fin 4)).index t a = (![((crd T t) 1).val, 0] : Fin 2 → ℕ) a := congrFun (block2 (crd T t)) a
  rw [hb]
  match a with
  | ⟨0, _⟩ => rfl
  | ⟨1, _⟩ => rfl

theorem kept_apply (c : Dev nD) (t : Fin (cfgA T).N) (k q : Fin 1024) :
    keptAt T m ρ c t (ix2 k q) = m ((c : Thread nD τ).loc main_arg3)
      (ix4 (0 : Fin 2) (⟨(T.e (ix1 ⟨((crd T t) 1).val, ((crd T t) 1).isLt⟩)).toNat, T.lt _⟩ : Fin 16) k (colAt T t q)) := by
  unfold keptAt castW
  exact iblk1_apply T m ρ c t _

/-- A point's output block, entry by entry. -/
theorem outAt_apply (c : Dev nD) (t : Fin (cfgA T).N) (r : Fin 512) (q : Fin 1024) :
    outAt T m ρ c t (ix2 r q) = G T (m ((c : Thread nD τ).loc main_arg2)) (m ((c : Thread nD τ).loc main_arg3))
      (m ((c : Thread nD τ).loc main_arg4)) (rowAt T t r) (colAt T t q) := by
  have hd : (rowAt T t r).val / 512 = ((crd T t) 1).val := by unfold rowAt; dsimp only; omega
  have ht : tileOf (rowAt T t r) = ix1 ⟨((crd T t) 1).val, ((crd T t) 1).isLt⟩ := congrArg ix1 (Fin.ext hd)
  unfold outAt outF G
  rw [hd]
  simp only [ht]
  by_cases hu : inUse (crd T t) T.n
  · rw [if_pos hu, if_pos ((inUse_iff (crd T t) T.n).1 hu), pay2_apply, iblk2_apply]
    refine congrArg _ (Finset.sum_congr rfl fun k _ => ?_)
    rw [iblk0_apply, kept_apply]
    rfl
  · rw [if_neg hu, if_neg (fun h => hu ((inUse_iff (crd T t) T.n).2 h)), pay3_apply]

/-- The result array. -/
def result (c : Dev nD) : Buf (Elt Ideal) ((c : Thread nD τ).loc main_v0) := fun i =>
  G T (m ((c : Thread nD τ).loc main_arg2)) (m ((c : Thread nD τ).loc main_arg3)) (m ((c : Thread nD τ).loc main_arg4)) (i 0) (i 1)

theorem emb3 (t : Fin (cfgA T).N) (y : S512x1024.Idx) :
    (((cfgA T).win (3 : Fin 4)).rect t).emb y = ix2 (rowAt T t (y 0)) (colAt T t (y 1)) := by
  funext a
  refine Fin.ext ?_
  rw [Pipeline.Window.rect_emb_val ((cfgA T).win (3 : Fin 4)) t y a (hk := rfl)]
  have hb : ((cfgA T).win (3 : Fin 4)).index t a = (![((crd T t) 1).val, ((crd T t) 0).val] : Fin 2 → ℕ) a := congrFun (block3 (crd T t)) a
  rw [hb]
  match a with
  | ⟨0, _⟩ => rfl
  | ⟨1, _⟩ => rfl

theorem flushed_eq (c : Dev nD) (t : Fin (cfgA T).N) :
    (dats T m ρ 0 c).flushed (3 : Fin 4) t = (((cfgA T).win (3 : Fin 4)).blk t).view.read (Elt Ideal) (result T m c) := by
  funext y
  show outAt T m ρ c t y = result T m c ((((cfgA T).win (3 : Fin 4)).rect t).emb y)
  rw [emb3]
  conv_lhs => rw [eq_ix2 y]
  exact outAt_apply T m ρ c t (y 0) (y 1)

theorem points : (cfgA T).N = 200 := rfl

theorem index3 (t : Fin (cfgA T).N) : ((cfgA T).win (3 : Fin 4)).index t = ![((crd T t) 1).val, ((crd T t) 0).val] := block3 (crd T t)

/-- Every point writes its own block back. -/
theorem flush3 (t : Fin (cfgA T).N) : ((cfgA T).win (3 : Fin 4)).flush t = true := by
  have hn := points T
  have ht := t.isLt
  rw [Pipeline.Window.flush, Bool.and_eq_true]
  refine ⟨rfl, ?_⟩
  rw [Bool.or_eq_true, decide_eq_true_eq, decide_eq_true_eq]
  by_cases hl : t.val + 1 = (cfgA T).N
  · exact Or.inl hl
  · have hlt : t.val + 1 < (cfgA T).N := Nat.lt_of_le_of_ne ht hl
    refine Or.inr ⟨hlt, fun h => ?_⟩
    rw [index3, index3] at h
    have h1 := congrFun h (0 : Fin 2)
    have h1 : ((crd T ⟨t.val + 1, hlt⟩) 1).val = ((crd T t) 1).val := h1
    rw [crd_val1, crd_val1] at h1
    dsimp only at h1
    omega

/-- The point whose block holds an entry of the result. -/
def pointOf (i : S25600x4096.Idx) : Fin (cfgA T).N :=
  ⟨(i 1).val / 1024 * 50 + (i 0).val / 512, by
    rw [points]; have h0 : (i 0).val < 25600 := (i 0).isLt; have h1 : (i 1).val < 4096 := (i 1).isLt; omega⟩

theorem covered (i : S25600x4096.Idx) : i ∈ (((cfgA T).win (3 : Fin 4)).blk (pointOf T i)).view.set := by
  have h0 : (i 0).val < 25600 := (i 0).isLt
  have h1 : (i 1).val < 4096 := (i 1).isLt
  have e0 : ((crd T (pointOf T i)) 0).val = (i 1).val / 1024 := by
    rw [crd_val0]; unfold pointOf; dsimp only; omega
  have e1 : ((crd T (pointOf T i)) 1).val = (i 0).val / 512 := by
    rw [crd_val1]; unfold pointOf; dsimp only; omega
  have hy : (((cfgA T).win (3 : Fin 4)).rect (pointOf T i)).emb
      (ix2 (⟨(i 0).val % 512, by omega⟩ : Fin 512) (⟨(i 1).val % 1024, by omega⟩ : Fin 1024)) = i := by
    rw [emb3]
    funext a
    refine Fin.ext ?_
    match a with
    | ⟨0, _⟩ => show ((crd T (pointOf T i)) 1).val * 512 + (i 0).val % 512 = (i 0).val; omega
    | ⟨1, _⟩ => show ((crd T (pointOf T i)) 0).val * 1024 + (i 1).val % 1024 = (i 1).val; omega
  exact Finset.mem_map.2 ⟨_, Finset.mem_univ _, hy⟩

/-- The pipeline leaves the result array at the stated values. -/
theorem final (c : Dev nD) : (dats T m ρ 0 c).arrAt (3 : Fin 4) (cfgA T).N = result T m c :=
  (dats T m ρ 0 c).arrAt_eq_of_cover (3 : Fin 4) (result T m c) (fun t _ => flushed_eq T m ρ c t)
    fun i => ⟨pointOf T i, flush3 T (pointOf T i), covered T i⟩

/-- Every run from a memory holding the tables ends with the result array at the stated values, the arguments unchanged. -/
theorem value (hp : Holds T m) :
    θ_run (defs (F := Ideal)) (onTc (τ := τ) (main (F := Ideal))) ⟨m, fun _ => 0, ρ⟩ (fun r => ∀ c : Dev nD,
      r.2.mem ((c.tc : Thread nD τ).loc main_v0) = result T m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨((h.1 c).1 (3 : Fin 4)).trans (final T m ρ c), QC_args T m ρ hp r h.1 c⟩) (run_quiescent T m ρ hp)

end Cert.DownIdeal.Moe

end
-- ==== Proof.DownRef.lean ====
/- The reference of the second expert product, entry by entry: the sum over the experts keeps the one a row belongs to. -/
module

public import proofs.«01_k».proof.Proof.Gen.DownRefIdeal.Run
public import proofs.«01_k».proof.Proof.Gen.DownRefIdeal.Read
public import proofs.«01_k».proof.Proof.DownIdealValue
public import Idealize.ShloMosaic.Lib.IdealHost

@[expose] public section

set_option maxRecDepth 16384

noncomputable section

namespace Cert.DownRefIdeal.Moe

open Cert.DownRefIdeal Cert.DownRefIdeal.Gen Cert.DownRefIdeal.Read
open Idealize.ShloMosaic
open Idealize.ShloMosaic.TcCoe
open Idealize.SL.Sem
open Idealize.ShloMosaic.ValueIdx
open Cert.DownIdeal.Moe (Tabs G tileOf)

/-- A comparison for equality with a small number. -/
theorem eq_bit (a : BitVec 32) (e : Fin 16) : IntOp.cmpi .eq a (BitVec.ofNat 32 e.val) = 1#1 ↔ a.toNat = e.val := by
  have he := e.isLt
  unfold IntOp.cmpi
  dsimp only
  have h : (a == BitVec.ofNat 32 e.val) = decide (a.toNat = e.val) := by
    rw [Bool.eq_iff_iff, beq_iff_eq, decide_eq_true_eq, ← BitVec.toNat_inj, BitVec.toNat_ofNat, Nat.mod_eq_of_lt (by omega)]
  rw [h]
  by_cases q : a.toNat = e.val <;> simp [q]

/-- A signed comparison of a small number. -/
theorem lt_bit (t : ℕ) (ht : t < 50) (n : BitVec 32) : IntOp.cmpi .slt (BitVec.ofNat 32 t) n = 1#1 ↔ (t : ℤ) < n.toInt := by
  unfold IntOp.cmpi
  dsimp only
  have hv : (BitVec.ofNat 32 t).toInt = (t : ℤ) := by
    rw [BitVec.toInt_eq_toNat_cond, BitVec.toNat_ofNat]; split <;> omega
  rw [← hv, ← BitVec.slt_iff_toInt_lt]
  cases BitVec.slt (BitVec.ofNat 32 t) n <;> decide

theorem and_bit (a b : BitVec 1) : IntOp.andi a b = 1#1 ↔ a = 1#1 ∧ b = 1#1 := by
  revert a b; decide

/-- The count read as a scalar. -/
theorem count_apply (x1 : S1.Idx → BitVec 32) (j : S_.Idx) : shapeCast S_ x1 shapeCasts_S1_S_ j = x1 (ix1 (0 : Fin 1)) := by
  refine shapeCast_apply x1 shapeCasts_S1_S_ j (ix1 (0 : Fin 1)) ?_
  have h1 := (S1.rowMajor (ix1 (0 : Fin 1))).isLt
  have h2 := (S_.rowMajor j).isLt
  have n1 : S1.numel = 1 := by decide
  have n2 : S_.numel = 1 := by decide
  omega

/-- Whether a row belongs to an expert: its tile is in use and has that expert. -/
theorem mine (x0 : S50.Idx → BitVec 32) (x1 : S1.Idx → BitVec 32) (r : Fin 25600) (e : Fin 16) :
    val_main_v18 (F := Ideal) x0 x1 (ix2 r e) = 1#1
      ↔ (x0 (tileOf r)).toNat = e.val ∧ ((r.val / 512 : ℕ) : ℤ) < (x1 (ix1 (0 : Fin 1))).toInt := by
  have hr := r.isLt
  rw [val_main_v18_apply, and_bit]
  have h1 : val_main_v12 (F := Ideal) x0 (ix2 r e) = IntOp.cmpi .eq (x0 (tileOf r)) (BitVec.ofNat 32 e.val) := by
    rw [val_main_v12_apply, val_main_v10_apply, val_main_v7_apply, val_main_v2_apply, val_main_v1_apply, val_main_v0_apply, val_main_v11_apply, val_main_v9_apply, val_main_v8_apply]
    refine congr (congrArg (IntOp.cmpi .eq) (congrArg x0 ?_)) rfl
    funext a
    match a with
    | ⟨0, _⟩ => rfl
  have h2 : val_main_v17 (F := Ideal) x1 (ix2 r e) = IntOp.cmpi .slt (BitVec.ofNat 32 (r.val / 512)) (x1 (ix1 (0 : Fin 1))) := by
    rw [val_main_v17_apply, val_main_v16_apply, val_main_v15_apply, val_main_v6_apply, val_main_v5_apply, val_main_v4_apply, val_main_v3_apply, val_main_v14_apply]
    unfold val_main_v13
    rw [count_apply]
  rw [h1, h2, eq_bit, lt_bit _ (by omega)]

/-- The gate of a row and an expert. -/
theorem gate_apply (x0 : S50.Idx → BitVec 32) (x1 : S1.Idx → BitVec 32) (x4 : S25600x1.Idx → EReal) (r : Fin 25600) (e : Fin 16) (j : S25600x16x4096.Idx)
    (h0 : (j 0).val = r.val) (h1 : (j 1).val = e.val) :
    val_main_v25 (F := Ideal) x0 x1 x4 j
      = (if (x0 (tileOf r)).toNat = e.val ∧ ((r.val / 512 : ℕ) : ℤ) < (x1 (ix1 (0 : Fin 1))).toInt then x4 (ix2 r (0 : Fin 1)) else 0 : EReal) := by
  rw [val_main_v25_apply, val_main_v24_apply]
  have hj : idx_main_v24 (idx_main_v25 j) = ix2 r e := by
    funext a
    refine Fin.ext ?_
    match a with
    | ⟨0, _⟩ => exact h0
    | ⟨1, _⟩ => exact h1
  rw [hj, val_main_v19_apply, val_main_call0_v1_apply, val_main_call0_v2_apply, val_main_call0_v0_apply, val_main_cst_apply]
  have hm := mine x0 x1 r e
  unfold Scalar.select
  by_cases q : val_main_v18 (F := Ideal) x0 x1 (ix2 r e) = 1#1
  · refine (if_pos q).trans ?_
    rw [if_pos (hm.1 q)]
    refine congrArg x4 ?_
    funext a
    match a with
    | ⟨0, _⟩ => rfl
    | ⟨1, _⟩ => rfl
  · refine (if_neg q).trans ?_
    rw [if_neg fun h => q (hm.2 h)]
    exact Ideal.ofBits_zero_f32

/-- The product of a row with an expert's column. -/
theorem prod_apply (x2 : S25600x1024.Idx → EReal) (x3 : S2x16x1024x4096.Idx → EReal) (r : Fin 25600) (e : Fin 16) (q : Fin 4096) (j : S25600x16x4096.Idx)
    (h0 : (j 0).val = r.val) (h1 : (j 1).val = e.val) (h2 : (j 2).val = q.val) :
    val_main_v23 (F := Ideal) x2 x3 j = (∑ k : Fin 1024, x2 (ix2 r k) * x3 (ix4 (0 : Fin 2) e k q) : EReal) := by
  rw [val_main_v23_apply]
  refine Finset.sum_congr rfl fun k _ => ?_
  rw [val_main_v20_apply, val_main_v22_apply, val_main_v21_apply]
  refine congrArg₂ (fun a b : EReal => a * b) ?_ ?_
  · show x2 _ = x2 _
    refine congrArg x2 ?_
    funext a
    refine Fin.ext ?_
    match a with
    | ⟨0, _⟩ => exact h0
    | ⟨1, _⟩ => rfl
  · refine congrArg x3 ?_
    have he := e.isLt
    have hk := k.isLt
    have hq := q.isLt
    funext a
    refine Fin.ext ?_
    match a with
    | ⟨0, _⟩ => rfl
    | ⟨1, _⟩ => show (((j 1).val * 1024 + k.val) * 4096 + (j 2).val) / 4194304 % 16 = e.val; omega
    | ⟨2, _⟩ => show (((j 1).val * 1024 + k.val) * 4096 + (j 2).val) / 4096 % 1024 = k.val; omega
    | ⟨3, _⟩ => show (((j 1).val * 1024 + k.val) * 4096 + (j 2).val) % 4096 = q.val; omega

/-- The reference's result at any tables is what the kernel's is shown to be. -/
theorem result (T : Tabs) (x2 : S25600x1024.Idx → EReal) (x3 : S2x16x1024x4096.Idx → EReal) (x4 : S25600x1.Idx → EReal) (r : Fin 25600) (q : Fin 4096) :
    val_main_v27 (F := Ideal) T.e T.n x2 x3 x4 (ix2 r q) = G T x2 x3 x4 r q := by
  rw [val_main_v27_apply]
  have hz : (val_main_cst_0 (F := Ideal) (Shape.Idx.first h_S_) : EReal) = 0 := Ideal.ofBits_zero_f32
  rw [hz, zero_add]
  have hterm : ∀ e : Fin 16, val_main_v26 (F := Ideal) T.e T.n x2 x3 x4 (idx_main_v27 (ix2 r q) e)
      = ((if (T.e (tileOf r)).toNat = e.val ∧ ((r.val / 512 : ℕ) : ℤ) < (T.n (ix1 (0 : Fin 1))).toInt then x4 (ix2 r (0 : Fin 1)) else 0)
        * ∑ k : Fin 1024, x2 (ix2 r k) * x3 (ix4 (0 : Fin 2) e k q) : EReal) := fun e => by
    rw [val_main_v26_apply, gate_apply T.e T.n x4 r e _ rfl rfl, prod_apply x2 x3 r e q _ rfl rfl rfl]
    rfl
  rw [Finset.sum_congr rfl fun e _ => hterm e]
  unfold G
  by_cases hu : ((r.val / 512 : ℕ) : ℤ) < (T.n (ix1 (0 : Fin 1))).toInt
  · rw [if_pos hu, Finset.sum_eq_single (⟨(T.e (tileOf r)).toNat, T.lt _⟩ : Fin 16)]
    · rw [if_pos ⟨rfl, hu⟩]
    · intro e _ hne
      rw [if_neg fun h => hne (Fin.ext h.1.symm), zero_mul]
    · exact fun h => absurd (Finset.mem_univ _) h
  · rw [if_neg hu]
    refine Finset.sum_eq_zero fun e _ => ?_
    rw [if_neg fun h => hu h.2, zero_mul]

/-- Every run of the reference ends with the result at the stated values, the arguments unchanged. -/
theorem value (T : Tabs) (m : (ℓ : Loc nD τ sig) → Buf (Elt Ideal) ℓ) (ρ : Dev nD → PrngReg)
    (h0 : ∀ c : Dev nD, m ((c.tc : Thread nD τ).loc main_arg0) = T.e) (h1 : ∀ c : Dev nD, m ((c.tc : Thread nD τ).loc main_arg1) = T.n) :
    θ_run (defs (F := Ideal)) (onTc (τ := τ) (main (F := Ideal))) ⟨m, fun _ => 0, ρ⟩ (fun r => ∀ c : Dev nD,
      (r.2.mem ((c.tc : Thread nD τ).loc main_v27) : S25600x4096.Idx → EReal)
        = (fun i => G T (m ((c.tc : Thread nD τ).loc main_arg2)) (m ((c.tc : Thread nD τ).loc main_arg3)) (m ((c.tc : Thread nD τ).loc main_arg4)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨by
    refine (h c).1.trans ?_
    refine (val_main_v27_eq (F := Ideal) _ _ _ _ _).trans ?_
    rw [h0 c, h1 c]
    funext i
    conv_lhs => rw [eq_ix2 i]
    exact result T _ _ _ (i 0) (i 1), (h c).2⟩) (Cert.DownRefIdeal.Value.run (F := Ideal) m ρ)

/-- The frame of the reference: it ends, the arguments unchanged, the counters at zero. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => (h c).2, sem_eq_zero_of_no_sems (by decide) r.2⟩) (Cert.DownRefIdeal.Value.run (F := Ideal) m ρ)

end Cert.DownRefIdeal.Moe

end
-- ==== Proof.Tables.lean ====
/- The precondition read: an expert table with entries of the sixteen experts. -/
module

public import proofs.«01_k».proof.Proof.Gen.Pre_experts_named
public import proofs.«01_k».proof.Proof.Gen.Pre_experts_named_down
public import Idealize.ShloMosaic.Lib.ValueIdx

@[expose] public section

namespace Cert.Tables

open Idealize.ShloMosaic

/-- A word from zero to below sixteen, as signed comparisons state it, is a number below sixteen. -/
theorem small (v : BitVec 32) (h : IntOp.andi (IntOp.cmpi .sge v 0#32) (IntOp.cmpi .slt v 16#32) = 1#1) : v.toNat < 16 := by
  unfold IntOp.cmpi at h
  dsimp only at h
  have h1 : BitVec.sle 0#32 v = true := by
    revert h; cases BitVec.sle 0#32 v <;> cases BitVec.slt v 16#32 <;> decide
  have h2 : BitVec.slt v 16#32 = true := by
    revert h; cases BitVec.sle 0#32 v <;> cases BitVec.slt v 16#32 <;> decide
  rw [BitVec.sle_iff_toInt_le] at h1
  rw [BitVec.slt_iff_toInt_lt] at h2
  have e0 : (0#32 : BitVec 32).toInt = 0 := by decide
  have e16 : (16#32 : BitVec 32).toInt = 16 := by decide
  rw [e0] at h1
  rw [e16] at h2
  rw [BitVec.toInt_eq_toNat_cond] at h1 h2
  have hv := v.isLt
  split at h1 <;> omega

theorem up_lt {F : FTy → Type} [FloatOps F] (e : Cert.Pre_experts_named.S50.Idx → BitVec 32) (n) (x) (wg) (wu)
    (h : Cert.Pre_experts_named.fn (F := F) e n x wg wu = fun _ => 1#1) (j : Cert.Pre_experts_named.S50.Idx) : (e j).toNat < 16 :=
  small (e j) (congrFun h j)

theorem down_lt {F : FTy → Type} [FloatOps F] (e : Cert.Pre_experts_named_down.S50.Idx → BitVec 32) (n) (x) (w) (g)
    (h : Cert.Pre_experts_named_down.fn (F := F) e n x w g = fun _ => 1#1) (j : Cert.Pre_experts_named_down.S50.Idx) : (e j).toNat < 16 :=
  small (e j) (congrFun h j)

end Cert.Tables
-- ==== Proof.EvenPIdealProduct.lean ====
/- The input projection of the even layer on the prompt, entry by entry: the blocks of the product tile the whole product. -/
module

public import proofs.«01_k».proof.Proof.Gen.EvenPIdeal.Frame
public import Idealize.ShloMosaic.Lib.Pipeline.Value
public import Idealize.ShloMosaic.Lib.MatmulPlain
public import Idealize.ShloMosaic.PureOps.Ideal.Laws
public import Idealize.ShloMosaic.Lib.Pipeline.ValueKit.Basic

@[expose] public section

set_option maxRecDepth 16384

noncomputable section

namespace Cert.EvenPIdeal.Product

open Cert.EvenPIdeal Cert.EvenPIdeal.Gen
open Idealize.ShloMosaic
open Idealize.ShloMosaic.TcCoe
open Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The product of two blocks, entry by entry. -/
theorem dot_apply (x : Vec Ideal S512x4096 .bf16) (w : Vec Ideal S4096x1024 .bf16) (r : Fin 512) (q : Fin 1024) :
    matmul (φ₁ := .bf16) (φ₂ := .bf16) dot_S512x4096_S4096x1024_S512x1024_1_0_0_1_n_n none x w (constant (F := Ideal) S512x1024 .f32 0x00000000#32) (ix2 r q)
      = (∑ k : Fin 4096, x (ix2 r k) * w (ix2 k q) : EReal) := by
  have hd : dot_S512x4096_S4096x1024_S512x1024_1_0_0_1_n_n = DotDims.plain 512 4096 1024 := rfl
  rw [hd]
  refine (Ideal.matmul_plain_apply none x w _ r q).trans ?_
  show (Ideal.ofBits .f32 0x00000000#32 : EReal) + _ = _
  rw [Ideal.ofBits_zero_f32, zero_add]

/-- What one point leaves in its block. -/
theorem out_apply (x0 : Vec Ideal S512x4096 .bf16) (x1 : Vec Ideal S4096x1024 .bf16) (r : Fin 512) (q : Fin 1024) :
    out0_2 x0 x1 (ix2 r q) = (∑ k : Fin 4096, x0 (ix2 r k) * x1 (ix2 k q) : EReal) := by
  unfold out0_2
  rw [View.canon_unit_zero hz, View.ld_unit_zero hz, View.ld_unit_zero hz]
  unfold k0_pay1
  rw [shapeCast_self, shapeCast_self]
  exact dot_apply x0 x1 r q

/-- The coordinates of a point. -/
abbrev crd (t : Fin cfg0.N) : grid0.Coords := grid0.coords t
theorem crd_val0 (t : Fin cfg0.N) : ((crd t) 0).val = t.val / 16 % 12 := Pipeline.Grid.coords_val t 0 rfl rfl
theorem crd_val1 (t : Fin cfg0.N) : ((crd t) 1).val = t.val / 1 % 16 := Pipeline.Grid.coords_val t 1 rfl rfl

/-- The rows and columns a point's output block sits at. -/
def rowAt (t : Fin cfg0.N) (r : Fin 512) : Fin 8192 :=
  ⟨((crd t) 1).val * 512 + r.val, by have h : ((crd t) 1).val < 16 := ((crd t) 1).isLt; omega⟩
def colAt (t : Fin cfg0.N) (q : Fin 1024) : Fin 12288 :=
  ⟨((crd t) 0).val * 1024 + q.val, by have h : ((crd t) 0).val < 12 := ((crd t) 0).isLt; omega⟩

theorem block0 (i : grid0.Coords) : cc0_transform_0 i = ![(i 1).val, 0] := by
  have h1 : (i 1).val < 16 := (i 1).isLt
  show ![(BitVec.ofNat 32 (i 1).val).toNat, 0] = _
  rw [BitVec.toNat_ofNat, Nat.mod_eq_of_lt (by omega)]

/-- A point's block of rows, entry by entry. -/
theorem iblk0_apply (c : Dev nD) (t : Fin cfg0.N) (r : Fin 512) (k : Fin 4096) :
    iblk m c (0 : Fin 3) t (ix2 r k) = V m c main_v1 (ix2 (rowAt t r) k) := by
  show V m c main_v1 (((cfg0.win (0 : Fin 3)).rect t).emb (ix2 r k)) = _
  refine congrArg _ ?_
  funext a
  refine Fin.ext ?_
  rw [Pipeline.Window.rect_emb_val (cfg0.win (0 : Fin 3)) t (ix2 r k) a (hk := rfl)]
  have hb : (cfg0.win (0 : Fin 3)).index t a = (![((crd t) 1).val, 0] : Fin 2 → ℕ) a := congrFun (block0 (crd t)) a
  rw [hb]
  match a with
  | ⟨0, _⟩ => rfl
  | ⟨1, _⟩ => show 0 * 4096 + k.val = k.val; omega

theorem block1 (i : grid0.Coords) : cc0_transform_1 i = ![0, (i 0).val] := by
  have h0 : (i 0).val < 12 := (i 0).isLt
  show ![0, (BitVec.ofNat 32 (i 0).val).toNat] = _
  rw [BitVec.toNat_ofNat, Nat.mod_eq_of_lt (by omega)]

theorem block2 (i : grid0.Coords) : cc0_transform_2 i = ![(i 1).val, (i 0).val] := by
  have h1 : (i 1).val < 16 := (i 1).isLt
  have h0 : (i 0).val < 12 := (i 0).isLt
  show ![(BitVec.ofNat 32 (i 1).val).toNat, (BitVec.ofNat 32 (i 0).val).toNat] = _
  rw [BitVec.toNat_ofNat, BitVec.toNat_ofNat, Nat.mod_eq_of_lt (by omega), Nat.mod_eq_of_lt (by omega)]

/-- A point's block of weights, entry by entry. -/
theorem iblk1_apply (c : Dev nD) (t : Fin cfg0.N) (k : Fin 4096) (q : Fin 1024) :
    iblk m c (1 : Fin 3) t (ix2 k q) = V m c main_v2 (ix2 k (colAt t q)) := by
  show V m c main_v2 (((cfg0.win (1 : Fin 3)).rect t).emb (ix2 k q)) = _
  refine congrArg _ ?_
  funext a
  refine Fin.ext ?_
  rw [Pipeline.Window.rect_emb_val (cfg0.win (1 : Fin 3)) t (ix2 k q) a (hk := rfl)]
  have hb : (cfg0.win (1 : Fin 3)).index t a = (![0, ((crd t) 0).val] : Fin 2 → ℕ) a := congrFun (block1 (crd t)) a
  rw [hb]
  match a with
  | ⟨0, _⟩ => show 0 * 4096 + k.val = k.val; omega
  | ⟨1, _⟩ => rfl

/-- The product of two arrays, as an array. -/
def prodOf (x : S8192x4096.Idx → EReal) (w : S4096x12288.Idx → EReal) : S8192x12288.Idx → EReal := fun i =>
  ∑ k : Fin 4096, x (ix2 (i 0) k) * w (ix2 k (i 1))

/-- What the region leaves: the product of its two arrays. -/
abbrev result (c : Dev nD) : S8192x12288.Idx → EReal := prodOf (V m c main_v1) (V m c main_v2)

/-- A point's output block, entry by entry. -/
theorem out_eq (c : Dev nD) (t : Fin cfg0.N) (r : Fin 512) (q : Fin 1024) :
    out0_2 (iblk m c 0 t) (iblk m c 1 t) (ix2 r q) = result m c (ix2 (rowAt t r) (colAt t q)) := by
  refine (out_apply _ _ r q).trans (Finset.sum_congr rfl fun k _ => ?_)
  exact congrArg₂ (fun a b : EReal => a * b) (iblk0_apply m c t r k) (iblk1_apply m c t k q)

theorem emb2 (t : Fin cfg0.N) (y : S512x1024.Idx) :
    ((cfg0.win (2 : Fin 3)).rect t).emb y = ix2 (rowAt t (y 0)) (colAt t (y 1)) := by
  funext a
  refine Fin.ext ?_
  rw [Pipeline.Window.rect_emb_val (cfg0.win (2 : Fin 3)) t y a (hk := rfl)]
  have hb : (cfg0.win (2 : Fin 3)).index t a = (![((crd t) 1).val, ((crd t) 0).val] : Fin 2 → ℕ) a := congrFun (block2 (crd t)) a
  rw [hb]
  match a with
  | ⟨0, _⟩ => rfl
  | ⟨1, _⟩ => rfl

theorem flushed_eq (c : Dev nD) (t : Fin cfg0.N) :
    (dats m 0 c).flushed (2 : Fin 3) t = ((cfg0.win (2 : Fin 3)).blk t).view.read (Elt Ideal) (result m c) := by
  have ha := after0_2 m c t
  show (cfg0.win (2 : Fin 3)).cut (grid0.coords t) ((dats m 0 c).after (2 : Fin 3) t) = _
  rw [ha]
  funext y
  show out0_2 (iblk m c 0 t) (iblk m c 1 t) y = result m c (((cfg0.win (2 : Fin 3)).rect t).emb y)
  rw [emb2]
  conv_lhs => rw [eq_ix2 y]
  exact out_eq m c t (y 0) (y 1)

/-- The point whose block holds an entry of the result. -/
def pointOf (i : S8192x12288.Idx) : Fin cfg0.N :=
  ⟨(i 1).val / 1024 * 16 + (i 0).val / 512, by
    show _ < 192
    have h0 : (i 0).val < 8192 := (i 0).isLt; have h1 : (i 1).val < 12288 := (i 1).isLt; omega⟩

theorem covered (i : S8192x12288.Idx) : i ∈ ((cfg0.win (2 : Fin 3)).blk (pointOf i)).view.set := by
  have h0 : (i 0).val < 8192 := (i 0).isLt
  have h1 : (i 1).val < 12288 := (i 1).isLt
  have e0 : ((crd (pointOf i)) 0).val = (i 1).val / 1024 := by
    rw [crd_val0]; unfold pointOf; dsimp only; omega
  have e1 : ((crd (pointOf i)) 1).val = (i 0).val / 512 := by
    rw [crd_val1]; unfold pointOf; dsimp only; omega
  have hy : ((cfg0.win (2 : Fin 3)).rect (pointOf i)).emb
      (ix2 (⟨(i 0).val % 512, by omega⟩ : Fin 512) (⟨(i 1).val % 1024, by omega⟩ : Fin 1024)) = i := by
    rw [emb2]
    funext a
    refine Fin.ext ?_
    match a with
    | ⟨0, _⟩ => show ((crd (pointOf i)) 1).val * 512 + (i 0).val % 512 = (i 0).val; omega
    | ⟨1, _⟩ => show ((crd (pointOf i)) 0).val * 1024 + (i 1).val % 1024 = (i 1).val; omega
  exact Finset.mem_map.2 ⟨_, Finset.mem_univ _, hy⟩

/-- The pipeline leaves the product in its array. -/
theorem final (c : Dev nD) : (dats m 0 c).arrAt (2 : Fin 3) cfg0.N = result m c :=
  (dats m 0 c).arrAt_eq_of_cover (2 : Fin 3) (result m c) (fun t _ => flushed_eq m c t)
    fun i => ⟨pointOf i, flush0_2 (pointOf i), covered i⟩

end Cert.EvenPIdeal.Product

end
-- ==== Proof.EvenPValue.lean ====
/- The input projection of the even layer on the prompt, cut into its heads, and its reference end with the same arrays. -/
module

public import proofs.«01_k».proof.Proof.EvenPIdealProduct
public import proofs.«01_k».proof.Proof.Gen.EvenPRefIdeal.Read
public import proofs.«01_k».proof.Proof.Gen.EvenPRefIdeal.Run
public import Idealize.ShloMosaic.Lib.StableHlo.Run
public import Idealize.ShloMosaic.Init
public import Idealize.ShloMosaic.Adequacy

@[expose] public section

set_option maxRecDepth 16384

noncomputable section

open Idealize.ShloMosaic
open Idealize.ShloMosaic.TcCoe
open Idealize.SL.Sem
open Idealize.ShloMosaic.ValueIdx

namespace Cert.EvenPIdeal.Product

open Cert.EvenPIdeal Cert.EvenPIdeal.Gen

variable (m : (ℓ : Loc nD τ sig) → Buf (Elt Ideal) ℓ) (ρ : Dev nD → PrngReg)

/-- The projection of rows kept in 1 groups of 8192. -/
def proj (x : S1x8192x4096.Idx → EReal) (w : S4096x12288.Idx → EReal) : Vec Ideal S1x8192x12288 .f32 := fun i =>
  (∑ k : Fin 4096, x (ix3 (i 0) (i 1) k) * w (ix2 k (i 2)) : EReal)

/-- One of the projection's six parts, cut into heads. -/
abbrev heads (p : Vec Ideal S1x8192x12288 .f32) (off : ℕ) (h : S1x8192x12288.Slices ![0, 0, off] S1x8192x2048) : Vec Ideal S1x8192x16x128 .f32 :=
  shapeCast S1x8192x16x128 (extractStridedSlice S1x8192x2048 ![0, 0, off] p h) shapeCasts_S1x8192x2048_S1x8192x16x128

/-- The rows the region finds are the argument's, laid end to end; its weights are the argument's. -/
theorem V_rows (c : Dev nD) : (V m c main_v1 : S8192x4096.Idx → EReal)
    = shapeCast S8192x4096 (m ((c.tc : Thread nD τ).loc main_arg0)) shapeCasts_S1x8192x4096_S8192x4096 := by
  show StableHlo.after (List.flatten [hostOps0]) _ _ = _
  simp only [List.flatten_cons, List.flatten_nil, List.append_nil]
  after_results
  rfl
theorem V_weights (c : Dev nD) : (V m c main_v2 : S4096x12288.Idx → EReal) = m ((c.tc : Thread nD τ).loc main_arg1) := by
  show StableHlo.after (List.flatten [hostOps0]) _ _ = _
  simp only [List.flatten_cons, List.flatten_nil, List.append_nil]
  after_results
  rfl

/-- The row an entry's product is taken from, among all rows laid end to end. -/
def rowOf (i : S1x8192x12288.Idx) : Fin 8192 :=
  ⟨(i 0).val * 8192 + (i 1).val, by have h0 : (i 0).val < 1 := (i 0).isLt; have h1 : (i 1).val < 8192 := (i 1).isLt; omega⟩

/-- The product of the rows laid end to end, cut back into groups, is the projection. -/
theorem regrouped (x : S1x8192x4096.Idx → EReal) (w : S4096x12288.Idx → EReal) :
    (shapeCast S1x8192x12288 (prodOf (shapeCast S8192x4096 x shapeCasts_S1x8192x4096_S8192x4096) w) shapeCasts_S8192x12288_S1x8192x12288 : Vec Ideal S1x8192x12288 .f32)
      = proj x w := by
  funext i
  have h2 : (i 2).val < 12288 := (i 2).isLt
  refine (shapeCast_apply _ shapeCasts_S8192x12288_S1x8192x12288 i (ix2 (rowOf i) (i 2)) ?_).trans ?_
  · rw [Shape.rowMajor_val_two, Shape.rowMajor_val_three]
    rfl
  · unfold prodOf proj
    refine Finset.sum_congr rfl fun k _ => congrArg (fun a : EReal => a * w (ix2 k (i 2))) ?_
    refine shapeCast_apply x shapeCasts_S1x8192x4096_S8192x4096 (ix2 (rowOf i) k) (ix3 (i 0) (i 1) k) ?_
    rw [Shape.rowMajor_val_two, Shape.rowMajor_val_three]
    rfl

/-- The projection of a memory's arguments. -/
abbrev projAt (c : Dev nD) : Vec Ideal S1x8192x12288 .f32 := proj (m ((c.tc : Thread nD τ).loc main_arg0)) (m ((c.tc : Thread nD τ).loc main_arg1))

/-- What the region leaves, cut back into groups. -/
theorem region (c : Dev nD) : (shapeCast S1x8192x12288 (Pipeline.withArrays (cfgs 0).spec c (V0 m c) (fun w => (dats m 0 c).arrAt w (cfgs 0).N) (Proc.devRef .tc main_v3)) shapeCasts_S8192x12288_S1x8192x12288 : Vec Ideal S1x8192x12288 .f32)
    = projAt m c := by
  have e : Pipeline.withArrays (cfgs 0).spec c (V0 m c) (fun w => (dats m 0 c).arrAt w (cfgs 0).N) (Proc.devRef .tc main_v3) = result m c :=
    (Pipeline.withArrays_arr (cfgs 0).spec (by decide) c (V0 m c) (fun w => (dats m 0 c).arrAt w (cfgs 0).N) (2 : Fin 3)).trans (final m c)
  rw [e]
  unfold result
  rw [V_rows, V_weights]
  exact regrouped _ _

section
variable (U : Valuation τ sig (Elt Ideal))
/-- What each operation after the region leaves, of what it finds. -/
theorem tail_v4 : StableHlo.after hostOps1 U (Proc.devRef .tc main_v4) = (shapeCast S1x8192x12288 (U (Proc.devRef .tc main_v3)) shapeCasts_S8192x12288_S1x8192x12288) := by
  after_results <;> rfl
theorem tail_v6 : StableHlo.after hostOps1 U (Proc.devRef .tc main_v6) = heads (shapeCast S1x8192x12288 (U (Proc.devRef .tc main_v3)) shapeCasts_S8192x12288_S1x8192x12288) 2048 slices_S1x8192x12288_S1x8192x2048_0_0_2048 := by
  after_results <;> rfl
theorem tail_v8 : StableHlo.after hostOps1 U (Proc.devRef .tc main_v8) = heads (shapeCast S1x8192x12288 (U (Proc.devRef .tc main_v3)) shapeCasts_S8192x12288_S1x8192x12288) 4096 slices_S1x8192x12288_S1x8192x2048_0_0_4096 := by
  after_results <;> rfl
theorem tail_v11 : StableHlo.after hostOps1 U (Proc.devRef .tc main_v11) = shapeCast S1x512x16x128 (extractStridedSlice S1x512x2048 ![0, 7680, 0] (extractStridedSlice S1x8192x2048 ![0, 0, 8192] (shapeCast S1x8192x12288 (U (Proc.devRef .tc main_v3)) shapeCasts_S8192x12288_S1x8192x12288) slices_S1x8192x12288_S1x8192x2048_0_0_8192) slices_S1x8192x2048_S1x512x2048_0_7680_0) shapeCasts_S1x512x2048_S1x512x16x128 := by
  after_results <;> rfl
theorem tail_v14 : StableHlo.after hostOps1 U (Proc.devRef .tc main_v14) = shapeCast S1x512x16x128 (extractStridedSlice S1x512x2048 ![0, 7680, 0] (extractStridedSlice S1x8192x2048 ![0, 0, 10240] (shapeCast S1x8192x12288 (U (Proc.devRef .tc main_v3)) shapeCasts_S8192x12288_S1x8192x12288) slices_S1x8192x12288_S1x8192x2048_0_0_10240) slices_S1x8192x2048_S1x512x2048_0_7680_0) shapeCasts_S1x512x2048_S1x512x16x128 := by
  after_results <;> rfl
end

/-- The slice of the last rows of an array cut into heads. -/
theorem slices_last : S1x8192x16x128.Slices ![0, 7680, 0, 0] S1x512x16x128 := by decide

/-- One of the projection's parts, cut into heads, its last rows. -/
abbrev lastHeads (p : Vec Ideal S1x8192x12288 .f32) (off : ℕ) (h : S1x8192x12288.Slices ![0, 0, off] S1x8192x2048) : Vec Ideal S1x512x16x128 .f32 :=
  extractStridedSlice S1x512x16x128 ![0, 7680, 0, 0] (heads p off h) slices_last

/-- The last rows cut into heads are the last rows of what is cut into heads. -/
theorem last_rows (y : Vec Ideal S1x8192x2048 .f32) :
    shapeCast S1x512x16x128 (extractStridedSlice S1x512x2048 ![0, 7680, 0] y slices_S1x8192x2048_S1x512x2048_0_7680_0) shapeCasts_S1x512x2048_S1x512x16x128
      = extractStridedSlice S1x512x16x128 ![0, 7680, 0, 0] (shapeCast S1x8192x16x128 y shapeCasts_S1x8192x2048_S1x8192x16x128) slices_last := by
  funext i
  have h0 : (i 0).val < 1 := (i 0).isLt
  have h1 : (i 1).val < 512 := (i 1).isLt
  have h2 : (i 2).val < 16 := (i 2).isLt
  have h3 : (i 3).val < 128 := (i 3).isLt
  let a : Fin 1 := ⟨(i 0).val, h0⟩
  let b : Fin 512 := ⟨(i 1).val, h1⟩
  let b' : Fin 8192 := ⟨7680 + (i 1).val, by omega⟩
  let d : Fin 2048 := ⟨(i 2).val * 128 + (i 3).val, by omega⟩
  have hl : shapeCast S1x512x16x128 (extractStridedSlice S1x512x2048 ![0, 7680, 0] y slices_S1x8192x2048_S1x512x2048_0_7680_0) shapeCasts_S1x512x2048_S1x512x16x128 i = y (ix3 a b' d) := by
    refine (shapeCast_apply _ shapeCasts_S1x512x2048_S1x512x16x128 i (ix3 a b d) ?_).trans ?_
    · rw [Shape.rowMajor_val_three, Shape.rowMajor_val_four]
      show ((i 0).val * 512 + (i 1).val) * 2048 + ((i 2).val * 128 + (i 3).val) = (((i 0).val * 512 + (i 1).val) * 16 + (i 2).val) * 128 + (i 3).val
      omega
    · refine extractStridedSlice_apply ![0, 7680, 0] y slices_S1x8192x2048_S1x512x2048_0_7680_0 (ix3 a b d) (ix3 a b' d) fun e => ?_
      match e with
      | ⟨0, _⟩ => exact (Nat.zero_add _).symm
      | ⟨1, _⟩ => rfl
      | ⟨2, _⟩ => exact (Nat.zero_add _).symm
  have hr : extractStridedSlice S1x512x16x128 ![0, 7680, 0, 0] (shapeCast S1x8192x16x128 y shapeCasts_S1x8192x2048_S1x8192x16x128) slices_last i = y (ix3 a b' d) := by
    refine (extractStridedSlice_apply ![0, 7680, 0, 0] _ slices_last i (ix4 a b' (⟨(i 2).val, h2⟩ : Fin 16) (⟨(i 3).val, h3⟩ : Fin 128)) fun e => ?_).trans ?_
    · match e with
      | ⟨0, _⟩ => exact (Nat.zero_add _).symm
      | ⟨1, _⟩ => rfl
      | ⟨2, _⟩ => exact (Nat.zero_add _).symm
      | ⟨3, _⟩ => exact (Nat.zero_add _).symm
    · refine shapeCast_apply y shapeCasts_S1x8192x2048_S1x8192x16x128 _ (ix3 a b' d) ?_
      rw [Shape.rowMajor_val_three, Shape.rowMajor_val_four]
      show ((i 0).val * 8192 + (7680 + (i 1).val)) * 2048 + ((i 2).val * 128 + (i 3).val) = (((i 0).val * 8192 + (7680 + (i 1).val)) * 16 + (i 2).val) * 128 + (i 3).val
      omega
  exact hl.trans hr.symm

/-- Every run ends with the projection and its parts. -/
theorem value : θ_run (defs (F := Ideal)) (onTc (τ := τ) (main (F := Ideal))) ⟨m, fun _ => 0, ρ⟩ (fun r => ∀ c : Dev nD,
      r.2.mem ((c.tc : Thread nD τ).loc main_v4) = (projAt m c)
      ∧ r.2.mem ((c.tc : Thread nD τ).loc main_v6) = heads (projAt m c) 2048 slices_S1x8192x12288_S1x8192x2048_0_0_2048
      ∧ r.2.mem ((c.tc : Thread nD τ).loc main_v8) = heads (projAt m c) 4096 slices_S1x8192x12288_S1x8192x2048_0_0_4096
      ∧ r.2.mem ((c.tc : Thread nD τ).loc main_v11) = lastHeads (projAt m c) 8192 slices_S1x8192x12288_S1x8192x2048_0_0_8192
      ∧ r.2.mem ((c.tc : Thread nD τ).loc main_v14) = lastHeads (projAt m c) 10240 slices_S1x8192x12288_S1x8192x2048_0_0_10240
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨by
    refine ((h.1 c).2 main_v4 (Pipeline.mem_restRefs_of main_v4 (by decide) (by decide))).trans ?_
    unfold Pipeline.afterTail₀
    simp only [List.flatten_cons, List.flatten_nil, List.append_nil]
    refine (tail_v4 _).trans ?_
    exact region m c,
    by
    refine ((h.1 c).2 main_v6 (Pipeline.mem_restRefs_of main_v6 (by decide) (by decide))).trans ?_
    unfold Pipeline.afterTail₀
    simp only [List.flatten_cons, List.flatten_nil, List.append_nil]
    refine (tail_v6 _).trans ?_
    exact congrArg (fun p => heads p 2048 slices_S1x8192x12288_S1x8192x2048_0_0_2048) (region m c),
    by
    refine ((h.1 c).2 main_v8 (Pipeline.mem_restRefs_of main_v8 (by decide) (by decide))).trans ?_
    unfold Pipeline.afterTail₀
    simp only [List.flatten_cons, List.flatten_nil, List.append_nil]
    refine (tail_v8 _).trans ?_
    exact congrArg (fun p => heads p 4096 slices_S1x8192x12288_S1x8192x2048_0_0_4096) (region m c),
    by
    refine ((h.1 c).2 main_v11 (Pipeline.mem_restRefs_of main_v11 (by decide) (by decide))).trans ?_
    unfold Pipeline.afterTail₀
    simp only [List.flatten_cons, List.flatten_nil, List.append_nil]
    refine (tail_v11 _).trans ?_
    exact (last_rows _).trans (congrArg (fun p => lastHeads p 8192 slices_S1x8192x12288_S1x8192x2048_0_0_8192) (region m c)),
    by
    refine ((h.1 c).2 main_v14 (Pipeline.mem_restRefs_of main_v14 (by decide) (by decide))).trans ?_
    unfold Pipeline.afterTail₀
    simp only [List.flatten_cons, List.flatten_nil, List.append_nil]
    refine (tail_v14 _).trans ?_
    exact (last_rows _).trans (congrArg (fun p => lastHeads p 10240 slices_S1x8192x12288_S1x8192x2048_0_0_10240) (region m c)), h.2 c⟩) (θ_run_and (run_main (F := Ideal) m ρ) (unchanged (F := Ideal) m ρ))

end Cert.EvenPIdeal.Product

namespace Cert.EvenPRefIdeal.Product

open Cert.EvenPRefIdeal Cert.EvenPRefIdeal.Gen Cert.EvenPRefIdeal.Read

/-- The reference's projection, entry by entry. -/
theorem result (x0 : S1x8192x4096.Idx → EReal) (x1 : S4096x12288.Idx → EReal) :
    val_main_v0 (F := Ideal) x0 x1 = Cert.EvenPIdeal.Product.proj x0 x1 := by
  funext i
  rw [val_main_v0_apply]
  unfold Cert.EvenPIdeal.Product.proj
  refine Finset.sum_congr rfl fun k _ => ?_
  have hl : lidx_main_v0 i k = ix3 (i 0) (i 1) k := by funext a; match a with | ⟨0, _⟩ => rfl | ⟨1, _⟩ => rfl | ⟨2, _⟩ => rfl
  have hr : ridx_main_v0 i k = ix2 k (i 2) := by funext a; match a with | ⟨0, _⟩ => rfl | ⟨1, _⟩ => rfl
  rw [hl, hr]
  rfl

/-- Every run of the reference ends with the projection and its parts. -/
theorem value (m : (ℓ : Loc nD τ sig) → Buf (Elt Ideal) ℓ) (ρ : Dev nD → PrngReg) (P : Dev nD → Vec Ideal S1x8192x12288 .f32)
    (hP : ∀ c, P c = Cert.EvenPIdeal.Product.proj (m ((c.tc : Thread nD τ).loc main_arg0)) (m ((c.tc : Thread nD τ).loc main_arg1))) :
    θ_run (defs (F := Ideal)) (onTc (τ := τ) (main (F := Ideal))) ⟨m, fun _ => 0, ρ⟩ (fun r => ∀ c : Dev nD,
      r.2.mem ((c.tc : Thread nD τ).loc main_v0) = (P c)
      ∧ r.2.mem ((c.tc : Thread nD τ).loc main_v7) = Cert.EvenPIdeal.Product.heads (P c) 2048 Cert.EvenPIdeal.Gen.slices_S1x8192x12288_S1x8192x2048_0_0_2048
      ∧ r.2.mem ((c.tc : Thread nD τ).loc main_v8) = Cert.EvenPIdeal.Product.heads (P c) 4096 Cert.EvenPIdeal.Gen.slices_S1x8192x12288_S1x8192x2048_0_0_4096
      ∧ r.2.mem ((c.tc : Thread nD τ).loc main_v11) = Cert.EvenPIdeal.Product.lastHeads (P c) 8192 Cert.EvenPIdeal.Gen.slices_S1x8192x12288_S1x8192x2048_0_0_8192
      ∧ r.2.mem ((c.tc : Thread nD τ).loc main_v12) = Cert.EvenPIdeal.Product.lastHeads (P c) 10240 Cert.EvenPIdeal.Gen.slices_S1x8192x12288_S1x8192x2048_0_0_10240
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => by
    have e := ((val_main_v0_eq (F := Ideal) _ _).trans (result (m ((c.tc : Thread nD τ).loc main_arg0)) (m ((c.tc : Thread nD τ).loc main_arg1)))).trans (hP c).symm
    have hc := h c
    rw [e] at hc
    exact hc) (Cert.EvenPRefIdeal.Value.run (F := Ideal) m ρ)

/-- The frame of the reference: it ends, the arguments unchanged, the counters at zero. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => (h c).2.2.2.2.2, sem_eq_zero_of_no_sems (by decide) r.2⟩) (Cert.EvenPRefIdeal.Value.run (F := Ideal) m ρ)

end Cert.EvenPRefIdeal.Product

end
-- ==== Proof.EvenSIdealProduct.lean ====
/- The input projection of the even layer on the samples, entry by entry: the blocks of the product tile the whole product. -/
module

public import proofs.«01_k».proof.Proof.Gen.EvenSIdeal.Frame
public import Idealize.ShloMosaic.Lib.Pipeline.Value
public import Idealize.ShloMosaic.Lib.MatmulPlain
public import Idealize.ShloMosaic.PureOps.Ideal.Laws
public import Idealize.ShloMosaic.Lib.Pipeline.ValueKit.Basic

@[expose] public section

set_option maxRecDepth 16384

noncomputable section

namespace Cert.EvenSIdeal.Product

open Cert.EvenSIdeal Cert.EvenSIdeal.Gen
open Idealize.ShloMosaic
open Idealize.ShloMosaic.TcCoe
open Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The product of two blocks, entry by entry. -/
theorem dot_apply (x : Vec Ideal S512x4096 .bf16) (w : Vec Ideal S4096x1024 .bf16) (r : Fin 512) (q : Fin 1024) :
    matmul (φ₁ := .bf16) (φ₂ := .bf16) dot_S512x4096_S4096x1024_S512x1024_1_0_0_1_n_n none x w (constant (F := Ideal) S512x1024 .f32 0x00000000#32) (ix2 r q)
      = (∑ k : Fin 4096, x (ix2 r k) * w (ix2 k q) : EReal) := by
  have hd : dot_S512x4096_S4096x1024_S512x1024_1_0_0_1_n_n = DotDims.plain 512 4096 1024 := rfl
  rw [hd]
  refine (Ideal.matmul_plain_apply none x w _ r q).trans ?_
  show (Ideal.ofBits .f32 0x00000000#32 : EReal) + _ = _
  rw [Ideal.ofBits_zero_f32, zero_add]

/-- What one point leaves in its block. -/
theorem out_apply (x0 : Vec Ideal S512x4096 .bf16) (x1 : Vec Ideal S4096x1024 .bf16) (r : Fin 512) (q : Fin 1024) :
    out0_2 x0 x1 (ix2 r q) = (∑ k : Fin 4096, x0 (ix2 r k) * x1 (ix2 k q) : EReal) := by
  unfold out0_2
  rw [View.canon_unit_zero hz, View.ld_unit_zero hz, View.ld_unit_zero hz]
  unfold k0_pay1
  rw [shapeCast_self, shapeCast_self]
  exact dot_apply x0 x1 r q

/-- The coordinates of a point. -/
abbrev crd (t : Fin cfg0.N) : grid0.Coords := grid0.coords t
theorem crd_val0 (t : Fin cfg0.N) : ((crd t) 0).val = t.val / 1 % 12 := Pipeline.Grid.coords_val t 0 rfl rfl
theorem crd_val1 (t : Fin cfg0.N) : ((crd t) 1).val = t.val / 1 % 1 := Pipeline.Grid.coords_val t 1 rfl rfl

/-- The rows and columns a point's output block sits at. -/
def rowAt (t : Fin cfg0.N) (r : Fin 512) : Fin 512 :=
  ⟨((crd t) 1).val * 512 + r.val, by have h : ((crd t) 1).val < 1 := ((crd t) 1).isLt; omega⟩
def colAt (t : Fin cfg0.N) (q : Fin 1024) : Fin 12288 :=
  ⟨((crd t) 0).val * 1024 + q.val, by have h : ((crd t) 0).val < 12 := ((crd t) 0).isLt; omega⟩

theorem block0 (i : grid0.Coords) : cc0_transform_0 i = ![(i 1).val, 0] := by
  have h1 : (i 1).val < 1 := (i 1).isLt
  show ![(BitVec.ofNat 32 (i 1).val).toNat, 0] = _
  rw [BitVec.toNat_ofNat, Nat.mod_eq_of_lt (by omega)]

/-- A point's block of rows, entry by entry. -/
theorem iblk0_apply (c : Dev nD) (t : Fin cfg0.N) (r : Fin 512) (k : Fin 4096) :
    iblk m c (0 : Fin 3) t (ix2 r k) = V m c main_v1 (ix2 (rowAt t r) k) := by
  show V m c main_v1 (((cfg0.win (0 : Fin 3)).rect t).emb (ix2 r k)) = _
  refine congrArg _ ?_
  funext a
  refine Fin.ext ?_
  rw [Pipeline.Window.rect_emb_val (cfg0.win (0 : Fin 3)) t (ix2 r k) a (hk := rfl)]
  have hb : (cfg0.win (0 : Fin 3)).index t a = (![((crd t) 1).val, 0] : Fin 2 → ℕ) a := congrFun (block0 (crd t)) a
  rw [hb]
  match a with
  | ⟨0, _⟩ => rfl
  | ⟨1, _⟩ => show 0 * 4096 + k.val = k.val; omega

theorem block1 (i : grid0.Coords) : cc0_transform_1 i = ![0, (i 0).val] := by
  have h0 : (i 0).val < 12 := (i 0).isLt
  show ![0, (BitVec.ofNat 32 (i 0).val).toNat] = _
  rw [BitVec.toNat_ofNat, Nat.mod_eq_of_lt (by omega)]

theorem block2 (i : grid0.Coords) : cc0_transform_2 i = ![(i 1).val, (i 0).val] := by
  have h1 : (i 1).val < 1 := (i 1).isLt
  have h0 : (i 0).val < 12 := (i 0).isLt
  show ![(BitVec.ofNat 32 (i 1).val).toNat, (BitVec.ofNat 32 (i 0).val).toNat] = _
  rw [BitVec.toNat_ofNat, BitVec.toNat_ofNat, Nat.mod_eq_of_lt (by omega), Nat.mod_eq_of_lt (by omega)]

/-- A point's block of weights, entry by entry. -/
theorem iblk1_apply (c : Dev nD) (t : Fin cfg0.N) (k : Fin 4096) (q : Fin 1024) :
    iblk m c (1 : Fin 3) t (ix2 k q) = V m c main_v2 (ix2 k (colAt t q)) := by
  show V m c main_v2 (((cfg0.win (1 : Fin 3)).rect t).emb (ix2 k q)) = _
  refine congrArg _ ?_
  funext a
  refine Fin.ext ?_
  rw [Pipeline.Window.rect_emb_val (cfg0.win (1 : Fin 3)) t (ix2 k q) a (hk := rfl)]
  have hb : (cfg0.win (1 : Fin 3)).index t a = (![0, ((crd t) 0).val] : Fin 2 → ℕ) a := congrFun (block1 (crd t)) a
  rw [hb]
  match a with
  | ⟨0, _⟩ => show 0 * 4096 + k.val = k.val; omega
  | ⟨1, _⟩ => rfl

/-- The product of two arrays, as an array. -/
def prodOf (x : S512x4096.Idx → EReal) (w : S4096x12288.Idx → EReal) : S512x12288.Idx → EReal := fun i =>
  ∑ k : Fin 4096, x (ix2 (i 0) k) * w (ix2 k (i 1))

/-- What the region leaves: the product of its two arrays. -/
abbrev result (c : Dev nD) : S512x12288.Idx → EReal := prodOf (V m c main_v1) (V m c main_v2)

/-- A point's output block, entry by entry. -/
theorem out_eq (c : Dev nD) (t : Fin cfg0.N) (r : Fin 512) (q : Fin 1024) :
    out0_2 (iblk m c 0 t) (iblk m c 1 t) (ix2 r q) = result m c (ix2 (rowAt t r) (colAt t q)) := by
  refine (out_apply _ _ r q).trans (Finset.sum_congr rfl fun k _ => ?_)
  exact congrArg₂ (fun a b : EReal => a * b) (iblk0_apply m c t r k) (iblk1_apply m c t k q)

theorem emb2 (t : Fin cfg0.N) (y : S512x1024.Idx) :
    ((cfg0.win (2 : Fin 3)).rect t).emb y = ix2 (rowAt t (y 0)) (colAt t (y 1)) := by
  funext a
  refine Fin.ext ?_
  rw [Pipeline.Window.rect_emb_val (cfg0.win (2 : Fin 3)) t y a (hk := rfl)]
  have hb : (cfg0.win (2 : Fin 3)).index t a = (![((crd t) 1).val, ((crd t) 0).val] : Fin 2 → ℕ) a := congrFun (block2 (crd t)) a
  rw [hb]
  match a with
  | ⟨0, _⟩ => rfl
  | ⟨1, _⟩ => rfl

theorem flushed_eq (c : Dev nD) (t : Fin cfg0.N) :
    (dats m 0 c).flushed (2 : Fin 3) t = ((cfg0.win (2 : Fin 3)).blk t).view.read (Elt Ideal) (result m c) := by
  have ha := after0_2 m c t
  show (cfg0.win (2 : Fin 3)).cut (grid0.coords t) ((dats m 0 c).after (2 : Fin 3) t) = _
  rw [ha]
  funext y
  show out0_2 (iblk m c 0 t) (iblk m c 1 t) y = result m c (((cfg0.win (2 : Fin 3)).rect t).emb y)
  rw [emb2]
  conv_lhs => rw [eq_ix2 y]
  exact out_eq m c t (y 0) (y 1)

/-- The point whose block holds an entry of the result. -/
def pointOf (i : S512x12288.Idx) : Fin cfg0.N :=
  ⟨(i 1).val / 1024 * 1 + (i 0).val / 512, by
    show _ < 12
    have h0 : (i 0).val < 512 := (i 0).isLt; have h1 : (i 1).val < 12288 := (i 1).isLt; omega⟩

theorem covered (i : S512x12288.Idx) : i ∈ ((cfg0.win (2 : Fin 3)).blk (pointOf i)).view.set := by
  have h0 : (i 0).val < 512 := (i 0).isLt
  have h1 : (i 1).val < 12288 := (i 1).isLt
  have e0 : ((crd (pointOf i)) 0).val = (i 1).val / 1024 := by
    rw [crd_val0]; unfold pointOf; dsimp only; omega
  have e1 : ((crd (pointOf i)) 1).val = (i 0).val / 512 := by
    rw [crd_val1]; unfold pointOf; dsimp only; omega
  have hy : ((cfg0.win (2 : Fin 3)).rect (pointOf i)).emb
      (ix2 (⟨(i 0).val % 512, by omega⟩ : Fin 512) (⟨(i 1).val % 1024, by omega⟩ : Fin 1024)) = i := by
    rw [emb2]
    funext a
    refine Fin.ext ?_
    match a with
    | ⟨0, _⟩ => show ((crd (pointOf i)) 1).val * 512 + (i 0).val % 512 = (i 0).val; omega
    | ⟨1, _⟩ => show ((crd (pointOf i)) 0).val * 1024 + (i 1).val % 1024 = (i 1).val; omega
  exact Finset.mem_map.2 ⟨_, Finset.mem_univ _, hy⟩

/-- The pipeline leaves the product in its array. -/
theorem final (c : Dev nD) : (dats m 0 c).arrAt (2 : Fin 3) cfg0.N = result m c :=
  (dats m 0 c).arrAt_eq_of_cover (2 : Fin 3) (result m c) (fun t _ => flushed_eq m c t)
    fun i => ⟨pointOf i, flush0_2 (pointOf i), covered i⟩

end Cert.EvenSIdeal.Product

end
-- ==== Proof.EvenSValue.lean ====
/- The input projection of the even layer on the samples, cut into its heads, and its reference end with the same arrays. -/
module

public import proofs.«01_k».proof.Proof.EvenSIdealProduct
public import proofs.«01_k».proof.Proof.Gen.EvenSRefIdeal.Read
public import proofs.«01_k».proof.Proof.Gen.EvenSRefIdeal.Run
public import Idealize.ShloMosaic.Lib.StableHlo.Run
public import Idealize.ShloMosaic.Init
public import Idealize.ShloMosaic.Adequacy

@[expose] public section

set_option maxRecDepth 16384

noncomputable section

open Idealize.ShloMosaic
open Idealize.ShloMosaic.TcCoe
open Idealize.SL.Sem
open Idealize.ShloMosaic.ValueIdx

namespace Cert.EvenSIdeal.Product

open Cert.EvenSIdeal Cert.EvenSIdeal.Gen

variable (m : (ℓ : Loc nD τ sig) → Buf (Elt Ideal) ℓ) (ρ : Dev nD → PrngReg)

/-- The projection of rows kept in 16 groups of 32. -/
def proj (x : S16x32x4096.Idx → EReal) (w : S4096x12288.Idx → EReal) : Vec Ideal S16x32x12288 .f32 := fun i =>
  (∑ k : Fin 4096, x (ix3 (i 0) (i 1) k) * w (ix2 k (i 2)) : EReal)

/-- One of the projection's six parts, cut into heads. -/
abbrev heads (p : Vec Ideal S16x32x12288 .f32) (off : ℕ) (h : S16x32x12288.Slices ![0, 0, off] S16x32x2048) : Vec Ideal S16x32x16x128 .f32 :=
  shapeCast S16x32x16x128 (extractStridedSlice S16x32x2048 ![0, 0, off] p h) shapeCasts_S16x32x2048_S16x32x16x128

/-- The rows the region finds are the argument's, laid end to end; its weights are the argument's. -/
theorem V_rows (c : Dev nD) : (V m c main_v1 : S512x4096.Idx → EReal)
    = shapeCast S512x4096 (m ((c.tc : Thread nD τ).loc main_arg0)) shapeCasts_S16x32x4096_S512x4096 := by
  show StableHlo.after (List.flatten [hostOps0]) _ _ = _
  simp only [List.flatten_cons, List.flatten_nil, List.append_nil]
  after_results
  rfl
theorem V_weights (c : Dev nD) : (V m c main_v2 : S4096x12288.Idx → EReal) = m ((c.tc : Thread nD τ).loc main_arg1) := by
  show StableHlo.after (List.flatten [hostOps0]) _ _ = _
  simp only [List.flatten_cons, List.flatten_nil, List.append_nil]
  after_results
  rfl

/-- The row an entry's product is taken from, among all rows laid end to end. -/
def rowOf (i : S16x32x12288.Idx) : Fin 512 :=
  ⟨(i 0).val * 32 + (i 1).val, by have h0 : (i 0).val < 16 := (i 0).isLt; have h1 : (i 1).val < 32 := (i 1).isLt; omega⟩

/-- The product of the rows laid end to end, cut back into groups, is the projection. -/
theorem regrouped (x : S16x32x4096.Idx → EReal) (w : S4096x12288.Idx → EReal) :
    (shapeCast S16x32x12288 (prodOf (shapeCast S512x4096 x shapeCasts_S16x32x4096_S512x4096) w) shapeCasts_S512x12288_S16x32x12288 : Vec Ideal S16x32x12288 .f32)
      = proj x w := by
  funext i
  have h2 : (i 2).val < 12288 := (i 2).isLt
  refine (shapeCast_apply _ shapeCasts_S512x12288_S16x32x12288 i (ix2 (rowOf i) (i 2)) ?_).trans ?_
  · rw [Shape.rowMajor_val_two, Shape.rowMajor_val_three]
    rfl
  · unfold prodOf proj
    refine Finset.sum_congr rfl fun k _ => congrArg (fun a : EReal => a * w (ix2 k (i 2))) ?_
    refine shapeCast_apply x shapeCasts_S16x32x4096_S512x4096 (ix2 (rowOf i) k) (ix3 (i 0) (i 1) k) ?_
    rw [Shape.rowMajor_val_two, Shape.rowMajor_val_three]
    rfl

/-- The projection of a memory's arguments. -/
abbrev projAt (c : Dev nD) : Vec Ideal S16x32x12288 .f32 := proj (m ((c.tc : Thread nD τ).loc main_arg0)) (m ((c.tc : Thread nD τ).loc main_arg1))

/-- What the region leaves, cut back into groups. -/
theorem region (c : Dev nD) : (shapeCast S16x32x12288 (Pipeline.withArrays (cfgs 0).spec c (V0 m c) (fun w => (dats m 0 c).arrAt w (cfgs 0).N) (Proc.devRef .tc main_v3)) shapeCasts_S512x12288_S16x32x12288 : Vec Ideal S16x32x12288 .f32)
    = projAt m c := by
  have e : Pipeline.withArrays (cfgs 0).spec c (V0 m c) (fun w => (dats m 0 c).arrAt w (cfgs 0).N) (Proc.devRef .tc main_v3) = result m c :=
    (Pipeline.withArrays_arr (cfgs 0).spec (by decide) c (V0 m c) (fun w => (dats m 0 c).arrAt w (cfgs 0).N) (2 : Fin 3)).trans (final m c)
  rw [e]
  unfold result
  rw [V_rows, V_weights]
  exact regrouped _ _

section
variable (U : Valuation τ sig (Elt Ideal))
/-- What each operation after the region leaves, of what it finds. -/
theorem tail_v4 : StableHlo.after hostOps1 U (Proc.devRef .tc main_v4) = (shapeCast S16x32x12288 (U (Proc.devRef .tc main_v3)) shapeCasts_S512x12288_S16x32x12288) := by
  after_results <;> rfl
theorem tail_v6 : StableHlo.after hostOps1 U (Proc.devRef .tc main_v6) = heads (shapeCast S16x32x12288 (U (Proc.devRef .tc main_v3)) shapeCasts_S512x12288_S16x32x12288) 2048 slices_S16x32x12288_S16x32x2048_0_0_2048 := by
  after_results <;> rfl
theorem tail_v8 : StableHlo.after hostOps1 U (Proc.devRef .tc main_v8) = heads (shapeCast S16x32x12288 (U (Proc.devRef .tc main_v3)) shapeCasts_S512x12288_S16x32x12288) 4096 slices_S16x32x12288_S16x32x2048_0_0_4096 := by
  after_results <;> rfl
theorem tail_v10 : StableHlo.after hostOps1 U (Proc.devRef .tc main_v10) = heads (shapeCast S16x32x12288 (U (Proc.devRef .tc main_v3)) shapeCasts_S512x12288_S16x32x12288) 8192 slices_S16x32x12288_S16x32x2048_0_0_8192 := by
  after_results <;> rfl
theorem tail_v12 : StableHlo.after hostOps1 U (Proc.devRef .tc main_v12) = heads (shapeCast S16x32x12288 (U (Proc.devRef .tc main_v3)) shapeCasts_S512x12288_S16x32x12288) 10240 slices_S16x32x12288_S16x32x2048_0_0_10240 := by
  after_results <;> rfl
end

/-- Every run ends with the projection and its parts. -/
theorem value : θ_run (defs (F := Ideal)) (onTc (τ := τ) (main (F := Ideal))) ⟨m, fun _ => 0, ρ⟩ (fun r => ∀ c : Dev nD,
      r.2.mem ((c.tc : Thread nD τ).loc main_v4) = (projAt m c)
      ∧ r.2.mem ((c.tc : Thread nD τ).loc main_v6) = heads (projAt m c) 2048 slices_S16x32x12288_S16x32x2048_0_0_2048
      ∧ r.2.mem ((c.tc : Thread nD τ).loc main_v8) = heads (projAt m c) 4096 slices_S16x32x12288_S16x32x2048_0_0_4096
      ∧ r.2.mem ((c.tc : Thread nD τ).loc main_v10) = heads (projAt m c) 8192 slices_S16x32x12288_S16x32x2048_0_0_8192
      ∧ r.2.mem ((c.tc : Thread nD τ).loc main_v12) = heads (projAt m c) 10240 slices_S16x32x12288_S16x32x2048_0_0_10240
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨by
    refine ((h.1 c).2 main_v4 (Pipeline.mem_restRefs_of main_v4 (by decide) (by decide))).trans ?_
    unfold Pipeline.afterTail₀
    simp only [List.flatten_cons, List.flatten_nil, List.append_nil]
    refine (tail_v4 _).trans ?_
    exact region m c,
    by
    refine ((h.1 c).2 main_v6 (Pipeline.mem_restRefs_of main_v6 (by decide) (by decide))).trans ?_
    unfold Pipeline.afterTail₀
    simp only [List.flatten_cons, List.flatten_nil, List.append_nil]
    refine (tail_v6 _).trans ?_
    exact congrArg (fun p => heads p 2048 slices_S16x32x12288_S16x32x2048_0_0_2048) (region m c),
    by
    refine ((h.1 c).2 main_v8 (Pipeline.mem_restRefs_of main_v8 (by decide) (by decide))).trans ?_
    unfold Pipeline.afterTail₀
    simp only [List.flatten_cons, List.flatten_nil, List.append_nil]
    refine (tail_v8 _).trans ?_
    exact congrArg (fun p => heads p 4096 slices_S16x32x12288_S16x32x2048_0_0_4096) (region m c),
    by
    refine ((h.1 c).2 main_v10 (Pipeline.mem_restRefs_of main_v10 (by decide) (by decide))).trans ?_
    unfold Pipeline.afterTail₀
    simp only [List.flatten_cons, List.flatten_nil, List.append_nil]
    refine (tail_v10 _).trans ?_
    exact congrArg (fun p => heads p 8192 slices_S16x32x12288_S16x32x2048_0_0_8192) (region m c),
    by
    refine ((h.1 c).2 main_v12 (Pipeline.mem_restRefs_of main_v12 (by decide) (by decide))).trans ?_
    unfold Pipeline.afterTail₀
    simp only [List.flatten_cons, List.flatten_nil, List.append_nil]
    refine (tail_v12 _).trans ?_
    exact congrArg (fun p => heads p 10240 slices_S16x32x12288_S16x32x2048_0_0_10240) (region m c), h.2 c⟩) (θ_run_and (run_main (F := Ideal) m ρ) (unchanged (F := Ideal) m ρ))

end Cert.EvenSIdeal.Product

namespace Cert.EvenSRefIdeal.Product

open Cert.EvenSRefIdeal Cert.EvenSRefIdeal.Gen Cert.EvenSRefIdeal.Read

/-- The reference's projection, entry by entry. -/
theorem result (x0 : S16x32x4096.Idx → EReal) (x1 : S4096x12288.Idx → EReal) :
    val_main_v0 (F := Ideal) x0 x1 = Cert.EvenSIdeal.Product.proj x0 x1 := by
  funext i
  rw [val_main_v0_apply]
  unfold Cert.EvenSIdeal.Product.proj
  refine Finset.sum_congr rfl fun k _ => ?_
  have hl : lidx_main_v0 i k = ix3 (i 0) (i 1) k := by funext a; match a with | ⟨0, _⟩ => rfl | ⟨1, _⟩ => rfl | ⟨2, _⟩ => rfl
  have hr : ridx_main_v0 i k = ix2 k (i 2) := by funext a; match a with | ⟨0, _⟩ => rfl | ⟨1, _⟩ => rfl
  rw [hl, hr]
  rfl

/-- Every run of the reference ends with the projection and its parts. -/
theorem value (m : (ℓ : Loc nD τ sig) → Buf (Elt Ideal) ℓ) (ρ : Dev nD → PrngReg) (P : Dev nD → Vec Ideal S16x32x12288 .f32)
    (hP : ∀ c, P c = Cert.EvenSIdeal.Product.proj (m ((c.tc : Thread nD τ).loc main_arg0)) (m ((c.tc : Thread nD τ).loc main_arg1))) :
    θ_run (defs (F := Ideal)) (onTc (τ := τ) (main (F := Ideal))) ⟨m, fun _ => 0, ρ⟩ (fun r => ∀ c : Dev nD,
      r.2.mem ((c.tc : Thread nD τ).loc main_v0) = (P c)
      ∧ r.2.mem ((c.tc : Thread nD τ).loc main_v7) = Cert.EvenSIdeal.Product.heads (P c) 2048 Cert.EvenSIdeal.Gen.slices_S16x32x12288_S16x32x2048_0_0_2048
      ∧ r.2.mem ((c.tc : Thread nD τ).loc main_v8) = Cert.EvenSIdeal.Product.heads (P c) 4096 Cert.EvenSIdeal.Gen.slices_S16x32x12288_S16x32x2048_0_0_4096
      ∧ r.2.mem ((c.tc : Thread nD τ).loc main_v9) = Cert.EvenSIdeal.Product.heads (P c) 8192 Cert.EvenSIdeal.Gen.slices_S16x32x12288_S16x32x2048_0_0_8192
      ∧ r.2.mem ((c.tc : Thread nD τ).loc main_v10) = Cert.EvenSIdeal.Product.heads (P c) 10240 Cert.EvenSIdeal.Gen.slices_S16x32x12288_S16x32x2048_0_0_10240
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => by
    have e := ((val_main_v0_eq (F := Ideal) _ _).trans (result (m ((c.tc : Thread nD τ).loc main_arg0)) (m ((c.tc : Thread nD τ).loc main_arg1)))).trans (hP c).symm
    have hc := h c
    rw [e] at hc
    exact hc) (Cert.EvenSRefIdeal.Value.run (F := Ideal) m ρ)

/-- The frame of the reference: it ends, the arguments unchanged, the counters at zero. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => (h c).2.2.2.2.2, sem_eq_zero_of_no_sems (by decide) r.2⟩) (Cert.EvenSRefIdeal.Value.run (F := Ideal) m ρ)

end Cert.EvenSRefIdeal.Product

end
-- ==== Proof.OddInIdealProduct.lean ====
/- The input projection of the odd layers, entry by entry: the blocks of the product tile the whole product. -/
module

public import proofs.«01_k».proof.Proof.Gen.OddInIdeal.Frame
public import Idealize.ShloMosaic.Lib.Pipeline.Value
public import Idealize.ShloMosaic.Lib.MatmulPlain
public import Idealize.ShloMosaic.PureOps.Ideal.Laws
public import Idealize.ShloMosaic.Lib.Pipeline.ValueKit.Basic

@[expose] public section

set_option maxRecDepth 16384

noncomputable section

namespace Cert.OddInIdeal.Product

open Cert.OddInIdeal Cert.OddInIdeal.Gen
open Idealize.ShloMosaic
open Idealize.ShloMosaic.TcCoe
open Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The product of two blocks, entry by entry. -/
theorem dot_apply (x : Vec Ideal S512x4096 .bf16) (w : Vec Ideal S4096x1280 .bf16) (r : Fin 512) (q : Fin 1280) :
    matmul (φ₁ := .bf16) (φ₂ := .bf16) dot_S512x4096_S4096x1280_S512x1280_1_0_0_1_n_n none x w (constant (F := Ideal) S512x1280 .f32 0x00000000#32) (ix2 r q)
      = (∑ k : Fin 4096, x (ix2 r k) * w (ix2 k q) : EReal) := by
  have hd : dot_S512x4096_S4096x1280_S512x1280_1_0_0_1_n_n = DotDims.plain 512 4096 1280 := rfl
  rw [hd]
  refine (Ideal.matmul_plain_apply none x w _ r q).trans ?_
  show (Ideal.ofBits .f32 0x00000000#32 : EReal) + _ = _
  rw [Ideal.ofBits_zero_f32, zero_add]

/-- What one point leaves in its block. -/
theorem out_apply (x0 : Vec Ideal S512x4096 .bf16) (x1 : Vec Ideal S4096x1280 .bf16) (r : Fin 512) (q : Fin 1280) :
    out0_2 x0 x1 (ix2 r q) = (∑ k : Fin 4096, x0 (ix2 r k) * x1 (ix2 k q) : EReal) := by
  unfold out0_2
  rw [View.canon_unit_zero hz, View.ld_unit_zero hz, View.ld_unit_zero hz]
  unfold k0_pay1
  rw [shapeCast_self, shapeCast_self]
  exact dot_apply x0 x1 r q

/-- The coordinates of a point. -/
abbrev crd (t : Fin cfg0.N) : grid0.Coords := grid0.coords t
theorem crd_val0 (t : Fin cfg0.N) : ((crd t) 0).val = t.val / 17 % 10 := Pipeline.Grid.coords_val t 0 rfl rfl
theorem crd_val1 (t : Fin cfg0.N) : ((crd t) 1).val = t.val / 1 % 17 := Pipeline.Grid.coords_val t 1 rfl rfl

/-- The rows and columns a point's output block sits at. -/
def rowAt (t : Fin cfg0.N) (r : Fin 512) : Fin 8704 :=
  ⟨((crd t) 1).val * 512 + r.val, by have h : ((crd t) 1).val < 17 := ((crd t) 1).isLt; omega⟩
def colAt (t : Fin cfg0.N) (q : Fin 1280) : Fin 12800 :=
  ⟨((crd t) 0).val * 1280 + q.val, by have h : ((crd t) 0).val < 10 := ((crd t) 0).isLt; omega⟩

theorem block0 (i : grid0.Coords) : cc0_transform_0 i = ![(i 1).val, 0] := by
  have h1 : (i 1).val < 17 := (i 1).isLt
  show ![(BitVec.ofNat 32 (i 1).val).toNat, 0] = _
  rw [BitVec.toNat_ofNat, Nat.mod_eq_of_lt (by omega)]

/-- A point's block of rows, entry by entry. -/
theorem iblk0_apply (c : Dev nD) (t : Fin cfg0.N) (r : Fin 512) (k : Fin 4096) :
    iblk m c (0 : Fin 3) t (ix2 r k) = V m c main_v22 (ix2 (rowAt t r) k) := by
  show V m c main_v22 (((cfg0.win (0 : Fin 3)).rect t).emb (ix2 r k)) = _
  refine congrArg _ ?_
  funext a
  refine Fin.ext ?_
  rw [Pipeline.Window.rect_emb_val (cfg0.win (0 : Fin 3)) t (ix2 r k) a (hk := rfl)]
  have hb : (cfg0.win (0 : Fin 3)).index t a = (![((crd t) 1).val, 0] : Fin 2 → ℕ) a := congrFun (block0 (crd t)) a
  rw [hb]
  match a with
  | ⟨0, _⟩ => rfl
  | ⟨1, _⟩ => show 0 * 4096 + k.val = k.val; omega

theorem block1 (i : grid0.Coords) : cc0_transform_1 i = ![0, (i 0).val] := by
  have h0 : (i 0).val < 10 := (i 0).isLt
  show ![0, (BitVec.ofNat 32 (i 0).val).toNat] = _
  rw [BitVec.toNat_ofNat, Nat.mod_eq_of_lt (by omega)]

theorem block2 (i : grid0.Coords) : cc0_transform_2 i = ![(i 1).val, (i 0).val] := by
  have h1 : (i 1).val < 17 := (i 1).isLt
  have h0 : (i 0).val < 10 := (i 0).isLt
  show ![(BitVec.ofNat 32 (i 1).val).toNat, (BitVec.ofNat 32 (i 0).val).toNat] = _
  rw [BitVec.toNat_ofNat, BitVec.toNat_ofNat, Nat.mod_eq_of_lt (by omega), Nat.mod_eq_of_lt (by omega)]

/-- A point's block of weights, entry by entry. -/
theorem iblk1_apply (c : Dev nD) (t : Fin cfg0.N) (k : Fin 4096) (q : Fin 1280) :
    iblk m c (1 : Fin 3) t (ix2 k q) = V m c main_v21 (ix2 k (colAt t q)) := by
  show V m c main_v21 (((cfg0.win (1 : Fin 3)).rect t).emb (ix2 k q)) = _
  refine congrArg _ ?_
  funext a
  refine Fin.ext ?_
  rw [Pipeline.Window.rect_emb_val (cfg0.win (1 : Fin 3)) t (ix2 k q) a (hk := rfl)]
  have hb : (cfg0.win (1 : Fin 3)).index t a = (![0, ((crd t) 0).val] : Fin 2 → ℕ) a := congrFun (block1 (crd t)) a
  rw [hb]
  match a with
  | ⟨0, _⟩ => show 0 * 4096 + k.val = k.val; omega
  | ⟨1, _⟩ => rfl

/-- The product of two arrays, as an array. -/
def prodOf (x : S8704x4096.Idx → EReal) (w : S4096x12800.Idx → EReal) : S8704x12800.Idx → EReal := fun i =>
  ∑ k : Fin 4096, x (ix2 (i 0) k) * w (ix2 k (i 1))

/-- What the region leaves: the product of its two arrays. -/
abbrev result (c : Dev nD) : S8704x12800.Idx → EReal := prodOf (V m c main_v22) (V m c main_v21)

/-- A point's output block, entry by entry. -/
theorem out_eq (c : Dev nD) (t : Fin cfg0.N) (r : Fin 512) (q : Fin 1280) :
    out0_2 (iblk m c 0 t) (iblk m c 1 t) (ix2 r q) = result m c (ix2 (rowAt t r) (colAt t q)) := by
  refine (out_apply _ _ r q).trans (Finset.sum_congr rfl fun k _ => ?_)
  exact congrArg₂ (fun a b : EReal => a * b) (iblk0_apply m c t r k) (iblk1_apply m c t k q)

theorem emb2 (t : Fin cfg0.N) (y : S512x1280.Idx) :
    ((cfg0.win (2 : Fin 3)).rect t).emb y = ix2 (rowAt t (y 0)) (colAt t (y 1)) := by
  funext a
  refine Fin.ext ?_
  rw [Pipeline.Window.rect_emb_val (cfg0.win (2 : Fin 3)) t y a (hk := rfl)]
  have hb : (cfg0.win (2 : Fin 3)).index t a = (![((crd t) 1).val, ((crd t) 0).val] : Fin 2 → ℕ) a := congrFun (block2 (crd t)) a
  rw [hb]
  match a with
  | ⟨0, _⟩ => rfl
  | ⟨1, _⟩ => rfl

theorem flushed_eq (c : Dev nD) (t : Fin cfg0.N) :
    (dats m 0 c).flushed (2 : Fin 3) t = ((cfg0.win (2 : Fin 3)).blk t).view.read (Elt Ideal) (result m c) := by
  have ha := after0_2 m c t
  show (cfg0.win (2 : Fin 3)).cut (grid0.coords t) ((dats m 0 c).after (2 : Fin 3) t) = _
  rw [ha]
  funext y
  show out0_2 (iblk m c 0 t) (iblk m c 1 t) y = result m c (((cfg0.win (2 : Fin 3)).rect t).emb y)
  rw [emb2]
  conv_lhs => rw [eq_ix2 y]
  exact out_eq m c t (y 0) (y 1)

/-- The point whose block holds an entry of the result. -/
def pointOf (i : S8704x12800.Idx) : Fin cfg0.N :=
  ⟨(i 1).val / 1280 * 17 + (i 0).val / 512, by
    show _ < 170
    have h0 : (i 0).val < 8704 := (i 0).isLt; have h1 : (i 1).val < 12800 := (i 1).isLt; omega⟩

theorem covered (i : S8704x12800.Idx) : i ∈ ((cfg0.win (2 : Fin 3)).blk (pointOf i)).view.set := by
  have h0 : (i 0).val < 8704 := (i 0).isLt
  have h1 : (i 1).val < 12800 := (i 1).isLt
  have e0 : ((crd (pointOf i)) 0).val = (i 1).val / 1280 := by
    rw [crd_val0]; unfold pointOf; dsimp only; omega
  have e1 : ((crd (pointOf i)) 1).val = (i 0).val / 512 := by
    rw [crd_val1]; unfold pointOf; dsimp only; omega
  have hy : ((cfg0.win (2 : Fin 3)).rect (pointOf i)).emb
      (ix2 (⟨(i 0).val % 512, by omega⟩ : Fin 512) (⟨(i 1).val % 1280, by omega⟩ : Fin 1280)) = i := by
    rw [emb2]
    funext a
    refine Fin.ext ?_
    match a with
    | ⟨0, _⟩ => show ((crd (pointOf i)) 1).val * 512 + (i 0).val % 512 = (i 0).val; omega
    | ⟨1, _⟩ => show ((crd (pointOf i)) 0).val * 1280 + (i 1).val % 1280 = (i 1).val; omega
  exact Finset.mem_map.2 ⟨_, Finset.mem_univ _, hy⟩

/-- The pipeline leaves the product in its array. -/
theorem final (c : Dev nD) : (dats m 0 c).arrAt (2 : Fin 3) cfg0.N = result m c :=
  (dats m 0 c).arrAt_eq_of_cover (2 : Fin 3) (result m c) (fun t _ => flushed_eq m c t)
    fun i => ⟨pointOf i, flush0_2 (pointOf i), covered i⟩

end Cert.OddInIdeal.Product

end
-- ==== Proof.OddInWeights.lean ====
/- The odd layers' weights in the version's order of columns: each group of columns, filled up to a multiple of 128, laid
   side by side. A column of a group is the argument's column of the same group. -/
module

public import proofs.«01_k».proof.Proof.OddInIdealProduct
public import Idealize.ShloMosaic.Lib.KernelVsHost
public import Idealize.ShloMosaic.Lib.StableHlo.Run

@[expose] public section

set_option maxRecDepth 16384

noncomputable section

open Idealize.ShloMosaic
open Idealize.ShloMosaic.TcCoe
open Idealize.SL.Sem
open Idealize.ShloMosaic.ValueIdx

namespace Cert.OddInIdeal.Product

open Cert.OddInIdeal Cert.OddInIdeal.Gen

/-- In a row of lengths, the position `c` lies in the length number `k` when that one starts at `o ≤ c` and reaches beyond `c`. -/
theorem locate_spec : ∀ (ns : List ℕ) (c : ℕ) (h : c < ns.sum) (k o : ℕ) (hk : k < ns.length),
    (ns.take k).sum = o → o ≤ c → c < o + ns[k] → (locate ns c h).1.val = k ∧ (locate ns c h).2.val + o = c
  | [], _, h, _, _, _, _, _, _ => absurd h (Nat.not_lt_zero _)
  | n :: ns, c, h, 0, o, _, ho, h1, h2 => by
    have e : o = 0 := ho.symm
    subst e
    have hc : c < n := by simpa using h2
    have e : locate (n :: ns) c h = ⟨⟨0, Nat.zero_lt_succ _⟩, ⟨c, hc⟩⟩ := by
      unfold locate
      rw [dif_pos hc]
    rw [e]
    exact ⟨rfl, rfl⟩
  | n :: ns, c, h, k + 1, o, hk, ho, h1, h2 => by
    rw [List.take_succ_cons, List.sum_cons] at ho
    have hc : ¬ c < n := by omega
    have h2' : c < o + ns[k]'(Nat.lt_of_succ_lt_succ hk) := h2
    have hr := locate_spec ns (c - n) (by rw [List.sum_cons] at h; omega) k ((ns.take k).sum) (Nat.lt_of_succ_lt_succ hk) rfl (by omega) (by omega)
    have e : locate (n :: ns) c h = ⟨(locate ns (c - n) (by rw [List.sum_cons] at h; omega)).1.succ,
        (locate ns (c - n) (by rw [List.sum_cons] at h; omega)).2⟩ := by
      conv_lhs => unfold locate
      rw [dif_neg hc]
    rw [e]
    refine ⟨?_, ?_⟩
    · show (locate ns (c - n) _).1.val + 1 = k + 1
      rw [hr.1]
    · show (locate ns (c - n) _).2.val + o = c
      have := hr.2
      omega

/-- Arrays laid side by side, read at an index that lies in the one numbered `k`, which starts at `o`. -/
theorem beside_apply {α : Type} {t : Shape} (a : Fin t.rank) (xs : List ((s : Shape) × (s.Idx → α)))
    (h : Shape.Concatenates (xs.map (·.1)) t a) (j : t.Idx) (k o : ℕ) (hk : k < xs.length) (hr : (xs[k]).1.rank = t.rank)
    (ho : (((xs.map (·.1)).map fun s => if h : s.rank = t.rank then s.size (a.cast h.symm) else 0).take k).sum = o)
    (i : (xs[k]).1.Idx) (hi : ∀ b, b.cast hr ≠ a → (i b).val = (j (b.cast hr)).val)
    (ha : (i (a.cast hr.symm)).val + o = (j a).val) :
    concatenate t a xs h j = (xs[k]).2 i := by
  let ns : List ℕ := (xs.map (·.1)).map fun s => if h : s.rank = t.rank then s.size (a.cast h.symm) else 0
  have PF : (j a).val < ns.sum := by rw [h.2.2]; exact (j a).isLt
  have hlen : ns.length = xs.length := by simp [ns]
  have hkn : k < ns.length := by rw [hlen]; exact hk
  have hsz : ns[k] = (xs[k]).1.size (a.cast hr.symm) := by
    have : ns[k] = if h : (xs[k]).1.rank = t.rank then (xs[k]).1.size (a.cast h.symm) else 0 := by simp [ns]
    rw [this, dif_pos hr]
  have hlt := (i (a.cast hr.symm)).isLt
  have HL := locate_spec ns (j a).val PF k o hkn ho (by omega) (by rw [hsz]; omega)
  have hx : ∀ kr : (k : Fin ns.length) × Fin ns[k], kr.1.val < xs.length := fun kr => by rw [← hlen]; exact kr.1.isLt
  have HR : ∀ kr : (k : Fin ns.length) × Fin ns[k], (xs[kr.1.val]'(hx kr)).1.rank = t.rank := fun kr =>
    (h.2.1 _ (List.mem_map.2 ⟨_, List.getElem_mem (hx kr), rfl⟩)).1
  have HK : ∀ kr : (k : Fin ns.length) × Fin ns[k], ∀ b : Fin (xs[kr.1.val]'(hx kr)).1.rank, b.cast (HR kr) = a →
      ns[kr.1] = (xs[kr.1.val]'(hx kr)).1.size b := fun kr b hb => by
    have : ns[kr.1.val] = if h : (xs[kr.1.val]'(hx kr)).1.rank = t.rank then (xs[kr.1.val]'(hx kr)).1.size (a.cast h.symm) else 0 := by
      simp [ns]
    rw [Fin.getElem_fin, this, dif_pos (HR kr), show a.cast (HR kr).symm = b from Fin.ext (congrArg Fin.val hb).symm]
  have HB : ∀ kr : (k : Fin ns.length) × Fin ns[k], ∀ b : Fin (xs[kr.1.val]'(hx kr)).1.rank, b.cast (HR kr) ≠ a →
      t.size (b.cast (HR kr)) = (xs[kr.1.val]'(hx kr)).1.size b := fun kr b hb =>
    ((h.2.1 _ (List.mem_map.2 ⟨_, List.getElem_mem (hx kr), rfl⟩)).2 (b.cast (HR kr)) hb).symm
  show (fun kr : (k : Fin ns.length) × Fin ns[k] =>
      (xs[kr.1.val]'(hx kr)).2 (fun b => if hb : b.cast (HR kr) = a then kr.2.cast (HK kr b hb) else (j (b.cast (HR kr))).cast (HB kr b hb)))
      (locate ns (j a).val PF) = _
  generalize locate ns (j a).val PF = kr at HL ⊢
  obtain ⟨⟨k1, hk1⟩, v⟩ := kr
  obtain ⟨e, hv⟩ := HL
  have e' : k1 = k := e
  subst e'
  refine congrArg (xs[k1]).2 (funext fun b => Fin.ext ?_)
  show ((if hb : _ then _ else _ : Fin _) : ℕ) = _
  split
  · next hb =>
    have hb' : a.cast hr.symm = b := Fin.ext (congrArg Fin.val hb).symm
    subst hb'
    show v.val = _
    have hv' : v.val + o = (j a).val := hv
    omega
  · next hb => exact (hi b hb).symm

/-- The group `qc` of columns, filled up. -/
def col_qc (w : Vec Ideal S4096x12400 .f32) : Vec Ideal S4096x2048 .f32 := pad S4096x2048 ![0, 0] ![0, 0] ![0, 0] (extractStridedSlice S4096x2048 ![0, 0] w slices_S4096x12400_S4096x2048_0_0) (sitofp (F := Ideal) .f32 (constantI S_ 32 0#32)) pads_S4096x2048_S4096x2048_000_000 h_S_
/-- The group `g` of columns, filled up. -/
def col_g (w : Vec Ideal S4096x12400 .f32) : Vec Ideal S4096x2048 .f32 := pad S4096x2048 ![0, 0] ![0, 0] ![0, 0] (extractStridedSlice S4096x2048 ![0, 10352] w slices_S4096x12400_S4096x2048_0_10352) (sitofp (F := Ideal) .f32 (constantI S_ 32 0#32)) pads_S4096x2048_S4096x2048_000_000 h_S_
/-- The group `kc` of columns, filled up. -/
def col_kc (w : Vec Ideal S4096x12400 .f32) : Vec Ideal S4096x512 .f32 := pad S4096x512 ![0, 0] ![0, 0] ![0, 0] (extractStridedSlice S4096x512 ![0, 2048] w slices_S4096x12400_S4096x512_0_2048) (sitofp (F := Ideal) .f32 (constantI S_ 32 0#32)) pads_S4096x512_S4096x512_000_000 h_S_
/-- The group `vc` of columns, filled up. -/
def col_vc (w : Vec Ideal S4096x12400 .f32) : Vec Ideal S4096x512 .f32 := pad S4096x512 ![0, 0] ![0, 0] ![0, 0] (extractStridedSlice S4096x512 ![0, 2560] w slices_S4096x12400_S4096x512_0_2560) (sitofp (F := Ideal) .f32 (constantI S_ 32 0#32)) pads_S4096x512_S4096x512_000_000 h_S_
/-- The group `qi` of columns, filled up. -/
def col_qi (w : Vec Ideal S4096x12400 .f32) : Vec Ideal S4096x1024 .f32 := pad S4096x1024 ![0, 0] ![0, 0] ![0, 0] (extractStridedSlice S4096x1024 ![0, 3072] w slices_S4096x12400_S4096x1024_0_3072) (sitofp (F := Ideal) .f32 (constantI S_ 32 0#32)) pads_S4096x1024_S4096x1024_000_000 h_S_
/-- The group `qkv` of columns, filled up. -/
def col_qkv (w : Vec Ideal S4096x12400 .f32) : Vec Ideal S4096x6144 .f32 := pad S4096x6144 ![0, 0] ![0, 0] ![0, 0] (extractStridedSlice S4096x6144 ![0, 4176] w slices_S4096x12400_S4096x6144_0_4176) (sitofp (F := Ideal) .f32 (constantI S_ 32 0#32)) pads_S4096x6144_S4096x6144_000_000 h_S_
/-- The group `ki` of columns, filled up. -/
def col_ki (w : Vec Ideal S4096x12400 .f32) : Vec Ideal S4096x128 .f32 := pad S4096x128 ![0, 0] ![0, 64] ![0, 0] (extractStridedSlice S4096x64 ![0, 4096] w slices_S4096x12400_S4096x64_0_4096) (sitofp (F := Ideal) .f32 (constantI S_ 32 0#32)) pads_S4096x64_S4096x128_000_0640 h_S_
/-- The group `wi` of columns, filled up. -/
def col_wi (w : Vec Ideal S4096x12400 .f32) : Vec Ideal S4096x128 .f32 := pad S4096x128 ![0, 0] ![0, 112] ![0, 0] (extractStridedSlice S4096x16 ![0, 4160] w slices_S4096x12400_S4096x16_0_4160) (sitofp (F := Ideal) .f32 (constantI S_ 32 0#32)) pads_S4096x16_S4096x128_000_01120 h_S_
/-- The group `a` of columns, filled up. -/
def col_a (w : Vec Ideal S4096x12400 .f32) : Vec Ideal S4096x128 .f32 := pad S4096x128 ![0, 0] ![0, 112] ![0, 0] (extractStridedSlice S4096x16 ![0, 10320] w slices_S4096x12400_S4096x16_0_10320) (sitofp (F := Ideal) .f32 (constantI S_ 32 0#32)) pads_S4096x16_S4096x128_000_01120 h_S_
/-- The group `b` of columns, filled up. -/
def col_b (w : Vec Ideal S4096x12400 .f32) : Vec Ideal S4096x128 .f32 := pad S4096x128 ![0, 0] ![0, 112] ![0, 0] (extractStridedSlice S4096x16 ![0, 10336] w slices_S4096x12400_S4096x16_0_10336) (sitofp (F := Ideal) .f32 (constantI S_ 32 0#32)) pads_S4096x16_S4096x128_000_01120 h_S_

/-- The groups in the version's order. -/
abbrev groups (w : Vec Ideal S4096x12400 .f32) : List ((s : Shape) × (s.Idx → EReal)) :=
  [⟨S4096x2048, col_qc w⟩, ⟨S4096x2048, col_g w⟩, ⟨S4096x512, col_kc w⟩, ⟨S4096x512, col_vc w⟩, ⟨S4096x1024, col_qi w⟩, ⟨S4096x6144, col_qkv w⟩, ⟨S4096x128, col_ki w⟩, ⟨S4096x128, col_wi w⟩, ⟨S4096x128, col_a w⟩, ⟨S4096x128, col_b w⟩]

/-- The weights in the version's order. -/
def reordered (w : Vec Ideal S4096x12400 .f32) : Vec Ideal S4096x12800 .f32 :=
  concatenate S4096x12800 1 (groups w) concatenates_S4096x2048_S4096x2048_S4096x512_S4096x512_S4096x1024_S4096x6144_S4096x128_S4096x128_S4096x128_S4096x128_S4096x12800_d1

/-- A column of the group `qc`. -/
theorem reordered_qc (w : Vec Ideal S4096x12400 .f32) (k : Fin 4096) (j : Fin 2048) :
    reordered w (ix2 k (⟨0 + j.val, by have := j.isLt; omega⟩ : Fin 12800)) = w (ix2 k (⟨0 + j.val, by have := j.isLt; omega⟩ : Fin 12400)) := by
  have hj : j.val < 2048 := j.isLt
  unfold reordered
  refine (beside_apply (t := S4096x12800) 1 (groups w) _ _ 0 0 (show 0 < 10 by decide) rfl
    (Eq.trans (b := 0) rfl (by norm_num))
    (ix2 k (⟨j.val, by omega⟩ : Fin 2048) : S4096x2048.Idx) ?_ ?_).trans ?_
  · intro b hb
    match b with
    | ⟨0, _⟩ => rfl
    | ⟨1, _⟩ => exact absurd rfl hb
  · show j.val + 0 = 0 + j.val
    omega
  show col_qc w (ix2 k (⟨j.val, _⟩ : Fin 2048)) = _
  unfold col_qc
  refine (pad_apply_of_inside _ _ _ _ _ _ _ _ (ix2 k j : S4096x2048.Idx) ?_).trans ?_
  · intro b
    match b with
    | ⟨0, _⟩ => show k.val = 0 + k.val * (0 + 1); omega
    | ⟨1, _⟩ => show j.val = 0 + j.val * (0 + 1); omega
  · refine extractStridedSlice_apply _ w _ _ _ ?_
    intro b
    match b with
    | ⟨0, _⟩ => show k.val = 0 + k.val; omega
    | ⟨1, _⟩ => rfl

/-- A column of the group `g`. -/
theorem reordered_g (w : Vec Ideal S4096x12400 .f32) (k : Fin 4096) (j : Fin 2048) :
    reordered w (ix2 k (⟨2048 + j.val, by have := j.isLt; omega⟩ : Fin 12800)) = w (ix2 k (⟨10352 + j.val, by have := j.isLt; omega⟩ : Fin 12400)) := by
  have hj : j.val < 2048 := j.isLt
  unfold reordered
  refine (beside_apply (t := S4096x12800) 1 (groups w) _ _ 1 2048 (show 1 < 10 by decide) rfl
    (Eq.trans (b := 2048 + (0)) rfl (by norm_num))
    (ix2 k (⟨j.val, by omega⟩ : Fin 2048) : S4096x2048.Idx) ?_ ?_).trans ?_
  · intro b hb
    match b with
    | ⟨0, _⟩ => rfl
    | ⟨1, _⟩ => exact absurd rfl hb
  · show j.val + 2048 = 2048 + j.val
    omega
  show col_g w (ix2 k (⟨j.val, _⟩ : Fin 2048)) = _
  unfold col_g
  refine (pad_apply_of_inside _ _ _ _ _ _ _ _ (ix2 k j : S4096x2048.Idx) ?_).trans ?_
  · intro b
    match b with
    | ⟨0, _⟩ => show k.val = 0 + k.val * (0 + 1); omega
    | ⟨1, _⟩ => show j.val = 0 + j.val * (0 + 1); omega
  · refine extractStridedSlice_apply _ w _ _ _ ?_
    intro b
    match b with
    | ⟨0, _⟩ => show k.val = 0 + k.val; omega
    | ⟨1, _⟩ => rfl

/-- A column of the group `kc`. -/
theorem reordered_kc (w : Vec Ideal S4096x12400 .f32) (k : Fin 4096) (j : Fin 512) :
    reordered w (ix2 k (⟨4096 + j.val, by have := j.isLt; omega⟩ : Fin 12800)) = w (ix2 k (⟨2048 + j.val, by have := j.isLt; omega⟩ : Fin 12400)) := by
  have hj : j.val < 512 := j.isLt
  unfold reordered
  refine (beside_apply (t := S4096x12800) 1 (groups w) _ _ 2 4096 (show 2 < 10 by decide) rfl
    (Eq.trans (b := 2048 + (2048 + (0))) rfl (by norm_num))
    (ix2 k (⟨j.val, by omega⟩ : Fin 512) : S4096x512.Idx) ?_ ?_).trans ?_
  · intro b hb
    match b with
    | ⟨0, _⟩ => rfl
    | ⟨1, _⟩ => exact absurd rfl hb
  · show j.val + 4096 = 4096 + j.val
    omega
  show col_kc w (ix2 k (⟨j.val, _⟩ : Fin 512)) = _
  unfold col_kc
  refine (pad_apply_of_inside _ _ _ _ _ _ _ _ (ix2 k j : S4096x512.Idx) ?_).trans ?_
  · intro b
    match b with
    | ⟨0, _⟩ => show k.val = 0 + k.val * (0 + 1); omega
    | ⟨1, _⟩ => show j.val = 0 + j.val * (0 + 1); omega
  · refine extractStridedSlice_apply _ w _ _ _ ?_
    intro b
    match b with
    | ⟨0, _⟩ => show k.val = 0 + k.val; omega
    | ⟨1, _⟩ => rfl

/-- A column of the group `vc`. -/
theorem reordered_vc (w : Vec Ideal S4096x12400 .f32) (k : Fin 4096) (j : Fin 512) :
    reordered w (ix2 k (⟨4608 + j.val, by have := j.isLt; omega⟩ : Fin 12800)) = w (ix2 k (⟨2560 + j.val, by have := j.isLt; omega⟩ : Fin 12400)) := by
  have hj : j.val < 512 := j.isLt
  unfold reordered
  refine (beside_apply (t := S4096x12800) 1 (groups w) _ _ 3 4608 (show 3 < 10 by decide) rfl
    (Eq.trans (b := 2048 + (2048 + (512 + (0)))) rfl (by norm_num))
    (ix2 k (⟨j.val, by omega⟩ : Fin 512) : S4096x512.Idx) ?_ ?_).trans ?_
  · intro b hb
    match b with
    | ⟨0, _⟩ => rfl
    | ⟨1, _⟩ => exact absurd rfl hb
  · show j.val + 4608 = 4608 + j.val
    omega
  show col_vc w (ix2 k (⟨j.val, _⟩ : Fin 512)) = _
  unfold col_vc
  refine (pad_apply_of_inside _ _ _ _ _ _ _ _ (ix2 k j : S4096x512.Idx) ?_).trans ?_
  · intro b
    match b with
    | ⟨0, _⟩ => show k.val = 0 + k.val * (0 + 1); omega
    | ⟨1, _⟩ => show j.val = 0 + j.val * (0 + 1); omega
  · refine extractStridedSlice_apply _ w _ _ _ ?_
    intro b
    match b with
    | ⟨0, _⟩ => show k.val = 0 + k.val; omega
    | ⟨1, _⟩ => rfl

/-- A column of the group `qi`. -/
theorem reordered_qi (w : Vec Ideal S4096x12400 .f32) (k : Fin 4096) (j : Fin 1024) :
    reordered w (ix2 k (⟨5120 + j.val, by have := j.isLt; omega⟩ : Fin 12800)) = w (ix2 k (⟨3072 + j.val, by have := j.isLt; omega⟩ : Fin 12400)) := by
  have hj : j.val < 1024 := j.isLt
  unfold reordered
  refine (beside_apply (t := S4096x12800) 1 (groups w) _ _ 4 5120 (show 4 < 10 by decide) rfl
    (Eq.trans (b := 2048 + (2048 + (512 + (512 + (0))))) rfl (by norm_num))
    (ix2 k (⟨j.val, by omega⟩ : Fin 1024) : S4096x1024.Idx) ?_ ?_).trans ?_
  · intro b hb
    match b with
    | ⟨0, _⟩ => rfl
    | ⟨1, _⟩ => exact absurd rfl hb
  · show j.val + 5120 = 5120 + j.val
    omega
  show col_qi w (ix2 k (⟨j.val, _⟩ : Fin 1024)) = _
  unfold col_qi
  refine (pad_apply_of_inside _ _ _ _ _ _ _ _ (ix2 k j : S4096x1024.Idx) ?_).trans ?_
  · intro b
    match b with
    | ⟨0, _⟩ => show k.val = 0 + k.val * (0 + 1); omega
    | ⟨1, _⟩ => show j.val = 0 + j.val * (0 + 1); omega
  · refine extractStridedSlice_apply _ w _ _ _ ?_
    intro b
    match b with
    | ⟨0, _⟩ => show k.val = 0 + k.val; omega
    | ⟨1, _⟩ => rfl

/-- A column of the group `qkv`. -/
theorem reordered_qkv (w : Vec Ideal S4096x12400 .f32) (k : Fin 4096) (j : Fin 6144) :
    reordered w (ix2 k (⟨6144 + j.val, by have := j.isLt; omega⟩ : Fin 12800)) = w (ix2 k (⟨4176 + j.val, by have := j.isLt; omega⟩ : Fin 12400)) := by
  have hj : j.val < 6144 := j.isLt
  unfold reordered
  refine (beside_apply (t := S4096x12800) 1 (groups w) _ _ 5 6144 (show 5 < 10 by decide) rfl
    (Eq.trans (b := 2048 + (2048 + (512 + (512 + (1024 + (0)))))) rfl (by norm_num))
    (ix2 k (⟨j.val, by omega⟩ : Fin 6144) : S4096x6144.Idx) ?_ ?_).trans ?_
  · intro b hb
    match b with
    | ⟨0, _⟩ => rfl
    | ⟨1, _⟩ => exact absurd rfl hb
  · show j.val + 6144 = 6144 + j.val
    omega
  show col_qkv w (ix2 k (⟨j.val, _⟩ : Fin 6144)) = _
  unfold col_qkv
  refine (pad_apply_of_inside _ _ _ _ _ _ _ _ (ix2 k j : S4096x6144.Idx) ?_).trans ?_
  · intro b
    match b with
    | ⟨0, _⟩ => show k.val = 0 + k.val * (0 + 1); omega
    | ⟨1, _⟩ => show j.val = 0 + j.val * (0 + 1); omega
  · refine extractStridedSlice_apply _ w _ _ _ ?_
    intro b
    match b with
    | ⟨0, _⟩ => show k.val = 0 + k.val; omega
    | ⟨1, _⟩ => rfl

/-- A column of the group `ki`. -/
theorem reordered_ki (w : Vec Ideal S4096x12400 .f32) (k : Fin 4096) (j : Fin 64) :
    reordered w (ix2 k (⟨12288 + j.val, by have := j.isLt; omega⟩ : Fin 12800)) = w (ix2 k (⟨4096 + j.val, by have := j.isLt; omega⟩ : Fin 12400)) := by
  have hj : j.val < 64 := j.isLt
  unfold reordered
  refine (beside_apply (t := S4096x12800) 1 (groups w) _ _ 6 12288 (show 6 < 10 by decide) rfl
    (Eq.trans (b := 2048 + (2048 + (512 + (512 + (1024 + (6144 + (0))))))) rfl (by norm_num))
    (ix2 k (⟨j.val, by omega⟩ : Fin 128) : S4096x128.Idx) ?_ ?_).trans ?_
  · intro b hb
    match b with
    | ⟨0, _⟩ => rfl
    | ⟨1, _⟩ => exact absurd rfl hb
  · show j.val + 12288 = 12288 + j.val
    omega
  show col_ki w (ix2 k (⟨j.val, _⟩ : Fin 128)) = _
  unfold col_ki
  refine (pad_apply_of_inside _ _ _ _ _ _ _ _ (ix2 k j : S4096x64.Idx) ?_).trans ?_
  · intro b
    match b with
    | ⟨0, _⟩ => show k.val = 0 + k.val * (0 + 1); omega
    | ⟨1, _⟩ => show j.val = 0 + j.val * (0 + 1); omega
  · refine extractStridedSlice_apply _ w _ _ _ ?_
    intro b
    match b with
    | ⟨0, _⟩ => show k.val = 0 + k.val; omega
    | ⟨1, _⟩ => rfl

/-- A column of the group `wi`. -/
theorem reordered_wi (w : Vec Ideal S4096x12400 .f32) (k : Fin 4096) (j : Fin 16) :
    reordered w (ix2 k (⟨12416 + j.val, by have := j.isLt; omega⟩ : Fin 12800)) = w (ix2 k (⟨4160 + j.val, by have := j.isLt; omega⟩ : Fin 12400)) := by
  have hj : j.val < 16 := j.isLt
  unfold reordered
  refine (beside_apply (t := S4096x12800) 1 (groups w) _ _ 7 12416 (show 7 < 10 by decide) rfl
    (Eq.trans (b := 2048 + (2048 + (512 + (512 + (1024 + (6144 + (128 + (0)))))))) rfl (by norm_num))
    (ix2 k (⟨j.val, by omega⟩ : Fin 128) : S4096x128.Idx) ?_ ?_).trans ?_
  · intro b hb
    match b with
    | ⟨0, _⟩ => rfl
    | ⟨1, _⟩ => exact absurd rfl hb
  · show j.val + 12416 = 12416 + j.val
    omega
  show col_wi w (ix2 k (⟨j.val, _⟩ : Fin 128)) = _
  unfold col_wi
  refine (pad_apply_of_inside _ _ _ _ _ _ _ _ (ix2 k j : S4096x16.Idx) ?_).trans ?_
  · intro b
    match b with
    | ⟨0, _⟩ => show k.val = 0 + k.val * (0 + 1); omega
    | ⟨1, _⟩ => show j.val = 0 + j.val * (0 + 1); omega
  · refine extractStridedSlice_apply _ w _ _ _ ?_
    intro b
    match b with
    | ⟨0, _⟩ => show k.val = 0 + k.val; omega
    | ⟨1, _⟩ => rfl

/-- A column of the group `a`. -/
theorem reordered_a (w : Vec Ideal S4096x12400 .f32) (k : Fin 4096) (j : Fin 16) :
    reordered w (ix2 k (⟨12544 + j.val, by have := j.isLt; omega⟩ : Fin 12800)) = w (ix2 k (⟨10320 + j.val, by have := j.isLt; omega⟩ : Fin 12400)) := by
  have hj : j.val < 16 := j.isLt
  unfold reordered
  refine (beside_apply (t := S4096x12800) 1 (groups w) _ _ 8 12544 (show 8 < 10 by decide) rfl
    (Eq.trans (b := 2048 + (2048 + (512 + (512 + (1024 + (6144 + (128 + (128 + (0))))))))) rfl (by norm_num))
    (ix2 k (⟨j.val, by omega⟩ : Fin 128) : S4096x128.Idx) ?_ ?_).trans ?_
  · intro b hb
    match b with
    | ⟨0, _⟩ => rfl
    | ⟨1, _⟩ => exact absurd rfl hb
  · show j.val + 12544 = 12544 + j.val
    omega
  show col_a w (ix2 k (⟨j.val, _⟩ : Fin 128)) = _
  unfold col_a
  refine (pad_apply_of_inside _ _ _ _ _ _ _ _ (ix2 k j : S4096x16.Idx) ?_).trans ?_
  · intro b
    match b with
    | ⟨0, _⟩ => show k.val = 0 + k.val * (0 + 1); omega
    | ⟨1, _⟩ => show j.val = 0 + j.val * (0 + 1); omega
  · refine extractStridedSlice_apply _ w _ _ _ ?_
    intro b
    match b with
    | ⟨0, _⟩ => show k.val = 0 + k.val; omega
    | ⟨1, _⟩ => rfl

/-- A column of the group `b`. -/
theorem reordered_b (w : Vec Ideal S4096x12400 .f32) (k : Fin 4096) (j : Fin 16) :
    reordered w (ix2 k (⟨12672 + j.val, by have := j.isLt; omega⟩ : Fin 12800)) = w (ix2 k (⟨10336 + j.val, by have := j.isLt; omega⟩ : Fin 12400)) := by
  have hj : j.val < 16 := j.isLt
  unfold reordered
  refine (beside_apply (t := S4096x12800) 1 (groups w) _ _ 9 12672 (show 9 < 10 by decide) rfl
    (Eq.trans (b := 2048 + (2048 + (512 + (512 + (1024 + (6144 + (128 + (128 + (128 + (0)))))))))) rfl (by norm_num))
    (ix2 k (⟨j.val, by omega⟩ : Fin 128) : S4096x128.Idx) ?_ ?_).trans ?_
  · intro b hb
    match b with
    | ⟨0, _⟩ => rfl
    | ⟨1, _⟩ => exact absurd rfl hb
  · show j.val + 12672 = 12672 + j.val
    omega
  show col_b w (ix2 k (⟨j.val, _⟩ : Fin 128)) = _
  unfold col_b
  refine (pad_apply_of_inside _ _ _ _ _ _ _ _ (ix2 k j : S4096x16.Idx) ?_).trans ?_
  · intro b
    match b with
    | ⟨0, _⟩ => show k.val = 0 + k.val * (0 + 1); omega
    | ⟨1, _⟩ => show j.val = 0 + j.val * (0 + 1); omega
  · refine extractStridedSlice_apply _ w _ _ _ ?_
    intro b
    match b with
    | ⟨0, _⟩ => show k.val = 0 + k.val; omega
    | ⟨1, _⟩ => rfl

end Cert.OddInIdeal.Product

end
-- ==== Proof.OddInValue.lean ====
/- The input projection of the odd layers, cut into its groups of columns, and its reference end with the same arrays. -/
module

public import proofs.«01_k».proof.Proof.OddInWeights
public import proofs.«01_k».proof.Proof.Gen.OddInRefIdeal.Read
public import proofs.«01_k».proof.Proof.Gen.OddInRefIdeal.Run
public import Idealize.ShloMosaic.Lib.StableHlo.Run
public import Idealize.ShloMosaic.Init
public import Idealize.ShloMosaic.Adequacy

@[expose] public section

set_option maxRecDepth 16384

noncomputable section

open Idealize.ShloMosaic
open Idealize.ShloMosaic.TcCoe
open Idealize.SL.Sem
open Idealize.ShloMosaic.ValueIdx

namespace Cert.OddInRefIdeal.Product

open Cert.OddInRefIdeal Cert.OddInRefIdeal.Gen Cert.OddInRefIdeal.Read

/-- The product of the rows with the weights. -/
def prodW (x : S8704x4096.Idx → EReal) (w : S4096x12400.Idx → EReal) : Vec Ideal S8704x12400 .f32 := fun i =>
  (∑ k : Fin 4096, x (ix2 (i 0) k) * w (ix2 k (i 1)) : EReal)

/-! The results, of the product `P`. -/

abbrev out0 (P : Vec Ideal S8704x12400 .f32) : Vec Ideal S8704x2048 .f32 := extractStridedSlice S8704x2048 ![0, 0] P slices_S8704x12400_S8704x2048_0_0
abbrev out1 (P : Vec Ideal S8704x12400 .f32) : Vec Ideal S8704x512 .f32 := extractStridedSlice S8704x512 ![0, 2048] P slices_S8704x12400_S8704x512_0_2048
abbrev out2 (P : Vec Ideal S8704x12400 .f32) : Vec Ideal S8704x512 .f32 := extractStridedSlice S8704x512 ![0, 2560] P slices_S8704x12400_S8704x512_0_2560
abbrev out3 (P : Vec Ideal S8704x12400 .f32) : Vec Ideal S8704x1024 .f32 := extractStridedSlice S8704x1024 ![0, 3072] P slices_S8704x12400_S8704x1024_0_3072
abbrev out4 (P : Vec Ideal S8704x12400 .f32) : Vec Ideal S8704x64 .f32 := extractStridedSlice S8704x64 ![0, 4096] P slices_S8704x12400_S8704x64_0_4096
abbrev out5 (P : Vec Ideal S8704x12400 .f32) : Vec Ideal S8704x16 .f32 := extractStridedSlice S8704x16 ![0, 4160] P slices_S8704x12400_S8704x16_0_4160
abbrev out6 (P : Vec Ideal S8704x12400 .f32) : Vec Ideal S8704x6144 .f32 := extractStridedSlice S8704x6144 ![0, 4176] P slices_S8704x12400_S8704x6144_0_4176
abbrev out7 (P : Vec Ideal S8704x12400 .f32) : Vec Ideal S8704x16 .f32 := extractStridedSlice S8704x16 ![0, 10320] P slices_S8704x12400_S8704x16_0_10320
abbrev out8 (P : Vec Ideal S8704x12400 .f32) : Vec Ideal S8704x16 .f32 := extractStridedSlice S8704x16 ![0, 10336] P slices_S8704x12400_S8704x16_0_10336
abbrev out9 (P : Vec Ideal S8704x12400 .f32) : Vec Ideal S8704x2048 .f32 := extractStridedSlice S8704x2048 ![0, 10352] P slices_S8704x12400_S8704x2048_0_10352
abbrev out10 (P : Vec Ideal S8704x12400 .f32) : Vec Ideal S1x8192x4x128 .f32 := shapeCast _ (extractStridedSlice S8192x512 ![0, 0] (extractStridedSlice S8704x512 ![0, 2560] P slices_S8704x12400_S8704x512_0_2560) slices_S8704x512_S8192x512_0_0) shapeCasts_S8192x512_S1x8192x4x128
abbrev out11 (P : Vec Ideal S8704x12400 .f32) : Vec Ideal S16x32x4x128 .f32 := shapeCast _ (extractStridedSlice S512x512 ![8192, 0] (extractStridedSlice S8704x512 ![0, 2560] P slices_S8704x12400_S8704x512_0_2560) slices_S8704x512_S512x512_8192_0) shapeCasts_S512x512_S16x32x4x128
abbrev out12 (P : Vec Ideal S8704x12400 .f32) : Vec Ideal S1x3x6144 .f32 := broadcastInDim S1x3x6144 ![1, 2] bcast_S3x6144_S1x3x6144_1_2 (extractStridedSlice S3x6144 ![8189, 0] (extractStridedSlice S8704x6144 ![0, 4176] P slices_S8704x12400_S8704x6144_0_4176) slices_S8704x6144_S3x6144_8189_0)
abbrev out13 (P : Vec Ideal S8704x12400 .f32) : Vec Ideal S16x3x6144 .f32 := extractStridedSlice S16x3x6144 ![0, 29, 0] (shapeCast _ (extractStridedSlice S512x6144 ![8192, 0] (extractStridedSlice S8704x6144 ![0, 4176] P slices_S8704x12400_S8704x6144_0_4176) slices_S8704x6144_S512x6144_8192_0) shapeCasts_S512x6144_S16x32x6144) slices_S16x32x6144_S16x3x6144_0_29_0

/-- The reference's product, entry by entry. -/
theorem result (x0 : S8704x4096.Idx → EReal) (x1 : S4096x12400.Idx → EReal) :
    val_main_v0 (F := Ideal) x0 x1 = prodW x0 x1 := by
  funext i
  rw [val_main_v0_apply]
  unfold prodW
  refine Finset.sum_congr rfl fun k _ => ?_
  have hl : lidx_main_v0 i k = ix2 (i 0) k := by funext a; match a with | ⟨0, _⟩ => rfl | ⟨1, _⟩ => rfl
  have hr : ridx_main_v0 i k = ix2 k (i 1) := by funext a; match a with | ⟨0, _⟩ => rfl | ⟨1, _⟩ => rfl
  rw [hl, hr]
  rfl

/-- Every run of the reference ends with the product's groups. -/
theorem value (m : (ℓ : Loc nD τ sig) → Buf (Elt Ideal) ℓ) (ρ : Dev nD → PrngReg) (P : Dev nD → Vec Ideal S8704x12400 .f32)
    (hP : ∀ c, P c = prodW (m ((c.tc : Thread nD τ).loc main_arg0)) (m ((c.tc : Thread nD τ).loc main_arg1))) :
    θ_run (defs (F := Ideal)) (onTc (τ := τ) (main (F := Ideal))) ⟨m, fun _ => 0, ρ⟩ (fun r => ∀ c : Dev nD,
      r.2.mem ((c.tc : Thread nD τ).loc main_v1) = out0 (P c)
      ∧ r.2.mem ((c.tc : Thread nD τ).loc main_v2) = out1 (P c)
      ∧ r.2.mem ((c.tc : Thread nD τ).loc main_v3) = out2 (P c)
      ∧ r.2.mem ((c.tc : Thread nD τ).loc main_v4) = out3 (P c)
      ∧ r.2.mem ((c.tc : Thread nD τ).loc main_v5) = out4 (P c)
      ∧ r.2.mem ((c.tc : Thread nD τ).loc main_v6) = out5 (P c)
      ∧ r.2.mem ((c.tc : Thread nD τ).loc main_v7) = out6 (P c)
      ∧ r.2.mem ((c.tc : Thread nD τ).loc main_v8) = out7 (P c)
      ∧ r.2.mem ((c.tc : Thread nD τ).loc main_v9) = out8 (P c)
      ∧ r.2.mem ((c.tc : Thread nD τ).loc main_v10) = out9 (P c)
      ∧ r.2.mem ((c.tc : Thread nD τ).loc main_v12) = out10 (P c)
      ∧ r.2.mem ((c.tc : Thread nD τ).loc main_v14) = out11 (P c)
      ∧ r.2.mem ((c.tc : Thread nD τ).loc main_v16) = out12 (P c)
      ∧ r.2.mem ((c.tc : Thread nD τ).loc main_v19) = out13 (P c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => by
    have e := (result (m ((c.tc : Thread nD τ).loc main_arg0)) (m ((c.tc : Thread nD τ).loc main_arg1))).trans (hP c).symm
    rw [← e]
    exact h c) (Cert.OddInRefIdeal.Value.run (F := Ideal) m ρ)

/-- The frame of the reference: it ends, the arguments unchanged, the counters at zero. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => (h c).2.2.2.2.2.2.2.2.2.2.2.2.2.2, sem_eq_zero_of_no_sems (by decide) r.2⟩) (Cert.OddInRefIdeal.Value.run (F := Ideal) m ρ)

end Cert.OddInRefIdeal.Product

namespace Cert.OddInIdeal.Product

open Cert.OddInIdeal Cert.OddInIdeal.Gen
open Cert.OddInRefIdeal.Product (prodW)

/-- The product with the reordered weights. -/
abbrev prodR (x : S8704x4096.Idx → EReal) (w : S4096x12400.Idx → EReal) : Vec Ideal S8704x12800 .f32 := prodOf x (reordered w)

section
variable (x : S8704x4096.Idx → EReal) (w : S4096x12400.Idx → EReal)

/-- The group `qc` of the product with the reordered weights is that of the product. -/
theorem at_qc (r : Fin 8704) (j : Fin 2048) :
    prodR x w (ix2 r (⟨0 + j.val, by have := j.isLt; omega⟩ : Fin 12800)) = prodW x w (ix2 r (⟨0 + j.val, by have := j.isLt; omega⟩ : Fin 12400)) :=
  Finset.sum_congr rfl fun k _ => congrArg (fun b : EReal => x (ix2 r k) * b) (reordered_qc w k j)
theorem piece_qc : (extractStridedSlice S8704x2048 ![0, 0] (prodR x w) slices_S8704x12800_S8704x2048_0_0 : Vec Ideal S8704x2048 .f32)
    = extractStridedSlice S8704x2048 ![0, 0] (prodW x w) Cert.OddInRefIdeal.Gen.slices_S8704x12400_S8704x2048_0_0 := by
  funext i
  have h1 : (i 1).val < 2048 := (i 1).isLt
  refine (extractStridedSlice_apply ![0, 0] (prodR x w) slices_S8704x12800_S8704x2048_0_0 i (ix2 (i 0) (⟨0 + (i 1).val, by omega⟩ : Fin 12800)) ?_).trans
    ((at_qc x w (i 0) (i 1)).trans (extractStridedSlice_apply ![0, 0] (prodW x w) Cert.OddInRefIdeal.Gen.slices_S8704x12400_S8704x2048_0_0 i (ix2 (i 0) (⟨0 + (i 1).val, by omega⟩ : Fin 12400)) ?_).symm)
  · intro a
    match a with
    | ⟨0, _⟩ => show (i 0).val = 0 + (i 0).val; omega
    | ⟨1, _⟩ => rfl
  · intro a
    match a with
    | ⟨0, _⟩ => show (i 0).val = 0 + (i 0).val; omega
    | ⟨1, _⟩ => rfl

/-- The group `kc` of the product with the reordered weights is that of the product. -/
theorem at_kc (r : Fin 8704) (j : Fin 512) :
    prodR x w (ix2 r (⟨4096 + j.val, by have := j.isLt; omega⟩ : Fin 12800)) = prodW x w (ix2 r (⟨2048 + j.val, by have := j.isLt; omega⟩ : Fin 12400)) :=
  Finset.sum_congr rfl fun k _ => congrArg (fun b : EReal => x (ix2 r k) * b) (reordered_kc w k j)
theorem piece_kc : (extractStridedSlice S8704x512 ![0, 4096] (prodR x w) slices_S8704x12800_S8704x512_0_4096 : Vec Ideal S8704x512 .f32)
    = extractStridedSlice S8704x512 ![0, 2048] (prodW x w) Cert.OddInRefIdeal.Gen.slices_S8704x12400_S8704x512_0_2048 := by
  funext i
  have h1 : (i 1).val < 512 := (i 1).isLt
  refine (extractStridedSlice_apply ![0, 4096] (prodR x w) slices_S8704x12800_S8704x512_0_4096 i (ix2 (i 0) (⟨4096 + (i 1).val, by omega⟩ : Fin 12800)) ?_).trans
    ((at_kc x w (i 0) (i 1)).trans (extractStridedSlice_apply ![0, 2048] (prodW x w) Cert.OddInRefIdeal.Gen.slices_S8704x12400_S8704x512_0_2048 i (ix2 (i 0) (⟨2048 + (i 1).val, by omega⟩ : Fin 12400)) ?_).symm)
  · intro a
    match a with
    | ⟨0, _⟩ => show (i 0).val = 0 + (i 0).val; omega
    | ⟨1, _⟩ => rfl
  · intro a
    match a with
    | ⟨0, _⟩ => show (i 0).val = 0 + (i 0).val; omega
    | ⟨1, _⟩ => rfl

/-- The group `vc` of the product with the reordered weights is that of the product. -/
theorem at_vc (r : Fin 8704) (j : Fin 512) :
    prodR x w (ix2 r (⟨4608 + j.val, by have := j.isLt; omega⟩ : Fin 12800)) = prodW x w (ix2 r (⟨2560 + j.val, by have := j.isLt; omega⟩ : Fin 12400)) :=
  Finset.sum_congr rfl fun k _ => congrArg (fun b : EReal => x (ix2 r k) * b) (reordered_vc w k j)
theorem piece_vc : (extractStridedSlice S8704x512 ![0, 4608] (prodR x w) slices_S8704x12800_S8704x512_0_4608 : Vec Ideal S8704x512 .f32)
    = extractStridedSlice S8704x512 ![0, 2560] (prodW x w) Cert.OddInRefIdeal.Gen.slices_S8704x12400_S8704x512_0_2560 := by
  funext i
  have h1 : (i 1).val < 512 := (i 1).isLt
  refine (extractStridedSlice_apply ![0, 4608] (prodR x w) slices_S8704x12800_S8704x512_0_4608 i (ix2 (i 0) (⟨4608 + (i 1).val, by omega⟩ : Fin 12800)) ?_).trans
    ((at_vc x w (i 0) (i 1)).trans (extractStridedSlice_apply ![0, 2560] (prodW x w) Cert.OddInRefIdeal.Gen.slices_S8704x12400_S8704x512_0_2560 i (ix2 (i 0) (⟨2560 + (i 1).val, by omega⟩ : Fin 12400)) ?_).symm)
  · intro a
    match a with
    | ⟨0, _⟩ => show (i 0).val = 0 + (i 0).val; omega
    | ⟨1, _⟩ => rfl
  · intro a
    match a with
    | ⟨0, _⟩ => show (i 0).val = 0 + (i 0).val; omega
    | ⟨1, _⟩ => rfl

/-- The group `qi` of the product with the reordered weights is that of the product. -/
theorem at_qi (r : Fin 8704) (j : Fin 1024) :
    prodR x w (ix2 r (⟨5120 + j.val, by have := j.isLt; omega⟩ : Fin 12800)) = prodW x w (ix2 r (⟨3072 + j.val, by have := j.isLt; omega⟩ : Fin 12400)) :=
  Finset.sum_congr rfl fun k _ => congrArg (fun b : EReal => x (ix2 r k) * b) (reordered_qi w k j)
theorem piece_qi : (extractStridedSlice S8704x1024 ![0, 5120] (prodR x w) slices_S8704x12800_S8704x1024_0_5120 : Vec Ideal S8704x1024 .f32)
    = extractStridedSlice S8704x1024 ![0, 3072] (prodW x w) Cert.OddInRefIdeal.Gen.slices_S8704x12400_S8704x1024_0_3072 := by
  funext i
  have h1 : (i 1).val < 1024 := (i 1).isLt
  refine (extractStridedSlice_apply ![0, 5120] (prodR x w) slices_S8704x12800_S8704x1024_0_5120 i (ix2 (i 0) (⟨5120 + (i 1).val, by omega⟩ : Fin 12800)) ?_).trans
    ((at_qi x w (i 0) (i 1)).trans (extractStridedSlice_apply ![0, 3072] (prodW x w) Cert.OddInRefIdeal.Gen.slices_S8704x12400_S8704x1024_0_3072 i (ix2 (i 0) (⟨3072 + (i 1).val, by omega⟩ : Fin 12400)) ?_).symm)
  · intro a
    match a with
    | ⟨0, _⟩ => show (i 0).val = 0 + (i 0).val; omega
    | ⟨1, _⟩ => rfl
  · intro a
    match a with
    | ⟨0, _⟩ => show (i 0).val = 0 + (i 0).val; omega
    | ⟨1, _⟩ => rfl

/-- The group `ki` of the product with the reordered weights is that of the product. -/
theorem at_ki (r : Fin 8704) (j : Fin 64) :
    prodR x w (ix2 r (⟨12288 + j.val, by have := j.isLt; omega⟩ : Fin 12800)) = prodW x w (ix2 r (⟨4096 + j.val, by have := j.isLt; omega⟩ : Fin 12400)) :=
  Finset.sum_congr rfl fun k _ => congrArg (fun b : EReal => x (ix2 r k) * b) (reordered_ki w k j)
theorem piece_ki : (extractStridedSlice S8704x64 ![0, 12288] (prodR x w) slices_S8704x12800_S8704x64_0_12288 : Vec Ideal S8704x64 .f32)
    = extractStridedSlice S8704x64 ![0, 4096] (prodW x w) Cert.OddInRefIdeal.Gen.slices_S8704x12400_S8704x64_0_4096 := by
  funext i
  have h1 : (i 1).val < 64 := (i 1).isLt
  refine (extractStridedSlice_apply ![0, 12288] (prodR x w) slices_S8704x12800_S8704x64_0_12288 i (ix2 (i 0) (⟨12288 + (i 1).val, by omega⟩ : Fin 12800)) ?_).trans
    ((at_ki x w (i 0) (i 1)).trans (extractStridedSlice_apply ![0, 4096] (prodW x w) Cert.OddInRefIdeal.Gen.slices_S8704x12400_S8704x64_0_4096 i (ix2 (i 0) (⟨4096 + (i 1).val, by omega⟩ : Fin 12400)) ?_).symm)
  · intro a
    match a with
    | ⟨0, _⟩ => show (i 0).val = 0 + (i 0).val; omega
    | ⟨1, _⟩ => rfl
  · intro a
    match a with
    | ⟨0, _⟩ => show (i 0).val = 0 + (i 0).val; omega
    | ⟨1, _⟩ => rfl

/-- The group `wi` of the product with the reordered weights is that of the product. -/
theorem at_wi (r : Fin 8704) (j : Fin 16) :
    prodR x w (ix2 r (⟨12416 + j.val, by have := j.isLt; omega⟩ : Fin 12800)) = prodW x w (ix2 r (⟨4160 + j.val, by have := j.isLt; omega⟩ : Fin 12400)) :=
  Finset.sum_congr rfl fun k _ => congrArg (fun b : EReal => x (ix2 r k) * b) (reordered_wi w k j)
theorem piece_wi : (extractStridedSlice S8704x16 ![0, 12416] (prodR x w) slices_S8704x12800_S8704x16_0_12416 : Vec Ideal S8704x16 .f32)
    = extractStridedSlice S8704x16 ![0, 4160] (prodW x w) Cert.OddInRefIdeal.Gen.slices_S8704x12400_S8704x16_0_4160 := by
  funext i
  have h1 : (i 1).val < 16 := (i 1).isLt
  refine (extractStridedSlice_apply ![0, 12416] (prodR x w) slices_S8704x12800_S8704x16_0_12416 i (ix2 (i 0) (⟨12416 + (i 1).val, by omega⟩ : Fin 12800)) ?_).trans
    ((at_wi x w (i 0) (i 1)).trans (extractStridedSlice_apply ![0, 4160] (prodW x w) Cert.OddInRefIdeal.Gen.slices_S8704x12400_S8704x16_0_4160 i (ix2 (i 0) (⟨4160 + (i 1).val, by omega⟩ : Fin 12400)) ?_).symm)
  · intro a
    match a with
    | ⟨0, _⟩ => show (i 0).val = 0 + (i 0).val; omega
    | ⟨1, _⟩ => rfl
  · intro a
    match a with
    | ⟨0, _⟩ => show (i 0).val = 0 + (i 0).val; omega
    | ⟨1, _⟩ => rfl

/-- The group `qkv` of the product with the reordered weights is that of the product. -/
theorem at_qkv (r : Fin 8704) (j : Fin 6144) :
    prodR x w (ix2 r (⟨6144 + j.val, by have := j.isLt; omega⟩ : Fin 12800)) = prodW x w (ix2 r (⟨4176 + j.val, by have := j.isLt; omega⟩ : Fin 12400)) :=
  Finset.sum_congr rfl fun k _ => congrArg (fun b : EReal => x (ix2 r k) * b) (reordered_qkv w k j)
theorem piece_qkv : (extractStridedSlice S8704x6144 ![0, 6144] (prodR x w) slices_S8704x12800_S8704x6144_0_6144 : Vec Ideal S8704x6144 .f32)
    = extractStridedSlice S8704x6144 ![0, 4176] (prodW x w) Cert.OddInRefIdeal.Gen.slices_S8704x12400_S8704x6144_0_4176 := by
  funext i
  have h1 : (i 1).val < 6144 := (i 1).isLt
  refine (extractStridedSlice_apply ![0, 6144] (prodR x w) slices_S8704x12800_S8704x6144_0_6144 i (ix2 (i 0) (⟨6144 + (i 1).val, by omega⟩ : Fin 12800)) ?_).trans
    ((at_qkv x w (i 0) (i 1)).trans (extractStridedSlice_apply ![0, 4176] (prodW x w) Cert.OddInRefIdeal.Gen.slices_S8704x12400_S8704x6144_0_4176 i (ix2 (i 0) (⟨4176 + (i 1).val, by omega⟩ : Fin 12400)) ?_).symm)
  · intro a
    match a with
    | ⟨0, _⟩ => show (i 0).val = 0 + (i 0).val; omega
    | ⟨1, _⟩ => rfl
  · intro a
    match a with
    | ⟨0, _⟩ => show (i 0).val = 0 + (i 0).val; omega
    | ⟨1, _⟩ => rfl

/-- The group `a` of the product with the reordered weights is that of the product. -/
theorem at_a (r : Fin 8704) (j : Fin 16) :
    prodR x w (ix2 r (⟨12544 + j.val, by have := j.isLt; omega⟩ : Fin 12800)) = prodW x w (ix2 r (⟨10320 + j.val, by have := j.isLt; omega⟩ : Fin 12400)) :=
  Finset.sum_congr rfl fun k _ => congrArg (fun b : EReal => x (ix2 r k) * b) (reordered_a w k j)
theorem piece_a : (extractStridedSlice S8704x16 ![0, 12544] (prodR x w) slices_S8704x12800_S8704x16_0_12544 : Vec Ideal S8704x16 .f32)
    = extractStridedSlice S8704x16 ![0, 10320] (prodW x w) Cert.OddInRefIdeal.Gen.slices_S8704x12400_S8704x16_0_10320 := by
  funext i
  have h1 : (i 1).val < 16 := (i 1).isLt
  refine (extractStridedSlice_apply ![0, 12544] (prodR x w) slices_S8704x12800_S8704x16_0_12544 i (ix2 (i 0) (⟨12544 + (i 1).val, by omega⟩ : Fin 12800)) ?_).trans
    ((at_a x w (i 0) (i 1)).trans (extractStridedSlice_apply ![0, 10320] (prodW x w) Cert.OddInRefIdeal.Gen.slices_S8704x12400_S8704x16_0_10320 i (ix2 (i 0) (⟨10320 + (i 1).val, by omega⟩ : Fin 12400)) ?_).symm)
  · intro a
    match a with
    | ⟨0, _⟩ => show (i 0).val = 0 + (i 0).val; omega
    | ⟨1, _⟩ => rfl
  · intro a
    match a with
    | ⟨0, _⟩ => show (i 0).val = 0 + (i 0).val; omega
    | ⟨1, _⟩ => rfl

/-- The group `b` of the product with the reordered weights is that of the product. -/
theorem at_b (r : Fin 8704) (j : Fin 16) :
    prodR x w (ix2 r (⟨12672 + j.val, by have := j.isLt; omega⟩ : Fin 12800)) = prodW x w (ix2 r (⟨10336 + j.val, by have := j.isLt; omega⟩ : Fin 12400)) :=
  Finset.sum_congr rfl fun k _ => congrArg (fun b : EReal => x (ix2 r k) * b) (reordered_b w k j)
theorem piece_b : (extractStridedSlice S8704x16 ![0, 12672] (prodR x w) slices_S8704x12800_S8704x16_0_12672 : Vec Ideal S8704x16 .f32)
    = extractStridedSlice S8704x16 ![0, 10336] (prodW x w) Cert.OddInRefIdeal.Gen.slices_S8704x12400_S8704x16_0_10336 := by
  funext i
  have h1 : (i 1).val < 16 := (i 1).isLt
  refine (extractStridedSlice_apply ![0, 12672] (prodR x w) slices_S8704x12800_S8704x16_0_12672 i (ix2 (i 0) (⟨12672 + (i 1).val, by omega⟩ : Fin 12800)) ?_).trans
    ((at_b x w (i 0) (i 1)).trans (extractStridedSlice_apply ![0, 10336] (prodW x w) Cert.OddInRefIdeal.Gen.slices_S8704x12400_S8704x16_0_10336 i (ix2 (i 0) (⟨10336 + (i 1).val, by omega⟩ : Fin 12400)) ?_).symm)
  · intro a
    match a with
    | ⟨0, _⟩ => show (i 0).val = 0 + (i 0).val; omega
    | ⟨1, _⟩ => rfl
  · intro a
    match a with
    | ⟨0, _⟩ => show (i 0).val = 0 + (i 0).val; omega
    | ⟨1, _⟩ => rfl

/-- The group `g` of the product with the reordered weights is that of the product. -/
theorem at_g (r : Fin 8704) (j : Fin 2048) :
    prodR x w (ix2 r (⟨2048 + j.val, by have := j.isLt; omega⟩ : Fin 12800)) = prodW x w (ix2 r (⟨10352 + j.val, by have := j.isLt; omega⟩ : Fin 12400)) :=
  Finset.sum_congr rfl fun k _ => congrArg (fun b : EReal => x (ix2 r k) * b) (reordered_g w k j)
theorem piece_g : (extractStridedSlice S8704x2048 ![0, 2048] (prodR x w) slices_S8704x12800_S8704x2048_0_2048 : Vec Ideal S8704x2048 .f32)
    = extractStridedSlice S8704x2048 ![0, 10352] (prodW x w) Cert.OddInRefIdeal.Gen.slices_S8704x12400_S8704x2048_0_10352 := by
  funext i
  have h1 : (i 1).val < 2048 := (i 1).isLt
  refine (extractStridedSlice_apply ![0, 2048] (prodR x w) slices_S8704x12800_S8704x2048_0_2048 i (ix2 (i 0) (⟨2048 + (i 1).val, by omega⟩ : Fin 12800)) ?_).trans
    ((at_g x w (i 0) (i 1)).trans (extractStridedSlice_apply ![0, 10352] (prodW x w) Cert.OddInRefIdeal.Gen.slices_S8704x12400_S8704x2048_0_10352 i (ix2 (i 0) (⟨10352 + (i 1).val, by omega⟩ : Fin 12400)) ?_).symm)
  · intro a
    match a with
    | ⟨0, _⟩ => show (i 0).val = 0 + (i 0).val; omega
    | ⟨1, _⟩ => rfl
  · intro a
    match a with
    | ⟨0, _⟩ => show (i 0).val = 0 + (i 0).val; omega
    | ⟨1, _⟩ => rfl

theorem part_vp : (extractStridedSlice S8192x512 ![0, 4608] (prodR x w) slices_S8704x12800_S8192x512_0_4608 : Vec Ideal S8192x512 .f32)
    = extractStridedSlice S8192x512 ![0, 0] (extractStridedSlice S8704x512 ![0, 2560] (prodW x w) Cert.OddInRefIdeal.Gen.slices_S8704x12400_S8704x512_0_2560) Cert.OddInRefIdeal.Gen.slices_S8704x512_S8192x512_0_0 := by
  funext i
  have h0 : (i 0).val < 8192 := (i 0).isLt
  have h1 : (i 1).val < 512 := (i 1).isLt
  refine (extractStridedSlice_apply ![0, 4608] (prodR x w) slices_S8704x12800_S8192x512_0_4608 i (ix2 (⟨0 + (i 0).val, by omega⟩ : Fin 8704) (⟨4608 + (i 1).val, by omega⟩ : Fin 12800)) ?_).trans ?_
  · intro a
    match a with
    | ⟨0, _⟩ => rfl
    | ⟨1, _⟩ => rfl
  refine (at_vc x w (⟨0 + (i 0).val, by omega⟩ : Fin 8704) (i 1)).trans ?_
  refine ((extractStridedSlice_apply ![0, 0] (extractStridedSlice S8704x512 ![0, 2560] (prodW x w) Cert.OddInRefIdeal.Gen.slices_S8704x12400_S8704x512_0_2560) Cert.OddInRefIdeal.Gen.slices_S8704x512_S8192x512_0_0 i (ix2 (⟨0 + (i 0).val, by omega⟩ : Fin 8704) (i 1)) ?_).trans
    (extractStridedSlice_apply ![0, 2560] (prodW x w) Cert.OddInRefIdeal.Gen.slices_S8704x12400_S8704x512_0_2560 (ix2 (⟨0 + (i 0).val, by omega⟩ : Fin 8704) (i 1)) (ix2 (⟨0 + (i 0).val, by omega⟩ : Fin 8704) (⟨2560 + (i 1).val, by omega⟩ : Fin 12400)) ?_)).symm
  · intro a
    match a with
    | ⟨0, _⟩ => rfl
    | ⟨1, _⟩ => show (i 1).val = 0 + (i 1).val; omega
  · intro a
    match a with
    | ⟨0, _⟩ => show 0 + (i 0).val = 0 + (0 + (i 0).val); omega
    | ⟨1, _⟩ => rfl

theorem part_vs : (extractStridedSlice S512x512 ![0, 4608] (extractStridedSlice S512x12800 ![8192, 0] (prodR x w) slices_S8704x12800_S512x12800_8192_0) slices_S512x12800_S512x512_0_4608 : Vec Ideal S512x512 .f32)
    = extractStridedSlice S512x512 ![8192, 0] (extractStridedSlice S8704x512 ![0, 2560] (prodW x w) Cert.OddInRefIdeal.Gen.slices_S8704x12400_S8704x512_0_2560) Cert.OddInRefIdeal.Gen.slices_S8704x512_S512x512_8192_0 := by
  funext i
  have h0 : (i 0).val < 512 := (i 0).isLt
  have h1 : (i 1).val < 512 := (i 1).isLt
  refine (extractStridedSlice_apply ![0, 4608] _ slices_S512x12800_S512x512_0_4608 i (ix2 (i 0) (⟨4608 + (i 1).val, by omega⟩ : Fin 12800)) ?_).trans
    ((extractStridedSlice_apply ![8192, 0] (prodR x w) slices_S8704x12800_S512x12800_8192_0 (ix2 (i 0) (⟨4608 + (i 1).val, by omega⟩ : Fin 12800)) (ix2 (⟨8192 + (i 0).val, by omega⟩ : Fin 8704) (⟨4608 + (i 1).val, by omega⟩ : Fin 12800)) ?_).trans ?_)
  · intro a
    match a with
    | ⟨0, _⟩ => show (i 0).val = 0 + (i 0).val; omega
    | ⟨1, _⟩ => rfl
  · intro a
    match a with
    | ⟨0, _⟩ => rfl
    | ⟨1, _⟩ => show 4608 + (i 1).val = 0 + (4608 + (i 1).val); omega
  refine (at_vc x w (⟨8192 + (i 0).val, by omega⟩ : Fin 8704) (i 1)).trans ?_
  refine ((extractStridedSlice_apply ![8192, 0] (extractStridedSlice S8704x512 ![0, 2560] (prodW x w) Cert.OddInRefIdeal.Gen.slices_S8704x12400_S8704x512_0_2560) Cert.OddInRefIdeal.Gen.slices_S8704x512_S512x512_8192_0 i (ix2 (⟨8192 + (i 0).val, by omega⟩ : Fin 8704) (i 1)) ?_).trans
    (extractStridedSlice_apply ![0, 2560] (prodW x w) Cert.OddInRefIdeal.Gen.slices_S8704x12400_S8704x512_0_2560 (ix2 (⟨8192 + (i 0).val, by omega⟩ : Fin 8704) (i 1)) (ix2 (⟨8192 + (i 0).val, by omega⟩ : Fin 8704) (⟨2560 + (i 1).val, by omega⟩ : Fin 12400)) ?_)).symm
  · intro a
    match a with
    | ⟨0, _⟩ => rfl
    | ⟨1, _⟩ => show (i 1).val = 0 + (i 1).val; omega
  · intro a
    match a with
    | ⟨0, _⟩ => show 8192 + (i 0).val = 0 + (8192 + (i 0).val); omega
    | ⟨1, _⟩ => rfl

theorem part_cp : (extractStridedSlice S3x6144 ![8189, 6144] (prodR x w) slices_S8704x12800_S3x6144_8189_6144 : Vec Ideal S3x6144 .f32)
    = extractStridedSlice S3x6144 ![8189, 0] (extractStridedSlice S8704x6144 ![0, 4176] (prodW x w) Cert.OddInRefIdeal.Gen.slices_S8704x12400_S8704x6144_0_4176) Cert.OddInRefIdeal.Gen.slices_S8704x6144_S3x6144_8189_0 := by
  funext i
  have h0 : (i 0).val < 3 := (i 0).isLt
  have h1 : (i 1).val < 6144 := (i 1).isLt
  refine (extractStridedSlice_apply ![8189, 6144] (prodR x w) slices_S8704x12800_S3x6144_8189_6144 i (ix2 (⟨8189 + (i 0).val, by omega⟩ : Fin 8704) (⟨6144 + (i 1).val, by omega⟩ : Fin 12800)) ?_).trans ?_
  · intro a
    match a with
    | ⟨0, _⟩ => rfl
    | ⟨1, _⟩ => rfl
  refine (at_qkv x w (⟨8189 + (i 0).val, by omega⟩ : Fin 8704) (i 1)).trans ?_
  refine ((extractStridedSlice_apply ![8189, 0] (extractStridedSlice S8704x6144 ![0, 4176] (prodW x w) Cert.OddInRefIdeal.Gen.slices_S8704x12400_S8704x6144_0_4176) Cert.OddInRefIdeal.Gen.slices_S8704x6144_S3x6144_8189_0 i (ix2 (⟨8189 + (i 0).val, by omega⟩ : Fin 8704) (i 1)) ?_).trans
    (extractStridedSlice_apply ![0, 4176] (prodW x w) Cert.OddInRefIdeal.Gen.slices_S8704x12400_S8704x6144_0_4176 (ix2 (⟨8189 + (i 0).val, by omega⟩ : Fin 8704) (i 1)) (ix2 (⟨8189 + (i 0).val, by omega⟩ : Fin 8704) (⟨4176 + (i 1).val, by omega⟩ : Fin 12400)) ?_)).symm
  · intro a
    match a with
    | ⟨0, _⟩ => rfl
    | ⟨1, _⟩ => show (i 1).val = 0 + (i 1).val; omega
  · intro a
    match a with
    | ⟨0, _⟩ => show 8189 + (i 0).val = 0 + (8189 + (i 0).val); omega
    | ⟨1, _⟩ => rfl

theorem part_cs : (extractStridedSlice S512x6144 ![0, 6144] (extractStridedSlice S512x12800 ![8192, 0] (prodR x w) slices_S8704x12800_S512x12800_8192_0) slices_S512x12800_S512x6144_0_6144 : Vec Ideal S512x6144 .f32)
    = extractStridedSlice S512x6144 ![8192, 0] (extractStridedSlice S8704x6144 ![0, 4176] (prodW x w) Cert.OddInRefIdeal.Gen.slices_S8704x12400_S8704x6144_0_4176) Cert.OddInRefIdeal.Gen.slices_S8704x6144_S512x6144_8192_0 := by
  funext i
  have h0 : (i 0).val < 512 := (i 0).isLt
  have h1 : (i 1).val < 6144 := (i 1).isLt
  refine (extractStridedSlice_apply ![0, 6144] _ slices_S512x12800_S512x6144_0_6144 i (ix2 (i 0) (⟨6144 + (i 1).val, by omega⟩ : Fin 12800)) ?_).trans
    ((extractStridedSlice_apply ![8192, 0] (prodR x w) slices_S8704x12800_S512x12800_8192_0 (ix2 (i 0) (⟨6144 + (i 1).val, by omega⟩ : Fin 12800)) (ix2 (⟨8192 + (i 0).val, by omega⟩ : Fin 8704) (⟨6144 + (i 1).val, by omega⟩ : Fin 12800)) ?_).trans ?_)
  · intro a
    match a with
    | ⟨0, _⟩ => show (i 0).val = 0 + (i 0).val; omega
    | ⟨1, _⟩ => rfl
  · intro a
    match a with
    | ⟨0, _⟩ => rfl
    | ⟨1, _⟩ => show 6144 + (i 1).val = 0 + (6144 + (i 1).val); omega
  refine (at_qkv x w (⟨8192 + (i 0).val, by omega⟩ : Fin 8704) (i 1)).trans ?_
  refine ((extractStridedSlice_apply ![8192, 0] (extractStridedSlice S8704x6144 ![0, 4176] (prodW x w) Cert.OddInRefIdeal.Gen.slices_S8704x12400_S8704x6144_0_4176) Cert.OddInRefIdeal.Gen.slices_S8704x6144_S512x6144_8192_0 i (ix2 (⟨8192 + (i 0).val, by omega⟩ : Fin 8704) (i 1)) ?_).trans
    (extractStridedSlice_apply ![0, 4176] (prodW x w) Cert.OddInRefIdeal.Gen.slices_S8704x12400_S8704x6144_0_4176 (ix2 (⟨8192 + (i 0).val, by omega⟩ : Fin 8704) (i 1)) (ix2 (⟨8192 + (i 0).val, by omega⟩ : Fin 8704) (⟨4176 + (i 1).val, by omega⟩ : Fin 12400)) ?_)).symm
  · intro a
    match a with
    | ⟨0, _⟩ => rfl
    | ⟨1, _⟩ => show (i 1).val = 0 + (i 1).val; omega
  · intro a
    match a with
    | ⟨0, _⟩ => show 8192 + (i 0).val = 0 + (8192 + (i 0).val); omega
    | ⟨1, _⟩ => rfl

end

/-! The results, of what the region leaves, `A`. -/

abbrev res0 (A : Vec Ideal S8704x12800 .f32) : Vec Ideal S8704x2048 .f32 := extractStridedSlice S8704x2048 ![0, 0] A slices_S8704x12800_S8704x2048_0_0
abbrev res1 (A : Vec Ideal S8704x12800 .f32) : Vec Ideal S8704x512 .f32 := extractStridedSlice S8704x512 ![0, 4096] A slices_S8704x12800_S8704x512_0_4096
abbrev res2 (A : Vec Ideal S8704x12800 .f32) : Vec Ideal S8704x512 .f32 := extractStridedSlice S8704x512 ![0, 4608] A slices_S8704x12800_S8704x512_0_4608
abbrev res3 (A : Vec Ideal S8704x12800 .f32) : Vec Ideal S8704x1024 .f32 := extractStridedSlice S8704x1024 ![0, 5120] A slices_S8704x12800_S8704x1024_0_5120
abbrev res4 (A : Vec Ideal S8704x12800 .f32) : Vec Ideal S8704x64 .f32 := extractStridedSlice S8704x64 ![0, 12288] A slices_S8704x12800_S8704x64_0_12288
abbrev res5 (A : Vec Ideal S8704x12800 .f32) : Vec Ideal S8704x16 .f32 := extractStridedSlice S8704x16 ![0, 12416] A slices_S8704x12800_S8704x16_0_12416
abbrev res6 (A : Vec Ideal S8704x12800 .f32) : Vec Ideal S8704x6144 .f32 := extractStridedSlice S8704x6144 ![0, 6144] A slices_S8704x12800_S8704x6144_0_6144
abbrev res7 (A : Vec Ideal S8704x12800 .f32) : Vec Ideal S8704x16 .f32 := extractStridedSlice S8704x16 ![0, 12544] A slices_S8704x12800_S8704x16_0_12544
abbrev res8 (A : Vec Ideal S8704x12800 .f32) : Vec Ideal S8704x16 .f32 := extractStridedSlice S8704x16 ![0, 12672] A slices_S8704x12800_S8704x16_0_12672
abbrev res9 (A : Vec Ideal S8704x12800 .f32) : Vec Ideal S8704x2048 .f32 := extractStridedSlice S8704x2048 ![0, 2048] A slices_S8704x12800_S8704x2048_0_2048
abbrev res10 (A : Vec Ideal S8704x12800 .f32) : Vec Ideal S1x8192x4x128 .f32 := shapeCast S1x8192x4x128 (extractStridedSlice S8192x512 ![0, 4608] A slices_S8704x12800_S8192x512_0_4608) shapeCasts_S8192x512_S1x8192x4x128
abbrev res11 (A : Vec Ideal S8704x12800 .f32) : Vec Ideal S16x32x4x128 .f32 := shapeCast S16x32x4x128 (extractStridedSlice S512x512 ![0, 4608] (extractStridedSlice S512x12800 ![8192, 0] A slices_S8704x12800_S512x12800_8192_0) slices_S512x12800_S512x512_0_4608) shapeCasts_S512x512_S16x32x4x128
abbrev res12 (A : Vec Ideal S8704x12800 .f32) : Vec Ideal S1x3x6144 .f32 := broadcastInDim S1x3x6144 ![1, 2] bcast_S3x6144_S1x3x6144_1_2 (extractStridedSlice S3x6144 ![8189, 6144] A slices_S8704x12800_S3x6144_8189_6144)
abbrev res13 (A : Vec Ideal S8704x12800 .f32) : Vec Ideal S16x3x6144 .f32 := extractStridedSlice S16x3x6144 ![0, 29, 0] (shapeCast S16x32x6144 (extractStridedSlice S512x6144 ![0, 6144] (extractStridedSlice S512x12800 ![8192, 0] A slices_S8704x12800_S512x12800_8192_0) slices_S512x12800_S512x6144_0_6144) shapeCasts_S512x6144_S16x32x6144) slices_S16x32x6144_S16x3x6144_0_29_0
theorem same0 (x : S8704x4096.Idx → EReal) (w : S4096x12400.Idx → EReal) : res0 (prodR x w) = Cert.OddInRefIdeal.Product.out0 (prodW x w) :=
  piece_qc x w
theorem same1 (x : S8704x4096.Idx → EReal) (w : S4096x12400.Idx → EReal) : res1 (prodR x w) = Cert.OddInRefIdeal.Product.out1 (prodW x w) :=
  piece_kc x w
theorem same2 (x : S8704x4096.Idx → EReal) (w : S4096x12400.Idx → EReal) : res2 (prodR x w) = Cert.OddInRefIdeal.Product.out2 (prodW x w) :=
  piece_vc x w
theorem same3 (x : S8704x4096.Idx → EReal) (w : S4096x12400.Idx → EReal) : res3 (prodR x w) = Cert.OddInRefIdeal.Product.out3 (prodW x w) :=
  piece_qi x w
theorem same4 (x : S8704x4096.Idx → EReal) (w : S4096x12400.Idx → EReal) : res4 (prodR x w) = Cert.OddInRefIdeal.Product.out4 (prodW x w) :=
  piece_ki x w
theorem same5 (x : S8704x4096.Idx → EReal) (w : S4096x12400.Idx → EReal) : res5 (prodR x w) = Cert.OddInRefIdeal.Product.out5 (prodW x w) :=
  piece_wi x w
theorem same6 (x : S8704x4096.Idx → EReal) (w : S4096x12400.Idx → EReal) : res6 (prodR x w) = Cert.OddInRefIdeal.Product.out6 (prodW x w) :=
  piece_qkv x w
theorem same7 (x : S8704x4096.Idx → EReal) (w : S4096x12400.Idx → EReal) : res7 (prodR x w) = Cert.OddInRefIdeal.Product.out7 (prodW x w) :=
  piece_a x w
theorem same8 (x : S8704x4096.Idx → EReal) (w : S4096x12400.Idx → EReal) : res8 (prodR x w) = Cert.OddInRefIdeal.Product.out8 (prodW x w) :=
  piece_b x w
theorem same9 (x : S8704x4096.Idx → EReal) (w : S4096x12400.Idx → EReal) : res9 (prodR x w) = Cert.OddInRefIdeal.Product.out9 (prodW x w) :=
  piece_g x w
theorem same10 (x : S8704x4096.Idx → EReal) (w : S4096x12400.Idx → EReal) : res10 (prodR x w) = Cert.OddInRefIdeal.Product.out10 (prodW x w) :=
  congrArg (fun p : Vec Ideal S8192x512 .f32 => (shapeCast S1x8192x4x128 p shapeCasts_S8192x512_S1x8192x4x128 : Vec Ideal S1x8192x4x128 .f32)) (part_vp x w)
theorem same11 (x : S8704x4096.Idx → EReal) (w : S4096x12400.Idx → EReal) : res11 (prodR x w) = Cert.OddInRefIdeal.Product.out11 (prodW x w) :=
  congrArg (fun p : Vec Ideal S512x512 .f32 => (shapeCast S16x32x4x128 p shapeCasts_S512x512_S16x32x4x128 : Vec Ideal S16x32x4x128 .f32)) (part_vs x w)
theorem same12 (x : S8704x4096.Idx → EReal) (w : S4096x12400.Idx → EReal) : res12 (prodR x w) = Cert.OddInRefIdeal.Product.out12 (prodW x w) :=
  congrArg (fun p : Vec Ideal S3x6144 .f32 => (broadcastInDim S1x3x6144 ![1, 2] bcast_S3x6144_S1x3x6144_1_2 p : Vec Ideal S1x3x6144 .f32)) (part_cp x w)
theorem same13 (x : S8704x4096.Idx → EReal) (w : S4096x12400.Idx → EReal) : res13 (prodR x w) = Cert.OddInRefIdeal.Product.out13 (prodW x w) := by
  unfold res13 Cert.OddInRefIdeal.Product.out13
  rw [part_cs x w]

variable (m : (ℓ : Loc nD τ sig) → Buf (Elt Ideal) ℓ) (ρ : Dev nD → PrngReg)

/-- The rows the region finds are the argument's; its weights are the argument's, reordered. -/
theorem V_rows (c : Dev nD) : (V m c main_v22 : S8704x4096.Idx → EReal) = m ((c.tc : Thread nD τ).loc main_arg0) := by
  show StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20]) _ _ = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append, List.nil_append]
  after_results
  rfl
theorem V_weights (c : Dev nD) : (V m c main_v21 : S4096x12800.Idx → EReal) = reordered (m ((c.tc : Thread nD τ).loc main_arg1)) := by
  show StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20]) _ _ = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append, List.nil_append]
  after_results
  rfl

/-- What the region leaves. -/
theorem region (c : Dev nD) : (Pipeline.withArrays (cfgs 0).spec c (V0 m c) (fun w => (dats m 0 c).arrAt w (cfgs 0).N) (Proc.devRef .tc main_v23) : Vec Ideal S8704x12800 .f32)
    = prodR (m ((c.tc : Thread nD τ).loc main_arg0)) (m ((c.tc : Thread nD τ).loc main_arg1)) := by
  have e : Pipeline.withArrays (cfgs 0).spec c (V0 m c) (fun w => (dats m 0 c).arrAt w (cfgs 0).N) (Proc.devRef .tc main_v23) = result m c :=
    (Pipeline.withArrays_arr (cfgs 0).spec (by decide) c (V0 m c) (fun w => (dats m 0 c).arrAt w (cfgs 0).N) (2 : Fin 3)).trans (final m c)
  rw [e]
  unfold result
  rw [V_rows, V_weights]

section
variable (U : Valuation τ sig (Elt Ideal))
/-! What the operations after the region leave, of what they find. -/
theorem tail0 : StableHlo.after hostOps1 U (Proc.devRef .tc main_v27) = res0 (U (Proc.devRef .tc main_v23)) := by
  after_results <;> rfl
theorem tail1 : StableHlo.after hostOps1 U (Proc.devRef .tc main_v28) = res1 (U (Proc.devRef .tc main_v23)) := by
  after_results <;> rfl
theorem tail2 : StableHlo.after hostOps1 U (Proc.devRef .tc main_v29) = res2 (U (Proc.devRef .tc main_v23)) := by
  after_results <;> rfl
theorem tail3 : StableHlo.after hostOps1 U (Proc.devRef .tc main_v30) = res3 (U (Proc.devRef .tc main_v23)) := by
  after_results <;> rfl
theorem tail4 : StableHlo.after hostOps1 U (Proc.devRef .tc main_v31) = res4 (U (Proc.devRef .tc main_v23)) := by
  after_results <;> rfl
theorem tail5 : StableHlo.after hostOps1 U (Proc.devRef .tc main_v32) = res5 (U (Proc.devRef .tc main_v23)) := by
  after_results <;> rfl
theorem tail6 : StableHlo.after hostOps1 U (Proc.devRef .tc main_v33) = res6 (U (Proc.devRef .tc main_v23)) := by
  after_results <;> rfl
theorem tail7 : StableHlo.after hostOps1 U (Proc.devRef .tc main_v34) = res7 (U (Proc.devRef .tc main_v23)) := by
  after_results <;> rfl
theorem tail8 : StableHlo.after hostOps1 U (Proc.devRef .tc main_v35) = res8 (U (Proc.devRef .tc main_v23)) := by
  after_results <;> rfl
theorem tail9 : StableHlo.after hostOps1 U (Proc.devRef .tc main_v36) = res9 (U (Proc.devRef .tc main_v23)) := by
  after_results <;> rfl
theorem tail10 : StableHlo.after hostOps1 U (Proc.devRef .tc main_v38) = res10 (U (Proc.devRef .tc main_v23)) := by
  after_results <;> rfl
theorem tail11 : StableHlo.after hostOps1 U (Proc.devRef .tc main_v40) = res11 (U (Proc.devRef .tc main_v23)) := by
  after_results <;> rfl
theorem tail12 : StableHlo.after hostOps1 U (Proc.devRef .tc main_v42) = res12 (U (Proc.devRef .tc main_v23)) := by
  after_results <;> rfl
theorem tail13 : StableHlo.after hostOps1 U (Proc.devRef .tc main_v43) = res13 (U (Proc.devRef .tc main_v23)) := by
  after_results <;> rfl
end

/-- The product of a memory's arguments. -/
abbrev prodAt (c : Dev nD) : Vec Ideal Cert.OddInRefIdeal.S8704x12400 .f32 := prodW (m ((c.tc : Thread nD τ).loc main_arg0)) (m ((c.tc : Thread nD τ).loc main_arg1))

/-- Every run ends with the product's groups. -/
theorem value : θ_run (defs (F := Ideal)) (onTc (τ := τ) (main (F := Ideal))) ⟨m, fun _ => 0, ρ⟩ (fun r => ∀ c : Dev nD,
      r.2.mem ((c.tc : Thread nD τ).loc main_v27) = Cert.OddInRefIdeal.Product.out0 (prodAt m c)
      ∧ r.2.mem ((c.tc : Thread nD τ).loc main_v28) = Cert.OddInRefIdeal.Product.out1 (prodAt m c)
      ∧ r.2.mem ((c.tc : Thread nD τ).loc main_v29) = Cert.OddInRefIdeal.Product.out2 (prodAt m c)
      ∧ r.2.mem ((c.tc : Thread nD τ).loc main_v30) = Cert.OddInRefIdeal.Product.out3 (prodAt m c)
      ∧ r.2.mem ((c.tc : Thread nD τ).loc main_v31) = Cert.OddInRefIdeal.Product.out4 (prodAt m c)
      ∧ r.2.mem ((c.tc : Thread nD τ).loc main_v32) = Cert.OddInRefIdeal.Product.out5 (prodAt m c)
      ∧ r.2.mem ((c.tc : Thread nD τ).loc main_v33) = Cert.OddInRefIdeal.Product.out6 (prodAt m c)
      ∧ r.2.mem ((c.tc : Thread nD τ).loc main_v34) = Cert.OddInRefIdeal.Product.out7 (prodAt m c)
      ∧ r.2.mem ((c.tc : Thread nD τ).loc main_v35) = Cert.OddInRefIdeal.Product.out8 (prodAt m c)
      ∧ r.2.mem ((c.tc : Thread nD τ).loc main_v36) = Cert.OddInRefIdeal.Product.out9 (prodAt m c)
      ∧ r.2.mem ((c.tc : Thread nD τ).loc main_v38) = Cert.OddInRefIdeal.Product.out10 (prodAt m c)
      ∧ r.2.mem ((c.tc : Thread nD τ).loc main_v40) = Cert.OddInRefIdeal.Product.out11 (prodAt m c)
      ∧ r.2.mem ((c.tc : Thread nD τ).loc main_v42) = Cert.OddInRefIdeal.Product.out12 (prodAt m c)
      ∧ r.2.mem ((c.tc : Thread nD τ).loc main_v43) = Cert.OddInRefIdeal.Product.out13 (prodAt m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨by
    refine ((h.1 c).2 main_v27 (Pipeline.mem_restRefs_of main_v27 (by decide) (by decide))).trans ?_
    unfold Pipeline.afterTail₀
    simp only [List.flatten_cons, List.flatten_nil, List.append_nil]
    exact (tail0 _).trans ((congrArg res0 (region m c)).trans (same0 _ _)),
    by
    refine ((h.1 c).2 main_v28 (Pipeline.mem_restRefs_of main_v28 (by decide) (by decide))).trans ?_
    unfold Pipeline.afterTail₀
    simp only [List.flatten_cons, List.flatten_nil, List.append_nil]
    exact (tail1 _).trans ((congrArg res1 (region m c)).trans (same1 _ _)),
    by
    refine ((h.1 c).2 main_v29 (Pipeline.mem_restRefs_of main_v29 (by decide) (by decide))).trans ?_
    unfold Pipeline.afterTail₀
    simp only [List.flatten_cons, List.flatten_nil, List.append_nil]
    exact (tail2 _).trans ((congrArg res2 (region m c)).trans (same2 _ _)),
    by
    refine ((h.1 c).2 main_v30 (Pipeline.mem_restRefs_of main_v30 (by decide) (by decide))).trans ?_
    unfold Pipeline.afterTail₀
    simp only [List.flatten_cons, List.flatten_nil, List.append_nil]
    exact (tail3 _).trans ((congrArg res3 (region m c)).trans (same3 _ _)),
    by
    refine ((h.1 c).2 main_v31 (Pipeline.mem_restRefs_of main_v31 (by decide) (by decide))).trans ?_
    unfold Pipeline.afterTail₀
    simp only [List.flatten_cons, List.flatten_nil, List.append_nil]
    exact (tail4 _).trans ((congrArg res4 (region m c)).trans (same4 _ _)),
    by
    refine ((h.1 c).2 main_v32 (Pipeline.mem_restRefs_of main_v32 (by decide) (by decide))).trans ?_
    unfold Pipeline.afterTail₀
    simp only [List.flatten_cons, List.flatten_nil, List.append_nil]
    exact (tail5 _).trans ((congrArg res5 (region m c)).trans (same5 _ _)),
    by
    refine ((h.1 c).2 main_v33 (Pipeline.mem_restRefs_of main_v33 (by decide) (by decide))).trans ?_
    unfold Pipeline.afterTail₀
    simp only [List.flatten_cons, List.flatten_nil, List.append_nil]
    exact (tail6 _).trans ((congrArg res6 (region m c)).trans (same6 _ _)),
    by
    refine ((h.1 c).2 main_v34 (Pipeline.mem_restRefs_of main_v34 (by decide) (by decide))).trans ?_
    unfold Pipeline.afterTail₀
    simp only [List.flatten_cons, List.flatten_nil, List.append_nil]
    exact (tail7 _).trans ((congrArg res7 (region m c)).trans (same7 _ _)),
    by
    refine ((h.1 c).2 main_v35 (Pipeline.mem_restRefs_of main_v35 (by decide) (by decide))).trans ?_
    unfold Pipeline.afterTail₀
    simp only [List.flatten_cons, List.flatten_nil, List.append_nil]
    exact (tail8 _).trans ((congrArg res8 (region m c)).trans (same8 _ _)),
    by
    refine ((h.1 c).2 main_v36 (Pipeline.mem_restRefs_of main_v36 (by decide) (by decide))).trans ?_
    unfold Pipeline.afterTail₀
    simp only [List.flatten_cons, List.flatten_nil, List.append_nil]
    exact (tail9 _).trans ((congrArg res9 (region m c)).trans (same9 _ _)),
    by
    refine ((h.1 c).2 main_v38 (Pipeline.mem_restRefs_of main_v38 (by decide) (by decide))).trans ?_
    unfold Pipeline.afterTail₀
    simp only [List.flatten_cons, List.flatten_nil, List.append_nil]
    exact (tail10 _).trans ((congrArg res10 (region m c)).trans (same10 _ _)),
    by
    refine ((h.1 c).2 main_v40 (Pipeline.mem_restRefs_of main_v40 (by decide) (by decide))).trans ?_
    unfold Pipeline.afterTail₀
    simp only [List.flatten_cons, List.flatten_nil, List.append_nil]
    exact (tail11 _).trans ((congrArg res11 (region m c)).trans (same11 _ _)),
    by
    refine ((h.1 c).2 main_v42 (Pipeline.mem_restRefs_of main_v42 (by decide) (by decide))).trans ?_
    unfold Pipeline.afterTail₀
    simp only [List.flatten_cons, List.flatten_nil, List.append_nil]
    exact (tail12 _).trans ((congrArg res12 (region m c)).trans (same12 _ _)),
    by
    refine ((h.1 c).2 main_v43 (Pipeline.mem_restRefs_of main_v43 (by decide) (by decide))).trans ?_
    unfold Pipeline.afterTail₀
    simp only [List.flatten_cons, List.flatten_nil, List.append_nil]
    exact (tail13 _).trans ((congrArg res13 (region m c)).trans (same13 _ _)),
    h.2 c⟩) (θ_run_and (run_main (F := Ideal) m ρ) (unchanged (F := Ideal) m ρ))

end Cert.OddInIdeal.Product

end
-- ==== Proof.RopeIdealTile.lean ====
/- The rotation of the keys of the odd layer, one block at a time. -/
module

public import proofs.«01_k».proof.Proof.Gen.RopeIdeal.Frame
public import Idealize.ShloMosaic.Lib.Pipeline.Value
public import Idealize.ShloMosaic.Lib.Pipeline.ValueKit.Acc
public import Idealize.ShloMosaic.Lib.ValueIdx
public import Idealize.ShloMosaic.Lib.KernelVsHost
public import Idealize.ShloMosaic.PureOps.Ideal.Laws

@[expose] public section

set_option maxRecDepth 65536

noncomputable section

namespace Cert.RopeIdeal.Tile

open Cert.RopeIdeal Cert.RopeIdeal.Gen
open Idealize.ShloMosaic
open Idealize.ShloMosaic.TcCoe
open Idealize.SL.Sem
open Idealize.ShloMosaic.ValueIdx

/-- The rotation of a head of 128 lanes: each entry times a cosine, and the entry half a head away times a signed sine. -/
theorem pay29 (v1 v3 v : Vec Ideal S256x128 .f32) (r : Fin 256) (l : Fin 128) :
    k0_pay29 v1 v3 v (ix2 r l) = v (ix2 r l) * v1 (ix2 r l) + v (ix2 r (⟨(l.val + 64) % 128, by omega⟩ : Fin 128)) * v3 (ix2 r l) := by
  unfold k0_pay29
  show v (ix2 r l) * v1 (ix2 r l) + dynamicRotate 1 64#32 none v rotates_S256x128_d1 (ix2 r l) * v3 (ix2 r l) = _
  rw [dynamicRotate_apply 1 64#32 v rotates_S256x128_d1 (ix2 r l) (ix2 r (⟨(l.val + 64) % 128, by omega⟩ : Fin 128)) (fun b => by
    match b with
    | ⟨0, _⟩ => rfl
    | ⟨1, _⟩ => show (l.val + 64) % 128 = (l.val + 128 - 64) % 128; omega)]

/-- Which lanes lie in the first half of their head of 64 lanes. -/
theorem pay9 (r : Fin 256) (q : Fin 128) : k0_pay9 (ix2 r q) = if q.val % 64 < 32 then 1#1 else 0#1 := by
  have h : ∀ q : Fin 128, (k0_pay9 (ix2 (0 : Fin 256) q)) = if q.val % 64 < 32 then 1#1 else 0#1 := by decide +kernel
  exact h q

/-- The lane half a head of 64 lanes away. -/
def partner (q : Fin 128) : Fin 128 := if q.val % 64 < 32 then ⟨(q.val + 32) % 128, by omega⟩ else ⟨(q.val + 96) % 128, by omega⟩

/-- The rotation of the heads of 64 lanes. -/
theorem pay3 (v5 v7 v : Vec Ideal S256x128 .f32) (r : Fin 256) (q : Fin 128) :
    k0_pay3 v5 v7 k0_pay9 v (ix2 r q) = v (ix2 r q) * v5 (ix2 r q) + v (ix2 r (partner q)) * v7 (ix2 r q) := by
  unfold k0_pay3
  show v (ix2 r q) * v5 (ix2 r q) + (if k0_pay9 (ix2 r q) = 1#1 then dynamicRotate 1 96#32 none v rotates_S256x128_d1 (ix2 r q) else dynamicRotate 1 32#32 none v rotates_S256x128_d1 (ix2 r q)) * v7 (ix2 r q) = _
  rw [pay9]
  unfold partner
  by_cases h : q.val % 64 < 32
  · rw [if_pos h, if_pos rfl, if_pos h, dynamicRotate_apply 1 96#32 v rotates_S256x128_d1 (ix2 r q) (ix2 r (⟨(q.val + 32) % 128, by omega⟩ : Fin 128)) (fun b => by
      match b with
      | ⟨0, _⟩ => rfl
      | ⟨1, _⟩ => show (q.val + 32) % 128 = (q.val + 128 - 96) % 128; omega)]
  · rw [if_neg h, if_neg (by decide), if_neg h, dynamicRotate_apply 1 32#32 v rotates_S256x128_d1 (ix2 r q) (ix2 r (⟨(q.val + 96) % 128, by omega⟩ : Fin 128)) (fun b => by
      match b with
      | ⟨0, _⟩ => rfl
      | ⟨1, _⟩ => show (q.val + 96) % 128 = (q.val + 128 - 32) % 128; omega)]

/-- The block of the rotated keys, of the blocks of the projection and of the tables. -/
def keys (x : Vec Ideal S256x512 .f32) (c s : Vec Ideal S256x128 .f32) : Vec Ideal S256x512 .f32 := fun i =>
  x (ix2 (i 0) (i 1)) * c (ix2 (i 0) (⟨(i 1).val % 128, Nat.mod_lt _ (by decide)⟩ : Fin 128))
    + x (ix2 (i 0) (⟨(i 1).val / 128 * 128 + ((i 1).val % 128 + 64) % 128, by have h : (i 1).val < 512 := (i 1).isLt; omega⟩ : Fin 512)) * s (ix2 (i 0) (⟨(i 1).val % 128, Nat.mod_lt _ (by decide)⟩ : Fin 128))

/-- One head's store is that part of the block. -/
theorem headStore (x : Vec Ideal S256x512 .f32) (c s : Vec Ideal S256x128 .f32) (h : Fin 4) (off : Fin 2 → Nat) (ho : off = ![0, h.val * 128]) (inb : ∀ a, off a + ![256, 128] a ≤ S256x512.size a)
    (y : (Rect.unit (s := S256x512) off ![256, 128] inb).shape.Idx) :
    k0_pay29 c s (View.ld x (Rect.unit (s := S256x512) off ![256, 128] inb)) y = keys x c s ((Rect.unit (s := S256x512) off ![256, 128] inb).emb y) := by
  subst ho
  obtain ⟨r, l, rfl⟩ : ∃ (r : Fin 256) (l : Fin 128), y = ix2 r l := ⟨y 0, y 1, eq_ix2 y⟩
  have hl := l.isLt
  have hh := h.isLt
  have e : (Rect.unit (s := S256x512) ![0, h.val * 128] ![256, 128] inb).emb (ix2 r l) = ix2 r (⟨h.val * 128 + l.val, by omega⟩ : Fin 512) := by
    funext a
    refine Fin.ext ?_
    match a with
    | ⟨0, _⟩ => show 0 + 1 * r.val = r.val; omega
    | ⟨1, _⟩ => show h.val * 128 + 1 * l.val = h.val * 128 + l.val; omega
  have ld : ∀ k : Fin 128, View.ld x (Rect.unit (s := S256x512) ![0, h.val * 128] ![256, 128] inb) (ix2 r k) = x (ix2 r (⟨h.val * 128 + k.val, by omega⟩ : Fin 512)) := by
    intro k
    refine congrArg x (funext fun a => Fin.ext ?_)
    match a with
    | ⟨0, _⟩ => show 0 + 1 * r.val = r.val; omega
    | ⟨1, _⟩ => show h.val * 128 + 1 * k.val = h.val * 128 + k.val; omega
  rw [e]
  refine (pay29 c s _ r l).trans ?_
  rw [ld, ld]
  unfold keys
  have e1 : (⟨(h.val * 128 + l.val) % 128, Nat.mod_lt _ (by decide)⟩ : Fin 128) = l := Fin.ext (by show (h.val * 128 + l.val) % 128 = l.val; omega)
  have e2 : (⟨h.val * 128 + (l.val + 64) % 128, by omega⟩ : Fin 512) = ⟨(h.val * 128 + l.val) / 128 * 128 + ((h.val * 128 + l.val) % 128 + 64) % 128, by omega⟩ := Fin.ext (by show h.val * 128 + (l.val + 64) % 128 = (h.val * 128 + l.val) / 128 * 128 + ((h.val * 128 + l.val) % 128 + 64) % 128; omega)
  show _ = x (ix2 r (⟨h.val * 128 + l.val, by omega⟩ : Fin 512)) * c (ix2 r (⟨(h.val * 128 + l.val) % 128, _⟩ : Fin 128)) + x (ix2 r (⟨(h.val * 128 + l.val) / 128 * 128 + ((h.val * 128 + l.val) % 128 + 64) % 128, _⟩ : Fin 512)) * s (ix2 r (⟨(h.val * 128 + l.val) % 128, _⟩ : Fin 128))
  rw [e1, ← e2]

theorem out11 (c : Dev nD) (i : grid0.Coords) (arg1 : Memref sig .tc .vmem S256x2048 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S256x1024 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S256x2048 .bf16) (harg11 : arg11.IsWhole) (arg12 : Memref sig .tc .vmem S256x512 .f32) (harg12 : arg12.IsWhole) (arg13 : Memref sig .tc .vmem S256x512 .bf16) (harg13 : arg13.IsWhole) (arg14 : Memref sig .tc .vmem S256x512 .bf16) (harg14 : arg14.IsWhole) (arg15 : Memref sig .tc .vmem S16x256x64 .bf16) (harg15 : arg15.IsWhole) (arg16 : Memref sig .tc .vmem S256x128 .f32) (harg16 : arg16.IsWhole) (arg17 : Memref sig .tc .vmem S256x128 .bf16) (harg17 : arg17.IsWhole) (arg18 : Memref sig .tc .vmem S256x128 .f32) (harg18 : arg18.IsWhole)
    (x0 : Vec Ideal S256x2048 .f32) (x1 : Vec Ideal S256x512 .f32) (x2 : Vec Ideal S256x512 .f32) (x3 : Vec Ideal S256x1024 .f32) (x4 : Vec Ideal S256x128 .f32) (x5 : Vec Ideal S256x128 .f32) (x6 : Vec Ideal S256x128 .f32) (x7 : Vec Ideal S256x128 .f32) (x8 : Vec Ideal S256x128 .f32) (x9 : Vec Ideal S256x128 .f32) :
    out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 = keys x1 x6 x7 := by
  unfold out0_A_11
  frame_out
  have e5 : k0_pay5 x6 = x6 := shapeCast_self x6 _
  have e6 : k0_pay6 x7 = x7 := shapeCast_self x7 _
  rw [e5, e6]
  funext y
  refine View.canon_apply_of_pieces (keys x1 x6 x7) _ ?_ y ?_
  · intro p hp z
    rcases List.mem_cons.mp hp with rfl | hp
    · exact headStore x1 x6 x7 3 _ rfl _ z
    rcases List.mem_cons.mp hp with rfl | hp
    · exact headStore x1 x6 x7 2 _ rfl _ z
    rcases List.mem_cons.mp hp with rfl | hp
    · exact headStore x1 x6 x7 1 _ rfl _ z
    rcases List.mem_cons.mp hp with rfl | hp
    · exact headStore x1 x6 x7 0 _ rfl _ z
    · exact absurd hp (by simp)
  · have h0 : (y 0).val < 256 := (y 0).isLt
    have h1 : (y 1).val < 512 := (y 1).isLt
    have key : ∀ (h : Fin 4) (inb : ∀ a, (![0, h.val * 128] : Fin 2 → Nat) a + ![256, 128] a ≤ S256x512.size a), (y 1).val / 128 = h.val →
        y ∈ (Rect.unit (s := S256x512) ![0, h.val * 128] ![256, 128] inb).set := by
      intro h inb hh
      refine Rect.mem_set_unit.mpr fun a => ?_
      match a with
      | ⟨0, _⟩ => exact ⟨Nat.zero_le _, show (y 0).val < 0 + 256 by omega⟩
      | ⟨1, _⟩ => exact ⟨show h.val * 128 ≤ (y 1).val by omega, show (y 1).val < h.val * 128 + 128 by omega⟩
    obtain hq | hq | hq | hq : (y 1).val / 128 = 3 ∨ (y 1).val / 128 = 2 ∨ (y 1).val / 128 = 1 ∨ (y 1).val / 128 = 0 := by omega
    · exact ⟨_, List.mem_cons_self, key 3 inb_S256x512_S256x128_0_384 hq⟩
    · exact ⟨_, List.mem_cons_of_mem _ List.mem_cons_self, key 2 inb_S256x512_S256x128_0_256 hq⟩
    · exact ⟨_, List.mem_cons_of_mem _ (List.mem_cons_of_mem _ List.mem_cons_self), key 1 inb_S256x512_S256x128_0_128 hq⟩
    · exact ⟨_, List.mem_cons_of_mem _ (List.mem_cons_of_mem _ (List.mem_cons_of_mem _ List.mem_cons_self)), key 0 inb_S256x512_S256x128_0_0 hq⟩

/-- The block of the rotated index keys. -/
def idxKeys (x c s : Vec Ideal S256x128 .f32) : Vec Ideal S256x128 .f32 := fun i =>
  x (ix2 (i 0) (i 1)) * c (ix2 (i 0) (i 1)) + x (ix2 (i 0) (partner (i 1))) * s (ix2 (i 0) (i 1))

theorem out15 (c : Dev nD) (i : grid0.Coords) (arg1 : Memref sig .tc .vmem S256x2048 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S256x1024 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S256x2048 .bf16) (harg11 : arg11.IsWhole) (arg12 : Memref sig .tc .vmem S256x512 .f32) (harg12 : arg12.IsWhole) (arg13 : Memref sig .tc .vmem S256x512 .bf16) (harg13 : arg13.IsWhole) (arg14 : Memref sig .tc .vmem S256x512 .bf16) (harg14 : arg14.IsWhole) (arg15 : Memref sig .tc .vmem S16x256x64 .bf16) (harg15 : arg15.IsWhole) (arg16 : Memref sig .tc .vmem S256x128 .f32) (harg16 : arg16.IsWhole) (arg17 : Memref sig .tc .vmem S256x128 .bf16) (harg17 : arg17.IsWhole) (arg18 : Memref sig .tc .vmem S256x128 .f32) (harg18 : arg18.IsWhole)
    (x0 : Vec Ideal S256x2048 .f32) (x1 : Vec Ideal S256x512 .f32) (x2 : Vec Ideal S256x512 .f32) (x3 : Vec Ideal S256x1024 .f32) (x4 : Vec Ideal S256x128 .f32) (x5 : Vec Ideal S256x128 .f32) (x6 : Vec Ideal S256x128 .f32) (x7 : Vec Ideal S256x128 .f32) (x8 : Vec Ideal S256x128 .f32) (x9 : Vec Ideal S256x128 .f32) :
    out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 = idxKeys x4 x8 x9 := by
  unfold out0_A_15
  frame_out
  have e5 : k0_pay7 x8 = x8 := shapeCast_self x8 _
  have e6 : k0_pay8 x9 = x9 := shapeCast_self x9 _
  rw [e5, e6]
  funext y
  obtain ⟨r, l, rfl⟩ : ∃ (r : Fin 256) (l : Fin 128), y = ix2 r l := ⟨y 0, y 1, eq_ix2 y⟩
  exact pay3 x8 x9 x4 r l

end Cert.RopeIdeal.Tile

end
-- ==== Proof.RopeRotation.lean ====
/- The rotation of the keys of the odd layers, entry by entry, and that its reference computes it. -/
module

public import proofs.«01_k».proof.Proof.Gen.RopeRefIdeal.Read
public import proofs.«01_k».proof.Proof.Gen.RopeRefIdeal.Run
public import Idealize.ShloMosaic.Lib.Pipeline.Value
public import Idealize.ShloMosaic.Lib.Pipeline.ValueKit.Basic
public import Idealize.ShloMosaic.Lib.ValueIdx
public import Idealize.ShloMosaic.Lib.StableHlo.Run
public import Idealize.ShloMosaic.PureOps.Ideal.Laws
public import Idealize.ShloMosaic.Init
public import Idealize.ShloMosaic.Adequacy

@[expose] public section

set_option maxRecDepth 16384

noncomputable section

namespace Cert.RopeRefIdeal.Rotation

open Cert.RopeRefIdeal Cert.RopeRefIdeal.Gen Cert.RopeRefIdeal.Read
open Idealize.ShloMosaic
open Idealize.ShloMosaic.TcCoe
open Idealize.SL.Sem
open Idealize.ShloMosaic.ValueIdx

/-- The frequencies of a head of 128 lanes, and of one of 64. -/
abbrev inv64 : Vec Ideal S64 .f32 := val_main_v13 (F := Ideal)
abbrev inv32 : Vec Ideal S32 .f32 := val_main_v45 (F := Ideal)

/-- The angle of a position at a lane of the first half of a head. -/
abbrev ang64 (p : BitVec 32) (j : Fin 64) : EReal := FloatOps.mulf (F := Ideal) (φ := .f32) (FloatOps.sitofp .f32 p) (inv64 (ix1 j))
abbrev ang32 (p : BitVec 32) (j : Fin 32) : EReal := FloatOps.mulf (F := Ideal) (φ := .f32) (FloatOps.sitofp .f32 p) (inv32 (ix1 j))

/-- Its cosine and its sine. -/
def cos64 (p : BitVec 32) (j : Fin 64) : EReal := FloatOps.hostUnary (F := Ideal) (φ := .f32) .cos (ang64 p j)
def sin64 (p : BitVec 32) (j : Fin 64) : EReal := FloatOps.hostUnary (F := Ideal) (φ := .f32) .sin (ang64 p j)
def cos32 (p : BitVec 32) (j : Fin 32) : EReal := FloatOps.hostUnary (F := Ideal) (φ := .f32) .cos (ang32 p j)
def sin32 (p : BitVec 32) (j : Fin 32) : EReal := FloatOps.hostUnary (F := Ideal) (φ := .f32) .sin (ang32 p j)

/-- The position of a row: its number in the prompt, its place after the cache in a sample. -/
def pos (r : Fin 8704) : BitVec 32 := if r.val < 8192 then BitVec.ofNat 32 r.val else IntOp.addi 1024#32 (BitVec.ofNat 32 ((r.val - 8192) % 32))

/-- The rotated keys of four heads of 128 lanes: lane `l` of head `h` of row `r`. -/
def kc (x : S8704x12800.Idx → EReal) (r : Fin 8704) (h : Fin 4) (l : Fin 128) : EReal :=
  if hl : l.val < 64 then
    x (ix2 r (⟨4096 + (h.val * 128 + l.val), by omega⟩ : Fin 12800)) * cos64 (pos r) ⟨l.val, hl⟩
      - x (ix2 r (⟨4096 + (h.val * 128 + (l.val + 64)), by omega⟩ : Fin 12800)) * sin64 (pos r) ⟨l.val, hl⟩
  else
    x (ix2 r (⟨4096 + (h.val * 128 + l.val), by omega⟩ : Fin 12800)) * cos64 (pos r) ⟨l.val - 64, by omega⟩
      + x (ix2 r (⟨4096 + (h.val * 128 + (l.val - 64)), by omega⟩ : Fin 12800)) * sin64 (pos r) ⟨l.val - 64, by omega⟩

/-- The rotated keys of the one head of 64 lanes: lane `l` of row `r`. -/
def ki (x : S8704x12800.Idx → EReal) (r : Fin 8704) (l : Fin 64) : EReal :=
  if hl : l.val < 32 then
    x (ix2 r (⟨12288 + l.val, by omega⟩ : Fin 12800)) * cos32 (pos r) ⟨l.val, hl⟩
      - x (ix2 r (⟨12288 + (l.val + 32), by omega⟩ : Fin 12800)) * sin32 (pos r) ⟨l.val, hl⟩
  else
    x (ix2 r (⟨12288 + l.val, by omega⟩ : Fin 12800)) * cos32 (pos r) ⟨l.val - 32, by omega⟩
      + x (ix2 r (⟨12288 + (l.val - 32), by omega⟩ : Fin 12800)) * sin32 (pos r) ⟨l.val - 32, by omega⟩

theorem kc_lt (x : S8704x12800.Idx → EReal) (r : Fin 8704) (h : Fin 4) (l : Fin 128) (p : BitVec 32) (hp : pos r = p) (hl : l.val < 64) :
    kc x r h l = x (ix2 r (⟨4096 + (h.val * 128 + l.val), by omega⟩ : Fin 12800)) * cos64 p ⟨l.val, hl⟩
      - x (ix2 r (⟨4096 + (h.val * 128 + (l.val + 64)), by omega⟩ : Fin 12800)) * sin64 p ⟨l.val, hl⟩ := by
  subst hp; unfold kc; rw [dif_pos hl]
theorem kc_ge (x : S8704x12800.Idx → EReal) (r : Fin 8704) (h : Fin 4) (l : Fin 128) (p : BitVec 32) (hp : pos r = p) (hl : ¬ l.val < 64) :
    kc x r h l = x (ix2 r (⟨4096 + (h.val * 128 + l.val), by omega⟩ : Fin 12800)) * cos64 p ⟨l.val - 64, by omega⟩
      + x (ix2 r (⟨4096 + (h.val * 128 + (l.val - 64)), by omega⟩ : Fin 12800)) * sin64 p ⟨l.val - 64, by omega⟩ := by
  subst hp; unfold kc; rw [dif_neg hl]
theorem ki_lt (x : S8704x12800.Idx → EReal) (r : Fin 8704) (l : Fin 64) (p : BitVec 32) (hp : pos r = p) (hl : l.val < 32) :
    ki x r l = x (ix2 r (⟨12288 + l.val, by omega⟩ : Fin 12800)) * cos32 p ⟨l.val, hl⟩
      - x (ix2 r (⟨12288 + (l.val + 32), by omega⟩ : Fin 12800)) * sin32 p ⟨l.val, hl⟩ := by
  subst hp; unfold ki; rw [dif_pos hl]
theorem ki_ge (x : S8704x12800.Idx → EReal) (r : Fin 8704) (l : Fin 64) (p : BitVec 32) (hp : pos r = p) (hl : ¬ l.val < 32) :
    ki x r l = x (ix2 r (⟨12288 + l.val, by omega⟩ : Fin 12800)) * cos32 p ⟨l.val - 32, by omega⟩
      + x (ix2 r (⟨12288 + (l.val - 32), by omega⟩ : Fin 12800)) * sin32 p ⟨l.val - 32, by omega⟩ := by
  subst hp; unfold ki; rw [dif_neg hl]

/-- The row of a prompt's position, and of a sample's. -/
abbrev rowP (i : Fin 8192) : Fin 8704 := ⟨i.val, by omega⟩
abbrev rowS (b : Fin 16) (t : Fin 32) : Fin 8704 := ⟨8192 + (b.val * 32 + t.val), by omega⟩

theorem pos_rowP (i : Fin 8192) : pos (rowP i) = BitVec.ofNat 32 i.val := by
  unfold pos; rw [if_pos (show i.val < 8192 from i.isLt)]
theorem pos_rowS (b : Fin 16) (t : Fin 32) : pos (rowS b t) = IntOp.addi 1024#32 (BitVec.ofNat 32 t.val) := by
  unfold pos
  have e : (8192 + (b.val * 32 + t.val) - 8192) % 32 = t.val := by omega
  rw [if_neg (show ¬ 8192 + (b.val * 32 + t.val) < 8192 by omega)]
  show IntOp.addi 1024#32 (BitVec.ofNat 32 ((8192 + (b.val * 32 + t.val) - 8192) % 32)) = _
  rw [e]

/-! The four results. -/

abbrev out0 (x : S8704x12800.Idx → EReal) : Vec Ideal S1x8192x4x128 .f32 := fun i => kc x (rowP (i 1)) (i 2) (i 3)
abbrev out1 (x : S8704x12800.Idx → EReal) : Vec Ideal S1x8192x64 .f32 := fun i => ki x (rowP (i 1)) (i 2)
abbrev out2 (x : S8704x12800.Idx → EReal) : Vec Ideal S16x32x4x128 .f32 := fun i => kc x (rowS (i 0) (i 1)) (i 2) (i 3)
abbrev out3 (x : S8704x12800.Idx → EReal) : Vec Ideal S16x32x64 .f32 := fun i => ki x (rowS (i 0) (i 1)) (i 2)

/-! Result 0. -/

theorem cosA0 (i : S1x8192x4x64.Idx) : val_main_v26 (F := Ideal) i = cos64 (BitVec.ofNat 32 (i 1).val) (i 3) := by
  simp only [val_main_v26_apply, val_main_v21_apply, val_main_v20_apply, val_main_v19_apply, val_main_v17_apply, val_main_v15_apply, val_main_v14_apply, val_main_v2_apply, val_main_v18_apply, val_main_v16_apply]
  rfl

theorem sinA0 (i : S1x8192x4x64.Idx) : val_main_v28 (F := Ideal) i = sin64 (BitVec.ofNat 32 (i 1).val) (i 3) := by
  simp only [val_main_v28_apply, val_main_v23_apply, val_main_v22_apply, val_main_v19_apply, val_main_v17_apply, val_main_v15_apply, val_main_v14_apply, val_main_v2_apply, val_main_v18_apply, val_main_v16_apply]
  rfl

theorem cosB0 (i : S1x8192x4x64.Idx) : val_main_v31 (F := Ideal) i = cos64 (BitVec.ofNat 32 (i 1).val) (i 3) := by
  simp only [val_main_v31_apply, val_main_v21_apply, val_main_v20_apply, val_main_v19_apply, val_main_v17_apply, val_main_v15_apply, val_main_v14_apply, val_main_v2_apply, val_main_v18_apply, val_main_v16_apply]
  rfl

theorem sinB0 (i : S1x8192x4x64.Idx) : val_main_v33 (F := Ideal) i = sin64 (BitVec.ofNat 32 (i 1).val) (i 3) := by
  simp only [val_main_v33_apply, val_main_v23_apply, val_main_v22_apply, val_main_v19_apply, val_main_v17_apply, val_main_v15_apply, val_main_v14_apply, val_main_v2_apply, val_main_v18_apply, val_main_v16_apply]
  rfl

theorem dataA0 (x : S8704x12800.Idx → EReal) (i : S1x8192x4x64.Idx) :
    val_main_v24 (F := Ideal) x i = x (ix2 (rowP (i 1)) (⟨4096 + ((i 2).val * 128 + (i 3).val), by have : (i 2).val < 4 := (i 2).isLt; have : (i 3).val < 64 := (i 3).isLt; omega⟩ : Fin 12800)) := by
  have h0 : (i 0).val < 1 := (i 0).isLt
  have h1 : (i 1).val < 8192 := (i 1).isLt
  have h2 : (i 2).val < 4 := (i 2).isLt
  have h3 : (i 3).val < 64 := (i 3).isLt
  simp only [val_main_v24_apply, val_main_v7_apply, val_main_v6_apply, val_main_v0_apply]
  refine congrArg x ?_
  funext a
  refine Fin.ext ?_
  match a with
  | ⟨0, _⟩ => dsimp only; omega
  | ⟨1, _⟩ => dsimp only; omega

theorem dataB0 (x : S8704x12800.Idx → EReal) (i : S1x8192x4x64.Idx) :
    val_main_v25 (F := Ideal) x i = x (ix2 (rowP (i 1)) (⟨4096 + ((i 2).val * 128 + ((i 3).val + 64)), by have : (i 2).val < 4 := (i 2).isLt; have : (i 3).val < 64 := (i 3).isLt; omega⟩ : Fin 12800)) := by
  have h0 : (i 0).val < 1 := (i 0).isLt
  have h1 : (i 1).val < 8192 := (i 1).isLt
  have h2 : (i 2).val < 4 := (i 2).isLt
  have h3 : (i 3).val < 64 := (i 3).isLt
  simp only [val_main_v25_apply, val_main_v7_apply, val_main_v6_apply, val_main_v0_apply]
  refine congrArg x ?_
  funext a
  refine Fin.ext ?_
  match a with
  | ⟨0, _⟩ => dsimp only; omega
  | ⟨1, _⟩ => dsimp only; omega

theorem cat0 (x : S8704x12800.Idx → EReal) (i : S1x8192x4x128.Idx) :
    val_main_v36 (F := Ideal) x i = kc x (rowP (i 1)) (i 2) (i 3) := by
  have h3 : (i 3).val < 128 := (i 3).isLt
  have h2 : (i 2).val < 4 := (i 2).isLt
  unfold val_main_v36
  by_cases hl : (i 3).val < 64
  · refine Eq.trans ?_ (kc_lt x _ _ _ _ (pos_rowP (i 1)) hl).symm
    refine (concatenate_pair_apply_left 3 (val_main_v30 (F := Ideal) x) (val_main_v35 (F := Ideal) x) _ i rfl
      (ix4 (i 0) (i 1) (i 2) (⟨(i 3).val, hl⟩ : Fin 64)) ?_).trans ?_
    · intro b
      match b with
      | ⟨0, _⟩ => rfl
      | ⟨1, _⟩ => rfl
      | ⟨2, _⟩ => rfl
      | ⟨3, _⟩ => rfl
    · simp only [val_main_v30_apply, val_main_v27_apply, val_main_v29_apply, cosA0, sinA0, dataA0, dataB0]
      rfl
  · refine Eq.trans ?_ (kc_ge x _ _ _ _ (pos_rowP (i 1)) hl).symm
    refine (concatenate_pair_apply_right 3 (val_main_v30 (F := Ideal) x) (val_main_v35 (F := Ideal) x) _ i rfl rfl
      (ix4 (i 0) (i 1) (i 2) (⟨(i 3).val - 64, by omega⟩ : Fin 64)) ?_ ?_).trans ?_
    · intro b hb
      match b with
      | ⟨0, _⟩ => rfl
      | ⟨1, _⟩ => rfl
      | ⟨2, _⟩ => rfl
      | ⟨3, _⟩ => exact absurd rfl hb
    · show (i 3).val - 64 + 64 = (i 3).val
      omega
    · simp only [val_main_v35_apply, val_main_v32_apply, val_main_v34_apply, cosB0, sinB0, dataA0, dataB0]
      have e : (⟨4096 + ((i 2).val * 128 + ((i 3).val - 64 + 64)), by omega⟩ : Fin 12800) = ⟨4096 + ((i 2).val * 128 + (i 3).val), by omega⟩ := Fin.ext (by dsimp only; omega)
      exact congrArg (fun q : Fin 12800 => x (ix2 (rowP (i 1)) q) * cos64 (BitVec.ofNat 32 (i 1).val) ⟨(i 3).val - 64, by omega⟩
        + x (ix2 (rowP (i 1)) (⟨4096 + ((i 2).val * 128 + ((i 3).val - 64)), by omega⟩ : Fin 12800)) * sin64 (BitVec.ofNat 32 (i 1).val) ⟨(i 3).val - 64, by omega⟩) e

/-! Result 2. -/

theorem cosA2 (i : S16x32x4x64.Idx) : val_main_v86 (F := Ideal) i = cos64 (IntOp.addi 1024#32 (BitVec.ofNat 32 (i 1).val)) (i 3) := by
  simp only [val_main_v86_apply, val_main_v81_apply, val_main_v80_apply, val_main_v79_apply, val_main_v77_apply, val_main_v75_apply, val_main_v74_apply, val_main_v5_apply, val_main_v4_apply, val_main_c_apply, val_main_v3_apply, val_main_v78_apply, val_main_v76_apply]
  rfl

theorem sinA2 (i : S16x32x4x64.Idx) : val_main_v88 (F := Ideal) i = sin64 (IntOp.addi 1024#32 (BitVec.ofNat 32 (i 1).val)) (i 3) := by
  simp only [val_main_v88_apply, val_main_v83_apply, val_main_v82_apply, val_main_v79_apply, val_main_v77_apply, val_main_v75_apply, val_main_v74_apply, val_main_v5_apply, val_main_v4_apply, val_main_c_apply, val_main_v3_apply, val_main_v78_apply, val_main_v76_apply]
  rfl

theorem cosB2 (i : S16x32x4x64.Idx) : val_main_v91 (F := Ideal) i = cos64 (IntOp.addi 1024#32 (BitVec.ofNat 32 (i 1).val)) (i 3) := by
  simp only [val_main_v91_apply, val_main_v81_apply, val_main_v80_apply, val_main_v79_apply, val_main_v77_apply, val_main_v75_apply, val_main_v74_apply, val_main_v5_apply, val_main_v4_apply, val_main_c_apply, val_main_v3_apply, val_main_v78_apply, val_main_v76_apply]
  rfl

theorem sinB2 (i : S16x32x4x64.Idx) : val_main_v93 (F := Ideal) i = sin64 (IntOp.addi 1024#32 (BitVec.ofNat 32 (i 1).val)) (i 3) := by
  simp only [val_main_v93_apply, val_main_v83_apply, val_main_v82_apply, val_main_v79_apply, val_main_v77_apply, val_main_v75_apply, val_main_v74_apply, val_main_v5_apply, val_main_v4_apply, val_main_c_apply, val_main_v3_apply, val_main_v78_apply, val_main_v76_apply]
  rfl

theorem dataA2 (x : S8704x12800.Idx → EReal) (i : S16x32x4x64.Idx) :
    val_main_v84 (F := Ideal) x i = x (ix2 (rowS (i 0) (i 1)) (⟨4096 + ((i 2).val * 128 + (i 3).val), by have : (i 2).val < 4 := (i 2).isLt; have : (i 3).val < 64 := (i 3).isLt; omega⟩ : Fin 12800)) := by
  have h0 : (i 0).val < 16 := (i 0).isLt
  have h1 : (i 1).val < 32 := (i 1).isLt
  have h2 : (i 2).val < 4 := (i 2).isLt
  have h3 : (i 3).val < 64 := (i 3).isLt
  simp only [val_main_v84_apply, val_main_v67_apply, val_main_v66_apply, val_main_v0_apply]
  refine congrArg x ?_
  funext a
  refine Fin.ext ?_
  match a with
  | ⟨0, _⟩ => dsimp only; omega
  | ⟨1, _⟩ => dsimp only; omega

theorem dataB2 (x : S8704x12800.Idx → EReal) (i : S16x32x4x64.Idx) :
    val_main_v85 (F := Ideal) x i = x (ix2 (rowS (i 0) (i 1)) (⟨4096 + ((i 2).val * 128 + ((i 3).val + 64)), by have : (i 2).val < 4 := (i 2).isLt; have : (i 3).val < 64 := (i 3).isLt; omega⟩ : Fin 12800)) := by
  have h0 : (i 0).val < 16 := (i 0).isLt
  have h1 : (i 1).val < 32 := (i 1).isLt
  have h2 : (i 2).val < 4 := (i 2).isLt
  have h3 : (i 3).val < 64 := (i 3).isLt
  simp only [val_main_v85_apply, val_main_v67_apply, val_main_v66_apply, val_main_v0_apply]
  refine congrArg x ?_
  funext a
  refine Fin.ext ?_
  match a with
  | ⟨0, _⟩ => dsimp only; omega
  | ⟨1, _⟩ => dsimp only; omega

theorem cat2 (x : S8704x12800.Idx → EReal) (i : S16x32x4x128.Idx) :
    val_main_v96 (F := Ideal) x i = kc x (rowS (i 0) (i 1)) (i 2) (i 3) := by
  have h3 : (i 3).val < 128 := (i 3).isLt
  have h2 : (i 2).val < 4 := (i 2).isLt
  unfold val_main_v96
  by_cases hl : (i 3).val < 64
  · refine Eq.trans ?_ (kc_lt x _ _ _ _ (pos_rowS (i 0) (i 1)) hl).symm
    refine (concatenate_pair_apply_left 3 (val_main_v90 (F := Ideal) x) (val_main_v95 (F := Ideal) x) _ i rfl
      (ix4 (i 0) (i 1) (i 2) (⟨(i 3).val, hl⟩ : Fin 64)) ?_).trans ?_
    · intro b
      match b with
      | ⟨0, _⟩ => rfl
      | ⟨1, _⟩ => rfl
      | ⟨2, _⟩ => rfl
      | ⟨3, _⟩ => rfl
    · simp only [val_main_v90_apply, val_main_v87_apply, val_main_v89_apply, cosA2, sinA2, dataA2, dataB2]
      rfl
  · refine Eq.trans ?_ (kc_ge x _ _ _ _ (pos_rowS (i 0) (i 1)) hl).symm
    refine (concatenate_pair_apply_right 3 (val_main_v90 (F := Ideal) x) (val_main_v95 (F := Ideal) x) _ i rfl rfl
      (ix4 (i 0) (i 1) (i 2) (⟨(i 3).val - 64, by omega⟩ : Fin 64)) ?_ ?_).trans ?_
    · intro b hb
      match b with
      | ⟨0, _⟩ => rfl
      | ⟨1, _⟩ => rfl
      | ⟨2, _⟩ => rfl
      | ⟨3, _⟩ => exact absurd rfl hb
    · show (i 3).val - 64 + 64 = (i 3).val
      omega
    · simp only [val_main_v95_apply, val_main_v92_apply, val_main_v94_apply, cosB2, sinB2, dataA2, dataB2]
      have e : (⟨4096 + ((i 2).val * 128 + ((i 3).val - 64 + 64)), by omega⟩ : Fin 12800) = ⟨4096 + ((i 2).val * 128 + (i 3).val), by omega⟩ := Fin.ext (by dsimp only; omega)
      exact congrArg (fun q : Fin 12800 => x (ix2 (rowS (i 0) (i 1)) q) * cos64 (IntOp.addi 1024#32 (BitVec.ofNat 32 (i 1).val)) ⟨(i 3).val - 64, by omega⟩
        + x (ix2 (rowS (i 0) (i 1)) (⟨4096 + ((i 2).val * 128 + ((i 3).val - 64)), by omega⟩ : Fin 12800)) * sin64 (IntOp.addi 1024#32 (BitVec.ofNat 32 (i 1).val)) ⟨(i 3).val - 64, by omega⟩) e

/-! Result 1. -/

theorem cosA1 (i : S1x8192x1x32.Idx) : val_main_v53 (F := Ideal) i = cos32 (BitVec.ofNat 32 (i 1).val) (i 3) := by
  simp only [val_main_v53_apply, val_main_v52_apply, val_main_v51_apply, val_main_v49_apply, val_main_v47_apply, val_main_v46_apply, val_main_v2_apply, val_main_v50_apply, val_main_v48_apply]
  rfl

theorem sinA1 (i : S1x8192x1x32.Idx) : val_main_v55 (F := Ideal) i = sin32 (BitVec.ofNat 32 (i 1).val) (i 3) := by
  simp only [val_main_v55_apply, val_main_v54_apply, val_main_v51_apply, val_main_v49_apply, val_main_v47_apply, val_main_v46_apply, val_main_v2_apply, val_main_v50_apply, val_main_v48_apply]
  rfl

theorem dataA1 (x : S8704x12800.Idx → EReal) (i : S1x8192x1x32.Idx) :
    val_main_v56 (F := Ideal) x i = x (ix2 (rowP (i 1)) (⟨12288 + (i 3).val, by have : (i 2).val < 1 := (i 2).isLt; have : (i 3).val < 32 := (i 3).isLt; omega⟩ : Fin 12800)) := by
  have h0 : (i 0).val < 1 := (i 0).isLt
  have h1 : (i 1).val < 8192 := (i 1).isLt
  have h2 : (i 2).val < 1 := (i 2).isLt
  have h3 : (i 3).val < 32 := (i 3).isLt
  simp only [val_main_v56_apply, val_main_v39_apply, val_main_v38_apply, val_main_v37_apply, val_main_v1_apply]
  refine congrArg x ?_
  funext a
  refine Fin.ext ?_
  match a with
  | ⟨0, _⟩ => dsimp only; omega
  | ⟨1, _⟩ => dsimp only; omega

theorem dataB1 (x : S8704x12800.Idx → EReal) (i : S1x8192x1x32.Idx) :
    val_main_v57 (F := Ideal) x i = x (ix2 (rowP (i 1)) (⟨12288 + ((i 3).val + 32), by have : (i 2).val < 1 := (i 2).isLt; have : (i 3).val < 32 := (i 3).isLt; omega⟩ : Fin 12800)) := by
  have h0 : (i 0).val < 1 := (i 0).isLt
  have h1 : (i 1).val < 8192 := (i 1).isLt
  have h2 : (i 2).val < 1 := (i 2).isLt
  have h3 : (i 3).val < 32 := (i 3).isLt
  simp only [val_main_v57_apply, val_main_v39_apply, val_main_v38_apply, val_main_v37_apply, val_main_v1_apply]
  refine congrArg x ?_
  funext a
  refine Fin.ext ?_
  match a with
  | ⟨0, _⟩ => dsimp only; omega
  | ⟨1, _⟩ => dsimp only; omega

theorem cat1 (x : S8704x12800.Idx → EReal) (i : S1x8192x1x64.Idx) :
    val_main_v64 (F := Ideal) x i = ki x (rowP (i 1)) (i 3) := by
  have h3 : (i 3).val < 64 := (i 3).isLt
  have h2 : (i 2).val < 1 := (i 2).isLt
  unfold val_main_v64
  by_cases hl : (i 3).val < 32
  · refine Eq.trans ?_ (ki_lt x _ _ _ (pos_rowP (i 1)) hl).symm
    refine (concatenate_pair_apply_left 3 (val_main_v60 (F := Ideal) x) (val_main_v63 (F := Ideal) x) _ i rfl
      (ix4 (i 0) (i 1) (i 2) (⟨(i 3).val, hl⟩ : Fin 32)) ?_).trans ?_
    · intro b
      match b with
      | ⟨0, _⟩ => rfl
      | ⟨1, _⟩ => rfl
      | ⟨2, _⟩ => rfl
      | ⟨3, _⟩ => rfl
    · simp only [val_main_v60_apply, val_main_v58_apply, val_main_v59_apply, cosA1, sinA1, dataA1, dataB1]
      rfl
  · refine Eq.trans ?_ (ki_ge x _ _ _ (pos_rowP (i 1)) hl).symm
    refine (concatenate_pair_apply_right 3 (val_main_v60 (F := Ideal) x) (val_main_v63 (F := Ideal) x) _ i rfl rfl
      (ix4 (i 0) (i 1) (i 2) (⟨(i 3).val - 32, by omega⟩ : Fin 32)) ?_ ?_).trans ?_
    · intro b hb
      match b with
      | ⟨0, _⟩ => rfl
      | ⟨1, _⟩ => rfl
      | ⟨2, _⟩ => rfl
      | ⟨3, _⟩ => exact absurd rfl hb
    · show (i 3).val - 32 + 32 = (i 3).val
      omega
    · simp only [val_main_v63_apply, val_main_v61_apply, val_main_v62_apply, cosA1, sinA1, dataA1, dataB1]
      have e : (⟨12288 + ((i 3).val - 32 + 32), by omega⟩ : Fin 12800) = ⟨12288 + (i 3).val, by omega⟩ := Fin.ext (by dsimp only; omega)
      exact congrArg (fun q : Fin 12800 => x (ix2 (rowP (i 1)) q) * cos32 (BitVec.ofNat 32 (i 1).val) ⟨(i 3).val - 32, by omega⟩
        + x (ix2 (rowP (i 1)) (⟨12288 + ((i 3).val - 32), by omega⟩ : Fin 12800)) * sin32 (BitVec.ofNat 32 (i 1).val) ⟨(i 3).val - 32, by omega⟩) e

/-! Result 3. -/

theorem cosA3 (i : S16x32x1x32.Idx) : val_main_v118 (F := Ideal) i = cos32 (IntOp.addi 1024#32 (BitVec.ofNat 32 (i 1).val)) (i 3) := by
  simp only [val_main_v118_apply, val_main_v113_apply, val_main_v112_apply, val_main_v111_apply, val_main_v109_apply, val_main_v107_apply, val_main_v106_apply, val_main_v5_apply, val_main_v4_apply, val_main_c_apply, val_main_v3_apply, val_main_v110_apply, val_main_v108_apply]
  rfl

theorem sinA3 (i : S16x32x1x32.Idx) : val_main_v120 (F := Ideal) i = sin32 (IntOp.addi 1024#32 (BitVec.ofNat 32 (i 1).val)) (i 3) := by
  simp only [val_main_v120_apply, val_main_v115_apply, val_main_v114_apply, val_main_v111_apply, val_main_v109_apply, val_main_v107_apply, val_main_v106_apply, val_main_v5_apply, val_main_v4_apply, val_main_c_apply, val_main_v3_apply, val_main_v110_apply, val_main_v108_apply]
  rfl

theorem cosB3 (i : S16x32x1x32.Idx) : val_main_v123 (F := Ideal) i = cos32 (IntOp.addi 1024#32 (BitVec.ofNat 32 (i 1).val)) (i 3) := by
  simp only [val_main_v123_apply, val_main_v113_apply, val_main_v112_apply, val_main_v111_apply, val_main_v109_apply, val_main_v107_apply, val_main_v106_apply, val_main_v5_apply, val_main_v4_apply, val_main_c_apply, val_main_v3_apply, val_main_v110_apply, val_main_v108_apply]
  rfl

theorem sinB3 (i : S16x32x1x32.Idx) : val_main_v125 (F := Ideal) i = sin32 (IntOp.addi 1024#32 (BitVec.ofNat 32 (i 1).val)) (i 3) := by
  simp only [val_main_v125_apply, val_main_v115_apply, val_main_v114_apply, val_main_v111_apply, val_main_v109_apply, val_main_v107_apply, val_main_v106_apply, val_main_v5_apply, val_main_v4_apply, val_main_c_apply, val_main_v3_apply, val_main_v110_apply, val_main_v108_apply]
  rfl

theorem dataA3 (x : S8704x12800.Idx → EReal) (i : S16x32x1x32.Idx) :
    val_main_v116 (F := Ideal) x i = x (ix2 (rowS (i 0) (i 1)) (⟨12288 + (i 3).val, by have : (i 2).val < 1 := (i 2).isLt; have : (i 3).val < 32 := (i 3).isLt; omega⟩ : Fin 12800)) := by
  have h0 : (i 0).val < 16 := (i 0).isLt
  have h1 : (i 1).val < 32 := (i 1).isLt
  have h2 : (i 2).val < 1 := (i 2).isLt
  have h3 : (i 3).val < 32 := (i 3).isLt
  simp only [val_main_v116_apply, val_main_v99_apply, val_main_v98_apply, val_main_v97_apply, val_main_v1_apply]
  refine congrArg x ?_
  funext a
  refine Fin.ext ?_
  match a with
  | ⟨0, _⟩ => dsimp only; omega
  | ⟨1, _⟩ => dsimp only; omega

theorem dataB3 (x : S8704x12800.Idx → EReal) (i : S16x32x1x32.Idx) :
    val_main_v117 (F := Ideal) x i = x (ix2 (rowS (i 0) (i 1)) (⟨12288 + ((i 3).val + 32), by have : (i 2).val < 1 := (i 2).isLt; have : (i 3).val < 32 := (i 3).isLt; omega⟩ : Fin 12800)) := by
  have h0 : (i 0).val < 16 := (i 0).isLt
  have h1 : (i 1).val < 32 := (i 1).isLt
  have h2 : (i 2).val < 1 := (i 2).isLt
  have h3 : (i 3).val < 32 := (i 3).isLt
  simp only [val_main_v117_apply, val_main_v99_apply, val_main_v98_apply, val_main_v97_apply, val_main_v1_apply]
  refine congrArg x ?_
  funext a
  refine Fin.ext ?_
  match a with
  | ⟨0, _⟩ => dsimp only; omega
  | ⟨1, _⟩ => dsimp only; omega

theorem cat3 (x : S8704x12800.Idx → EReal) (i : S16x32x1x64.Idx) :
    val_main_v128 (F := Ideal) x i = ki x (rowS (i 0) (i 1)) (i 3) := by
  have h3 : (i 3).val < 64 := (i 3).isLt
  have h2 : (i 2).val < 1 := (i 2).isLt
  unfold val_main_v128
  by_cases hl : (i 3).val < 32
  · refine Eq.trans ?_ (ki_lt x _ _ _ (pos_rowS (i 0) (i 1)) hl).symm
    refine (concatenate_pair_apply_left 3 (val_main_v122 (F := Ideal) x) (val_main_v127 (F := Ideal) x) _ i rfl
      (ix4 (i 0) (i 1) (i 2) (⟨(i 3).val, hl⟩ : Fin 32)) ?_).trans ?_
    · intro b
      match b with
      | ⟨0, _⟩ => rfl
      | ⟨1, _⟩ => rfl
      | ⟨2, _⟩ => rfl
      | ⟨3, _⟩ => rfl
    · simp only [val_main_v122_apply, val_main_v119_apply, val_main_v121_apply, cosA3, sinA3, dataA3, dataB3]
      rfl
  · refine Eq.trans ?_ (ki_ge x _ _ _ (pos_rowS (i 0) (i 1)) hl).symm
    refine (concatenate_pair_apply_right 3 (val_main_v122 (F := Ideal) x) (val_main_v127 (F := Ideal) x) _ i rfl rfl
      (ix4 (i 0) (i 1) (i 2) (⟨(i 3).val - 32, by omega⟩ : Fin 32)) ?_ ?_).trans ?_
    · intro b hb
      match b with
      | ⟨0, _⟩ => rfl
      | ⟨1, _⟩ => rfl
      | ⟨2, _⟩ => rfl
      | ⟨3, _⟩ => exact absurd rfl hb
    · show (i 3).val - 32 + 32 = (i 3).val
      omega
    · simp only [val_main_v127_apply, val_main_v124_apply, val_main_v126_apply, cosB3, sinB3, dataA3, dataB3]
      have e : (⟨12288 + ((i 3).val - 32 + 32), by omega⟩ : Fin 12800) = ⟨12288 + (i 3).val, by omega⟩ := Fin.ext (by dsimp only; omega)
      exact congrArg (fun q : Fin 12800 => x (ix2 (rowS (i 0) (i 1)) q) * cos32 (IntOp.addi 1024#32 (BitVec.ofNat 32 (i 1).val)) ⟨(i 3).val - 32, by omega⟩
        + x (ix2 (rowS (i 0) (i 1)) (⟨12288 + ((i 3).val - 32), by omega⟩ : Fin 12800)) * sin32 (IntOp.addi 1024#32 (BitVec.ofNat 32 (i 1).val)) ⟨(i 3).val - 32, by omega⟩) e

theorem result0 (x : S8704x12800.Idx → EReal) : val_main_v36 (F := Ideal) x = out0 x := funext fun i => cat0 x i
theorem result2 (x : S8704x12800.Idx → EReal) : val_main_v96 (F := Ideal) x = out2 x := funext fun i => cat2 x i
theorem result1 (x : S8704x12800.Idx → EReal) : val_main_v65 (F := Ideal) x = out1 x := by
  funext i
  have h0 : (i 0).val < 1 := (i 0).isLt
  have h1 : (i 1).val < 8192 := (i 1).isLt
  have h2 : (i 2).val < 64 := (i 2).isLt
  rw [val_main_v65_apply, cat1]
  have e1 : (idx_main_v65 i) 1 = i 1 := Fin.ext (by dsimp only; omega)
  have e2 : (idx_main_v65 i) 3 = i 2 := Fin.ext (by dsimp only; omega)
  rw [e1, e2]
theorem result3 (x : S8704x12800.Idx → EReal) : val_main_v129 (F := Ideal) x = out3 x := by
  funext i
  have h0 : (i 0).val < 16 := (i 0).isLt
  have h1 : (i 1).val < 32 := (i 1).isLt
  have h2 : (i 2).val < 64 := (i 2).isLt
  rw [val_main_v129_apply, cat3]
  have e0 : (idx_main_v129 i) 0 = i 0 := Fin.ext (by dsimp only; omega)
  have e1 : (idx_main_v129 i) 1 = i 1 := Fin.ext (by dsimp only; omega)
  have e2 : (idx_main_v129 i) 3 = i 2 := Fin.ext (by dsimp only; omega)
  rw [e0, e1, e2]

/-- Every run of the reference ends with the four results. -/
theorem value (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v36) = out0 (m ((c.tc : Thread nD τ).loc main_arg0))
      ∧ r.2.mem ((c.tc : Thread nD τ).loc main_v65) = out1 (m ((c.tc : Thread nD τ).loc main_arg0))
      ∧ r.2.mem ((c.tc : Thread nD τ).loc main_v96) = out2 (m ((c.tc : Thread nD τ).loc main_arg0))
      ∧ r.2.mem ((c.tc : Thread nD τ).loc main_v129) = out3 (m ((c.tc : Thread nD τ).loc main_arg0))
      ∧ r.2.mem ((c.tc : Thread nD τ).loc main_arg0) = m ((c.tc : Thread nD τ).loc main_arg0)) :=
  (θ_run defs _ _).mono (fun r h c => by
    obtain ⟨a0, a1, a2, a3, a4⟩ := h c
    exact ⟨a0.trans ((val_main_v36_eq m c).trans (result0 _)), a1.trans ((val_main_v65_eq m c).trans (result1 _)),
      a2.trans ((val_main_v96_eq m c).trans (result2 _)), a3.trans ((val_main_v129_eq m c).trans (result3 _)), a4⟩)
    (Cert.RopeRefIdeal.Value.run (F := Ideal) m ρ)

/-- The frame of the reference: it ends, the arguments unchanged, the counters at zero. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0))
      ∧ r.2.sem = fun _ => 0) :=
  (θ_run defs _ _).mono (fun r h => ⟨fun c => (h c).2.2.2.2, sem_eq_zero_of_no_sems (by decide) r.2⟩) (Cert.RopeRefIdeal.Value.run (F := Ideal) m ρ)

end Cert.RopeRefIdeal.Rotation

end
-- ==== Proof.RopeIdealTables.lean ====
/- The tables the rotation of the keys of the odd layers reads: the positions, the cosines and the signed sines. -/
module

public import proofs.«01_k».proof.Proof.Gen.RopeIdeal.Frame
public import proofs.«01_k».proof.Proof.RopeRotation
public import Idealize.ShloMosaic.Lib.Pipeline.Value
public import Idealize.ShloMosaic.Lib.ValueIdx
public import Idealize.ShloMosaic.PureOps.Ideal.Laws

@[expose] public section

set_option maxRecDepth 65536

noncomputable section

namespace Cert.RopeIdeal.Tables

open Cert.RopeIdeal Cert.RopeIdeal.Gen
open Idealize.ShloMosaic
open Idealize.ShloMosaic.TcCoe
open Idealize.SL.Sem
open Idealize.ShloMosaic.ValueIdx
open Cert.RopeRefIdeal.Rotation (pos inv64 inv32 cos64 sin64 cos32 sin32)

/-- The positions of the rows. -/
def positions : S8704.Idx → BitVec 32 :=
  concatenate S8704 0 [⟨S8192, iotaInDim S8192 32 0⟩, ⟨S512, shapeCast S512 (broadcastInDim S16x32 ![0, 1] bcast_S1x32_S16x32_0_1
    (shapeCast S1x32 (addi (broadcastInDim S32 ![] bcast_S_S32 (constantI S_ 32 1024#32)) (iotaInDim S32 32 0)) shapeCasts_S32_S1x32)) shapeCasts_S16x32_S512⟩] concatenates_S8192_S512_S8704_d0

theorem positions_apply (r : Fin 8704) : positions (ix1 r) = pos r := by
  unfold positions
  by_cases hr : r.val < 8192
  · refine (concatenate_pair_apply_left (s₁ := S8192) (s₂ := S512) 0 _ _ _ (ix1 r) rfl (ix1 (⟨r.val, hr⟩ : Fin 8192)) ?_).trans ?_
    · intro b
      match b with
      | ⟨0, _⟩ => rfl
    · unfold pos
      rw [if_pos hr]
      rfl
  · have h8 : r.val - 8192 < 512 := by have := r.isLt; omega
    refine (concatenate_pair_apply_right (s₁ := S8192) (s₂ := S512) 0 _ _ _ (ix1 r) rfl rfl (ix1 (⟨r.val - 8192, h8⟩ : Fin 512)) ?_ ?_).trans ?_
    · intro b hb
      match b with
      | ⟨0, _⟩ => exact absurd rfl hb
    · show r.val - 8192 + 8192 = r.val
      omega
    · have hb : (r.val - 8192) / 32 < 16 := by omega
      have ht : (r.val - 8192) % 32 < 32 := by omega
      refine (shapeCast_apply _ shapeCasts_S16x32_S512 (ix1 (⟨r.val - 8192, h8⟩ : Fin 512)) (ix2 (⟨(r.val - 8192) / 32, hb⟩ : Fin 16) (⟨(r.val - 8192) % 32, ht⟩ : Fin 32)) ?_).trans ?_
      · rw [Shape.rowMajor_val_two, Shape.rowMajor_val_one]
        show (r.val - 8192) / 32 * 32 + (r.val - 8192) % 32 = r.val - 8192
        omega
      refine (broadcastInDim_apply ![0, 1] bcast_S1x32_S16x32_0_1 _ _ (ix2 (0 : Fin 1) (⟨(r.val - 8192) % 32, ht⟩ : Fin 32)) ?_).trans ?_
      · intro a
        match a with
        | ⟨0, _⟩ => rfl
        | ⟨1, _⟩ => rfl
      refine (shapeCast_apply _ shapeCasts_S32_S1x32 _ (ix1 (⟨(r.val - 8192) % 32, ht⟩ : Fin 32)) ?_).trans ?_
      · rw [Shape.rowMajor_val_two, Shape.rowMajor_val_one]
        show (r.val - 8192) % 32 = 0 * 32 + (r.val - 8192) % 32
        omega
      unfold pos
      rw [if_neg hr]
      rfl

/-- The frequencies of a head of 128 lanes. -/
def freq64 : Vec Ideal S64 .f32 :=
  Host.powf (broadcastInDim S64 ![] bcast_S_S64 (constant (F := Ideal) S_ .f32 0x461C4000#32)) (Host.divf (Host.negf (sitofp .f32 (iotaInDim S64 32 0))) (broadcastInDim S64 ![] bcast_S_S64 (constant (F := Ideal) S_ .f32 0x42800000#32)))

theorem freq64_eq : freq64 = inv64 := rfl

/-- The angles of the rows at the lanes of the first half of a head of 128 lanes. -/
def angle64 : Vec Ideal S8704x64 .f32 :=
  mulf (F := Ideal) (φ := .f32) (broadcastInDim S8704x64 ![0, 1] bcast_S8704x1_S8704x64_0_1 (broadcastInDim S8704x1 ![0] bcast_S8704_S8704x1_0 (sitofp .f32 positions)))
    (broadcastInDim S8704x64 ![0, 1] bcast_S1x64_S8704x64_0_1 (broadcastInDim S1x64 ![1] bcast_S64_S1x64_1 freq64))

theorem angle64_apply (r : Fin 8704) (j : Fin 64) : angle64 (ix2 r j) = FloatOps.mulf (F := Ideal) (φ := .f32) (FloatOps.sitofp .f32 (pos r)) (inv64 (ix1 j)) := by
  have e1 : broadcastInDim S8704x64 ![0, 1] bcast_S8704x1_S8704x64_0_1 (broadcastInDim S8704x1 ![0] bcast_S8704_S8704x1_0 (sitofp (F := Ideal) .f32 positions)) (ix2 r j) = FloatOps.sitofp (F := Ideal) .f32 (pos r) := by
    refine (broadcastInDim_apply ![0, 1] bcast_S8704x1_S8704x64_0_1 _ _ (ix2 r (0 : Fin 1)) ?_).trans ?_
    · intro a
      match a with
      | ⟨0, _⟩ => rfl
      | ⟨1, _⟩ => rfl
    refine (broadcastInDim_apply ![0] bcast_S8704_S8704x1_0 _ _ (ix1 r) ?_).trans ?_
    · intro a
      match a with
      | ⟨0, _⟩ => rfl
    show FloatOps.sitofp (F := Ideal) .f32 (positions (ix1 r)) = _
    rw [positions_apply]
  have e2 : broadcastInDim S8704x64 ![0, 1] bcast_S1x64_S8704x64_0_1 (broadcastInDim S1x64 ![1] bcast_S64_S1x64_1 freq64) (ix2 r j) = inv64 (ix1 j) := by
    refine (broadcastInDim_apply ![0, 1] bcast_S1x64_S8704x64_0_1 _ _ (ix2 (0 : Fin 1) j) ?_).trans ?_
    · intro a
      match a with
      | ⟨0, _⟩ => rfl
      | ⟨1, _⟩ => rfl
    refine (broadcastInDim_apply ![1] bcast_S64_S1x64_1 _ _ (ix1 j) ?_).trans ?_
    · intro a
      match a with
      | ⟨0, _⟩ => rfl
    rw [freq64_eq]
  unfold angle64
  exact congrArg₂ (fun a b : EReal => FloatOps.mulf (F := Ideal) (φ := .f32) a b) e1 e2

def cosines64 : Vec Ideal S8704x64 .f32 := Host.cos (F := Ideal) (φ := .f32) angle64
def sines64 : Vec Ideal S8704x64 .f32 := Host.sin (F := Ideal) (φ := .f32) angle64
def negSines64 : Vec Ideal S8704x64 .f32 := Host.negf (F := Ideal) (φ := .f32) sines64

theorem cosines64_apply (r : Fin 8704) (j : Fin 64) : cosines64 (ix2 r j) = cos64 (pos r) j :=
  congrArg (fun a : EReal => FloatOps.hostUnary (F := Ideal) (φ := .f32) .cos a) (angle64_apply r j)
theorem negSines64_apply (r : Fin 8704) (j : Fin 64) : negSines64 (ix2 r j) = -sin64 (pos r) j :=
  congrArg (fun a : EReal => -a) (congrArg (fun a : EReal => FloatOps.hostUnary (F := Ideal) (φ := .f32) .sin a) (angle64_apply r j))
theorem sines64_apply (r : Fin 8704) (j : Fin 64) : sines64 (ix2 r j) = sin64 (pos r) j :=
  congrArg (fun a : EReal => FloatOps.hostUnary (F := Ideal) (φ := .f32) .sin a) (angle64_apply r j)

/-- Two halves of a head's lanes, side by side. -/
def halves64 (a b : Vec Ideal S8704x64 .f32) : Vec Ideal S8704x128 .f32 :=
  concatenate S8704x128 1 [⟨S8704x64, a⟩, ⟨S8704x64, b⟩] concatenates_S8704x64_S8704x64_S8704x128_d1

theorem halves64_lt (a b : Vec Ideal S8704x64 .f32) (r : Fin 8704) (q : Fin 128) (hq : q.val < 64) : halves64 a b (ix2 r q) = a (ix2 r (⟨q.val, hq⟩ : Fin 64)) := by
  refine concatenate_pair_apply_left 1 a b _ (ix2 r q) rfl (ix2 r (⟨q.val, hq⟩ : Fin 64)) ?_
  intro b
  match b with
  | ⟨0, _⟩ => rfl
  | ⟨1, _⟩ => rfl
theorem halves64_ge (a b : Vec Ideal S8704x64 .f32) (r : Fin 8704) (q : Fin 128) (hq : ¬ q.val < 64) : halves64 a b (ix2 r q) = b (ix2 r (⟨q.val - 64, by have := q.isLt; omega⟩ : Fin 64)) := by
  refine concatenate_pair_apply_right 1 a b _ (ix2 r q) rfl rfl (ix2 r (⟨q.val - 64, by have := q.isLt; omega⟩ : Fin 64)) ?_ ?_
  · intro b hb
    match b with
    | ⟨0, _⟩ => rfl
    | ⟨1, _⟩ => exact absurd rfl hb
  · show q.val - 64 + 64 = q.val
    omega

/-- The frequencies of a head of 64 lanes. -/
def freq32 : Vec Ideal S32 .f32 :=
  Host.powf (broadcastInDim S32 ![] bcast_S_S32 (constant (F := Ideal) S_ .f32 0x461C4000#32)) (Host.divf (Host.negf (sitofp .f32 (iotaInDim S32 32 0))) (broadcastInDim S32 ![] bcast_S_S32 (constant (F := Ideal) S_ .f32 0x42000000#32)))

theorem freq32_eq : freq32 = inv32 := rfl

/-- The angles of the rows at the lanes of the first half of a head of 64 lanes. -/
def angle32 : Vec Ideal S8704x32 .f32 :=
  mulf (F := Ideal) (φ := .f32) (broadcastInDim S8704x32 ![0, 1] bcast_S8704x1_S8704x32_0_1 (broadcastInDim S8704x1 ![0] bcast_S8704_S8704x1_0 (sitofp .f32 positions)))
    (broadcastInDim S8704x32 ![0, 1] bcast_S1x32_S8704x32_0_1 (broadcastInDim S1x32 ![1] bcast_S32_S1x32_1 freq32))

theorem angle32_apply (r : Fin 8704) (j : Fin 32) : angle32 (ix2 r j) = FloatOps.mulf (F := Ideal) (φ := .f32) (FloatOps.sitofp .f32 (pos r)) (inv32 (ix1 j)) := by
  have e1 : broadcastInDim S8704x32 ![0, 1] bcast_S8704x1_S8704x32_0_1 (broadcastInDim S8704x1 ![0] bcast_S8704_S8704x1_0 (sitofp (F := Ideal) .f32 positions)) (ix2 r j) = FloatOps.sitofp (F := Ideal) .f32 (pos r) := by
    refine (broadcastInDim_apply ![0, 1] bcast_S8704x1_S8704x32_0_1 _ _ (ix2 r (0 : Fin 1)) ?_).trans ?_
    · intro a
      match a with
      | ⟨0, _⟩ => rfl
      | ⟨1, _⟩ => rfl
    refine (broadcastInDim_apply ![0] bcast_S8704_S8704x1_0 _ _ (ix1 r) ?_).trans ?_
    · intro a
      match a with
      | ⟨0, _⟩ => rfl
    show FloatOps.sitofp (F := Ideal) .f32 (positions (ix1 r)) = _
    rw [positions_apply]
  have e2 : broadcastInDim S8704x32 ![0, 1] bcast_S1x32_S8704x32_0_1 (broadcastInDim S1x32 ![1] bcast_S32_S1x32_1 freq32) (ix2 r j) = inv32 (ix1 j) := by
    refine (broadcastInDim_apply ![0, 1] bcast_S1x32_S8704x32_0_1 _ _ (ix2 (0 : Fin 1) j) ?_).trans ?_
    · intro a
      match a with
      | ⟨0, _⟩ => rfl
      | ⟨1, _⟩ => rfl
    refine (broadcastInDim_apply ![1] bcast_S32_S1x32_1 _ _ (ix1 j) ?_).trans ?_
    · intro a
      match a with
      | ⟨0, _⟩ => rfl
    rw [freq32_eq]
  unfold angle32
  exact congrArg₂ (fun a b : EReal => FloatOps.mulf (F := Ideal) (φ := .f32) a b) e1 e2

def cosines32 : Vec Ideal S8704x32 .f32 := Host.cos (F := Ideal) (φ := .f32) angle32
def sines32 : Vec Ideal S8704x32 .f32 := Host.sin (F := Ideal) (φ := .f32) angle32
def negSines32 : Vec Ideal S8704x32 .f32 := Host.negf (F := Ideal) (φ := .f32) sines32

theorem cosines32_apply (r : Fin 8704) (j : Fin 32) : cosines32 (ix2 r j) = cos32 (pos r) j :=
  congrArg (fun a : EReal => FloatOps.hostUnary (F := Ideal) (φ := .f32) .cos a) (angle32_apply r j)
theorem negSines32_apply (r : Fin 8704) (j : Fin 32) : negSines32 (ix2 r j) = -sin32 (pos r) j :=
  congrArg (fun a : EReal => -a) (congrArg (fun a : EReal => FloatOps.hostUnary (F := Ideal) (φ := .f32) .sin a) (angle32_apply r j))
theorem sines32_apply (r : Fin 8704) (j : Fin 32) : sines32 (ix2 r j) = sin32 (pos r) j :=
  congrArg (fun a : EReal => FloatOps.hostUnary (F := Ideal) (φ := .f32) .sin a) (angle32_apply r j)

/-- Two halves of a head's lanes, side by side. -/
def halves32 (a b : Vec Ideal S8704x32 .f32) : Vec Ideal S8704x64 .f32 :=
  concatenate S8704x64 1 [⟨S8704x32, a⟩, ⟨S8704x32, b⟩] concatenates_S8704x32_S8704x32_S8704x64_d1

theorem halves32_lt (a b : Vec Ideal S8704x32 .f32) (r : Fin 8704) (q : Fin 64) (hq : q.val < 32) : halves32 a b (ix2 r q) = a (ix2 r (⟨q.val, hq⟩ : Fin 32)) := by
  refine concatenate_pair_apply_left 1 a b _ (ix2 r q) rfl (ix2 r (⟨q.val, hq⟩ : Fin 32)) ?_
  intro b
  match b with
  | ⟨0, _⟩ => rfl
  | ⟨1, _⟩ => rfl
theorem halves32_ge (a b : Vec Ideal S8704x32 .f32) (r : Fin 8704) (q : Fin 64) (hq : ¬ q.val < 32) : halves32 a b (ix2 r q) = b (ix2 r (⟨q.val - 32, by have := q.isLt; omega⟩ : Fin 32)) := by
  refine concatenate_pair_apply_right 1 a b _ (ix2 r q) rfl rfl (ix2 r (⟨q.val - 32, by have := q.isLt; omega⟩ : Fin 32)) ?_ ?_
  · intro b hb
    match b with
    | ⟨0, _⟩ => rfl
    | ⟨1, _⟩ => exact absurd rfl hb
  · show q.val - 32 + 32 = q.val
    omega

/-- The table of 128 lanes made of heads of 128. -/
def tiled64 (y : Vec Ideal S8704x128 .f32) : Vec Ideal S8704x128 .f32 :=
  shapeCast S8704x128 (broadcastInDim S1x8704x1x128 ![0, 1, 2, 3] bcast_S1x8704x1x128_S1x8704x1x128_0_1_2_3 (shapeCast S1x8704x1x128 y shapeCasts_S8704x128_S1x8704x1x128)) shapeCasts_S1x8704x1x128_S8704x128

theorem tiled64_apply (y : Vec Ideal S8704x128 .f32) (r : Fin 8704) (q : Fin 128) (hq : q.val < 128) : tiled64 y (ix2 r q) = y (ix2 r (⟨q.val, hq⟩ : Fin 128)) := by
  unfold tiled64
  refine (shapeCast_apply _ shapeCasts_S1x8704x1x128_S8704x128 (ix2 r q) (ix4 (0 : Fin 1) r (0 : Fin 1) (⟨q.val, hq⟩ : Fin 128)) ?_).trans ?_
  · rw [Shape.rowMajor_val_two, Shape.rowMajor_val_four]
    show ((0 * 8704 + r.val) * 1 + 0) * 128 + q.val = r.val * 128 + q.val
    omega
  refine (broadcastInDim_apply ![0, 1, 2, 3] bcast_S1x8704x1x128_S1x8704x1x128_0_1_2_3 _ _ (ix4 (0 : Fin 1) r (0 : Fin 1) (⟨q.val, hq⟩ : Fin 128)) ?_).trans ?_
  · intro a
    match a with
    | ⟨0, _⟩ => rfl
    | ⟨1, _⟩ => rfl
    | ⟨2, _⟩ => rfl
    | ⟨3, _⟩ => rfl
  refine shapeCast_apply y shapeCasts_S8704x128_S1x8704x1x128 _ (ix2 r (⟨q.val, hq⟩ : Fin 128)) ?_
  rw [Shape.rowMajor_val_two, Shape.rowMajor_val_four]
  show r.val * 128 + q.val = ((0 * 8704 + r.val) * 1 + 0) * 128 + q.val
  omega

/-- The table of 128 lanes made of heads of 64. -/
def tiled32 (y : Vec Ideal S8704x64 .f32) : Vec Ideal S8704x128 .f32 :=
  shapeCast S8704x128 (broadcastInDim S1x8704x2x64 ![0, 1, 2, 3] bcast_S1x8704x1x64_S1x8704x2x64_0_1_2_3 (shapeCast S1x8704x1x64 y shapeCasts_S8704x64_S1x8704x1x64)) shapeCasts_S1x8704x2x64_S8704x128

theorem tiled32_apply (y : Vec Ideal S8704x64 .f32) (r : Fin 8704) (q : Fin 128) (hq : q.val < 64) : tiled32 y (ix2 r q) = y (ix2 r (⟨q.val, hq⟩ : Fin 64)) := by
  unfold tiled32
  refine (shapeCast_apply _ shapeCasts_S1x8704x2x64_S8704x128 (ix2 r q) (ix4 (0 : Fin 1) r (0 : Fin 2) (⟨q.val, hq⟩ : Fin 64)) ?_).trans ?_
  · rw [Shape.rowMajor_val_two, Shape.rowMajor_val_four]
    show ((0 * 8704 + r.val) * 2 + 0) * 64 + q.val = r.val * 128 + q.val
    omega
  refine (broadcastInDim_apply ![0, 1, 2, 3] bcast_S1x8704x1x64_S1x8704x2x64_0_1_2_3 _ _ (ix4 (0 : Fin 1) r (0 : Fin 1) (⟨q.val, hq⟩ : Fin 64)) ?_).trans ?_
  · intro a
    match a with
    | ⟨0, _⟩ => rfl
    | ⟨1, _⟩ => rfl
    | ⟨2, _⟩ => rfl
    | ⟨3, _⟩ => rfl
  refine shapeCast_apply y shapeCasts_S8704x64_S1x8704x1x64 _ (ix2 r (⟨q.val, hq⟩ : Fin 64)) ?_
  rw [Shape.rowMajor_val_two, Shape.rowMajor_val_four]
  show r.val * 64 + q.val = ((0 * 8704 + r.val) * 1 + 0) * 64 + q.val
  omega

variable (m : (ℓ : Loc nD τ sig) → Buf (Elt Ideal) ℓ)

/-! The tables the region finds. -/

theorem V_arg (c : Dev nD) : (V m c main_arg0 : S8704x12800.Idx → EReal) = m ((c.tc : Thread nD τ).loc main_arg0) := by
  show StableHlo.after (List.flatten [hostOps0]) _ _ = _
  simp only [hostOps0, List.flatten_cons, List.flatten_nil, List.append_nil, List.cons_append, List.nil_append]
  after_results
theorem V_v25 (c : Dev nD) : (V m c main_v25 : Vec Ideal S8704x128 .f32) = tiled64 (halves64 cosines64 cosines64) := by
  show StableHlo.after (List.flatten [hostOps0]) _ _ = _
  simp only [hostOps0, List.flatten_cons, List.flatten_nil, List.append_nil, List.cons_append, List.nil_append]
  after_results
  unfold tiled64 halves64  cosines64 angle64 freq64 positions
  rfl
theorem V_v30 (c : Dev nD) : (V m c main_v30 : Vec Ideal S8704x128 .f32) = tiled64 (halves64 negSines64 sines64) := by
  show StableHlo.after (List.flatten [hostOps0]) _ _ = _
  simp only [hostOps0, List.flatten_cons, List.flatten_nil, List.append_nil, List.cons_append, List.nil_append]
  after_results
  unfold tiled64 halves64 negSines64 sines64 angle64 freq64 positions
  rfl
theorem V_v48 (c : Dev nD) : (V m c main_v48 : Vec Ideal S8704x128 .f32) = tiled32 (halves32 cosines32 cosines32) := by
  show StableHlo.after (List.flatten [hostOps0]) _ _ = _
  simp only [hostOps0, List.flatten_cons, List.flatten_nil, List.append_nil, List.cons_append, List.nil_append]
  after_results
  unfold tiled32 halves32  cosines32 angle32 freq32 positions
  rfl
theorem V_v53 (c : Dev nD) : (V m c main_v53 : Vec Ideal S8704x128 .f32) = tiled32 (halves32 negSines32 sines32) := by
  show StableHlo.after (List.flatten [hostOps0]) _ _ = _
  simp only [hostOps0, List.flatten_cons, List.flatten_nil, List.append_nil, List.cons_append, List.nil_append]
  after_results
  unfold tiled32 halves32 negSines32 sines32 angle32 freq32 positions
  rfl

end Cert.RopeIdeal.Tables

end
-- ==== Proof.RopeIdealArrays.lean ====
/- The rotation of the keys of the odd layers: the blocks tile the two arrays of rotated keys. -/
module

public import proofs.«01_k».proof.Proof.RopeIdealTile
public import proofs.«01_k».proof.Proof.RopeIdealTables

@[expose] public section

set_option maxRecDepth 65536

noncomputable section

namespace Cert.RopeIdeal.Arrays

open Cert.RopeIdeal Cert.RopeIdeal.Gen
open Idealize.ShloMosaic
open Idealize.ShloMosaic.TcCoe
open Idealize.SL.Sem
open Idealize.ShloMosaic.ValueIdx
open Cert.RopeIdeal.Tile
open Idealize.ShloMosaic.Pipeline (Dat)

variable (m : (ℓ : Loc nD τ sig) → Buf (Elt Ideal) ℓ)

/-- The coordinates of a point. -/
abbrev crd (t : Fin cfg0.N) : grid0.Coords := grid0.coords t
theorem crd_val0 (t : Fin cfg0.N) : ((crd t) 0).val = t.val / 1 % 34 := Pipeline.Grid.coords_val t 0 rfl rfl

/-- The row a point's block sits at. -/
def rowAt (t : Fin cfg0.N) (r : Fin 256) : Fin 8704 :=
  ⟨((crd t) 0).val * 256 + r.val, by have h : ((crd t) 0).val < 34 := ((crd t) 0).isLt; omega⟩

theorem block1 (i : grid0.Coords) : cc0_transform_1 i = ![(i 0).val, 8] := by
  have h0 : (i 0).val < 34 := (i 0).isLt
  show ![(BitVec.ofNat 32 (i 0).val).toNat, 8] = _
  rw [BitVec.toNat_ofNat, Nat.mod_eq_of_lt (by omega)]

theorem iblk1_apply (c : Dev nD) (t : Fin cfg0.N) (r : Fin 256) (q : Fin 512) :
    iblk m c (1 : Fin 18) t (ix2 r q) = V m c main_arg0 (ix2 (rowAt t r) (⟨4096 + q.val, by omega⟩ : Fin 12800)) := by
  show V m c main_arg0 (((cfg0.win (1 : Fin 18)).rect t).emb (ix2 r q)) = _
  refine congrArg _ ?_
  funext a
  refine Fin.ext ?_
  rw [Pipeline.Window.rect_emb_val (cfg0.win (1 : Fin 18)) t (ix2 r q) a (hk := rfl)]
  have hb : (cfg0.win (1 : Fin 18)).index t a = (![((crd t) 0).val, 8] : Fin 2 → ℕ) a := congrFun (block1 (crd t)) a
  rw [hb]
  match a with
  | ⟨0, _⟩ => rfl
  | ⟨1, _⟩ => show 8 * 512 + q.val = 4096 + q.val; omega

theorem block4 (i : grid0.Coords) : cc0_transform_4 i = ![(i 0).val, 96] := by
  have h0 : (i 0).val < 34 := (i 0).isLt
  show ![(BitVec.ofNat 32 (i 0).val).toNat, 96] = _
  rw [BitVec.toNat_ofNat, Nat.mod_eq_of_lt (by omega)]

theorem iblk4_apply (c : Dev nD) (t : Fin cfg0.N) (r : Fin 256) (q : Fin 128) :
    iblk m c (4 : Fin 18) t (ix2 r q) = V m c main_arg0 (ix2 (rowAt t r) (⟨12288 + q.val, by omega⟩ : Fin 12800)) := by
  show V m c main_arg0 (((cfg0.win (4 : Fin 18)).rect t).emb (ix2 r q)) = _
  refine congrArg _ ?_
  funext a
  refine Fin.ext ?_
  rw [Pipeline.Window.rect_emb_val (cfg0.win (4 : Fin 18)) t (ix2 r q) a (hk := rfl)]
  have hb : (cfg0.win (4 : Fin 18)).index t a = (![((crd t) 0).val, 96] : Fin 2 → ℕ) a := congrFun (block4 (crd t)) a
  rw [hb]
  match a with
  | ⟨0, _⟩ => rfl
  | ⟨1, _⟩ => show 96 * 128 + q.val = 12288 + q.val; omega

theorem block6 (i : grid0.Coords) : cc0_transform_6 i = ![(i 0).val, 0] := by
  have h0 : (i 0).val < 34 := (i 0).isLt
  show ![(BitVec.ofNat 32 (i 0).val).toNat, 0] = _
  rw [BitVec.toNat_ofNat, Nat.mod_eq_of_lt (by omega)]

theorem iblk6_apply (c : Dev nD) (t : Fin cfg0.N) (r : Fin 256) (q : Fin 128) :
    iblk m c (6 : Fin 18) t (ix2 r q) = V m c main_v25 (ix2 (rowAt t r) q) := by
  show V m c main_v25 (((cfg0.win (6 : Fin 18)).rect t).emb (ix2 r q)) = _
  refine congrArg _ ?_
  funext a
  refine Fin.ext ?_
  rw [Pipeline.Window.rect_emb_val (cfg0.win (6 : Fin 18)) t (ix2 r q) a (hk := rfl)]
  have hb : (cfg0.win (6 : Fin 18)).index t a = (![((crd t) 0).val, 0] : Fin 2 → ℕ) a := congrFun (block6 (crd t)) a
  rw [hb]
  match a with
  | ⟨0, _⟩ => rfl
  | ⟨1, _⟩ => show 0 * 128 + q.val = q.val; omega

theorem block7 (i : grid0.Coords) : cc0_transform_7 i = ![(i 0).val, 0] := by
  have h0 : (i 0).val < 34 := (i 0).isLt
  show ![(BitVec.ofNat 32 (i 0).val).toNat, 0] = _
  rw [BitVec.toNat_ofNat, Nat.mod_eq_of_lt (by omega)]

theorem iblk7_apply (c : Dev nD) (t : Fin cfg0.N) (r : Fin 256) (q : Fin 128) :
    iblk m c (7 : Fin 18) t (ix2 r q) = V m c main_v30 (ix2 (rowAt t r) q) := by
  show V m c main_v30 (((cfg0.win (7 : Fin 18)).rect t).emb (ix2 r q)) = _
  refine congrArg _ ?_
  funext a
  refine Fin.ext ?_
  rw [Pipeline.Window.rect_emb_val (cfg0.win (7 : Fin 18)) t (ix2 r q) a (hk := rfl)]
  have hb : (cfg0.win (7 : Fin 18)).index t a = (![((crd t) 0).val, 0] : Fin 2 → ℕ) a := congrFun (block7 (crd t)) a
  rw [hb]
  match a with
  | ⟨0, _⟩ => rfl
  | ⟨1, _⟩ => show 0 * 128 + q.val = q.val; omega

theorem block8 (i : grid0.Coords) : cc0_transform_8 i = ![(i 0).val, 0] := by
  have h0 : (i 0).val < 34 := (i 0).isLt
  show ![(BitVec.ofNat 32 (i 0).val).toNat, 0] = _
  rw [BitVec.toNat_ofNat, Nat.mod_eq_of_lt (by omega)]

theorem iblk8_apply (c : Dev nD) (t : Fin cfg0.N) (r : Fin 256) (q : Fin 128) :
    iblk m c (8 : Fin 18) t (ix2 r q) = V m c main_v48 (ix2 (rowAt t r) q) := by
  show V m c main_v48 (((cfg0.win (8 : Fin 18)).rect t).emb (ix2 r q)) = _
  refine congrArg _ ?_
  funext a
  refine Fin.ext ?_
  rw [Pipeline.Window.rect_emb_val (cfg0.win (8 : Fin 18)) t (ix2 r q) a (hk := rfl)]
  have hb : (cfg0.win (8 : Fin 18)).index t a = (![((crd t) 0).val, 0] : Fin 2 → ℕ) a := congrFun (block8 (crd t)) a
  rw [hb]
  match a with
  | ⟨0, _⟩ => rfl
  | ⟨1, _⟩ => show 0 * 128 + q.val = q.val; omega

theorem block9 (i : grid0.Coords) : cc0_transform_9 i = ![(i 0).val, 0] := by
  have h0 : (i 0).val < 34 := (i 0).isLt
  show ![(BitVec.ofNat 32 (i 0).val).toNat, 0] = _
  rw [BitVec.toNat_ofNat, Nat.mod_eq_of_lt (by omega)]

theorem iblk9_apply (c : Dev nD) (t : Fin cfg0.N) (r : Fin 256) (q : Fin 128) :
    iblk m c (9 : Fin 18) t (ix2 r q) = V m c main_v53 (ix2 (rowAt t r) q) := by
  show V m c main_v53 (((cfg0.win (9 : Fin 18)).rect t).emb (ix2 r q)) = _
  refine congrArg _ ?_
  funext a
  refine Fin.ext ?_
  rw [Pipeline.Window.rect_emb_val (cfg0.win (9 : Fin 18)) t (ix2 r q) a (hk := rfl)]
  have hb : (cfg0.win (9 : Fin 18)).index t a = (![((crd t) 0).val, 0] : Fin 2 → ℕ) a := congrFun (block9 (crd t)) a
  rw [hb]
  match a with
  | ⟨0, _⟩ => rfl
  | ⟨1, _⟩ => show 0 * 128 + q.val = q.val; omega

theorem block11 (i : grid0.Coords) : cc0_transform_11 i = ![(i 0).val, 0] := by
  have h0 : (i 0).val < 34 := (i 0).isLt
  show ![(BitVec.ofNat 32 (i 0).val).toNat, 0] = _
  rw [BitVec.toNat_ofNat, Nat.mod_eq_of_lt (by omega)]

theorem emb11 (t : Fin cfg0.N) (r : Fin 256) (q : Fin 512) :
    ((cfg0.win (11 : Fin 18)).rect t).emb (ix2 r q) = ix2 (rowAt t r) q := by
  funext a
  refine Fin.ext ?_
  rw [Pipeline.Window.rect_emb_val (cfg0.win (11 : Fin 18)) t (ix2 r q) a (hk := rfl)]
  have hb : (cfg0.win (11 : Fin 18)).index t a = (![((crd t) 0).val, 0] : Fin 2 → ℕ) a := congrFun (block11 (crd t)) a
  rw [hb]
  match a with
  | ⟨0, _⟩ => rfl
  | ⟨1, _⟩ => show 0 * 512 + q.val = q.val; omega

theorem block15 (i : grid0.Coords) : cc0_transform_15 i = ![(i 0).val, 0] := by
  have h0 : (i 0).val < 34 := (i 0).isLt
  show ![(BitVec.ofNat 32 (i 0).val).toNat, 0] = _
  rw [BitVec.toNat_ofNat, Nat.mod_eq_of_lt (by omega)]

theorem emb15 (t : Fin cfg0.N) (r : Fin 256) (q : Fin 128) :
    ((cfg0.win (15 : Fin 18)).rect t).emb (ix2 r q) = ix2 (rowAt t r) q := by
  funext a
  refine Fin.ext ?_
  rw [Pipeline.Window.rect_emb_val (cfg0.win (15 : Fin 18)) t (ix2 r q) a (hk := rfl)]
  have hb : (cfg0.win (15 : Fin 18)).index t a = (![((crd t) 0).val, 0] : Fin 2 → ℕ) a := congrFun (block15 (crd t)) a
  rw [hb]
  match a with
  | ⟨0, _⟩ => rfl
  | ⟨1, _⟩ => show 0 * 128 + q.val = q.val; omega

/-- The rotated keys, of the projection and the tables. -/
def keysAll (x : S8704x12800.Idx → EReal) (c s : S8704x128.Idx → EReal) : S8704x512.Idx → EReal := fun i =>
  x (ix2 (i 0) (⟨4096 + (i 1).val, by have h : (i 1).val < 512 := (i 1).isLt; omega⟩ : Fin 12800)) * c (ix2 (i 0) (⟨(i 1).val % 128, Nat.mod_lt _ (by decide)⟩ : Fin 128))
    + x (ix2 (i 0) (⟨4096 + ((i 1).val / 128 * 128 + ((i 1).val % 128 + 64) % 128), by have h : (i 1).val < 512 := (i 1).isLt; omega⟩ : Fin 12800)) * s (ix2 (i 0) (⟨(i 1).val % 128, Nat.mod_lt _ (by decide)⟩ : Fin 128))

/-- The rotated index keys, of the projection and the tables. -/
def idxKeysAll (x : S8704x12800.Idx → EReal) (c s : S8704x128.Idx → EReal) : S8704x128.Idx → EReal := fun i =>
  x (ix2 (i 0) (⟨12288 + (i 1).val, by have h : (i 1).val < 128 := (i 1).isLt; omega⟩ : Fin 12800)) * c (ix2 (i 0) (i 1))
    + x (ix2 (i 0) (⟨12288 + (partner (i 1)).val, by have h := (partner (i 1)).isLt; omega⟩ : Fin 12800)) * s (ix2 (i 0) (i 1))

abbrev result11 (c : Dev nD) : S8704x512.Idx → EReal := keysAll (V m c main_arg0) (V m c main_v25) (V m c main_v30)
abbrev result15 (c : Dev nD) : S8704x128.Idx → EReal := idxKeysAll (V m c main_arg0) (V m c main_v48) (V m c main_v53)

theorem out_eq11 (c : Dev nD) (t : Fin cfg0.N) (r : Fin 256) (q : Fin 512) :
    keys (iblk m c (1 : Fin 18) t) (iblk m c (6 : Fin 18) t) (iblk m c (7 : Fin 18) t) (ix2 r q) = result11 m c (ix2 (rowAt t r) q) :=
  congrArg₂ (fun a b : EReal => a + b)
    (congrArg₂ (fun a b : EReal => a * b) (iblk1_apply m c t r q) (iblk6_apply m c t r (⟨q.val % 128, Nat.mod_lt _ (by decide)⟩ : Fin 128)))
    (congrArg₂ (fun a b : EReal => a * b) (iblk1_apply m c t r (⟨q.val / 128 * 128 + (q.val % 128 + 64) % 128, by omega⟩ : Fin 512)) (iblk7_apply m c t r (⟨q.val % 128, Nat.mod_lt _ (by decide)⟩ : Fin 128)))

theorem out_eq15 (c : Dev nD) (t : Fin cfg0.N) (r : Fin 256) (q : Fin 128) :
    idxKeys (iblk m c (4 : Fin 18) t) (iblk m c (8 : Fin 18) t) (iblk m c (9 : Fin 18) t) (ix2 r q) = result15 m c (ix2 (rowAt t r) q) :=
  congrArg₂ (fun a b : EReal => a + b)
    (congrArg₂ (fun a b : EReal => a * b) (iblk4_apply m c t r q) (iblk8_apply m c t r q))
    (congrArg₂ (fun a b : EReal => a * b) (iblk4_apply m c t r (partner q)) (iblk9_apply m c t r q))

/-- The point whose block holds a row. -/
def pointOf (r : Fin 8704) : Fin cfg0.N := ⟨r.val / 256, by show _ < 34; omega⟩

theorem rowAt_pointOf (r : Fin 8704) : rowAt (pointOf r) (⟨r.val % 256, by omega⟩ : Fin 256) = r := by
  have e0 : ((crd (pointOf r)) 0).val = r.val / 256 := by
    rw [crd_val0]; unfold pointOf; dsimp only; omega
  refine Fin.ext ?_
  show ((crd (pointOf r)) 0).val * 256 + r.val % 256 = r.val
  omega

theorem flushed_eq11 (c : Dev nD) (t : Fin cfg0.N) :
    (dats m 0 c).flushed (11 : Fin 18) t = ((cfg0.win (11 : Fin 18)).blk t).view.read (Elt Ideal) (result11 m c) := by
  have ha : (dats m 0 c).after (11 : Fin 18) t = keys (iblk m c (1 : Fin 18) t) (iblk m c (6 : Fin 18) t) (iblk m c (7 : Fin 18) t) := by
    refine (after0_11 m c t).trans ?_
    unfold outsAt0
    exact out11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (X0_0 m c t) (iblk m c 1 t) (iblk m c 2 t) (X0_3 m c t) (iblk m c 4 t) (iblk m c 5 t) (iblk m c 6 t) (iblk m c 7 t) (iblk m c 8 t) (iblk m c 9 t)
  show (cfg0.win (11 : Fin 18)).cut (grid0.coords t) ((dats m 0 c).after (11 : Fin 18) t) = _
  rw [ha]
  funext y
  obtain ⟨r, q, rfl⟩ : ∃ (r : Fin 256) (q : Fin 512), y = ix2 r q := ⟨y 0, y 1, eq_ix2 y⟩
  show keys (iblk m c (1 : Fin 18) t) (iblk m c (6 : Fin 18) t) (iblk m c (7 : Fin 18) t) (ix2 r q) = result11 m c (((cfg0.win (11 : Fin 18)).rect t).emb (ix2 r q))
  rw [emb11]
  exact out_eq11 m c t r q

theorem covered11 (r : Fin 8704) (q : Fin 512) : (ix2 r q : S8704x512.Idx) ∈ ((cfg0.win (11 : Fin 18)).blk (pointOf r)).view.set := by
  have hy : ((cfg0.win (11 : Fin 18)).rect (pointOf r)).emb (ix2 (⟨r.val % 256, by omega⟩ : Fin 256) q) = ix2 r q := by
    rw [emb11, rowAt_pointOf r]
  exact Finset.mem_map.2 ⟨_, Finset.mem_univ _, hy⟩

/-- What the pipeline leaves in this array. -/
theorem final11 (c : Dev nD) : (dats m 0 c).arrAt (11 : Fin 18) cfg0.N = result11 m c :=
  (dats m 0 c).arrAt_eq_of_cover (11 : Fin 18) (result11 m c) (fun t _ => flushed_eq11 m c t)
    fun i => by
      obtain ⟨r, q, rfl⟩ : ∃ (r : Fin 8704) (q : Fin 512), i = ix2 r q := ⟨i 0, i 1, eq_ix2 i⟩
      exact ⟨pointOf r, flush0_11 (pointOf r), covered11 r q⟩

theorem flushed_eq15 (c : Dev nD) (t : Fin cfg0.N) :
    (dats m 0 c).flushed (15 : Fin 18) t = ((cfg0.win (15 : Fin 18)).blk t).view.read (Elt Ideal) (result15 m c) := by
  have ha : (dats m 0 c).after (15 : Fin 18) t = idxKeys (iblk m c (4 : Fin 18) t) (iblk m c (8 : Fin 18) t) (iblk m c (9 : Fin 18) t) := by
    refine (after0_15 m c t).trans ?_
    unfold outsAt0
    exact out15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (X0_0 m c t) (iblk m c 1 t) (iblk m c 2 t) (X0_3 m c t) (iblk m c 4 t) (iblk m c 5 t) (iblk m c 6 t) (iblk m c 7 t) (iblk m c 8 t) (iblk m c 9 t)
  show (cfg0.win (15 : Fin 18)).cut (grid0.coords t) ((dats m 0 c).after (15 : Fin 18) t) = _
  rw [ha]
  funext y
  obtain ⟨r, q, rfl⟩ : ∃ (r : Fin 256) (q : Fin 128), y = ix2 r q := ⟨y 0, y 1, eq_ix2 y⟩
  show idxKeys (iblk m c (4 : Fin 18) t) (iblk m c (8 : Fin 18) t) (iblk m c (9 : Fin 18) t) (ix2 r q) = result15 m c (((cfg0.win (15 : Fin 18)).rect t).emb (ix2 r q))
  rw [emb15]
  exact out_eq15 m c t r q

theorem covered15 (r : Fin 8704) (q : Fin 128) : (ix2 r q : S8704x128.Idx) ∈ ((cfg0.win (15 : Fin 18)).blk (pointOf r)).view.set := by
  have hy : ((cfg0.win (15 : Fin 18)).rect (pointOf r)).emb (ix2 (⟨r.val % 256, by omega⟩ : Fin 256) q) = ix2 r q := by
    rw [emb15, rowAt_pointOf r]
  exact Finset.mem_map.2 ⟨_, Finset.mem_univ _, hy⟩

/-- What the pipeline leaves in this array. -/
theorem final15 (c : Dev nD) : (dats m 0 c).arrAt (15 : Fin 18) cfg0.N = result15 m c :=
  (dats m 0 c).arrAt_eq_of_cover (15 : Fin 18) (result15 m c) (fun t _ => flushed_eq15 m c t)
    fun i => by
      obtain ⟨r, q, rfl⟩ : ∃ (r : Fin 8704) (q : Fin 128), i = ix2 r q := ⟨i 0, i 1, eq_ix2 i⟩
      exact ⟨pointOf r, flush0_15 (pointOf r), covered15 r q⟩

end Cert.RopeIdeal.Arrays

end
-- ==== Proof.RopeIdealValue.lean ====
/- The kernel that rotates the keys of the odd layers and its reference end with the same arrays. -/
module

public import proofs.«01_k».proof.Proof.RopeIdealArrays
public import Idealize.ShloMosaic.Lib.StableHlo.Run
public import Idealize.ShloMosaic.Init
public import Idealize.ShloMosaic.Adequacy

@[expose] public section

set_option maxRecDepth 65536

noncomputable section

namespace Cert.RopeIdeal.Rotation

open Cert.RopeIdeal Cert.RopeIdeal.Gen
open Idealize.ShloMosaic
open Idealize.ShloMosaic.TcCoe
open Idealize.SL.Sem
open Idealize.ShloMosaic.ValueIdx
open Cert.RopeIdeal.Tile Cert.RopeIdeal.Tables Cert.RopeIdeal.Arrays
open Cert.RopeRefIdeal.Rotation (pos cos64 sin64 cos32 sin32 kc ki kc_lt kc_ge ki_lt ki_ge rowP rowS)

/-- The tables the kernel reads. -/
abbrev c128 : Vec Ideal S8704x128 .f32 := tiled64 (halves64 cosines64 cosines64)
abbrev s128 : Vec Ideal S8704x128 .f32 := tiled64 (halves64 negSines64 sines64)
abbrev c64 : Vec Ideal S8704x128 .f32 := tiled32 (halves32 cosines32 cosines32)
abbrev s64 : Vec Ideal S8704x128 .f32 := tiled32 (halves32 negSines32 sines32)

theorem c128_lt (r : Fin 8704) (q : Fin 128) (hl : q.val < 64) : c128 (ix2 r q) = cos64 (pos r) ⟨q.val, hl⟩ :=
  (tiled64_apply _ r q q.isLt).trans ((halves64_lt _ _ r _ hl).trans (cosines64_apply r _))
theorem c128_ge (r : Fin 8704) (q : Fin 128) (hl : ¬ q.val < 64) : c128 (ix2 r q) = cos64 (pos r) ⟨q.val - 64, by have := q.isLt; omega⟩ :=
  (tiled64_apply _ r q q.isLt).trans ((halves64_ge _ _ r _ hl).trans (cosines64_apply r _))
theorem s128_lt (r : Fin 8704) (q : Fin 128) (hl : q.val < 64) : s128 (ix2 r q) = -sin64 (pos r) ⟨q.val, hl⟩ :=
  (tiled64_apply _ r q q.isLt).trans ((halves64_lt _ _ r _ hl).trans (negSines64_apply r _))
theorem s128_ge (r : Fin 8704) (q : Fin 128) (hl : ¬ q.val < 64) : s128 (ix2 r q) = sin64 (pos r) ⟨q.val - 64, by have := q.isLt; omega⟩ :=
  (tiled64_apply _ r q q.isLt).trans ((halves64_ge _ _ r _ hl).trans (sines64_apply r _))
theorem c64_lt (r : Fin 8704) (q : Fin 128) (h : q.val < 64) (hl : q.val < 32) : c64 (ix2 r q) = cos32 (pos r) ⟨q.val, hl⟩ :=
  (tiled32_apply _ r q h).trans ((halves32_lt _ _ r _ hl).trans (cosines32_apply r _))
theorem c64_ge (r : Fin 8704) (q : Fin 128) (h : q.val < 64) (hl : ¬ q.val < 32) : c64 (ix2 r q) = cos32 (pos r) ⟨q.val - 32, by have := q.isLt; omega⟩ :=
  (tiled32_apply _ r q h).trans ((halves32_ge _ _ r _ hl).trans (cosines32_apply r _))
theorem s64_lt (r : Fin 8704) (q : Fin 128) (h : q.val < 64) (hl : q.val < 32) : s64 (ix2 r q) = -sin32 (pos r) ⟨q.val, hl⟩ :=
  (tiled32_apply _ r q h).trans ((halves32_lt _ _ r _ hl).trans (negSines32_apply r _))
theorem s64_ge (r : Fin 8704) (q : Fin 128) (h : q.val < 64) (hl : ¬ q.val < 32) : s64 (ix2 r q) = sin32 (pos r) ⟨q.val - 32, by have := q.isLt; omega⟩ :=
  (tiled32_apply _ r q h).trans ((halves32_ge _ _ r _ hl).trans (sines32_apply r _))

/-- The rotated keys are the reference's. -/
theorem keysAll_eq (x : S8704x12800.Idx → EReal) (r : Fin 8704) (h : Fin 4) (l : Fin 128) :
    keysAll x c128 s128 (ix2 r (⟨h.val * 128 + l.val, by omega⟩ : Fin 512)) = kc x r h l := by
  have hh := h.isLt
  have hl' := l.isLt
  have e1 : (⟨(h.val * 128 + l.val) % 128, Nat.mod_lt _ (by decide)⟩ : Fin 128) = l := Fin.ext (by show (h.val * 128 + l.val) % 128 = l.val; omega)
  show x (ix2 r (⟨4096 + (h.val * 128 + l.val), _⟩ : Fin 12800)) * c128 (ix2 r (⟨(h.val * 128 + l.val) % 128, _⟩ : Fin 128))
    + x (ix2 r (⟨4096 + ((h.val * 128 + l.val) / 128 * 128 + ((h.val * 128 + l.val) % 128 + 64) % 128), _⟩ : Fin 12800)) * s128 (ix2 r (⟨(h.val * 128 + l.val) % 128, _⟩ : Fin 128)) = _
  rw [e1]
  by_cases hl : l.val < 64
  · have e2 : (⟨4096 + ((h.val * 128 + l.val) / 128 * 128 + ((h.val * 128 + l.val) % 128 + 64) % 128), by omega⟩ : Fin 12800) = ⟨4096 + (h.val * 128 + (l.val + 64)), by omega⟩ := Fin.ext (by dsimp only; omega)
    rw [e2, c128_lt r l hl, s128_lt r l hl, kc_lt x r h l _ rfl hl, mul_neg, sub_eq_add_neg]
  · have e2 : (⟨4096 + ((h.val * 128 + l.val) / 128 * 128 + ((h.val * 128 + l.val) % 128 + 64) % 128), by omega⟩ : Fin 12800) = ⟨4096 + (h.val * 128 + (l.val - 64)), by omega⟩ := Fin.ext (by dsimp only; omega)
    rw [e2, c128_ge r l hl, s128_ge r l hl, kc_ge x r h l _ rfl hl]

/-- The rotated index keys are the reference's, in the lanes that are kept. -/
theorem idxKeysAll_eq (x : S8704x12800.Idx → EReal) (r : Fin 8704) (l : Fin 64) :
    idxKeysAll x c64 s64 (ix2 r (⟨l.val, by omega⟩ : Fin 128)) = ki x r l := by
  have hl' := l.isLt
  show x (ix2 r (⟨12288 + l.val, _⟩ : Fin 12800)) * c64 (ix2 r (⟨l.val, _⟩ : Fin 128))
    + x (ix2 r (⟨12288 + (partner (⟨l.val, _⟩ : Fin 128)).val, _⟩ : Fin 12800)) * s64 (ix2 r (⟨l.val, _⟩ : Fin 128)) = _
  by_cases hl : l.val < 32
  · have hp : (partner (⟨l.val, by omega⟩ : Fin 128)).val = l.val + 32 := by
      unfold partner
      rw [if_pos (show l.val % 64 < 32 by omega)]
      show (l.val + 32) % 128 = l.val + 32
      omega
    have e2 : (⟨12288 + (partner (⟨l.val, by omega⟩ : Fin 128)).val, by omega⟩ : Fin 12800) = ⟨12288 + (l.val + 32), by omega⟩ := Fin.ext (by dsimp only; omega)
    rw [e2, c64_lt r (⟨l.val, by omega⟩ : Fin 128) hl' hl, s64_lt r (⟨l.val, by omega⟩ : Fin 128) hl' hl, ki_lt x r l _ rfl hl, mul_neg, sub_eq_add_neg]
  · have hp : (partner (⟨l.val, by omega⟩ : Fin 128)).val = l.val - 32 := by
      unfold partner
      rw [if_neg (show ¬ l.val % 64 < 32 by omega)]
      show (l.val + 96) % 128 = l.val - 32
      omega
    have e2 : (⟨12288 + (partner (⟨l.val, by omega⟩ : Fin 128)).val, by omega⟩ : Fin 12800) = ⟨12288 + (l.val - 32), by omega⟩ := Fin.ext (by dsimp only; omega)
    rw [e2, c64_ge r (⟨l.val, by omega⟩ : Fin 128) hl' hl, s64_ge r (⟨l.val, by omega⟩ : Fin 128) hl' hl, ki_ge x r l _ rfl hl]

/-! The results, of the two arrays. -/

abbrev res0 (K : Vec Ideal S8704x512 .f32) : Vec Ideal S1x8192x4x128 .f32 := shapeCast _ (extractStridedSlice S8192x512 ![0, 0] K slices_S8704x512_S8192x512_0_0) shapeCasts_S8192x512_S1x8192x4x128
abbrev res1 (K : Vec Ideal S8704x128 .f32) : Vec Ideal S1x8192x64 .f32 := broadcastInDim S1x8192x64 ![1, 2] bcast_S8192x64_S1x8192x64_1_2 (extractStridedSlice S8192x64 ![0, 0] K slices_S8704x128_S8192x64_0_0)
abbrev res2 (K : Vec Ideal S8704x512 .f32) : Vec Ideal S16x32x4x128 .f32 := shapeCast _ (extractStridedSlice S512x512 ![8192, 0] K slices_S8704x512_S512x512_8192_0) shapeCasts_S512x512_S16x32x4x128
abbrev res3 (K : Vec Ideal S8704x128 .f32) : Vec Ideal S16x32x64 .f32 := shapeCast _ (extractStridedSlice S512x64 ![8192, 0] K slices_S8704x128_S512x64_8192_0) shapeCasts_S512x64_S16x32x64

theorem same0 (x : S8704x12800.Idx → EReal) : res0 (keysAll x c128 s128) = Cert.RopeRefIdeal.Rotation.out0 x := by
  funext i
  obtain ⟨b, p, h, l, rfl⟩ : ∃ (b : Fin 1) (p : Fin 8192) (h : Fin 4) (l : Fin 128), i = ix4 b p h l := ⟨i 0, i 1, i 2, i 3, eq_ix4 i⟩
  have hb := b.isLt
  have hh := h.isLt
  refine (shapeCast_apply _ shapeCasts_S8192x512_S1x8192x4x128 (ix4 b p h l) (ix2 p (⟨h.val * 128 + l.val, by omega⟩ : Fin 512)) ?_).trans ?_
  · rw [Shape.rowMajor_val_two, Shape.rowMajor_val_four]
    show p.val * 512 + (h.val * 128 + l.val) = ((b.val * 8192 + p.val) * 4 + h.val) * 128 + l.val
    omega
  refine (extractStridedSlice_apply ![0, 0] _ slices_S8704x512_S8192x512_0_0 _ (ix2 (rowP p) (⟨h.val * 128 + l.val, by omega⟩ : Fin 512)) ?_).trans ?_
  · intro a
    match a with
    | ⟨0, _⟩ => show p.val = 0 + p.val; omega
    | ⟨1, _⟩ => show h.val * 128 + l.val = 0 + (h.val * 128 + l.val); omega
  exact keysAll_eq x (rowP p) h l

theorem same1 (x : S8704x12800.Idx → EReal) : res1 (idxKeysAll x c64 s64) = Cert.RopeRefIdeal.Rotation.out1 x := by
  funext i
  obtain ⟨b, p, l, rfl⟩ : ∃ (b : Fin 1) (p : Fin 8192) (l : Fin 64), i = ix3 b p l := ⟨i 0, i 1, i 2, eq_ix3 i⟩
  refine (broadcastInDim_apply ![1, 2] bcast_S8192x64_S1x8192x64_1_2 _ (ix3 b p l) (ix2 p l) ?_).trans ?_
  · intro a
    match a with
    | ⟨0, _⟩ => rfl
    | ⟨1, _⟩ => rfl
  refine (extractStridedSlice_apply ![0, 0] _ slices_S8704x128_S8192x64_0_0 _ (ix2 (rowP p) (⟨l.val, by omega⟩ : Fin 128)) ?_).trans ?_
  · intro a
    match a with
    | ⟨0, _⟩ => show p.val = 0 + p.val; omega
    | ⟨1, _⟩ => show l.val = 0 + l.val; omega
  exact idxKeysAll_eq x (rowP p) l

theorem same2 (x : S8704x12800.Idx → EReal) : res2 (keysAll x c128 s128) = Cert.RopeRefIdeal.Rotation.out2 x := by
  funext i
  obtain ⟨b, p, h, l, rfl⟩ : ∃ (b : Fin 16) (p : Fin 32) (h : Fin 4) (l : Fin 128), i = ix4 b p h l := ⟨i 0, i 1, i 2, i 3, eq_ix4 i⟩
  have hb := b.isLt
  have hh := h.isLt
  refine (shapeCast_apply _ shapeCasts_S512x512_S16x32x4x128 (ix4 b p h l) (ix2 (⟨b.val * 32 + p.val, by omega⟩ : Fin 512) (⟨h.val * 128 + l.val, by omega⟩ : Fin 512)) ?_).trans ?_
  · rw [Shape.rowMajor_val_two, Shape.rowMajor_val_four]
    show (b.val * 32 + p.val) * 512 + (h.val * 128 + l.val) = ((b.val * 32 + p.val) * 4 + h.val) * 128 + l.val
    omega
  refine (extractStridedSlice_apply ![8192, 0] _ slices_S8704x512_S512x512_8192_0 _ (ix2 (rowS b p) (⟨h.val * 128 + l.val, by omega⟩ : Fin 512)) ?_).trans ?_
  · intro a
    match a with
    | ⟨0, _⟩ => rfl
    | ⟨1, _⟩ => show h.val * 128 + l.val = 0 + (h.val * 128 + l.val); omega
  exact keysAll_eq x (rowS b p) h l

theorem same3 (x : S8704x12800.Idx → EReal) : res3 (idxKeysAll x c64 s64) = Cert.RopeRefIdeal.Rotation.out3 x := by
  funext i
  obtain ⟨b, p, l, rfl⟩ : ∃ (b : Fin 16) (p : Fin 32) (l : Fin 64), i = ix3 b p l := ⟨i 0, i 1, i 2, eq_ix3 i⟩
  have hb := b.isLt
  refine (shapeCast_apply _ shapeCasts_S512x64_S16x32x64 (ix3 b p l) (ix2 (⟨b.val * 32 + p.val, by omega⟩ : Fin 512) l) ?_).trans ?_
  · rw [Shape.rowMajor_val_two, Shape.rowMajor_val_three]
    show (b.val * 32 + p.val) * 64 + l.val = (b.val * 32 + p.val) * 64 + l.val
    rfl
  refine (extractStridedSlice_apply ![8192, 0] _ slices_S8704x128_S512x64_8192_0 _ (ix2 (rowS b p) (⟨l.val, by omega⟩ : Fin 128)) ?_).trans ?_
  · intro a
    match a with
    | ⟨0, _⟩ => rfl
    | ⟨1, _⟩ => show l.val = 0 + l.val; omega
  exact idxKeysAll_eq x (rowS b p) l

section
variable (U : Valuation τ sig (Elt Ideal))
/-! What the operations after the region leave, of what they find. -/
theorem tail0 : StableHlo.after hostOps1 U (Proc.devRef .tc main_v56) = res0 (U (Proc.devRef .tc main_v54_1)) := by
  after_results <;> rfl
theorem tail1 : StableHlo.after hostOps1 U (Proc.devRef .tc main_v58) = res1 (U (Proc.devRef .tc main_v54_5)) := by
  after_results <;> rfl
theorem tail2 : StableHlo.after hostOps1 U (Proc.devRef .tc main_v60) = res2 (U (Proc.devRef .tc main_v54_1)) := by
  after_results <;> rfl
theorem tail3 : StableHlo.after hostOps1 U (Proc.devRef .tc main_v62) = res3 (U (Proc.devRef .tc main_v54_5)) := by
  after_results <;> rfl
end

variable (m : (ℓ : Loc nD τ sig) → Buf (Elt Ideal) ℓ) (ρ : Dev nD → PrngReg)

/-! What the region leaves. -/

theorem region11 (c : Dev nD) : (Pipeline.withArrays (cfgs 0).spec c (V0 m c) (fun w => (dats m 0 c).arrAt w (cfgs 0).N) (Proc.devRef .tc main_v54_1) : Vec Ideal S8704x512 .f32)
    = keysAll (m ((c.tc : Thread nD τ).loc main_arg0)) c128 s128 := by
  have e : Pipeline.withArrays (cfgs 0).spec c (V0 m c) (fun w => (dats m 0 c).arrAt w (cfgs 0).N) (Proc.devRef .tc main_v54_1) = result11 m c :=
    ((dats m 0 c).withArrays_arrAt sharedIn0 (V0 m c) (A_eq m c) (11 : Fin 18)).trans (final11 m c)
  rw [e]
  unfold result11
  rw [V_arg, V_v25, V_v30]

theorem region15 (c : Dev nD) : (Pipeline.withArrays (cfgs 0).spec c (V0 m c) (fun w => (dats m 0 c).arrAt w (cfgs 0).N) (Proc.devRef .tc main_v54_5) : Vec Ideal S8704x128 .f32)
    = idxKeysAll (m ((c.tc : Thread nD τ).loc main_arg0)) c64 s64 := by
  have e : Pipeline.withArrays (cfgs 0).spec c (V0 m c) (fun w => (dats m 0 c).arrAt w (cfgs 0).N) (Proc.devRef .tc main_v54_5) = result15 m c :=
    ((dats m 0 c).withArrays_arrAt sharedIn0 (V0 m c) (A_eq m c) (15 : Fin 18)).trans (final15 m c)
  rw [e]
  unfold result15
  rw [V_arg, V_v48, V_v53]

/-- Every run of the kernel's program ends with the four results. -/
theorem value : θ_run (defs (F := Ideal)) (onTc (τ := τ) (main (F := Ideal))) ⟨m, fun _ => 0, ρ⟩ (fun r => ∀ c : Dev nD,
      r.2.mem ((c.tc : Thread nD τ).loc main_v56) = Cert.RopeRefIdeal.Rotation.out0 (m ((c.tc : Thread nD τ).loc main_arg0))
      ∧ r.2.mem ((c.tc : Thread nD τ).loc main_v58) = Cert.RopeRefIdeal.Rotation.out1 (m ((c.tc : Thread nD τ).loc main_arg0))
      ∧ r.2.mem ((c.tc : Thread nD τ).loc main_v60) = Cert.RopeRefIdeal.Rotation.out2 (m ((c.tc : Thread nD τ).loc main_arg0))
      ∧ r.2.mem ((c.tc : Thread nD τ).loc main_v62) = Cert.RopeRefIdeal.Rotation.out3 (m ((c.tc : Thread nD τ).loc main_arg0))
      ∧ r.2.mem ((c.tc : Thread nD τ).loc main_arg0) = m ((c.tc : Thread nD τ).loc main_arg0)) :=
  (θ_run defs _ _).mono (fun r h c => ⟨
    by
    refine ((h.1 c).2 main_v56 (Pipeline.mem_restRefs_of main_v56 (by decide) (by decide))).trans ?_
    unfold Pipeline.afterTail₀
    simp only [List.flatten_cons, List.flatten_nil, List.append_nil]
    exact (tail0 _).trans ((congrArg res0 (region11 m c)).trans (same0 _)),
    by
    refine ((h.1 c).2 main_v58 (Pipeline.mem_restRefs_of main_v58 (by decide) (by decide))).trans ?_
    unfold Pipeline.afterTail₀
    simp only [List.flatten_cons, List.flatten_nil, List.append_nil]
    exact (tail1 _).trans ((congrArg res1 (region15 m c)).trans (same1 _)),
    by
    refine ((h.1 c).2 main_v60 (Pipeline.mem_restRefs_of main_v60 (by decide) (by decide))).trans ?_
    unfold Pipeline.afterTail₀
    simp only [List.flatten_cons, List.flatten_nil, List.append_nil]
    exact (tail2 _).trans ((congrArg res2 (region11 m c)).trans (same2 _)),
    by
    refine ((h.1 c).2 main_v62 (Pipeline.mem_restRefs_of main_v62 (by decide) (by decide))).trans ?_
    unfold Pipeline.afterTail₀
    simp only [List.flatten_cons, List.flatten_nil, List.append_nil]
    exact (tail3 _).trans ((congrArg res3 (region15 m c)).trans (same3 _)),
    h.2 c⟩) (θ_run_and (run_main (F := Ideal) m ρ) (unchanged (F := Ideal) m ρ))

end Cert.RopeIdeal.Rotation

end
-- ==== Proof.ScanSpec.lean ====
/- One step of the gated delta rule, of one head: what the values become after the state's part is taken off them, the next state,
   the mixed rows, and the mixed rows normed and gated; and the same for all samples and heads, on the arrays the calls are made with. -/
module

public import Idealize.ShloMosaic.PureOps.Ideal
public import Idealize.ShloMosaic.Lib.ValueIdx

@[expose] public section

noncomputable section

namespace Cert.Delta

open Idealize.ShloMosaic
open Idealize.ShloMosaic.ValueIdx

/-- The values of a chunk with the state's part taken off. -/
def solved (s : Fin 128 → Fin 128 → EReal) (v k : Fin 32 → Fin 128 → EReal) (t : Fin 32) (l : Fin 128) : EReal :=
  v t l - ∑ j : Fin 128, k t j * s j l

/-- The state after the chunk. -/
def next (s : Fin 128 → Fin 128 → EReal) (e : EReal) (k : Fin 32 → Fin 128 → EReal) (u : Fin 32 → Fin 128 → EReal) (j l : Fin 128) : EReal :=
  s j l * e + ∑ t : Fin 32, k t j * u t l

/-- The mixed rows of the chunk. -/
def mixed (s : Fin 128 → Fin 128 → EReal) (q : Fin 32 → Fin 128 → EReal) (a : Fin 32 → Fin 32 → EReal) (u : Fin 32 → Fin 128 → EReal)
    (t : Fin 32) (l : Fin 128) : EReal :=
  (∑ j : Fin 128, q t j * s j l) + ∑ j : Fin 32, a t j * u j l

/-- The mixed rows with their root mean square taken out, weighted and gated. -/
def gated (o g : Fin 32 → Fin 128 → EReal) (w : Fin 128 → EReal) (t : Fin 32) (l : Fin 128) : EReal :=
  o t l * Ideal.rsqrt (Ideal.div (∑ j : Fin 128, o t j * o t j) (Ideal.ofBits .f32 0x43000000#32) + Ideal.ofBits .f32 0x358637BD#32) * w l
    * (g t l * Ideal.div (Ideal.ofBits .f32 0x3F800000#32) (Ideal.ofBits .f32 0x3F800000#32 + Ideal.exp (-g t l)))

/-- The row of a sample's token. -/
def row (b : Fin 16) (t : Fin 32) : Fin 512 := ⟨b.val * 32 + t.val, by omega⟩
/-- The column of a head's lane. -/
def col (h : Fin 16) (l : Fin 128) : Fin 2048 := ⟨h.val * 128 + l.val, by omega⟩
/-- The column of a head's lane in the gate, a part of the projection. -/
def gcol (h : Fin 16) (l : Fin 128) : Fin 12800 := ⟨2048 + h.val * 128 + l.val, by omega⟩
/-- The lane that holds a head's decay. -/
def lane (h : Fin 16) : Fin 128 := ⟨h.val, by omega⟩

abbrev Rows : Type := (⟨2, ![512, 2048]⟩ : Shape).Idx → EReal
abbrev States : Type := (⟨4, ![16, 16, 128, 128]⟩ : Shape).Idx → EReal
abbrev Decays : Type := (⟨3, ![16, 1, 128]⟩ : Shape).Idx → EReal
abbrev Scores : Type := (⟨4, ![16, 16, 32, 32]⟩ : Shape).Idx → EReal
abbrev Proj : Type := (⟨2, ![512, 12800]⟩ : Shape).Idx → EReal
abbrev Lanes : Type := (⟨1, ![128]⟩ : Shape).Idx → EReal

/-- A sample's rows of one head. -/
def part (x : Rows) (b h : Fin 16) (t : Fin 32) (l : Fin 128) : EReal := x (ix2 (row b t) (col h l))
/-- A sample's state of one head. -/
def stateAt (x : States) (b h : Fin 16) (j l : Fin 128) : EReal := x (ix4 b h j l)

/-- The values of a sample's head with the state's part taken off. -/
def solvedAt (s : States) (v k : Rows) (b h : Fin 16) : Fin 32 → Fin 128 → EReal := solved (stateAt s b h) (part v b h) (part k b h)

/-- The states after the step. -/
def stateOf (s : States) (v k kd : Rows) (e : Decays) : States := fun i =>
  next (stateAt s (i 0) (i 1)) (e (ix3 (i 0) (0 : Fin 1) (lane (i 1)))) (part kd (i 0) (i 1)) (solvedAt s v k (i 0) (i 1)) (i 2) (i 3)

/-- The mixed rows of a sample's head. -/
def mixedAt (s : States) (v k qe : Rows) (a : Scores) (b h : Fin 16) : Fin 32 → Fin 128 → EReal :=
  mixed (stateAt s b h) (part qe b h) (fun t j => a (ix4 b h t j)) (solvedAt s v k b h)

/-- The mixed rows of a sample's head, normed and gated. -/
def gatedAt (s : States) (v k qe : Rows) (a : Scores) (p : Proj) (w : Lanes) (b h : Fin 16) : Fin 32 → Fin 128 → EReal :=
  gated (mixedAt s v k qe a b h) (fun t l => p (ix2 (row b t) (gcol h l))) (fun l => w (ix1 l))

/-- The rows the step ends with. -/
def rowsOf (s : States) (v k qe : Rows) (a : Scores) (p : Proj) (w : Lanes) : Rows := fun i =>
  gatedAt s v k qe a p w (⟨(i 0).val / 32, by have h : (i 0).val < 512 := (i 0).isLt; omega⟩ : Fin 16)
    (⟨(i 1).val / 128, by have h : (i 1).val < 2048 := (i 1).isLt; omega⟩ : Fin 16)
    (⟨(i 0).val % 32, by omega⟩ : Fin 32) (⟨(i 1).val % 128, by omega⟩ : Fin 128)

end Cert.Delta

end
-- ==== Proof.ScanIdealHead.lean ====
/- What a point computes for one head: the values with the state taken off, the mixed rows, the next state and the gated rows, entry by entry. -/
module

public import proofs.«01_k».proof.Proof.Gen.ScanIdeal.Frame
public import Idealize.ShloMosaic.Lib.Pipeline.Value
public import Idealize.ShloMosaic.Lib.Pipeline.ValueKit.Acc
public import Idealize.ShloMosaic.Lib.MatmulPlain
public import Idealize.ShloMosaic.Lib.Pipeline.ReadBack
public import proofs.«01_k».proof.Proof.ScanSpec
public import Idealize.ShloMosaic.Lib.ValueIdx
public import Idealize.ShloMosaic.Lib.KernelVsHost
public import Idealize.ShloMosaic.PureOps.Ideal.Laws

@[expose] public section

set_option maxRecDepth 16384

noncomputable section

namespace Cert.ScanIdeal.Head

open Cert.ScanIdeal Cert.ScanIdeal.Gen
open Idealize.ShloMosaic
open Idealize.ShloMosaic.TcCoe
open Idealize.SL.Sem
open Idealize.ShloMosaic.ValueIdx

open Cert.Delta (solved next mixed gated)

/-- The product of rows with a state, entry by entry. -/
theorem dotState (x : FVec Ideal S32x128 .bf16) (w : FVec Ideal S128x128 .bf16) (t : Fin 32) (l : Fin 128) :
    matmul (φ₁ := .bf16) (φ₂ := .bf16) dot_S32x128_S128x128_S32x128_1_0_0_1_n_n none x w (constant (F := Ideal) S32x128 .f32 0x00000000#32) (ix2 t l)
      = (∑ k : Fin 128, x (ix2 t k) * w (ix2 k l) : EReal) := by
  have hd : dot_S32x128_S128x128_S32x128_1_0_0_1_n_n = DotDims.plain 32 128 128 := rfl
  rw [hd]
  refine (Ideal.matmul_plain_apply none x w _ t l).trans ?_
  show (Ideal.ofBits .f32 0x00000000#32 : EReal) + _ = _
  rw [Ideal.ofBits_zero_f32, zero_add]

/-- The product of scores with rows, entry by entry. -/
theorem dotScores (x : FVec Ideal S32x32 .bf16) (w : FVec Ideal S32x128 .bf16) (t : Fin 32) (l : Fin 128) :
    matmul (φ₁ := .bf16) (φ₂ := .bf16) dot_S32x32_S32x128_S32x128_1_0_0_1_n_n none x w (constant (F := Ideal) S32x128 .f32 0x00000000#32) (ix2 t l)
      = (∑ k : Fin 32, x (ix2 t k) * w (ix2 k l) : EReal) := by
  have hd : dot_S32x32_S32x128_S32x128_1_0_0_1_n_n = DotDims.plain 32 32 128 := rfl
  rw [hd]
  refine (Ideal.matmul_plain_apply none x w _ t l).trans ?_
  show (Ideal.ofBits .f32 0x00000000#32 : EReal) + _ = _
  rw [Ideal.ofBits_zero_f32, zero_add]

/-- The product of two arrays of rows over the rows, entry by entry. -/
theorem dotRows (x w : FVec Ideal S32x128 .bf16) (k l : Fin 128) :
    matmul (φ₁ := .bf16) (φ₂ := .bf16) dot_S32x128_S32x128_S128x128_0_0_1_1_n_n none x w (constant (F := Ideal) S128x128 .f32 0x00000000#32) (ix2 k l)
      = (∑ t : Fin 32, x (ix2 t k) * w (ix2 t l) : EReal) := by
  refine (Ideal.matmul_constant_zero_apply (φ₁ := .bf16) (φ₂ := .bf16) dot_S32x128_S32x128_S128x128_0_0_1_1_n_n none x w (ix2 k l)).trans ?_
  rw [← Equiv.sum_comp (contrEquiv1 dot_S32x128_S32x128_S128x128_0_0_1_1_n_n 32 rfl rfl).symm]
  refine Finset.sum_congr rfl fun t _ => ?_
  have ht := contrEquiv1_symm_val dot_S32x128_S32x128_S128x128_0_0_1_1_n_n 32 rfl rfl t
  have el : dot_S32x128_S32x128_S128x128_0_0_1_1_n_n.lhsIdx (ix2 k l) ((contrEquiv1 dot_S32x128_S32x128_S128x128_0_0_1_1_n_n 32 rfl rfl).symm t) = ix2 t k := funext fun a => Fin.ext (by
    match a with
    | ⟨0, _⟩ => exact (dot_S32x128_S32x128_S128x128_0_0_1_1_n_n.lhsIdx_val_of_single rfl (ix2 k l) _).trans ht
    | ⟨1, _⟩ => rfl)
  have er : dot_S32x128_S32x128_S128x128_0_0_1_1_n_n.rhsIdx (ix2 k l) ((contrEquiv1 dot_S32x128_S32x128_S128x128_0_0_1_1_n_n 32 rfl rfl).symm t) = ix2 t l := funext fun a => Fin.ext (by
    match a with
    | ⟨0, _⟩ => exact (dot_S32x128_S32x128_S128x128_0_0_1_1_n_n.rhsIdx_val_of_single rfl (ix2 k l) _).trans ht
    | ⟨1, _⟩ => rfl)
  rw [el, er]

/-- A head's state as a square. -/
theorem square_apply (s : Vec Ideal S1x128x128 .f32) (k l : Fin 128) : k0_pay6 s (ix2 k l) = s (ix3 (0 : Fin 1) k l) := by
  unfold k0_pay6
  refine shapeCast_apply s _ (ix2 k l) (ix3 (0 : Fin 1) k l) ?_
  rw [Shape.rowMajor_val_two, Shape.rowMajor_val_three]
  show ((0 * 128 + k.val) * 128 + l.val) = k.val * 128 + l.val
  omega

/-- The values with the state taken off. -/
theorem solved_apply (s : Vec Ideal S1x128x128 .f32) (v : Vec Ideal S32x128 .f32) (k : Vec Ideal S32x128 .bf16) (t : Fin 32) (l : Fin 128) :
    k0_pay8 s v k (ix2 t l) = solved (fun j l => s (ix3 (0 : Fin 1) j l)) (fun t l => v (ix2 t l)) (fun t l => k (ix2 t l)) t l := by
  unfold k0_pay8 k0_pay7
  refine congrArg (fun a : EReal => v (ix2 t l) - a) ((dotState k _ t l).trans (Finset.sum_congr rfl fun j _ => ?_))
  exact congrArg (fun a : EReal => k (ix2 t j) * a) (square_apply s j l)

/-- The mixed rows. -/
theorem mixed_apply (s : Vec Ideal S1x128x128 .f32) (v : Vec Ideal S32x128 .f32) (k q : Vec Ideal S32x128 .bf16) (a : Vec Ideal S1x1x32x32 .bf16) (t : Fin 32) (l : Fin 128) :
    k0_pay9 s v k q a (ix2 t l) = mixed (fun j l => s (ix3 (0 : Fin 1) j l)) (fun t l => q (ix2 t l)) (fun t j => a (ix4 (0 : Fin 1) (0 : Fin 1) t j))
      (solved (fun j l => s (ix3 (0 : Fin 1) j l)) (fun t l => v (ix2 t l)) (fun t l => k (ix2 t l))) t l := by
  unfold k0_pay9 k0_pay7
  refine congrArg₂ (fun a c : EReal => a + c) ((dotState q _ t l).trans (Finset.sum_congr rfl fun j _ => ?_)) ((dotScores _ _ t l).trans (Finset.sum_congr rfl fun j _ => ?_))
  · exact congrArg (fun a : EReal => q (ix2 t j) * a) (square_apply s j l)
  · refine congrArg₂ (fun a c : EReal => a * c) (shapeCast_apply a _ (ix2 t j) (ix4 (0 : Fin 1) (0 : Fin 1) t j) ?_) (solved_apply s v k j l)
    rw [Shape.rowMajor_val_two, Shape.rowMajor_val_four]
    show ((0 * 1 + 0) * 32 + t.val) * 32 + j.val = t.val * 32 + j.val
    omega

/-- The next state of a head, as a block. -/
def nextBlock (off : Fin 2 → Nat) (sl : S1x128.Slices off S1x1) (e : Vec Ideal S1x1x128 .f32) (s : Vec Ideal S1x128x128 .f32) (v : Vec Ideal S32x128 .f32)
    (k d : Vec Ideal S32x128 .bf16) : Vec Ideal S1x128x128 .f32 :=
  shapeCast S1x128x128 (addf (mulf (k0_pay6 s) (broadcastTo S128x128 (extractStridedSlice S1x1 off (k0_pay4 e) sl) broadcasts_S1x1_S128x128))
    (matmul (φ₁ := .bf16) (φ₂ := .bf16) dot_S32x128_S32x128_S128x128_0_0_1_1_n_n none d (k0_pay8 s v k) (constant (F := Ideal) S128x128 .f32 0x00000000#32))) shapeCasts_S128x128_S1x128x128

theorem next_apply (h : Fin 16) (off : Fin 2 → Nat) (ho : off = ![0, h.val]) (sl : S1x128.Slices off S1x1) (e : Vec Ideal S1x1x128 .f32) (s : Vec Ideal S1x128x128 .f32)
    (v : Vec Ideal S32x128 .f32) (k d : Vec Ideal S32x128 .bf16) (j l : Fin 128) :
    nextBlock off sl e s v k d (ix3 (0 : Fin 1) j l) = next (fun j l => s (ix3 (0 : Fin 1) j l)) (e (ix3 (0 : Fin 1) (0 : Fin 1) (Cert.Delta.lane h))) (fun t l => d (ix2 t l))
      (solved (fun j l => s (ix3 (0 : Fin 1) j l)) (fun t l => v (ix2 t l)) (fun t l => k (ix2 t l))) j l := by
  subst ho
  unfold nextBlock
  refine (shapeCast_apply _ _ (ix3 (0 : Fin 1) j l) (ix2 j l) ?_).trans ?_
  · rw [Shape.rowMajor_val_two, Shape.rowMajor_val_three]
    show j.val * 128 + l.val = ((0 * 128 + j.val) * 128 + l.val)
    omega
  refine congrArg₂ (fun a c : EReal => a + c) (congrArg₂ (fun a c : EReal => a * c) (square_apply s j l) ?_) ((dotRows d _ j l).trans (Finset.sum_congr rfl fun t _ => ?_))
  · refine (broadcastTo_apply _ _ (ix2 j l) (ix2 (0 : Fin 1) (0 : Fin 1)) (fun a => by match a with | ⟨0, _⟩ => rfl | ⟨1, _⟩ => rfl)).trans ?_
    refine (extractStridedSlice_apply _ _ _ (ix2 (0 : Fin 1) (0 : Fin 1)) (ix2 (0 : Fin 1) (Cert.Delta.lane h)) (fun a => by match a with | ⟨0, _⟩ => rfl | ⟨1, _⟩ => rfl)).trans ?_
    unfold k0_pay4
    refine shapeCast_apply e _ _ (ix3 (0 : Fin 1) (0 : Fin 1) (Cert.Delta.lane h)) ?_
    rw [Shape.rowMajor_val_two, Shape.rowMajor_val_three]
    show (0 * 1 + 0) * 128 + (Cert.Delta.lane h).val = 0 * 128 + (Cert.Delta.lane h).val
    omega
  · exact congrArg (fun a : EReal => d (ix2 t j) * a) (solved_apply s v k t l)

/-- The mixed rows normed and gated. -/
theorem gated_apply (w : Vec Ideal S1x128 .f32) (o g : Vec Ideal S32x128 .f32) (t : Fin 32) (l : Fin 128) :
    k0_pay12 w o g (ix2 t l) = gated (fun t l => o (ix2 t l)) (fun t l => g (ix2 t l)) (fun l => w (ix2 (0 : Fin 1) l)) t l := by
  have hs : ∀ (z : FVec Ideal S32x1 .f32), broadcastTo S32x128 z broadcasts_S32x1_S32x128 (ix2 t l) = z (ix2 t (0 : Fin 1)) := fun z =>
    broadcastTo_apply _ _ (ix2 t l) (ix2 t (0 : Fin 1)) (fun a => by match a with | ⟨0, _⟩ => rfl | ⟨1, _⟩ => rfl)
  have hw : broadcastTo S32x128 w broadcasts_S1x128_S32x128 (ix2 t l) = w (ix2 (0 : Fin 1) l) :=
    broadcastTo_apply _ _ (ix2 t l) (ix2 (0 : Fin 1) l) (fun a => by match a with | ⟨0, _⟩ => rfl | ⟨1, _⟩ => rfl)
  have hr : (shapeCast S32x1 (multiReduction (F := Ideal) (φ := .f32) .add [1] S32 (mulf (F := Ideal) (φ := .f32) o o) 0x00000000#32 reduces_S32x128_S32 (.inl rfl) rfl) shapeCasts_S32_S32x1 (ix2 t (0 : Fin 1)) : EReal)
      = (∑ j : Fin 128, o (ix2 t j) * o (ix2 t j) : EReal) := by
    refine (shapeCast_apply _ _ (ix2 t (0 : Fin 1)) (ix1 t) ?_).trans ?_
    · rw [Shape.rowMajor_val_two, Shape.rowMajor_val_one]
      show t.val = t.val * 1 + 0
      omega
    · refine (Ideal.multiReduction_add_single (mulf (F := Ideal) (φ := .f32) o o) _ reduces_S32x128_S32 _ _ (ix1 t)).trans (Finset.sum_congr rfl fun j _ => ?_)
      have e : reduces_S32x128_S32.lift (ix1 t) j = ix2 t j := by
        funext a; match a with | ⟨0, _⟩ => rfl | ⟨1, _⟩ => rfl
      rw [e]
      rfl
  have hz : (Ideal.ofBits .f32 0x00000000#32 - g (ix2 t l) : EReal) = -g (ix2 t l) := by rw [Ideal.ofBits_zero_f32]; exact zero_sub _
  unfold k0_pay12 gated
  show (o (ix2 t l) * broadcastTo S32x128 _ broadcasts_S32x1_S32x128 (ix2 t l) * broadcastTo S32x128 w broadcasts_S1x128_S32x128 (ix2 t l)
    * (g (ix2 t l) * Ideal.div (Ideal.ofBits .f32 0x3F800000#32) (Ideal.ofBits .f32 0x3F800000#32 + Ideal.exp (Ideal.ofBits .f32 0x00000000#32 - g (ix2 t l)))) : EReal) = _
  rw [hs, hw, hz]
  refine congrArg (fun a : EReal => o (ix2 t l) * Ideal.rsqrt (Ideal.div a (Ideal.ofBits .f32 0x43000000#32) + Ideal.ofBits .f32 0x358637BD#32) * w (ix2 (0 : Fin 1) l)
    * (g (ix2 t l) * Ideal.div (Ideal.ofBits .f32 0x3F800000#32) (Ideal.ofBits .f32 0x3F800000#32 + Ideal.exp (-g (ix2 t l))))) hr

end Cert.ScanIdeal.Head

end
-- ==== Proof.ScanIdealTile.lean ====
/- What a point of the delta rule's step leaves: the next states of a sample's heads and its rows. -/
module

public import proofs.«01_k».proof.Proof.Gen.ScanIdeal.Frame
public import proofs.«01_k».proof.Proof.ScanIdealHead
public import Idealize.ShloMosaic.Lib.Pipeline.Value
public import Idealize.ShloMosaic.Lib.Pipeline.ValueKit.Acc
public import Idealize.ShloMosaic.Lib.ValueIdx
public import Idealize.ShloMosaic.Lib.KernelVsHost
public import Idealize.ShloMosaic.PureOps.Ideal.Laws

@[expose] public section

set_option maxRecDepth 65536

noncomputable section

namespace Cert.ScanIdeal.Tile

open Cert.ScanIdeal Cert.ScanIdeal.Gen
open Idealize.ShloMosaic
open Idealize.ShloMosaic.TcCoe
open Idealize.SL.Sem
open Idealize.ShloMosaic.ValueIdx

open Cert.Delta (solved next mixed gated col lane)
open Cert.ScanIdeal.Head

variable (x0 : Vec Ideal S1x16x128x128 .f32) (x1 : Vec Ideal S32x2048 .f32) (x2 x3 x4 : Vec Ideal S32x2048 .bf16) (x5 : Vec Ideal S1x16x32x32 .bf16)
  (x6 : Vec Ideal S1x1x128 .f32) (x7 : Vec Ideal S32x2048 .f32) (x8 : Vec Ideal S1x128 .f32)

/-- A block's rows of one head. -/
def rowsAt (x : S32x2048.Idx → EReal) (h : Fin 16) (t : Fin 32) (l : Fin 128) : EReal := x (ix2 t (col h l))
/-- A head's state. -/
def stateAt (h : Fin 16) (j l : Fin 128) : EReal := x0 (ix4 (0 : Fin 1) h j l)
/-- A head's values with the state taken off. -/
def solvedAt (h : Fin 16) : Fin 32 → Fin 128 → EReal := solved (stateAt x0 h) (rowsAt x1 h) (rowsAt x2 h)
/-- A head's next state. -/
def nextAt (h : Fin 16) : Fin 128 → Fin 128 → EReal :=
  next (stateAt x0 h) (x6 (ix3 (0 : Fin 1) (0 : Fin 1) (lane h))) (rowsAt x4 h) (solvedAt x0 x1 x2 h)
/-- A head's rows. -/
def gatedAt (h : Fin 16) : Fin 32 → Fin 128 → EReal :=
  gated (mixed (stateAt x0 h) (rowsAt x3 h) (fun t j => x5 (ix4 (0 : Fin 1) h t j)) (solvedAt x0 x1 x2 h)) (rowsAt x7 h) (fun l => x8 (ix2 (0 : Fin 1) l))

/-- A point's states, as it keeps them. -/
def states : Vec Ideal S16x128x128 .f32 := fun i => nextAt x0 x1 x2 x4 x6 (i 0) (i 1) (i 2)
/-- A point's rows. -/
def rows : Vec Ideal S32x2048 .bf16 := fun i => gatedAt x0 x1 x2 x3 x5 x7 x8
  (⟨(i 1).val / 128, by have h : (i 1).val < 2048 := (i 1).isLt; omega⟩ : Fin 16) (i 0) (⟨(i 1).val % 128, by omega⟩ : Fin 128)

theorem whole_apply (h : Fin 16) (j l : Fin 128) : k0_pay3 x0 (ix3 h j l) = stateAt x0 h j l := by
  unfold k0_pay3
  rw [shapeCast_self]
  refine shapeCast_apply x0 _ (ix3 h j l) (ix4 (0 : Fin 1) h j l) ?_
  rw [Shape.rowMajor_val_three, Shape.rowMajor_val_four]
  show ((0 * 16 + h.val) * 128 + j.val) * 128 + l.val = (h.val * 128 + j.val) * 128 + l.val
  omega

theorem ld_state (h : Fin 16) (i3 : ∀ a, (![h.val, 0, 0] : Fin 3 → Nat) a + ![1, 128, 128] a ≤ S16x128x128.size a) :
    (fun (j l : Fin 128) => View.ld (Val := Elt Ideal) (e' := .f32) (k0_pay3 x0) (Rect.unit (s := S16x128x128) ![h.val, 0, 0] ![1, 128, 128] i3) (ix3 (0 : Fin 1) j l) : Fin 128 → Fin 128 → EReal) = stateAt x0 h := by
  funext j l
  refine Eq.trans ?_ (whole_apply x0 h j l)
  refine congrArg (k0_pay3 x0) (funext fun a => Fin.ext ?_)
  match a with
  | ⟨0, _⟩ => show h.val + 1 * 0 = h.val; omega
  | ⟨1, _⟩ => show 0 + 1 * j.val = j.val; omega
  | ⟨2, _⟩ => show 0 + 1 * l.val = l.val; omega

theorem ld_rows (x : S32x2048.Idx → EReal) (h : Fin 16) (i2 : ∀ a, (![0, h.val * 128] : Fin 2 → Nat) a + ![32, 128] a ≤ S32x2048.size a) (t : Fin 32) (l : Fin 128) :
    x ((Rect.unit (s := S32x2048) ![0, h.val * 128] ![32, 128] i2).emb (ix2 t l)) = rowsAt x h t l := by
  refine congrArg x (funext fun a => Fin.ext ?_)
  match a with
  | ⟨0, _⟩ => show 0 + 1 * t.val = t.val; omega
  | ⟨1, _⟩ => show h.val * 128 + 1 * l.val = h.val * 128 + l.val; omega

/-- A head's decay lies among the lanes. -/
theorem laneSlice : ∀ h : Fin 16, S1x128.Slices ![0, h.val] S1x1 := by decide

/-- One head's store is that part of the states. -/
theorem nextStore (h : Fin 16) {i3 : ∀ a, (![h.val, 0, 0] : Fin 3 → Nat) a + ![1, 128, 128] a ≤ S16x128x128.size a}
    {i2 : ∀ a, (![0, h.val * 128] : Fin 2 → Nat) a + ![32, 128] a ≤ S32x2048.size a} (y : (Rect.unit (s := S16x128x128) ![h.val, 0, 0] ![1, 128, 128] i3).shape.Idx) :
    nextBlock ![0, h.val] (laneSlice h) x6 (View.ld (k0_pay3 x0) (Rect.unit (s := S16x128x128) ![h.val, 0, 0] ![1, 128, 128] i3)) (View.ld x1 (Rect.unit (s := S32x2048) ![0, h.val * 128] ![32, 128] i2)) (View.ld x2 (Rect.unit (s := S32x2048) ![0, h.val * 128] ![32, 128] i2)) (View.ld x4 (Rect.unit (s := S32x2048) ![0, h.val * 128] ![32, 128] i2)) y
      = states x0 x1 x2 x4 x6 ((Rect.unit (s := S16x128x128) ![h.val, 0, 0] ![1, 128, 128] i3).emb y) := by
  obtain ⟨z, j, l, rfl⟩ : ∃ (z : Fin 1) (j l : Fin 128), y = ix3 z j l := ⟨y 0, y 1, y 2, eq_ix3 y⟩
  obtain rfl : z = 0 := Subsingleton.elim _ _
  have e : (Rect.unit (s := S16x128x128) ![h.val, 0, 0] ![1, 128, 128] i3).emb (ix3 (0 : Fin 1) j l) = ix3 h j l := by
    funext a
    refine Fin.ext ?_
    match a with
    | ⟨0, _⟩ => show h.val + 1 * 0 = h.val; omega
    | ⟨1, _⟩ => show 0 + 1 * j.val = j.val; omega
    | ⟨2, _⟩ => show 0 + 1 * l.val = l.val; omega
  rw [e]
  refine (next_apply h _ rfl (laneSlice h) x6 _ _ _ _ j l).trans ?_
  rw [ld_state x0 h i3]
  show next (stateAt x0 h) _ _ _ j l = next (stateAt x0 h) _ (rowsAt x4 h) (solved (stateAt x0 h) (rowsAt x1 h) (rowsAt x2 h)) j l
  congr 1
  · funext t l; exact ld_rows x4 h i2 t l
  · congr 1
    · funext t l; exact ld_rows x1 h i2 t l
    · funext t l; exact ld_rows x2 h i2 t l

/-- One head's store is that part of the rows. -/
theorem rowStore (h : Fin 16) {i3 : ∀ a, (![h.val, 0, 0] : Fin 3 → Nat) a + ![1, 128, 128] a ≤ S16x128x128.size a}
    {i2 : ∀ a, (![0, h.val * 128] : Fin 2 → Nat) a + ![32, 128] a ≤ S32x2048.size a}
    {i4 : ∀ a, (![0, h.val, 0, 0] : Fin 4 → Nat) a + ![1, 1, 32, 32] a ≤ S1x16x32x32.size a} (y : (Rect.unit (s := S32x2048) ![0, h.val * 128] ![32, 128] i2).shape.Idx) :
    k0_pay12 (k0_pay5 x8) (k0_pay9 (View.ld (k0_pay3 x0) (Rect.unit (s := S16x128x128) ![h.val, 0, 0] ![1, 128, 128] i3)) (View.ld x1 (Rect.unit (s := S32x2048) ![0, h.val * 128] ![32, 128] i2)) (View.ld x2 (Rect.unit (s := S32x2048) ![0, h.val * 128] ![32, 128] i2)) (View.ld x3 (Rect.unit (s := S32x2048) ![0, h.val * 128] ![32, 128] i2)) (View.ld x5 (Rect.unit (s := S1x16x32x32) ![0, h.val, 0, 0] ![1, 1, 32, 32] i4))) (View.ld x7 (Rect.unit (s := S32x2048) ![0, h.val * 128] ![32, 128] i2)) y
      = rows x0 x1 x2 x3 x5 x7 x8 ((Rect.unit (s := S32x2048) ![0, h.val * 128] ![32, 128] i2).emb y) := by
  obtain ⟨t, l, rfl⟩ : ∃ (t : Fin 32) (l : Fin 128), y = ix2 t l := ⟨y 0, y 1, eq_ix2 y⟩
  have e : (Rect.unit (s := S32x2048) ![0, h.val * 128] ![32, 128] i2).emb (ix2 t l) = ix2 t (col h l) := by
    funext a
    refine Fin.ext ?_
    match a with
    | ⟨0, _⟩ => show 0 + 1 * t.val = t.val; omega
    | ⟨1, _⟩ => show h.val * 128 + 1 * l.val = h.val * 128 + l.val; omega
  have hr : rows x0 x1 x2 x3 x5 x7 x8 (ix2 t (col h l)) = gatedAt x0 x1 x2 x3 x5 x7 x8 h t l := by
    have e1 : (⟨(h.val * 128 + l.val) / 128, by omega⟩ : Fin 16) = h := Fin.ext (by show (h.val * 128 + l.val) / 128 = h.val; omega)
    have e2 : (⟨(h.val * 128 + l.val) % 128, by omega⟩ : Fin 128) = l := Fin.ext (by show (h.val * 128 + l.val) % 128 = l.val; omega)
    show gatedAt x0 x1 x2 x3 x5 x7 x8 (⟨(h.val * 128 + l.val) / 128, _⟩ : Fin 16) t (⟨(h.val * 128 + l.val) % 128, _⟩ : Fin 128) = _
    rw [e1, e2]
  have e8 : k0_pay5 x8 = x8 := shapeCast_self x8 _
  rw [e, hr, e8]
  refine (gated_apply x8 _ _ t l).trans ?_
  unfold gatedAt
  congr 1
  · funext t l
    refine (mixed_apply _ _ _ _ _ t l).trans ?_
    rw [ld_state x0 h i3]
    show mixed (stateAt x0 h) _ _ _ t l = mixed (stateAt x0 h) (rowsAt x3 h) _ (solved (stateAt x0 h) (rowsAt x1 h) (rowsAt x2 h)) t l
    congr 1
    · funext t l; exact ld_rows x3 h i2 t l
    · funext t j
      refine congrArg x5 (funext fun a => Fin.ext ?_)
      match a with
      | ⟨0, _⟩ => rfl
      | ⟨1, _⟩ => show h.val + 1 * 0 = h.val; omega
      | ⟨2, _⟩ => show 0 + 1 * t.val = t.val; omega
      | ⟨3, _⟩ => show 0 + 1 * j.val = j.val; omega
    · congr 1
      · funext t l; exact ld_rows x1 h i2 t l
      · funext t l; exact ld_rows x2 h i2 t l
  · funext t l; exact ld_rows x7 h i2 t l

/-- A load of the whole of the kept states. -/
theorem readCov_whole {κ : Kind} {sp : Space} (v : View sig κ sp S16x128x128 .f32) (L : List (View.Piece (Elt Ideal) S16x128x128 .f32))
    (inb : ∀ a, (![0, 0, 0] : Fin 3 → Nat) a + S16x128x128.size a ≤ S16x128x128.size a) :
    v.readCov L (Rect.unit (s := S16x128x128) ![0, 0, 0] S16x128x128.size inb).toLoadRect = View.canon L := by
  rw [View.readCov_eq_canon']
  exact View.ld_unit_zero (funext fun a => by fin_cases a <;> rfl) inb (View.canon L)

/-- An entry of the rows lies in a head's columns or before them. -/
theorem rowsStep {y : S32x2048.Idx} (o : Nat) {inb : ∀ a, (![0, o] : Fin 2 → Nat) a + ![32, 128] a ≤ S32x2048.size a}
    {w : Vec Ideal (Rect.unit (s := S32x2048) ![0, o] ![32, 128] inb).shape .bf16} {L : List (View.Piece (Elt Ideal) S32x2048 .bf16)}
    (h : (y 1).val < o + 128) (rest : (y 1).val < o → ∃ p ∈ L, y ∈ p.1.set) :
    ∃ p ∈ (⟨Rect.unit (s := S32x2048) ![0, o] ![32, 128] inb, w⟩ : View.Piece (Elt Ideal) S32x2048 .bf16) :: L, y ∈ p.1.set := by
  by_cases hy : (y 1).val < o
  · obtain ⟨p, hp, hm⟩ := rest hy
    exact ⟨p, List.mem_cons_of_mem _ hp, hm⟩
  · refine ⟨⟨Rect.unit (s := S32x2048) ![0, o] ![32, 128] inb, w⟩, List.mem_cons_self, ?_⟩
    show y ∈ (Rect.unit (s := S32x2048) ![0, o] ![32, 128] inb).set
    refine Rect.mem_set_unit.mpr fun a => ?_
    match a with
    | ⟨0, _⟩ => exact ⟨Nat.zero_le _, (Nat.zero_add 32).symm ▸ (y 0).isLt⟩
    | ⟨1, _⟩ => exact ⟨Nat.le_of_not_lt hy, h⟩

/-- An entry of the states lies in a head's or before it. -/
theorem statesStep {h : Fin 16} {j l : Fin 128} (o : Nat) {inb : ∀ a, (![o, 0, 0] : Fin 3 → Nat) a + ![1, 128, 128] a ≤ S16x128x128.size a}
    {w : Vec Ideal (Rect.unit (s := S16x128x128) ![o, 0, 0] ![1, 128, 128] inb).shape .f32} {L : List (View.Piece (Elt Ideal) S16x128x128 .f32)}
    (hh : h.val < o + 1) (rest : h.val < o → ∃ p ∈ L, (ix3 h j l : S16x128x128.Idx) ∈ p.1.set) :
    ∃ p ∈ (⟨Rect.unit (s := S16x128x128) ![o, 0, 0] ![1, 128, 128] inb, w⟩ : View.Piece (Elt Ideal) S16x128x128 .f32) :: L, (ix3 h j l : S16x128x128.Idx) ∈ p.1.set := by
  by_cases hy : h.val < o
  · obtain ⟨p, hp, hm⟩ := rest hy
    exact ⟨p, List.mem_cons_of_mem _ hp, hm⟩
  · refine ⟨⟨Rect.unit (s := S16x128x128) ![o, 0, 0] ![1, 128, 128] inb, w⟩, List.mem_cons_self, ?_⟩
    show (ix3 h j l : S16x128x128.Idx) ∈ (Rect.unit (s := S16x128x128) ![o, 0, 0] ![1, 128, 128] inb).set
    refine Rect.mem_set_unit.mpr fun a => ?_
    match a with
    | ⟨0, _⟩ => exact ⟨Nat.le_of_not_lt hy, hh⟩
    | ⟨1, _⟩ => exact ⟨Nat.zero_le _, show j.val < 0 + 128 by omega⟩
    | ⟨2, _⟩ => exact ⟨Nat.zero_le _, show l.val < 0 + 128 by omega⟩

set_option maxHeartbeats 1000000 in
/-- What a point leaves in its rows. -/
theorem out9  (c : Dev nD) (i : grid0.Coords) (arg2 : Memref sig .tc .vmem S1x16x128x128 .f32) (harg2 : arg2.IsWhole) (arg3 : Memref sig .tc .vmem S32x2048 .f32) (harg3 : arg3.IsWhole) (arg4 : Memref sig .tc .vmem S32x2048 .bf16) (harg4 : arg4.IsWhole) (arg5 : Memref sig .tc .vmem S32x2048 .bf16) (harg5 : arg5.IsWhole) (arg6 : Memref sig .tc .vmem S32x2048 .bf16) (harg6 : arg6.IsWhole) (arg7 : Memref sig .tc .vmem S1x16x32x32 .bf16) (harg7 : arg7.IsWhole) (arg8 : Memref sig .tc .vmem S1x1x128 .f32) (harg8 : arg8.IsWhole) (arg9 : Memref sig .tc .vmem S32x2048 .f32) (harg9 : arg9.IsWhole) (arg10 : Memref sig .tc .vmem S1x128 .f32) (harg10 : arg10.IsWhole) (arg11 : Memref sig .tc .vmem S32x2048 .bf16) (harg11 : arg11.IsWhole) (arg12 : Memref sig .tc .vmem S1x16x128x128 .f32) (harg12 : arg12.IsWhole) (arg13 : Memref sig .tc .vmem S16x128x128 .f32) (harg13 : arg13.IsWhole) (hc0 : cond0_0 i) (hc1 : cond0_1 i) :
    out0_A_9 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 = rows x0 x1 x2 x3 x5 x7 x8 := by
  unfold out0_A_9
  frame_open
  simp (disch := first | decide | (intro a; fin_cases a <;> rfl)) only [↓View.readCov_skip, ↓View.readCov_fill]
  frame_out
  funext y
  refine View.canon_apply_of_pieces (rows x0 x1 x2 x3 x5 x7 x8) _ ?_ y ?_
  · exact View.PiecesOf.mem ⟨rowStore x0 x1 x2 x3 x5 x7 x8 15, rowStore x0 x1 x2 x3 x5 x7 x8 14, rowStore x0 x1 x2 x3 x5 x7 x8 13, rowStore x0 x1 x2 x3 x5 x7 x8 12, rowStore x0 x1 x2 x3 x5 x7 x8 11, rowStore x0 x1 x2 x3 x5 x7 x8 10, rowStore x0 x1 x2 x3 x5 x7 x8 9, rowStore x0 x1 x2 x3 x5 x7 x8 8, rowStore x0 x1 x2 x3 x5 x7 x8 7, rowStore x0 x1 x2 x3 x5 x7 x8 6, rowStore x0 x1 x2 x3 x5 x7 x8 5, rowStore x0 x1 x2 x3 x5 x7 x8 4, rowStore x0 x1 x2 x3 x5 x7 x8 3, rowStore x0 x1 x2 x3 x5 x7 x8 2, rowStore x0 x1 x2 x3 x5 x7 x8 1, rowStore x0 x1 x2 x3 x5 x7 x8 0, trivial⟩
  have h1 : (y 1).val < 2048 := (y 1).isLt
  iterate 16 refine rowsStep _ h1 fun h1 => ?_
  exact absurd h1 (Nat.not_lt_zero _)

set_option maxHeartbeats 1000000 in
/-- What a point leaves in its states. -/
theorem out10  (c : Dev nD) (i : grid0.Coords) (arg2 : Memref sig .tc .vmem S1x16x128x128 .f32) (harg2 : arg2.IsWhole) (arg3 : Memref sig .tc .vmem S32x2048 .f32) (harg3 : arg3.IsWhole) (arg4 : Memref sig .tc .vmem S32x2048 .bf16) (harg4 : arg4.IsWhole) (arg5 : Memref sig .tc .vmem S32x2048 .bf16) (harg5 : arg5.IsWhole) (arg6 : Memref sig .tc .vmem S32x2048 .bf16) (harg6 : arg6.IsWhole) (arg7 : Memref sig .tc .vmem S1x16x32x32 .bf16) (harg7 : arg7.IsWhole) (arg8 : Memref sig .tc .vmem S1x1x128 .f32) (harg8 : arg8.IsWhole) (arg9 : Memref sig .tc .vmem S32x2048 .f32) (harg9 : arg9.IsWhole) (arg10 : Memref sig .tc .vmem S1x128 .f32) (harg10 : arg10.IsWhole) (arg11 : Memref sig .tc .vmem S32x2048 .bf16) (harg11 : arg11.IsWhole) (arg12 : Memref sig .tc .vmem S1x16x128x128 .f32) (harg12 : arg12.IsWhole) (arg13 : Memref sig .tc .vmem S16x128x128 .f32) (harg13 : arg13.IsWhole) (hc0 : cond0_0 i) (hc1 : cond0_1 i) (h : Fin 16) (j l : Fin 128) :
    out0_A_10 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 (ix4 (0 : Fin 1) h j l) = nextAt x0 x1 x2 x4 x6 h j l := by
  unfold out0_A_10
  frame_open
  simp (disch := first | decide | (intro a; fin_cases a <;> rfl)) only [↓View.readCov_skip, ↓View.readCov_fill]
  frame_out
  unfold k0_pay2
  refine (shapeCast_apply _ _ (ix4 (0 : Fin 1) h j l) (ix3 h j l) ?_).trans ?_
  · rw [Shape.rowMajor_val_three, Shape.rowMajor_val_four]
    show (h.val * 128 + j.val) * 128 + l.val = ((0 * 16 + h.val) * 128 + j.val) * 128 + l.val
    omega
  rw [readCov_whole]
  refine (View.canon_append_of_piecesOf (states x0 x1 x2 x4 x6) [_] [_, _, _, _, _, _, _, _, _, _, _, _, _, _, _, _] ⟨nextStore x0 x1 x2 x4 x6 15, nextStore x0 x1 x2 x4 x6 14, nextStore x0 x1 x2 x4 x6 13, nextStore x0 x1 x2 x4 x6 12, nextStore x0 x1 x2 x4 x6 11, nextStore x0 x1 x2 x4 x6 10, nextStore x0 x1 x2 x4 x6 9, nextStore x0 x1 x2 x4 x6 8, nextStore x0 x1 x2 x4 x6 7, nextStore x0 x1 x2 x4 x6 6, nextStore x0 x1 x2 x4 x6 5, nextStore x0 x1 x2 x4 x6 4, nextStore x0 x1 x2 x4 x6 3, nextStore x0 x1 x2 x4 x6 2, nextStore x0 x1 x2 x4 x6 1, nextStore x0 x1 x2 x4 x6 0, trivial⟩ (ix3 h j l) ?_).trans ?_
  · have h1 : h.val < 16 := h.isLt
    iterate 16 refine statesStep _ h1 fun h1 => ?_
    exact absurd h1 (Nat.not_lt_zero _)
  · rfl

end Cert.ScanIdeal.Tile

end
-- ==== Proof.ScanIdealValue.lean ====
/- The delta rule's step over all samples: the states and the rows it leaves in its arrays. -/
module

public import proofs.«01_k».proof.Proof.ScanIdealTile
public import proofs.«01_k».proof.Proof.ScanSpec
public import proofs.«01_k».proof.Proof.Gen.ScanIdeal.Value
public import Idealize.ShloMosaic.Lib.Pipeline.Value
public import Idealize.ShloMosaic.Lib.Pipeline.ValueKit.Basic
public import Idealize.ShloMosaic.Lib.StableHlo.Run
public import Idealize.ShloMosaic.Init
public import Idealize.ShloMosaic.Adequacy

@[expose] public section

set_option maxRecDepth 16384

noncomputable section

namespace Cert.ScanIdeal.Arrays

open Cert.ScanIdeal Cert.ScanIdeal.Gen
open Idealize.ShloMosaic
open Idealize.ShloMosaic.TcCoe
open Idealize.SL.Sem
open Idealize.ShloMosaic.ValueIdx
open Idealize.ShloMosaic.Pipeline (Dat)
open Cert.Delta (row col gcol lane part)

variable (m : (ℓ : Loc nD τ sig) → Buf (Elt Ideal) ℓ) (ρ : Dev nD → PrngReg)

/-- The sample a point works on. -/
def bat (t : Fin cfg0.N) : Fin 16 := ⟨t.val, lt_of_lt_of_eq t.isLt (rfl : cfg0.N = 16)⟩

theorem blockState : ∀ t : Fin cfg0.N, cc0_transform_0 (grid0.coords t) = ![t.val, 0, 0, 0] := (by decide +kernel : ∀ t : Fin grid0.N, cc0_transform_0 (grid0.coords t) = ![t.val, 0, 0, 0])
theorem blockRows : ∀ t : Fin cfg0.N, cc0_transform_1 (grid0.coords t) = ![t.val, 0] := (by decide +kernel : ∀ t : Fin grid0.N, cc0_transform_1 (grid0.coords t) = ![t.val, 0])
theorem blockScores : ∀ t : Fin cfg0.N, cc0_transform_5 (grid0.coords t) = ![t.val, 0, 0, 0] := (by decide +kernel : ∀ t : Fin grid0.N, cc0_transform_5 (grid0.coords t) = ![t.val, 0, 0, 0])
theorem blockDecay : ∀ t : Fin cfg0.N, cc0_transform_6 (grid0.coords t) = ![t.val, 0, 0] := (by decide +kernel : ∀ t : Fin grid0.N, cc0_transform_6 (grid0.coords t) = ![t.val, 0, 0])
theorem blockGate : ∀ t : Fin cfg0.N, cc0_transform_7 (grid0.coords t) = ![t.val, 1] := (by decide +kernel : ∀ t : Fin grid0.N, cc0_transform_7 (grid0.coords t) = ![t.val, 1])

/-- An entry of the rows, by its coordinates. -/
theorem rows_idx (x : S512x2048.Idx) (y : S32x2048.Idx) (t : Fin cfg0.N) (h0 : (x 0).val = t.val * 32 + (y 0).val) (h1 : (x 1).val = 0 * 2048 + (y 1).val) :
    x = ix2 (row (bat t) (y 0)) (y 1) := by
  funext a
  refine Fin.ext ?_
  match a with
  | ⟨0, _⟩ => exact h0
  | ⟨1, _⟩ => show (x 1).val = (y 1).val; omega

/-- An entry of the states, by its coordinates. -/
theorem state_idx (x : S16x16x128x128.Idx) (y : S1x16x128x128.Idx) (t : Fin cfg0.N) (h0 : (x 0).val = t.val * 1 + (y 0).val) (h1 : (x 1).val = 0 * 16 + (y 1).val)
    (h2 : (x 2).val = 0 * 128 + (y 2).val) (h3 : (x 3).val = 0 * 128 + (y 3).val) : x = ix4 (bat t) (y 1) (y 2) (y 3) := by
  have hy : (y 0).val < 1 := (y 0).isLt
  funext a
  refine Fin.ext ?_
  match a with
  | ⟨0, _⟩ => show (x 0).val = t.val; omega
  | ⟨1, _⟩ => show (x 1).val = (y 1).val; omega
  | ⟨2, _⟩ => show (x 2).val = (y 2).val; omega
  | ⟨3, _⟩ => show (x 3).val = (y 3).val; omega

theorem emb0 (t : Fin cfg0.N) (y : S1x16x128x128.Idx) : ((cfg0.win (0 : Fin 11)).rect t).emb y = ix4 (bat t) (y 1) (y 2) (y 3) := by
  have e : ∀ a : Fin 4, (cfg0.win (0 : Fin 11)).index t a = (![t.val, 0, 0, 0] : Fin 4 → ℕ) a := fun a => congrFun (blockState t) a
  have v : ∀ a : Fin 4, _ := fun a => Pipeline.Window.rect_emb_val (cfg0.win (0 : Fin 11)) t y a (hk := rfl)
  simp only [e] at v
  exact state_idx _ y t (v 0) (v 1) (v 2) (v 3)
theorem emb10 (t : Fin cfg0.N) (y : S1x16x128x128.Idx) : ((cfg0.win (10 : Fin 11)).rect t).emb y = ix4 (bat t) (y 1) (y 2) (y 3) := by
  have e : ∀ a : Fin 4, (cfg0.win (10 : Fin 11)).index t a = (![t.val, 0, 0, 0] : Fin 4 → ℕ) a := fun a => congrFun (blockState t) a
  have v : ∀ a : Fin 4, _ := fun a => Pipeline.Window.rect_emb_val (cfg0.win (10 : Fin 11)) t y a (hk := rfl)
  simp only [e] at v
  exact state_idx _ y t (v 0) (v 1) (v 2) (v 3)

/-- A point's block of the states, entry by entry. -/
theorem iblk0_apply (c : Dev nD) (t : Fin cfg0.N) (h : Fin 16) (j l : Fin 128) :
    iblk m c (0 : Fin 11) t (ix4 (0 : Fin 1) h j l) = V m c main_arg0 (ix4 (bat t) h j l) := by
  show V m c main_arg0 (((cfg0.win (0 : Fin 11)).rect t).emb (ix4 (0 : Fin 1) h j l)) = _
  exact congrArg (V m c main_arg0) (emb0 t _)

theorem emb1 (t : Fin cfg0.N) (y : S32x2048.Idx) : ((cfg0.win (1 : Fin 11)).rect t).emb y = ix2 (row (bat t) (y 0)) (y 1) := by
  have e : ∀ a : Fin 2, (cfg0.win (1 : Fin 11)).index t a = (![t.val, 0] : Fin 2 → ℕ) a := fun a => congrFun (blockRows t) a
  have v : ∀ a : Fin 2, _ := fun a => Pipeline.Window.rect_emb_val (cfg0.win (1 : Fin 11)) t y a (hk := rfl)
  simp only [e] at v
  exact rows_idx _ y t (v 0) (v 1)
/-- A point's block of rows of one head. -/
theorem rows1 (c : Dev nD) (t : Fin cfg0.N) (h : Fin 16) : Tile.rowsAt (iblk m c (1 : Fin 11) t) h = part (V m c main_arg1) (bat t) h := by
  funext r l
  show V m c main_arg1 (((cfg0.win (1 : Fin 11)).rect t).emb (ix2 r (col h l))) = V m c main_arg1 (ix2 (row (bat t) r) (col h l))
  exact congrArg (V m c main_arg1) (emb1 t _)

theorem emb2 (t : Fin cfg0.N) (y : S32x2048.Idx) : ((cfg0.win (2 : Fin 11)).rect t).emb y = ix2 (row (bat t) (y 0)) (y 1) := by
  have e : ∀ a : Fin 2, (cfg0.win (2 : Fin 11)).index t a = (![t.val, 0] : Fin 2 → ℕ) a := fun a => congrFun (blockRows t) a
  have v : ∀ a : Fin 2, _ := fun a => Pipeline.Window.rect_emb_val (cfg0.win (2 : Fin 11)) t y a (hk := rfl)
  simp only [e] at v
  exact rows_idx _ y t (v 0) (v 1)
/-- A point's block of rows of one head. -/
theorem rows2 (c : Dev nD) (t : Fin cfg0.N) (h : Fin 16) : Tile.rowsAt (iblk m c (2 : Fin 11) t) h = part (V m c main_arg2) (bat t) h := by
  funext r l
  show V m c main_arg2 (((cfg0.win (2 : Fin 11)).rect t).emb (ix2 r (col h l))) = V m c main_arg2 (ix2 (row (bat t) r) (col h l))
  exact congrArg (V m c main_arg2) (emb2 t _)

theorem emb3 (t : Fin cfg0.N) (y : S32x2048.Idx) : ((cfg0.win (3 : Fin 11)).rect t).emb y = ix2 (row (bat t) (y 0)) (y 1) := by
  have e : ∀ a : Fin 2, (cfg0.win (3 : Fin 11)).index t a = (![t.val, 0] : Fin 2 → ℕ) a := fun a => congrFun (blockRows t) a
  have v : ∀ a : Fin 2, _ := fun a => Pipeline.Window.rect_emb_val (cfg0.win (3 : Fin 11)) t y a (hk := rfl)
  simp only [e] at v
  exact rows_idx _ y t (v 0) (v 1)
/-- A point's block of rows of one head. -/
theorem rows3 (c : Dev nD) (t : Fin cfg0.N) (h : Fin 16) : Tile.rowsAt (iblk m c (3 : Fin 11) t) h = part (V m c main_arg3) (bat t) h := by
  funext r l
  show V m c main_arg3 (((cfg0.win (3 : Fin 11)).rect t).emb (ix2 r (col h l))) = V m c main_arg3 (ix2 (row (bat t) r) (col h l))
  exact congrArg (V m c main_arg3) (emb3 t _)

theorem emb4 (t : Fin cfg0.N) (y : S32x2048.Idx) : ((cfg0.win (4 : Fin 11)).rect t).emb y = ix2 (row (bat t) (y 0)) (y 1) := by
  have e : ∀ a : Fin 2, (cfg0.win (4 : Fin 11)).index t a = (![t.val, 0] : Fin 2 → ℕ) a := fun a => congrFun (blockRows t) a
  have v : ∀ a : Fin 2, _ := fun a => Pipeline.Window.rect_emb_val (cfg0.win (4 : Fin 11)) t y a (hk := rfl)
  simp only [e] at v
  exact rows_idx _ y t (v 0) (v 1)
/-- A point's block of rows of one head. -/
theorem rows4 (c : Dev nD) (t : Fin cfg0.N) (h : Fin 16) : Tile.rowsAt (iblk m c (4 : Fin 11) t) h = part (V m c main_arg4) (bat t) h := by
  funext r l
  show V m c main_arg4 (((cfg0.win (4 : Fin 11)).rect t).emb (ix2 r (col h l))) = V m c main_arg4 (ix2 (row (bat t) r) (col h l))
  exact congrArg (V m c main_arg4) (emb4 t _)

theorem emb9 (t : Fin cfg0.N) (y : S32x2048.Idx) : ((cfg0.win (9 : Fin 11)).rect t).emb y = ix2 (row (bat t) (y 0)) (y 1) := by
  have e : ∀ a : Fin 2, (cfg0.win (9 : Fin 11)).index t a = (![t.val, 0] : Fin 2 → ℕ) a := fun a => congrFun (blockRows t) a
  have v : ∀ a : Fin 2, _ := fun a => Pipeline.Window.rect_emb_val (cfg0.win (9 : Fin 11)) t y a (hk := rfl)
  simp only [e] at v
  exact rows_idx _ y t (v 0) (v 1)

/-- A point's scores of one head. -/
theorem scores (c : Dev nD) (t : Fin cfg0.N) (h : Fin 16) (r j : Fin 32) :
    iblk m c (5 : Fin 11) t (ix4 (0 : Fin 1) h r j) = V m c main_arg5 (ix4 (bat t) h r j) := by
  show V m c main_arg5 (((cfg0.win (5 : Fin 11)).rect t).emb (ix4 (0 : Fin 1) h r j)) = _
  refine congrArg (V m c main_arg5) (funext fun a => Fin.ext ?_)
  rw [Pipeline.Window.rect_emb_val (cfg0.win (5 : Fin 11)) t (ix4 (0 : Fin 1) h r j) a (hk := rfl),
    show (cfg0.win (5 : Fin 11)).index t a = (![t.val, 0, 0, 0] : Fin 4 → ℕ) a from congrFun (blockScores t) a]
  match a with
  | ⟨0, _⟩ => show t.val * 1 + 0 = t.val; omega
  | ⟨1, _⟩ => show 0 * 16 + h.val = h.val; omega
  | ⟨2, _⟩ => show 0 * 32 + r.val = r.val; omega
  | ⟨3, _⟩ => show 0 * 32 + j.val = j.val; omega

/-- A point's decay of one head. -/
theorem decay (c : Dev nD) (t : Fin cfg0.N) (l : Fin 128) :
    iblk m c (6 : Fin 11) t (ix3 (0 : Fin 1) (0 : Fin 1) l) = V m c main_arg6 (ix3 (bat t) (0 : Fin 1) l) := by
  show V m c main_arg6 (((cfg0.win (6 : Fin 11)).rect t).emb (ix3 (0 : Fin 1) (0 : Fin 1) l)) = _
  refine congrArg (V m c main_arg6) (funext fun a => Fin.ext ?_)
  rw [Pipeline.Window.rect_emb_val (cfg0.win (6 : Fin 11)) t (ix3 (0 : Fin 1) (0 : Fin 1) l) a (hk := rfl),
    show (cfg0.win (6 : Fin 11)).index t a = (![t.val, 0, 0] : Fin 3 → ℕ) a from congrFun (blockDecay t) a]
  match a with
  | ⟨0, _⟩ => show t.val * 1 + 0 = t.val; omega
  | ⟨1, _⟩ => show 0 * 1 + 0 = 0; omega
  | ⟨2, _⟩ => show 0 * 128 + l.val = l.val; omega

/-- A point's gate of one head: a part of the projection's columns. -/
theorem gate (c : Dev nD) (t : Fin cfg0.N) (h : Fin 16) (r : Fin 32) (l : Fin 128) :
    X0_7 m c t (ix2 r (col h l)) = V m c main_arg7 (ix2 (row (bat t) r) (gcol h l)) := by
  unfold X0_7 Pipeline.Window.fill
  rw [dif_pos (moved0_7 t _)]
  show V m c main_arg7 (((cfg0.win (7 : Fin 11)).rect t).emb _) = _
  refine congrArg (V m c main_arg7) (funext fun a => Fin.ext ?_)
  rw [Pipeline.Window.rect_emb_val (cfg0.win (7 : Fin 11)) t _ a (hk := rfl),
    show (cfg0.win (7 : Fin 11)).index t a = (![t.val, 1] : Fin 2 → ℕ) a from congrFun (blockGate t) a]
  match a with
  | ⟨0, _⟩ => rfl
  | ⟨1, _⟩ => show 1 * 2048 + (h.val * 128 + l.val) = 2048 + h.val * 128 + l.val; omega

/-- A point's weights of the norm. -/
theorem weights (c : Dev nD) (t : Fin cfg0.N) (l : Fin 128) :
    iblk m c (8 : Fin 11) t (ix2 (0 : Fin 1) l) = V m c main_v0 (ix2 (0 : Fin 1) l) := by
  show V m c main_v0 (((cfg0.win (8 : Fin 11)).rect t).emb (ix2 (0 : Fin 1) l)) = _
  refine congrArg (V m c main_v0) (funext fun a => Fin.ext ?_)
  rw [Pipeline.Window.rect_emb_val (cfg0.win (8 : Fin 11)) t (ix2 (0 : Fin 1) l) a (hk := rfl),
    show (cfg0.win (8 : Fin 11)).index t a = (![0, 0] : Fin 2 → ℕ) a from rfl]
  match a with
  | ⟨0, _⟩ => rfl
  | ⟨1, _⟩ => show 0 * 128 + l.val = l.val; omega

/-- The weights the region finds are the argument's, as one row. -/
theorem V_weights (c : Dev nD) (l : Fin 128) :
    V m c main_v0 (ix2 (0 : Fin 1) l) = m ((c.tc : Thread nD τ).loc main_arg8) (ix1 l) := by
  have e : (V m c main_v0 : S1x128.Idx → EReal) = shapeCast S1x128 (m ((c.tc : Thread nD τ).loc main_arg8)) shapeCasts_S128_S1x128 := by
    show StableHlo.after (List.flatten [hostOps0]) _ _ = _
    simp only [List.flatten_cons, List.flatten_nil, List.append_nil]
    after_results
    rfl
  rw [e]
  refine shapeCast_apply _ _ (ix2 (0 : Fin 1) l) (ix1 l) ?_
  rw [Shape.rowMajor_val_one, Shape.rowMajor_val_two]
  show l.val = 0 * 128 + l.val
  omega

/-- The states the region leaves. -/
abbrev states (c : Dev nD) : Cert.Delta.States :=
  Cert.Delta.stateOf (V m c main_arg0) (V m c main_arg1) (V m c main_arg2) (V m c main_arg4) (V m c main_arg6)
/-- The rows the region leaves. -/
abbrev rows (c : Dev nD) : Cert.Delta.Rows :=
  Cert.Delta.rowsOf (V m c main_arg0) (V m c main_arg1) (V m c main_arg2) (V m c main_arg3) (V m c main_arg5) (V m c main_arg7) (m ((c.tc : Thread nD τ).loc main_arg8))

/-- A point's state of one head. -/
theorem state0 (c : Dev nD) (t : Fin cfg0.N) (h : Fin 16) : Tile.stateAt (iblk m c (0 : Fin 11) t) h = Cert.Delta.stateAt (V m c main_arg0) (bat t) h := by
  funext j l
  exact iblk0_apply m c t h j l

/-- A point's solved values of one head. -/
theorem solved_eq (c : Dev nD) (t : Fin cfg0.N) (h : Fin 16) :
    Tile.solvedAt (iblk m c (0 : Fin 11) t) (iblk m c (1 : Fin 11) t) (iblk m c (2 : Fin 11) t) h
      = Cert.Delta.solvedAt (V m c main_arg0) (V m c main_arg1) (V m c main_arg2) (bat t) h := by
  unfold Tile.solvedAt Cert.Delta.solvedAt
  rw [state0, rows1, rows2]

theorem next_eq (c : Dev nD) (t : Fin cfg0.N) (h : Fin 16) (j l : Fin 128) :
    Tile.nextAt (iblk m c (0 : Fin 11) t) (iblk m c (1 : Fin 11) t) (iblk m c (2 : Fin 11) t) (iblk m c (4 : Fin 11) t) (iblk m c (6 : Fin 11) t) h j l
      = states m c (ix4 (bat t) h j l) := by
  unfold Tile.nextAt
  rw [state0, rows4, solved_eq]
  exact congrArg (fun e : EReal => Cert.Delta.next _ e _ _ j l) (decay m c t (lane h))

theorem gated_eq (c : Dev nD) (t : Fin cfg0.N) (h : Fin 16) (r : Fin 32) (l : Fin 128) :
    Tile.gatedAt (iblk m c (0 : Fin 11) t) (iblk m c (1 : Fin 11) t) (iblk m c (2 : Fin 11) t) (iblk m c (3 : Fin 11) t) (iblk m c (5 : Fin 11) t) (X0_7 m c t) (iblk m c (8 : Fin 11) t) h r l
      = Cert.Delta.gatedAt (V m c main_arg0) (V m c main_arg1) (V m c main_arg2) (V m c main_arg3) (V m c main_arg5) (V m c main_arg7) (m ((c.tc : Thread nD τ).loc main_arg8)) (bat t) h r l := by
  unfold Tile.gatedAt Cert.Delta.gatedAt Cert.Delta.mixedAt
  rw [state0, rows3, solved_eq]
  have e1 : (fun (r j : Fin 32) => (iblk m c (5 : Fin 11) t (ix4 (0 : Fin 1) h r j) : EReal)) = fun r j => V m c main_arg5 (ix4 (bat t) h r j) := by
    funext r j; exact scores m c t h r j
  have e2 : Tile.rowsAt (X0_7 m c t) h = fun r l => V m c main_arg7 (ix2 (row (bat t) r) (gcol h l)) := by
    funext r l; exact gate m c t h r l
  have e3 : (fun l : Fin 128 => (iblk m c (8 : Fin 11) t (ix2 (0 : Fin 1) l) : EReal)) = fun l => m ((c.tc : Thread nD τ).loc main_arg8) (ix1 l) := by
    funext l; exact (weights m c t l).trans (V_weights m c l)
  exact congrArg₂ (fun (a : Fin 32 → Fin 32 → EReal) (w : Fin 128 → EReal) => Cert.Delta.gated (Cert.Delta.mixed _ _ a _) _ w r l) e1 e3 |>.trans
    (congrArg (fun g : Fin 32 → Fin 128 → EReal => Cert.Delta.gated _ g _ r l) e2)

theorem flushed10_eq (c : Dev nD) (t : Fin cfg0.N) :
    (dats m 0 c).flushed (10 : Fin 11) t = ((cfg0.win (10 : Fin 11)).blk t).view.read (Elt Ideal) (states m c) := by
  refine (Value.flushed10_A m c t).trans ?_
  funext y
  obtain ⟨z, h, j, l, rfl⟩ : ∃ (z : Fin 1) (h : Fin 16) (j l : Fin 128), y = ix4 z h j l := ⟨y 0, y 1, y 2, y 3, eq_ix4 y⟩
  obtain rfl : z = 0 := Subsingleton.elim _ _
  refine Eq.trans (Tile.out10 _ _ _ _ _ _ _ _ _ c (grid0.coords t) _ _ _ _ _ _ _ _ _ _ _ _ _ _ _ _ _ _ _ _ _ _ _ _ (hcond0_0 t) (hcond0_1 t) h j l) ?_
  refine (next_eq m c t h j l).trans ?_
  exact congrArg (states m c) (emb10 t (ix4 (0 : Fin 1) h j l)).symm

theorem rows_apply (c : Dev nD) (b : Fin 16) (r : Fin 32) (q : Fin 2048) :
    rows m c (ix2 (row b r) q) = Cert.Delta.gatedAt (V m c main_arg0) (V m c main_arg1) (V m c main_arg2) (V m c main_arg3) (V m c main_arg5) (V m c main_arg7) (m ((c.tc : Thread nD τ).loc main_arg8)) b
      (⟨q.val / 128, by omega⟩ : Fin 16) r (⟨q.val % 128, by omega⟩ : Fin 128) := by
  have e1 : (⟨(b.val * 32 + r.val) / 32, by omega⟩ : Fin 16) = b := Fin.ext (by show (b.val * 32 + r.val) / 32 = b.val; omega)
  have e2 : (⟨(b.val * 32 + r.val) % 32, by omega⟩ : Fin 32) = r := Fin.ext (by show (b.val * 32 + r.val) % 32 = r.val; omega)
  show Cert.Delta.gatedAt _ _ _ _ _ _ _ (⟨(b.val * 32 + r.val) / 32, _⟩ : Fin 16) _ (⟨(b.val * 32 + r.val) % 32, _⟩ : Fin 32) _ = _
  rw [e1, e2]

theorem flushed9_eq (c : Dev nD) (t : Fin cfg0.N) :
    (dats m 0 c).flushed (9 : Fin 11) t = ((cfg0.win (9 : Fin 11)).blk t).view.read (Elt Ideal) (rows m c) := by
  refine (Value.flushed9_A m c t).trans ?_
  funext y
  obtain ⟨r, q, rfl⟩ : ∃ (r : Fin 32) (q : Fin 2048), y = ix2 r q := ⟨y 0, y 1, eq_ix2 y⟩
  refine Eq.trans (congrFun (Tile.out9 _ _ _ _ _ _ _ _ _ c (grid0.coords t) _ _ _ _ _ _ _ _ _ _ _ _ _ _ _ _ _ _ _ _ _ _ _ _ (hcond0_0 t) (hcond0_1 t)) (ix2 r q)) ?_
  refine Eq.trans ?_ (congrArg (rows m c) (emb9 t (ix2 r q)).symm)
  refine Eq.trans ?_ (rows_apply m c (bat t) r q).symm
  exact gated_eq m c t _ r _

/-- The point that works on a sample. -/
def pointOf (b : Fin 16) : Fin cfg0.N := ⟨b.val, lt_of_lt_of_eq b.isLt (rfl : 16 = cfg0.N)⟩

theorem covered10 (i : S16x16x128x128.Idx) : i ∈ ((cfg0.win (10 : Fin 11)).blk (pointOf (i 0))).view.set := by
  have hy : ((cfg0.win (10 : Fin 11)).rect (pointOf (i 0))).emb (ix4 (0 : Fin 1) (i 1) (i 2) (i 3)) = i := by
    rw [emb10]
    exact (eq_ix4 i).symm
  exact Finset.mem_map.2 ⟨_, Finset.mem_univ _, hy⟩

/-- The sample of a row. -/
def sampleOf (i : S512x2048.Idx) : Fin 16 := ⟨(i 0).val / 32, by have h : (i 0).val < 512 := (i 0).isLt; omega⟩

theorem covered9 (i : S512x2048.Idx) : i ∈ ((cfg0.win (9 : Fin 11)).blk (pointOf (sampleOf i))).view.set := by
  have hy : ((cfg0.win (9 : Fin 11)).rect (pointOf (sampleOf i))).emb (ix2 (⟨(i 0).val % 32, by omega⟩ : Fin 32) (i 1)) = i := by
    rw [emb9]
    funext a
    refine Fin.ext ?_
    match a with
    | ⟨0, _⟩ => show (i 0).val / 32 * 32 + (i 0).val % 32 = (i 0).val; omega
    | ⟨1, _⟩ => rfl
  exact Finset.mem_map.2 ⟨_, Finset.mem_univ _, hy⟩

theorem final9 (c : Dev nD) : (dats m 0 c).arrAt (9 : Fin 11) cfg0.N = rows m c :=
  (dats m 0 c).arrAt_eq_of_cover (9 : Fin 11) (rows m c) (fun t _ => flushed9_eq m c t) fun i => ⟨_, flush0_9 _, covered9 i⟩
theorem final10 (c : Dev nD) : (dats m 0 c).arrAt (10 : Fin 11) cfg0.N = states m c :=
  (dats m 0 c).arrAt_eq_of_cover (10 : Fin 11) (states m c) (fun t _ => flushed10_eq m c t) fun i => ⟨_, flush0_10 _, covered10 i⟩

/-- Every run ends with the step's rows and states. -/
theorem value : θ_run (defs (F := Ideal)) (onTc (τ := τ) (main (F := Ideal))) ⟨m, fun _ => 0, ρ⟩ (fun r => ∀ c : Dev nD,
      (r.2.mem ((c.tc : Thread nD τ).loc main_v1_0) : S512x2048.Idx → EReal)
        = Cert.Delta.rowsOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg7)) (m ((c.tc : Thread nD τ).loc main_arg8))
      ∧ (r.2.mem ((c.tc : Thread nD τ).loc main_v1_1) : S16x16x128x128.Idx → EReal)
        = Cert.Delta.stateOf (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨by
    refine (h c).1.trans ((final9 m c).trans ?_)
    unfold rows
    rw [V_main_arg0, V_main_arg1, V_main_arg2, V_main_arg3, V_main_arg5, V_main_arg7], by
    refine (h c).2.1.trans ((final10 m c).trans ?_)
    unfold states
    rw [V_main_arg0, V_main_arg1, V_main_arg2, V_main_arg4, V_main_arg6], (h c).2.2⟩) (Cert.ScanIdeal.Value.run_blocks (F := Ideal) m ρ)

end Cert.ScanIdeal.Arrays

end
-- ==== Proof.ScanRef.lean ====
/- The reference of the delta rule's step, entry by entry. -/
module

public import proofs.«01_k».proof.Proof.Gen.ScanRefIdeal.Run
public import proofs.«01_k».proof.Proof.Gen.ScanRefIdeal.Read
public import proofs.«01_k».proof.Proof.ScanSpec
public import Idealize.ShloMosaic.Lib.IdealHost
public import Idealize.ShloMosaic.Lib.StableHlo.Run
public import Idealize.ShloMosaic.Init
public import Idealize.ShloMosaic.Adequacy

@[expose] public section

set_option maxRecDepth 16384

noncomputable section

namespace Cert.ScanRefIdeal.Delta

open Cert.ScanRefIdeal Cert.ScanRefIdeal.Gen Cert.ScanRefIdeal.Read
open Idealize.ShloMosaic
open Idealize.ShloMosaic.TcCoe
open Idealize.SL.Sem
open Idealize.ShloMosaic.ValueIdx
open Cert.Delta

variable (x0 : S16x16x128x128.Idx → EReal) (x1 x2 x3 x4 : S512x2048.Idx → EReal) (x5 : S16x16x32x32.Idx → EReal)
  (x6 : S16x1x128.Idx → EReal) (x7 : S512x12800.Idx → EReal) (x8 : S128.Idx → EReal)

/-- The place of a sample's token and a head's lane among the rows. -/
theorem place (b h : Fin 16) (t : Fin 32) (l : Fin 128) (j : S512x2048.Idx)
    (h0 : (j 0).val = (((b.val * 32 + t.val) * 16 + h.val) * 128 + l.val) / 2048)
    (h1 : (j 1).val = (((b.val * 32 + t.val) * 16 + h.val) * 128 + l.val) % 2048) : j = ix2 (row b t) (col h l) := by
  funext a
  refine Fin.ext ?_
  match a with
  | ⟨0, _⟩ => show (j 0).val = b.val * 32 + t.val; rw [h0]; omega
  | ⟨1, _⟩ => show (j 1).val = h.val * 128 + l.val; rw [h1]; omega

theorem v1_apply (b h : Fin 16) (t : Fin 32) (l : Fin 128) : val_main_v1 (F := Ideal) x1 (ix4 b h t l) = part x1 b h t l := by
  rw [val_main_v1_apply, val_main_v0_apply]
  exact congrArg x1 (place b h t l _ rfl rfl)
theorem v4_apply (b h : Fin 16) (t : Fin 32) (l : Fin 128) : val_main_v4 (F := Ideal) x2 (ix4 b h t l) = part x2 b h t l := by
  rw [val_main_v4_apply, val_main_v3_apply, val_main_v2_apply]
  exact congrArg x2 (place b h t l _ rfl rfl)
theorem v14_apply (b h : Fin 16) (t : Fin 32) (l : Fin 128) : val_main_v14 (F := Ideal) x4 (ix4 b h t l) = part x4 b h t l := by
  rw [val_main_v14_apply, val_main_v13_apply, val_main_v12_apply]
  exact congrArg x4 (place b h t l _ rfl rfl)
theorem v19_apply (b h : Fin 16) (t : Fin 32) (l : Fin 128) : val_main_v19 (F := Ideal) x3 (ix4 b h t l) = part x3 b h t l := by
  rw [val_main_v19_apply, val_main_v18_apply, val_main_v17_apply]
  exact congrArg x3 (place b h t l _ rfl rfl)

/-- An index of four places, from its places. -/
theorem four {n0 n1 n2 n3 : Nat} (j : (⟨4, ![n0, n1, n2, n3]⟩ : Shape).Idx) (a : Fin n0) (b : Fin n1) (c : Fin n2) (d : Fin n3)
    (h0 : j 0 = a) (h1 : j 1 = b) (h2 : j 2 = c) (h3 : j 3 = d) : j = ix4 a b c d := by
  subst h0; subst h1; subst h2; subst h3; exact eq_ix4 j

/-- The values with the state's part taken off. -/
theorem v6_apply (b h : Fin 16) (t : Fin 32) (l : Fin 128) : val_main_v6 (F := Ideal) x0 x1 x2 (ix4 b h t l) = solvedAt x0 x1 x2 b h t l := by
  rw [val_main_v6_apply, v1_apply, val_main_v5_apply]
  refine congrArg (fun a : EReal => part x1 b h t l - a) (Finset.sum_congr rfl fun k _ => ?_)
  rw [four (lidx_main_v5 (ix4 b h t l) k) b h t k rfl rfl rfl rfl, four (ridx_main_v5 (ix4 b h t l) k) b h k l rfl rfl rfl rfl, v4_apply]
  rfl

/-- The next state. -/
theorem v16_apply (b h : Fin 16) (k l : Fin 128) : val_main_v16 (F := Ideal) x0 x1 x2 x4 x6 (ix4 b h k l) = stateOf x0 x1 x2 x4 x6 (ix4 b h k l) := by
  rw [val_main_v16_apply, val_main_v11_apply, val_main_v10_apply, val_main_v9_apply, val_main_v8_apply, val_main_v7_apply, val_main_v15_apply]
  refine congrArg₂ (fun a c : EReal => x0 (ix4 b h k l) * a + c) (congrArg x6 ?_) (Finset.sum_congr rfl fun j _ => ?_)
  · funext a
    refine Fin.ext ?_
    match a with
    | ⟨0, _⟩ => show (b.val * 16 + h.val) / 16 = b.val; omega
    | ⟨1, _⟩ => rfl
    | ⟨2, _⟩ => show (b.val * 16 + h.val) % 16 = h.val; omega
  · rw [four (lidx_main_v15 (ix4 b h k l) j) b h j k rfl rfl rfl rfl, four (ridx_main_v15 (ix4 b h k l) j) b h j l rfl rfl rfl rfl, v14_apply, v6_apply]

/-- The mixed rows. -/
theorem v23_apply (b h : Fin 16) (t : Fin 32) (l : Fin 128) : val_main_v23 (F := Ideal) x0 x1 x2 x3 x5 (ix4 b h t l) = mixedAt x0 x1 x2 x3 x5 b h t l := by
  rw [val_main_v23_apply, val_main_v20_apply, val_main_v22_apply]
  refine congrArg₂ (fun a c : EReal => a + c) (Finset.sum_congr rfl fun k _ => ?_) (Finset.sum_congr rfl fun j _ => ?_)
  · rw [four (lidx_main_v20 (ix4 b h t l) k) b h t k rfl rfl rfl rfl, four (ridx_main_v20 (ix4 b h t l) k) b h k l rfl rfl rfl rfl, v19_apply]
    rfl
  · rw [four (lidx_main_v22 (ix4 b h t l) j) b h t j rfl rfl rfl rfl, four (ridx_main_v22 (ix4 b h t l) j) b h j l rfl rfl rfl rfl, val_main_v21_apply, v6_apply]
    rfl

theorem v24_apply (b : Fin 16) (t : Fin 32) (h : Fin 16) (l : Fin 128) :
    val_main_v24 (F := Ideal) x0 x1 x2 x3 x5 (ix4 b t h l) = mixedAt x0 x1 x2 x3 x5 b h t l := by
  rw [val_main_v24_apply, four (idx_main_v24 (ix4 b t h l)) b h t l rfl rfl rfl rfl, v23_apply]

/-- The sum of squares of a head's row. -/
theorem v26_apply (b : Fin 16) (t : Fin 32) (h : Fin 16) :
    val_main_v26 (F := Ideal) x0 x1 x2 x3 x5 (ix3 b t h) = (∑ l : Fin 128, mixedAt x0 x1 x2 x3 x5 b h t l * mixedAt x0 x1 x2 x3 x5 b h t l : EReal) := by
  rw [val_main_v26_apply]
  refine (congrArg₂ (fun a c : EReal => a + c) Ideal.ofBits_zero_f32 (Finset.sum_congr rfl fun l _ => ?_)).trans (zero_add _)
  rw [four (idx_main_v26 (ix3 b t h) l) b t h l rfl rfl rfl rfl, val_main_v25_apply, v24_apply]
  rfl

/-- The rows the step ends with. -/
theorem v44_apply (r : Fin 512) (q : Fin 2048) : val_main_v44 (F := Ideal) x0 x1 x2 x3 x5 x7 x8 (ix2 r q) = rowsOf x0 x1 x2 x3 x5 x7 x8 (ix2 r q) := by
  have hr := r.isLt
  have hq := q.isLt
  obtain ⟨b, hb⟩ : ∃ b : Fin 16, b.val = r.val / 32 := ⟨⟨r.val / 32, by omega⟩, rfl⟩
  obtain ⟨h, hh⟩ : ∃ h : Fin 16, h.val = q.val / 128 := ⟨⟨q.val / 128, by omega⟩, rfl⟩
  obtain ⟨t, ht⟩ : ∃ t : Fin 32, t.val = r.val % 32 := ⟨⟨r.val % 32, by omega⟩, rfl⟩
  obtain ⟨l, hl⟩ : ∃ l : Fin 128, l.val = q.val % 128 := ⟨⟨q.val % 128, by omega⟩, rfl⟩
  have hs : rowsOf x0 x1 x2 x3 x5 x7 x8 (ix2 r q) = gatedAt x0 x1 x2 x3 x5 x7 x8 b h t l := by
    unfold rowsOf
    congr 1 <;> exact Fin.ext (by first | exact hb.symm | exact hh.symm | exact ht.symm | exact hl.symm)
  rw [hs, val_main_v44_apply, val_main_v43_apply, val_main_v42_apply, val_main_v38_apply, val_main_v41_apply]
  have e1 : idx_main_v38 (idx_main_v43 (ix2 r q)) = ix4 b t h l := by
    refine four _ b t h l (Fin.ext ?_) (Fin.ext ?_) (Fin.ext ?_) (Fin.ext ?_) <;> simp only [idx_main_v38, idx_main_v43]
    · show (((r.val * 2048 + q.val) / 65536 * 32 + (r.val * 2048 + q.val) / 2048 % 32) * 2048 + (r.val * 2048 + q.val) % 2048) / 65536 = b.val; omega
    · show (((r.val * 2048 + q.val) / 65536 * 32 + (r.val * 2048 + q.val) / 2048 % 32) * 2048 + (r.val * 2048 + q.val) % 2048) / 2048 % 32 = t.val; omega
    · show (((r.val * 2048 + q.val) / 65536 * 32 + (r.val * 2048 + q.val) / 2048 % 32) * 2048 + (r.val * 2048 + q.val) % 2048) / 128 % 16 = h.val; omega
    · show (((r.val * 2048 + q.val) / 65536 * 32 + (r.val * 2048 + q.val) / 2048 % 32) * 2048 + (r.val * 2048 + q.val) % 2048) % 128 = l.val; omega
  rw [e1, val_main_v37_apply, val_main_v34_apply, val_main_v33_apply, val_main_v32_apply, val_main_v31_apply, val_main_v30_apply, val_main_cst_1_apply,
    val_main_v29_apply, val_main_v28_apply, val_main_cst_0_apply, val_main_v27_apply, val_main_v36_apply, val_main_v35_apply, v24_apply]
  have e2 : idx_main_v27 (idx_main_v33 (ix4 b t h l)) = ix3 b t h := by
    funext a; match a with | ⟨0, _⟩ => rfl | ⟨1, _⟩ => rfl | ⟨2, _⟩ => rfl
  have e3 : val_main_v40 (F := Ideal) x7 (idx_main_v43 (ix2 r q)) = x7 (ix2 (row b t) (gcol h l)) := by
    rw [val_main_v40_apply, val_main_v39_apply]
    refine congrArg x7 ?_
    funext a
    refine Fin.ext ?_
    match a with
    | ⟨0, _⟩ =>
      simp only [idx_main_v39, idx_main_v40, idx_main_v43]
      show (((r.val * 2048 + q.val) / 65536 * 32 + (r.val * 2048 + q.val) / 2048 % 32) * 2048 + (r.val * 2048 + q.val) % 2048) / 2048 = b.val * 32 + t.val
      omega
    | ⟨1, _⟩ =>
      simp only [idx_main_v39, idx_main_v40, idx_main_v43]
      show 2048 + (((r.val * 2048 + q.val) / 65536 * 32 + (r.val * 2048 + q.val) / 2048 % 32) * 2048 + (r.val * 2048 + q.val) % 2048) % 2048 = 2048 + h.val * 128 + l.val
      omega
  rw [e2, v26_apply, val_main_call0_v5_apply, val_main_call0_v4_apply, val_main_call0_v3_apply, val_main_call0_v2_apply,
    val_main_call0_v1_apply, val_main_call0_v0_apply, val_main_call0_cst_apply, val_main_call0_cst_0_apply, e3]
  have e4 : idx_main_v35 (idx_main_v36 (ix4 b t h l)) = ix1 l := by
    funext a; match a with | ⟨0, _⟩ => rfl
  rw [e4]
  rfl

/-- Every run of the reference ends with the step's rows and states. -/
theorem value (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      (r.2.mem ((c.tc : Thread nD τ).loc main_v44) : S512x2048.Idx → EReal)
        = rowsOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg7)) (m ((c.tc : Thread nD τ).loc main_arg8))
      ∧ (r.2.mem ((c.tc : Thread nD τ).loc main_v16) : S16x16x128x128.Idx → EReal)
        = stateOf (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans ((val_main_v44_eq m c).trans (funext fun i => by
      obtain ⟨r, q, rfl⟩ : ∃ (r : Fin 512) (q : Fin 2048), i = ix2 r q := ⟨i 0, i 1, eq_ix2 i⟩
      exact v44_apply _ _ _ _ _ _ _ r q)),
    (h c).2.1.trans ((val_main_v16_eq _ _ _ _ _).trans (funext fun i => by
      obtain ⟨b, n, k, l, rfl⟩ : ∃ (b n : Fin 16) (k l : Fin 128), i = ix4 b n k l := ⟨i 0, i 1, i 2, i 3, eq_ix4 i⟩
      exact v16_apply _ _ _ _ _ b n k l)), (h c).2.2⟩) (Cert.ScanRefIdeal.Value.run (F := Ideal) m ρ)

/-- The frame of the reference: it ends, the arguments unchanged, the counters at zero. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun r h => ⟨fun c => (h c).2.2, sem_eq_zero_of_no_sems (by decide) r.2⟩) (Cert.ScanRefIdeal.Value.run (F := Ideal) m ρ)

end Cert.ScanRefIdeal.Delta

end
-- ==== Proof.MixIdealProduct.lean ====
/- The output projection of two halves, entry by entry: the blocks of the sum of two products tile the whole. -/
module

public import proofs.«01_k».proof.Proof.Gen.MixIdeal.Frame
public import Idealize.ShloMosaic.Lib.Pipeline.Value
public import Idealize.ShloMosaic.Lib.MatmulPlain
public import Idealize.ShloMosaic.PureOps.Ideal.Laws
public import Idealize.ShloMosaic.Lib.Pipeline.ValueKit.Basic

@[expose] public section

set_option maxRecDepth 16384

noncomputable section

namespace Cert.MixIdeal.Product

open Cert.MixIdeal Cert.MixIdeal.Gen
open Idealize.ShloMosaic
open Idealize.ShloMosaic.TcCoe
open Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The product of two blocks, entry by entry. -/
theorem dot_apply (x : Vec Ideal S512x2048 .bf16) (w : Vec Ideal S2048x1024 .bf16) (r : Fin 512) (q : Fin 1024) :
    matmul (φ₁ := .bf16) (φ₂ := .bf16) dot_S512x2048_S2048x1024_S512x1024_1_0_0_1_n_n none x w (constant (F := Ideal) S512x1024 .f32 0x00000000#32) (ix2 r q)
      = (∑ k : Fin 2048, x (ix2 r k) * w (ix2 k q) : EReal) := by
  have hd : dot_S512x2048_S2048x1024_S512x1024_1_0_0_1_n_n = DotDims.plain 512 2048 1024 := rfl
  rw [hd]
  refine (Ideal.matmul_plain_apply none x w _ r q).trans ?_
  show (Ideal.ofBits .f32 0x00000000#32 : EReal) + _ = _
  rw [Ideal.ofBits_zero_f32, zero_add]

/-- What one point leaves in its block. -/
theorem out_apply (x0 x1 : Vec Ideal S512x2048 .bf16) (x2 : Vec Ideal S4096x1024 .bf16) (r : Fin 512) (q : Fin 1024) :
    out0_3 x0 x1 x2 (ix2 r q) = ((∑ k : Fin 2048, x0 (ix2 r k) * x2 (ix2 (Fin.castAdd 2048 k) q)) + ∑ k : Fin 2048, x1 (ix2 r k) * x2 (ix2 (Fin.natAdd 2048 k) q) : EReal) := by
  unfold out0_3
  rw [View.canon_unit_zero hz, View.ld_unit_zero hz, View.ld_unit_zero hz]
  unfold k0_pay1
  rw [shapeCast_self, shapeCast_self]
  refine congrArg₂ (fun a b : EReal => a + b) ((dot_apply x0 _ r q).trans (Finset.sum_congr rfl fun k _ => ?_)) ((dot_apply x1 _ r q).trans (Finset.sum_congr rfl fun k _ => ?_))
  · refine congrArg (fun b : EReal => x0 (ix2 r k) * b) ?_
    show x2 (r0_1.emb (ix2 k q)) = _
    refine congrArg x2 (funext fun a => Fin.ext ?_)
    match a with
    | ⟨0, _⟩ => show 0 + 1 * k.val = k.val; omega
    | ⟨1, _⟩ => show 0 + 1 * q.val = q.val; omega
  · refine congrArg (fun b : EReal => x1 (ix2 r k) * b) ?_
    show x2 (r0_2.emb (ix2 k q)) = _
    refine congrArg x2 (funext fun a => Fin.ext ?_)
    match a with
    | ⟨0, _⟩ => show 2048 + 1 * k.val = 2048 + k.val; omega
    | ⟨1, _⟩ => show 0 + 1 * q.val = q.val; omega

/-- The coordinates of a point. -/
abbrev crd (t : Fin cfg0.N) : grid0.Coords := grid0.coords t
theorem crd_val0 (t : Fin cfg0.N) : ((crd t) 0).val = t.val / 17 % 4 := Pipeline.Grid.coords_val t 0 rfl rfl
theorem crd_val1 (t : Fin cfg0.N) : ((crd t) 1).val = t.val / 1 % 17 := Pipeline.Grid.coords_val t 1 rfl rfl

/-- The rows and columns a point's output block sits at. -/
def rowAt (t : Fin cfg0.N) (r : Fin 512) : Fin 8704 :=
  ⟨((crd t) 1).val * 512 + r.val, by have h : ((crd t) 1).val < 17 := ((crd t) 1).isLt; omega⟩
def colAt (t : Fin cfg0.N) (q : Fin 1024) : Fin 4096 :=
  ⟨((crd t) 0).val * 1024 + q.val, by have h : ((crd t) 0).val < 4 := ((crd t) 0).isLt; omega⟩

theorem block0 (i : grid0.Coords) : cc0_transform_0 i = ![(i 1).val, 0] := by
  have h1 : (i 1).val < 17 := (i 1).isLt
  show ![(BitVec.ofNat 32 (i 1).val).toNat, 0] = _
  rw [BitVec.toNat_ofNat, Nat.mod_eq_of_lt (by omega)]

/-- A point's block of rows, entry by entry. -/
theorem iblk0_apply (c : Dev nD) (t : Fin cfg0.N) (r : Fin 512) (k : Fin 2048) :
    iblk m c (0 : Fin 4) t (ix2 r k) = V m c main_arg0 (ix2 (rowAt t r) k) := by
  show V m c main_arg0 (((cfg0.win (0 : Fin 4)).rect t).emb (ix2 r k)) = _
  refine congrArg _ ?_
  funext a
  refine Fin.ext ?_
  rw [Pipeline.Window.rect_emb_val (cfg0.win (0 : Fin 4)) t (ix2 r k) a (hk := rfl)]
  have hb : (cfg0.win (0 : Fin 4)).index t a = (![((crd t) 1).val, 0] : Fin 2 → ℕ) a := congrFun (block0 (crd t)) a
  rw [hb]
  match a with
  | ⟨0, _⟩ => rfl
  | ⟨1, _⟩ => show 0 * 2048 + k.val = k.val; omega

theorem block1 (i : grid0.Coords) : cc0_transform_1 i = ![(i 1).val, 0] := by
  have h1 : (i 1).val < 17 := (i 1).isLt
  show ![(BitVec.ofNat 32 (i 1).val).toNat, 0] = _
  rw [BitVec.toNat_ofNat, Nat.mod_eq_of_lt (by omega)]

/-- A point's block of rows, entry by entry. -/
theorem iblk1_apply (c : Dev nD) (t : Fin cfg0.N) (r : Fin 512) (k : Fin 2048) :
    iblk m c (1 : Fin 4) t (ix2 r k) = V m c main_arg1 (ix2 (rowAt t r) k) := by
  show V m c main_arg1 (((cfg0.win (1 : Fin 4)).rect t).emb (ix2 r k)) = _
  refine congrArg _ ?_
  funext a
  refine Fin.ext ?_
  rw [Pipeline.Window.rect_emb_val (cfg0.win (1 : Fin 4)) t (ix2 r k) a (hk := rfl)]
  have hb : (cfg0.win (1 : Fin 4)).index t a = (![((crd t) 1).val, 0] : Fin 2 → ℕ) a := congrFun (block1 (crd t)) a
  rw [hb]
  match a with
  | ⟨0, _⟩ => rfl
  | ⟨1, _⟩ => show 0 * 2048 + k.val = k.val; omega

theorem block2 (i : grid0.Coords) : cc0_transform_2 i = ![0, (i 0).val] := by
  have h0 : (i 0).val < 4 := (i 0).isLt
  show ![0, (BitVec.ofNat 32 (i 0).val).toNat] = _
  rw [BitVec.toNat_ofNat, Nat.mod_eq_of_lt (by omega)]

theorem block3 (i : grid0.Coords) : cc0_transform_3 i = ![(i 1).val, (i 0).val] := by
  have h1 : (i 1).val < 17 := (i 1).isLt
  have h0 : (i 0).val < 4 := (i 0).isLt
  show ![(BitVec.ofNat 32 (i 1).val).toNat, (BitVec.ofNat 32 (i 0).val).toNat] = _
  rw [BitVec.toNat_ofNat, BitVec.toNat_ofNat, Nat.mod_eq_of_lt (by omega), Nat.mod_eq_of_lt (by omega)]

/-- A point's block of weights, entry by entry. -/
theorem iblk2_apply (c : Dev nD) (t : Fin cfg0.N) (k : Fin 4096) (q : Fin 1024) :
    iblk m c (2 : Fin 4) t (ix2 k q) = V m c main_v0 (ix2 k (colAt t q)) := by
  show V m c main_v0 (((cfg0.win (2 : Fin 4)).rect t).emb (ix2 k q)) = _
  refine congrArg _ ?_
  funext a
  refine Fin.ext ?_
  rw [Pipeline.Window.rect_emb_val (cfg0.win (2 : Fin 4)) t (ix2 k q) a (hk := rfl)]
  have hb : (cfg0.win (2 : Fin 4)).index t a = (![0, ((crd t) 0).val] : Fin 2 → ℕ) a := congrFun (block2 (crd t)) a
  rw [hb]
  match a with
  | ⟨0, _⟩ => show 0 * 4096 + k.val = k.val; omega
  | ⟨1, _⟩ => rfl

/-- The sum of the two halves' products, as an array. -/
def prodOf (x y : S8704x2048.Idx → EReal) (w : S4096x4096.Idx → EReal) : S8704x4096.Idx → EReal := fun i =>
  (∑ k : Fin 2048, x (ix2 (i 0) k) * w (ix2 (Fin.castAdd 2048 k) (i 1)))
    + ∑ k : Fin 2048, y (ix2 (i 0) k) * w (ix2 (Fin.natAdd 2048 k) (i 1))

/-- What the region leaves: the sum of the products of its arrays. -/
abbrev result (c : Dev nD) : S8704x4096.Idx → EReal := prodOf (V m c main_arg0) (V m c main_arg1) (V m c main_v0)

/-- A point's output block, entry by entry. -/
theorem out_eq (c : Dev nD) (t : Fin cfg0.N) (r : Fin 512) (q : Fin 1024) :
    out0_3 (iblk m c 0 t) (iblk m c 1 t) (iblk m c 2 t) (ix2 r q) = result m c (ix2 (rowAt t r) (colAt t q)) := by
  refine (out_apply _ _ _ r q).trans (congrArg₂ (fun a b : EReal => a + b) (Finset.sum_congr rfl fun k _ => ?_) (Finset.sum_congr rfl fun k _ => ?_))
  · exact congrArg₂ (fun a b : EReal => a * b) (iblk0_apply m c t r k) (iblk2_apply m c t _ q)
  · exact congrArg₂ (fun a b : EReal => a * b) (iblk1_apply m c t r k) (iblk2_apply m c t _ q)

theorem emb3 (t : Fin cfg0.N) (y : S512x1024.Idx) :
    ((cfg0.win (3 : Fin 4)).rect t).emb y = ix2 (rowAt t (y 0)) (colAt t (y 1)) := by
  funext a
  refine Fin.ext ?_
  rw [Pipeline.Window.rect_emb_val (cfg0.win (3 : Fin 4)) t y a (hk := rfl)]
  have hb : (cfg0.win (3 : Fin 4)).index t a = (![((crd t) 1).val, ((crd t) 0).val] : Fin 2 → ℕ) a := congrFun (block3 (crd t)) a
  rw [hb]
  match a with
  | ⟨0, _⟩ => rfl
  | ⟨1, _⟩ => rfl

theorem flushed_eq (c : Dev nD) (t : Fin cfg0.N) :
    (dats m 0 c).flushed (3 : Fin 4) t = ((cfg0.win (3 : Fin 4)).blk t).view.read (Elt Ideal) (result m c) := by
  have ha := after0_3 m c t
  show (cfg0.win (3 : Fin 4)).cut (grid0.coords t) ((dats m 0 c).after (3 : Fin 4) t) = _
  rw [ha]
  funext y
  show out0_3 (iblk m c 0 t) (iblk m c 1 t) (iblk m c 2 t) y = result m c (((cfg0.win (3 : Fin 4)).rect t).emb y)
  rw [emb3]
  conv_lhs => rw [eq_ix2 y]
  exact out_eq m c t (y 0) (y 1)

/-- The point whose block holds an entry of the result. -/
def pointOf (i : S8704x4096.Idx) : Fin cfg0.N :=
  ⟨(i 1).val / 1024 * 17 + (i 0).val / 512, by
    show _ < 68
    have h0 : (i 0).val < 8704 := (i 0).isLt; have h1 : (i 1).val < 4096 := (i 1).isLt; omega⟩

theorem covered (i : S8704x4096.Idx) : i ∈ ((cfg0.win (3 : Fin 4)).blk (pointOf i)).view.set := by
  have h0 : (i 0).val < 8704 := (i 0).isLt
  have h1 : (i 1).val < 4096 := (i 1).isLt
  have e0 : ((crd (pointOf i)) 0).val = (i 1).val / 1024 := by
    rw [crd_val0]; unfold pointOf; dsimp only; omega
  have e1 : ((crd (pointOf i)) 1).val = (i 0).val / 512 := by
    rw [crd_val1]; unfold pointOf; dsimp only; omega
  have hy : ((cfg0.win (3 : Fin 4)).rect (pointOf i)).emb
      (ix2 (⟨(i 0).val % 512, by omega⟩ : Fin 512) (⟨(i 1).val % 1024, by omega⟩ : Fin 1024)) = i := by
    rw [emb3]
    funext a
    refine Fin.ext ?_
    match a with
    | ⟨0, _⟩ => show ((crd (pointOf i)) 1).val * 512 + (i 0).val % 512 = (i 0).val; omega
    | ⟨1, _⟩ => show ((crd (pointOf i)) 0).val * 1024 + (i 1).val % 1024 = (i 1).val; omega
  exact Finset.mem_map.2 ⟨_, Finset.mem_univ _, hy⟩

/-- The pipeline leaves the product in its array. -/
theorem final (c : Dev nD) : (dats m 0 c).arrAt (3 : Fin 4) cfg0.N = result m c :=
  (dats m 0 c).arrAt_eq_of_cover (3 : Fin 4) (result m c) (fun t _ => flushed_eq m c t)
    fun i => ⟨pointOf i, flush0_3 (pointOf i), covered i⟩

end Cert.MixIdeal.Product

end
-- ==== Proof.MixValue.lean ====
/- The output projection of two halves and its reference, which joins the halves first, end with the same array. -/
module

public import proofs.«01_k».proof.Proof.MixIdealProduct
public import proofs.«01_k».proof.Proof.Gen.MixIdeal.Value
public import proofs.«01_k».proof.Proof.Gen.MixRefIdeal.Read
public import proofs.«01_k».proof.Proof.Gen.MixRefIdeal.Run
public import Idealize.ShloMosaic.Lib.StableHlo.Run
public import Idealize.ShloMosaic.Init
public import Idealize.ShloMosaic.Adequacy

@[expose] public section

set_option maxRecDepth 16384

noncomputable section

open Idealize.ShloMosaic
open Idealize.ShloMosaic.TcCoe
open Idealize.SL.Sem
open Idealize.ShloMosaic.ValueIdx

namespace Cert.MixIdeal.Product

open Cert.MixIdeal Cert.MixIdeal.Gen

variable (m : (ℓ : Loc nD τ sig) → Buf (Elt Ideal) ℓ) (ρ : Dev nD → PrngReg)

/-- The weights the region finds are the argument's. -/
theorem V_weights (c : Dev nD) : (V m c main_v0 : S4096x4096.Idx → EReal) = m ((c.tc : Thread nD τ).loc main_arg2) := by
  show StableHlo.after hostOps0 _ _ = _
  after_results
  rfl

/-- Every run ends with the sum of the halves' products. -/
theorem value : θ_run (defs (F := Ideal)) (onTc (τ := τ) (main (F := Ideal))) ⟨m, fun _ => 0, ρ⟩ (fun r => ∀ c : Dev nD,
      (r.2.mem ((c.tc : Thread nD τ).loc main_v1) : S8704x4096.Idx → EReal)
        = prodOf (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨by
    refine (h c).1.trans ((final m c).trans ?_)
    unfold result
    rw [V_weights, V_main_arg0, V_main_arg1], (h c).2⟩) (Cert.MixIdeal.Value.run_blocks (F := Ideal) m ρ)

end Cert.MixIdeal.Product

namespace Cert.MixRefIdeal.Product

open Cert.MixRefIdeal Cert.MixRefIdeal.Gen Cert.MixRefIdeal.Read

/-- The joined rows, on the first half and on the second. -/
theorem joined_left (x0 x1 : S8704x2048.Idx → EReal) (r : Fin 8704) (k : Fin 2048) :
    val_main_v0 (F := Ideal) x0 x1 (ix2 r (Fin.castAdd 2048 k : Fin 4096)) = x0 (ix2 r k) :=
  concatenate_pair_apply_left (t := S8704x4096) 1 x0 x1 _ _ rfl (ix2 r k) (fun a => by match a with | ⟨0, _⟩ => rfl | ⟨1, _⟩ => rfl)
theorem joined_right (x0 x1 : S8704x2048.Idx → EReal) (r : Fin 8704) (k : Fin 2048) :
    val_main_v0 (F := Ideal) x0 x1 (ix2 r (Fin.natAdd 2048 k : Fin 4096)) = x1 (ix2 r k) :=
  concatenate_pair_apply_right (t := S8704x4096) 1 x0 x1 _ _ rfl rfl (ix2 r k) (fun a h => by match a with | ⟨0, _⟩ => rfl | ⟨1, _⟩ => exact absurd rfl h)
    (by show k.val + 2048 = 2048 + k.val; omega)

/-- The reference's result, entry by entry. -/
theorem result (x0 x1 : S8704x2048.Idx → EReal) (x2 : S4096x4096.Idx → EReal) :
    val_main_v2 (F := Ideal) x0 x1 x2 = Cert.MixIdeal.Product.prodOf x0 x1 x2 := by
  funext i
  rw [val_main_v2_apply]
  have hs : ∀ k : Fin 4096, (val_main_v1 (F := Ideal) x0 x1 (lidx_main_v2 i k) * x2 (ridx_main_v2 i k) : EReal)
      = val_main_v0 (F := Ideal) x0 x1 (ix2 (i 0) k) * x2 (ix2 k (i 1)) := by
    intro k
    have hl : lidx_main_v2 i k = ix2 (i 0) k := by funext a; match a with | ⟨0, _⟩ => rfl | ⟨1, _⟩ => rfl
    have hr : ridx_main_v2 i k = ix2 k (i 1) := by funext a; match a with | ⟨0, _⟩ => rfl | ⟨1, _⟩ => rfl
    rw [hl, hr]
    rfl
  refine (Finset.sum_congr rfl fun k _ => hs k).trans ?_
  refine (Fin.sum_univ_add (a := 2048) (b := 2048) fun k : Fin 4096 => (val_main_v0 (F := Ideal) x0 x1 (ix2 (i 0) k) * x2 (ix2 k (i 1)) : EReal)).trans ?_
  unfold Cert.MixIdeal.Product.prodOf
  refine congrArg₂ (fun a b : EReal => a + b) (Finset.sum_congr rfl fun k _ => ?_) (Finset.sum_congr rfl fun k _ => ?_)
  · exact congrArg (fun a : EReal => a * x2 (ix2 (Fin.castAdd 2048 k : Fin 4096) (i 1))) (joined_left x0 x1 (i 0) k)
  · exact congrArg (fun a : EReal => a * x2 (ix2 (Fin.natAdd 2048 k : Fin 4096) (i 1))) (joined_right x0 x1 (i 0) k)

/-- Every run of the reference ends with the sum of the halves' products. -/
theorem value (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      (r.2.mem ((c.tc : Thread nD τ).loc main_v2) : S8704x4096.Idx → EReal)
        = Cert.MixIdeal.Product.prodOf (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans ((val_main_v2_eq (F := Ideal) _ _ _).trans (result _ _ _)), (h c).2⟩) (Cert.MixRefIdeal.Value.run (F := Ideal) m ρ)

/-- The frame of the reference: it ends, the arguments unchanged, the counters at zero. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => (h c).2, sem_eq_zero_of_no_sems (by decide) r.2⟩) (Cert.MixRefIdeal.Value.run (F := Ideal) m ρ)

end Cert.MixRefIdeal.Product

end
-- ==== Proof.lean ====
/- The claims about the layer's products, rotation and recurrence: each program ends with its arguments unchanged and its counters at zero, and
   each kernel ends with the arrays of its reference. -/
module

public import proofs.«01_k».proof.Defs
public import proofs.«01_k».proof.Proof.Gen.Up
public import proofs.«01_k».proof.Proof.Gen.Up.Skeleton
public import proofs.«01_k».proof.Proof.Gen.Up.Flash.Runs
public import proofs.«01_k».proof.Proof.Gen.Up.Launch
public import proofs.«01_k».proof.Proof.Gen.UpIdeal
public import proofs.«01_k».proof.Proof.Gen.UpIdeal.Skeleton
public import proofs.«01_k».proof.Proof.Gen.UpIdeal.Flash.Runs
public import proofs.«01_k».proof.Proof.Gen.UpIdeal.Launch
public import proofs.«01_k».proof.Proof.Gen.UpRefIdeal
public import proofs.«01_k».proof.Proof.Gen.UpRefIdeal.Run
public import proofs.«01_k».proof.Proof.Gen.UpRefIdeal.Read
public import proofs.«01_k».proof.Proof.Gen.Down
public import proofs.«01_k».proof.Proof.Gen.Down.Skeleton
public import proofs.«01_k».proof.Proof.Gen.Down.Flash.Runs
public import proofs.«01_k».proof.Proof.Gen.Down.Launch
public import proofs.«01_k».proof.Proof.Gen.DownIdeal
public import proofs.«01_k».proof.Proof.Gen.DownIdeal.Skeleton
public import proofs.«01_k».proof.Proof.Gen.DownIdeal.Flash.Runs
public import proofs.«01_k».proof.Proof.Gen.DownIdeal.Launch
public import proofs.«01_k».proof.Proof.Gen.DownRefIdeal
public import proofs.«01_k».proof.Proof.Gen.DownRefIdeal.Run
public import proofs.«01_k».proof.Proof.Gen.DownRefIdeal.Read
public import proofs.«01_k».proof.Proof.Gen.Pre_experts_named
public import proofs.«01_k».proof.Proof.Gen.Pre_experts_named_down
public import proofs.«01_k».proof.Proof.Gen.EvenP
public import proofs.«01_k».proof.Proof.Gen.EvenP.Frame
public import proofs.«01_k».proof.Proof.Gen.EvenPIdeal
public import proofs.«01_k».proof.Proof.Gen.EvenPIdeal.Frame
public import proofs.«01_k».proof.Proof.Gen.EvenPRefIdeal
public import proofs.«01_k».proof.Proof.Gen.EvenPRefIdeal.Run
public import proofs.«01_k».proof.Proof.Gen.EvenPRefIdeal.Read
public import proofs.«01_k».proof.Proof.Gen.EvenS
public import proofs.«01_k».proof.Proof.Gen.EvenS.Frame
public import proofs.«01_k».proof.Proof.Gen.EvenSIdeal
public import proofs.«01_k».proof.Proof.Gen.EvenSIdeal.Frame
public import proofs.«01_k».proof.Proof.Gen.EvenSRefIdeal
public import proofs.«01_k».proof.Proof.Gen.EvenSRefIdeal.Run
public import proofs.«01_k».proof.Proof.Gen.EvenSRefIdeal.Read
public import proofs.«01_k».proof.Proof.Gen.OddIn
public import proofs.«01_k».proof.Proof.Gen.OddIn.Frame
public import proofs.«01_k».proof.Proof.Gen.OddInIdeal
public import proofs.«01_k».proof.Proof.Gen.OddInIdeal.Frame
public import proofs.«01_k».proof.Proof.Gen.OddInRefIdeal
public import proofs.«01_k».proof.Proof.Gen.OddInRefIdeal.Run
public import proofs.«01_k».proof.Proof.Gen.OddInRefIdeal.Read
public import proofs.«01_k».proof.Proof.Gen.Rope
public import proofs.«01_k».proof.Proof.Gen.Rope.Frame
public import proofs.«01_k».proof.Proof.Gen.RopeIdeal
public import proofs.«01_k».proof.Proof.Gen.RopeIdeal.Frame
public import proofs.«01_k».proof.Proof.Gen.RopeRefIdeal
public import proofs.«01_k».proof.Proof.Gen.Scan
public import proofs.«01_k».proof.Proof.Gen.Scan.Frame
public import proofs.«01_k».proof.Proof.Gen.ScanIdeal
public import proofs.«01_k».proof.Proof.Gen.ScanIdeal.Frame
public import proofs.«01_k».proof.Proof.Gen.ScanIdeal.Value
public import proofs.«01_k».proof.Proof.Gen.ScanRefIdeal
public import proofs.«01_k».proof.Proof.Gen.ScanRefIdeal.Run
public import proofs.«01_k».proof.Proof.Gen.ScanRefIdeal.Read
public import proofs.«01_k».proof.Proof.Gen.Mix
public import proofs.«01_k».proof.Proof.Gen.Mix.Frame
public import proofs.«01_k».proof.Proof.Gen.MixIdeal
public import proofs.«01_k».proof.Proof.Gen.MixIdeal.Frame
public import proofs.«01_k».proof.Proof.Gen.MixIdeal.Value
public import proofs.«01_k».proof.Proof.Gen.MixRefIdeal
public import proofs.«01_k».proof.Proof.Gen.MixRefIdeal.Run
public import proofs.«01_k».proof.Proof.Gen.MixRefIdeal.Read
public import proofs.«01_k».proof.Proof.UpLaunch
public import proofs.«01_k».proof.Proof.DownLaunch
public import proofs.«01_k».proof.Proof.UpRef
public import proofs.«01_k».proof.Proof.DownRef
public import proofs.«01_k».proof.Proof.Tables
public import proofs.«01_k».proof.Proof.EvenPValue
public import proofs.«01_k».proof.Proof.EvenSValue
public import proofs.«01_k».proof.Proof.OddInValue
public import proofs.«01_k».proof.Proof.RopeIdealValue
public import proofs.«01_k».proof.Proof.RopeRotation
public import proofs.«01_k».proof.Proof.ScanIdealValue
public import proofs.«01_k».proof.Proof.ScanRef
public import proofs.«01_k».proof.Proof.MixValue
public import Idealize.ShloMosaic.Adequacy
public import Idealize.ShloMosaic.Init

@[expose] public section

noncomputable section

namespace Cert.Proof

open Idealize.ShloMosaic Idealize.ShloMosaic.TcCoe Idealize.SL.Sem Cert

/-- The tables a memory of `Up` holds. -/
def tabs_upB (m : (ℓ : Loc Cert.Up.nD Cert.Up.τ Cert.Up.sig) → Buf (Elt Bits) ℓ) (hp : Pre_Up m) : Cert.Up.Moe.Tabs where
  e := m (((0 : Dev Cert.Up.nD).tc : Thread Cert.Up.nD Cert.Up.τ).loc Cert.Up.main_arg0)
  n := m (((0 : Dev Cert.Up.nD).tc : Thread Cert.Up.nD Cert.Up.τ).loc Cert.Up.main_arg1)
  lt := Cert.Tables.up_lt (F := Bits) _ _ _ _ _ (hp 0)

theorem holds_upB (m : (ℓ : Loc Cert.Up.nD Cert.Up.τ Cert.Up.sig) → Buf (Elt Bits) ℓ) (hp : Pre_Up m) : Cert.Up.Moe.Holds (tabs_upB m hp) m := by
  constructor <;> intro c <;> obtain rfl : c = 0 := Subsingleton.elim (α := Fin 1) c 0 <;> rfl

/-- The frame of `Up`. -/
theorem quiescent_upB : quiescent_Up := fun m g hp => Cert.Up.Moe.frame (tabs_upB m hp) m g (holds_upB m hp)

/-- The tables a memory of `UpIdeal` holds. -/
def tabs_upI (m : (ℓ : Loc Cert.UpIdeal.nD Cert.UpIdeal.τ Cert.UpIdeal.sig) → Buf (Elt Ideal) ℓ) (hp : Pre_UpIdeal m) : Cert.UpIdeal.Moe.Tabs where
  e := m (((0 : Dev Cert.UpIdeal.nD).tc : Thread Cert.UpIdeal.nD Cert.UpIdeal.τ).loc Cert.UpIdeal.main_arg0)
  n := m (((0 : Dev Cert.UpIdeal.nD).tc : Thread Cert.UpIdeal.nD Cert.UpIdeal.τ).loc Cert.UpIdeal.main_arg1)
  lt := Cert.Tables.up_lt (F := Ideal) _ _ _ _ _ (hp 0)

theorem holds_upI (m : (ℓ : Loc Cert.UpIdeal.nD Cert.UpIdeal.τ Cert.UpIdeal.sig) → Buf (Elt Ideal) ℓ) (hp : Pre_UpIdeal m) : Cert.UpIdeal.Moe.Holds (tabs_upI m hp) m := by
  constructor <;> intro c <;> obtain rfl : c = 0 := Subsingleton.elim (α := Fin 1) c 0 <;> rfl

/-- The frame of `UpIdeal`. -/
theorem quiescent_upI : quiescent_UpIdeal := fun m g hp => Cert.UpIdeal.Moe.frame (tabs_upI m hp) m g (holds_upI m hp)

/-- `up` and its reference end with the same array. -/
theorem algebraic_up : algebraic_UpIdeal_UpRefIdeal := by
  intro m g m' g' hp ha
  have hT := holds_upI m hp
  have h0 : ∀ c : Dev Cert.UpRefIdeal.nD, m' ((c.tc : Thread Cert.UpRefIdeal.nD Cert.UpRefIdeal.τ).loc Cert.UpRefIdeal.main_arg0) = (tabs_upI m hp).e :=
    fun c => (ha c).1.trans (hT.1 c)
  have h1 : ∀ c : Dev Cert.UpRefIdeal.nD, m' ((c.tc : Thread Cert.UpRefIdeal.nD Cert.UpRefIdeal.τ).loc Cert.UpRefIdeal.main_arg1) = (tabs_upI m hp).n :=
    fun c => (ha c).2.1.trans (hT.2 c)
  refine ⟨fun c => Cert.UpIdeal.Moe.result (tabs_upI m hp) m c, Cert.UpIdeal.Moe.value (tabs_upI m hp) m g hT, ?_⟩
  refine (θ_run _ _ _).mono (fun r h c => ⟨(h c).1.trans ?_, (h c).2⟩) (Cert.UpRefIdeal.Moe.value (tabs_upI m hp) m' g' h0 h1)
  rw [(ha c).2.2.1, (ha c).2.2.2.1, (ha c).2.2.2.2]
  rfl

/-- The tables a memory of `Down` holds. -/
def tabs_downB (m : (ℓ : Loc Cert.Down.nD Cert.Down.τ Cert.Down.sig) → Buf (Elt Bits) ℓ) (hp : Pre_Down m) : Cert.Down.Moe.Tabs where
  e := m (((0 : Dev Cert.Down.nD).tc : Thread Cert.Down.nD Cert.Down.τ).loc Cert.Down.main_arg0)
  n := m (((0 : Dev Cert.Down.nD).tc : Thread Cert.Down.nD Cert.Down.τ).loc Cert.Down.main_arg1)
  lt := Cert.Tables.down_lt (F := Bits) _ _ _ _ _ (hp 0)

theorem holds_downB (m : (ℓ : Loc Cert.Down.nD Cert.Down.τ Cert.Down.sig) → Buf (Elt Bits) ℓ) (hp : Pre_Down m) : Cert.Down.Moe.Holds (tabs_downB m hp) m := by
  constructor <;> intro c <;> obtain rfl : c = 0 := Subsingleton.elim (α := Fin 1) c 0 <;> rfl

/-- The frame of `Down`. -/
theorem quiescent_downB : quiescent_Down := fun m g hp => Cert.Down.Moe.frame (tabs_downB m hp) m g (holds_downB m hp)

/-- The tables a memory of `DownIdeal` holds. -/
def tabs_downI (m : (ℓ : Loc Cert.DownIdeal.nD Cert.DownIdeal.τ Cert.DownIdeal.sig) → Buf (Elt Ideal) ℓ) (hp : Pre_DownIdeal m) : Cert.DownIdeal.Moe.Tabs where
  e := m (((0 : Dev Cert.DownIdeal.nD).tc : Thread Cert.DownIdeal.nD Cert.DownIdeal.τ).loc Cert.DownIdeal.main_arg0)
  n := m (((0 : Dev Cert.DownIdeal.nD).tc : Thread Cert.DownIdeal.nD Cert.DownIdeal.τ).loc Cert.DownIdeal.main_arg1)
  lt := Cert.Tables.down_lt (F := Ideal) _ _ _ _ _ (hp 0)

theorem holds_downI (m : (ℓ : Loc Cert.DownIdeal.nD Cert.DownIdeal.τ Cert.DownIdeal.sig) → Buf (Elt Ideal) ℓ) (hp : Pre_DownIdeal m) : Cert.DownIdeal.Moe.Holds (tabs_downI m hp) m := by
  constructor <;> intro c <;> obtain rfl : c = 0 := Subsingleton.elim (α := Fin 1) c 0 <;> rfl

/-- The frame of `DownIdeal`. -/
theorem quiescent_downI : quiescent_DownIdeal := fun m g hp => Cert.DownIdeal.Moe.frame (tabs_downI m hp) m g (holds_downI m hp)

/-- `down` and its reference end with the same array. -/
theorem algebraic_down : algebraic_DownIdeal_DownRefIdeal := by
  intro m g m' g' hp ha
  have hT := holds_downI m hp
  have h0 : ∀ c : Dev Cert.DownRefIdeal.nD, m' ((c.tc : Thread Cert.DownRefIdeal.nD Cert.DownRefIdeal.τ).loc Cert.DownRefIdeal.main_arg0) = (tabs_downI m hp).e :=
    fun c => (ha c).1.trans (hT.1 c)
  have h1 : ∀ c : Dev Cert.DownRefIdeal.nD, m' ((c.tc : Thread Cert.DownRefIdeal.nD Cert.DownRefIdeal.τ).loc Cert.DownRefIdeal.main_arg1) = (tabs_downI m hp).n :=
    fun c => (ha c).2.1.trans (hT.2 c)
  refine ⟨fun c => Cert.DownIdeal.Moe.result (tabs_downI m hp) m c, Cert.DownIdeal.Moe.value (tabs_downI m hp) m g hT, ?_⟩
  refine (θ_run _ _ _).mono (fun r h c => ⟨(h c).1.trans ?_, (h c).2⟩) (Cert.DownRefIdeal.Moe.value (tabs_downI m hp) m' g' h0 h1)
  rw [(ha c).2.2.1, (ha c).2.2.2.1, (ha c).2.2.2.2]
  rfl

/-- `Mix` and its reference end with the same array. -/
theorem algebraic_mix : algebraic_MixIdeal_MixRefIdeal := by
  intro m g m' g' _ ha
  refine ⟨fun c => Cert.MixIdeal.Product.prodOf (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)), Cert.MixIdeal.Product.value m g, ?_⟩
  refine (θ_run _ _ _).mono (fun r h c => ⟨(h c).1.trans ?_, (h c).2⟩) (Cert.MixRefIdeal.Product.value m' g')
  rw [(ha c).1, (ha c).2.1, (ha c).2.2]

/-- `OddIn` and its reference end with the same arrays. -/
theorem algebraic_oddIn : algebraic_OddInIdeal_OddInRefIdeal := by
  intro m g m' g' _ ha
  refine ⟨fun c => Cert.OddInRefIdeal.Product.out0 (Cert.OddInIdeal.Product.prodAt m c),
    fun c => Cert.OddInRefIdeal.Product.out1 (Cert.OddInIdeal.Product.prodAt m c),
    fun c => Cert.OddInRefIdeal.Product.out2 (Cert.OddInIdeal.Product.prodAt m c),
    fun c => Cert.OddInRefIdeal.Product.out3 (Cert.OddInIdeal.Product.prodAt m c),
    fun c => Cert.OddInRefIdeal.Product.out4 (Cert.OddInIdeal.Product.prodAt m c),
    fun c => Cert.OddInRefIdeal.Product.out5 (Cert.OddInIdeal.Product.prodAt m c),
    fun c => Cert.OddInRefIdeal.Product.out6 (Cert.OddInIdeal.Product.prodAt m c),
    fun c => Cert.OddInRefIdeal.Product.out7 (Cert.OddInIdeal.Product.prodAt m c),
    fun c => Cert.OddInRefIdeal.Product.out8 (Cert.OddInIdeal.Product.prodAt m c),
    fun c => Cert.OddInRefIdeal.Product.out9 (Cert.OddInIdeal.Product.prodAt m c),
    fun c => Cert.OddInRefIdeal.Product.out10 (Cert.OddInIdeal.Product.prodAt m c),
    fun c => Cert.OddInRefIdeal.Product.out11 (Cert.OddInIdeal.Product.prodAt m c),
    fun c => Cert.OddInRefIdeal.Product.out12 (Cert.OddInIdeal.Product.prodAt m c),
    fun c => Cert.OddInRefIdeal.Product.out13 (Cert.OddInIdeal.Product.prodAt m c),
    Cert.OddInIdeal.Product.value m g, Cert.OddInRefIdeal.Product.value m' g' (fun c => Cert.OddInIdeal.Product.prodAt m c) fun c => ?_⟩
  show Cert.OddInRefIdeal.Product.prodW _ _ = _
  rw [(ha c).1, (ha c).2]

/-- `EvenP` and its reference end with the same arrays. -/
theorem algebraic_evenP : algebraic_EvenPIdeal_EvenPRefIdeal := by
  intro m g m' g' _ ha
  refine ⟨fun c => Cert.EvenPIdeal.Product.projAt m c,
    fun c => Cert.EvenPIdeal.Product.heads (Cert.EvenPIdeal.Product.projAt m c) 2048 Cert.EvenPIdeal.Gen.slices_S1x8192x12288_S1x8192x2048_0_0_2048,
    fun c => Cert.EvenPIdeal.Product.heads (Cert.EvenPIdeal.Product.projAt m c) 4096 Cert.EvenPIdeal.Gen.slices_S1x8192x12288_S1x8192x2048_0_0_4096,
    fun c => Cert.EvenPIdeal.Product.lastHeads (Cert.EvenPIdeal.Product.projAt m c) 8192 Cert.EvenPIdeal.Gen.slices_S1x8192x12288_S1x8192x2048_0_0_8192,
    fun c => Cert.EvenPIdeal.Product.lastHeads (Cert.EvenPIdeal.Product.projAt m c) 10240 Cert.EvenPIdeal.Gen.slices_S1x8192x12288_S1x8192x2048_0_0_10240,
    Cert.EvenPIdeal.Product.value m g, Cert.EvenPRefIdeal.Product.value m' g' (fun c => Cert.EvenPIdeal.Product.projAt m c) fun c => ?_⟩
  show Cert.EvenPIdeal.Product.proj _ _ = _
  rw [(ha c).1, (ha c).2]

/-- `EvenS` and its reference end with the same arrays. -/
theorem algebraic_evenS : algebraic_EvenSIdeal_EvenSRefIdeal := by
  intro m g m' g' _ ha
  refine ⟨fun c => Cert.EvenSIdeal.Product.projAt m c,
    fun c => Cert.EvenSIdeal.Product.heads (Cert.EvenSIdeal.Product.projAt m c) 2048 Cert.EvenSIdeal.Gen.slices_S16x32x12288_S16x32x2048_0_0_2048,
    fun c => Cert.EvenSIdeal.Product.heads (Cert.EvenSIdeal.Product.projAt m c) 4096 Cert.EvenSIdeal.Gen.slices_S16x32x12288_S16x32x2048_0_0_4096,
    fun c => Cert.EvenSIdeal.Product.heads (Cert.EvenSIdeal.Product.projAt m c) 8192 Cert.EvenSIdeal.Gen.slices_S16x32x12288_S16x32x2048_0_0_8192,
    fun c => Cert.EvenSIdeal.Product.heads (Cert.EvenSIdeal.Product.projAt m c) 10240 Cert.EvenSIdeal.Gen.slices_S16x32x12288_S16x32x2048_0_0_10240,
    Cert.EvenSIdeal.Product.value m g, Cert.EvenSRefIdeal.Product.value m' g' (fun c => Cert.EvenSIdeal.Product.projAt m c) fun c => ?_⟩
  show Cert.EvenSIdeal.Product.proj _ _ = _
  rw [(ha c).1, (ha c).2]

/-- `Rope` and its reference end with the same arrays. -/
theorem algebraic_rope : algebraic_RopeIdeal_RopeRefIdeal := by
  intro m g m' g' _ ha
  refine ⟨fun c => Cert.RopeRefIdeal.Rotation.out0 (m ((c.tc : Thread Cert.RopeIdeal.nD Cert.RopeIdeal.τ).loc Cert.RopeIdeal.main_arg0)),
    fun c => Cert.RopeRefIdeal.Rotation.out1 (m ((c.tc : Thread Cert.RopeIdeal.nD Cert.RopeIdeal.τ).loc Cert.RopeIdeal.main_arg0)),
    fun c => Cert.RopeRefIdeal.Rotation.out2 (m ((c.tc : Thread Cert.RopeIdeal.nD Cert.RopeIdeal.τ).loc Cert.RopeIdeal.main_arg0)),
    fun c => Cert.RopeRefIdeal.Rotation.out3 (m ((c.tc : Thread Cert.RopeIdeal.nD Cert.RopeIdeal.τ).loc Cert.RopeIdeal.main_arg0)),
    Cert.RopeIdeal.Rotation.value m g, ?_⟩
  refine (θ_run _ _ _).mono (fun r h c => ?_) (Cert.RopeRefIdeal.Rotation.value m' g')
  obtain ⟨h0, h1, h2, h3, h4⟩ := h c
  rw [ha c] at h0 h1 h2 h3
  exact ⟨h0, h1, h2, h3, h4⟩

/-- `Scan` and its reference end with the same rows and the same states. -/
theorem algebraic_scan : algebraic_ScanIdeal_ScanRefIdeal := by
  intro m g m' g' _ ha
  refine ⟨fun c => Cert.Delta.rowsOf (m ((c.tc : Thread Cert.ScanIdeal.nD Cert.ScanIdeal.τ).loc Cert.ScanIdeal.main_arg0)) (m ((c.tc : Thread Cert.ScanIdeal.nD Cert.ScanIdeal.τ).loc Cert.ScanIdeal.main_arg1)) (m ((c.tc : Thread Cert.ScanIdeal.nD Cert.ScanIdeal.τ).loc Cert.ScanIdeal.main_arg2)) (m ((c.tc : Thread Cert.ScanIdeal.nD Cert.ScanIdeal.τ).loc Cert.ScanIdeal.main_arg3)) (m ((c.tc : Thread Cert.ScanIdeal.nD Cert.ScanIdeal.τ).loc Cert.ScanIdeal.main_arg5)) (m ((c.tc : Thread Cert.ScanIdeal.nD Cert.ScanIdeal.τ).loc Cert.ScanIdeal.main_arg7)) (m ((c.tc : Thread Cert.ScanIdeal.nD Cert.ScanIdeal.τ).loc Cert.ScanIdeal.main_arg8)),
    fun c => Cert.Delta.stateOf (m ((c.tc : Thread Cert.ScanIdeal.nD Cert.ScanIdeal.τ).loc Cert.ScanIdeal.main_arg0)) (m ((c.tc : Thread Cert.ScanIdeal.nD Cert.ScanIdeal.τ).loc Cert.ScanIdeal.main_arg1)) (m ((c.tc : Thread Cert.ScanIdeal.nD Cert.ScanIdeal.τ).loc Cert.ScanIdeal.main_arg2)) (m ((c.tc : Thread Cert.ScanIdeal.nD Cert.ScanIdeal.τ).loc Cert.ScanIdeal.main_arg4)) (m ((c.tc : Thread Cert.ScanIdeal.nD Cert.ScanIdeal.τ).loc Cert.ScanIdeal.main_arg6)),
    Cert.ScanIdeal.Arrays.value m g, ?_⟩
  refine (θ_run _ _ _).mono (fun r h c => ?_) (Cert.ScanRefIdeal.Delta.value m' g')
  obtain ⟨a0, a1, a2, a3, a4, a5, a6, a7, a8⟩ := ha c
  obtain ⟨h0, h1, hr⟩ := h c
  rw [a0, a1, a2, a3, a5, a7, a8] at h0
  rw [a0, a1, a2, a4, a6] at h1
  exact ⟨h0, h1, hr⟩

theorem claim : Cert.Claim := ⟨Cert.Up.Gen.facts, Cert.UpIdeal.Gen.facts, Cert.UpRefIdeal.Gen.facts, Cert.Down.Gen.facts, Cert.DownIdeal.Gen.facts, Cert.DownRefIdeal.Gen.facts, Cert.EvenP.Gen.facts, Cert.EvenPIdeal.Gen.facts, Cert.EvenPRefIdeal.Gen.facts, Cert.EvenS.Gen.facts, Cert.EvenSIdeal.Gen.facts, Cert.EvenSRefIdeal.Gen.facts, Cert.OddIn.Gen.facts, Cert.OddInIdeal.Gen.facts, Cert.OddInRefIdeal.Gen.facts, Cert.Rope.Gen.facts, Cert.RopeIdeal.Gen.facts, Cert.RopeRefIdeal.Gen.facts, Cert.Scan.Gen.facts, Cert.ScanIdeal.Gen.facts, Cert.ScanRefIdeal.Gen.facts, Cert.Mix.Gen.facts, Cert.MixIdeal.Gen.facts, Cert.MixRefIdeal.Gen.facts, Cert.Pre_experts_named.Gen.facts, Cert.Pre_experts_named_down.Gen.facts,
  quiescent_upB, quiescent_upI, fun m g _ => Cert.UpRefIdeal.Moe.frame m g,
  quiescent_downB, quiescent_downI, fun m g _ => Cert.DownRefIdeal.Moe.frame m g,
  fun m g _ => Cert.EvenP.Gen.frame m g, fun m g _ => Cert.EvenPIdeal.Gen.frame m g, fun m g _ => Cert.EvenPRefIdeal.Product.frame m g,
  fun m g _ => Cert.EvenS.Gen.frame m g, fun m g _ => Cert.EvenSIdeal.Gen.frame m g, fun m g _ => Cert.EvenSRefIdeal.Product.frame m g,
  fun m g _ => Cert.OddIn.Gen.frame m g, fun m g _ => Cert.OddInIdeal.Gen.frame m g, fun m g _ => Cert.OddInRefIdeal.Product.frame m g,
  fun m g _ => Cert.Rope.Gen.frame m g, fun m g _ => Cert.RopeIdeal.Gen.frame m g, fun m g _ => Cert.RopeRefIdeal.Rotation.frame m g,
  fun m g _ => Cert.Scan.Gen.frame m g, fun m g _ => Cert.ScanIdeal.Gen.frame m g, fun m g _ => Cert.ScanRefIdeal.Delta.frame m g,
  fun m g _ => Cert.Mix.Gen.frame m g, fun m g _ => Cert.MixIdeal.Gen.frame m g, fun m g _ => Cert.MixRefIdeal.Product.frame m g,
  trivial, algebraic_up, trivial, algebraic_down,
  trivial, algebraic_evenP, trivial, algebraic_evenS, trivial, algebraic_oddIn, trivial, algebraic_rope, trivial, algebraic_scan, trivial, algebraic_mix⟩

end Cert.Proof

end
